-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dx_finite [hPre_dx_finite : Cert.Pre_dx_finite.Facts] (m : (ℓ : Loc Cert.DxIdeal.nD Cert.DxIdeal.τ Cert.DxIdeal.sig) → Buf (Elt Ideal) ℓ) : Prop :=
  ∀ c : Dev Cert.DxIdeal.nD,
    (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.2.1 = (fun _ => 1#1)
    ∧ (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dx_finite [hPre_dx_finite : Cert.Pre_dx_finite.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.2.1 = (fun _ => 1#1)
    ∧ (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.2.2 = (fun _ => 1#1)

def Pre_FGate (m : (ℓ : Loc Cert.FGate.nD Cert.FGate.τ Cert.FGate.sig) → Buf (Elt Bits) ℓ) : Prop :=
  True

def Pre_FGateIdeal (m : (ℓ : Loc Cert.FGateIdeal.nD Cert.FGateIdeal.τ Cert.FGateIdeal.sig) → Buf (Elt Ideal) ℓ) : Prop :=
  True

def Pre_FGateRefIdeal (m : (ℓ : Loc Cert.FGateRefIdeal.nD Cert.FGateRefIdeal.τ Cert.FGateRefIdeal.sig) → Buf (Elt Ideal) ℓ) : Prop :=
  True

def Pre_RSum (m : (ℓ : Loc Cert.RSum.nD Cert.RSum.τ Cert.RSum.sig) → Buf (Elt Bits) ℓ) : Prop :=
  True

def Pre_RSumIdeal (m : (ℓ : Loc Cert.RSumIdeal.nD Cert.RSumIdeal.τ Cert.RSumIdeal.sig) → Buf (Elt Ideal) ℓ) : Prop :=
  True

def Pre_RSumRefIdeal (m : (ℓ : Loc Cert.RSumRefIdeal.nD Cert.RSumRefIdeal.τ Cert.RSumRefIdeal.sig) → Buf (Elt Ideal) ℓ) : Prop :=
  True

def Pre_CSum (m : (ℓ : Loc Cert.CSum.nD Cert.CSum.τ Cert.CSum.sig) → Buf (Elt Bits) ℓ) : Prop :=
  True

def Pre_CSumIdeal (m : (ℓ : Loc Cert.CSumIdeal.nD Cert.CSumIdeal.τ Cert.CSumIdeal.sig) → Buf (Elt Ideal) ℓ) : Prop :=
  True

def Pre_CSumRefIdeal (m : (ℓ : Loc Cert.CSumRefIdeal.nD Cert.CSumRefIdeal.τ Cert.CSumRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxIdeal_kvdx_finite [hPre_kvdx_finite : Cert.Pre_kvdx_finite.Facts] (m : (ℓ : Loc Cert.KvDxIdeal.nD Cert.KvDxIdeal.τ Cert.KvDxIdeal.sig) → Buf (Elt Ideal) ℓ) : Prop :=
  ∀ c : Dev Cert.KvDxIdeal.nD,
    (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.2.1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.2.2.1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.2.2.2.1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.2.2.2.2.1 = (fun _ => 1#1)
    ∧ (Cert.Pre_kvdx_finite.fn (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)) (m ((c.tc : Thread Cert.KvDxIdeal.nD Cert.KvDxIdeal.τ).loc Cert.KvDxIdeal.main_arg3)) (m ((c.tc : Thread Cert.KvDxIdeal.nD Cert.KvDxIdeal.τ).loc Cert.KvDxIdeal.main_arg4)) (m ((c.tc : Thread Cert.KvDxIdeal.nD Cert.KvDxIdeal.τ).loc Cert.KvDxIdeal.main_arg5)) (m ((c.tc : Thread Cert.KvDxIdeal.nD Cert.KvDxIdeal.τ).loc Cert.KvDxIdeal.main_arg6))).2.2.2.2.2.2 = (fun _ => 1#1)

def Pre_KvDxRefIdeal (m : (ℓ : Loc Cert.KvDxRefIdeal.nD Cert.KvDxRefIdeal.τ Cert.KvDxRefIdeal.sig) → Buf (Elt Ideal) ℓ) : Prop :=
  True

def Pre_KvDxRefIdeal_kvdx_finite [hPre_kvdx_finite : Cert.Pre_kvdx_finite.Facts] (m : (ℓ : Loc Cert.KvDxRefIdeal.nD Cert.KvDxRefIdeal.τ Cert.KvDxRefIdeal.sig) → Buf (Elt Ideal) ℓ) : Prop :=
  ∀ c : Dev Cert.KvDxRefIdeal.nD,
    (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.2.1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.2.2.1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.2.2.2.1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.2.2.2.2.1 = (fun _ => 1#1)
    ∧ (Cert.Pre_kvdx_finite.fn (F := Ideal) (m ((c.tc : Thread Cert.KvDxRefIdeal.nD Cert.KvDxRefIdeal.τ).loc Cert.KvDxRefIdeal.main_arg0)) (m ((c.tc : Thread Cert.KvDxRefIdeal.nD Cert.KvDxRefIdeal.τ).loc Cert.KvDxRefIdeal.main_arg1)) (m ((c.tc : Thread Cert.KvDxRefIdeal.nD Cert.KvDxRefIdeal.τ).loc Cert.KvDxRefIdeal.main_arg2)) (m ((c.tc : Thread Cert.KvDxRefIdeal.nD Cert.KvDxRefIdeal.τ).loc Cert.KvDxRefIdeal.main_arg3)) (m ((c.tc : Thread Cert.KvDxRefIdeal.nD Cert.KvDxRefIdeal.τ).loc Cert.KvDxRefIdeal.main_arg4)) (m ((c.tc : Thread Cert.KvDxRefIdeal.nD Cert.KvDxRefIdeal.τ).loc Cert.KvDxRefIdeal.main_arg5)) (m ((c.tc : Thread Cert.KvDxRefIdeal.nD Cert.KvDxRefIdeal.τ).loc Cert.KvDxRefIdeal.main_arg6))).2.2.2.2.2.2 = (fun _ => 1#1)

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxIdeal_qdx_finite [hPre_qdx_finite : Cert.Pre_qdx_finite.Facts] (m : (ℓ : Loc Cert.QDxIdeal.nD Cert.QDxIdeal.τ Cert.QDxIdeal.sig) → Buf (Elt Ideal) ℓ) : Prop :=
  ∀ c : Dev Cert.QDxIdeal.nD,
    (Cert.Pre_qdx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).1 = (fun _ => 1#1)
    ∧ (Cert.Pre_qdx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.1 = (fun _ => 1#1)
    ∧ (Cert.Pre_qdx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.2.1 = (fun _ => 1#1)
    ∧ (Cert.Pre_qdx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.2.2.1 = (fun _ => 1#1)
    ∧ (Cert.Pre_qdx_finite.fn (F := Ideal) (m ((c.tc : Thread Cert.QDxIdeal.nD Cert.QDxIdeal.τ).loc Cert.QDxIdeal.main_arg0)) (m ((c.tc : Thread Cert.QDxIdeal.nD Cert.QDxIdeal.τ).loc Cert.QDxIdeal.main_arg1)) (m ((c.tc : Thread Cert.QDxIdeal.nD Cert.QDxIdeal.τ).loc Cert.QDxIdeal.main_arg2)) (m ((c.tc : Thread Cert.QDxIdeal.nD Cert.QDxIdeal.τ).loc Cert.QDxIdeal.main_arg3)) (m ((c.tc : Thread Cert.QDxIdeal.nD Cert.QDxIdeal.τ).loc Cert.QDxIdeal.main_arg4))).2.2.2.2 = (fun _ => 1#1)

def Pre_QDxRefIdeal (m : (ℓ : Loc Cert.QDxRefIdeal.nD Cert.QDxRefIdeal.τ Cert.QDxRefIdeal.sig) → Buf (Elt Ideal) ℓ) : Prop :=
  True

def Pre_QDxRefIdeal_qdx_finite [hPre_qdx_finite : Cert.Pre_qdx_finite.Facts] (m : (ℓ : Loc Cert.QDxRefIdeal.nD Cert.QDxRefIdeal.τ Cert.QDxRefIdeal.sig) → Buf (Elt Ideal) ℓ) : Prop :=
  ∀ c : Dev Cert.QDxRefIdeal.nD,
    (Cert.Pre_qdx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))).1 = (fun _ => 1#1)
    ∧ (Cert.Pre_qdx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))).2.1 = (fun _ => 1#1)
    ∧ (Cert.Pre_qdx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))).2.2.1 = (fun _ => 1#1)
    ∧ (Cert.Pre_qdx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))).2.2.2.1 = (fun _ => 1#1)
    ∧ (Cert.Pre_qdx_finite.fn (F := Ideal) (m ((c.tc : Thread Cert.QDxRefIdeal.nD Cert.QDxRefIdeal.τ).loc Cert.QDxRefIdeal.main_arg0)) (m ((c.tc : Thread Cert.QDxRefIdeal.nD Cert.QDxRefIdeal.τ).loc Cert.QDxRefIdeal.main_arg1)) (m ((c.tc : Thread Cert.QDxRefIdeal.nD Cert.QDxRefIdeal.τ).loc Cert.QDxRefIdeal.main_arg2)) (m ((c.tc : Thread Cert.QDxRefIdeal.nD Cert.QDxRefIdeal.τ).loc Cert.QDxRefIdeal.main_arg3)) (m ((c.tc : Thread Cert.QDxRefIdeal.nD Cert.QDxRefIdeal.τ).loc Cert.QDxRefIdeal.main_arg4))).2.2.2.2 = (fun _ => 1#1)

def Pre_CDx (m : (ℓ : Loc Cert.CDx.nD Cert.CDx.τ Cert.CDx.sig) → Buf (Elt Bits) ℓ) : Prop :=
  True

def Pre_CDxIdeal (m : (ℓ : Loc Cert.CDxIdeal.nD Cert.CDxIdeal.τ Cert.CDxIdeal.sig) → Buf (Elt Ideal) ℓ) : Prop :=
  True

def Pre_CDxIdeal_cdx_finite [hPre_cdx_finite : Cert.Pre_cdx_finite.Facts] (m : (ℓ : Loc Cert.CDxIdeal.nD Cert.CDxIdeal.τ Cert.CDxIdeal.sig) → Buf (Elt Ideal) ℓ) : Prop :=
  ∀ c : Dev Cert.CDxIdeal.nD,
    (Cert.Pre_cdx_finite.fn (F := Ideal) (m ((c.tc : Thread Cert.CDxIdeal.nD Cert.CDxIdeal.τ).loc Cert.CDxIdeal.main_arg0)) (m ((c.tc : Thread Cert.CDxIdeal.nD Cert.CDxIdeal.τ).loc Cert.CDxIdeal.main_arg1)) (m ((c.tc : Thread Cert.CDxIdeal.nD Cert.CDxIdeal.τ).loc Cert.CDxIdeal.main_arg2)) (m ((c.tc : Thread Cert.CDxIdeal.nD Cert.CDxIdeal.τ).loc Cert.CDxIdeal.main_arg3)) (m ((c.tc : Thread Cert.CDxIdeal.nD Cert.CDxIdeal.τ).loc Cert.CDxIdeal.main_arg4))).1 = (fun _ => 1#1)
    ∧ (Cert.Pre_cdx_finite.fn (F := Ideal) (m ((c.tc : Thread Cert.CDxIdeal.nD Cert.CDxIdeal.τ).loc Cert.CDxIdeal.main_arg0)) (m ((c.tc : Thread Cert.CDxIdeal.nD Cert.CDxIdeal.τ).loc Cert.CDxIdeal.main_arg1)) (m ((c.tc : Thread Cert.CDxIdeal.nD Cert.CDxIdeal.τ).loc Cert.CDxIdeal.main_arg2)) (m ((c.tc : Thread Cert.CDxIdeal.nD Cert.CDxIdeal.τ).loc Cert.CDxIdeal.main_arg3)) (m ((c.tc : Thread Cert.CDxIdeal.nD Cert.CDxIdeal.τ).loc Cert.CDxIdeal.main_arg4))).2.1 = (fun _ => 1#1)
    ∧ (Cert.Pre_cdx_finite.fn (F := Ideal) (m ((c.tc : Thread Cert.CDxIdeal.nD Cert.CDxIdeal.τ).loc Cert.CDxIdeal.main_arg0)) (m ((c.tc : Thread Cert.CDxIdeal.nD Cert.CDxIdeal.τ).loc Cert.CDxIdeal.main_arg1)) (m ((c.tc : Thread Cert.CDxIdeal.nD Cert.CDxIdeal.τ).loc Cert.CDxIdeal.main_arg2)) (m ((c.tc : Thread Cert.CDxIdeal.nD Cert.CDxIdeal.τ).loc Cert.CDxIdeal.main_arg3)) (m ((c.tc : Thread Cert.CDxIdeal.nD Cert.CDxIdeal.τ).loc Cert.CDxIdeal.main_arg4))).2.2.1 = (fun _ => 1#1)
    ∧ (Cert.Pre_cdx_finite.fn (F := Ideal) (m ((c.tc : Thread Cert.CDxIdeal.nD Cert.CDxIdeal.τ).loc Cert.CDxIdeal.main_arg0)) (m ((c.tc : Thread Cert.CDxIdeal.nD Cert.CDxIdeal.τ).loc Cert.CDxIdeal.main_arg1)) (m ((c.tc : Thread Cert.CDxIdeal.nD Cert.CDxIdeal.τ).loc Cert.CDxIdeal.main_arg2)) (m ((c.tc : Thread Cert.CDxIdeal.nD Cert.CDxIdeal.τ).loc Cert.CDxIdeal.main_arg3)) (m ((c.tc : Thread Cert.CDxIdeal.nD Cert.CDxIdeal.τ).loc Cert.CDxIdeal.main_arg4))).2.2.2.1 = (fun _ => 1#1)
    ∧ (Cert.Pre_cdx_finite.fn (F := Ideal) (m ((c.tc : Thread Cert.CDxIdeal.nD Cert.CDxIdeal.τ).loc Cert.CDxIdeal.main_arg0)) (m ((c.tc : Thread Cert.CDxIdeal.nD Cert.CDxIdeal.τ).loc Cert.CDxIdeal.main_arg1)) (m ((c.tc : Thread Cert.CDxIdeal.nD Cert.CDxIdeal.τ).loc Cert.CDxIdeal.main_arg2)) (m ((c.tc : Thread Cert.CDxIdeal.nD Cert.CDxIdeal.τ).loc Cert.CDxIdeal.main_arg3)) (m ((c.tc : Thread Cert.CDxIdeal.nD Cert.CDxIdeal.τ).loc Cert.CDxIdeal.main_arg4))).2.2.2.2 = (fun _ => 1#1)

def Pre_CDxRefIdeal (m : (ℓ : Loc Cert.CDxRefIdeal.nD Cert.CDxRefIdeal.τ Cert.CDxRefIdeal.sig) → Buf (Elt Ideal) ℓ) : Prop :=
  True

def Pre_CDxRefIdeal_cdx_finite [hPre_cdx_finite : Cert.Pre_cdx_finite.Facts] (m : (ℓ : Loc Cert.CDxRefIdeal.nD Cert.CDxRefIdeal.τ Cert.CDxRefIdeal.sig) → Buf (Elt Ideal) ℓ) : Prop :=
  ∀ c : Dev Cert.CDxRefIdeal.nD,
    (Cert.Pre_cdx_finite.fn (F := Ideal) (m ((c.tc : Thread Cert.CDxRefIdeal.nD Cert.CDxRefIdeal.τ).loc Cert.CDxRefIdeal.main_arg0)) (m ((c.tc : Thread Cert.CDxRefIdeal.nD Cert.CDxRefIdeal.τ).loc Cert.CDxRefIdeal.main_arg1)) (m ((c.tc : Thread Cert.CDxRefIdeal.nD Cert.CDxRefIdeal.τ).loc Cert.CDxRefIdeal.main_arg2)) (m ((c.tc : Thread Cert.CDxRefIdeal.nD Cert.CDxRefIdeal.τ).loc Cert.CDxRefIdeal.main_arg3)) (m ((c.tc : Thread Cert.CDxRefIdeal.nD Cert.CDxRefIdeal.τ).loc Cert.CDxRefIdeal.main_arg4))).1 = (fun _ => 1#1)
    ∧ (Cert.Pre_cdx_finite.fn (F := Ideal) (m ((c.tc : Thread Cert.CDxRefIdeal.nD Cert.CDxRefIdeal.τ).loc Cert.CDxRefIdeal.main_arg0)) (m ((c.tc : Thread Cert.CDxRefIdeal.nD Cert.CDxRefIdeal.τ).loc Cert.CDxRefIdeal.main_arg1)) (m ((c.tc : Thread Cert.CDxRefIdeal.nD Cert.CDxRefIdeal.τ).loc Cert.CDxRefIdeal.main_arg2)) (m ((c.tc : Thread Cert.CDxRefIdeal.nD Cert.CDxRefIdeal.τ).loc Cert.CDxRefIdeal.main_arg3)) (m ((c.tc : Thread Cert.CDxRefIdeal.nD Cert.CDxRefIdeal.τ).loc Cert.CDxRefIdeal.main_arg4))).2.1 = (fun _ => 1#1)
    ∧ (Cert.Pre_cdx_finite.fn (F := Ideal) (m ((c.tc : Thread Cert.CDxRefIdeal.nD Cert.CDxRefIdeal.τ).loc Cert.CDxRefIdeal.main_arg0)) (m ((c.tc : Thread Cert.CDxRefIdeal.nD Cert.CDxRefIdeal.τ).loc Cert.CDxRefIdeal.main_arg1)) (m ((c.tc : Thread Cert.CDxRefIdeal.nD Cert.CDxRefIdeal.τ).loc Cert.CDxRefIdeal.main_arg2)) (m ((c.tc : Thread Cert.CDxRefIdeal.nD Cert.CDxRefIdeal.τ).loc Cert.CDxRefIdeal.main_arg3)) (m ((c.tc : Thread Cert.CDxRefIdeal.nD Cert.CDxRefIdeal.τ).loc Cert.CDxRefIdeal.main_arg4))).2.2.1 = (fun _ => 1#1)
    ∧ (Cert.Pre_cdx_finite.fn (F := Ideal) (m ((c.tc : Thread Cert.CDxRefIdeal.nD Cert.CDxRefIdeal.τ).loc Cert.CDxRefIdeal.main_arg0)) (m ((c.tc : Thread Cert.CDxRefIdeal.nD Cert.CDxRefIdeal.τ).loc Cert.CDxRefIdeal.main_arg1)) (m ((c.tc : Thread Cert.CDxRefIdeal.nD Cert.CDxRefIdeal.τ).loc Cert.CDxRefIdeal.main_arg2)) (m ((c.tc : Thread Cert.CDxRefIdeal.nD Cert.CDxRefIdeal.τ).loc Cert.CDxRefIdeal.main_arg3)) (m ((c.tc : Thread Cert.CDxRefIdeal.nD Cert.CDxRefIdeal.τ).loc Cert.CDxRefIdeal.main_arg4))).2.2.2.1 = (fun _ => 1#1)
    ∧ (Cert.Pre_cdx_finite.fn (F := Ideal) (m ((c.tc : Thread Cert.CDxRefIdeal.nD Cert.CDxRefIdeal.τ).loc Cert.CDxRefIdeal.main_arg0)) (m ((c.tc : Thread Cert.CDxRefIdeal.nD Cert.CDxRefIdeal.τ).loc Cert.CDxRefIdeal.main_arg1)) (m ((c.tc : Thread Cert.CDxRefIdeal.nD Cert.CDxRefIdeal.τ).loc Cert.CDxRefIdeal.main_arg2)) (m ((c.tc : Thread Cert.CDxRefIdeal.nD Cert.CDxRefIdeal.τ).loc Cert.CDxRefIdeal.main_arg3)) (m ((c.tc : Thread Cert.CDxRefIdeal.nD Cert.CDxRefIdeal.τ).loc Cert.CDxRefIdeal.main_arg4))).2.2.2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_SqDx (m : (ℓ : Loc Cert.SqDx.nD Cert.SqDx.τ Cert.SqDx.sig) → Buf (Elt Bits) ℓ) : Prop :=
  True

def Pre_SqDxIdeal (m : (ℓ : Loc Cert.SqDxIdeal.nD Cert.SqDxIdeal.τ Cert.SqDxIdeal.sig) → Buf (Elt Ideal) ℓ) : Prop :=
  True

def Pre_SqDxRefIdeal (m : (ℓ : Loc Cert.SqDxRefIdeal.nD Cert.SqDxRefIdeal.τ Cert.SqDxRefIdeal.sig) → Buf (Elt Ideal) ℓ) : Prop :=
  True

def Pre_SqDw (m : (ℓ : Loc Cert.SqDw.nD Cert.SqDw.τ Cert.SqDw.sig) → Buf (Elt Bits) ℓ) : Prop :=
  True

def Pre_SqDwIdeal (m : (ℓ : Loc Cert.SqDwIdeal.nD Cert.SqDwIdeal.τ Cert.SqDwIdeal.sig) → Buf (Elt Ideal) ℓ) : Prop :=
  True

def Pre_SqDwRefIdeal (m : (ℓ : Loc Cert.SqDwRefIdeal.nD Cert.SqDwRefIdeal.τ Cert.SqDwRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_Dx0RefIdeal (m : (ℓ : Loc Cert.Dx0RefIdeal.nD Cert.Dx0RefIdeal.τ Cert.Dx0RefIdeal.sig) → Buf (Elt Ideal) ℓ) : Prop :=
  True

def Pre_CFwd (m : (ℓ : Loc Cert.CFwd.nD Cert.CFwd.τ Cert.CFwd.sig) → Buf (Elt Bits) ℓ) : Prop :=
  True

def Pre_CFwdIdeal (m : (ℓ : Loc Cert.CFwdIdeal.nD Cert.CFwdIdeal.τ Cert.CFwdIdeal.sig) → Buf (Elt Ideal) ℓ) : Prop :=
  True

def Pre_CFwdRefIdeal (m : (ℓ : Loc Cert.CFwdRefIdeal.nD Cert.CFwdRefIdeal.τ Cert.CFwdRefIdeal.sig) → Buf (Elt Ideal) ℓ) : Prop :=
  True

def Pre_PIn (m : (ℓ : Loc Cert.PIn.nD Cert.PIn.τ Cert.PIn.sig) → Buf (Elt Bits) ℓ) : Prop :=
  True

def Pre_PInIdeal (m : (ℓ : Loc Cert.PInIdeal.nD Cert.PInIdeal.τ Cert.PInIdeal.sig) → Buf (Elt Ideal) ℓ) : Prop :=
  True

def Pre_PInRefIdeal (m : (ℓ : Loc Cert.PInRefIdeal.nD Cert.PInRefIdeal.τ Cert.PInRefIdeal.sig) → Buf (Elt Ideal) ℓ) : Prop :=
  True

def Pre_PK (m : (ℓ : Loc Cert.PK.nD Cert.PK.τ Cert.PK.sig) → Buf (Elt Bits) ℓ) : Prop :=
  True

def Pre_PKIdeal (m : (ℓ : Loc Cert.PKIdeal.nD Cert.PKIdeal.τ Cert.PKIdeal.sig) → Buf (Elt Ideal) ℓ) : Prop :=
  True

def Pre_PKRefIdeal (m : (ℓ : Loc Cert.PKRefIdeal.nD Cert.PKRefIdeal.τ Cert.PKRefIdeal.sig) → Buf (Elt Ideal) ℓ) : Prop :=
  True

def Pre_PQ (m : (ℓ : Loc Cert.PQ.nD Cert.PQ.τ Cert.PQ.sig) → Buf (Elt Bits) ℓ) : Prop :=
  True

def Pre_PQIdeal (m : (ℓ : Loc Cert.PQIdeal.nD Cert.PQIdeal.τ Cert.PQIdeal.sig) → Buf (Elt Ideal) ℓ) : Prop :=
  True

def Pre_PQRefIdeal (m : (ℓ : Loc Cert.PQRefIdeal.nD Cert.PQRefIdeal.τ Cert.PQRefIdeal.sig) → Buf (Elt Ideal) ℓ) : Prop :=
  True

def Pre_PF (m : (ℓ : Loc Cert.PF.nD Cert.PF.τ Cert.PF.sig) → Buf (Elt Bits) ℓ) : Prop :=
  True

def Pre_PFIdeal (m : (ℓ : Loc Cert.PFIdeal.nD Cert.PFIdeal.τ Cert.PFIdeal.sig) → Buf (Elt Ideal) ℓ) : Prop :=
  True

def Pre_PFRefIdeal (m : (ℓ : Loc Cert.PFRefIdeal.nD Cert.PFRefIdeal.τ Cert.PFRefIdeal.sig) → Buf (Elt Ideal) ℓ) : Prop :=
  True

def Pre_AdSq (m : (ℓ : Loc Cert.AdSq.nD Cert.AdSq.τ Cert.AdSq.sig) → Buf (Elt Bits) ℓ) : Prop :=
  True

def Pre_AdSqIdeal (m : (ℓ : Loc Cert.AdSqIdeal.nD Cert.AdSqIdeal.τ Cert.AdSqIdeal.sig) → Buf (Elt Ideal) ℓ) : Prop :=
  True

def Pre_AdSqRefIdeal (m : (ℓ : Loc Cert.AdSqRefIdeal.nD Cert.AdSqRefIdeal.τ Cert.AdSqRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdKv (m : (ℓ : Loc Cert.AdKv.nD Cert.AdKv.τ Cert.AdKv.sig) → Buf (Elt Bits) ℓ) : Prop :=
  True

def Pre_AdKvIdeal (m : (ℓ : Loc Cert.AdKvIdeal.nD Cert.AdKvIdeal.τ Cert.AdKvIdeal.sig) → Buf (Elt Ideal) ℓ) : Prop :=
  True

def Pre_AdKvRefIdeal (m : (ℓ : Loc Cert.AdKvRefIdeal.nD Cert.AdKvRefIdeal.τ Cert.AdKvRefIdeal.sig) → Buf (Elt Ideal) ℓ) : Prop :=
  True

def Pre_AdSm (m : (ℓ : Loc Cert.AdSm.nD Cert.AdSm.τ Cert.AdSm.sig) → Buf (Elt Bits) ℓ) : Prop :=
  True

def Pre_AdSmIdeal (m : (ℓ : Loc Cert.AdSmIdeal.nD Cert.AdSmIdeal.τ Cert.AdSmIdeal.sig) → Buf (Elt Ideal) ℓ) : Prop :=
  True

def Pre_AdSmRefIdeal (m : (ℓ : Loc Cert.AdSmRefIdeal.nD Cert.AdSmRefIdeal.τ Cert.AdSmRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxIdeal_pre_dx_finite [hDxIdeal : Cert.DxIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dx_finite m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_DxRefIdeal_pre_dx_finite [hDxRefIdeal : Cert.DxRefIdeal.Facts] [hPre_dx_finite : Cert.Pre_dx_finite.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dx_finite m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_FGate [hFGate : Cert.FGate.Facts] : Prop :=
  ∀ (m : (ℓ : Loc Cert.FGate.nD Cert.FGate.τ Cert.FGate.sig) → Buf (Elt Bits) ℓ) (g : Dev Cert.FGate.nD → PrngReg), Pre_FGate m →
    θ_run (Cert.FGate.defs (F := Bits)) (onTc (τ := Cert.FGate.τ) (Cert.FGate.main (F := Bits))) ⟨m, fun _ => 0, g⟩ (fun r => (∀ c : Dev Cert.FGate.nD,
      r.2.mem ((c.tc : Thread Cert.FGate.nD Cert.FGate.τ).loc Cert.FGate.main_arg0) = m ((c.tc : Thread Cert.FGate.nD Cert.FGate.τ).loc Cert.FGate.main_arg0)
      ∧ r.2.mem ((c.tc : Thread Cert.FGate.nD Cert.FGate.τ).loc Cert.FGate.main_arg1) = m ((c.tc : Thread Cert.FGate.nD Cert.FGate.τ).loc Cert.FGate.main_arg1)
      ∧ r.2.mem ((c.tc : Thread Cert.FGate.nD Cert.FGate.τ).loc Cert.FGate.main_arg2) = m ((c.tc : Thread Cert.FGate.nD Cert.FGate.τ).loc Cert.FGate.main_arg2))
      ∧ r.2.sem = fun _ => 0)

def quiescent_FGateIdeal [hFGateIdeal : Cert.FGateIdeal.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
      ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2))
      ∧ r.2.sem = fun _ => 0)

def quiescent_FGateRefIdeal [hFGateRefIdeal : Cert.FGateRefIdeal.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1)
      ∧ r.2.mem ((c.tc : Thread Cert.FGateRefIdeal.nD Cert.FGateRefIdeal.τ).loc Cert.FGateRefIdeal.main_arg2) = m ((c.tc : Thread Cert.FGateRefIdeal.nD Cert.FGateRefIdeal.τ).loc Cert.FGateRefIdeal.main_arg2))
      ∧ r.2.sem = fun _ => 0)

def quiescent_RSum [hRSum : Cert.RSum.Facts] : Prop :=
  ∀ (m : (ℓ : Loc Cert.RSum.nD Cert.RSum.τ Cert.RSum.sig) → Buf (Elt Bits) ℓ) (g : Dev Cert.RSum.nD → PrngReg), Pre_RSum m →
    θ_run (Cert.RSum.defs (F := Bits)) (onTc (τ := Cert.RSum.τ) (Cert.RSum.main (F := Bits))) ⟨m, fun _ => 0, g⟩ (fun r => (∀ c : Dev Cert.RSum.nD,
      r.2.mem ((c.tc : Thread Cert.RSum.nD Cert.RSum.τ).loc Cert.RSum.main_arg0) = m ((c.tc : Thread Cert.RSum.nD Cert.RSum.τ).loc Cert.RSum.main_arg0))
      ∧ r.2.sem = fun _ => 0)

def quiescent_RSumIdeal [hRSumIdeal : Cert.RSumIdeal.Facts] : Prop :=
  ∀ (m : (ℓ : Loc Cert.RSumIdeal.nD Cert.RSumIdeal.τ Cert.RSumIdeal.sig) → Buf (Elt Ideal) ℓ) (g : Dev Cert.RSumIdeal.nD → PrngReg), Pre_RSumIdeal m →
    θ_run (Cert.RSumIdeal.defs (F := Ideal)) (onTc (τ := Cert.RSumIdeal.τ) (Cert.RSumIdeal.main (F := Ideal))) ⟨m, fun _ => 0, g⟩ (fun r => (∀ c : Dev Cert.RSumIdeal.nD,
      r.2.mem ((c.tc : Thread Cert.RSumIdeal.nD Cert.RSumIdeal.τ).loc Cert.RSumIdeal.main_arg0) = m ((c.tc : Thread Cert.RSumIdeal.nD Cert.RSumIdeal.τ).loc Cert.RSumIdeal.main_arg0))
      ∧ r.2.sem = fun _ => 0)

def quiescent_RSumRefIdeal [hRSumRefIdeal : Cert.RSumRefIdeal.Facts] : Prop :=
  ∀ (m : (ℓ : Loc Cert.RSumRefIdeal.nD Cert.RSumRefIdeal.τ Cert.RSumRefIdeal.sig) → Buf (Elt Ideal) ℓ) (g : Dev Cert.RSumRefIdeal.nD → PrngReg), Pre_RSumRefIdeal m →
    θ_run (Cert.RSumRefIdeal.defs (F := Ideal)) (onTc (τ := Cert.RSumRefIdeal.τ) (Cert.RSumRefIdeal.main (F := Ideal))) ⟨m, fun _ => 0, g⟩ (fun r => (∀ c : Dev Cert.RSumRefIdeal.nD,
      r.2.mem ((c.tc : Thread Cert.RSumRefIdeal.nD Cert.RSumRefIdeal.τ).loc Cert.RSumRefIdeal.main_arg0) = m ((c.tc : Thread Cert.RSumRefIdeal.nD Cert.RSumRefIdeal.τ).loc Cert.RSumRefIdeal.main_arg0))
      ∧ r.2.sem = fun _ => 0)

def quiescent_CSum [hCSum : Cert.CSum.Facts] : Prop :=
  ∀ (m : (ℓ : Loc Cert.CSum.nD Cert.CSum.τ Cert.CSum.sig) → Buf (Elt Bits) ℓ) (g : Dev Cert.CSum.nD → PrngReg), Pre_CSum m →
    θ_run (Cert.CSum.defs (F := Bits)) (onTc (τ := Cert.CSum.τ) (Cert.CSum.main (F := Bits))) ⟨m, fun _ => 0, g⟩ (fun r => (∀ c : Dev Cert.CSum.nD,
      r.2.mem ((c.tc : Thread Cert.CSum.nD Cert.CSum.τ).loc Cert.CSum.main_arg0) = m ((c.tc : Thread Cert.CSum.nD Cert.CSum.τ).loc Cert.CSum.main_arg0)
      ∧ r.2.mem ((c.tc : Thread Cert.CSum.nD Cert.CSum.τ).loc Cert.CSum.main_arg1) = m ((c.tc : Thread Cert.CSum.nD Cert.CSum.τ).loc Cert.CSum.main_arg1))
      ∧ r.2.sem = fun _ => 0)

def quiescent_CSumIdeal [hCSumIdeal : Cert.CSumIdeal.Facts] : Prop :=
  ∀ (m : (ℓ : Loc Cert.CSumIdeal.nD Cert.CSumIdeal.τ Cert.CSumIdeal.sig) → Buf (Elt Ideal) ℓ) (g : Dev Cert.CSumIdeal.nD → PrngReg), Pre_CSumIdeal m →
    θ_run (Cert.CSumIdeal.defs (F := Ideal)) (onTc (τ := Cert.CSumIdeal.τ) (Cert.CSumIdeal.main (F := Ideal))) ⟨m, fun _ => 0, g⟩ (fun r => (∀ c : Dev Cert.CSumIdeal.nD,
      r.2.mem ((c.tc : Thread Cert.CSumIdeal.nD Cert.CSumIdeal.τ).loc Cert.CSumIdeal.main_arg0) = m ((c.tc : Thread Cert.CSumIdeal.nD Cert.CSumIdeal.τ).loc Cert.CSumIdeal.main_arg0)
      ∧ r.2.mem ((c.tc : Thread Cert.CSumIdeal.nD Cert.CSumIdeal.τ).loc Cert.CSumIdeal.main_arg1) = m ((c.tc : Thread Cert.CSumIdeal.nD Cert.CSumIdeal.τ).loc Cert.CSumIdeal.main_arg1))
      ∧ r.2.sem = fun _ => 0)

def quiescent_CSumRefIdeal [hCSumRefIdeal : Cert.CSumRefIdeal.Facts] : Prop :=
  ∀ (m : (ℓ : Loc Cert.CSumRefIdeal.nD Cert.CSumRefIdeal.τ Cert.CSumRefIdeal.sig) → Buf (Elt Ideal) ℓ) (g : Dev Cert.CSumRefIdeal.nD → PrngReg), Pre_CSumRefIdeal m →
    θ_run (Cert.CSumRefIdeal.defs (F := Ideal)) (onTc (τ := Cert.CSumRefIdeal.τ) (Cert.CSumRefIdeal.main (F := Ideal))) ⟨m, fun _ => 0, g⟩ (fun r => (∀ c : Dev Cert.CSumRefIdeal.nD,
      r.2.mem ((c.tc : Thread Cert.CSumRefIdeal.nD Cert.CSumRefIdeal.τ).loc Cert.CSumRefIdeal.main_arg0) = m ((c.tc : Thread Cert.CSumRefIdeal.nD Cert.CSumRefIdeal.τ).loc Cert.CSumRefIdeal.main_arg0)
      ∧ r.2.mem ((c.tc : Thread Cert.CSumRefIdeal.nD Cert.CSumRefIdeal.τ).loc Cert.CSumRefIdeal.main_arg1) = m ((c.tc : Thread Cert.CSumRefIdeal.nD Cert.CSumRefIdeal.τ).loc Cert.CSumRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1)
      ∧ r.2.mem ((c.tc : Thread Cert.KvDw.nD Cert.KvDw.τ).loc Cert.KvDw.main_arg2) = m ((c.tc : Thread Cert.KvDw.nD Cert.KvDw.τ).loc Cert.KvDw.main_arg2)
      ∧ r.2.mem ((c.tc : Thread Cert.KvDw.nD Cert.KvDw.τ).loc Cert.KvDw.main_arg3) = m ((c.tc : Thread Cert.KvDw.nD Cert.KvDw.τ).loc Cert.KvDw.main_arg3))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
      ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2)
      ∧ r.2.mem ((c.tc : Thread Cert.KvDwIdeal.nD Cert.KvDwIdeal.τ).loc Cert.KvDwIdeal.main_arg3) = m ((c.tc : Thread Cert.KvDwIdeal.nD Cert.KvDwIdeal.τ).loc Cert.KvDwIdeal.main_arg3))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1)
      ∧ r.2.mem ((c.tc : Thread Cert.KvDwRefIdeal.nD Cert.KvDwRefIdeal.τ).loc Cert.KvDwRefIdeal.main_arg2) = m ((c.tc : Thread Cert.KvDwRefIdeal.nD Cert.KvDwRefIdeal.τ).loc Cert.KvDwRefIdeal.main_arg2)
      ∧ r.2.mem ((c.tc : Thread Cert.KvDwRefIdeal.nD Cert.KvDwRefIdeal.τ).loc Cert.KvDwRefIdeal.main_arg3) = m ((c.tc : Thread Cert.KvDwRefIdeal.nD Cert.KvDwRefIdeal.τ).loc Cert.KvDwRefIdeal.main_arg3))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3)
      ∧ r.2.mem ((c.tc : Thread Cert.KvDx.nD Cert.KvDx.τ).loc Cert.KvDx.main_arg4) = m ((c.tc : Thread Cert.KvDx.nD Cert.KvDx.τ).loc Cert.KvDx.main_arg4)
      ∧ r.2.mem ((c.tc : Thread Cert.KvDx.nD Cert.KvDx.τ).loc Cert.KvDx.main_arg5) = m ((c.tc : Thread Cert.KvDx.nD Cert.KvDx.τ).loc Cert.KvDx.main_arg5)
      ∧ r.2.mem ((c.tc : Thread Cert.KvDx.nD Cert.KvDx.τ).loc Cert.KvDx.main_arg6) = m ((c.tc : Thread Cert.KvDx.nD Cert.KvDx.τ).loc Cert.KvDx.main_arg6))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
      ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5)
      ∧ r.2.mem ((c.tc : Thread Cert.KvDxIdeal.nD Cert.KvDxIdeal.τ).loc Cert.KvDxIdeal.main_arg6) = m ((c.tc : Thread Cert.KvDxIdeal.nD Cert.KvDxIdeal.τ).loc Cert.KvDxIdeal.main_arg6))
      ∧ r.2.sem = fun _ => 0)

def quiescent_KvDxIdeal_pre_kvdx_finite [hKvDxIdeal : Cert.KvDxIdeal.Facts] [hPre_kvdx_finite : Cert.Pre_kvdx_finite.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal_kvdx_finite m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
      ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
      ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5)
      ∧ r.2.mem ((c.tc : Thread Cert.KvDxIdeal.nD Cert.KvDxIdeal.τ).loc Cert.KvDxIdeal.main_arg6) = m ((c.tc : Thread Cert.KvDxIdeal.nD Cert.KvDxIdeal.τ).loc Cert.KvDxIdeal.main_arg6))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3)
      ∧ r.2.mem ((c.tc : Thread Cert.KvDxRefIdeal.nD Cert.KvDxRefIdeal.τ).loc Cert.KvDxRefIdeal.main_arg4) = m ((c.tc : Thread Cert.KvDxRefIdeal.nD Cert.KvDxRefIdeal.τ).loc Cert.KvDxRefIdeal.main_arg4)
      ∧ r.2.mem ((c.tc : Thread Cert.KvDxRefIdeal.nD Cert.KvDxRefIdeal.τ).loc Cert.KvDxRefIdeal.main_arg5) = m ((c.tc : Thread Cert.KvDxRefIdeal.nD Cert.KvDxRefIdeal.τ).loc Cert.KvDxRefIdeal.main_arg5)
      ∧ r.2.mem ((c.tc : Thread Cert.KvDxRefIdeal.nD Cert.KvDxRefIdeal.τ).loc Cert.KvDxRefIdeal.main_arg6) = m ((c.tc : Thread Cert.KvDxRefIdeal.nD Cert.KvDxRefIdeal.τ).loc Cert.KvDxRefIdeal.main_arg6))
      ∧ r.2.sem = fun _ => 0)

def quiescent_KvDxRefIdeal_pre_kvdx_finite [hKvDxRefIdeal : Cert.KvDxRefIdeal.Facts] [hPre_kvdx_finite : Cert.Pre_kvdx_finite.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal_kvdx_finite m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3)
      ∧ r.2.mem ((c.tc : Thread Cert.KvDxRefIdeal.nD Cert.KvDxRefIdeal.τ).loc Cert.KvDxRefIdeal.main_arg4) = m ((c.tc : Thread Cert.KvDxRefIdeal.nD Cert.KvDxRefIdeal.τ).loc Cert.KvDxRefIdeal.main_arg4)
      ∧ r.2.mem ((c.tc : Thread Cert.KvDxRefIdeal.nD Cert.KvDxRefIdeal.τ).loc Cert.KvDxRefIdeal.main_arg5) = m ((c.tc : Thread Cert.KvDxRefIdeal.nD Cert.KvDxRefIdeal.τ).loc Cert.KvDxRefIdeal.main_arg5)
      ∧ r.2.mem ((c.tc : Thread Cert.KvDxRefIdeal.nD Cert.KvDxRefIdeal.τ).loc Cert.KvDxRefIdeal.main_arg6) = m ((c.tc : Thread Cert.KvDxRefIdeal.nD Cert.KvDxRefIdeal.τ).loc Cert.KvDxRefIdeal.main_arg6))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1)
      ∧ r.2.mem ((c.tc : Thread Cert.QDx.nD Cert.QDx.τ).loc Cert.QDx.main_arg2) = m ((c.tc : Thread Cert.QDx.nD Cert.QDx.τ).loc Cert.QDx.main_arg2)
      ∧ r.2.mem ((c.tc : Thread Cert.QDx.nD Cert.QDx.τ).loc Cert.QDx.main_arg3) = m ((c.tc : Thread Cert.QDx.nD Cert.QDx.τ).loc Cert.QDx.main_arg3)
      ∧ r.2.mem ((c.tc : Thread Cert.QDx.nD Cert.QDx.τ).loc Cert.QDx.main_arg4) = m ((c.tc : Thread Cert.QDx.nD Cert.QDx.τ).loc Cert.QDx.main_arg4))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxIdeal_pre_qdx_finite [hQDxIdeal : Cert.QDxIdeal.Facts] [hPre_qdx_finite : Cert.Pre_qdx_finite.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal_qdx_finite m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
      ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
      ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
      ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_QDxRefIdeal_pre_qdx_finite [hQDxRefIdeal : Cert.QDxRefIdeal.Facts] [hPre_qdx_finite : Cert.Pre_qdx_finite.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal_qdx_finite m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1)
      ∧ r.2.mem ((c.tc : Thread Cert.QDxRefIdeal.nD Cert.QDxRefIdeal.τ).loc Cert.QDxRefIdeal.main_arg2) = m ((c.tc : Thread Cert.QDxRefIdeal.nD Cert.QDxRefIdeal.τ).loc Cert.QDxRefIdeal.main_arg2)
      ∧ r.2.mem ((c.tc : Thread Cert.QDxRefIdeal.nD Cert.QDxRefIdeal.τ).loc Cert.QDxRefIdeal.main_arg3) = m ((c.tc : Thread Cert.QDxRefIdeal.nD Cert.QDxRefIdeal.τ).loc Cert.QDxRefIdeal.main_arg3)
      ∧ r.2.mem ((c.tc : Thread Cert.QDxRefIdeal.nD Cert.QDxRefIdeal.τ).loc Cert.QDxRefIdeal.main_arg4) = m ((c.tc : Thread Cert.QDxRefIdeal.nD Cert.QDxRefIdeal.τ).loc Cert.QDxRefIdeal.main_arg4))
      ∧ r.2.sem = fun _ => 0)

def quiescent_CDx [hCDx : Cert.CDx.Facts] : Prop :=
  ∀ (m : (ℓ : Loc Cert.CDx.nD Cert.CDx.τ Cert.CDx.sig) → Buf (Elt Bits) ℓ) (g : Dev Cert.CDx.nD → PrngReg), Pre_CDx m →
    θ_run (Cert.CDx.defs (F := Bits)) (onTc (τ := Cert.CDx.τ) (Cert.CDx.main (F := Bits))) ⟨m, fun _ => 0, g⟩ (fun r => (∀ c : Dev Cert.CDx.nD,
      r.2.mem ((c.tc : Thread Cert.CDx.nD Cert.CDx.τ).loc Cert.CDx.main_arg0) = m ((c.tc : Thread Cert.CDx.nD Cert.CDx.τ).loc Cert.CDx.main_arg0)
      ∧ r.2.mem ((c.tc : Thread Cert.CDx.nD Cert.CDx.τ).loc Cert.CDx.main_arg1) = m ((c.tc : Thread Cert.CDx.nD Cert.CDx.τ).loc Cert.CDx.main_arg1)
      ∧ r.2.mem ((c.tc : Thread Cert.CDx.nD Cert.CDx.τ).loc Cert.CDx.main_arg2) = m ((c.tc : Thread Cert.CDx.nD Cert.CDx.τ).loc Cert.CDx.main_arg2)
      ∧ r.2.mem ((c.tc : Thread Cert.CDx.nD Cert.CDx.τ).loc Cert.CDx.main_arg3) = m ((c.tc : Thread Cert.CDx.nD Cert.CDx.τ).loc Cert.CDx.main_arg3)
      ∧ r.2.mem ((c.tc : Thread Cert.CDx.nD Cert.CDx.τ).loc Cert.CDx.main_arg4) = m ((c.tc : Thread Cert.CDx.nD Cert.CDx.τ).loc Cert.CDx.main_arg4))
      ∧ r.2.sem = fun _ => 0)

def quiescent_CDxIdeal [hCDxIdeal : Cert.CDxIdeal.Facts] : Prop :=
  ∀ (m : (ℓ : Loc Cert.CDxIdeal.nD Cert.CDxIdeal.τ Cert.CDxIdeal.sig) → Buf (Elt Ideal) ℓ) (g : Dev Cert.CDxIdeal.nD → PrngReg), Pre_CDxIdeal m →
    θ_run (Cert.CDxIdeal.defs (F := Ideal)) (onTc (τ := Cert.CDxIdeal.τ) (Cert.CDxIdeal.main (F := Ideal))) ⟨m, fun _ => 0, g⟩ (fun r => (∀ c : Dev Cert.CDxIdeal.nD,
      r.2.mem ((c.tc : Thread Cert.CDxIdeal.nD Cert.CDxIdeal.τ).loc Cert.CDxIdeal.main_arg0) = m ((c.tc : Thread Cert.CDxIdeal.nD Cert.CDxIdeal.τ).loc Cert.CDxIdeal.main_arg0)
      ∧ r.2.mem ((c.tc : Thread Cert.CDxIdeal.nD Cert.CDxIdeal.τ).loc Cert.CDxIdeal.main_arg1) = m ((c.tc : Thread Cert.CDxIdeal.nD Cert.CDxIdeal.τ).loc Cert.CDxIdeal.main_arg1)
      ∧ r.2.mem ((c.tc : Thread Cert.CDxIdeal.nD Cert.CDxIdeal.τ).loc Cert.CDxIdeal.main_arg2) = m ((c.tc : Thread Cert.CDxIdeal.nD Cert.CDxIdeal.τ).loc Cert.CDxIdeal.main_arg2)
      ∧ r.2.mem ((c.tc : Thread Cert.CDxIdeal.nD Cert.CDxIdeal.τ).loc Cert.CDxIdeal.main_arg3) = m ((c.tc : Thread Cert.CDxIdeal.nD Cert.CDxIdeal.τ).loc Cert.CDxIdeal.main_arg3)
      ∧ r.2.mem ((c.tc : Thread Cert.CDxIdeal.nD Cert.CDxIdeal.τ).loc Cert.CDxIdeal.main_arg4) = m ((c.tc : Thread Cert.CDxIdeal.nD Cert.CDxIdeal.τ).loc Cert.CDxIdeal.main_arg4))
      ∧ r.2.sem = fun _ => 0)

def quiescent_CDxIdeal_pre_cdx_finite [hCDxIdeal : Cert.CDxIdeal.Facts] [hPre_cdx_finite : Cert.Pre_cdx_finite.Facts] : Prop :=
  ∀ (m : (ℓ : Loc Cert.CDxIdeal.nD Cert.CDxIdeal.τ Cert.CDxIdeal.sig) → Buf (Elt Ideal) ℓ) (g : Dev Cert.CDxIdeal.nD → PrngReg), Pre_CDxIdeal_cdx_finite m →
    θ_run (Cert.CDxIdeal.defs (F := Ideal)) (onTc (τ := Cert.CDxIdeal.τ) (Cert.CDxIdeal.main (F := Ideal))) ⟨m, fun _ => 0, g⟩ (fun r => (∀ c : Dev Cert.CDxIdeal.nD,
      r.2.mem ((c.tc : Thread Cert.CDxIdeal.nD Cert.CDxIdeal.τ).loc Cert.CDxIdeal.main_arg0) = m ((c.tc : Thread Cert.CDxIdeal.nD Cert.CDxIdeal.τ).loc Cert.CDxIdeal.main_arg0)
      ∧ r.2.mem ((c.tc : Thread Cert.CDxIdeal.nD Cert.CDxIdeal.τ).loc Cert.CDxIdeal.main_arg1) = m ((c.tc : Thread Cert.CDxIdeal.nD Cert.CDxIdeal.τ).loc Cert.CDxIdeal.main_arg1)
      ∧ r.2.mem ((c.tc : Thread Cert.CDxIdeal.nD Cert.CDxIdeal.τ).loc Cert.CDxIdeal.main_arg2) = m ((c.tc : Thread Cert.CDxIdeal.nD Cert.CDxIdeal.τ).loc Cert.CDxIdeal.main_arg2)
      ∧ r.2.mem ((c.tc : Thread Cert.CDxIdeal.nD Cert.CDxIdeal.τ).loc Cert.CDxIdeal.main_arg3) = m ((c.tc : Thread Cert.CDxIdeal.nD Cert.CDxIdeal.τ).loc Cert.CDxIdeal.main_arg3)
      ∧ r.2.mem ((c.tc : Thread Cert.CDxIdeal.nD Cert.CDxIdeal.τ).loc Cert.CDxIdeal.main_arg4) = m ((c.tc : Thread Cert.CDxIdeal.nD Cert.CDxIdeal.τ).loc Cert.CDxIdeal.main_arg4))
      ∧ r.2.sem = fun _ => 0)

def quiescent_CDxRefIdeal [hCDxRefIdeal : Cert.CDxRefIdeal.Facts] : Prop :=
  ∀ (m : (ℓ : Loc Cert.CDxRefIdeal.nD Cert.CDxRefIdeal.τ Cert.CDxRefIdeal.sig) → Buf (Elt Ideal) ℓ) (g : Dev Cert.CDxRefIdeal.nD → PrngReg), Pre_CDxRefIdeal m →
    θ_run (Cert.CDxRefIdeal.defs (F := Ideal)) (onTc (τ := Cert.CDxRefIdeal.τ) (Cert.CDxRefIdeal.main (F := Ideal))) ⟨m, fun _ => 0, g⟩ (fun r => (∀ c : Dev Cert.CDxRefIdeal.nD,
      r.2.mem ((c.tc : Thread Cert.CDxRefIdeal.nD Cert.CDxRefIdeal.τ).loc Cert.CDxRefIdeal.main_arg0) = m ((c.tc : Thread Cert.CDxRefIdeal.nD Cert.CDxRefIdeal.τ).loc Cert.CDxRefIdeal.main_arg0)
      ∧ r.2.mem ((c.tc : Thread Cert.CDxRefIdeal.nD Cert.CDxRefIdeal.τ).loc Cert.CDxRefIdeal.main_arg1) = m ((c.tc : Thread Cert.CDxRefIdeal.nD Cert.CDxRefIdeal.τ).loc Cert.CDxRefIdeal.main_arg1)
      ∧ r.2.mem ((c.tc : Thread Cert.CDxRefIdeal.nD Cert.CDxRefIdeal.τ).loc Cert.CDxRefIdeal.main_arg2) = m ((c.tc : Thread Cert.CDxRefIdeal.nD Cert.CDxRefIdeal.τ).loc Cert.CDxRefIdeal.main_arg2)
      ∧ r.2.mem ((c.tc : Thread Cert.CDxRefIdeal.nD Cert.CDxRefIdeal.τ).loc Cert.CDxRefIdeal.main_arg3) = m ((c.tc : Thread Cert.CDxRefIdeal.nD Cert.CDxRefIdeal.τ).loc Cert.CDxRefIdeal.main_arg3)
      ∧ r.2.mem ((c.tc : Thread Cert.CDxRefIdeal.nD Cert.CDxRefIdeal.τ).loc Cert.CDxRefIdeal.main_arg4) = m ((c.tc : Thread Cert.CDxRefIdeal.nD Cert.CDxRefIdeal.τ).loc Cert.CDxRefIdeal.main_arg4))
      ∧ r.2.sem = fun _ => 0)

def quiescent_CDxRefIdeal_pre_cdx_finite [hCDxRefIdeal : Cert.CDxRefIdeal.Facts] [hPre_cdx_finite : Cert.Pre_cdx_finite.Facts] : Prop :=
  ∀ (m : (ℓ : Loc Cert.CDxRefIdeal.nD Cert.CDxRefIdeal.τ Cert.CDxRefIdeal.sig) → Buf (Elt Ideal) ℓ) (g : Dev Cert.CDxRefIdeal.nD → PrngReg), Pre_CDxRefIdeal_cdx_finite m →
    θ_run (Cert.CDxRefIdeal.defs (F := Ideal)) (onTc (τ := Cert.CDxRefIdeal.τ) (Cert.CDxRefIdeal.main (F := Ideal))) ⟨m, fun _ => 0, g⟩ (fun r => (∀ c : Dev Cert.CDxRefIdeal.nD,
      r.2.mem ((c.tc : Thread Cert.CDxRefIdeal.nD Cert.CDxRefIdeal.τ).loc Cert.CDxRefIdeal.main_arg0) = m ((c.tc : Thread Cert.CDxRefIdeal.nD Cert.CDxRefIdeal.τ).loc Cert.CDxRefIdeal.main_arg0)
      ∧ r.2.mem ((c.tc : Thread Cert.CDxRefIdeal.nD Cert.CDxRefIdeal.τ).loc Cert.CDxRefIdeal.main_arg1) = m ((c.tc : Thread Cert.CDxRefIdeal.nD Cert.CDxRefIdeal.τ).loc Cert.CDxRefIdeal.main_arg1)
      ∧ r.2.mem ((c.tc : Thread Cert.CDxRefIdeal.nD Cert.CDxRefIdeal.τ).loc Cert.CDxRefIdeal.main_arg2) = m ((c.tc : Thread Cert.CDxRefIdeal.nD Cert.CDxRefIdeal.τ).loc Cert.CDxRefIdeal.main_arg2)
      ∧ r.2.mem ((c.tc : Thread Cert.CDxRefIdeal.nD Cert.CDxRefIdeal.τ).loc Cert.CDxRefIdeal.main_arg3) = m ((c.tc : Thread Cert.CDxRefIdeal.nD Cert.CDxRefIdeal.τ).loc Cert.CDxRefIdeal.main_arg3)
      ∧ r.2.mem ((c.tc : Thread Cert.CDxRefIdeal.nD Cert.CDxRefIdeal.τ).loc Cert.CDxRefIdeal.main_arg4) = m ((c.tc : Thread Cert.CDxRefIdeal.nD Cert.CDxRefIdeal.τ).loc Cert.CDxRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_SqDx [hSqDx : Cert.SqDx.Facts] : Prop :=
  ∀ (m : (ℓ : Loc Cert.SqDx.nD Cert.SqDx.τ Cert.SqDx.sig) → Buf (Elt Bits) ℓ) (g : Dev Cert.SqDx.nD → PrngReg), Pre_SqDx m →
    θ_run (Cert.SqDx.defs (F := Bits)) (onTc (τ := Cert.SqDx.τ) (Cert.SqDx.main (F := Bits))) ⟨m, fun _ => 0, g⟩ (fun r => (∀ c : Dev Cert.SqDx.nD,
      r.2.mem ((c.tc : Thread Cert.SqDx.nD Cert.SqDx.τ).loc Cert.SqDx.main_arg0) = m ((c.tc : Thread Cert.SqDx.nD Cert.SqDx.τ).loc Cert.SqDx.main_arg0)
      ∧ r.2.mem ((c.tc : Thread Cert.SqDx.nD Cert.SqDx.τ).loc Cert.SqDx.main_arg1) = m ((c.tc : Thread Cert.SqDx.nD Cert.SqDx.τ).loc Cert.SqDx.main_arg1))
      ∧ r.2.sem = fun _ => 0)

def quiescent_SqDxIdeal [hSqDxIdeal : Cert.SqDxIdeal.Facts] : Prop :=
  ∀ (m : (ℓ : Loc Cert.SqDxIdeal.nD Cert.SqDxIdeal.τ Cert.SqDxIdeal.sig) → Buf (Elt Ideal) ℓ) (g : Dev Cert.SqDxIdeal.nD → PrngReg), Pre_SqDxIdeal m →
    θ_run (Cert.SqDxIdeal.defs (F := Ideal)) (onTc (τ := Cert.SqDxIdeal.τ) (Cert.SqDxIdeal.main (F := Ideal))) ⟨m, fun _ => 0, g⟩ (fun r => (∀ c : Dev Cert.SqDxIdeal.nD,
      r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
      ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ r.2.sem = fun _ => 0)

def quiescent_SqDxRefIdeal [hSqDxRefIdeal : Cert.SqDxRefIdeal.Facts] : Prop :=
  ∀ (m : (ℓ : Loc Cert.SqDxRefIdeal.nD Cert.SqDxRefIdeal.τ Cert.SqDxRefIdeal.sig) → Buf (Elt Ideal) ℓ) (g : Dev Cert.SqDxRefIdeal.nD → PrngReg), Pre_SqDxRefIdeal m →
    θ_run (Cert.SqDxRefIdeal.defs (F := Ideal)) (onTc (τ := Cert.SqDxRefIdeal.τ) (Cert.SqDxRefIdeal.main (F := Ideal))) ⟨m, fun _ => 0, g⟩ (fun r => (∀ c : Dev Cert.SqDxRefIdeal.nD,
      r.2.mem ((c.tc : Thread Cert.SqDxRefIdeal.nD Cert.SqDxRefIdeal.τ).loc Cert.SqDxRefIdeal.main_arg0) = m ((c.tc : Thread Cert.SqDxRefIdeal.nD Cert.SqDxRefIdeal.τ).loc Cert.SqDxRefIdeal.main_arg0)
      ∧ r.2.mem ((c.tc : Thread Cert.SqDxRefIdeal.nD Cert.SqDxRefIdeal.τ).loc Cert.SqDxRefIdeal.main_arg1) = m ((c.tc : Thread Cert.SqDxRefIdeal.nD Cert.SqDxRefIdeal.τ).loc Cert.SqDxRefIdeal.main_arg1))
      ∧ r.2.sem = fun _ => 0)

def quiescent_SqDw [hSqDw : Cert.SqDw.Facts] : Prop :=
  ∀ (m : (ℓ : Loc Cert.SqDw.nD Cert.SqDw.τ Cert.SqDw.sig) → Buf (Elt Bits) ℓ) (g : Dev Cert.SqDw.nD → PrngReg), Pre_SqDw m →
    θ_run (Cert.SqDw.defs (F := Bits)) (onTc (τ := Cert.SqDw.τ) (Cert.SqDw.main (F := Bits))) ⟨m, fun _ => 0, g⟩ (fun r => (∀ c : Dev Cert.SqDw.nD,
      r.2.mem ((c.tc : Thread Cert.SqDw.nD Cert.SqDw.τ).loc Cert.SqDw.main_arg0) = m ((c.tc : Thread Cert.SqDw.nD Cert.SqDw.τ).loc Cert.SqDw.main_arg0)
      ∧ r.2.mem ((c.tc : Thread Cert.SqDw.nD Cert.SqDw.τ).loc Cert.SqDw.main_arg1) = m ((c.tc : Thread Cert.SqDw.nD Cert.SqDw.τ).loc Cert.SqDw.main_arg1))
      ∧ r.2.sem = fun _ => 0)

def quiescent_SqDwIdeal [hSqDwIdeal : Cert.SqDwIdeal.Facts] : Prop :=
  ∀ (m : (ℓ : Loc Cert.SqDwIdeal.nD Cert.SqDwIdeal.τ Cert.SqDwIdeal.sig) → Buf (Elt Ideal) ℓ) (g : Dev Cert.SqDwIdeal.nD → PrngReg), Pre_SqDwIdeal m →
    θ_run (Cert.SqDwIdeal.defs (F := Ideal)) (onTc (τ := Cert.SqDwIdeal.τ) (Cert.SqDwIdeal.main (F := Ideal))) ⟨m, fun _ => 0, g⟩ (fun r => (∀ c : Dev Cert.SqDwIdeal.nD,
      r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
      ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ r.2.sem = fun _ => 0)

def quiescent_SqDwRefIdeal [hSqDwRefIdeal : Cert.SqDwRefIdeal.Facts] : Prop :=
  ∀ (m : (ℓ : Loc Cert.SqDwRefIdeal.nD Cert.SqDwRefIdeal.τ Cert.SqDwRefIdeal.sig) → Buf (Elt Ideal) ℓ) (g : Dev Cert.SqDwRefIdeal.nD → PrngReg), Pre_SqDwRefIdeal m →
    θ_run (Cert.SqDwRefIdeal.defs (F := Ideal)) (onTc (τ := Cert.SqDwRefIdeal.τ) (Cert.SqDwRefIdeal.main (F := Ideal))) ⟨m, fun _ => 0, g⟩ (fun r => (∀ c : Dev Cert.SqDwRefIdeal.nD,
      r.2.mem ((c.tc : Thread Cert.SqDwRefIdeal.nD Cert.SqDwRefIdeal.τ).loc Cert.SqDwRefIdeal.main_arg0) = m ((c.tc : Thread Cert.SqDwRefIdeal.nD Cert.SqDwRefIdeal.τ).loc Cert.SqDwRefIdeal.main_arg0)
      ∧ r.2.mem ((c.tc : Thread Cert.SqDwRefIdeal.nD Cert.SqDwRefIdeal.τ).loc Cert.SqDwRefIdeal.main_arg1) = m ((c.tc : Thread Cert.SqDwRefIdeal.nD Cert.SqDwRefIdeal.τ).loc Cert.SqDwRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1)
      ∧ r.2.mem ((c.tc : Thread Cert.Dx0.nD Cert.Dx0.τ).loc Cert.Dx0.main_arg2) = m ((c.tc : Thread Cert.Dx0.nD Cert.Dx0.τ).loc Cert.Dx0.main_arg2)
      ∧ r.2.mem ((c.tc : Thread Cert.Dx0.nD Cert.Dx0.τ).loc Cert.Dx0.main_arg3) = m ((c.tc : Thread Cert.Dx0.nD Cert.Dx0.τ).loc Cert.Dx0.main_arg3)
      ∧ r.2.mem ((c.tc : Thread Cert.Dx0.nD Cert.Dx0.τ).loc Cert.Dx0.main_arg4) = m ((c.tc : Thread Cert.Dx0.nD Cert.Dx0.τ).loc Cert.Dx0.main_arg4))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
      ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2)
      ∧ r.2.mem ((c.tc : Thread Cert.Dx0Ideal.nD Cert.Dx0Ideal.τ).loc Cert.Dx0Ideal.main_arg3) = m ((c.tc : Thread Cert.Dx0Ideal.nD Cert.Dx0Ideal.τ).loc Cert.Dx0Ideal.main_arg3)
      ∧ r.2.mem ((c.tc : Thread Cert.Dx0Ideal.nD Cert.Dx0Ideal.τ).loc Cert.Dx0Ideal.main_arg4) = m ((c.tc : Thread Cert.Dx0Ideal.nD Cert.Dx0Ideal.τ).loc Cert.Dx0Ideal.main_arg4))
      ∧ r.2.sem = fun _ => 0)

def quiescent_Dx0RefIdeal [hDx0RefIdeal : Cert.Dx0RefIdeal.Facts] : Prop :=
  ∀ (m : (ℓ : Loc Cert.Dx0RefIdeal.nD Cert.Dx0RefIdeal.τ Cert.Dx0RefIdeal.sig) → Buf (Elt Ideal) ℓ) (g : Dev Cert.Dx0RefIdeal.nD → PrngReg), Pre_Dx0RefIdeal m →
    θ_run (Cert.Dx0RefIdeal.defs (F := Ideal)) (onTc (τ := Cert.Dx0RefIdeal.τ) (Cert.Dx0RefIdeal.main (F := Ideal))) ⟨m, fun _ => 0, g⟩ (fun r => (∀ c : Dev Cert.Dx0RefIdeal.nD,
      r.2.mem ((c.tc : Thread Cert.Dx0RefIdeal.nD Cert.Dx0RefIdeal.τ).loc Cert.Dx0RefIdeal.main_arg0) = m ((c.tc : Thread Cert.Dx0RefIdeal.nD Cert.Dx0RefIdeal.τ).loc Cert.Dx0RefIdeal.main_arg0)
      ∧ r.2.mem ((c.tc : Thread Cert.Dx0RefIdeal.nD Cert.Dx0RefIdeal.τ).loc Cert.Dx0RefIdeal.main_arg1) = m ((c.tc : Thread Cert.Dx0RefIdeal.nD Cert.Dx0RefIdeal.τ).loc Cert.Dx0RefIdeal.main_arg1)
      ∧ r.2.mem ((c.tc : Thread Cert.Dx0RefIdeal.nD Cert.Dx0RefIdeal.τ).loc Cert.Dx0RefIdeal.main_arg2) = m ((c.tc : Thread Cert.Dx0RefIdeal.nD Cert.Dx0RefIdeal.τ).loc Cert.Dx0RefIdeal.main_arg2)
      ∧ r.2.mem ((c.tc : Thread Cert.Dx0RefIdeal.nD Cert.Dx0RefIdeal.τ).loc Cert.Dx0RefIdeal.main_arg3) = m ((c.tc : Thread Cert.Dx0RefIdeal.nD Cert.Dx0RefIdeal.τ).loc Cert.Dx0RefIdeal.main_arg3)
      ∧ r.2.mem ((c.tc : Thread Cert.Dx0RefIdeal.nD Cert.Dx0RefIdeal.τ).loc Cert.Dx0RefIdeal.main_arg4) = m ((c.tc : Thread Cert.Dx0RefIdeal.nD Cert.Dx0RefIdeal.τ).loc Cert.Dx0RefIdeal.main_arg4))
      ∧ r.2.sem = fun _ => 0)

def quiescent_CFwd [hCFwd : Cert.CFwd.Facts] : Prop :=
  ∀ (m : (ℓ : Loc Cert.CFwd.nD Cert.CFwd.τ Cert.CFwd.sig) → Buf (Elt Bits) ℓ) (g : Dev Cert.CFwd.nD → PrngReg), Pre_CFwd m →
    θ_run (Cert.CFwd.defs (F := Bits)) (onTc (τ := Cert.CFwd.τ) (Cert.CFwd.main (F := Bits))) ⟨m, fun _ => 0, g⟩ (fun r => (∀ c : Dev Cert.CFwd.nD,
      r.2.mem ((c.tc : Thread Cert.CFwd.nD Cert.CFwd.τ).loc Cert.CFwd.main_arg0) = m ((c.tc : Thread Cert.CFwd.nD Cert.CFwd.τ).loc Cert.CFwd.main_arg0)
      ∧ r.2.mem ((c.tc : Thread Cert.CFwd.nD Cert.CFwd.τ).loc Cert.CFwd.main_arg1) = m ((c.tc : Thread Cert.CFwd.nD Cert.CFwd.τ).loc Cert.CFwd.main_arg1))
      ∧ r.2.sem = fun _ => 0)

def quiescent_CFwdIdeal [hCFwdIdeal : Cert.CFwdIdeal.Facts] : Prop :=
  ∀ (m : (ℓ : Loc Cert.CFwdIdeal.nD Cert.CFwdIdeal.τ Cert.CFwdIdeal.sig) → Buf (Elt Ideal) ℓ) (g : Dev Cert.CFwdIdeal.nD → PrngReg), Pre_CFwdIdeal m →
    θ_run (Cert.CFwdIdeal.defs (F := Ideal)) (onTc (τ := Cert.CFwdIdeal.τ) (Cert.CFwdIdeal.main (F := Ideal))) ⟨m, fun _ => 0, g⟩ (fun r => (∀ c : Dev Cert.CFwdIdeal.nD,
      r.2.mem ((c.tc : Thread Cert.CFwdIdeal.nD Cert.CFwdIdeal.τ).loc Cert.CFwdIdeal.main_arg0) = m ((c.tc : Thread Cert.CFwdIdeal.nD Cert.CFwdIdeal.τ).loc Cert.CFwdIdeal.main_arg0)
      ∧ r.2.mem ((c.tc : Thread Cert.CFwdIdeal.nD Cert.CFwdIdeal.τ).loc Cert.CFwdIdeal.main_arg1) = m ((c.tc : Thread Cert.CFwdIdeal.nD Cert.CFwdIdeal.τ).loc Cert.CFwdIdeal.main_arg1))
      ∧ r.2.sem = fun _ => 0)

def quiescent_CFwdRefIdeal [hCFwdRefIdeal : Cert.CFwdRefIdeal.Facts] : Prop :=
  ∀ (m : (ℓ : Loc Cert.CFwdRefIdeal.nD Cert.CFwdRefIdeal.τ Cert.CFwdRefIdeal.sig) → Buf (Elt Ideal) ℓ) (g : Dev Cert.CFwdRefIdeal.nD → PrngReg), Pre_CFwdRefIdeal m →
    θ_run (Cert.CFwdRefIdeal.defs (F := Ideal)) (onTc (τ := Cert.CFwdRefIdeal.τ) (Cert.CFwdRefIdeal.main (F := Ideal))) ⟨m, fun _ => 0, g⟩ (fun r => (∀ c : Dev Cert.CFwdRefIdeal.nD,
      r.2.mem ((c.tc : Thread Cert.CFwdRefIdeal.nD Cert.CFwdRefIdeal.τ).loc Cert.CFwdRefIdeal.main_arg0) = m ((c.tc : Thread Cert.CFwdRefIdeal.nD Cert.CFwdRefIdeal.τ).loc Cert.CFwdRefIdeal.main_arg0)
      ∧ r.2.mem ((c.tc : Thread Cert.CFwdRefIdeal.nD Cert.CFwdRefIdeal.τ).loc Cert.CFwdRefIdeal.main_arg1) = m ((c.tc : Thread Cert.CFwdRefIdeal.nD Cert.CFwdRefIdeal.τ).loc Cert.CFwdRefIdeal.main_arg1))
      ∧ r.2.sem = fun _ => 0)

def quiescent_PIn [hPIn : Cert.PIn.Facts] : Prop :=
  ∀ (m : (ℓ : Loc Cert.PIn.nD Cert.PIn.τ Cert.PIn.sig) → Buf (Elt Bits) ℓ) (g : Dev Cert.PIn.nD → PrngReg), Pre_PIn m →
    θ_run (Cert.PIn.defs (F := Bits)) (onTc (τ := Cert.PIn.τ) (Cert.PIn.main (F := Bits))) ⟨m, fun _ => 0, g⟩ (fun r => (∀ c : Dev Cert.PIn.nD,
      r.2.mem ((c.tc : Thread Cert.PIn.nD Cert.PIn.τ).loc Cert.PIn.main_arg0) = m ((c.tc : Thread Cert.PIn.nD Cert.PIn.τ).loc Cert.PIn.main_arg0)
      ∧ r.2.mem ((c.tc : Thread Cert.PIn.nD Cert.PIn.τ).loc Cert.PIn.main_arg1) = m ((c.tc : Thread Cert.PIn.nD Cert.PIn.τ).loc Cert.PIn.main_arg1))
      ∧ r.2.sem = fun _ => 0)

def quiescent_PInIdeal [hPInIdeal : Cert.PInIdeal.Facts] : Prop :=
  ∀ (m : (ℓ : Loc Cert.PInIdeal.nD Cert.PInIdeal.τ Cert.PInIdeal.sig) → Buf (Elt Ideal) ℓ) (g : Dev Cert.PInIdeal.nD → PrngReg), Pre_PInIdeal m →
    θ_run (Cert.PInIdeal.defs (F := Ideal)) (onTc (τ := Cert.PInIdeal.τ) (Cert.PInIdeal.main (F := Ideal))) ⟨m, fun _ => 0, g⟩ (fun r => (∀ c : Dev Cert.PInIdeal.nD,
      r.2.mem ((c.tc : Thread Cert.PInIdeal.nD Cert.PInIdeal.τ).loc Cert.PInIdeal.main_arg0) = m ((c.tc : Thread Cert.PInIdeal.nD Cert.PInIdeal.τ).loc Cert.PInIdeal.main_arg0)
      ∧ r.2.mem ((c.tc : Thread Cert.PInIdeal.nD Cert.PInIdeal.τ).loc Cert.PInIdeal.main_arg1) = m ((c.tc : Thread Cert.PInIdeal.nD Cert.PInIdeal.τ).loc Cert.PInIdeal.main_arg1))
      ∧ r.2.sem = fun _ => 0)

def quiescent_PInRefIdeal [hPInRefIdeal : Cert.PInRefIdeal.Facts] : Prop :=
  ∀ (m : (ℓ : Loc Cert.PInRefIdeal.nD Cert.PInRefIdeal.τ Cert.PInRefIdeal.sig) → Buf (Elt Ideal) ℓ) (g : Dev Cert.PInRefIdeal.nD → PrngReg), Pre_PInRefIdeal m →
    θ_run (Cert.PInRefIdeal.defs (F := Ideal)) (onTc (τ := Cert.PInRefIdeal.τ) (Cert.PInRefIdeal.main (F := Ideal))) ⟨m, fun _ => 0, g⟩ (fun r => (∀ c : Dev Cert.PInRefIdeal.nD,
      r.2.mem ((c.tc : Thread Cert.PInRefIdeal.nD Cert.PInRefIdeal.τ).loc Cert.PInRefIdeal.main_arg0) = m ((c.tc : Thread Cert.PInRefIdeal.nD Cert.PInRefIdeal.τ).loc Cert.PInRefIdeal.main_arg0)
      ∧ r.2.mem ((c.tc : Thread Cert.PInRefIdeal.nD Cert.PInRefIdeal.τ).loc Cert.PInRefIdeal.main_arg1) = m ((c.tc : Thread Cert.PInRefIdeal.nD Cert.PInRefIdeal.τ).loc Cert.PInRefIdeal.main_arg1))
      ∧ r.2.sem = fun _ => 0)

def quiescent_PK [hPK : Cert.PK.Facts] : Prop :=
  ∀ (m : (ℓ : Loc Cert.PK.nD Cert.PK.τ Cert.PK.sig) → Buf (Elt Bits) ℓ) (g : Dev Cert.PK.nD → PrngReg), Pre_PK m →
    θ_run (Cert.PK.defs (F := Bits)) (onTc (τ := Cert.PK.τ) (Cert.PK.main (F := Bits))) ⟨m, fun _ => 0, g⟩ (fun r => (∀ c : Dev Cert.PK.nD,
      r.2.mem ((c.tc : Thread Cert.PK.nD Cert.PK.τ).loc Cert.PK.main_arg0) = m ((c.tc : Thread Cert.PK.nD Cert.PK.τ).loc Cert.PK.main_arg0)
      ∧ r.2.mem ((c.tc : Thread Cert.PK.nD Cert.PK.τ).loc Cert.PK.main_arg1) = m ((c.tc : Thread Cert.PK.nD Cert.PK.τ).loc Cert.PK.main_arg1))
      ∧ r.2.sem = fun _ => 0)

def quiescent_PKIdeal [hPKIdeal : Cert.PKIdeal.Facts] : Prop :=
  ∀ (m : (ℓ : Loc Cert.PKIdeal.nD Cert.PKIdeal.τ Cert.PKIdeal.sig) → Buf (Elt Ideal) ℓ) (g : Dev Cert.PKIdeal.nD → PrngReg), Pre_PKIdeal m →
    θ_run (Cert.PKIdeal.defs (F := Ideal)) (onTc (τ := Cert.PKIdeal.τ) (Cert.PKIdeal.main (F := Ideal))) ⟨m, fun _ => 0, g⟩ (fun r => (∀ c : Dev Cert.PKIdeal.nD,
      r.2.mem ((c.tc : Thread Cert.PKIdeal.nD Cert.PKIdeal.τ).loc Cert.PKIdeal.main_arg0) = m ((c.tc : Thread Cert.PKIdeal.nD Cert.PKIdeal.τ).loc Cert.PKIdeal.main_arg0)
      ∧ r.2.mem ((c.tc : Thread Cert.PKIdeal.nD Cert.PKIdeal.τ).loc Cert.PKIdeal.main_arg1) = m ((c.tc : Thread Cert.PKIdeal.nD Cert.PKIdeal.τ).loc Cert.PKIdeal.main_arg1))
      ∧ r.2.sem = fun _ => 0)

def quiescent_PKRefIdeal [hPKRefIdeal : Cert.PKRefIdeal.Facts] : Prop :=
  ∀ (m : (ℓ : Loc Cert.PKRefIdeal.nD Cert.PKRefIdeal.τ Cert.PKRefIdeal.sig) → Buf (Elt Ideal) ℓ) (g : Dev Cert.PKRefIdeal.nD → PrngReg), Pre_PKRefIdeal m →
    θ_run (Cert.PKRefIdeal.defs (F := Ideal)) (onTc (τ := Cert.PKRefIdeal.τ) (Cert.PKRefIdeal.main (F := Ideal))) ⟨m, fun _ => 0, g⟩ (fun r => (∀ c : Dev Cert.PKRefIdeal.nD,
      r.2.mem ((c.tc : Thread Cert.PKRefIdeal.nD Cert.PKRefIdeal.τ).loc Cert.PKRefIdeal.main_arg0) = m ((c.tc : Thread Cert.PKRefIdeal.nD Cert.PKRefIdeal.τ).loc Cert.PKRefIdeal.main_arg0)
      ∧ r.2.mem ((c.tc : Thread Cert.PKRefIdeal.nD Cert.PKRefIdeal.τ).loc Cert.PKRefIdeal.main_arg1) = m ((c.tc : Thread Cert.PKRefIdeal.nD Cert.PKRefIdeal.τ).loc Cert.PKRefIdeal.main_arg1))
      ∧ r.2.sem = fun _ => 0)

def quiescent_PQ [hPQ : Cert.PQ.Facts] : Prop :=
  ∀ (m : (ℓ : Loc Cert.PQ.nD Cert.PQ.τ Cert.PQ.sig) → Buf (Elt Bits) ℓ) (g : Dev Cert.PQ.nD → PrngReg), Pre_PQ m →
    θ_run (Cert.PQ.defs (F := Bits)) (onTc (τ := Cert.PQ.τ) (Cert.PQ.main (F := Bits))) ⟨m, fun _ => 0, g⟩ (fun r => (∀ c : Dev Cert.PQ.nD,
      r.2.mem ((c.tc : Thread Cert.PQ.nD Cert.PQ.τ).loc Cert.PQ.main_arg0) = m ((c.tc : Thread Cert.PQ.nD Cert.PQ.τ).loc Cert.PQ.main_arg0)
      ∧ r.2.mem ((c.tc : Thread Cert.PQ.nD Cert.PQ.τ).loc Cert.PQ.main_arg1) = m ((c.tc : Thread Cert.PQ.nD Cert.PQ.τ).loc Cert.PQ.main_arg1))
      ∧ r.2.sem = fun _ => 0)

def quiescent_PQIdeal [hPQIdeal : Cert.PQIdeal.Facts] : Prop :=
  ∀ (m : (ℓ : Loc Cert.PQIdeal.nD Cert.PQIdeal.τ Cert.PQIdeal.sig) → Buf (Elt Ideal) ℓ) (g : Dev Cert.PQIdeal.nD → PrngReg), Pre_PQIdeal m →
    θ_run (Cert.PQIdeal.defs (F := Ideal)) (onTc (τ := Cert.PQIdeal.τ) (Cert.PQIdeal.main (F := Ideal))) ⟨m, fun _ => 0, g⟩ (fun r => (∀ c : Dev Cert.PQIdeal.nD,
      r.2.mem ((c.tc : Thread Cert.PQIdeal.nD Cert.PQIdeal.τ).loc Cert.PQIdeal.main_arg0) = m ((c.tc : Thread Cert.PQIdeal.nD Cert.PQIdeal.τ).loc Cert.PQIdeal.main_arg0)
      ∧ r.2.mem ((c.tc : Thread Cert.PQIdeal.nD Cert.PQIdeal.τ).loc Cert.PQIdeal.main_arg1) = m ((c.tc : Thread Cert.PQIdeal.nD Cert.PQIdeal.τ).loc Cert.PQIdeal.main_arg1))
      ∧ r.2.sem = fun _ => 0)

def quiescent_PQRefIdeal [hPQRefIdeal : Cert.PQRefIdeal.Facts] : Prop :=
  ∀ (m : (ℓ : Loc Cert.PQRefIdeal.nD Cert.PQRefIdeal.τ Cert.PQRefIdeal.sig) → Buf (Elt Ideal) ℓ) (g : Dev Cert.PQRefIdeal.nD → PrngReg), Pre_PQRefIdeal m →
    θ_run (Cert.PQRefIdeal.defs (F := Ideal)) (onTc (τ := Cert.PQRefIdeal.τ) (Cert.PQRefIdeal.main (F := Ideal))) ⟨m, fun _ => 0, g⟩ (fun r => (∀ c : Dev Cert.PQRefIdeal.nD,
      r.2.mem ((c.tc : Thread Cert.PQRefIdeal.nD Cert.PQRefIdeal.τ).loc Cert.PQRefIdeal.main_arg0) = m ((c.tc : Thread Cert.PQRefIdeal.nD Cert.PQRefIdeal.τ).loc Cert.PQRefIdeal.main_arg0)
      ∧ r.2.mem ((c.tc : Thread Cert.PQRefIdeal.nD Cert.PQRefIdeal.τ).loc Cert.PQRefIdeal.main_arg1) = m ((c.tc : Thread Cert.PQRefIdeal.nD Cert.PQRefIdeal.τ).loc Cert.PQRefIdeal.main_arg1))
      ∧ r.2.sem = fun _ => 0)

def quiescent_PF [hPF : Cert.PF.Facts] : Prop :=
  ∀ (m : (ℓ : Loc Cert.PF.nD Cert.PF.τ Cert.PF.sig) → Buf (Elt Bits) ℓ) (g : Dev Cert.PF.nD → PrngReg), Pre_PF m →
    θ_run (Cert.PF.defs (F := Bits)) (onTc (τ := Cert.PF.τ) (Cert.PF.main (F := Bits))) ⟨m, fun _ => 0, g⟩ (fun r => (∀ c : Dev Cert.PF.nD,
      r.2.mem ((c.tc : Thread Cert.PF.nD Cert.PF.τ).loc Cert.PF.main_arg0) = m ((c.tc : Thread Cert.PF.nD Cert.PF.τ).loc Cert.PF.main_arg0)
      ∧ r.2.mem ((c.tc : Thread Cert.PF.nD Cert.PF.τ).loc Cert.PF.main_arg1) = m ((c.tc : Thread Cert.PF.nD Cert.PF.τ).loc Cert.PF.main_arg1))
      ∧ r.2.sem = fun _ => 0)

def quiescent_PFIdeal [hPFIdeal : Cert.PFIdeal.Facts] : Prop :=
  ∀ (m : (ℓ : Loc Cert.PFIdeal.nD Cert.PFIdeal.τ Cert.PFIdeal.sig) → Buf (Elt Ideal) ℓ) (g : Dev Cert.PFIdeal.nD → PrngReg), Pre_PFIdeal m →
    θ_run (Cert.PFIdeal.defs (F := Ideal)) (onTc (τ := Cert.PFIdeal.τ) (Cert.PFIdeal.main (F := Ideal))) ⟨m, fun _ => 0, g⟩ (fun r => (∀ c : Dev Cert.PFIdeal.nD,
      r.2.mem ((c.tc : Thread Cert.PFIdeal.nD Cert.PFIdeal.τ).loc Cert.PFIdeal.main_arg0) = m ((c.tc : Thread Cert.PFIdeal.nD Cert.PFIdeal.τ).loc Cert.PFIdeal.main_arg0)
      ∧ r.2.mem ((c.tc : Thread Cert.PFIdeal.nD Cert.PFIdeal.τ).loc Cert.PFIdeal.main_arg1) = m ((c.tc : Thread Cert.PFIdeal.nD Cert.PFIdeal.τ).loc Cert.PFIdeal.main_arg1))
      ∧ r.2.sem = fun _ => 0)

def quiescent_PFRefIdeal [hPFRefIdeal : Cert.PFRefIdeal.Facts] : Prop :=
  ∀ (m : (ℓ : Loc Cert.PFRefIdeal.nD Cert.PFRefIdeal.τ Cert.PFRefIdeal.sig) → Buf (Elt Ideal) ℓ) (g : Dev Cert.PFRefIdeal.nD → PrngReg), Pre_PFRefIdeal m →
    θ_run (Cert.PFRefIdeal.defs (F := Ideal)) (onTc (τ := Cert.PFRefIdeal.τ) (Cert.PFRefIdeal.main (F := Ideal))) ⟨m, fun _ => 0, g⟩ (fun r => (∀ c : Dev Cert.PFRefIdeal.nD,
      r.2.mem ((c.tc : Thread Cert.PFRefIdeal.nD Cert.PFRefIdeal.τ).loc Cert.PFRefIdeal.main_arg0) = m ((c.tc : Thread Cert.PFRefIdeal.nD Cert.PFRefIdeal.τ).loc Cert.PFRefIdeal.main_arg0)
      ∧ r.2.mem ((c.tc : Thread Cert.PFRefIdeal.nD Cert.PFRefIdeal.τ).loc Cert.PFRefIdeal.main_arg1) = m ((c.tc : Thread Cert.PFRefIdeal.nD Cert.PFRefIdeal.τ).loc Cert.PFRefIdeal.main_arg1))
      ∧ r.2.sem = fun _ => 0)

def quiescent_AdSq [hAdSq : Cert.AdSq.Facts] : Prop :=
  ∀ (m : (ℓ : Loc Cert.AdSq.nD Cert.AdSq.τ Cert.AdSq.sig) → Buf (Elt Bits) ℓ) (g : Dev Cert.AdSq.nD → PrngReg), Pre_AdSq m →
    θ_run (Cert.AdSq.defs (F := Bits)) (onTc (τ := Cert.AdSq.τ) (Cert.AdSq.main (F := Bits))) ⟨m, fun _ => 0, g⟩ (fun r => (∀ c : Dev Cert.AdSq.nD,
      r.2.mem ((c.tc : Thread Cert.AdSq.nD Cert.AdSq.τ).loc Cert.AdSq.main_arg0) = m ((c.tc : Thread Cert.AdSq.nD Cert.AdSq.τ).loc Cert.AdSq.main_arg0)
      ∧ r.2.mem ((c.tc : Thread Cert.AdSq.nD Cert.AdSq.τ).loc Cert.AdSq.main_arg1) = m ((c.tc : Thread Cert.AdSq.nD Cert.AdSq.τ).loc Cert.AdSq.main_arg1)
      ∧ r.2.mem ((c.tc : Thread Cert.AdSq.nD Cert.AdSq.τ).loc Cert.AdSq.main_arg2) = m ((c.tc : Thread Cert.AdSq.nD Cert.AdSq.τ).loc Cert.AdSq.main_arg2)
      ∧ r.2.mem ((c.tc : Thread Cert.AdSq.nD Cert.AdSq.τ).loc Cert.AdSq.main_arg3) = m ((c.tc : Thread Cert.AdSq.nD Cert.AdSq.τ).loc Cert.AdSq.main_arg3))
      ∧ r.2.sem = fun _ => 0)

def quiescent_AdSqIdeal [hAdSqIdeal : Cert.AdSqIdeal.Facts] : Prop :=
  ∀ (m : (ℓ : Loc Cert.AdSqIdeal.nD Cert.AdSqIdeal.τ Cert.AdSqIdeal.sig) → Buf (Elt Ideal) ℓ) (g : Dev Cert.AdSqIdeal.nD → PrngReg), Pre_AdSqIdeal m →
    θ_run (Cert.AdSqIdeal.defs (F := Ideal)) (onTc (τ := Cert.AdSqIdeal.τ) (Cert.AdSqIdeal.main (F := Ideal))) ⟨m, fun _ => 0, g⟩ (fun r => (∀ c : Dev Cert.AdSqIdeal.nD,
      r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
      ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
      ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
      ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ r.2.sem = fun _ => 0)

def quiescent_AdSqRefIdeal [hAdSqRefIdeal : Cert.AdSqRefIdeal.Facts] : Prop :=
  ∀ (m : (ℓ : Loc Cert.AdSqRefIdeal.nD Cert.AdSqRefIdeal.τ Cert.AdSqRefIdeal.sig) → Buf (Elt Ideal) ℓ) (g : Dev Cert.AdSqRefIdeal.nD → PrngReg), Pre_AdSqRefIdeal m →
    θ_run (Cert.AdSqRefIdeal.defs (F := Ideal)) (onTc (τ := Cert.AdSqRefIdeal.τ) (Cert.AdSqRefIdeal.main (F := Ideal))) ⟨m, fun _ => 0, g⟩ (fun r => (∀ c : Dev Cert.AdSqRefIdeal.nD,
      r.2.mem ((c.tc : Thread Cert.AdSqRefIdeal.nD Cert.AdSqRefIdeal.τ).loc Cert.AdSqRefIdeal.main_arg0) = m ((c.tc : Thread Cert.AdSqRefIdeal.nD Cert.AdSqRefIdeal.τ).loc Cert.AdSqRefIdeal.main_arg0)
      ∧ r.2.mem ((c.tc : Thread Cert.AdSqRefIdeal.nD Cert.AdSqRefIdeal.τ).loc Cert.AdSqRefIdeal.main_arg1) = m ((c.tc : Thread Cert.AdSqRefIdeal.nD Cert.AdSqRefIdeal.τ).loc Cert.AdSqRefIdeal.main_arg1)
      ∧ r.2.mem ((c.tc : Thread Cert.AdSqRefIdeal.nD Cert.AdSqRefIdeal.τ).loc Cert.AdSqRefIdeal.main_arg2) = m ((c.tc : Thread Cert.AdSqRefIdeal.nD Cert.AdSqRefIdeal.τ).loc Cert.AdSqRefIdeal.main_arg2)
      ∧ r.2.mem ((c.tc : Thread Cert.AdSqRefIdeal.nD Cert.AdSqRefIdeal.τ).loc Cert.AdSqRefIdeal.main_arg3) = m ((c.tc : Thread Cert.AdSqRefIdeal.nD Cert.AdSqRefIdeal.τ).loc Cert.AdSqRefIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdKv [hAdKv : Cert.AdKv.Facts] : Prop :=
  ∀ (m : (ℓ : Loc Cert.AdKv.nD Cert.AdKv.τ Cert.AdKv.sig) → Buf (Elt Bits) ℓ) (g : Dev Cert.AdKv.nD → PrngReg), Pre_AdKv m →
    θ_run (Cert.AdKv.defs (F := Bits)) (onTc (τ := Cert.AdKv.τ) (Cert.AdKv.main (F := Bits))) ⟨m, fun _ => 0, g⟩ (fun r => (∀ c : Dev Cert.AdKv.nD,
      r.2.mem ((c.tc : Thread Cert.AdKv.nD Cert.AdKv.τ).loc Cert.AdKv.main_arg0) = m ((c.tc : Thread Cert.AdKv.nD Cert.AdKv.τ).loc Cert.AdKv.main_arg0)
      ∧ r.2.mem ((c.tc : Thread Cert.AdKv.nD Cert.AdKv.τ).loc Cert.AdKv.main_arg1) = m ((c.tc : Thread Cert.AdKv.nD Cert.AdKv.τ).loc Cert.AdKv.main_arg1)
      ∧ r.2.mem ((c.tc : Thread Cert.AdKv.nD Cert.AdKv.τ).loc Cert.AdKv.main_arg2) = m ((c.tc : Thread Cert.AdKv.nD Cert.AdKv.τ).loc Cert.AdKv.main_arg2)
      ∧ r.2.mem ((c.tc : Thread Cert.AdKv.nD Cert.AdKv.τ).loc Cert.AdKv.main_arg3) = m ((c.tc : Thread Cert.AdKv.nD Cert.AdKv.τ).loc Cert.AdKv.main_arg3))
      ∧ r.2.sem = fun _ => 0)

def quiescent_AdKvIdeal [hAdKvIdeal : Cert.AdKvIdeal.Facts] : Prop :=
  ∀ (m : (ℓ : Loc Cert.AdKvIdeal.nD Cert.AdKvIdeal.τ Cert.AdKvIdeal.sig) → Buf (Elt Ideal) ℓ) (g : Dev Cert.AdKvIdeal.nD → PrngReg), Pre_AdKvIdeal m →
    θ_run (Cert.AdKvIdeal.defs (F := Ideal)) (onTc (τ := Cert.AdKvIdeal.τ) (Cert.AdKvIdeal.main (F := Ideal))) ⟨m, fun _ => 0, g⟩ (fun r => (∀ c : Dev Cert.AdKvIdeal.nD,
      r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
      ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
      ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
      ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ r.2.sem = fun _ => 0)

def quiescent_AdKvRefIdeal [hAdKvRefIdeal : Cert.AdKvRefIdeal.Facts] : Prop :=
  ∀ (m : (ℓ : Loc Cert.AdKvRefIdeal.nD Cert.AdKvRefIdeal.τ Cert.AdKvRefIdeal.sig) → Buf (Elt Ideal) ℓ) (g : Dev Cert.AdKvRefIdeal.nD → PrngReg), Pre_AdKvRefIdeal m →
    θ_run (Cert.AdKvRefIdeal.defs (F := Ideal)) (onTc (τ := Cert.AdKvRefIdeal.τ) (Cert.AdKvRefIdeal.main (F := Ideal))) ⟨m, fun _ => 0, g⟩ (fun r => (∀ c : Dev Cert.AdKvRefIdeal.nD,
      r.2.mem ((c.tc : Thread Cert.AdKvRefIdeal.nD Cert.AdKvRefIdeal.τ).loc Cert.AdKvRefIdeal.main_arg0) = m ((c.tc : Thread Cert.AdKvRefIdeal.nD Cert.AdKvRefIdeal.τ).loc Cert.AdKvRefIdeal.main_arg0)
      ∧ r.2.mem ((c.tc : Thread Cert.AdKvRefIdeal.nD Cert.AdKvRefIdeal.τ).loc Cert.AdKvRefIdeal.main_arg1) = m ((c.tc : Thread Cert.AdKvRefIdeal.nD Cert.AdKvRefIdeal.τ).loc Cert.AdKvRefIdeal.main_arg1)
      ∧ r.2.mem ((c.tc : Thread Cert.AdKvRefIdeal.nD Cert.AdKvRefIdeal.τ).loc Cert.AdKvRefIdeal.main_arg2) = m ((c.tc : Thread Cert.AdKvRefIdeal.nD Cert.AdKvRefIdeal.τ).loc Cert.AdKvRefIdeal.main_arg2)
      ∧ r.2.mem ((c.tc : Thread Cert.AdKvRefIdeal.nD Cert.AdKvRefIdeal.τ).loc Cert.AdKvRefIdeal.main_arg3) = m ((c.tc : Thread Cert.AdKvRefIdeal.nD Cert.AdKvRefIdeal.τ).loc Cert.AdKvRefIdeal.main_arg3))
      ∧ r.2.sem = fun _ => 0)

def quiescent_AdSm [hAdSm : Cert.AdSm.Facts] : Prop :=
  ∀ (m : (ℓ : Loc Cert.AdSm.nD Cert.AdSm.τ Cert.AdSm.sig) → Buf (Elt Bits) ℓ) (g : Dev Cert.AdSm.nD → PrngReg), Pre_AdSm m →
    θ_run (Cert.AdSm.defs (F := Bits)) (onTc (τ := Cert.AdSm.τ) (Cert.AdSm.main (F := Bits))) ⟨m, fun _ => 0, g⟩ (fun r => (∀ c : Dev Cert.AdSm.nD,
      r.2.mem ((c.tc : Thread Cert.AdSm.nD Cert.AdSm.τ).loc Cert.AdSm.main_arg0) = m ((c.tc : Thread Cert.AdSm.nD Cert.AdSm.τ).loc Cert.AdSm.main_arg0)
      ∧ r.2.mem ((c.tc : Thread Cert.AdSm.nD Cert.AdSm.τ).loc Cert.AdSm.main_arg1) = m ((c.tc : Thread Cert.AdSm.nD Cert.AdSm.τ).loc Cert.AdSm.main_arg1)
      ∧ r.2.mem ((c.tc : Thread Cert.AdSm.nD Cert.AdSm.τ).loc Cert.AdSm.main_arg2) = m ((c.tc : Thread Cert.AdSm.nD Cert.AdSm.τ).loc Cert.AdSm.main_arg2)
      ∧ r.2.mem ((c.tc : Thread Cert.AdSm.nD Cert.AdSm.τ).loc Cert.AdSm.main_arg3) = m ((c.tc : Thread Cert.AdSm.nD Cert.AdSm.τ).loc Cert.AdSm.main_arg3))
      ∧ r.2.sem = fun _ => 0)

def quiescent_AdSmIdeal [hAdSmIdeal : Cert.AdSmIdeal.Facts] : Prop :=
  ∀ (m : (ℓ : Loc Cert.AdSmIdeal.nD Cert.AdSmIdeal.τ Cert.AdSmIdeal.sig) → Buf (Elt Ideal) ℓ) (g : Dev Cert.AdSmIdeal.nD → PrngReg), Pre_AdSmIdeal m →
    θ_run (Cert.AdSmIdeal.defs (F := Ideal)) (onTc (τ := Cert.AdSmIdeal.τ) (Cert.AdSmIdeal.main (F := Ideal))) ⟨m, fun _ => 0, g⟩ (fun r => (∀ c : Dev Cert.AdSmIdeal.nD,
      r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
      ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
      ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
      ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3))
      ∧ r.2.sem = fun _ => 0)

def quiescent_AdSmRefIdeal [hAdSmRefIdeal : Cert.AdSmRefIdeal.Facts] : Prop :=
  ∀ (m : (ℓ : Loc Cert.AdSmRefIdeal.nD Cert.AdSmRefIdeal.τ Cert.AdSmRefIdeal.sig) → Buf (Elt Ideal) ℓ) (g : Dev Cert.AdSmRefIdeal.nD → PrngReg), Pre_AdSmRefIdeal m →
    θ_run (Cert.AdSmRefIdeal.defs (F := Ideal)) (onTc (τ := Cert.AdSmRefIdeal.τ) (Cert.AdSmRefIdeal.main (F := Ideal))) ⟨m, fun _ => 0, g⟩ (fun r => (∀ c : Dev Cert.AdSmRefIdeal.nD,
      r.2.mem ((c.tc : Thread Cert.AdSmRefIdeal.nD Cert.AdSmRefIdeal.τ).loc Cert.AdSmRefIdeal.main_arg0) = m ((c.tc : Thread Cert.AdSmRefIdeal.nD Cert.AdSmRefIdeal.τ).loc Cert.AdSmRefIdeal.main_arg0)
      ∧ r.2.mem ((c.tc : Thread Cert.AdSmRefIdeal.nD Cert.AdSmRefIdeal.τ).loc Cert.AdSmRefIdeal.main_arg1) = m ((c.tc : Thread Cert.AdSmRefIdeal.nD Cert.AdSmRefIdeal.τ).loc Cert.AdSmRefIdeal.main_arg1)
      ∧ r.2.mem ((c.tc : Thread Cert.AdSmRefIdeal.nD Cert.AdSmRefIdeal.τ).loc Cert.AdSmRefIdeal.main_arg2) = m ((c.tc : Thread Cert.AdSmRefIdeal.nD Cert.AdSmRefIdeal.τ).loc Cert.AdSmRefIdeal.main_arg2)
      ∧ r.2.mem ((c.tc : Thread Cert.AdSmRefIdeal.nD Cert.AdSmRefIdeal.τ).loc Cert.AdSmRefIdeal.main_arg3) = m ((c.tc : Thread Cert.AdSmRefIdeal.nD Cert.AdSmRefIdeal.τ).loc Cert.AdSmRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v59) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v10_0)) (v1 : (c : Dev Cert.ActIdeal.nD) → Buf (Elt Ideal) ((c.tc : Thread Cert.ActIdeal.nD Cert.ActIdeal.τ).loc Cert.ActIdeal.main_v10_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v10_0) = v0 c
          ∧ r.2.mem ((c.tc : Thread Cert.ActIdeal.nD Cert.ActIdeal.τ).loc Cert.ActIdeal.main_v10_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_v18) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Dx_DxIdeal : Prop :=
  True

def algebraic_DxIdeal_DxRefIdeal_pre_dx_finite [hDxIdeal : Cert.DxIdeal.Facts] [hDxRefIdeal : Cert.DxRefIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dx_finite m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v15_0)) (v1 : (c : Dev Cert.DxIdeal.nD) → Buf (Elt Ideal) ((c.tc : Thread Cert.DxIdeal.nD Cert.DxIdeal.τ).loc Cert.DxIdeal.main_v15_1)) (v2 : (c : Dev Cert.DxIdeal.nD) → Buf (Elt Ideal) ((c.tc : Thread Cert.DxIdeal.nD Cert.DxIdeal.τ).loc Cert.DxIdeal.main_v15_2)) (v3 : (c : Dev Cert.DxIdeal.nD) → Buf (Elt Ideal) ((c.tc : Thread Cert.DxIdeal.nD Cert.DxIdeal.τ).loc Cert.DxIdeal.main_v15_3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v15_0) = v0 c
          ∧ r.2.mem ((c.tc : Thread Cert.DxIdeal.nD Cert.DxIdeal.τ).loc Cert.DxIdeal.main_v15_1) = v1 c
          ∧ r.2.mem ((c.tc : Thread Cert.DxIdeal.nD Cert.DxIdeal.τ).loc Cert.DxIdeal.main_v15_2) = v2 c
          ∧ r.2.mem ((c.tc : Thread Cert.DxIdeal.nD Cert.DxIdeal.τ).loc Cert.DxIdeal.main_v15_3) = v3 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v76) = v0 c
          ∧ r.2.mem ((c.tc : Thread Cert.DxRefIdeal.nD Cert.DxRefIdeal.τ).loc Cert.DxRefIdeal.main_v77) = v1 c
          ∧ r.2.mem ((c.tc : Thread Cert.DxRefIdeal.nD Cert.DxRefIdeal.τ).loc Cert.DxRefIdeal.main_v78) = v2 c
          ∧ r.2.mem ((c.tc : Thread Cert.DxRefIdeal.nD Cert.DxRefIdeal.τ).loc Cert.DxRefIdeal.main_v79) = v3 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_FGate_FGateIdeal : Prop :=
  True

def algebraic_FGateIdeal_FGateRefIdeal [hFGateIdeal : Cert.FGateIdeal.Facts] [hFGateRefIdeal : Cert.FGateRefIdeal.Facts] : Prop :=
  ∀ (m : (ℓ : Loc Cert.FGateIdeal.nD Cert.FGateIdeal.τ Cert.FGateIdeal.sig) → Buf (Elt Ideal) ℓ) (g : Dev Cert.FGateIdeal.nD → PrngReg)
    (m' : (ℓ : Loc Cert.FGateRefIdeal.nD Cert.FGateRefIdeal.τ Cert.FGateRefIdeal.sig) → Buf (Elt Ideal) ℓ) (g' : Dev Cert.FGateRefIdeal.nD → PrngReg), Pre_FGateIdeal m →
    (∀ c : Dev Cert.FGateIdeal.nD,
      m' ((c.tc : Thread Cert.FGateRefIdeal.nD Cert.FGateRefIdeal.τ).loc Cert.FGateRefIdeal.main_arg0) = m ((c.tc : Thread Cert.FGateIdeal.nD Cert.FGateIdeal.τ).loc Cert.FGateIdeal.main_arg0)
      ∧ m' ((c.tc : Thread Cert.FGateRefIdeal.nD Cert.FGateRefIdeal.τ).loc Cert.FGateRefIdeal.main_arg1) = m ((c.tc : Thread Cert.FGateIdeal.nD Cert.FGateIdeal.τ).loc Cert.FGateIdeal.main_arg1)
      ∧ m' ((c.tc : Thread Cert.FGateRefIdeal.nD Cert.FGateRefIdeal.τ).loc Cert.FGateRefIdeal.main_arg2) = m ((c.tc : Thread Cert.FGateIdeal.nD Cert.FGateIdeal.τ).loc Cert.FGateIdeal.main_arg2)) →
    ∃ (v0 : (c : Dev Cert.FGateIdeal.nD) → Buf (Elt Ideal) ((c.tc : Thread Cert.FGateIdeal.nD Cert.FGateIdeal.τ).loc Cert.FGateIdeal.main_v4_0)) (v1 : (c : Dev Cert.FGateIdeal.nD) → Buf (Elt Ideal) ((c.tc : Thread Cert.FGateIdeal.nD Cert.FGateIdeal.τ).loc Cert.FGateIdeal.main_v4_1)),
      θ_run (Cert.FGateIdeal.defs (F := Ideal)) (onTc (τ := Cert.FGateIdeal.τ) (Cert.FGateIdeal.main (F := Ideal))) ⟨m, fun _ => 0, g⟩ (fun r => ∀ c : Dev Cert.FGateIdeal.nD,
          r.2.mem ((c.tc : Thread Cert.FGateIdeal.nD Cert.FGateIdeal.τ).loc Cert.FGateIdeal.main_v4_0) = v0 c
          ∧ r.2.mem ((c.tc : Thread Cert.FGateIdeal.nD Cert.FGateIdeal.τ).loc Cert.FGateIdeal.main_v4_1) = v1 c
          ∧ r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
          ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
          ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2))
      ∧ θ_run (Cert.FGateRefIdeal.defs (F := Ideal)) (onTc (τ := Cert.FGateRefIdeal.τ) (Cert.FGateRefIdeal.main (F := Ideal))) ⟨m', fun _ => 0, g'⟩ (fun r => ∀ c : Dev Cert.FGateRefIdeal.nD,
          r.2.mem ((c.tc : Thread Cert.FGateRefIdeal.nD Cert.FGateRefIdeal.τ).loc Cert.FGateRefIdeal.main_v16) = v0 c
          ∧ r.2.mem ((c.tc : Thread Cert.FGateRefIdeal.nD Cert.FGateRefIdeal.τ).loc Cert.FGateRefIdeal.main_v15) = v1 c
          ∧ r.2.mem ((c.tc : Thread Cert.FGateRefIdeal.nD Cert.FGateRefIdeal.τ).loc Cert.FGateRefIdeal.main_arg0) = m' ((c.tc : Thread Cert.FGateRefIdeal.nD Cert.FGateRefIdeal.τ).loc Cert.FGateRefIdeal.main_arg0)
          ∧ r.2.mem ((c.tc : Thread Cert.FGateRefIdeal.nD Cert.FGateRefIdeal.τ).loc Cert.FGateRefIdeal.main_arg1) = m' ((c.tc : Thread Cert.FGateRefIdeal.nD Cert.FGateRefIdeal.τ).loc Cert.FGateRefIdeal.main_arg1)
          ∧ r.2.mem ((c.tc : Thread Cert.FGateRefIdeal.nD Cert.FGateRefIdeal.τ).loc Cert.FGateRefIdeal.main_arg2) = m' ((c.tc : Thread Cert.FGateRefIdeal.nD Cert.FGateRefIdeal.τ).loc Cert.FGateRefIdeal.main_arg2))

def preserves_RSum_RSumIdeal : Prop :=
  True

def algebraic_RSumIdeal_RSumRefIdeal [hRSumIdeal : Cert.RSumIdeal.Facts] [hRSumRefIdeal : Cert.RSumRefIdeal.Facts] : Prop :=
  ∀ (m : (ℓ : Loc Cert.RSumIdeal.nD Cert.RSumIdeal.τ Cert.RSumIdeal.sig) → Buf (Elt Ideal) ℓ) (g : Dev Cert.RSumIdeal.nD → PrngReg)
    (m' : (ℓ : Loc Cert.RSumRefIdeal.nD Cert.RSumRefIdeal.τ Cert.RSumRefIdeal.sig) → Buf (Elt Ideal) ℓ) (g' : Dev Cert.RSumRefIdeal.nD → PrngReg), Pre_RSumIdeal m →
    (∀ c : Dev Cert.RSumIdeal.nD,
      m' ((c.tc : Thread Cert.RSumRefIdeal.nD Cert.RSumRefIdeal.τ).loc Cert.RSumRefIdeal.main_arg0) = m ((c.tc : Thread Cert.RSumIdeal.nD Cert.RSumIdeal.τ).loc Cert.RSumIdeal.main_arg0)) →
    ∃ (v0 : (c : Dev Cert.RSumIdeal.nD) → Buf (Elt Ideal) ((c.tc : Thread Cert.RSumIdeal.nD Cert.RSumIdeal.τ).loc Cert.RSumIdeal.main_v1)),
      θ_run (Cert.RSumIdeal.defs (F := Ideal)) (onTc (τ := Cert.RSumIdeal.τ) (Cert.RSumIdeal.main (F := Ideal))) ⟨m, fun _ => 0, g⟩ (fun r => ∀ c : Dev Cert.RSumIdeal.nD,
          r.2.mem ((c.tc : Thread Cert.RSumIdeal.nD Cert.RSumIdeal.τ).loc Cert.RSumIdeal.main_v1) = v0 c
          ∧ r.2.mem ((c.tc : Thread Cert.RSumIdeal.nD Cert.RSumIdeal.τ).loc Cert.RSumIdeal.main_arg0) = m ((c.tc : Thread Cert.RSumIdeal.nD Cert.RSumIdeal.τ).loc Cert.RSumIdeal.main_arg0))
      ∧ θ_run (Cert.RSumRefIdeal.defs (F := Ideal)) (onTc (τ := Cert.RSumRefIdeal.τ) (Cert.RSumRefIdeal.main (F := Ideal))) ⟨m', fun _ => 0, g'⟩ (fun r => ∀ c : Dev Cert.RSumRefIdeal.nD,
          r.2.mem ((c.tc : Thread Cert.RSumRefIdeal.nD Cert.RSumRefIdeal.τ).loc Cert.RSumRefIdeal.main_v3) = v0 c
          ∧ r.2.mem ((c.tc : Thread Cert.RSumRefIdeal.nD Cert.RSumRefIdeal.τ).loc Cert.RSumRefIdeal.main_arg0) = m' ((c.tc : Thread Cert.RSumRefIdeal.nD Cert.RSumRefIdeal.τ).loc Cert.RSumRefIdeal.main_arg0))

def preserves_CSum_CSumIdeal : Prop :=
  True

def algebraic_CSumIdeal_CSumRefIdeal [hCSumIdeal : Cert.CSumIdeal.Facts] [hCSumRefIdeal : Cert.CSumRefIdeal.Facts] : Prop :=
  ∀ (m : (ℓ : Loc Cert.CSumIdeal.nD Cert.CSumIdeal.τ Cert.CSumIdeal.sig) → Buf (Elt Ideal) ℓ) (g : Dev Cert.CSumIdeal.nD → PrngReg)
    (m' : (ℓ : Loc Cert.CSumRefIdeal.nD Cert.CSumRefIdeal.τ Cert.CSumRefIdeal.sig) → Buf (Elt Ideal) ℓ) (g' : Dev Cert.CSumRefIdeal.nD → PrngReg), Pre_CSumIdeal m →
    (∀ c : Dev Cert.CSumIdeal.nD,
      m' ((c.tc : Thread Cert.CSumRefIdeal.nD Cert.CSumRefIdeal.τ).loc Cert.CSumRefIdeal.main_arg0) = m ((c.tc : Thread Cert.CSumIdeal.nD Cert.CSumIdeal.τ).loc Cert.CSumIdeal.main_arg0)
      ∧ m' ((c.tc : Thread Cert.CSumRefIdeal.nD Cert.CSumRefIdeal.τ).loc Cert.CSumRefIdeal.main_arg1) = m ((c.tc : Thread Cert.CSumIdeal.nD Cert.CSumIdeal.τ).loc Cert.CSumIdeal.main_arg1)) →
    ∃ (v0 : (c : Dev Cert.CSumIdeal.nD) → Buf (Elt Ideal) ((c.tc : Thread Cert.CSumIdeal.nD Cert.CSumIdeal.τ).loc Cert.CSumIdeal.main_v3)),
      θ_run (Cert.CSumIdeal.defs (F := Ideal)) (onTc (τ := Cert.CSumIdeal.τ) (Cert.CSumIdeal.main (F := Ideal))) ⟨m, fun _ => 0, g⟩ (fun r => ∀ c : Dev Cert.CSumIdeal.nD,
          r.2.mem ((c.tc : Thread Cert.CSumIdeal.nD Cert.CSumIdeal.τ).loc Cert.CSumIdeal.main_v3) = v0 c
          ∧ r.2.mem ((c.tc : Thread Cert.CSumIdeal.nD Cert.CSumIdeal.τ).loc Cert.CSumIdeal.main_arg0) = m ((c.tc : Thread Cert.CSumIdeal.nD Cert.CSumIdeal.τ).loc Cert.CSumIdeal.main_arg0)
          ∧ r.2.mem ((c.tc : Thread Cert.CSumIdeal.nD Cert.CSumIdeal.τ).loc Cert.CSumIdeal.main_arg1) = m ((c.tc : Thread Cert.CSumIdeal.nD Cert.CSumIdeal.τ).loc Cert.CSumIdeal.main_arg1))
      ∧ θ_run (Cert.CSumRefIdeal.defs (F := Ideal)) (onTc (τ := Cert.CSumRefIdeal.τ) (Cert.CSumRefIdeal.main (F := Ideal))) ⟨m', fun _ => 0, g'⟩ (fun r => ∀ c : Dev Cert.CSumRefIdeal.nD,
          r.2.mem ((c.tc : Thread Cert.CSumRefIdeal.nD Cert.CSumRefIdeal.τ).loc Cert.CSumRefIdeal.main_v9) = v0 c
          ∧ r.2.mem ((c.tc : Thread Cert.CSumRefIdeal.nD Cert.CSumRefIdeal.τ).loc Cert.CSumRefIdeal.main_arg0) = m' ((c.tc : Thread Cert.CSumRefIdeal.nD Cert.CSumRefIdeal.τ).loc Cert.CSumRefIdeal.main_arg0)
          ∧ r.2.mem ((c.tc : Thread Cert.CSumRefIdeal.nD Cert.CSumRefIdeal.τ).loc Cert.CSumRefIdeal.main_arg1) = m' ((c.tc : Thread Cert.CSumRefIdeal.nD Cert.CSumRefIdeal.τ).loc Cert.CSumRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)
      ∧ m' ((c.tc : Thread Cert.KvDwRefIdeal.nD Cert.KvDwRefIdeal.τ).loc Cert.KvDwRefIdeal.main_arg2) = m ((c.tc : Thread Cert.KvDwIdeal.nD Cert.KvDwIdeal.τ).loc Cert.KvDwIdeal.main_arg2)
      ∧ m' ((c.tc : Thread Cert.KvDwRefIdeal.nD Cert.KvDwRefIdeal.τ).loc Cert.KvDwRefIdeal.main_arg3) = m ((c.tc : Thread Cert.KvDwIdeal.nD Cert.KvDwIdeal.τ).loc Cert.KvDwIdeal.main_arg3)) →
    ∃ (v0 : (c : Dev Cert.KvDwIdeal.nD) → Buf (Elt Ideal) ((c.tc : Thread Cert.KvDwIdeal.nD Cert.KvDwIdeal.τ).loc Cert.KvDwIdeal.main_v2_0)) (v1 : (c : Dev Cert.KvDwIdeal.nD) → Buf (Elt Ideal) ((c.tc : Thread Cert.KvDwIdeal.nD Cert.KvDwIdeal.τ).loc Cert.KvDwIdeal.main_v2_1)) (v2 : (c : Dev Cert.KvDwIdeal.nD) → Buf (Elt Ideal) ((c.tc : Thread Cert.KvDwIdeal.nD Cert.KvDwIdeal.τ).loc Cert.KvDwIdeal.main_v2_2)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v2_0) = v0 c
          ∧ r.2.mem ((c.tc : Thread Cert.KvDwIdeal.nD Cert.KvDwIdeal.τ).loc Cert.KvDwIdeal.main_v2_1) = v1 c
          ∧ r.2.mem ((c.tc : Thread Cert.KvDwIdeal.nD Cert.KvDwIdeal.τ).loc Cert.KvDwIdeal.main_v2_2) = v2 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
          ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2)
          ∧ r.2.mem ((c.tc : Thread Cert.KvDwIdeal.nD Cert.KvDwIdeal.τ).loc Cert.KvDwIdeal.main_arg3) = m ((c.tc : Thread Cert.KvDwIdeal.nD Cert.KvDwIdeal.τ).loc Cert.KvDwIdeal.main_arg3))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_v8) = v1 c
          ∧ r.2.mem ((c.tc : Thread Cert.KvDwRefIdeal.nD Cert.KvDwRefIdeal.τ).loc Cert.KvDwRefIdeal.main_v11) = v2 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1)
          ∧ r.2.mem ((c.tc : Thread Cert.KvDwRefIdeal.nD Cert.KvDwRefIdeal.τ).loc Cert.KvDwRefIdeal.main_arg2) = m' ((c.tc : Thread Cert.KvDwRefIdeal.nD Cert.KvDwRefIdeal.τ).loc Cert.KvDwRefIdeal.main_arg2)
          ∧ r.2.mem ((c.tc : Thread Cert.KvDwRefIdeal.nD Cert.KvDwRefIdeal.τ).loc Cert.KvDwRefIdeal.main_arg3) = m' ((c.tc : Thread Cert.KvDwRefIdeal.nD Cert.KvDwRefIdeal.τ).loc Cert.KvDwRefIdeal.main_arg3))

def preserves_KvDx_KvDxIdeal : Prop :=
  True

def algebraic_KvDxIdeal_KvDxRefIdeal_pre_kvdx_finite [hKvDxIdeal : Cert.KvDxIdeal.Facts] [hKvDxRefIdeal : Cert.KvDxRefIdeal.Facts] [hPre_kvdx_finite : Cert.Pre_kvdx_finite.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal_kvdx_finite m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)
      ∧ m' ((c.tc : Thread Cert.KvDxRefIdeal.nD Cert.KvDxRefIdeal.τ).loc Cert.KvDxRefIdeal.main_arg4) = m ((c.tc : Thread Cert.KvDxIdeal.nD Cert.KvDxIdeal.τ).loc Cert.KvDxIdeal.main_arg4)
      ∧ m' ((c.tc : Thread Cert.KvDxRefIdeal.nD Cert.KvDxRefIdeal.τ).loc Cert.KvDxRefIdeal.main_arg5) = m ((c.tc : Thread Cert.KvDxIdeal.nD Cert.KvDxIdeal.τ).loc Cert.KvDxIdeal.main_arg5)
      ∧ m' ((c.tc : Thread Cert.KvDxRefIdeal.nD Cert.KvDxRefIdeal.τ).loc Cert.KvDxRefIdeal.main_arg6) = m ((c.tc : Thread Cert.KvDxIdeal.nD Cert.KvDxIdeal.τ).loc Cert.KvDxIdeal.main_arg6)) →
    ∃ (v0 : (c : Dev Cert.KvDxIdeal.nD) → Buf (Elt Ideal) ((c.tc : Thread Cert.KvDxIdeal.nD Cert.KvDxIdeal.τ).loc Cert.KvDxIdeal.main_v10_0)) (v1 : (c : Dev Cert.KvDxIdeal.nD) → Buf (Elt Ideal) ((c.tc : Thread Cert.KvDxIdeal.nD Cert.KvDxIdeal.τ).loc Cert.KvDxIdeal.main_v10_1)) (v2 : (c : Dev Cert.KvDxIdeal.nD) → Buf (Elt Ideal) ((c.tc : Thread Cert.KvDxIdeal.nD Cert.KvDxIdeal.τ).loc Cert.KvDxIdeal.main_v10_2)) (v3 : (c : Dev Cert.KvDxIdeal.nD) → Buf (Elt Ideal) ((c.tc : Thread Cert.KvDxIdeal.nD Cert.KvDxIdeal.τ).loc Cert.KvDxIdeal.main_v10_3)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v10_0) = v0 c
          ∧ r.2.mem ((c.tc : Thread Cert.KvDxIdeal.nD Cert.KvDxIdeal.τ).loc Cert.KvDxIdeal.main_v10_1) = v1 c
          ∧ r.2.mem ((c.tc : Thread Cert.KvDxIdeal.nD Cert.KvDxIdeal.τ).loc Cert.KvDxIdeal.main_v10_2) = v2 c
          ∧ r.2.mem ((c.tc : Thread Cert.KvDxIdeal.nD Cert.KvDxIdeal.τ).loc Cert.KvDxIdeal.main_v10_3) = v3 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3)
          ∧ r.2.mem ((c.tc : Thread Cert.KvDxIdeal.nD Cert.KvDxIdeal.τ).loc Cert.KvDxIdeal.main_arg4) = m ((c.tc : Thread Cert.KvDxIdeal.nD Cert.KvDxIdeal.τ).loc Cert.KvDxIdeal.main_arg4)
          ∧ r.2.mem ((c.tc : Thread Cert.KvDxIdeal.nD Cert.KvDxIdeal.τ).loc Cert.KvDxIdeal.main_arg5) = m ((c.tc : Thread Cert.KvDxIdeal.nD Cert.KvDxIdeal.τ).loc Cert.KvDxIdeal.main_arg5)
          ∧ r.2.mem ((c.tc : Thread Cert.KvDxIdeal.nD Cert.KvDxIdeal.τ).loc Cert.KvDxIdeal.main_arg6) = m ((c.tc : Thread Cert.KvDxIdeal.nD Cert.KvDxIdeal.τ).loc Cert.KvDxIdeal.main_arg6))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v67) = v0 c
          ∧ r.2.mem ((c.tc : Thread Cert.KvDxRefIdeal.nD Cert.KvDxRefIdeal.τ).loc Cert.KvDxRefIdeal.main_v68) = v1 c
          ∧ r.2.mem ((c.tc : Thread Cert.KvDxRefIdeal.nD Cert.KvDxRefIdeal.τ).loc Cert.KvDxRefIdeal.main_v69) = v2 c
          ∧ r.2.mem ((c.tc : Thread Cert.KvDxRefIdeal.nD Cert.KvDxRefIdeal.τ).loc Cert.KvDxRefIdeal.main_v70) = v3 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3)
          ∧ r.2.mem ((c.tc : Thread Cert.KvDxRefIdeal.nD Cert.KvDxRefIdeal.τ).loc Cert.KvDxRefIdeal.main_arg4) = m' ((c.tc : Thread Cert.KvDxRefIdeal.nD Cert.KvDxRefIdeal.τ).loc Cert.KvDxRefIdeal.main_arg4)
          ∧ r.2.mem ((c.tc : Thread Cert.KvDxRefIdeal.nD Cert.KvDxRefIdeal.τ).loc Cert.KvDxRefIdeal.main_arg5) = m' ((c.tc : Thread Cert.KvDxRefIdeal.nD Cert.KvDxRefIdeal.τ).loc Cert.KvDxRefIdeal.main_arg5)
          ∧ r.2.mem ((c.tc : Thread Cert.KvDxRefIdeal.nD Cert.KvDxRefIdeal.τ).loc Cert.KvDxRefIdeal.main_arg6) = m' ((c.tc : Thread Cert.KvDxRefIdeal.nD Cert.KvDxRefIdeal.τ).loc Cert.KvDxRefIdeal.main_arg6))

def preserves_QDx_QDxIdeal : Prop :=
  True

def algebraic_QDxIdeal_QDxRefIdeal_pre_qdx_finite [hQDxIdeal : Cert.QDxIdeal.Facts] [hQDxRefIdeal : Cert.QDxRefIdeal.Facts] [hPre_qdx_finite : Cert.Pre_qdx_finite.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal_qdx_finite m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)
      ∧ m' ((c.tc : Thread Cert.QDxRefIdeal.nD Cert.QDxRefIdeal.τ).loc Cert.QDxRefIdeal.main_arg2) = m ((c.tc : Thread Cert.QDxIdeal.nD Cert.QDxIdeal.τ).loc Cert.QDxIdeal.main_arg2)
      ∧ m' ((c.tc : Thread Cert.QDxRefIdeal.nD Cert.QDxRefIdeal.τ).loc Cert.QDxRefIdeal.main_arg3) = m ((c.tc : Thread Cert.QDxIdeal.nD Cert.QDxIdeal.τ).loc Cert.QDxIdeal.main_arg3)
      ∧ m' ((c.tc : Thread Cert.QDxRefIdeal.nD Cert.QDxRefIdeal.τ).loc Cert.QDxRefIdeal.main_arg4) = m ((c.tc : Thread Cert.QDxIdeal.nD Cert.QDxIdeal.τ).loc Cert.QDxIdeal.main_arg4)) →
    ∃ (v0 : (c : Dev Cert.QDxIdeal.nD) → Buf (Elt Ideal) ((c.tc : Thread Cert.QDxIdeal.nD Cert.QDxIdeal.τ).loc Cert.QDxIdeal.main_v4_0)) (v1 : (c : Dev Cert.QDxIdeal.nD) → Buf (Elt Ideal) ((c.tc : Thread Cert.QDxIdeal.nD Cert.QDxIdeal.τ).loc Cert.QDxIdeal.main_v4_1)) (v2 : (c : Dev Cert.QDxIdeal.nD) → Buf (Elt Ideal) ((c.tc : Thread Cert.QDxIdeal.nD Cert.QDxIdeal.τ).loc Cert.QDxIdeal.main_v4_2)) (v3 : (c : Dev Cert.QDxIdeal.nD) → Buf (Elt Ideal) ((c.tc : Thread Cert.QDxIdeal.nD Cert.QDxIdeal.τ).loc Cert.QDxIdeal.main_v4_3)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v4_0) = v0 c
          ∧ r.2.mem ((c.tc : Thread Cert.QDxIdeal.nD Cert.QDxIdeal.τ).loc Cert.QDxIdeal.main_v4_1) = v1 c
          ∧ r.2.mem ((c.tc : Thread Cert.QDxIdeal.nD Cert.QDxIdeal.τ).loc Cert.QDxIdeal.main_v4_2) = v2 c
          ∧ r.2.mem ((c.tc : Thread Cert.QDxIdeal.nD Cert.QDxIdeal.τ).loc Cert.QDxIdeal.main_v4_3) = v3 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1)
          ∧ r.2.mem ((c.tc : Thread Cert.QDxIdeal.nD Cert.QDxIdeal.τ).loc Cert.QDxIdeal.main_arg2) = m ((c.tc : Thread Cert.QDxIdeal.nD Cert.QDxIdeal.τ).loc Cert.QDxIdeal.main_arg2)
          ∧ r.2.mem ((c.tc : Thread Cert.QDxIdeal.nD Cert.QDxIdeal.τ).loc Cert.QDxIdeal.main_arg3) = m ((c.tc : Thread Cert.QDxIdeal.nD Cert.QDxIdeal.τ).loc Cert.QDxIdeal.main_arg3)
          ∧ r.2.mem ((c.tc : Thread Cert.QDxIdeal.nD Cert.QDxIdeal.τ).loc Cert.QDxIdeal.main_arg4) = m ((c.tc : Thread Cert.QDxIdeal.nD Cert.QDxIdeal.τ).loc Cert.QDxIdeal.main_arg4))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v69) = v0 c
          ∧ r.2.mem ((c.tc : Thread Cert.QDxRefIdeal.nD Cert.QDxRefIdeal.τ).loc Cert.QDxRefIdeal.main_v70) = v1 c
          ∧ r.2.mem ((c.tc : Thread Cert.QDxRefIdeal.nD Cert.QDxRefIdeal.τ).loc Cert.QDxRefIdeal.main_v71) = v2 c
          ∧ r.2.mem ((c.tc : Thread Cert.QDxRefIdeal.nD Cert.QDxRefIdeal.τ).loc Cert.QDxRefIdeal.main_v72) = v3 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1)
          ∧ r.2.mem ((c.tc : Thread Cert.QDxRefIdeal.nD Cert.QDxRefIdeal.τ).loc Cert.QDxRefIdeal.main_arg2) = m' ((c.tc : Thread Cert.QDxRefIdeal.nD Cert.QDxRefIdeal.τ).loc Cert.QDxRefIdeal.main_arg2)
          ∧ r.2.mem ((c.tc : Thread Cert.QDxRefIdeal.nD Cert.QDxRefIdeal.τ).loc Cert.QDxRefIdeal.main_arg3) = m' ((c.tc : Thread Cert.QDxRefIdeal.nD Cert.QDxRefIdeal.τ).loc Cert.QDxRefIdeal.main_arg3)
          ∧ r.2.mem ((c.tc : Thread Cert.QDxRefIdeal.nD Cert.QDxRefIdeal.τ).loc Cert.QDxRefIdeal.main_arg4) = m' ((c.tc : Thread Cert.QDxRefIdeal.nD Cert.QDxRefIdeal.τ).loc Cert.QDxRefIdeal.main_arg4))

def preserves_CDx_CDxIdeal : Prop :=
  True

def algebraic_CDxIdeal_CDxRefIdeal_pre_cdx_finite [hCDxIdeal : Cert.CDxIdeal.Facts] [hCDxRefIdeal : Cert.CDxRefIdeal.Facts] [hPre_cdx_finite : Cert.Pre_cdx_finite.Facts] : Prop :=
  ∀ (m : (ℓ : Loc Cert.CDxIdeal.nD Cert.CDxIdeal.τ Cert.CDxIdeal.sig) → Buf (Elt Ideal) ℓ) (g : Dev Cert.CDxIdeal.nD → PrngReg)
    (m' : (ℓ : Loc Cert.CDxRefIdeal.nD Cert.CDxRefIdeal.τ Cert.CDxRefIdeal.sig) → Buf (Elt Ideal) ℓ) (g' : Dev Cert.CDxRefIdeal.nD → PrngReg), Pre_CDxIdeal_cdx_finite m →
    (∀ c : Dev Cert.CDxIdeal.nD,
      m' ((c.tc : Thread Cert.CDxRefIdeal.nD Cert.CDxRefIdeal.τ).loc Cert.CDxRefIdeal.main_arg0) = m ((c.tc : Thread Cert.CDxIdeal.nD Cert.CDxIdeal.τ).loc Cert.CDxIdeal.main_arg0)
      ∧ m' ((c.tc : Thread Cert.CDxRefIdeal.nD Cert.CDxRefIdeal.τ).loc Cert.CDxRefIdeal.main_arg1) = m ((c.tc : Thread Cert.CDxIdeal.nD Cert.CDxIdeal.τ).loc Cert.CDxIdeal.main_arg1)
      ∧ m' ((c.tc : Thread Cert.CDxRefIdeal.nD Cert.CDxRefIdeal.τ).loc Cert.CDxRefIdeal.main_arg2) = m ((c.tc : Thread Cert.CDxIdeal.nD Cert.CDxIdeal.τ).loc Cert.CDxIdeal.main_arg2)
      ∧ m' ((c.tc : Thread Cert.CDxRefIdeal.nD Cert.CDxRefIdeal.τ).loc Cert.CDxRefIdeal.main_arg3) = m ((c.tc : Thread Cert.CDxIdeal.nD Cert.CDxIdeal.τ).loc Cert.CDxIdeal.main_arg3)
      ∧ m' ((c.tc : Thread Cert.CDxRefIdeal.nD Cert.CDxRefIdeal.τ).loc Cert.CDxRefIdeal.main_arg4) = m ((c.tc : Thread Cert.CDxIdeal.nD Cert.CDxIdeal.τ).loc Cert.CDxIdeal.main_arg4)) →
    ∃ (v0 : (c : Dev Cert.CDxIdeal.nD) → Buf (Elt Ideal) ((c.tc : Thread Cert.CDxIdeal.nD Cert.CDxIdeal.τ).loc Cert.CDxIdeal.main_v5_0)) (v1 : (c : Dev Cert.CDxIdeal.nD) → Buf (Elt Ideal) ((c.tc : Thread Cert.CDxIdeal.nD Cert.CDxIdeal.τ).loc Cert.CDxIdeal.main_v5_1)) (v2 : (c : Dev Cert.CDxIdeal.nD) → Buf (Elt Ideal) ((c.tc : Thread Cert.CDxIdeal.nD Cert.CDxIdeal.τ).loc Cert.CDxIdeal.main_v5_2)) (v3 : (c : Dev Cert.CDxIdeal.nD) → Buf (Elt Ideal) ((c.tc : Thread Cert.CDxIdeal.nD Cert.CDxIdeal.τ).loc Cert.CDxIdeal.main_v5_3)),
      θ_run (Cert.CDxIdeal.defs (F := Ideal)) (onTc (τ := Cert.CDxIdeal.τ) (Cert.CDxIdeal.main (F := Ideal))) ⟨m, fun _ => 0, g⟩ (fun r => ∀ c : Dev Cert.CDxIdeal.nD,
          r.2.mem ((c.tc : Thread Cert.CDxIdeal.nD Cert.CDxIdeal.τ).loc Cert.CDxIdeal.main_v5_0) = v0 c
          ∧ r.2.mem ((c.tc : Thread Cert.CDxIdeal.nD Cert.CDxIdeal.τ).loc Cert.CDxIdeal.main_v5_1) = v1 c
          ∧ r.2.mem ((c.tc : Thread Cert.CDxIdeal.nD Cert.CDxIdeal.τ).loc Cert.CDxIdeal.main_v5_2) = v2 c
          ∧ r.2.mem ((c.tc : Thread Cert.CDxIdeal.nD Cert.CDxIdeal.τ).loc Cert.CDxIdeal.main_v5_3) = v3 c
          ∧ r.2.mem ((c.tc : Thread Cert.CDxIdeal.nD Cert.CDxIdeal.τ).loc Cert.CDxIdeal.main_arg0) = m ((c.tc : Thread Cert.CDxIdeal.nD Cert.CDxIdeal.τ).loc Cert.CDxIdeal.main_arg0)
          ∧ r.2.mem ((c.tc : Thread Cert.CDxIdeal.nD Cert.CDxIdeal.τ).loc Cert.CDxIdeal.main_arg1) = m ((c.tc : Thread Cert.CDxIdeal.nD Cert.CDxIdeal.τ).loc Cert.CDxIdeal.main_arg1)
          ∧ r.2.mem ((c.tc : Thread Cert.CDxIdeal.nD Cert.CDxIdeal.τ).loc Cert.CDxIdeal.main_arg2) = m ((c.tc : Thread Cert.CDxIdeal.nD Cert.CDxIdeal.τ).loc Cert.CDxIdeal.main_arg2)
          ∧ r.2.mem ((c.tc : Thread Cert.CDxIdeal.nD Cert.CDxIdeal.τ).loc Cert.CDxIdeal.main_arg3) = m ((c.tc : Thread Cert.CDxIdeal.nD Cert.CDxIdeal.τ).loc Cert.CDxIdeal.main_arg3)
          ∧ r.2.mem ((c.tc : Thread Cert.CDxIdeal.nD Cert.CDxIdeal.τ).loc Cert.CDxIdeal.main_arg4) = m ((c.tc : Thread Cert.CDxIdeal.nD Cert.CDxIdeal.τ).loc Cert.CDxIdeal.main_arg4))
      ∧ θ_run (Cert.CDxRefIdeal.defs (F := Ideal)) (onTc (τ := Cert.CDxRefIdeal.τ) (Cert.CDxRefIdeal.main (F := Ideal))) ⟨m', fun _ => 0, g'⟩ (fun r => ∀ c : Dev Cert.CDxRefIdeal.nD,
          r.2.mem ((c.tc : Thread Cert.CDxRefIdeal.nD Cert.CDxRefIdeal.τ).loc Cert.CDxRefIdeal.main_v69) = v0 c
          ∧ r.2.mem ((c.tc : Thread Cert.CDxRefIdeal.nD Cert.CDxRefIdeal.τ).loc Cert.CDxRefIdeal.main_v70) = v1 c
          ∧ r.2.mem ((c.tc : Thread Cert.CDxRefIdeal.nD Cert.CDxRefIdeal.τ).loc Cert.CDxRefIdeal.main_v71) = v2 c
          ∧ r.2.mem ((c.tc : Thread Cert.CDxRefIdeal.nD Cert.CDxRefIdeal.τ).loc Cert.CDxRefIdeal.main_v72) = v3 c
          ∧ r.2.mem ((c.tc : Thread Cert.CDxRefIdeal.nD Cert.CDxRefIdeal.τ).loc Cert.CDxRefIdeal.main_arg0) = m' ((c.tc : Thread Cert.CDxRefIdeal.nD Cert.CDxRefIdeal.τ).loc Cert.CDxRefIdeal.main_arg0)
          ∧ r.2.mem ((c.tc : Thread Cert.CDxRefIdeal.nD Cert.CDxRefIdeal.τ).loc Cert.CDxRefIdeal.main_arg1) = m' ((c.tc : Thread Cert.CDxRefIdeal.nD Cert.CDxRefIdeal.τ).loc Cert.CDxRefIdeal.main_arg1)
          ∧ r.2.mem ((c.tc : Thread Cert.CDxRefIdeal.nD Cert.CDxRefIdeal.τ).loc Cert.CDxRefIdeal.main_arg2) = m' ((c.tc : Thread Cert.CDxRefIdeal.nD Cert.CDxRefIdeal.τ).loc Cert.CDxRefIdeal.main_arg2)
          ∧ r.2.mem ((c.tc : Thread Cert.CDxRefIdeal.nD Cert.CDxRefIdeal.τ).loc Cert.CDxRefIdeal.main_arg3) = m' ((c.tc : Thread Cert.CDxRefIdeal.nD Cert.CDxRefIdeal.τ).loc Cert.CDxRefIdeal.main_arg3)
          ∧ r.2.mem ((c.tc : Thread Cert.CDxRefIdeal.nD Cert.CDxRefIdeal.τ).loc Cert.CDxRefIdeal.main_arg4) = m' ((c.tc : Thread Cert.CDxRefIdeal.nD Cert.CDxRefIdeal.τ).loc Cert.CDxRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v2)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v2) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v5) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_SqDx_SqDxIdeal : Prop :=
  True

def algebraic_SqDxIdeal_SqDxRefIdeal [hSqDxIdeal : Cert.SqDxIdeal.Facts] [hSqDxRefIdeal : Cert.SqDxRefIdeal.Facts] : Prop :=
  ∀ (m : (ℓ : Loc Cert.SqDxIdeal.nD Cert.SqDxIdeal.τ Cert.SqDxIdeal.sig) → Buf (Elt Ideal) ℓ) (g : Dev Cert.SqDxIdeal.nD → PrngReg)
    (m' : (ℓ : Loc Cert.SqDxRefIdeal.nD Cert.SqDxRefIdeal.τ Cert.SqDxRefIdeal.sig) → Buf (Elt Ideal) ℓ) (g' : Dev Cert.SqDxRefIdeal.nD → PrngReg), Pre_SqDxIdeal m →
    (∀ c : Dev Cert.SqDxIdeal.nD,
      m' ((c.tc : Thread Cert.SqDxRefIdeal.nD Cert.SqDxRefIdeal.τ).loc Cert.SqDxRefIdeal.main_arg0) = m ((c.tc : Thread Cert.SqDxIdeal.nD Cert.SqDxIdeal.τ).loc Cert.SqDxIdeal.main_arg0)
      ∧ m' ((c.tc : Thread Cert.SqDxRefIdeal.nD Cert.SqDxRefIdeal.τ).loc Cert.SqDxRefIdeal.main_arg1) = m ((c.tc : Thread Cert.SqDxIdeal.nD Cert.SqDxIdeal.τ).loc Cert.SqDxIdeal.main_arg1)) →
    ∃ (v0 : (c : Dev Cert.SqDxIdeal.nD) → Buf (Elt Ideal) ((c.tc : Thread Cert.SqDxIdeal.nD Cert.SqDxIdeal.τ).loc Cert.SqDxIdeal.main_v3)),
      θ_run (Cert.SqDxIdeal.defs (F := Ideal)) (onTc (τ := Cert.SqDxIdeal.τ) (Cert.SqDxIdeal.main (F := Ideal))) ⟨m, fun _ => 0, g⟩ (fun r => ∀ c : Dev Cert.SqDxIdeal.nD,
          r.2.mem ((c.tc : Thread Cert.SqDxIdeal.nD Cert.SqDxIdeal.τ).loc Cert.SqDxIdeal.main_v3) = v0 c
          ∧ r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
          ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ θ_run (Cert.SqDxRefIdeal.defs (F := Ideal)) (onTc (τ := Cert.SqDxRefIdeal.τ) (Cert.SqDxRefIdeal.main (F := Ideal))) ⟨m', fun _ => 0, g'⟩ (fun r => ∀ c : Dev Cert.SqDxRefIdeal.nD,
          r.2.mem ((c.tc : Thread Cert.SqDxRefIdeal.nD Cert.SqDxRefIdeal.τ).loc Cert.SqDxRefIdeal.main_v2) = v0 c
          ∧ r.2.mem ((c.tc : Thread Cert.SqDxRefIdeal.nD Cert.SqDxRefIdeal.τ).loc Cert.SqDxRefIdeal.main_arg0) = m' ((c.tc : Thread Cert.SqDxRefIdeal.nD Cert.SqDxRefIdeal.τ).loc Cert.SqDxRefIdeal.main_arg0)
          ∧ r.2.mem ((c.tc : Thread Cert.SqDxRefIdeal.nD Cert.SqDxRefIdeal.τ).loc Cert.SqDxRefIdeal.main_arg1) = m' ((c.tc : Thread Cert.SqDxRefIdeal.nD Cert.SqDxRefIdeal.τ).loc Cert.SqDxRefIdeal.main_arg1))

def preserves_SqDw_SqDwIdeal : Prop :=
  True

def algebraic_SqDwIdeal_SqDwRefIdeal [hSqDwIdeal : Cert.SqDwIdeal.Facts] [hSqDwRefIdeal : Cert.SqDwRefIdeal.Facts] : Prop :=
  ∀ (m : (ℓ : Loc Cert.SqDwIdeal.nD Cert.SqDwIdeal.τ Cert.SqDwIdeal.sig) → Buf (Elt Ideal) ℓ) (g : Dev Cert.SqDwIdeal.nD → PrngReg)
    (m' : (ℓ : Loc Cert.SqDwRefIdeal.nD Cert.SqDwRefIdeal.τ Cert.SqDwRefIdeal.sig) → Buf (Elt Ideal) ℓ) (g' : Dev Cert.SqDwRefIdeal.nD → PrngReg), Pre_SqDwIdeal m →
    (∀ c : Dev Cert.SqDwIdeal.nD,
      m' ((c.tc : Thread Cert.SqDwRefIdeal.nD Cert.SqDwRefIdeal.τ).loc Cert.SqDwRefIdeal.main_arg0) = m ((c.tc : Thread Cert.SqDwIdeal.nD Cert.SqDwIdeal.τ).loc Cert.SqDwIdeal.main_arg0)
      ∧ m' ((c.tc : Thread Cert.SqDwRefIdeal.nD Cert.SqDwRefIdeal.τ).loc Cert.SqDwRefIdeal.main_arg1) = m ((c.tc : Thread Cert.SqDwIdeal.nD Cert.SqDwIdeal.τ).loc Cert.SqDwIdeal.main_arg1)) →
    ∃ (v0 : (c : Dev Cert.SqDwIdeal.nD) → Buf (Elt Ideal) ((c.tc : Thread Cert.SqDwIdeal.nD Cert.SqDwIdeal.τ).loc Cert.SqDwIdeal.main_v2)),
      θ_run (Cert.SqDwIdeal.defs (F := Ideal)) (onTc (τ := Cert.SqDwIdeal.τ) (Cert.SqDwIdeal.main (F := Ideal))) ⟨m, fun _ => 0, g⟩ (fun r => ∀ c : Dev Cert.SqDwIdeal.nD,
          r.2.mem ((c.tc : Thread Cert.SqDwIdeal.nD Cert.SqDwIdeal.τ).loc Cert.SqDwIdeal.main_v2) = v0 c
          ∧ r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
          ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ θ_run (Cert.SqDwRefIdeal.defs (F := Ideal)) (onTc (τ := Cert.SqDwRefIdeal.τ) (Cert.SqDwRefIdeal.main (F := Ideal))) ⟨m', fun _ => 0, g'⟩ (fun r => ∀ c : Dev Cert.SqDwRefIdeal.nD,
          r.2.mem ((c.tc : Thread Cert.SqDwRefIdeal.nD Cert.SqDwRefIdeal.τ).loc Cert.SqDwRefIdeal.main_v4) = v0 c
          ∧ r.2.mem ((c.tc : Thread Cert.SqDwRefIdeal.nD Cert.SqDwRefIdeal.τ).loc Cert.SqDwRefIdeal.main_arg0) = m' ((c.tc : Thread Cert.SqDwRefIdeal.nD Cert.SqDwRefIdeal.τ).loc Cert.SqDwRefIdeal.main_arg0)
          ∧ r.2.mem ((c.tc : Thread Cert.SqDwRefIdeal.nD Cert.SqDwRefIdeal.τ).loc Cert.SqDwRefIdeal.main_arg1) = m' ((c.tc : Thread Cert.SqDwRefIdeal.nD Cert.SqDwRefIdeal.τ).loc Cert.SqDwRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)) (v2 : (c : Dev Cert.MixIdeal.nD) → Buf (Elt Ideal) ((c.tc : Thread Cert.MixIdeal.nD Cert.MixIdeal.τ).loc Cert.MixIdeal.main_v6_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_v6_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_v27) = v1 c
          ∧ r.2.mem ((c.tc : Thread Cert.MixRefIdeal.nD Cert.MixRefIdeal.τ).loc Cert.MixRefIdeal.main_v28) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)) →
    ∃ (v0 : (c : Dev Cert.HalfIdeal.nD) → Buf (Elt Ideal) ((c.tc : Thread Cert.HalfIdeal.nD Cert.HalfIdeal.τ).loc Cert.HalfIdeal.main_v8_0)) (v1 : (c : Dev Cert.HalfIdeal.nD) → Buf (Elt Ideal) ((c.tc : Thread Cert.HalfIdeal.nD Cert.HalfIdeal.τ).loc Cert.HalfIdeal.main_v8_1)) (v2 : (c : Dev Cert.HalfIdeal.nD) → Buf (Elt Ideal) ((c.tc : Thread Cert.HalfIdeal.nD Cert.HalfIdeal.τ).loc Cert.HalfIdeal.main_v8_2)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v8_0) = v0 c
          ∧ r.2.mem ((c.tc : Thread Cert.HalfIdeal.nD Cert.HalfIdeal.τ).loc Cert.HalfIdeal.main_v8_1) = v1 c
          ∧ r.2.mem ((c.tc : Thread Cert.HalfIdeal.nD Cert.HalfIdeal.τ).loc Cert.HalfIdeal.main_v8_2) = v2 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v7) = v0 c
          ∧ r.2.mem ((c.tc : Thread Cert.HalfRefIdeal.nD Cert.HalfRefIdeal.τ).loc Cert.HalfRefIdeal.main_v31) = v1 c
          ∧ r.2.mem ((c.tc : Thread Cert.HalfRefIdeal.nD Cert.HalfRefIdeal.τ).loc Cert.HalfRefIdeal.main_v32) = v2 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v9_0)) (v1 : (c : Dev Cert.GateIdeal.nD) → Buf (Elt Ideal) ((c.tc : Thread Cert.GateIdeal.nD Cert.GateIdeal.τ).loc Cert.GateIdeal.main_v9_1)) (v2 : (c : Dev Cert.GateIdeal.nD) → Buf (Elt Ideal) ((c.tc : Thread Cert.GateIdeal.nD Cert.GateIdeal.τ).loc Cert.GateIdeal.main_v9_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9_0) = v0 c
          ∧ r.2.mem ((c.tc : Thread Cert.GateIdeal.nD Cert.GateIdeal.τ).loc Cert.GateIdeal.main_v9_1) = v1 c
          ∧ r.2.mem ((c.tc : Thread Cert.GateIdeal.nD Cert.GateIdeal.τ).loc Cert.GateIdeal.main_v9_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_v16) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Dx0_Dx0Ideal : Prop :=
  True

def algebraic_Dx0Ideal_Dx0RefIdeal [hDx0Ideal : Cert.Dx0Ideal.Facts] [hDx0RefIdeal : Cert.Dx0RefIdeal.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.Dx0RefIdeal.nD Cert.Dx0RefIdeal.τ Cert.Dx0RefIdeal.sig) → Buf (Elt Ideal) ℓ) (g' : Dev Cert.Dx0RefIdeal.nD → PrngReg), Pre_Dx0Ideal m →
    (∀ c : Dev Cert.Dx0Ideal.nD,
      m' ((c.tc : Thread Cert.Dx0RefIdeal.nD Cert.Dx0RefIdeal.τ).loc Cert.Dx0RefIdeal.main_arg0) = m ((c.tc : Thread Cert.Dx0Ideal.nD Cert.Dx0Ideal.τ).loc Cert.Dx0Ideal.main_arg0)
      ∧ m' ((c.tc : Thread Cert.Dx0RefIdeal.nD Cert.Dx0RefIdeal.τ).loc Cert.Dx0RefIdeal.main_arg1) = m ((c.tc : Thread Cert.Dx0Ideal.nD Cert.Dx0Ideal.τ).loc Cert.Dx0Ideal.main_arg1)
      ∧ m' ((c.tc : Thread Cert.Dx0RefIdeal.nD Cert.Dx0RefIdeal.τ).loc Cert.Dx0RefIdeal.main_arg2) = m ((c.tc : Thread Cert.Dx0Ideal.nD Cert.Dx0Ideal.τ).loc Cert.Dx0Ideal.main_arg2)
      ∧ m' ((c.tc : Thread Cert.Dx0RefIdeal.nD Cert.Dx0RefIdeal.τ).loc Cert.Dx0RefIdeal.main_arg3) = m ((c.tc : Thread Cert.Dx0Ideal.nD Cert.Dx0Ideal.τ).loc Cert.Dx0Ideal.main_arg3)
      ∧ m' ((c.tc : Thread Cert.Dx0RefIdeal.nD Cert.Dx0RefIdeal.τ).loc Cert.Dx0RefIdeal.main_arg4) = m ((c.tc : Thread Cert.Dx0Ideal.nD Cert.Dx0Ideal.τ).loc Cert.Dx0Ideal.main_arg4)) →
    ∃ (v0 : (c : Dev Cert.Dx0Ideal.nD) → Buf (Elt Ideal) ((c.tc : Thread Cert.Dx0Ideal.nD Cert.Dx0Ideal.τ).loc Cert.Dx0Ideal.main_v14)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v14) = v0 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
          ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2)
          ∧ r.2.mem ((c.tc : Thread Cert.Dx0Ideal.nD Cert.Dx0Ideal.τ).loc Cert.Dx0Ideal.main_arg3) = m ((c.tc : Thread Cert.Dx0Ideal.nD Cert.Dx0Ideal.τ).loc Cert.Dx0Ideal.main_arg3)
          ∧ r.2.mem ((c.tc : Thread Cert.Dx0Ideal.nD Cert.Dx0Ideal.τ).loc Cert.Dx0Ideal.main_arg4) = m ((c.tc : Thread Cert.Dx0Ideal.nD Cert.Dx0Ideal.τ).loc Cert.Dx0Ideal.main_arg4))
      ∧ θ_run (Cert.Dx0RefIdeal.defs (F := Ideal)) (onTc (τ := Cert.Dx0RefIdeal.τ) (Cert.Dx0RefIdeal.main (F := Ideal))) ⟨m', fun _ => 0, g'⟩ (fun r => ∀ c : Dev Cert.Dx0RefIdeal.nD,
          r.2.mem ((c.tc : Thread Cert.Dx0RefIdeal.nD Cert.Dx0RefIdeal.τ).loc Cert.Dx0RefIdeal.main_v14) = v0 c
          ∧ r.2.mem ((c.tc : Thread Cert.Dx0RefIdeal.nD Cert.Dx0RefIdeal.τ).loc Cert.Dx0RefIdeal.main_arg0) = m' ((c.tc : Thread Cert.Dx0RefIdeal.nD Cert.Dx0RefIdeal.τ).loc Cert.Dx0RefIdeal.main_arg0)
          ∧ r.2.mem ((c.tc : Thread Cert.Dx0RefIdeal.nD Cert.Dx0RefIdeal.τ).loc Cert.Dx0RefIdeal.main_arg1) = m' ((c.tc : Thread Cert.Dx0RefIdeal.nD Cert.Dx0RefIdeal.τ).loc Cert.Dx0RefIdeal.main_arg1)
          ∧ r.2.mem ((c.tc : Thread Cert.Dx0RefIdeal.nD Cert.Dx0RefIdeal.τ).loc Cert.Dx0RefIdeal.main_arg2) = m' ((c.tc : Thread Cert.Dx0RefIdeal.nD Cert.Dx0RefIdeal.τ).loc Cert.Dx0RefIdeal.main_arg2)
          ∧ r.2.mem ((c.tc : Thread Cert.Dx0RefIdeal.nD Cert.Dx0RefIdeal.τ).loc Cert.Dx0RefIdeal.main_arg3) = m' ((c.tc : Thread Cert.Dx0RefIdeal.nD Cert.Dx0RefIdeal.τ).loc Cert.Dx0RefIdeal.main_arg3)
          ∧ r.2.mem ((c.tc : Thread Cert.Dx0RefIdeal.nD Cert.Dx0RefIdeal.τ).loc Cert.Dx0RefIdeal.main_arg4) = m' ((c.tc : Thread Cert.Dx0RefIdeal.nD Cert.Dx0RefIdeal.τ).loc Cert.Dx0RefIdeal.main_arg4))

def preserves_CFwd_CFwdIdeal : Prop :=
  True

def algebraic_CFwdIdeal_CFwdRefIdeal [hCFwdIdeal : Cert.CFwdIdeal.Facts] [hCFwdRefIdeal : Cert.CFwdRefIdeal.Facts] : Prop :=
  ∀ (m : (ℓ : Loc Cert.CFwdIdeal.nD Cert.CFwdIdeal.τ Cert.CFwdIdeal.sig) → Buf (Elt Ideal) ℓ) (g : Dev Cert.CFwdIdeal.nD → PrngReg)
    (m' : (ℓ : Loc Cert.CFwdRefIdeal.nD Cert.CFwdRefIdeal.τ Cert.CFwdRefIdeal.sig) → Buf (Elt Ideal) ℓ) (g' : Dev Cert.CFwdRefIdeal.nD → PrngReg), Pre_CFwdIdeal m →
    (∀ c : Dev Cert.CFwdIdeal.nD,
      m' ((c.tc : Thread Cert.CFwdRefIdeal.nD Cert.CFwdRefIdeal.τ).loc Cert.CFwdRefIdeal.main_arg0) = m ((c.tc : Thread Cert.CFwdIdeal.nD Cert.CFwdIdeal.τ).loc Cert.CFwdIdeal.main_arg0)
      ∧ m' ((c.tc : Thread Cert.CFwdRefIdeal.nD Cert.CFwdRefIdeal.τ).loc Cert.CFwdRefIdeal.main_arg1) = m ((c.tc : Thread Cert.CFwdIdeal.nD Cert.CFwdIdeal.τ).loc Cert.CFwdIdeal.main_arg1)) →
    ∃ (v0 : (c : Dev Cert.CFwdIdeal.nD) → Buf (Elt Ideal) ((c.tc : Thread Cert.CFwdIdeal.nD Cert.CFwdIdeal.τ).loc Cert.CFwdIdeal.main_v0)),
      θ_run (Cert.CFwdIdeal.defs (F := Ideal)) (onTc (τ := Cert.CFwdIdeal.τ) (Cert.CFwdIdeal.main (F := Ideal))) ⟨m, fun _ => 0, g⟩ (fun r => ∀ c : Dev Cert.CFwdIdeal.nD,
          r.2.mem ((c.tc : Thread Cert.CFwdIdeal.nD Cert.CFwdIdeal.τ).loc Cert.CFwdIdeal.main_v0) = v0 c
          ∧ r.2.mem ((c.tc : Thread Cert.CFwdIdeal.nD Cert.CFwdIdeal.τ).loc Cert.CFwdIdeal.main_arg0) = m ((c.tc : Thread Cert.CFwdIdeal.nD Cert.CFwdIdeal.τ).loc Cert.CFwdIdeal.main_arg0)
          ∧ r.2.mem ((c.tc : Thread Cert.CFwdIdeal.nD Cert.CFwdIdeal.τ).loc Cert.CFwdIdeal.main_arg1) = m ((c.tc : Thread Cert.CFwdIdeal.nD Cert.CFwdIdeal.τ).loc Cert.CFwdIdeal.main_arg1))
      ∧ θ_run (Cert.CFwdRefIdeal.defs (F := Ideal)) (onTc (τ := Cert.CFwdRefIdeal.τ) (Cert.CFwdRefIdeal.main (F := Ideal))) ⟨m', fun _ => 0, g'⟩ (fun r => ∀ c : Dev Cert.CFwdRefIdeal.nD,
          r.2.mem ((c.tc : Thread Cert.CFwdRefIdeal.nD Cert.CFwdRefIdeal.τ).loc Cert.CFwdRefIdeal.main_v31) = v0 c
          ∧ r.2.mem ((c.tc : Thread Cert.CFwdRefIdeal.nD Cert.CFwdRefIdeal.τ).loc Cert.CFwdRefIdeal.main_arg0) = m' ((c.tc : Thread Cert.CFwdRefIdeal.nD Cert.CFwdRefIdeal.τ).loc Cert.CFwdRefIdeal.main_arg0)
          ∧ r.2.mem ((c.tc : Thread Cert.CFwdRefIdeal.nD Cert.CFwdRefIdeal.τ).loc Cert.CFwdRefIdeal.main_arg1) = m' ((c.tc : Thread Cert.CFwdRefIdeal.nD Cert.CFwdRefIdeal.τ).loc Cert.CFwdRefIdeal.main_arg1))

def preserves_PIn_PInIdeal : Prop :=
  True

def algebraic_PInIdeal_PInRefIdeal [hPInIdeal : Cert.PInIdeal.Facts] [hPInRefIdeal : Cert.PInRefIdeal.Facts] : Prop :=
  ∀ (m : (ℓ : Loc Cert.PInIdeal.nD Cert.PInIdeal.τ Cert.PInIdeal.sig) → Buf (Elt Ideal) ℓ) (g : Dev Cert.PInIdeal.nD → PrngReg)
    (m' : (ℓ : Loc Cert.PInRefIdeal.nD Cert.PInRefIdeal.τ Cert.PInRefIdeal.sig) → Buf (Elt Ideal) ℓ) (g' : Dev Cert.PInRefIdeal.nD → PrngReg), Pre_PInIdeal m →
    (∀ c : Dev Cert.PInIdeal.nD,
      m' ((c.tc : Thread Cert.PInRefIdeal.nD Cert.PInRefIdeal.τ).loc Cert.PInRefIdeal.main_arg0) = m ((c.tc : Thread Cert.PInIdeal.nD Cert.PInIdeal.τ).loc Cert.PInIdeal.main_arg0)
      ∧ m' ((c.tc : Thread Cert.PInRefIdeal.nD Cert.PInRefIdeal.τ).loc Cert.PInRefIdeal.main_arg1) = m ((c.tc : Thread Cert.PInIdeal.nD Cert.PInIdeal.τ).loc Cert.PInIdeal.main_arg1)) →
    ∃ (v0 : (c : Dev Cert.PInIdeal.nD) → Buf (Elt Ideal) ((c.tc : Thread Cert.PInIdeal.nD Cert.PInIdeal.τ).loc Cert.PInIdeal.main_v4)),
      θ_run (Cert.PInIdeal.defs (F := Ideal)) (onTc (τ := Cert.PInIdeal.τ) (Cert.PInIdeal.main (F := Ideal))) ⟨m, fun _ => 0, g⟩ (fun r => ∀ c : Dev Cert.PInIdeal.nD,
          r.2.mem ((c.tc : Thread Cert.PInIdeal.nD Cert.PInIdeal.τ).loc Cert.PInIdeal.main_v4) = v0 c
          ∧ r.2.mem ((c.tc : Thread Cert.PInIdeal.nD Cert.PInIdeal.τ).loc Cert.PInIdeal.main_arg0) = m ((c.tc : Thread Cert.PInIdeal.nD Cert.PInIdeal.τ).loc Cert.PInIdeal.main_arg0)
          ∧ r.2.mem ((c.tc : Thread Cert.PInIdeal.nD Cert.PInIdeal.τ).loc Cert.PInIdeal.main_arg1) = m ((c.tc : Thread Cert.PInIdeal.nD Cert.PInIdeal.τ).loc Cert.PInIdeal.main_arg1))
      ∧ θ_run (Cert.PInRefIdeal.defs (F := Ideal)) (onTc (τ := Cert.PInRefIdeal.τ) (Cert.PInRefIdeal.main (F := Ideal))) ⟨m', fun _ => 0, g'⟩ (fun r => ∀ c : Dev Cert.PInRefIdeal.nD,
          r.2.mem ((c.tc : Thread Cert.PInRefIdeal.nD Cert.PInRefIdeal.τ).loc Cert.PInRefIdeal.main_v0) = v0 c
          ∧ r.2.mem ((c.tc : Thread Cert.PInRefIdeal.nD Cert.PInRefIdeal.τ).loc Cert.PInRefIdeal.main_arg0) = m' ((c.tc : Thread Cert.PInRefIdeal.nD Cert.PInRefIdeal.τ).loc Cert.PInRefIdeal.main_arg0)
          ∧ r.2.mem ((c.tc : Thread Cert.PInRefIdeal.nD Cert.PInRefIdeal.τ).loc Cert.PInRefIdeal.main_arg1) = m' ((c.tc : Thread Cert.PInRefIdeal.nD Cert.PInRefIdeal.τ).loc Cert.PInRefIdeal.main_arg1))

def preserves_PK_PKIdeal : Prop :=
  True

def algebraic_PKIdeal_PKRefIdeal [hPKIdeal : Cert.PKIdeal.Facts] [hPKRefIdeal : Cert.PKRefIdeal.Facts] : Prop :=
  ∀ (m : (ℓ : Loc Cert.PKIdeal.nD Cert.PKIdeal.τ Cert.PKIdeal.sig) → Buf (Elt Ideal) ℓ) (g : Dev Cert.PKIdeal.nD → PrngReg)
    (m' : (ℓ : Loc Cert.PKRefIdeal.nD Cert.PKRefIdeal.τ Cert.PKRefIdeal.sig) → Buf (Elt Ideal) ℓ) (g' : Dev Cert.PKRefIdeal.nD → PrngReg), Pre_PKIdeal m →
    (∀ c : Dev Cert.PKIdeal.nD,
      m' ((c.tc : Thread Cert.PKRefIdeal.nD Cert.PKRefIdeal.τ).loc Cert.PKRefIdeal.main_arg0) = m ((c.tc : Thread Cert.PKIdeal.nD Cert.PKIdeal.τ).loc Cert.PKIdeal.main_arg0)
      ∧ m' ((c.tc : Thread Cert.PKRefIdeal.nD Cert.PKRefIdeal.τ).loc Cert.PKRefIdeal.main_arg1) = m ((c.tc : Thread Cert.PKIdeal.nD Cert.PKIdeal.τ).loc Cert.PKIdeal.main_arg1)) →
    ∃ (v0 : (c : Dev Cert.PKIdeal.nD) → Buf (Elt Ideal) ((c.tc : Thread Cert.PKIdeal.nD Cert.PKIdeal.τ).loc Cert.PKIdeal.main_v3)),
      θ_run (Cert.PKIdeal.defs (F := Ideal)) (onTc (τ := Cert.PKIdeal.τ) (Cert.PKIdeal.main (F := Ideal))) ⟨m, fun _ => 0, g⟩ (fun r => ∀ c : Dev Cert.PKIdeal.nD,
          r.2.mem ((c.tc : Thread Cert.PKIdeal.nD Cert.PKIdeal.τ).loc Cert.PKIdeal.main_v3) = v0 c
          ∧ r.2.mem ((c.tc : Thread Cert.PKIdeal.nD Cert.PKIdeal.τ).loc Cert.PKIdeal.main_arg0) = m ((c.tc : Thread Cert.PKIdeal.nD Cert.PKIdeal.τ).loc Cert.PKIdeal.main_arg0)
          ∧ r.2.mem ((c.tc : Thread Cert.PKIdeal.nD Cert.PKIdeal.τ).loc Cert.PKIdeal.main_arg1) = m ((c.tc : Thread Cert.PKIdeal.nD Cert.PKIdeal.τ).loc Cert.PKIdeal.main_arg1))
      ∧ θ_run (Cert.PKRefIdeal.defs (F := Ideal)) (onTc (τ := Cert.PKRefIdeal.τ) (Cert.PKRefIdeal.main (F := Ideal))) ⟨m', fun _ => 0, g'⟩ (fun r => ∀ c : Dev Cert.PKRefIdeal.nD,
          r.2.mem ((c.tc : Thread Cert.PKRefIdeal.nD Cert.PKRefIdeal.τ).loc Cert.PKRefIdeal.main_v1) = v0 c
          ∧ r.2.mem ((c.tc : Thread Cert.PKRefIdeal.nD Cert.PKRefIdeal.τ).loc Cert.PKRefIdeal.main_arg0) = m' ((c.tc : Thread Cert.PKRefIdeal.nD Cert.PKRefIdeal.τ).loc Cert.PKRefIdeal.main_arg0)
          ∧ r.2.mem ((c.tc : Thread Cert.PKRefIdeal.nD Cert.PKRefIdeal.τ).loc Cert.PKRefIdeal.main_arg1) = m' ((c.tc : Thread Cert.PKRefIdeal.nD Cert.PKRefIdeal.τ).loc Cert.PKRefIdeal.main_arg1))

def preserves_PQ_PQIdeal : Prop :=
  True

def algebraic_PQIdeal_PQRefIdeal [hPQIdeal : Cert.PQIdeal.Facts] [hPQRefIdeal : Cert.PQRefIdeal.Facts] : Prop :=
  ∀ (m : (ℓ : Loc Cert.PQIdeal.nD Cert.PQIdeal.τ Cert.PQIdeal.sig) → Buf (Elt Ideal) ℓ) (g : Dev Cert.PQIdeal.nD → PrngReg)
    (m' : (ℓ : Loc Cert.PQRefIdeal.nD Cert.PQRefIdeal.τ Cert.PQRefIdeal.sig) → Buf (Elt Ideal) ℓ) (g' : Dev Cert.PQRefIdeal.nD → PrngReg), Pre_PQIdeal m →
    (∀ c : Dev Cert.PQIdeal.nD,
      m' ((c.tc : Thread Cert.PQRefIdeal.nD Cert.PQRefIdeal.τ).loc Cert.PQRefIdeal.main_arg0) = m ((c.tc : Thread Cert.PQIdeal.nD Cert.PQIdeal.τ).loc Cert.PQIdeal.main_arg0)
      ∧ m' ((c.tc : Thread Cert.PQRefIdeal.nD Cert.PQRefIdeal.τ).loc Cert.PQRefIdeal.main_arg1) = m ((c.tc : Thread Cert.PQIdeal.nD Cert.PQIdeal.τ).loc Cert.PQIdeal.main_arg1)) →
    ∃ (v0 : (c : Dev Cert.PQIdeal.nD) → Buf (Elt Ideal) ((c.tc : Thread Cert.PQIdeal.nD Cert.PQIdeal.τ).loc Cert.PQIdeal.main_v3)),
      θ_run (Cert.PQIdeal.defs (F := Ideal)) (onTc (τ := Cert.PQIdeal.τ) (Cert.PQIdeal.main (F := Ideal))) ⟨m, fun _ => 0, g⟩ (fun r => ∀ c : Dev Cert.PQIdeal.nD,
          r.2.mem ((c.tc : Thread Cert.PQIdeal.nD Cert.PQIdeal.τ).loc Cert.PQIdeal.main_v3) = v0 c
          ∧ r.2.mem ((c.tc : Thread Cert.PQIdeal.nD Cert.PQIdeal.τ).loc Cert.PQIdeal.main_arg0) = m ((c.tc : Thread Cert.PQIdeal.nD Cert.PQIdeal.τ).loc Cert.PQIdeal.main_arg0)
          ∧ r.2.mem ((c.tc : Thread Cert.PQIdeal.nD Cert.PQIdeal.τ).loc Cert.PQIdeal.main_arg1) = m ((c.tc : Thread Cert.PQIdeal.nD Cert.PQIdeal.τ).loc Cert.PQIdeal.main_arg1))
      ∧ θ_run (Cert.PQRefIdeal.defs (F := Ideal)) (onTc (τ := Cert.PQRefIdeal.τ) (Cert.PQRefIdeal.main (F := Ideal))) ⟨m', fun _ => 0, g'⟩ (fun r => ∀ c : Dev Cert.PQRefIdeal.nD,
          r.2.mem ((c.tc : Thread Cert.PQRefIdeal.nD Cert.PQRefIdeal.τ).loc Cert.PQRefIdeal.main_v3) = v0 c
          ∧ r.2.mem ((c.tc : Thread Cert.PQRefIdeal.nD Cert.PQRefIdeal.τ).loc Cert.PQRefIdeal.main_arg0) = m' ((c.tc : Thread Cert.PQRefIdeal.nD Cert.PQRefIdeal.τ).loc Cert.PQRefIdeal.main_arg0)
          ∧ r.2.mem ((c.tc : Thread Cert.PQRefIdeal.nD Cert.PQRefIdeal.τ).loc Cert.PQRefIdeal.main_arg1) = m' ((c.tc : Thread Cert.PQRefIdeal.nD Cert.PQRefIdeal.τ).loc Cert.PQRefIdeal.main_arg1))

def preserves_PF_PFIdeal : Prop :=
  True

def algebraic_PFIdeal_PFRefIdeal [hPFIdeal : Cert.PFIdeal.Facts] [hPFRefIdeal : Cert.PFRefIdeal.Facts] : Prop :=
  ∀ (m : (ℓ : Loc Cert.PFIdeal.nD Cert.PFIdeal.τ Cert.PFIdeal.sig) → Buf (Elt Ideal) ℓ) (g : Dev Cert.PFIdeal.nD → PrngReg)
    (m' : (ℓ : Loc Cert.PFRefIdeal.nD Cert.PFRefIdeal.τ Cert.PFRefIdeal.sig) → Buf (Elt Ideal) ℓ) (g' : Dev Cert.PFRefIdeal.nD → PrngReg), Pre_PFIdeal m →
    (∀ c : Dev Cert.PFIdeal.nD,
      m' ((c.tc : Thread Cert.PFRefIdeal.nD Cert.PFRefIdeal.τ).loc Cert.PFRefIdeal.main_arg0) = m ((c.tc : Thread Cert.PFIdeal.nD Cert.PFIdeal.τ).loc Cert.PFIdeal.main_arg0)
      ∧ m' ((c.tc : Thread Cert.PFRefIdeal.nD Cert.PFRefIdeal.τ).loc Cert.PFRefIdeal.main_arg1) = m ((c.tc : Thread Cert.PFIdeal.nD Cert.PFIdeal.τ).loc Cert.PFIdeal.main_arg1)) →
    ∃ (v0 : (c : Dev Cert.PFIdeal.nD) → Buf (Elt Ideal) ((c.tc : Thread Cert.PFIdeal.nD Cert.PFIdeal.τ).loc Cert.PFIdeal.main_v4)),
      θ_run (Cert.PFIdeal.defs (F := Ideal)) (onTc (τ := Cert.PFIdeal.τ) (Cert.PFIdeal.main (F := Ideal))) ⟨m, fun _ => 0, g⟩ (fun r => ∀ c : Dev Cert.PFIdeal.nD,
          r.2.mem ((c.tc : Thread Cert.PFIdeal.nD Cert.PFIdeal.τ).loc Cert.PFIdeal.main_v4) = v0 c
          ∧ r.2.mem ((c.tc : Thread Cert.PFIdeal.nD Cert.PFIdeal.τ).loc Cert.PFIdeal.main_arg0) = m ((c.tc : Thread Cert.PFIdeal.nD Cert.PFIdeal.τ).loc Cert.PFIdeal.main_arg0)
          ∧ r.2.mem ((c.tc : Thread Cert.PFIdeal.nD Cert.PFIdeal.τ).loc Cert.PFIdeal.main_arg1) = m ((c.tc : Thread Cert.PFIdeal.nD Cert.PFIdeal.τ).loc Cert.PFIdeal.main_arg1))
      ∧ θ_run (Cert.PFRefIdeal.defs (F := Ideal)) (onTc (τ := Cert.PFRefIdeal.τ) (Cert.PFRefIdeal.main (F := Ideal))) ⟨m', fun _ => 0, g'⟩ (fun r => ∀ c : Dev Cert.PFRefIdeal.nD,
          r.2.mem ((c.tc : Thread Cert.PFRefIdeal.nD Cert.PFRefIdeal.τ).loc Cert.PFRefIdeal.main_v1) = v0 c
          ∧ r.2.mem ((c.tc : Thread Cert.PFRefIdeal.nD Cert.PFRefIdeal.τ).loc Cert.PFRefIdeal.main_arg0) = m' ((c.tc : Thread Cert.PFRefIdeal.nD Cert.PFRefIdeal.τ).loc Cert.PFRefIdeal.main_arg0)
          ∧ r.2.mem ((c.tc : Thread Cert.PFRefIdeal.nD Cert.PFRefIdeal.τ).loc Cert.PFRefIdeal.main_arg1) = m' ((c.tc : Thread Cert.PFRefIdeal.nD Cert.PFRefIdeal.τ).loc Cert.PFRefIdeal.main_arg1))

def preserves_AdSq_AdSqIdeal : Prop :=
  True

def algebraic_AdSqIdeal_AdSqRefIdeal [hAdSqIdeal : Cert.AdSqIdeal.Facts] [hAdSqRefIdeal : Cert.AdSqRefIdeal.Facts] : Prop :=
  ∀ (m : (ℓ : Loc Cert.AdSqIdeal.nD Cert.AdSqIdeal.τ Cert.AdSqIdeal.sig) → Buf (Elt Ideal) ℓ) (g : Dev Cert.AdSqIdeal.nD → PrngReg)
    (m' : (ℓ : Loc Cert.AdSqRefIdeal.nD Cert.AdSqRefIdeal.τ Cert.AdSqRefIdeal.sig) → Buf (Elt Ideal) ℓ) (g' : Dev Cert.AdSqRefIdeal.nD → PrngReg), Pre_AdSqIdeal m →
    (∀ c : Dev Cert.AdSqIdeal.nD,
      m' ((c.tc : Thread Cert.AdSqRefIdeal.nD Cert.AdSqRefIdeal.τ).loc Cert.AdSqRefIdeal.main_arg0) = m ((c.tc : Thread Cert.AdSqIdeal.nD Cert.AdSqIdeal.τ).loc Cert.AdSqIdeal.main_arg0)
      ∧ m' ((c.tc : Thread Cert.AdSqRefIdeal.nD Cert.AdSqRefIdeal.τ).loc Cert.AdSqRefIdeal.main_arg1) = m ((c.tc : Thread Cert.AdSqIdeal.nD Cert.AdSqIdeal.τ).loc Cert.AdSqIdeal.main_arg1)
      ∧ m' ((c.tc : Thread Cert.AdSqRefIdeal.nD Cert.AdSqRefIdeal.τ).loc Cert.AdSqRefIdeal.main_arg2) = m ((c.tc : Thread Cert.AdSqIdeal.nD Cert.AdSqIdeal.τ).loc Cert.AdSqIdeal.main_arg2)
      ∧ m' ((c.tc : Thread Cert.AdSqRefIdeal.nD Cert.AdSqRefIdeal.τ).loc Cert.AdSqRefIdeal.main_arg3) = m ((c.tc : Thread Cert.AdSqIdeal.nD Cert.AdSqIdeal.τ).loc Cert.AdSqIdeal.main_arg3)) →
    ∃ (v0 : (c : Dev Cert.AdSqIdeal.nD) → Buf (Elt Ideal) ((c.tc : Thread Cert.AdSqIdeal.nD Cert.AdSqIdeal.τ).loc Cert.AdSqIdeal.main_v0_0)) (v1 : (c : Dev Cert.AdSqIdeal.nD) → Buf (Elt Ideal) ((c.tc : Thread Cert.AdSqIdeal.nD Cert.AdSqIdeal.τ).loc Cert.AdSqIdeal.main_v0_1)) (v2 : (c : Dev Cert.AdSqIdeal.nD) → Buf (Elt Ideal) ((c.tc : Thread Cert.AdSqIdeal.nD Cert.AdSqIdeal.τ).loc Cert.AdSqIdeal.main_v0_2)) (v3 : (c : Dev Cert.AdSqIdeal.nD) → Buf (Elt Ideal) ((c.tc : Thread Cert.AdSqIdeal.nD Cert.AdSqIdeal.τ).loc Cert.AdSqIdeal.main_v0_3)),
      θ_run (Cert.AdSqIdeal.defs (F := Ideal)) (onTc (τ := Cert.AdSqIdeal.τ) (Cert.AdSqIdeal.main (F := Ideal))) ⟨m, fun _ => 0, g⟩ (fun r => ∀ c : Dev Cert.AdSqIdeal.nD,
          r.2.mem ((c.tc : Thread Cert.AdSqIdeal.nD Cert.AdSqIdeal.τ).loc Cert.AdSqIdeal.main_v0_0) = v0 c
          ∧ r.2.mem ((c.tc : Thread Cert.AdSqIdeal.nD Cert.AdSqIdeal.τ).loc Cert.AdSqIdeal.main_v0_1) = v1 c
          ∧ r.2.mem ((c.tc : Thread Cert.AdSqIdeal.nD Cert.AdSqIdeal.τ).loc Cert.AdSqIdeal.main_v0_2) = v2 c
          ∧ r.2.mem ((c.tc : Thread Cert.AdSqIdeal.nD Cert.AdSqIdeal.τ).loc Cert.AdSqIdeal.main_v0_3) = v3 c
          ∧ r.2.mem ((c.tc : Thread Cert.AdSqIdeal.nD Cert.AdSqIdeal.τ).loc Cert.AdSqIdeal.main_arg0) = m ((c.tc : Thread Cert.AdSqIdeal.nD Cert.AdSqIdeal.τ).loc Cert.AdSqIdeal.main_arg0)
          ∧ r.2.mem ((c.tc : Thread Cert.AdSqIdeal.nD Cert.AdSqIdeal.τ).loc Cert.AdSqIdeal.main_arg1) = m ((c.tc : Thread Cert.AdSqIdeal.nD Cert.AdSqIdeal.τ).loc Cert.AdSqIdeal.main_arg1)
          ∧ r.2.mem ((c.tc : Thread Cert.AdSqIdeal.nD Cert.AdSqIdeal.τ).loc Cert.AdSqIdeal.main_arg2) = m ((c.tc : Thread Cert.AdSqIdeal.nD Cert.AdSqIdeal.τ).loc Cert.AdSqIdeal.main_arg2)
          ∧ r.2.mem ((c.tc : Thread Cert.AdSqIdeal.nD Cert.AdSqIdeal.τ).loc Cert.AdSqIdeal.main_arg3) = m ((c.tc : Thread Cert.AdSqIdeal.nD Cert.AdSqIdeal.τ).loc Cert.AdSqIdeal.main_arg3))
      ∧ θ_run (Cert.AdSqRefIdeal.defs (F := Ideal)) (onTc (τ := Cert.AdSqRefIdeal.τ) (Cert.AdSqRefIdeal.main (F := Ideal))) ⟨m', fun _ => 0, g'⟩ (fun r => ∀ c : Dev Cert.AdSqRefIdeal.nD,
          r.2.mem ((c.tc : Thread Cert.AdSqRefIdeal.nD Cert.AdSqRefIdeal.τ).loc Cert.AdSqRefIdeal.main_v23) = v0 c
          ∧ r.2.mem ((c.tc : Thread Cert.AdSqRefIdeal.nD Cert.AdSqRefIdeal.τ).loc Cert.AdSqRefIdeal.main_v4) = v1 c
          ∧ r.2.mem ((c.tc : Thread Cert.AdSqRefIdeal.nD Cert.AdSqRefIdeal.τ).loc Cert.AdSqRefIdeal.main_v10) = v2 c
          ∧ r.2.mem ((c.tc : Thread Cert.AdSqRefIdeal.nD Cert.AdSqRefIdeal.τ).loc Cert.AdSqRefIdeal.main_arg1) = v3 c
          ∧ r.2.mem ((c.tc : Thread Cert.AdSqRefIdeal.nD Cert.AdSqRefIdeal.τ).loc Cert.AdSqRefIdeal.main_arg0) = m' ((c.tc : Thread Cert.AdSqRefIdeal.nD Cert.AdSqRefIdeal.τ).loc Cert.AdSqRefIdeal.main_arg0)
          ∧ r.2.mem ((c.tc : Thread Cert.AdSqRefIdeal.nD Cert.AdSqRefIdeal.τ).loc Cert.AdSqRefIdeal.main_arg1) = m' ((c.tc : Thread Cert.AdSqRefIdeal.nD Cert.AdSqRefIdeal.τ).loc Cert.AdSqRefIdeal.main_arg1)
          ∧ r.2.mem ((c.tc : Thread Cert.AdSqRefIdeal.nD Cert.AdSqRefIdeal.τ).loc Cert.AdSqRefIdeal.main_arg2) = m' ((c.tc : Thread Cert.AdSqRefIdeal.nD Cert.AdSqRefIdeal.τ).loc Cert.AdSqRefIdeal.main_arg2)
          ∧ r.2.mem ((c.tc : Thread Cert.AdSqRefIdeal.nD Cert.AdSqRefIdeal.τ).loc Cert.AdSqRefIdeal.main_arg3) = m' ((c.tc : Thread Cert.AdSqRefIdeal.nD Cert.AdSqRefIdeal.τ).loc Cert.AdSqRefIdeal.main_arg3))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg1) = v3 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdKv_AdKvIdeal : Prop :=
  True

def algebraic_AdKvIdeal_AdKvRefIdeal [hAdKvIdeal : Cert.AdKvIdeal.Facts] [hAdKvRefIdeal : Cert.AdKvRefIdeal.Facts] : Prop :=
  ∀ (m : (ℓ : Loc Cert.AdKvIdeal.nD Cert.AdKvIdeal.τ Cert.AdKvIdeal.sig) → Buf (Elt Ideal) ℓ) (g : Dev Cert.AdKvIdeal.nD → PrngReg)
    (m' : (ℓ : Loc Cert.AdKvRefIdeal.nD Cert.AdKvRefIdeal.τ Cert.AdKvRefIdeal.sig) → Buf (Elt Ideal) ℓ) (g' : Dev Cert.AdKvRefIdeal.nD → PrngReg), Pre_AdKvIdeal m →
    (∀ c : Dev Cert.AdKvIdeal.nD,
      m' ((c.tc : Thread Cert.AdKvRefIdeal.nD Cert.AdKvRefIdeal.τ).loc Cert.AdKvRefIdeal.main_arg0) = m ((c.tc : Thread Cert.AdKvIdeal.nD Cert.AdKvIdeal.τ).loc Cert.AdKvIdeal.main_arg0)
      ∧ m' ((c.tc : Thread Cert.AdKvRefIdeal.nD Cert.AdKvRefIdeal.τ).loc Cert.AdKvRefIdeal.main_arg1) = m ((c.tc : Thread Cert.AdKvIdeal.nD Cert.AdKvIdeal.τ).loc Cert.AdKvIdeal.main_arg1)
      ∧ m' ((c.tc : Thread Cert.AdKvRefIdeal.nD Cert.AdKvRefIdeal.τ).loc Cert.AdKvRefIdeal.main_arg2) = m ((c.tc : Thread Cert.AdKvIdeal.nD Cert.AdKvIdeal.τ).loc Cert.AdKvIdeal.main_arg2)
      ∧ m' ((c.tc : Thread Cert.AdKvRefIdeal.nD Cert.AdKvRefIdeal.τ).loc Cert.AdKvRefIdeal.main_arg3) = m ((c.tc : Thread Cert.AdKvIdeal.nD Cert.AdKvIdeal.τ).loc Cert.AdKvIdeal.main_arg3)) →
    ∃ (v0 : (c : Dev Cert.AdKvIdeal.nD) → Buf (Elt Ideal) ((c.tc : Thread Cert.AdKvIdeal.nD Cert.AdKvIdeal.τ).loc Cert.AdKvIdeal.main_v0_0)) (v1 : (c : Dev Cert.AdKvIdeal.nD) → Buf (Elt Ideal) ((c.tc : Thread Cert.AdKvIdeal.nD Cert.AdKvIdeal.τ).loc Cert.AdKvIdeal.main_v0_1)) (v2 : (c : Dev Cert.AdKvIdeal.nD) → Buf (Elt Ideal) ((c.tc : Thread Cert.AdKvIdeal.nD Cert.AdKvIdeal.τ).loc Cert.AdKvIdeal.main_v0_2)) (v3 : (c : Dev Cert.AdKvIdeal.nD) → Buf (Elt Ideal) ((c.tc : Thread Cert.AdKvIdeal.nD Cert.AdKvIdeal.τ).loc Cert.AdKvIdeal.main_v0_3)),
      θ_run (Cert.AdKvIdeal.defs (F := Ideal)) (onTc (τ := Cert.AdKvIdeal.τ) (Cert.AdKvIdeal.main (F := Ideal))) ⟨m, fun _ => 0, g⟩ (fun r => ∀ c : Dev Cert.AdKvIdeal.nD,
          r.2.mem ((c.tc : Thread Cert.AdKvIdeal.nD Cert.AdKvIdeal.τ).loc Cert.AdKvIdeal.main_v0_0) = v0 c
          ∧ r.2.mem ((c.tc : Thread Cert.AdKvIdeal.nD Cert.AdKvIdeal.τ).loc Cert.AdKvIdeal.main_v0_1) = v1 c
          ∧ r.2.mem ((c.tc : Thread Cert.AdKvIdeal.nD Cert.AdKvIdeal.τ).loc Cert.AdKvIdeal.main_v0_2) = v2 c
          ∧ r.2.mem ((c.tc : Thread Cert.AdKvIdeal.nD Cert.AdKvIdeal.τ).loc Cert.AdKvIdeal.main_v0_3) = v3 c
          ∧ r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
          ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
          ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
          ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ θ_run (Cert.AdKvRefIdeal.defs (F := Ideal)) (onTc (τ := Cert.AdKvRefIdeal.τ) (Cert.AdKvRefIdeal.main (F := Ideal))) ⟨m', fun _ => 0, g'⟩ (fun r => ∀ c : Dev Cert.AdKvRefIdeal.nD,
          r.2.mem ((c.tc : Thread Cert.AdKvRefIdeal.nD Cert.AdKvRefIdeal.τ).loc Cert.AdKvRefIdeal.main_v23) = v0 c
          ∧ r.2.mem ((c.tc : Thread Cert.AdKvRefIdeal.nD Cert.AdKvRefIdeal.τ).loc Cert.AdKvRefIdeal.main_v4) = v1 c
          ∧ r.2.mem ((c.tc : Thread Cert.AdKvRefIdeal.nD Cert.AdKvRefIdeal.τ).loc Cert.AdKvRefIdeal.main_v10) = v2 c
          ∧ r.2.mem ((c.tc : Thread Cert.AdKvRefIdeal.nD Cert.AdKvRefIdeal.τ).loc Cert.AdKvRefIdeal.main_arg1) = v3 c
          ∧ r.2.mem ((c.tc : Thread Cert.AdKvRefIdeal.nD Cert.AdKvRefIdeal.τ).loc Cert.AdKvRefIdeal.main_arg0) = m' ((c.tc : Thread Cert.AdKvRefIdeal.nD Cert.AdKvRefIdeal.τ).loc Cert.AdKvRefIdeal.main_arg0)
          ∧ r.2.mem ((c.tc : Thread Cert.AdKvRefIdeal.nD Cert.AdKvRefIdeal.τ).loc Cert.AdKvRefIdeal.main_arg1) = m' ((c.tc : Thread Cert.AdKvRefIdeal.nD Cert.AdKvRefIdeal.τ).loc Cert.AdKvRefIdeal.main_arg1)
          ∧ r.2.mem ((c.tc : Thread Cert.AdKvRefIdeal.nD Cert.AdKvRefIdeal.τ).loc Cert.AdKvRefIdeal.main_arg2) = m' ((c.tc : Thread Cert.AdKvRefIdeal.nD Cert.AdKvRefIdeal.τ).loc Cert.AdKvRefIdeal.main_arg2)
          ∧ r.2.mem ((c.tc : Thread Cert.AdKvRefIdeal.nD Cert.AdKvRefIdeal.τ).loc Cert.AdKvRefIdeal.main_arg3) = m' ((c.tc : Thread Cert.AdKvRefIdeal.nD Cert.AdKvRefIdeal.τ).loc Cert.AdKvRefIdeal.main_arg3))

def preserves_AdSm_AdSmIdeal : Prop :=
  True

def algebraic_AdSmIdeal_AdSmRefIdeal [hAdSmIdeal : Cert.AdSmIdeal.Facts] [hAdSmRefIdeal : Cert.AdSmRefIdeal.Facts] : Prop :=
  ∀ (m : (ℓ : Loc Cert.AdSmIdeal.nD Cert.AdSmIdeal.τ Cert.AdSmIdeal.sig) → Buf (Elt Ideal) ℓ) (g : Dev Cert.AdSmIdeal.nD → PrngReg)
    (m' : (ℓ : Loc Cert.AdSmRefIdeal.nD Cert.AdSmRefIdeal.τ Cert.AdSmRefIdeal.sig) → Buf (Elt Ideal) ℓ) (g' : Dev Cert.AdSmRefIdeal.nD → PrngReg), Pre_AdSmIdeal m →
    (∀ c : Dev Cert.AdSmIdeal.nD,
      m' ((c.tc : Thread Cert.AdSmRefIdeal.nD Cert.AdSmRefIdeal.τ).loc Cert.AdSmRefIdeal.main_arg0) = m ((c.tc : Thread Cert.AdSmIdeal.nD Cert.AdSmIdeal.τ).loc Cert.AdSmIdeal.main_arg0)
      ∧ m' ((c.tc : Thread Cert.AdSmRefIdeal.nD Cert.AdSmRefIdeal.τ).loc Cert.AdSmRefIdeal.main_arg1) = m ((c.tc : Thread Cert.AdSmIdeal.nD Cert.AdSmIdeal.τ).loc Cert.AdSmIdeal.main_arg1)
      ∧ m' ((c.tc : Thread Cert.AdSmRefIdeal.nD Cert.AdSmRefIdeal.τ).loc Cert.AdSmRefIdeal.main_arg2) = m ((c.tc : Thread Cert.AdSmIdeal.nD Cert.AdSmIdeal.τ).loc Cert.AdSmIdeal.main_arg2)
      ∧ m' ((c.tc : Thread Cert.AdSmRefIdeal.nD Cert.AdSmRefIdeal.τ).loc Cert.AdSmRefIdeal.main_arg3) = m ((c.tc : Thread Cert.AdSmIdeal.nD Cert.AdSmIdeal.τ).loc Cert.AdSmIdeal.main_arg3)) →
    ∃ (v0 : (c : Dev Cert.AdSmIdeal.nD) → Buf (Elt Ideal) ((c.tc : Thread Cert.AdSmIdeal.nD Cert.AdSmIdeal.τ).loc Cert.AdSmIdeal.main_v0_0)) (v1 : (c : Dev Cert.AdSmIdeal.nD) → Buf (Elt Ideal) ((c.tc : Thread Cert.AdSmIdeal.nD Cert.AdSmIdeal.τ).loc Cert.AdSmIdeal.main_v0_1)) (v2 : (c : Dev Cert.AdSmIdeal.nD) → Buf (Elt Ideal) ((c.tc : Thread Cert.AdSmIdeal.nD Cert.AdSmIdeal.τ).loc Cert.AdSmIdeal.main_v0_2)) (v3 : (c : Dev Cert.AdSmIdeal.nD) → Buf (Elt Ideal) ((c.tc : Thread Cert.AdSmIdeal.nD Cert.AdSmIdeal.τ).loc Cert.AdSmIdeal.main_v0_3)),
      θ_run (Cert.AdSmIdeal.defs (F := Ideal)) (onTc (τ := Cert.AdSmIdeal.τ) (Cert.AdSmIdeal.main (F := Ideal))) ⟨m, fun _ => 0, g⟩ (fun r => ∀ c : Dev Cert.AdSmIdeal.nD,
          r.2.mem ((c.tc : Thread Cert.AdSmIdeal.nD Cert.AdSmIdeal.τ).loc Cert.AdSmIdeal.main_v0_0) = v0 c
          ∧ r.2.mem ((c.tc : Thread Cert.AdSmIdeal.nD Cert.AdSmIdeal.τ).loc Cert.AdSmIdeal.main_v0_1) = v1 c
          ∧ r.2.mem ((c.tc : Thread Cert.AdSmIdeal.nD Cert.AdSmIdeal.τ).loc Cert.AdSmIdeal.main_v0_2) = v2 c
          ∧ r.2.mem ((c.tc : Thread Cert.AdSmIdeal.nD Cert.AdSmIdeal.τ).loc Cert.AdSmIdeal.main_v0_3) = v3 c
          ∧ r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
          ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
          ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
          ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3))
      ∧ θ_run (Cert.AdSmRefIdeal.defs (F := Ideal)) (onTc (τ := Cert.AdSmRefIdeal.τ) (Cert.AdSmRefIdeal.main (F := Ideal))) ⟨m', fun _ => 0, g'⟩ (fun r => ∀ c : Dev Cert.AdSmRefIdeal.nD,
          r.2.mem ((c.tc : Thread Cert.AdSmRefIdeal.nD Cert.AdSmRefIdeal.τ).loc Cert.AdSmRefIdeal.main_v23) = v0 c
          ∧ r.2.mem ((c.tc : Thread Cert.AdSmRefIdeal.nD Cert.AdSmRefIdeal.τ).loc Cert.AdSmRefIdeal.main_v4) = v1 c
          ∧ r.2.mem ((c.tc : Thread Cert.AdSmRefIdeal.nD Cert.AdSmRefIdeal.τ).loc Cert.AdSmRefIdeal.main_v10) = v2 c
          ∧ r.2.mem ((c.tc : Thread Cert.AdSmRefIdeal.nD Cert.AdSmRefIdeal.τ).loc Cert.AdSmRefIdeal.main_arg1) = v3 c
          ∧ r.2.mem ((c.tc : Thread Cert.AdSmRefIdeal.nD Cert.AdSmRefIdeal.τ).loc Cert.AdSmRefIdeal.main_arg0) = m' ((c.tc : Thread Cert.AdSmRefIdeal.nD Cert.AdSmRefIdeal.τ).loc Cert.AdSmRefIdeal.main_arg0)
          ∧ r.2.mem ((c.tc : Thread Cert.AdSmRefIdeal.nD Cert.AdSmRefIdeal.τ).loc Cert.AdSmRefIdeal.main_arg1) = m' ((c.tc : Thread Cert.AdSmRefIdeal.nD Cert.AdSmRefIdeal.τ).loc Cert.AdSmRefIdeal.main_arg1)
          ∧ r.2.mem ((c.tc : Thread Cert.AdSmRefIdeal.nD Cert.AdSmRefIdeal.τ).loc Cert.AdSmRefIdeal.main_arg2) = m' ((c.tc : Thread Cert.AdSmRefIdeal.nD Cert.AdSmRefIdeal.τ).loc Cert.AdSmRefIdeal.main_arg2)
          ∧ r.2.mem ((c.tc : Thread Cert.AdSmRefIdeal.nD Cert.AdSmRefIdeal.τ).loc Cert.AdSmRefIdeal.main_arg3) = m' ((c.tc : Thread Cert.AdSmRefIdeal.nD Cert.AdSmRefIdeal.τ).loc Cert.AdSmRefIdeal.main_arg3))

def Claim : Prop :=
  ∃ (hConv : Cert.Conv.Facts) (hConvIdeal : Cert.ConvIdeal.Facts) (hConvRefIdeal : Cert.ConvRefIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hDx : Cert.Dx.Facts) (hDxIdeal : Cert.DxIdeal.Facts) (hDxRefIdeal : Cert.DxRefIdeal.Facts) (hFGate : Cert.FGate.Facts) (hFGateIdeal : Cert.FGateIdeal.Facts) (hFGateRefIdeal : Cert.FGateRefIdeal.Facts) (hRSum : Cert.RSum.Facts) (hRSumIdeal : Cert.RSumIdeal.Facts) (hRSumRefIdeal : Cert.RSumRefIdeal.Facts) (hCSum : Cert.CSum.Facts) (hCSumIdeal : Cert.CSumIdeal.Facts) (hCSumRefIdeal : Cert.CSumRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hQDx : Cert.QDx.Facts) (hQDxIdeal : Cert.QDxIdeal.Facts) (hQDxRefIdeal : Cert.QDxRefIdeal.Facts) (hCDx : Cert.CDx.Facts) (hCDxIdeal : Cert.CDxIdeal.Facts) (hCDxRefIdeal : Cert.CDxRefIdeal.Facts) (hWin : Cert.Win.Facts) (hWinIdeal : Cert.WinIdeal.Facts) (hWinRefIdeal : Cert.WinRefIdeal.Facts) (hSqDx : Cert.SqDx.Facts) (hSqDxIdeal : Cert.SqDxIdeal.Facts) (hSqDxRefIdeal : Cert.SqDxRefIdeal.Facts) (hSqDw : Cert.SqDw.Facts) (hSqDwIdeal : Cert.SqDwIdeal.Facts) (hSqDwRefIdeal : Cert.SqDwRefIdeal.Facts) (hMix : Cert.Mix.Facts) (hMixIdeal : Cert.MixIdeal.Facts) (hMixRefIdeal : Cert.MixRefIdeal.Facts) (hHalf : Cert.Half.Facts) (hHalfIdeal : Cert.HalfIdeal.Facts) (hHalfRefIdeal : Cert.HalfRefIdeal.Facts) (hGate : Cert.Gate.Facts) (hGateIdeal : Cert.GateIdeal.Facts) (hGateRefIdeal : Cert.GateRefIdeal.Facts) (hDx0 : Cert.Dx0.Facts) (hDx0Ideal : Cert.Dx0Ideal.Facts) (hDx0RefIdeal : Cert.Dx0RefIdeal.Facts) (hCFwd : Cert.CFwd.Facts) (hCFwdIdeal : Cert.CFwdIdeal.Facts) (hCFwdRefIdeal : Cert.CFwdRefIdeal.Facts) (hPIn : Cert.PIn.Facts) (hPInIdeal : Cert.PInIdeal.Facts) (hPInRefIdeal : Cert.PInRefIdeal.Facts) (hPK : Cert.PK.Facts) (hPKIdeal : Cert.PKIdeal.Facts) (hPKRefIdeal : Cert.PKRefIdeal.Facts) (hPQ : Cert.PQ.Facts) (hPQIdeal : Cert.PQIdeal.Facts) (hPQRefIdeal : Cert.PQRefIdeal.Facts) (hPF : Cert.PF.Facts) (hPFIdeal : Cert.PFIdeal.Facts) (hPFRefIdeal : Cert.PFRefIdeal.Facts) (hAdSq : Cert.AdSq.Facts) (hAdSqIdeal : Cert.AdSqIdeal.Facts) (hAdSqRefIdeal : Cert.AdSqRefIdeal.Facts) (hAdIn : Cert.AdIn.Facts) (hAdInIdeal : Cert.AdInIdeal.Facts) (hAdInRefIdeal : Cert.AdInRefIdeal.Facts) (hAdKv : Cert.AdKv.Facts) (hAdKvIdeal : Cert.AdKvIdeal.Facts) (hAdKvRefIdeal : Cert.AdKvRefIdeal.Facts) (hAdSm : Cert.AdSm.Facts) (hAdSmIdeal : Cert.AdSmIdeal.Facts) (hAdSmRefIdeal : Cert.AdSmRefIdeal.Facts) (hPre_act_finite : Cert.Pre_act_finite.Facts) (hPre_dx_finite : Cert.Pre_dx_finite.Facts) (hPre_kvdx_finite : Cert.Pre_kvdx_finite.Facts) (hPre_qdx_finite : Cert.Pre_qdx_finite.Facts) (hPre_cdx_finite : Cert.Pre_cdx_finite.Facts),
    quiescent_Conv (hConv := hConv)
    ∧ quiescent_ConvIdeal (hConvIdeal := hConvIdeal)
    ∧ quiescent_ConvRefIdeal (hConvRefIdeal := hConvRefIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Dx (hDx := hDx)
    ∧ quiescent_DxIdeal (hDxIdeal := hDxIdeal)
    ∧ quiescent_DxIdeal_pre_dx_finite (hDxIdeal := hDxIdeal) (hPre_dx_finite := hPre_dx_finite)
    ∧ quiescent_DxRefIdeal (hDxRefIdeal := hDxRefIdeal)
    ∧ quiescent_DxRefIdeal_pre_dx_finite (hDxRefIdeal := hDxRefIdeal) (hPre_dx_finite := hPre_dx_finite)
    ∧ quiescent_FGate (hFGate := hFGate)
    ∧ quiescent_FGateIdeal (hFGateIdeal := hFGateIdeal)
    ∧ quiescent_FGateRefIdeal (hFGateRefIdeal := hFGateRefIdeal)
    ∧ quiescent_RSum (hRSum := hRSum)
    ∧ quiescent_RSumIdeal (hRSumIdeal := hRSumIdeal)
    ∧ quiescent_RSumRefIdeal (hRSumRefIdeal := hRSumRefIdeal)
    ∧ quiescent_CSum (hCSum := hCSum)
    ∧ quiescent_CSumIdeal (hCSumIdeal := hCSumIdeal)
    ∧ quiescent_CSumRefIdeal (hCSumRefIdeal := hCSumRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxIdeal_pre_kvdx_finite (hKvDxIdeal := hKvDxIdeal) (hPre_kvdx_finite := hPre_kvdx_finite)
    ∧ quiescent_KvDxRefIdeal (hKvDxRefIdeal := hKvDxRefIdeal)
    ∧ quiescent_KvDxRefIdeal_pre_kvdx_finite (hKvDxRefIdeal := hKvDxRefIdeal) (hPre_kvdx_finite := hPre_kvdx_finite)
    ∧ quiescent_QDx (hQDx := hQDx)
    ∧ quiescent_QDxIdeal (hQDxIdeal := hQDxIdeal)
    ∧ quiescent_QDxIdeal_pre_qdx_finite (hQDxIdeal := hQDxIdeal) (hPre_qdx_finite := hPre_qdx_finite)
    ∧ quiescent_QDxRefIdeal (hQDxRefIdeal := hQDxRefIdeal)
    ∧ quiescent_QDxRefIdeal_pre_qdx_finite (hQDxRefIdeal := hQDxRefIdeal) (hPre_qdx_finite := hPre_qdx_finite)
    ∧ quiescent_CDx (hCDx := hCDx)
    ∧ quiescent_CDxIdeal (hCDxIdeal := hCDxIdeal)
    ∧ quiescent_CDxIdeal_pre_cdx_finite (hCDxIdeal := hCDxIdeal) (hPre_cdx_finite := hPre_cdx_finite)
    ∧ quiescent_CDxRefIdeal (hCDxRefIdeal := hCDxRefIdeal)
    ∧ quiescent_CDxRefIdeal_pre_cdx_finite (hCDxRefIdeal := hCDxRefIdeal) (hPre_cdx_finite := hPre_cdx_finite)
    ∧ quiescent_Win (hWin := hWin)
    ∧ quiescent_WinIdeal (hWinIdeal := hWinIdeal)
    ∧ quiescent_WinRefIdeal (hWinRefIdeal := hWinRefIdeal)
    ∧ quiescent_SqDx (hSqDx := hSqDx)
    ∧ quiescent_SqDxIdeal (hSqDxIdeal := hSqDxIdeal)
    ∧ quiescent_SqDxRefIdeal (hSqDxRefIdeal := hSqDxRefIdeal)
    ∧ quiescent_SqDw (hSqDw := hSqDw)
    ∧ quiescent_SqDwIdeal (hSqDwIdeal := hSqDwIdeal)
    ∧ quiescent_SqDwRefIdeal (hSqDwRefIdeal := hSqDwRefIdeal)
    ∧ quiescent_Mix (hMix := hMix)
    ∧ quiescent_MixIdeal (hMixIdeal := hMixIdeal)
    ∧ quiescent_MixRefIdeal (hMixRefIdeal := hMixRefIdeal)
    ∧ quiescent_Half (hHalf := hHalf)
    ∧ quiescent_HalfIdeal (hHalfIdeal := hHalfIdeal)
    ∧ quiescent_HalfRefIdeal (hHalfRefIdeal := hHalfRefIdeal)
    ∧ quiescent_Gate (hGate := hGate)
    ∧ quiescent_GateIdeal (hGateIdeal := hGateIdeal)
    ∧ quiescent_GateRefIdeal (hGateRefIdeal := hGateRefIdeal)
    ∧ quiescent_Dx0 (hDx0 := hDx0)
    ∧ quiescent_Dx0Ideal (hDx0Ideal := hDx0Ideal)
    ∧ quiescent_Dx0RefIdeal (hDx0RefIdeal := hDx0RefIdeal)
    ∧ quiescent_CFwd (hCFwd := hCFwd)
    ∧ quiescent_CFwdIdeal (hCFwdIdeal := hCFwdIdeal)
    ∧ quiescent_CFwdRefIdeal (hCFwdRefIdeal := hCFwdRefIdeal)
    ∧ quiescent_PIn (hPIn := hPIn)
    ∧ quiescent_PInIdeal (hPInIdeal := hPInIdeal)
    ∧ quiescent_PInRefIdeal (hPInRefIdeal := hPInRefIdeal)
    ∧ quiescent_PK (hPK := hPK)
    ∧ quiescent_PKIdeal (hPKIdeal := hPKIdeal)
    ∧ quiescent_PKRefIdeal (hPKRefIdeal := hPKRefIdeal)
    ∧ quiescent_PQ (hPQ := hPQ)
    ∧ quiescent_PQIdeal (hPQIdeal := hPQIdeal)
    ∧ quiescent_PQRefIdeal (hPQRefIdeal := hPQRefIdeal)
    ∧ quiescent_PF (hPF := hPF)
    ∧ quiescent_PFIdeal (hPFIdeal := hPFIdeal)
    ∧ quiescent_PFRefIdeal (hPFRefIdeal := hPFRefIdeal)
    ∧ quiescent_AdSq (hAdSq := hAdSq)
    ∧ quiescent_AdSqIdeal (hAdSqIdeal := hAdSqIdeal)
    ∧ quiescent_AdSqRefIdeal (hAdSqRefIdeal := hAdSqRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdKv (hAdKv := hAdKv)
    ∧ quiescent_AdKvIdeal (hAdKvIdeal := hAdKvIdeal)
    ∧ quiescent_AdKvRefIdeal (hAdKvRefIdeal := hAdKvRefIdeal)
    ∧ quiescent_AdSm (hAdSm := hAdSm)
    ∧ quiescent_AdSmIdeal (hAdSmIdeal := hAdSmIdeal)
    ∧ quiescent_AdSmRefIdeal (hAdSmRefIdeal := hAdSmRefIdeal)
    ∧ preserves_Conv_ConvIdeal
    ∧ algebraic_ConvIdeal_ConvRefIdeal (hConvIdeal := hConvIdeal) (hConvRefIdeal := hConvRefIdeal)
    ∧ preserves_Act_ActIdeal
    ∧ algebraic_ActIdeal_ActRefIdeal_pre_act_finite (hActIdeal := hActIdeal) (hActRefIdeal := hActRefIdeal) (hPre_act_finite := hPre_act_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Dx_DxIdeal
    ∧ algebraic_DxIdeal_DxRefIdeal_pre_dx_finite (hDxIdeal := hDxIdeal) (hDxRefIdeal := hDxRefIdeal) (hPre_dx_finite := hPre_dx_finite)
    ∧ preserves_FGate_FGateIdeal
    ∧ algebraic_FGateIdeal_FGateRefIdeal (hFGateIdeal := hFGateIdeal) (hFGateRefIdeal := hFGateRefIdeal)
    ∧ preserves_RSum_RSumIdeal
    ∧ algebraic_RSumIdeal_RSumRefIdeal (hRSumIdeal := hRSumIdeal) (hRSumRefIdeal := hRSumRefIdeal)
    ∧ preserves_CSum_CSumIdeal
    ∧ algebraic_CSumIdeal_CSumRefIdeal (hCSumIdeal := hCSumIdeal) (hCSumRefIdeal := hCSumRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal_pre_kvdx_finite (hKvDxIdeal := hKvDxIdeal) (hKvDxRefIdeal := hKvDxRefIdeal) (hPre_kvdx_finite := hPre_kvdx_finite)
    ∧ preserves_QDx_QDxIdeal
    ∧ algebraic_QDxIdeal_QDxRefIdeal_pre_qdx_finite (hQDxIdeal := hQDxIdeal) (hQDxRefIdeal := hQDxRefIdeal) (hPre_qdx_finite := hPre_qdx_finite)
    ∧ preserves_CDx_CDxIdeal
    ∧ algebraic_CDxIdeal_CDxRefIdeal_pre_cdx_finite (hCDxIdeal := hCDxIdeal) (hCDxRefIdeal := hCDxRefIdeal) (hPre_cdx_finite := hPre_cdx_finite)
    ∧ preserves_Win_WinIdeal
    ∧ algebraic_WinIdeal_WinRefIdeal (hWinIdeal := hWinIdeal) (hWinRefIdeal := hWinRefIdeal)
    ∧ preserves_SqDx_SqDxIdeal
    ∧ algebraic_SqDxIdeal_SqDxRefIdeal (hSqDxIdeal := hSqDxIdeal) (hSqDxRefIdeal := hSqDxRefIdeal)
    ∧ preserves_SqDw_SqDwIdeal
    ∧ algebraic_SqDwIdeal_SqDwRefIdeal (hSqDwIdeal := hSqDwIdeal) (hSqDwRefIdeal := hSqDwRefIdeal)
    ∧ preserves_Mix_MixIdeal
    ∧ algebraic_MixIdeal_MixRefIdeal (hMixIdeal := hMixIdeal) (hMixRefIdeal := hMixRefIdeal)
    ∧ preserves_Half_HalfIdeal
    ∧ algebraic_HalfIdeal_HalfRefIdeal (hHalfIdeal := hHalfIdeal) (hHalfRefIdeal := hHalfRefIdeal)
    ∧ preserves_Gate_GateIdeal
    ∧ algebraic_GateIdeal_GateRefIdeal (hGateIdeal := hGateIdeal) (hGateRefIdeal := hGateRefIdeal)
    ∧ preserves_Dx0_Dx0Ideal
    ∧ algebraic_Dx0Ideal_Dx0RefIdeal (hDx0Ideal := hDx0Ideal) (hDx0RefIdeal := hDx0RefIdeal)
    ∧ preserves_CFwd_CFwdIdeal
    ∧ algebraic_CFwdIdeal_CFwdRefIdeal (hCFwdIdeal := hCFwdIdeal) (hCFwdRefIdeal := hCFwdRefIdeal)
    ∧ preserves_PIn_PInIdeal
    ∧ algebraic_PInIdeal_PInRefIdeal (hPInIdeal := hPInIdeal) (hPInRefIdeal := hPInRefIdeal)
    ∧ preserves_PK_PKIdeal
    ∧ algebraic_PKIdeal_PKRefIdeal (hPKIdeal := hPKIdeal) (hPKRefIdeal := hPKRefIdeal)
    ∧ preserves_PQ_PQIdeal
    ∧ algebraic_PQIdeal_PQRefIdeal (hPQIdeal := hPQIdeal) (hPQRefIdeal := hPQRefIdeal)
    ∧ preserves_PF_PFIdeal
    ∧ algebraic_PFIdeal_PFRefIdeal (hPFIdeal := hPFIdeal) (hPFRefIdeal := hPFRefIdeal)
    ∧ preserves_AdSq_AdSqIdeal
    ∧ algebraic_AdSqIdeal_AdSqRefIdeal (hAdSqIdeal := hAdSqIdeal) (hAdSqRefIdeal := hAdSqRefIdeal)
    ∧ preserves_AdIn_AdInIdeal
    ∧ algebraic_AdInIdeal_AdInRefIdeal (hAdInIdeal := hAdInIdeal) (hAdInRefIdeal := hAdInRefIdeal)
    ∧ preserves_AdKv_AdKvIdeal
    ∧ algebraic_AdKvIdeal_AdKvRefIdeal (hAdKvIdeal := hAdKvIdeal) (hAdKvRefIdeal := hAdKvRefIdeal)
    ∧ preserves_AdSm_AdSmIdeal
    ∧ algebraic_AdSmIdeal_AdSmRefIdeal (hAdSmIdeal := hAdSmIdeal) (hAdSmRefIdeal := hAdSmRefIdeal)
-- ==== Pre_act_finite.lean ====
abbrev S8320x1024 : Shape := ⟨2, ![8320, 1024]⟩
abbrev S2x2816x1024 : Shape := ⟨3, ![2, 2816, 1024]⟩
abbrev S8320x2816 : Shape := ⟨2, ![8320, 2816]⟩
abbrev S1x2816x1024 : Shape := ⟨3, ![1, 2816, 1024]⟩
abbrev S2816x1024 : Shape := ⟨2, ![2816, 1024]⟩
abbrev S_ : Shape := ⟨0, ![]⟩

class Facts : Prop where
  slices_S2x2816x1024_S1x2816x1024_1_0_0 : S2x2816x1024.Slices ![1, 0, 0] S1x2816x1024
  shapeCasts_S1x2816x1024_S2816x1024 : S1x2816x1024.ShapeCasts S2816x1024
  bcast_S_S8320x1024 : S_.BroadcastsInDim S8320x1024 (![] : Fin 0 → Fin S8320x1024.rank)
  bcast_S_S2816x1024 : S_.BroadcastsInDim S2816x1024 (![] : Fin 0 → Fin S2816x1024.rank)
  bcast_S_S8320x2816 : S_.BroadcastsInDim S8320x2816 (![] : Fin 0 → Fin S8320x2816.rank)

variable [Facts]

def fn {F : FTy → Type} [FloatOps F] (main_arg0 : FVec F S8320x1024 .f32) (main_arg1 : FVec F S2x2816x1024 .f32) (main_arg2 : FVec F S8320x2816 .f32) (main_arg3 : FVec F S8320x2816 .f32) : IVec S8320x1024 1 × IVec S2816x1024 1 × IVec S8320x2816 1 :=
  let main_v0 : FVec F S1x2816x1024 .f32 := (extractStridedSlice S1x2816x1024 ![1, 0, 0] · slices_S2x2816x1024_S1x2816x1024_1_0_0) main_arg1
  let main_v1 : FVec F S2816x1024 .f32 := shapeCast S2816x1024 main_v0 shapeCasts_S1x2816x1024_S2816x1024
  let main_v2 : FVec F S8320x1024 .f32 := Host.absf main_arg0
  let main_cst : FVec F S_ .f32 := constant S_ .f32 0x7F800000#32
  let main_v3 : FVec F S8320x1024 .f32 := broadcastInDim S8320x1024 ![] bcast_S_S8320x1024 main_cst
  let main_v4 : IVec S8320x1024 1 := cmpf .olt main_v2 main_v3
  let main_v5 : FVec F S2816x1024 .f32 := Host.absf main_v1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8320x2816 .f32 := Host.absf main_arg3
  let main_cst_1 : FVec F S_ .f32 := constant S_ .f32 0x7F800000#32
  let main_v9 : FVec F S8320x2816 .f32 := broadcastInDim S8320x2816 ![] bcast_S_S8320x2816 main_cst_1
  let main_v10 : IVec S8320x2816 1 := cmpf .olt main_v8 main_v9
  (main_v4, main_v7, main_v10)
-- ==== Pre_cdx_finite.lean ====
abbrev S8320x3072 : Shape := ⟨2, ![8320, 3072]⟩
abbrev S1024x3072 : Shape := ⟨2, ![1024, 3072]⟩
abbrev S8320x1024 : Shape := ⟨2, ![8320, 1024]⟩
abbrev S1024 : Shape := ⟨1, ![1024]⟩
abbrev S_ : Shape := ⟨0, ![]⟩

class Facts : Prop where
  bcast_S_S8320x3072 : S_.BroadcastsInDim S8320x3072 (![] : Fin 0 → Fin S8320x3072.rank)
  bcast_S_S1024x3072 : S_.BroadcastsInDim S1024x3072 (![] : Fin 0 → Fin S1024x3072.rank)
  bcast_S_S8320x1024 : S_.BroadcastsInDim S8320x1024 (![] : Fin 0 → Fin S8320x1024.rank)
  bcast_S_S1024 : S_.BroadcastsInDim S1024 (![] : Fin 0 → Fin S1024.rank)

variable [Facts]

def fn {F : FTy → Type} [FloatOps F] (main_arg0 : FVec F S8320x3072 .f32) (main_arg1 : FVec F S1024x3072 .f32) (main_arg2 : FVec F S8320x1024 .f32) (main_arg3 : FVec F S8320x1024 .f32) (main_arg4 : FVec F S1024 .f32) : IVec S8320x3072 1 × IVec S1024x3072 1 × IVec S8320x1024 1 × IVec S8320x1024 1 × IVec S1024 1 :=
  let main_v0 : FVec F S8320x3072 .f32 := Host.absf main_arg0
  let main_cst : FVec F S_ .f32 := constant S_ .f32 0x7F800000#32
  let main_v1 : FVec F S8320x3072 .f32 := broadcastInDim S8320x3072 ![] bcast_S_S8320x3072 main_cst
  let main_v2 : IVec S8320x3072 1 := cmpf .olt main_v0 main_v1
  let main_v3 : FVec F S1024x3072 .f32 := Host.absf main_arg1
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  let main_v6 : FVec F S8320x1024 .f32 := Host.absf main_arg2
  let main_cst_1 : FVec F S_ .f32 := constant S_ .f32 0x7F800000#32
  let main_v7 : FVec F S8320x1024 .f32 := broadcastInDim S8320x1024 ![] bcast_S_S8320x1024 main_cst_1
  let main_v8 : IVec S8320x1024 1 := cmpf .olt main_v6 main_v7
  let main_v9 : FVec F S8320x1024 .f32 := Host.absf main_arg3
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_dx_finite.lean ====
abbrev S8320x2816 : Shape := ⟨2, ![8320, 2816]⟩
abbrev S2x1024x2816 : Shape := ⟨3, ![2, 1024, 2816]⟩
abbrev S8320x1024 : Shape := ⟨2, ![8320, 1024]⟩
abbrev S1024 : Shape := ⟨1, ![1024]⟩
abbrev S1x1024x2816 : Shape := ⟨3, ![1, 1024, 2816]⟩
abbrev S1024x2816 : Shape := ⟨2, ![1024, 2816]⟩
abbrev S_ : Shape := ⟨0, ![]⟩

class Facts : Prop where
  slices_S2x1024x2816_S1x1024x2816_1_0_0 : S2x1024x2816.Slices ![1, 0, 0] S1x1024x2816
  shapeCasts_S1x1024x2816_S1024x2816 : S1x1024x2816.ShapeCasts S1024x2816
  bcast_S_S8320x2816 : S_.BroadcastsInDim S8320x2816 (![] : Fin 0 → Fin S8320x2816.rank)
  bcast_S_S1024x2816 : S_.BroadcastsInDim S1024x2816 (![] : Fin 0 → Fin S1024x2816.rank)
  bcast_S_S8320x1024 : S_.BroadcastsInDim S8320x1024 (![] : Fin 0 → Fin S8320x1024.rank)
  bcast_S_S1024 : S_.BroadcastsInDim S1024 (![] : Fin 0 → Fin S1024.rank)

variable [Facts]

def fn_part1 {F : FTy → Type} [FloatOps F] (main_arg5 : FVec F S8320x1024 .f32) (main_arg6 : FVec F S1024 .f32) (main_v6 : IVec S8320x2816 1) (main_v9 : IVec S8320x2816 1) (main_v12 : IVec S1024x2816 1) (main_v15 : IVec S1024x2816 1) (main_v18 : IVec S8320x1024 1) : IVec S8320x2816 1 × IVec S8320x2816 1 × IVec S1024x2816 1 × IVec S1024x2816 1 × IVec S8320x1024 1 × IVec S8320x1024 1 × IVec S1024 1 :=
  let main_v19 : FVec F S8320x1024 .f32 := Host.absf main_arg5
  let main_cst_4 : FVec F S_ .f32 := constant S_ .f32 0x7F800000#32
  let main_v20 : FVec F S8320x1024 .f32 := broadcastInDim S8320x1024 ![] bcast_S_S8320x1024 main_cst_4
  let main_v21 : IVec S8320x1024 1 := cmpf .olt main_v19 main_v20
  let main_v22 : FVec F S1024 .f32 := Host.absf main_arg6
  let main_cst_5 : FVec F S_ .f32 := constant S_ .f32 0x7F800000#32
  let main_v23 : FVec F S1024 .f32 := broadcastInDim S1024 ![] bcast_S_S1024 main_cst_5
  let main_v24 : IVec S1024 1 := cmpf .olt main_v22 main_v23
  (main_v6, main_v9, main_v12, main_v15, main_v18, main_v21, main_v24)

def fn {F : FTy → Type} [FloatOps F] (main_arg0 : FVec F S8320x2816 .f32) (main_arg1 : FVec F S8320x2816 .f32) (main_arg2 : FVec F S2x1024x2816 .f32) (main_arg3 : FVec F S2x1024x2816 .f32) (main_arg4 : FVec F S8320x1024 .f32) (main_arg5 : FVec F S8320x1024 .f32) (main_arg6 : FVec F S1024 .f32) : IVec S8320x2816 1 × IVec S8320x2816 1 × IVec S1024x2816 1 × IVec S1024x2816 1 × IVec S8320x1024 1 × IVec S8320x1024 1 × IVec S1024 1 :=
  let main_v0 : FVec F S1x1024x2816 .f32 := (extractStridedSlice S1x1024x2816 ![1, 0, 0] · slices_S2x1024x2816_S1x1024x2816_1_0_0) main_arg2
  let main_v1 : FVec F S1024x2816 .f32 := shapeCast S1024x2816 main_v0 shapeCasts_S1x1024x2816_S1024x2816
  let main_v2 : FVec F S1x1024x2816 .f32 := (extractStridedSlice S1x1024x2816 ![1, 0, 0] · slices_S2x1024x2816_S1x1024x2816_1_0_0) main_arg3
  let main_v3 : FVec F S1024x2816 .f32 := shapeCast S1024x2816 main_v2 shapeCasts_S1x1024x2816_S1024x2816
  let main_v4 : FVec F S8320x2816 .f32 := Host.absf main_arg0
  let main_cst : FVec F S_ .f32 := constant S_ .f32 0x7F800000#32
  let main_v5 : FVec F S8320x2816 .f32 := broadcastInDim S8320x2816 ![] bcast_S_S8320x2816 main_cst
  let main_v6 : IVec S8320x2816 1 := cmpf .olt main_v4 main_v5
  let main_v7 : FVec F S8320x2816 .f32 := Host.absf main_arg1
  let main_cst_0 : FVec F S_ .f32 := constant S_ .f32 0x7F800000#32
  let main_v8 : FVec F S8320x2816 .f32 := broadcastInDim S8320x2816 ![] bcast_S_S8320x2816 main_cst_0
  let main_v9 : IVec S8320x2816 1 := cmpf .olt main_v7 main_v8
  let main_v10 : FVec F S1024x2816 .f32 := Host.absf main_v1
  let main_cst_1 : FVec F S_ .f32 := constant S_ .f32 0x7F800000#32
  let main_v11 : FVec F S1024x2816 .f32 := broadcastInDim S1024x2816 ![] bcast_S_S1024x2816 main_cst_1
  let main_v12 : IVec S1024x2816 1 := cmpf .olt main_v10 main_v11
  let main_v13 : FVec F S1024x2816 .f32 := Host.absf main_v3
  let main_cst_2 : FVec F S_ .f32 := constant S_ .f32 0x7F800000#32
  let main_v14 : FVec F S1024x2816 .f32 := broadcastInDim S1024x2816 ![] bcast_S_S1024x2816 main_cst_2
  let main_v15 : IVec S1024x2816 1 := cmpf .olt main_v13 main_v14
  let main_v16 : FVec F S8320x1024 .f32 := Host.absf main_arg4
  let main_cst_3 : FVec F S_ .f32 := constant S_ .f32 0x7F800000#32
  let main_v17 : FVec F S8320x1024 .f32 := broadcastInDim S8320x1024 ![] bcast_S_S8320x1024 main_cst_3
  let main_v18 : IVec S8320x1024 1 := cmpf .olt main_v16 main_v17
  fn_part1 (F := F) main_arg5 main_arg6 main_v6 main_v9 main_v12 main_v15 main_v18
-- ==== Pre_kvdx_finite.lean ====
abbrev S8320x1024 : Shape := ⟨2, ![8320, 1024]⟩
abbrev S8320x8 : Shape := ⟨2, ![8320, 8]⟩
abbrev S1024x2056 : Shape := ⟨2, ![1024, 2056]⟩
abbrev S1024 : Shape := ⟨1, ![1024]⟩
abbrev S_ : Shape := ⟨0, ![]⟩

class Facts : Prop where
  bcast_S_S8320x1024 : S_.BroadcastsInDim S8320x1024 (![] : Fin 0 → Fin S8320x1024.rank)
  bcast_S_S8320x8 : S_.BroadcastsInDim S8320x8 (![] : Fin 0 → Fin S8320x8.rank)
  bcast_S_S1024x2056 : S_.BroadcastsInDim S1024x2056 (![] : Fin 0 → Fin S1024x2056.rank)
  bcast_S_S1024 : S_.BroadcastsInDim S1024 (![] : Fin 0 → Fin S1024.rank)

variable [Facts]

def fn_part1 {F : FTy → Type} [FloatOps F] (main_arg6 : FVec F S1024 .f32) (main_v2 : IVec S8320x1024 1) (main_v5 : IVec S8320x1024 1) (main_v8 : IVec S8320x8 1) (main_v11 : IVec S1024x2056 1) (main_v14 : IVec S8320x1024 1) (main_v17 : IVec S8320x1024 1) : IVec S8320x1024 1 × IVec S8320x1024 1 × IVec S8320x8 1 × IVec S1024x2056 1 × IVec S8320x1024 1 × IVec S8320x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8320x1024 .f32) (main_arg1 : FVec F S8320x1024 .f32) (main_arg2 : FVec F S8320x8 .f32) (main_arg3 : FVec F S1024x2056 .f32) (main_arg4 : FVec F S8320x1024 .f32) (main_arg5 : FVec F S8320x1024 .f32) (main_arg6 : FVec F S1024 .f32) : IVec S8320x1024 1 × IVec S8320x1024 1 × IVec S8320x8 1 × IVec S1024x2056 1 × IVec S8320x1024 1 × IVec S8320x1024 1 × IVec S1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S8320x1024 .f32 := Host.absf main_arg1
  let main_cst_0 : FVec F S_ .f32 := constant S_ .f32 0x7F800000#32
  let main_v4 : FVec F S8320x1024 .f32 := broadcastInDim S8320x1024 ![] bcast_S_S8320x1024 main_cst_0
  let main_v5 : IVec S8320x1024 1 := cmpf .olt main_v3 main_v4
  let main_v6 : FVec F S8320x8 .f32 := Host.absf main_arg2
  let main_cst_1 : FVec F S_ .f32 := constant S_ .f32 0x7F800000#32
  let main_v7 : FVec F S8320x8 .f32 := broadcastInDim S8320x8 ![] bcast_S_S8320x8 main_cst_1
  let main_v8 : IVec S8320x8 1 := cmpf .olt main_v6 main_v7
  let main_v9 : FVec F S1024x2056 .f32 := Host.absf main_arg3
  let main_cst_2 : FVec F S_ .f32 := constant S_ .f32 0x7F800000#32
  let main_v10 : FVec F S1024x2056 .f32 := broadcastInDim S1024x2056 ![] bcast_S_S1024x2056 main_cst_2
  let main_v11 : IVec S1024x2056 1 := cmpf .olt main_v9 main_v10
  let main_v12 : FVec F S8320x1024 .f32 := Host.absf main_arg4
  let main_cst_3 : FVec F S_ .f32 := constant S_ .f32 0x7F800000#32
  let main_v13 : FVec F S8320x1024 .f32 := broadcastInDim S8320x1024 ![] bcast_S_S8320x1024 main_cst_3
  let main_v14 : IVec S8320x1024 1 := cmpf .olt main_v12 main_v13
  let main_v15 : FVec F S8320x1024 .f32 := Host.absf main_arg5
  let main_cst_4 : FVec F S_ .f32 := constant S_ .f32 0x7F800000#32
  let main_v16 : FVec F S8320x1024 .f32 := broadcastInDim S8320x1024 ![] bcast_S_S8320x1024 main_cst_4
  let main_v17 : IVec S8320x1024 1 := cmpf .olt main_v15 main_v16
  fn_part1 (F := F) main_arg6 main_v2 main_v5 main_v8 main_v11 main_v14 main_v17
-- ==== Pre_qdx_finite.lean ====
abbrev S8320x1024 : Shape := ⟨2, ![8320, 1024]⟩
abbrev S1024x1024 : Shape := ⟨2, ![1024, 1024]⟩
abbrev S1024 : Shape := ⟨1, ![1024]⟩
abbrev S_ : Shape := ⟨0, ![]⟩

class Facts : Prop where
  bcast_S_S8320x1024 : S_.BroadcastsInDim S8320x1024 (![] : Fin 0 → Fin S8320x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8320x1024 .f32) (main_arg1 : FVec F S1024x1024 .f32) (main_arg2 : FVec F S8320x1024 .f32) (main_arg3 : FVec F S8320x1024 .f32) (main_arg4 : FVec F S1024 .f32) : IVec S8320x1024 1 × IVec S1024x1024 1 × IVec S8320x1024 1 × IVec S8320x1024 1 × IVec S1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8320x1024 .f32 := Host.absf main_arg2
  let main_cst_1 : FVec F S_ .f32 := constant S_ .f32 0x7F800000#32
  let main_v7 : FVec F S8320x1024 .f32 := broadcastInDim S8320x1024 ![] bcast_S_S8320x1024 main_cst_1
  let main_v8 : IVec S8320x1024 1 := cmpf .olt main_v6 main_v7
  let main_v9 : FVec F S8320x1024 .f32 := Host.absf main_arg3
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Conv.lean ====
abbrev S8320x1024 : Shape := ⟨2, ![8320, 1024]⟩
abbrev S8320x3072 : Shape := ⟨2, ![8320, 3072]⟩
abbrev S3x1024 : Shape := ⟨2, ![3, 1024]⟩
abbrev S320x1024 : Shape := ⟨2, ![320, 1024]⟩
abbrev S8x1024 : Shape := ⟨2, ![8, 1024]⟩
abbrev S320x3072 : Shape := ⟨2, ![320, 3072]⟩
abbrev S8x3072 : Shape := ⟨2, ![8, 3072]⟩
abbrev S1x1024 : Shape := ⟨2, ![1, 1024]⟩
abbrev S328x1 : Shape := ⟨2, ![328, 1]⟩
abbrev S328x1024 : Shape := ⟨2, ![328, 1024]⟩
abbrev S8x1 : Shape := ⟨2, ![8, 1]⟩
abbrev S320x1 : Shape := ⟨2, ![320, 1]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S8320x3072, .f32⟩
  | .hbm, ⟨2, _⟩ => ⟨S3x1024, .f32⟩
  | .hbm, ⟨3, _⟩ => ⟨S8320x3072, .bf16⟩
  | .hbm, ⟨4, _⟩ => ⟨S3x1024, .f32⟩
  | .local _ .vmem, ⟨0, _⟩ => ⟨S320x1024, .f32⟩
  | .local _ .vmem, ⟨1, _⟩ => ⟨S320x1024, .f32⟩
  | .local _ .vmem, ⟨2, _⟩ => ⟨S8x1024, .f32⟩
  | .local _ .vmem, ⟨3, _⟩ => ⟨S8x1024, .f32⟩
  | .local _ .vmem, ⟨4, _⟩ => ⟨S320x3072, .f32⟩
  | .local _ .vmem, ⟨5, _⟩ => ⟨S320x3072, .f32⟩
  | .local _ .vmem, ⟨6, _⟩ => ⟨S8x3072, .f32⟩
  | .local _ .vmem, ⟨7, _⟩ => ⟨S8x3072, .f32⟩
  | .local _ .vmem, ⟨8, _⟩ => ⟨S8x3072, .f32⟩
  | .local _ .vmem, ⟨9, _⟩ => ⟨S8x3072, .f32⟩
  | .local _ .vmem, ⟨10, _⟩ => ⟨S3x1024, .f32⟩
  | .local _ .vmem, ⟨11, _⟩ => ⟨S320x3072, .bf16⟩
  | .local _ .vmem, ⟨12, _⟩ => ⟨S320x3072, .bf16⟩
  | .local _ .vmem, ⟨13, _⟩ => ⟨S3x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8320x1024 : Shape := ⟨2, ![8320, 1024]⟩
abbrev S8320x3072 : Shape := ⟨2, ![8320, 3072]⟩
abbrev S3x1024 : Shape := ⟨2, ![3, 1024]⟩
abbrev S8208x3072 : Shape := ⟨2, ![8208, 3072]⟩
abbrev S8208x1024 : Shape := ⟨2, ![8208, 1024]⟩
abbrev S_ : Shape := ⟨0, ![]⟩
abbrev S1x1024 : Shape := ⟨2, ![1, 1024]⟩
abbrev S8207x1024 : Shape := ⟨2, ![8207, 1024]⟩
abbrev S2x1024 : Shape := ⟨2, ![2, 1024]⟩
abbrev S8206x1024 : Shape := ⟨2, ![8206, 1024]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x3072, .f32⟩
  | .hbm, ⟨2, _⟩ => ⟨S3x1024, .f32⟩
  | .hbm, ⟨3, _⟩ => ⟨S8208x3072, .f32⟩
  | .hbm, ⟨4, _⟩ => ⟨S8208x1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S1x1024, .f32⟩
  | .hbm, ⟨10, _⟩ => ⟨S8207x1024, .f32⟩
  | .hbm, ⟨11, _⟩ => ⟨S8208x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S2x1024, .f32⟩
  | .hbm, ⟨16, _⟩ => ⟨S8206x1024, .f32⟩
  | .hbm, ⟨17, _⟩ => ⟨S8208x1024, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8208x1024, .f32⟩
  | .hbm, ⟨29, _⟩ => ⟨S8208x1024, .f32⟩
  | .hbm, ⟨30, _⟩ => ⟨S8208x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S8208x1024, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S8208x1024, .f32⟩
  | .hbm, ⟨65, _⟩ => ⟨S8208x1024, .f32⟩
  | .hbm, ⟨66, _⟩ => ⟨S8208x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S2x1024, .f32⟩
  | .hbm, ⟨77, _⟩ => ⟨S8206x1024, .f32⟩
  | .hbm, ⟨78, _⟩ => ⟨S_, .f32⟩
  | .hbm, ⟨79, _⟩ => ⟨S8208x1024, .f32⟩
  | .hbm, ⟨80, _⟩ => ⟨S8208x1024, .f32⟩
  | .hbm, ⟨81, _⟩ => ⟨S1x1024, .f32⟩
  | .hbm, ⟨82, _⟩ => ⟨S8207x1024, .f32⟩
  | .hbm, ⟨83, _⟩ => ⟨S_, .f32⟩
  | .hbm, ⟨84, _⟩ => ⟨S8208x1024, .f32⟩
  | .hbm, ⟨85, _⟩ => ⟨S8208x1024, .f32⟩
  | .hbm, ⟨86, _⟩ => ⟨S8208x1024, .f32⟩
  | .hbm, ⟨87, _⟩ => ⟨S8208x1024, .f32⟩
  | .hbm, ⟨88, _⟩ => ⟨S8208x3072, .f32⟩
  | .hbm, ⟨89, _⟩ => ⟨S_, .f32⟩
  | .hbm, ⟨90, _⟩ => ⟨S8320x3072, .f32⟩
  | .hbm, ⟨91, _⟩ => ⟨S8320x3072, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_14 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Act.lean ====
abbrev S8320x1024 : Shape := ⟨2, ![8320, 1024]⟩
abbrev S2x2816x1024 : Shape := ⟨3, ![2, 2816, 1024]⟩
abbrev S8320x2816 : Shape := ⟨2, ![8320, 2816]⟩
abbrev S2x4x704x1024 : Shape := ⟨4, ![2, 4, 704, 1024]⟩
abbrev S4x2x704x1024 : Shape := ⟨4, ![4, 2, 704, 1024]⟩
abbrev S8320x4x704 : Shape := ⟨3, ![8320, 4, 704]⟩
abbrev S4x8320x704 : Shape := ⟨3, ![4, 8320, 704]⟩
abbrev S1664x1024 : Shape := ⟨2, ![1664, 1024]⟩
abbrev S1x1x704x1024 : Shape := ⟨4, ![1, 1, 704, 1024]⟩
abbrev S1x1664x704 : Shape := ⟨3, ![1, 1664, 704]⟩
abbrev S704x1024 : Shape := ⟨2, ![704, 1024]⟩
abbrev S1664x704 : Shape := ⟨2, ![1664, 704]⟩

abbrev nBuf : Space → Nat
  | .hbm => 16
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S2x2816x1024, .f32⟩
  | .hbm, ⟨2, _⟩ => ⟨S8320x2816, .f32⟩
  | .hbm, ⟨3, _⟩ => ⟨S8320x2816, .f32⟩
  | .hbm, ⟨4, _⟩ => ⟨S8320x1024, .bf16⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S8320x4x704, .f32⟩
  | .hbm, ⟨9, _⟩ => ⟨S4x8320x704, .f32⟩
  | .hbm, ⟨10, _⟩ => ⟨S4x8320x704, .bf16⟩
  | .hbm, ⟨11, _⟩ => ⟨S8320x4x704, .f32⟩
  | .hbm, ⟨12, _⟩ => ⟨S4x8320x704, .f32⟩
  | .hbm, ⟨13, _⟩ => ⟨S4x8320x704, .bf16⟩
  | .hbm, ⟨14, _⟩ => ⟨S4x8320x704, .bf16⟩
  | .hbm, ⟨15, _⟩ => ⟨S4x8320x704, .bf16⟩
  | .local _ .vmem, ⟨0, _⟩ => ⟨S1664x1024, .bf16⟩
  | .local _ .vmem, ⟨1, _⟩ => ⟨S1664x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1664x704, .bf16⟩
  | .local _ .vmem, ⟨5, _⟩ => ⟨S1x1664x704, .bf16⟩
  | .local _ .vmem, ⟨6, _⟩ => ⟨S1x1664x704, .bf16⟩
  | .local _ .vmem, ⟨7, _⟩ => ⟨S1x1664x704, .bf16⟩
  | .local _ .vmem, ⟨8, _⟩ => ⟨S1x1664x704, .bf16⟩
  | .local _ .vmem, ⟨9, _⟩ => ⟨S1x1664x704, .bf16⟩
  | .local _ .vmem, ⟨10, _⟩ => ⟨S1x1664x704, .bf16⟩
  | .local _ .vmem, ⟨11, _⟩ => ⟨S1x1664x704, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1664x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1664x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1664x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1664x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8320x1024 : Shape := ⟨2, ![8320, 1024]⟩
abbrev S2x2816x1024 : Shape := ⟨3, ![2, 2816, 1024]⟩
abbrev S8320x2816 : Shape := ⟨2, ![8320, 2816]⟩
abbrev S_ : Shape := ⟨0, ![]⟩
abbrev S1x2816x1024 : Shape := ⟨3, ![1, 2816, 1024]⟩
abbrev S2816x1024 : Shape := ⟨2, ![2816, 1024]⟩
abbrev S8320x4x704 : Shape := ⟨3, ![8320, 4, 704]⟩
abbrev S4x8320x704 : Shape := ⟨3, ![4, 8320, 704]⟩

abbrev nBuf : Space → Nat
  | .hbm => 40
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2x2816x1024, .f32⟩
  | .hbm, ⟨2, _⟩ => ⟨S8320x2816, .f32⟩
  | .hbm, ⟨3, _⟩ => ⟨S8320x2816, .f32⟩
  | .hbm, ⟨4, _⟩ => ⟨S8320x2816, .f32⟩
  | .hbm, ⟨5, _⟩ => ⟨S8320x2816, .f32⟩
  | .hbm, ⟨6, _⟩ => ⟨S_, .f32⟩
  | .hbm, ⟨7, _⟩ => ⟨S8320x2816, .f32⟩
  | .hbm, ⟨8, _⟩ => ⟨S8320x2816, .f32⟩
  | .hbm, ⟨9, _⟩ => ⟨S_, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x2816, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S1x2816x1024, .f32⟩
  | .hbm, ⟨19, _⟩ => ⟨S2816x1024, .f32⟩
  | .hbm, ⟨20, _⟩ => ⟨S8320x1024, .f32⟩
  | .hbm, ⟨21, _⟩ => ⟨S_, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S8320x1024, .f32⟩
  | .hbm, ⟨26, _⟩ => ⟨S8320x1024, .f32⟩
  | .hbm, ⟨27, _⟩ => ⟨S8320x2816, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x4x704, .f32⟩
  | .hbm, ⟨35, _⟩ => ⟨S4x8320x704, .f32⟩
  | .hbm, ⟨36, _⟩ => ⟨S4x8320x704, .bf16⟩
  | .hbm, ⟨37, _⟩ => ⟨S8320x4x704, .f32⟩
  | .hbm, ⟨38, _⟩ => ⟨S4x8320x704, .f32⟩
  | .hbm, ⟨39, _⟩ => ⟨S4x8320x704, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Down.lean ====
abbrev S8320x1024 : Shape := ⟨2, ![8320, 1024]⟩
abbrev S8320x2816 : Shape := ⟨2, ![8320, 2816]⟩
abbrev S8320x4x704 : Shape := ⟨3, ![8320, 4, 704]⟩
abbrev S4x8320x704 : Shape := ⟨3, ![4, 8320, 704]⟩
abbrev S4x704x1024 : Shape := ⟨3, ![4, 704, 1024]⟩
abbrev S1x4160x704 : Shape := ⟨3, ![1, 4160, 704]⟩
abbrev S4160x1024 : Shape := ⟨2, ![4160, 1024]⟩
abbrev S1x704x1024 : Shape := ⟨3, ![1, 704, 1024]⟩
abbrev S4160x704 : Shape := ⟨2, ![4160, 704]⟩
abbrev S704x1024 : Shape := ⟨2, ![704, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x2816, .f32⟩
  | .hbm, ⟨2, _⟩ => ⟨S8320x4x704, .f32⟩
  | .hbm, ⟨3, _⟩ => ⟨S4x8320x704, .f32⟩
  | .hbm, ⟨4, _⟩ => ⟨S4x8320x704, .bf16⟩
  | .hbm, ⟨5, _⟩ => ⟨S8320x1024, .bf16⟩
  | .hbm, ⟨6, _⟩ => ⟨S4x704x1024, .f32⟩
  | .local _ .vmem, ⟨0, _⟩ => ⟨S1x4160x704, .bf16⟩
  | .local _ .vmem, ⟨1, _⟩ => ⟨S1x4160x704, .bf16⟩
  | .local _ .vmem, ⟨2, _⟩ => ⟨S4160x1024, .bf16⟩
  | .local _ .vmem, ⟨3, _⟩ => ⟨S4160x1024, .bf16⟩
  | .local _ .vmem, ⟨4, _⟩ => ⟨S1x704x1024, .f32⟩
  | .local _ .vmem, ⟨5, _⟩ => ⟨S1x704x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4160x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S8320x1024 : Shape := ⟨2, ![8320, 1024]⟩
abbrev S8320x2816 : Shape := ⟨2, ![8320, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x2816, .f32⟩
  | .hbm, ⟨2, _⟩ => ⟨S_, .f32⟩
  | .hbm, ⟨3, _⟩ => ⟨S2816x1024, .f32⟩
  | .hbm, ⟨4, _⟩ => ⟨S8320x1024, .f32⟩
  | .hbm, ⟨5, _⟩ => ⟨S_, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320x1024, .f32⟩
  | .hbm, ⟨10, _⟩ => ⟨S8320x1024, .f32⟩
  | .hbm, ⟨11, _⟩ => ⟨S1024x2816, .f32⟩
  | .hbm, ⟨12, _⟩ => ⟨S2816x1024, .f32⟩
  | .hbm, ⟨13, _⟩ => ⟨S4x704x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Up.lean ====
abbrev S8320x1024 : Shape := ⟨2, ![8320, 1024]⟩
abbrev S8320x2816 : Shape := ⟨2, ![8320, 2816]⟩
abbrev S8320x4x704 : Shape := ⟨3, ![8320, 4, 704]⟩
abbrev S4x8320x704 : Shape := ⟨3, ![4, 8320, 704]⟩
abbrev S4x704x1024 : Shape := ⟨3, ![4, 704, 1024]⟩
abbrev S1x2080x704 : Shape := ⟨3, ![1, 2080, 704]⟩
abbrev S2080x1024 : Shape := ⟨2, ![2080, 1024]⟩
abbrev S1x704x1024 : Shape := ⟨3, ![1, 704, 1024]⟩
abbrev S2080x704 : Shape := ⟨2, ![2080, 704]⟩
abbrev S704x1024 : Shape := ⟨2, ![704, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x2816, .f32⟩
  | .hbm, ⟨2, _⟩ => ⟨S8320x2816, .f32⟩
  | .hbm, ⟨3, _⟩ => ⟨S8320x1024, .bf16⟩
  | .hbm, ⟨4, _⟩ => ⟨S8320x4x704, .f32⟩
  | .hbm, ⟨5, _⟩ => ⟨S4x8320x704, .f32⟩
  | .hbm, ⟨6, _⟩ => ⟨S4x8320x704, .bf16⟩
  | .hbm, ⟨7, _⟩ => ⟨S8320x4x704, .f32⟩
  | .hbm, ⟨8, _⟩ => ⟨S4x8320x704, .f32⟩
  | .hbm, ⟨9, _⟩ => ⟨S4x8320x704, .bf16⟩
  | .hbm, ⟨10, _⟩ => ⟨S4x704x1024, .f32⟩
  | .hbm, ⟨11, _⟩ => ⟨S4x704x1024, .f32⟩
  | .local _ .vmem, ⟨0, _⟩ => ⟨S1x2080x704, .bf16⟩
  | .local _ .vmem, ⟨1, _⟩ => ⟨S1x2080x704, .bf16⟩
  | .local _ .vmem, ⟨2, _⟩ => ⟨S2080x1024, .bf16⟩
  | .local _ .vmem, ⟨3, _⟩ => ⟨S2080x1024, .bf16⟩
  | .local _ .vmem, ⟨4, _⟩ => ⟨S1x2080x704, .bf16⟩
  | .local _ .vmem, ⟨5, _⟩ => ⟨S1x2080x704, .bf16⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c0_i32_13 : BitVec 32 := 0#32
  let v16 : BitVec 1 := Scalar.cmpi .eq arg1 c0_i32_13
  let v17 : BitVec 32 := Scalar.extui v16
  let c0_i32_14 : BitVec 32 := 0#32
  let v18 : BitVec 1 := Scalar.cmpi .ne v17 c0_i32_14
  v18

def k0_cond4 (i : grid0.Coords) : BitVec 1 :=
  let arg1 : BitVec 32 := BitVec.ofNat 32 (i 1).val
  let c0_i32_15 : BitVec 32 := 0#32
  let v19 : BitVec 1 := Scalar.cmpi .sgt arg1 c0_i32_15
  let v20 : BitVec 32 := Scalar.extui v19
  let c0_i32_16 : BitVec 32 := 0#32
  let v21 : BitVec 1 := Scalar.cmpi .ne v20 c0_i32_16
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2080x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2080x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpRefIdeal.lean ====
abbrev S8320x1024 : Shape := ⟨2, ![8320, 1024]⟩
abbrev S8320x2816 : Shape := ⟨2, ![8320, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x2816, .f32⟩
  | .hbm, ⟨2, _⟩ => ⟨S8320x2816, .f32⟩
  | .hbm, ⟨3, _⟩ => ⟨S_, .f32⟩
  | .hbm, ⟨4, _⟩ => ⟨S1024x2816, .f32⟩
  | .hbm, ⟨5, _⟩ => ⟨S8320x2816, .f32⟩
  | .hbm, ⟨6, _⟩ => ⟨S8320x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S2816x1024, .f32⟩
  | .hbm, ⟨14, _⟩ => ⟨S4x704x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Dx.lean ====
abbrev S8320x2816 : Shape := ⟨2, ![8320, 2816]⟩
abbrev S2x1024x2816 : Shape := ⟨3, ![2, 1024, 2816]⟩
abbrev S8320x1024 : Shape := ⟨2, ![8320, 1024]⟩
abbrev S1024 : Shape := ⟨1, ![1024]⟩
abbrev S8320x4x704 : Shape := ⟨3, ![8320, 4, 704]⟩
abbrev S4x8320x704 : Shape := ⟨3, ![4, 8320, 704]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x640x704 : Shape := ⟨3, ![4, 640, 704]⟩
abbrev S4x1x704x1024 : Shape := ⟨4, ![4, 1, 704, 1024]⟩
abbrev S640x1024 : Shape := ⟨2, ![640, 1024]⟩
abbrev S1x640x704 : Shape := ⟨3, ![1, 640, 704]⟩
abbrev S640x704 : Shape := ⟨2, ![640, 704]⟩
abbrev S1x1x704x1024 : Shape := ⟨4, ![1, 1, 704, 1024]⟩
abbrev S704x1024 : Shape := ⟨2, ![704, 1024]⟩
abbrev S640 : Shape := ⟨1, ![640]⟩
abbrev S640x1 : Shape := ⟨2, ![640, 1]⟩

abbrev nBuf : Space → Nat
  | .hbm => 26
  | .vmem => 17
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2x1024x2816, .f32⟩
  | .hbm, ⟨3, _⟩ => ⟨S2x1024x2816, .f32⟩
  | .hbm, ⟨4, _⟩ => ⟨S8320x1024, .f32⟩
  | .hbm, ⟨5, _⟩ => ⟨S8320x1024, .f32⟩
  | .hbm, ⟨6, _⟩ => ⟨S1024, .f32⟩
  | .hbm, ⟨7, _⟩ => ⟨S8320x4x704, .f32⟩
  | .hbm, ⟨8, _⟩ => ⟨S4x8320x704, .f32⟩
  | .hbm, ⟨9, _⟩ => ⟨S4x8320x704, .bf16⟩
  | .hbm, ⟨10, _⟩ => ⟨S2x2816x1024, .f32⟩
  | .hbm, ⟨11, _⟩ => ⟨S2x4x704x1024, .f32⟩
  | .hbm, ⟨12, _⟩ => ⟨S4x2x704x1024, .f32⟩
  | .hbm, ⟨13, _⟩ => ⟨S4x2x704x1024, .bf16⟩
  | .hbm, ⟨14, _⟩ => ⟨S8320x4x704, .f32⟩
  | .hbm, ⟨15, _⟩ => ⟨S4x8320x704, .f32⟩
  | .hbm, ⟨16, _⟩ => ⟨S4x8320x704, .bf16⟩
  | .hbm, ⟨17, _⟩ => ⟨S2x2816x1024, .f32⟩
  | .hbm, ⟨18, _⟩ => ⟨S2x4x704x1024, .f32⟩
  | .hbm, ⟨19, _⟩ => ⟨S4x2x704x1024, .f32⟩
  | .hbm, ⟨20, _⟩ => ⟨S4x2x704x1024, .bf16⟩
  | .hbm, ⟨21, _⟩ => ⟨S1x1024, .f32⟩
  | .hbm, ⟨22, _⟩ => ⟨S8320x1024, .f32⟩
  | .hbm, ⟨23, _⟩ => ⟨S8320x1024, .bf16⟩
  | .hbm, ⟨24, _⟩ => ⟨S1x1024, .f32⟩
  | .hbm, ⟨25, _⟩ => ⟨S1x1024, .f32⟩
  | .local _ .vmem, ⟨0, _⟩ => ⟨S4x640x704, .bf16⟩
  | .local _ .vmem, ⟨1, _⟩ => ⟨S4x640x704, .bf16⟩
  | .local _ .vmem, ⟨2, _⟩ => ⟨S4x1x704x1024, .bf16⟩
  | .local _ .vmem, ⟨3, _⟩ => ⟨S4x640x704, .bf16⟩
  | .local _ .vmem, ⟨4, _⟩ => ⟨S4x640x704, .bf16⟩
  | .local _ .vmem, ⟨5, _⟩ => ⟨S4x1x704x1024, .bf16⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .bf16⟩
  | .local _ .vmem, ⟨14, _⟩ => ⟨S640x1024, .bf16⟩
  | .local _ .vmem, ⟨15, _⟩ => ⟨S1x1024, .f32⟩
  | .local _ .vmem, ⟨16, _⟩ => ⟨S1x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DxRefIdeal.lean ====
abbrev S8320x2816 : Shape := ⟨2, ![8320, 2816]⟩
abbrev S2x1024x2816 : Shape := ⟨3, ![2, 1024, 2816]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩
abbrev S1x1024x2816 : Shape := ⟨3, ![1, 1024, 2816]⟩
abbrev S1024x2816 : Shape := ⟨2, ![1024, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2x1024x2816, .f32⟩
  | .hbm, ⟨3, _⟩ => ⟨S2x1024x2816, .f32⟩
  | .hbm, ⟨4, _⟩ => ⟨S8320x1024, .f32⟩
  | .hbm, ⟨5, _⟩ => ⟨S8320x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320x1024, .f32⟩
  | .hbm, ⟨20, _⟩ => ⟨S8320x1024, .f32⟩
  | .hbm, ⟨21, _⟩ => ⟨S_, .f32⟩
  | .hbm, ⟨22, _⟩ => ⟨S8320, .f32⟩
  | .hbm, ⟨23, _⟩ => ⟨S8320x1, .f32⟩
  | .hbm, ⟨24, _⟩ => ⟨S_, .f32⟩
  | .hbm, ⟨25, _⟩ => ⟨S8320x1, .f32⟩
  | .hbm, ⟨26, _⟩ => ⟨S8320x1, .f32⟩
  | .hbm, ⟨27, _⟩ => ⟨S8320x1024, .f32⟩
  | .hbm, ⟨28, _⟩ => ⟨S8320x1024, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S8320x1, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S8320x1024, .f32⟩
  | .hbm, ⟨38, _⟩ => ⟨S8320x1024, .f32⟩
  | .hbm, ⟨39, _⟩ => ⟨S1x1024, .f32⟩
  | .hbm, ⟨40, _⟩ => ⟨S8320x1024, .f32⟩
  | .hbm, ⟨41, _⟩ => ⟨S8320x1024, .f32⟩
  | .hbm, ⟨42, _⟩ => ⟨S1x1024, .f32⟩
  | .hbm, ⟨43, _⟩ => ⟨S8320x1024, .f32⟩
  | .hbm, ⟨44, _⟩ => ⟨S8320x1024, .f32⟩
  | .hbm, ⟨45, _⟩ => ⟨S1x1024x2816, .f32⟩
  | .hbm, ⟨46, _⟩ => ⟨S1024x2816, .f32⟩
  | .hbm, ⟨47, _⟩ => ⟨S8320x2816, .f32⟩
  | .hbm, ⟨48, _⟩ => ⟨S1x1024x2816, .f32⟩
  | .hbm, ⟨49, _⟩ => ⟨S1024x2816, .f32⟩
  | .hbm, ⟨50, _⟩ => ⟨S8320x2816, .f32⟩
  | .hbm, ⟨51, _⟩ => ⟨S_, .f32⟩
  | .hbm, ⟨52, _⟩ => ⟨S8320x1024, .f32⟩
  | .hbm, ⟨53, _⟩ => ⟨S8320x1024, .f32⟩
  | .hbm, ⟨54, _⟩ => ⟨S_, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S8320x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8320x1024, .f32⟩
  | .hbm, ⟨71, _⟩ => ⟨S8320x1024, .f32⟩
  | .hbm, ⟨72, _⟩ => ⟨S_, .f32⟩
  | .hbm, ⟨73, _⟩ => ⟨S1024, .f32⟩
  | .hbm, ⟨74, _⟩ => ⟨S8320x1024, .f32⟩
  | .hbm, ⟨75, _⟩ => ⟨S_, .f32⟩
  | .hbm, ⟨76, _⟩ => ⟨S8320, .f32⟩
  | .hbm, ⟨77, _⟩ => ⟨S8320x1, .f32⟩
  | .hbm, ⟨78, _⟩ => ⟨S8320x1024, .f32⟩
  | .hbm, ⟨79, _⟩ => ⟨S8320x1024, .f32⟩
  | .hbm, ⟨80, _⟩ => ⟨S8320x1, .f32⟩
  | .hbm, ⟨81, _⟩ => ⟨S8320x1024, .f32⟩
  | .hbm, ⟨82, _⟩ => ⟨S_, .f32⟩
  | .hbm, ⟨83, _⟩ => ⟨S8320, .f32⟩
  | .hbm, ⟨84, _⟩ => ⟨S8320x1, .f32⟩
  | .hbm, ⟨85, _⟩ => ⟨S_, .f32⟩
  | .hbm, ⟨86, _⟩ => ⟨S8320x1, .f32⟩
  | .hbm, ⟨87, _⟩ => ⟨S8320x1, .f32⟩
  | .hbm, ⟨88, _⟩ => ⟨S_, .f32⟩
  | .hbm, ⟨89, _⟩ => ⟨S8320, .f32⟩
  | .hbm, ⟨90, _⟩ => ⟨S8320x1024, .f32⟩
  | .hbm, ⟨91, _⟩ => ⟨S8320x1024, .f32⟩
  | .hbm, ⟨92, _⟩ => ⟨S8320x1024, .f32⟩
  | .hbm, ⟨93, _⟩ => ⟨S_, .f32⟩
  | .hbm, ⟨94, _⟩ => ⟨S8320, .f32⟩
  | .hbm, ⟨95, _⟩ => ⟨S8320x1, .f32⟩
  | .hbm, ⟨96, _⟩ => ⟨S8320x1024, .f32⟩
  | .hbm, ⟨97, _⟩ => ⟨S8320x1, .f32⟩
  | .hbm, ⟨98, _⟩ => ⟨S_, .f32⟩
  | .hbm, ⟨99, _⟩ => ⟨S8320x1, .f32⟩
  | .hbm, ⟨100, _⟩ => ⟨S8320x1, .f32⟩
  | .hbm, ⟨101, _⟩ => ⟨S_, .f32⟩
  | .hbm, ⟨102, _⟩ => ⟨S8320, .f32⟩
  | .hbm, ⟨103, _⟩ => ⟨S8320x1024, .f32⟩
  | .hbm, ⟨104, _⟩ => ⟨S8320x1024, .f32⟩
  | .hbm, ⟨105, _⟩ => ⟨S8320x1024, .bf16⟩
  | .hbm, ⟨106, _⟩ => ⟨S1x1024, .f32⟩
  | .hbm, ⟨107, _⟩ => ⟨S1x1024, .f32⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== FGate.lean ====
abbrev S8320x8 : Shape := ⟨2, ![8320, 8]⟩
abbrev S8 : Shape := ⟨1, ![8]⟩
abbrev S_ : Shape := ⟨0, ![]⟩
abbrev S8320x128 : Shape := ⟨2, ![8320, 128]⟩
abbrev S1x8 : Shape := ⟨2, ![1, 8]⟩
abbrev S1x128 : Shape := ⟨2, ![1, 128]⟩
abbrev S640x128 : Shape := ⟨2, ![640, 128]⟩
abbrev S128 : Shape := ⟨1, ![128]⟩

abbrev nBuf : Space → Nat
  | .hbm => 15
  | .vmem => 8
  | .smem => 0
  | _ => 0

abbrev bufTy : (tb : Table) → Fin (tcTables nBuf tb) → BufTy
  | .hbm, ⟨0, _⟩ => ⟨S8320x8, .f32⟩
  | .hbm, ⟨1, _⟩ => ⟨S8320x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S8320x128, .f32⟩
  | .hbm, ⟨6, _⟩ => ⟨S_, .i32⟩
  | .hbm, ⟨7, _⟩ => ⟨S_, .f32⟩
  | .hbm, ⟨8, _⟩ => ⟨S8320x128, .f32⟩
  | .hbm, ⟨9, _⟩ => ⟨S1x8, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S8320x128, .f32⟩
  | .hbm, ⟨14, _⟩ => ⟨S1x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S1x128, .f32⟩
  | .local _ .vmem, ⟨5, _⟩ => ⟨S640x128, .f32⟩
  | .local _ .vmem, ⟨6, _⟩ => ⟨S640x128, .f32⟩
  | .local _ .vmem, ⟨7, _⟩ => ⟨S1x128, .f32⟩
  | _, _ => ⟨S8320x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FGateRefIdeal.lean ====
abbrev S8320x8 : Shape := ⟨2, ![8320, 8]⟩
abbrev S8 : Shape := ⟨1, ![8]⟩
abbrev S_ : Shape := ⟨0, ![]⟩
abbrev S8320x128 : Shape := ⟨2, ![8320, 128]⟩
abbrev S1x8 : Shape := ⟨2, ![1, 8]⟩
abbrev S1x128 : Shape := ⟨2, ![1, 128]⟩
abbrev S112x128 : Shape := ⟨2, ![112, 128]⟩
abbrev S8208x128 : Shape := ⟨2, ![8208, 128]⟩
abbrev S128 : Shape := ⟨1, ![128]⟩

abbrev nBuf : Space → Nat
  | .hbm => 79
  | .vmem => 0
  | .smem => 0
  | _ => 0

abbrev bufTy : (tb : Table) → Fin (tcTables nBuf tb) → BufTy
  | .hbm, ⟨0, _⟩ => ⟨S8320x8, .f32⟩
  | .hbm, ⟨1, _⟩ => ⟨S8320x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S8320x128, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .f32⟩
  | .hbm, ⟨11, _⟩ => ⟨S112x128, .f32⟩
  | .hbm, ⟨12, _⟩ => ⟨S8208x128, .f32⟩
  | .hbm, ⟨13, _⟩ => ⟨S8208x128, .f32⟩
  | .hbm, ⟨14, _⟩ => ⟨S8208x128, .f32⟩
  | .hbm, ⟨15, _⟩ => ⟨S8208x128, .f32⟩
  | .hbm, ⟨16, _⟩ => ⟨S_, .f32⟩
  | .hbm, ⟨17, _⟩ => ⟨S8208x128, .f32⟩
  | .hbm, ⟨18, _⟩ => ⟨S8208x128, .f32⟩
  | .hbm, ⟨19, _⟩ => ⟨S8208x128, .f32⟩
  | .hbm, ⟨20, _⟩ => ⟨S8208x128, .f32⟩
  | .hbm, ⟨21, _⟩ => ⟨S8208x128, .i1⟩
  | .hbm, ⟨22, _⟩ => ⟨S8208x128, .f32⟩
  | .hbm, ⟨23, _⟩ => ⟨S8208x128, .f32⟩
  | .hbm, ⟨24, _⟩ => ⟨S8208x128, .f32⟩
  | .hbm, ⟨25, _⟩ => ⟨S8208x128, .f32⟩
  | .hbm, ⟨26, _⟩ => ⟨S8208x128, .f32⟩
  | .hbm, ⟨27, _⟩ => ⟨S8208x128, .f32⟩
  | .hbm, ⟨28, _⟩ => ⟨S8208x128, .f32⟩
  | .hbm, ⟨29, _⟩ => ⟨S8208x128, .f32⟩
  | .hbm, ⟨30, _⟩ => ⟨S_, .f32⟩
  | .hbm, ⟨31, _⟩ => ⟨S8208x128, .f32⟩
  | .hbm, ⟨32, _⟩ => ⟨S8208x128, .i1⟩
  | .hbm, ⟨33, _⟩ => ⟨S_, .f32⟩
  | .hbm, ⟨34, _⟩ => ⟨S8208x128, .f32⟩
  | .hbm, ⟨35, _⟩ => ⟨S8208x128, .f32⟩
  | .hbm, ⟨36, _⟩ => ⟨S_, .f32⟩
  | .hbm, ⟨37, _⟩ => ⟨S8208x128, .f32⟩
  | .hbm, ⟨38, _⟩ => ⟨S8208x128, .i1⟩
  | .hbm, ⟨39, _⟩ => ⟨S_, .f32⟩
  | .hbm, ⟨40, _⟩ => ⟨S8208x128, .f32⟩
  | .hbm, ⟨41, _⟩ => ⟨S8208x128, .f32⟩
  | .hbm, ⟨42, _⟩ => ⟨S8208x128, .f32⟩
  | .hbm, ⟨43, _⟩ => ⟨S8208x128, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8208x128, .f32⟩
  | .hbm, ⟨52, _⟩ => ⟨S8208x128, .i1⟩
  | .hbm, ⟨53, _⟩ => ⟨S_, .f32⟩
  | .hbm, ⟨54, _⟩ => ⟨S8208x128, .f32⟩
  | .hbm, ⟨55, _⟩ => ⟨S8208x128, .f32⟩
  | .hbm, ⟨56, _⟩ => ⟨S8208x128, .f32⟩
  | .hbm, ⟨57, _⟩ => ⟨S8208x128, .f32⟩
  | .hbm, ⟨58, _⟩ => ⟨S8208x128, .f32⟩
  | .hbm, ⟨59, _⟩ => ⟨S_, .f32⟩
  | .hbm, ⟨60, _⟩ => ⟨S8208x128, .f32⟩
  | .hbm, ⟨61, _⟩ => ⟨S8208x128, .f32⟩
  | .hbm, ⟨62, _⟩ => ⟨S8208x128, .f32⟩
  | .hbm, ⟨63, _⟩ => ⟨S8320x128, .f32⟩
  | .hbm, ⟨64, _⟩ => ⟨S_, .f32⟩
  | .hbm, ⟨65, _⟩ => ⟨S112x128, .f32⟩
  | .hbm, ⟨66, _⟩ => ⟨S_, .i32⟩
  | .hbm, ⟨67, _⟩ => ⟨S_, .f32⟩
  | .hbm, ⟨68, _⟩ => ⟨S8320x128, .f32⟩
  | .hbm, ⟨69, _⟩ => ⟨S112x128, .f32⟩
  | .hbm, ⟨70, _⟩ => ⟨S8208x128, .f32⟩
  | .hbm, ⟨71, _⟩ => ⟨S8208x128, .f32⟩
  | .hbm, ⟨72, _⟩ => ⟨S8208x128, .f32⟩
  | .hbm, ⟨73, _⟩ => ⟨S8208x128, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S8320x128, .f32⟩
  | _, _ => ⟨S8320x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_call0_cst : Ref sig .tc := ⟨.hbm, 16, rfl⟩
abbrev main_call2_call0_v0 : Ref sig .tc := ⟨.hbm, 17, rfl⟩
abbrev main_call2_call0_v1 : Ref sig .tc := ⟨.hbm, 18, rfl⟩
abbrev main_call2_call0_v2 : Ref sig .tc := ⟨.hbm, 19, rfl⟩
abbrev main_call2_call0_v3 : Ref sig .tc := ⟨.hbm, 20, rfl⟩
abbrev main_call2_call0_v4 : Ref sig .tc := ⟨.hbm, 21, rfl⟩
abbrev main_call2_call0_v5 : Ref sig .tc := ⟨.hbm, 22, rfl⟩
abbrev main_call2_call0_v6 : Ref sig .tc := ⟨.hbm, 23, rfl⟩
abbrev main_call2_call0_v7 : Ref sig .tc := ⟨.hbm, 24, rfl⟩
abbrev main_call2_call0_v8 : Ref sig .tc := ⟨.hbm, 25, rfl⟩
abbrev main_call2_call0_v9 : Ref sig .tc := ⟨.hbm, 26, rfl⟩
abbrev main_call2_call0_v10 : Ref sig .tc := ⟨.hbm, 27, rfl⟩
abbrev main_call2_call0_v11 : Ref sig .tc := ⟨.hbm, 28, rfl⟩
abbrev main_call2_v1_0 : Ref sig .tc := ⟨.hbm, 29, rfl⟩
abbrev main_call2_call0_cst_0 : Ref sig .tc := ⟨.hbm, 30, rfl⟩
abbrev main_call2_call0_v13 : Ref sig .tc := ⟨.hbm, 31, rfl⟩
abbrev main_call2_call0_v14 : Ref sig .tc := ⟨.hbm, 32, rfl⟩
abbrev main_call2_call0_cst_1 : Ref sig .tc := ⟨.hbm, 33, rfl⟩
abbrev main_call2_call0_v15 : Ref sig .tc := ⟨.hbm, 34, rfl⟩
abbrev main_call2_call0_v16 : Ref sig .tc := ⟨.hbm, 35, rfl⟩
abbrev main_call2_call0_cst_2 : Ref sig .tc := ⟨.hbm, 36, rfl⟩
abbrev main_call2_call0_v17 : Ref sig .tc := ⟨.hbm, 37, rfl⟩
abbrev main_call2_call0_v18 : Ref sig .tc := ⟨.hbm, 38, rfl⟩
abbrev main_call2_call0_cst_3 : Ref sig .tc := ⟨.hbm, 39, rfl⟩
abbrev main_call2_call0_v19 : Ref sig .tc := ⟨.hbm, 40, rfl⟩
abbrev main_call2_call0_v20 : Ref sig .tc := ⟨.hbm, 41, rfl⟩
abbrev main_call2_call0_v21 : Ref sig .tc := ⟨.hbm, 42, rfl⟩
abbrev main_v7_1 : Ref sig .tc := ⟨.hbm, 43, rfl⟩
abbrev main_call2_call0_cst_4 : Ref sig .tc := ⟨.hbm, 44, rfl⟩
abbrev main_call2_call0_cst_5 : Ref sig .tc := ⟨.hbm, 45, rfl⟩
abbrev main_call2_call0_v23 : Ref sig .tc := ⟨.hbm, 46, rfl⟩
abbrev main_call2_call0_cst_6 : Ref sig .tc := ⟨.hbm, 47, rfl⟩
abbrev main_call2_call0_cst_7 : Ref sig .tc := ⟨.hbm, 48, rfl⟩
abbrev main_call2_call0_v24 : Ref sig .tc := ⟨.hbm, 49, rfl⟩
abbrev main_call2_call0_cst_8 : Ref sig .tc := ⟨.hbm, 50, rfl⟩
abbrev main_call2_call0_v25 : Ref sig .tc := ⟨.hbm, 51, rfl⟩
abbrev main_call2_call0_v26 : Ref sig .tc := ⟨.hbm, 52, rfl⟩
abbrev main_call2_call0_cst_9 : Ref sig .tc := ⟨.hbm, 53, rfl⟩
abbrev main_call2_call0_v27 : Ref sig .tc := ⟨.hbm, 54, rfl⟩
abbrev main_call2_call0_v28 : Ref sig .tc := ⟨.hbm, 55, rfl⟩
abbrev main_call2_call0_v29 : Ref sig .tc := ⟨.hbm, 56, rfl⟩
abbrev main_call2_call0_v30 : Ref sig .tc := ⟨.hbm, 57, rfl⟩
abbrev main_call2_call0_v31 : Ref sig .tc := ⟨.hbm, 58, rfl⟩
abbrev main_call2_call0_cst_10 : Ref sig .tc := ⟨.hbm, 59, rfl⟩
abbrev main_call2_call0_v32 : Ref sig .tc := ⟨.hbm, 60, rfl⟩
abbrev main_v7_2 : Ref sig .tc := ⟨.hbm, 61, rfl⟩
abbrev main_v7_0 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_c_2 : Ref sig .tc := ⟨.hbm, 66, rfl⟩
abbrev main_call3_v0 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_call4_v0 : Ref sig .tc := ⟨.hbm, 71, rfl⟩
abbrev main_call4_v1 : Ref sig .tc := ⟨.hbm, 72, rfl⟩
abbrev main_v13 : Ref sig .tc := ⟨.hbm, 73, rfl⟩
abbrev main_cst_3 : Ref sig .tc := ⟨.hbm, 74, rfl⟩
abbrev main_v14 : Ref sig .tc := ⟨.hbm, 75, rfl⟩
abbrev main_v15 : Ref sig .tc := ⟨.hbm, 76, rfl⟩
abbrev main_cst_4 : Ref sig .tc := ⟨.hbm, 77, rfl⟩
abbrev main_v16 : Ref sig .tc := ⟨.hbm, 78, rfl⟩

abbrev nD : Nat := 1
abbrev τ : Topo := Topo.v7x

variable {F : FTy → Type} [FloatOps F]
-- ==== RSum.lean ====
abbrev S8320x8 : Shape := ⟨2, ![8320, 8]⟩
abbrev S_ : Shape := ⟨0, ![]⟩
abbrev S8320x128 : Shape := ⟨2, ![8320, 128]⟩
abbrev S640x128 : Shape := ⟨2, ![640, 128]⟩
abbrev S1x128 : Shape := ⟨2, ![1, 128]⟩

abbrev nBuf : Space → Nat
  | .hbm => 5
  | .vmem => 5
  | .smem => 0
  | _ => 0

abbrev bufTy : (tb : Table) → Fin (tcTables nBuf tb) → BufTy
  | .hbm, ⟨0, _⟩ => ⟨S8320x8, .f32⟩
  | .hbm, ⟨1, _⟩ => ⟨S_, .i32⟩
  | .hbm, ⟨2, _⟩ => ⟨S_, .f32⟩
  | .hbm, ⟨3, _⟩ => ⟨S8320x128, .f32⟩
  | .hbm, ⟨4, _⟩ => ⟨S8320x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S1x128, .f32⟩
  | _, _ => ⟨S8320x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumRefIdeal.lean ====
abbrev S8320x8 : Shape := ⟨2, ![8320, 8]⟩
abbrev S_ : Shape := ⟨0, ![]⟩
abbrev S8320x128 : Shape := ⟨2, ![8320, 128]⟩

abbrev nBuf : Space → Nat
  | .hbm => 12
  | .vmem => 0
  | .smem => 0
  | _ => 0

abbrev bufTy : (tb : Table) → Fin (tcTables nBuf tb) → BufTy
  | .hbm, ⟨0, _⟩ => ⟨S8320x8, .f32⟩
  | .hbm, ⟨1, _⟩ => ⟨S_, .f32⟩
  | .hbm, ⟨2, _⟩ => ⟨S8320x128, .f32⟩
  | .hbm, ⟨3, _⟩ => ⟨S_, .f32⟩
  | .hbm, ⟨4, _⟩ => ⟨S_, .f32⟩
  | .hbm, ⟨5, _⟩ => ⟨S8320x128, .f32⟩
  | .hbm, ⟨6, _⟩ => ⟨S_, .i32⟩
  | .hbm, ⟨7, _⟩ => ⟨S_, .f32⟩
  | .hbm, ⟨8, _⟩ => ⟨S8320x128, .f32⟩
  | .hbm, ⟨9, _⟩ => ⟨S_, .f32⟩
  | .hbm, ⟨10, _⟩ => ⟨S_, .f32⟩
  | .hbm, ⟨11, _⟩ => ⟨S8320x128, .f32⟩
  | _, _ => ⟨S8320x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_c : Ref sig .tc := ⟨.hbm, 6, rfl⟩
abbrev main_call1_v0 : Ref sig .tc := ⟨.hbm, 7, rfl⟩
abbrev main_v2 : Ref sig .tc := ⟨.hbm, 8, rfl⟩
abbrev main_call2_call0_cst : Ref sig .tc := ⟨.hbm, 9, rfl⟩
abbrev main_call2_call0_v0 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== CSum.lean ====
abbrev S8320x8 : Shape := ⟨2, ![8320, 8]⟩
abbrev S8 : Shape := ⟨1, ![8]⟩
abbrev S_ : Shape := ⟨0, ![]⟩
abbrev S8320x128 : Shape := ⟨2, ![8320, 128]⟩
abbrev S1x8 : Shape := ⟨2, ![1, 8]⟩
abbrev S1x128 : Shape := ⟨2, ![1, 128]⟩
abbrev S640x128 : Shape := ⟨2, ![640, 128]⟩

abbrev nBuf : Space → Nat
  | .hbm => 10
  | .vmem => 6
  | .smem => 0
  | _ => 0

abbrev bufTy : (tb : Table) → Fin (tcTables nBuf tb) → BufTy
  | .hbm, ⟨0, _⟩ => ⟨S8320x8, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S8320x128, .f32⟩
  | .hbm, ⟨5, _⟩ => ⟨S1x8, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S8320x128, .f32⟩
  | .local _ .vmem, ⟨0, _⟩ => ⟨S640x128, .f32⟩
  | .local _ .vmem, ⟨1, _⟩ => ⟨S640x128, .f32⟩
  | .local _ .vmem, ⟨2, _⟩ => ⟨S1x128, .f32⟩
  | .local _ .vmem, ⟨3, _⟩ => ⟨S640x128, .f32⟩
  | .local _ .vmem, ⟨4, _⟩ => ⟨S640x128, .f32⟩
  | .local _ .vmem, ⟨5, _⟩ => ⟨S1x128, .f32⟩
  | _, _ => ⟨S8320x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CSumRefIdeal.lean ====
abbrev S8320x8 : Shape := ⟨2, ![8320, 8]⟩
abbrev S8 : Shape := ⟨1, ![8]⟩
abbrev S_ : Shape := ⟨0, ![]⟩
abbrev S8320x128 : Shape := ⟨2, ![8320, 128]⟩
abbrev S1x8 : Shape := ⟨2, ![1, 8]⟩
abbrev S1x128 : Shape := ⟨2, ![1, 128]⟩
abbrev S112x128 : Shape := ⟨2, ![112, 128]⟩
abbrev S8208x128 : Shape := ⟨2, ![8208, 128]⟩

abbrev nBuf : Space → Nat
  | .hbm => 34
  | .vmem => 0
  | .smem => 0
  | _ => 0

abbrev bufTy : (tb : Table) → Fin (tcTables nBuf tb) → BufTy
  | .hbm, ⟨0, _⟩ => ⟨S8320x8, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S8320x128, .f32⟩
  | .hbm, ⟨5, _⟩ => ⟨S1x8, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S_, .f32⟩
  | .hbm, ⟨10, _⟩ => ⟨S112x128, .f32⟩
  | .hbm, ⟨11, _⟩ => ⟨S8208x128, .f32⟩
  | .hbm, ⟨12, _⟩ => ⟨S8208x128, .f32⟩
  | .hbm, ⟨13, _⟩ => ⟨S8208x128, .f32⟩
  | .hbm, ⟨14, _⟩ => ⟨S8208x128, .f32⟩
  | .hbm, ⟨15, _⟩ => ⟨S_, .f32⟩
  | .hbm, ⟨16, _⟩ => ⟨S8208x128, .f32⟩
  | .hbm, ⟨17, _⟩ => ⟨S8208x128, .f32⟩
  | .hbm, ⟨18, _⟩ => ⟨S8208x128, .f32⟩
  | .hbm, ⟨19, _⟩ => ⟨S8208x128, .f32⟩
  | .hbm, ⟨20, _⟩ => ⟨S8208x128, .i1⟩
  | .hbm, ⟨21, _⟩ => ⟨S8208x128, .f32⟩
  | .hbm, ⟨22, _⟩ => ⟨S8208x128, .f32⟩
  | .hbm, ⟨23, _⟩ => ⟨S8208x128, .f32⟩
  | .hbm, ⟨24, _⟩ => ⟨S8208x128, .f32⟩
  | .hbm, ⟨25, _⟩ => ⟨S8208x128, .f32⟩
  | .hbm, ⟨26, _⟩ => ⟨S8208x128, .f32⟩
  | .hbm, ⟨27, _⟩ => ⟨S8208x128, .f32⟩
  | .hbm, ⟨28, _⟩ => ⟨S8208x128, .f32⟩
  | .hbm, ⟨29, _⟩ => ⟨S8208x128, .f32⟩
  | .hbm, ⟨30, _⟩ => ⟨S8320x128, .f32⟩
  | .hbm, ⟨31, _⟩ => ⟨S_, .f32⟩
  | .hbm, ⟨32, _⟩ => ⟨S_, .f32⟩
  | .hbm, ⟨33, _⟩ => ⟨S8320x128, .f32⟩
  | _, _ => ⟨S8320x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call2_v0 : Ref sig .tc := ⟨.hbm, 14, rfl⟩
abbrev main_call2_call0_cst : Ref sig .tc := ⟨.hbm, 15, rfl⟩
abbrev main_call2_call0_v0 : Ref sig .tc := ⟨.hbm, 16, rfl⟩
abbrev main_call2_call0_v1 : Ref sig .tc := ⟨.hbm, 17, rfl⟩
abbrev main_call2_call0_v2 : Ref sig .tc := ⟨.hbm, 18, rfl⟩
abbrev main_call2_call0_v3 : Ref sig .tc := ⟨.hbm, 19, rfl⟩
abbrev main_call2_call0_v4 : Ref sig .tc := ⟨.hbm, 20, rfl⟩
abbrev main_call2_call0_v5 : Ref sig .tc := ⟨.hbm, 21, rfl⟩
abbrev main_call2_call0_v6 : Ref sig .tc := ⟨.hbm, 22, rfl⟩
abbrev main_call2_call0_v7 : Ref sig .tc := ⟨.hbm, 23, rfl⟩
abbrev main_call2_call0_v8 : Ref sig .tc := ⟨.hbm, 24, rfl⟩
abbrev main_call2_call0_v9 : Ref sig .tc := ⟨.hbm, 25, rfl⟩
abbrev main_call2_call0_v10 : Ref sig .tc := ⟨.hbm, 26, rfl⟩
abbrev main_call2_call0_v11 : Ref sig .tc := ⟨.hbm, 27, rfl⟩
abbrev main_call2_v1 : Ref sig .tc := ⟨.hbm, 28, rfl⟩
abbrev main_v7 : Ref sig .tc := ⟨.hbm, 29, rfl⟩
abbrev main_v8 : Ref sig .tc := ⟨.hbm, 30, rfl⟩
abbrev main_call3_call0_cst : Ref sig .tc := ⟨.hbm, 31, rfl⟩
abbrev main_call3_call0_v0 : Ref sig .tc := ⟨.hbm, 32, rfl⟩
abbrev main_v9 : Ref sig .tc := ⟨.hbm, 33, rfl⟩

abbrev nD : Nat := 1
abbrev τ : Topo := Topo.v7x

variable {F : FTy → Type} [FloatOps F]
-- ==== KvDw.lean ====
abbrev S8320x1024 : Shape := ⟨2, ![8320, 1024]⟩
abbrev S8320x8 : Shape := ⟨2, ![8320, 8]⟩
abbrev S_ : Shape := ⟨0, ![]⟩
abbrev S8320x128 : Shape := ⟨2, ![8320, 128]⟩
abbrev S1x1024x1024 : Shape := ⟨3, ![1, 1024, 1024]⟩
abbrev S1x1024x128 : Shape := ⟨3, ![1, 1024, 128]⟩
abbrev S2080x1024 : Shape := ⟨2, ![2080, 1024]⟩
abbrev S2080x128 : Shape := ⟨2, ![2080, 128]⟩
abbrev S1024x1024 : Shape := ⟨2, ![1024, 1024]⟩
abbrev S1024x128 : Shape := ⟨2, ![1024, 128]⟩

abbrev nBuf : Space → Nat
  | .hbm => 11
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x8, .f32⟩
  | .hbm, ⟨4, _⟩ => ⟨S8320x1024, .bf16⟩
  | .hbm, ⟨5, _⟩ => ⟨S_, .i32⟩
  | .hbm, ⟨6, _⟩ => ⟨S_, .f32⟩
  | .hbm, ⟨7, _⟩ => ⟨S8320x128, .f32⟩
  | .hbm, ⟨8, _⟩ => ⟨S1x1024x1024, .f32⟩
  | .hbm, ⟨9, _⟩ => ⟨S1x1024x1024, .f32⟩
  | .hbm, ⟨10, _⟩ => ⟨S1x1024x128, .f32⟩
  | .local _ .vmem, ⟨0, _⟩ => ⟨S2080x1024, .bf16⟩
  | .local _ .vmem, ⟨1, _⟩ => ⟨S2080x1024, .bf16⟩
  | .local _ .vmem, ⟨2, _⟩ => ⟨S2080x1024, .f32⟩
  | .local _ .vmem, ⟨3, _⟩ => ⟨S2080x1024, .f32⟩
  | .local _ .vmem, ⟨4, _⟩ => ⟨S2080x1024, .f32⟩
  | .local _ .vmem, ⟨5, _⟩ => ⟨S2080x1024, .f32⟩
  | .local _ .vmem, ⟨6, _⟩ => ⟨S2080x128, .f32⟩
  | .local _ .vmem, ⟨7, _⟩ => ⟨S2080x128, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c0_i32_11 : BitVec 32 := 0#32
  let v16 : BitVec 1 := Scalar.cmpi .eq arg1 c0_i32_11
  let v17 : BitVec 32 := Scalar.extui v16
  let c0_i32_12 : BitVec 32 := 0#32
  let v18 : BitVec 1 := Scalar.cmpi .ne v17 c0_i32_12
  v18

def k0_cond4 (i : grid0.Coords) : BitVec 1 :=
  let arg1 : BitVec 32 := BitVec.ofNat 32 (i 1).val
  let c0_i32_13 : BitVec 32 := 0#32
  let v19 : BitVec 1 := Scalar.cmpi .sgt arg1 c0_i32_13
  let v20 : BitVec 32 := Scalar.extui v19
  let c0_i32_14 : BitVec 32 := 0#32
  let v21 : BitVec 1 := Scalar.cmpi .ne v20 c0_i32_14
  v21

def k0_cond5 (i : grid0.Coords) : BitVec 1 :=
  let arg1 : BitVec 32 := BitVec.ofNat 32 (i 1).val
  let c0_i32_20 : BitVec 32 := 0#32
  let v28 : BitVec 1 := Scalar.cmpi .eq arg1 c0_i32_20
  let v29 : BitVec 32 := Scalar.extui v28
  let c0_i32_21 : BitVec 32 := 0#32
  let v30 : BitVec 1 := Scalar.cmpi .ne v29 c0_i32_21
  v30

def k0_cond6 (i : grid0.Coords) : BitVec 1 :=
  let arg1 : BitVec 32 := BitVec.ofNat 32 (i 1).val
  let c0_i32_22 : BitVec 32 := 0#32
  let v31 : BitVec 1 := Scalar.cmpi .sgt arg1 c0_i32_22
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2080x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== KvDwRefIdeal.lean ====
abbrev S8320x1024 : Shape := ⟨2, ![8320, 1024]⟩
abbrev S8320x8 : Shape := ⟨2, ![8320, 8]⟩
abbrev S_ : Shape := ⟨0, ![]⟩
abbrev S1024x2056 : Shape := ⟨2, ![1024, 2056]⟩
abbrev S8320x2056 : Shape := ⟨2, ![8320, 2056]⟩
abbrev S2056x1024 : Shape := ⟨2, ![2056, 1024]⟩
abbrev S1024x1024 : Shape := ⟨2, ![1024, 1024]⟩
abbrev S1x1024x1024 : Shape := ⟨3, ![1, 1024, 1024]⟩
abbrev S1024x8 : Shape := ⟨2, ![1024, 8]⟩
abbrev S1024x128 : Shape := ⟨2, ![1024, 128]⟩
abbrev S1x1024x128 : Shape := ⟨3, ![1, 1024, 128]⟩

abbrev nBuf : Space → Nat
  | .hbm => 19
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x8, .f32⟩
  | .hbm, ⟨4, _⟩ => ⟨S_, .f32⟩
  | .hbm, ⟨5, _⟩ => ⟨S1024x2056, .f32⟩
  | .hbm, ⟨6, _⟩ => ⟨S8320x2056, .f32⟩
  | .hbm, ⟨7, _⟩ => ⟨S8320x2056, .f32⟩
  | .hbm, ⟨8, _⟩ => ⟨S2056x1024, .f32⟩
  | .hbm, ⟨9, _⟩ => ⟨S1024x2056, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1x1024x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== KvDx.lean ====
abbrev S8320x1024 : Shape := ⟨2, ![8320, 1024]⟩
abbrev S8320x8 : Shape := ⟨2, ![8320, 8]⟩
abbrev S1024x2056 : Shape := ⟨2, ![1024, 2056]⟩
abbrev S1024 : Shape := ⟨1, ![1024]⟩
abbrev S1024x1024 : Shape := ⟨2, ![1024, 1024]⟩
abbrev S1x1024x1024 : Shape := ⟨3, ![1, 1024, 1024]⟩
abbrev S_ : Shape := ⟨0, ![]⟩
abbrev S8320x128 : Shape := ⟨2, ![8320, 128]⟩
abbrev S1024x8 : Shape := ⟨2, ![1024, 8]⟩
abbrev S1024x128 : Shape := ⟨2, ![1024, 128]⟩
abbrev S1x1024x128 : Shape := ⟨3, ![1, 1024, 128]⟩
abbrev S1x1024 : Shape := ⟨2, ![1, 1024]⟩
abbrev S832x1024 : Shape := ⟨2, ![832, 1024]⟩
abbrev S832x128 : Shape := ⟨2, ![832, 128]⟩
abbrev S832 : Shape := ⟨1, ![832]⟩
abbrev S832x1 : Shape := ⟨2, ![832, 1]⟩

abbrev nBuf : Space → Nat
  | .hbm => 25
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x8, .f32⟩
  | .hbm, ⟨3, _⟩ => ⟨S1024x2056, .f32⟩
  | .hbm, ⟨4, _⟩ => ⟨S8320x1024, .f32⟩
  | .hbm, ⟨5, _⟩ => ⟨S8320x1024, .f32⟩
  | .hbm, ⟨6, _⟩ => ⟨S1024, .f32⟩
  | .hbm, ⟨7, _⟩ => ⟨S1024x2056, .bf16⟩
  | .hbm, ⟨8, _⟩ => ⟨S1024x1024, .bf16⟩
  | .hbm, ⟨9, _⟩ => ⟨S1x1024x1024, .bf16⟩
  | .hbm, ⟨10, _⟩ => ⟨S1024x1024, .bf16⟩
  | .hbm, ⟨11, _⟩ => ⟨S1x1024x1024, .bf16⟩
  | .hbm, ⟨12, _⟩ => ⟨S_, .i32⟩
  | .hbm, ⟨13, _⟩ => ⟨S_, .f32⟩
  | .hbm, ⟨14, _⟩ => ⟨S8320x128, .f32⟩
  | .hbm, ⟨15, _⟩ => ⟨S1024x8, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S1x1024x128, .bf16⟩
  | .hbm, ⟨20, _⟩ => ⟨S1x1024, .f32⟩
  | .hbm, ⟨21, _⟩ => ⟨S8320x1024, .f32⟩
  | .hbm, ⟨22, _⟩ => ⟨S8320x1024, .bf16⟩
  | .hbm, ⟨23, _⟩ => ⟨S1x1024, .f32⟩
  | .hbm, ⟨24, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S1x1024x1024, .bf16⟩
  | .local _ .vmem, ⟨3, _⟩ => ⟨S832x1024, .f32⟩
  | .local _ .vmem, ⟨4, _⟩ => ⟨S832x1024, .f32⟩
  | .local _ .vmem, ⟨5, _⟩ => ⟨S1x1024x1024, .bf16⟩
  | .local _ .vmem, ⟨6, _⟩ => ⟨S832x128, .f32⟩
  | .local _ .vmem, ⟨7, _⟩ => ⟨S832x128, .f32⟩
  | .local _ .vmem, ⟨8, _⟩ => ⟨S1x1024x128, .bf16⟩
  | .local _ .vmem, ⟨9, _⟩ => ⟨S832x1024, .f32⟩
  | .local _ .vmem, ⟨10, _⟩ => ⟨S832x1024, .f32⟩
  | .local _ .vmem, ⟨11, _⟩ => ⟨S832x1024, .f32⟩
  | .local _ .vmem, ⟨12, _⟩ => ⟨S832x1024, .f32⟩
  | .local _ .vmem, ⟨13, _⟩ => ⟨S1x1024, .f32⟩
  | .local _ .vmem, ⟨14, _⟩ => ⟨S832x1024, .f32⟩
  | .local _ .vmem, ⟨15, _⟩ => ⟨S832x1024, .f32⟩
  | .local _ .vmem, ⟨16, _⟩ => ⟨S832x1024, .bf16⟩
  | .local _ .vmem, ⟨17, _⟩ => ⟨S832x1024, .bf16⟩
  | .local _ .vmem, ⟨18, _⟩ => ⟨S1x1024, .f32⟩
  | .local _ .vmem, ⟨19, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S832x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S832x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S832x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KvDxRefIdeal.lean ====
abbrev S8320x1024 : Shape := ⟨2, ![8320, 1024]⟩
abbrev S8320x8 : Shape := ⟨2, ![8320, 8]⟩
abbrev S1024x2056 : Shape := ⟨2, ![1024, 2056]⟩
abbrev S1024 : Shape := ⟨1, ![1024]⟩
abbrev S8320x2056 : Shape := ⟨2, ![8320, 2056]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x8, .f32⟩
  | .hbm, ⟨3, _⟩ => ⟨S1024x2056, .f32⟩
  | .hbm, ⟨4, _⟩ => ⟨S8320x1024, .f32⟩
  | .hbm, ⟨5, _⟩ => ⟨S8320x1024, .f32⟩
  | .hbm, ⟨6, _⟩ => ⟨S1024, .f32⟩
  | .hbm, ⟨7, _⟩ => ⟨S8320x2056, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x1024, .f32⟩
  | .hbm, ⟨39, _⟩ => ⟨S8320x1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S1x1024, .f32⟩
  | .hbm, ⟨44, _⟩ => ⟨S8320x1024, .f32⟩
  | .hbm, ⟨45, _⟩ => ⟨S8320x1024, .f32⟩
  | .hbm, ⟨46, _⟩ => ⟨S8320x2056, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S8320x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8320x1024, .f32⟩
  | .hbm, ⟨60, _⟩ => ⟨S8320x1024, .f32⟩
  | .hbm, ⟨61, _⟩ => ⟨S_, .f32⟩
  | .hbm, ⟨62, _⟩ => ⟨S1024, .f32⟩
  | .hbm, ⟨63, _⟩ => ⟨S8320x1024, .f32⟩
  | .hbm, ⟨64, _⟩ => ⟨S_, .f32⟩
  | .hbm, ⟨65, _⟩ => ⟨S8320, .f32⟩
  | .hbm, ⟨66, _⟩ => ⟨S8320x1, .f32⟩
  | .hbm, ⟨67, _⟩ => ⟨S8320x1024, .f32⟩
  | .hbm, ⟨68, _⟩ => ⟨S8320x1024, .f32⟩
  | .hbm, ⟨69, _⟩ => ⟨S8320x1, .f32⟩
  | .hbm, ⟨70, _⟩ => ⟨S8320x1024, .f32⟩
  | .hbm, ⟨71, _⟩ => ⟨S_, .f32⟩
  | .hbm, ⟨72, _⟩ => ⟨S8320, .f32⟩
  | .hbm, ⟨73, _⟩ => ⟨S8320x1, .f32⟩
  | .hbm, ⟨74, _⟩ => ⟨S_, .f32⟩
  | .hbm, ⟨75, _⟩ => ⟨S8320x1, .f32⟩
  | .hbm, ⟨76, _⟩ => ⟨S8320x1, .f32⟩
  | .hbm, ⟨77, _⟩ => ⟨S_, .f32⟩
  | .hbm, ⟨78, _⟩ => ⟨S8320, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S_, .f32⟩
  | .hbm, ⟨83, _⟩ => ⟨S8320, .f32⟩
  | .hbm, ⟨84, _⟩ => ⟨S8320x1, .f32⟩
  | .hbm, ⟨85, _⟩ => ⟨S8320x1024, .f32⟩
  | .hbm, ⟨86, _⟩ => ⟨S8320x1, .f32⟩
  | .hbm, ⟨87, _⟩ => ⟨S_, .f32⟩
  | .hbm, ⟨88, _⟩ => ⟨S8320x1, .f32⟩
  | .hbm, ⟨89, _⟩ => ⟨S8320x1, .f32⟩
  | .hbm, ⟨90, _⟩ => ⟨S_, .f32⟩
  | .hbm, ⟨91, _⟩ => ⟨S8320, .f32⟩
  | .hbm, ⟨92, _⟩ => ⟨S8320x1024, .f32⟩
  | .hbm, ⟨93, _⟩ => ⟨S8320x1024, .f32⟩
  | .hbm, ⟨94, _⟩ => ⟨S8320x1024, .bf16⟩
  | .hbm, ⟨95, _⟩ => ⟨S1x1024, .f32⟩
  | .hbm, ⟨96, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== QDx.lean ====
abbrev S8320x1024 : Shape := ⟨2, ![8320, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S832x1024 : Shape := ⟨2, ![832, 1024]⟩
abbrev S832 : Shape := ⟨1, ![832]⟩
abbrev S832x1 : Shape := ⟨2, ![832, 1]⟩

abbrev nBuf : Space → Nat
  | .hbm => 13
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S1024, .f32⟩
  | .hbm, ⟨5, _⟩ => ⟨S8320x1024, .bf16⟩
  | .hbm, ⟨6, _⟩ => ⟨S1024x1024, .bf16⟩
  | .hbm, ⟨7, _⟩ => ⟨S1x1024x1024, .bf16⟩
  | .hbm, ⟨8, _⟩ => ⟨S1x1024, .f32⟩
  | .hbm, ⟨9, _⟩ => ⟨S8320x1024, .f32⟩
  | .hbm, ⟨10, _⟩ => ⟨S8320x1024, .bf16⟩
  | .hbm, ⟨11, _⟩ => ⟨S1x1024, .f32⟩
  | .hbm, ⟨12, _⟩ => ⟨S1x1024, .f32⟩
  | .local _ .vmem, ⟨0, _⟩ => ⟨S832x1024, .bf16⟩
  | .local _ .vmem, ⟨1, _⟩ => ⟨S832x1024, .bf16⟩
  | .local _ .vmem, ⟨2, _⟩ => ⟨S1x1024x1024, .bf16⟩
  | .local _ .vmem, ⟨3, _⟩ => ⟨S832x1024, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S1x1024, .f32⟩
  | .local _ .vmem, ⟨8, _⟩ => ⟨S832x1024, .f32⟩
  | .local _ .vmem, ⟨9, _⟩ => ⟨S832x1024, .f32⟩
  | .local _ .vmem, ⟨10, _⟩ => ⟨S832x1024, .bf16⟩
  | .local _ .vmem, ⟨11, _⟩ => ⟨S832x1024, .bf16⟩
  | .local _ .vmem, ⟨12, _⟩ => ⟨S1x1024, .f32⟩
  | .local _ .vmem, ⟨13, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S832x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S832x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QDxRefIdeal.lean ====
abbrev S8320x1024 : Shape := ⟨2, ![8320, 1024]⟩
abbrev S1024x1024 : Shape := ⟨2, ![1024, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S8320x1, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x1024, .f32⟩
  | .hbm, ⟨36, _⟩ => ⟨S8320x1024, .f32⟩
  | .hbm, ⟨37, _⟩ => ⟨S1x1024, .f32⟩
  | .hbm, ⟨38, _⟩ => ⟨S8320x1024, .f32⟩
  | .hbm, ⟨39, _⟩ => ⟨S8320x1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S_, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8320x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S8320x1024, .f32⟩
  | .hbm, ⟨66, _⟩ => ⟨S_, .f32⟩
  | .hbm, ⟨67, _⟩ => ⟨S8320, .f32⟩
  | .hbm, ⟨68, _⟩ => ⟨S8320x1, .f32⟩
  | .hbm, ⟨69, _⟩ => ⟨S8320x1024, .f32⟩
  | .hbm, ⟨70, _⟩ => ⟨S8320x1024, .f32⟩
  | .hbm, ⟨71, _⟩ => ⟨S8320x1, .f32⟩
  | .hbm, ⟨72, _⟩ => ⟨S8320x1024, .f32⟩
  | .hbm, ⟨73, _⟩ => ⟨S_, .f32⟩
  | .hbm, ⟨74, _⟩ => ⟨S8320, .f32⟩
  | .hbm, ⟨75, _⟩ => ⟨S8320x1, .f32⟩
  | .hbm, ⟨76, _⟩ => ⟨S_, .f32⟩
  | .hbm, ⟨77, _⟩ => ⟨S8320x1, .f32⟩
  | .hbm, ⟨78, _⟩ => ⟨S8320x1, .f32⟩
  | .hbm, ⟨79, _⟩ => ⟨S_, .f32⟩
  | .hbm, ⟨80, _⟩ => ⟨S8320, .f32⟩
  | .hbm, ⟨81, _⟩ => ⟨S8320x1024, .f32⟩
  | .hbm, ⟨82, _⟩ => ⟨S8320x1024, .f32⟩
  | .hbm, ⟨83, _⟩ => ⟨S8320x1024, .f32⟩
  | .hbm, ⟨84, _⟩ => ⟨S_, .f32⟩
  | .hbm, ⟨85, _⟩ => ⟨S8320, .f32⟩
  | .hbm, ⟨86, _⟩ => ⟨S8320x1, .f32⟩
  | .hbm, ⟨87, _⟩ => ⟨S8320x1024, .f32⟩
  | .hbm, ⟨88, _⟩ => ⟨S8320x1, .f32⟩
  | .hbm, ⟨89, _⟩ => ⟨S_, .f32⟩
  | .hbm, ⟨90, _⟩ => ⟨S8320x1, .f32⟩
  | .hbm, ⟨91, _⟩ => ⟨S8320x1, .f32⟩
  | .hbm, ⟨92, _⟩ => ⟨S_, .f32⟩
  | .hbm, ⟨93, _⟩ => ⟨S8320, .f32⟩
  | .hbm, ⟨94, _⟩ => ⟨S8320x1024, .f32⟩
  | .hbm, ⟨95, _⟩ => ⟨S8320x1024, .f32⟩
  | .hbm, ⟨96, _⟩ => ⟨S8320x1024, .bf16⟩
  | .hbm, ⟨97, _⟩ => ⟨S1x1024, .f32⟩
  | .hbm, ⟨98, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== CDx.lean ====
abbrev S8320x3072 : Shape := ⟨2, ![8320, 3072]⟩
abbrev S1024x3072 : Shape := ⟨2, ![1024, 3072]⟩
abbrev S8320x1024 : Shape := ⟨2, ![8320, 1024]⟩
abbrev S1024 : Shape := ⟨1, ![1024]⟩
abbrev S1024x4x768 : Shape := ⟨3, ![1024, 4, 768]⟩
abbrev S4x1024x768 : Shape := ⟨3, ![4, 1024, 768]⟩
abbrev S1x1024 : Shape := ⟨2, ![1, 1024]⟩
abbrev S640x3072 : Shape := ⟨2, ![640, 3072]⟩
abbrev S640x1024 : Shape := ⟨2, ![640, 1024]⟩
abbrev S640x768 : Shape := ⟨2, ![640, 768]⟩
abbrev S1x1024x768 : Shape := ⟨3, ![1, 1024, 768]⟩
abbrev S1024x768 : Shape := ⟨2, ![1024, 768]⟩
abbrev S640 : Shape := ⟨1, ![640]⟩
abbrev S640x1 : Shape := ⟨2, ![640, 1]⟩

abbrev nBuf : Space → Nat
  | .hbm => 14
  | .vmem => 14
  | .smem => 0
  | _ => 0

abbrev bufTy : (tb : Table) → Fin (tcTables nBuf tb) → BufTy
  | .hbm, ⟨0, _⟩ => ⟨S8320x3072, .f32⟩
  | .hbm, ⟨1, _⟩ => ⟨S1024x3072, .f32⟩
  | .hbm, ⟨2, _⟩ => ⟨S8320x1024, .f32⟩
  | .hbm, ⟨3, _⟩ => ⟨S8320x1024, .f32⟩
  | .hbm, ⟨4, _⟩ => ⟨S1024, .f32⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S8320x3072, .bf16⟩
  | .hbm, ⟨9, _⟩ => ⟨S1x1024, .f32⟩
  | .hbm, ⟨10, _⟩ => ⟨S8320x1024, .f32⟩
  | .hbm, ⟨11, _⟩ => ⟨S8320x1024, .bf16⟩
  | .hbm, ⟨12, _⟩ => ⟨S1x1024, .f32⟩
  | .hbm, ⟨13, _⟩ => ⟨S1x1024, .f32⟩
  | .local _ .vmem, ⟨0, _⟩ => ⟨S640x3072, .bf16⟩
  | .local _ .vmem, ⟨1, _⟩ => ⟨S640x3072, .bf16⟩
  | .local _ .vmem, ⟨2, _⟩ => ⟨S4x1024x768, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S1x1024, .f32⟩
  | .local _ .vmem, ⟨13, _⟩ => ⟨S1x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== CDxRefIdeal.lean ====
abbrev S8320x3072 : Shape := ⟨2, ![8320, 3072]⟩
abbrev S1024x3072 : Shape := ⟨2, ![1024, 3072]⟩
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S1024x3072, .f32⟩
  | .hbm, ⟨2, _⟩ => ⟨S8320x1024, .f32⟩
  | .hbm, ⟨3, _⟩ => ⟨S8320x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S8320x1, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x1024, .f32⟩
  | .hbm, ⟨36, _⟩ => ⟨S8320x1024, .f32⟩
  | .hbm, ⟨37, _⟩ => ⟨S1x1024, .f32⟩
  | .hbm, ⟨38, _⟩ => ⟨S8320x1024, .f32⟩
  | .hbm, ⟨39, _⟩ => ⟨S8320x1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S8320x3072, .f32⟩
  | .hbm, ⟨44, _⟩ => ⟨S_, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8320x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8320x1024, .f32⟩
  | .hbm, ⟨62, _⟩ => ⟨S8320x1024, .f32⟩
  | .hbm, ⟨63, _⟩ => ⟨S_, .f32⟩
  | .hbm, ⟨64, _⟩ => ⟨S1024, .f32⟩
  | .hbm, ⟨65, _⟩ => ⟨S8320x1024, .f32⟩
  | .hbm, ⟨66, _⟩ => ⟨S_, .f32⟩
  | .hbm, ⟨67, _⟩ => ⟨S8320, .f32⟩
  | .hbm, ⟨68, _⟩ => ⟨S8320x1, .f32⟩
  | .hbm, ⟨69, _⟩ => ⟨S8320x1024, .f32⟩
  | .hbm, ⟨70, _⟩ => ⟨S8320x1024, .f32⟩
  | .hbm, ⟨71, _⟩ => ⟨S8320x1, .f32⟩
  | .hbm, ⟨72, _⟩ => ⟨S8320x1024, .f32⟩
  | .hbm, ⟨73, _⟩ => ⟨S_, .f32⟩
  | .hbm, ⟨74, _⟩ => ⟨S8320, .f32⟩
  | .hbm, ⟨75, _⟩ => ⟨S8320x1, .f32⟩
  | .hbm, ⟨76, _⟩ => ⟨S_, .f32⟩
  | .hbm, ⟨77, _⟩ => ⟨S8320x1, .f32⟩
  | .hbm, ⟨78, _⟩ => ⟨S8320x1, .f32⟩
  | .hbm, ⟨79, _⟩ => ⟨S_, .f32⟩
  | .hbm, ⟨80, _⟩ => ⟨S8320, .f32⟩
  | .hbm, ⟨81, _⟩ => ⟨S8320x1024, .f32⟩
  | .hbm, ⟨82, _⟩ => ⟨S8320x1024, .f32⟩
  | .hbm, ⟨83, _⟩ => ⟨S8320x1024, .f32⟩
  | .hbm, ⟨84, _⟩ => ⟨S_, .f32⟩
  | .hbm, ⟨85, _⟩ => ⟨S8320, .f32⟩
  | .hbm, ⟨86, _⟩ => ⟨S8320x1, .f32⟩
  | .hbm, ⟨87, _⟩ => ⟨S8320x1024, .f32⟩
  | .hbm, ⟨88, _⟩ => ⟨S8320x1, .f32⟩
  | .hbm, ⟨89, _⟩ => ⟨S_, .f32⟩
  | .hbm, ⟨90, _⟩ => ⟨S8320x1, .f32⟩
  | .hbm, ⟨91, _⟩ => ⟨S8320x1, .f32⟩
  | .hbm, ⟨92, _⟩ => ⟨S_, .f32⟩
  | .hbm, ⟨93, _⟩ => ⟨S8320, .f32⟩
  | .hbm, ⟨94, _⟩ => ⟨S8320x1024, .f32⟩
  | .hbm, ⟨95, _⟩ => ⟨S8320x1024, .f32⟩
  | .hbm, ⟨96, _⟩ => ⟨S8320x1024, .bf16⟩
  | .hbm, ⟨97, _⟩ => ⟨S1x1024, .f32⟩
  | .hbm, ⟨98, _⟩ => ⟨S1x1024, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Win.lean ====
abbrev S8320x1024 : Shape := ⟨2, ![8320, 1024]⟩
abbrev S8320x3072 : Shape := ⟨2, ![8320, 3072]⟩
abbrev S4x1024x768 : Shape := ⟨3, ![4, 1024, 768]⟩
abbrev S4160x1024 : Shape := ⟨2, ![4160, 1024]⟩
abbrev S4160x768 : Shape := ⟨2, ![4160, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x3072, .f32⟩
  | .hbm, ⟨2, _⟩ => ⟨S8320x1024, .bf16⟩
  | .hbm, ⟨3, _⟩ => ⟨S8320x3072, .bf16⟩
  | .hbm, ⟨4, _⟩ => ⟨S4x1024x768, .f32⟩
  | .local _ .vmem, ⟨0, _⟩ => ⟨S4160x1024, .bf16⟩
  | .local _ .vmem, ⟨1, _⟩ => ⟨S4160x1024, .bf16⟩
  | .local _ .vmem, ⟨2, _⟩ => ⟨S4160x768, .bf16⟩
  | .local _ .vmem, ⟨3, _⟩ => ⟨S4160x768, .bf16⟩
  | .local _ .vmem, ⟨4, _⟩ => ⟨S1x1024x768, .f32⟩
  | .local _ .vmem, ⟨5, _⟩ => ⟨S1x1024x768, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S8320x1024 : Shape := ⟨2, ![8320, 1024]⟩
abbrev S8320x3072 : Shape := ⟨2, ![8320, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x3072, .f32⟩
  | .hbm, ⟨2, _⟩ => ⟨S_, .f32⟩
  | .hbm, ⟨3, _⟩ => ⟨S1024x3072, .f32⟩
  | .hbm, ⟨4, _⟩ => ⟨S8320x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SqDx.lean ====
abbrev S8320x1024 : Shape := ⟨2, ![8320, 1024]⟩
abbrev S1024x1024 : Shape := ⟨2, ![1024, 1024]⟩
abbrev S1x1024x1024 : Shape := ⟨3, ![1, 1024, 1024]⟩
abbrev S1040x1024 : Shape := ⟨2, ![1040, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .bf16⟩
  | .hbm, ⟨3, _⟩ => ⟨S1024x1024, .bf16⟩
  | .hbm, ⟨4, _⟩ => ⟨S1x1024x1024, .bf16⟩
  | .hbm, ⟨5, _⟩ => ⟨S8320x1024, .f32⟩
  | .local _ .vmem, ⟨0, _⟩ => ⟨S1040x1024, .bf16⟩
  | .local _ .vmem, ⟨1, _⟩ => ⟨S1040x1024, .bf16⟩
  | .local _ .vmem, ⟨2, _⟩ => ⟨S1x1024x1024, .bf16⟩
  | .local _ .vmem, ⟨3, _⟩ => ⟨S1040x1024, .f32⟩
  | .local _ .vmem, ⟨4, _⟩ => ⟨S1040x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SqDxRefIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S_, .f32⟩
  | .hbm, ⟨3, _⟩ => ⟨S8320x1024, .f32⟩
  | .hbm, ⟨4, _⟩ => ⟨S8320x1024, .f32⟩
  | .hbm, ⟨5, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SqDw.lean ====
abbrev S8320x1024 : Shape := ⟨2, ![8320, 1024]⟩
abbrev S1x1024x1024 : Shape := ⟨3, ![1, 1024, 1024]⟩
abbrev S4160x1024 : Shape := ⟨2, ![4160, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .bf16⟩
  | .hbm, ⟨3, _⟩ => ⟨S8320x1024, .bf16⟩
  | .hbm, ⟨4, _⟩ => ⟨S1x1024x1024, .f32⟩
  | .local _ .vmem, ⟨0, _⟩ => ⟨S4160x1024, .bf16⟩
  | .local _ .vmem, ⟨1, _⟩ => ⟨S4160x1024, .bf16⟩
  | .local _ .vmem, ⟨2, _⟩ => ⟨S4160x1024, .bf16⟩
  | .local _ .vmem, ⟨3, _⟩ => ⟨S4160x1024, .bf16⟩
  | .local _ .vmem, ⟨4, _⟩ => ⟨S1x1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SqDwRefIdeal.lean ====
abbrev S8320x1024 : Shape := ⟨2, ![8320, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S8320x1024 : Shape := ⟨2, ![8320, 1024]⟩
abbrev S1024x1024 : Shape := ⟨2, ![1024, 1024]⟩
abbrev S1024 : Shape := ⟨1, ![1024]⟩
abbrev S1x8320x1024 : Shape := ⟨3, ![1, 8320, 1024]⟩
abbrev S1x1x1024x1024 : Shape := ⟨4, ![1, 1, 1024, 1024]⟩
abbrev S1x1024 : Shape := ⟨2, ![1, 1024]⟩
abbrev S1x640x1024 : Shape := ⟨3, ![1, 640, 1024]⟩
abbrev S640x1024 : Shape := ⟨2, ![640, 1024]⟩
abbrev S640 : Shape := ⟨1, ![640]⟩
abbrev S640x1 : Shape := ⟨2, ![640, 1]⟩

abbrev nBuf : Space → Nat
  | .hbm => 14
  | .vmem => 13
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S8320x1024, .bf16⟩
  | .hbm, ⟨6, _⟩ => ⟨S1x8320x1024, .bf16⟩
  | .hbm, ⟨7, _⟩ => ⟨S1024x1024, .bf16⟩
  | .hbm, ⟨8, _⟩ => ⟨S1x1x1024x1024, .bf16⟩
  | .hbm, ⟨9, _⟩ => ⟨S1x1024, .f32⟩
  | .hbm, ⟨10, _⟩ => ⟨S1x1024, .f32⟩
  | .hbm, ⟨11, _⟩ => ⟨S8320x1024, .f32⟩
  | .hbm, ⟨12, _⟩ => ⟨S8320x1024, .f32⟩
  | .hbm, ⟨13, _⟩ => ⟨S8320x1024, .bf16⟩
  | .local _ .vmem, ⟨0, _⟩ => ⟨S1x640x1024, .bf16⟩
  | .local _ .vmem, ⟨1, _⟩ => ⟨S1x640x1024, .bf16⟩
  | .local _ .vmem, ⟨2, _⟩ => ⟨S1x1x1024x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S8320x1024 : Shape := ⟨2, ![8320, 1024]⟩
abbrev S1024x1024 : Shape := ⟨2, ![1024, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S8320x1024, .f32⟩
  | .hbm, ⟨32, _⟩ => ⟨S8320x1024, .f32⟩
  | .hbm, ⟨33, _⟩ => ⟨S1x1024, .f32⟩
  | .hbm, ⟨34, _⟩ => ⟨S8320x1024, .f32⟩
  | .hbm, ⟨35, _⟩ => ⟨S8320x1024, .f32⟩
  | .hbm, ⟨36, _⟩ => ⟨S1x1024, .f32⟩
  | .hbm, ⟨37, _⟩ => ⟨S8320x1024, .f32⟩
  | .hbm, ⟨38, _⟩ => ⟨S8320x1024, .f32⟩
  | .hbm, ⟨39, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Half.lean ====
abbrev S8320x2816 : Shape := ⟨2, ![8320, 2816]⟩
abbrev S2x2816x1024 : Shape := ⟨3, ![2, 2816, 1024]⟩
abbrev S8320x1024 : Shape := ⟨2, ![8320, 1024]⟩
abbrev S1024 : Shape := ⟨1, ![1024]⟩
abbrev S8320x4x704 : Shape := ⟨3, ![8320, 4, 704]⟩
abbrev S4x8320x704 : Shape := ⟨3, ![4, 8320, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S4x640x704 : Shape := ⟨3, ![4, 640, 704]⟩
abbrev S4x1x704x1024 : Shape := ⟨4, ![4, 1, 704, 1024]⟩
abbrev S640x1024 : Shape := ⟨2, ![640, 1024]⟩
abbrev S1x640x704 : Shape := ⟨3, ![1, 640, 704]⟩
abbrev S640x704 : Shape := ⟨2, ![640, 704]⟩
abbrev S1x1x704x1024 : Shape := ⟨4, ![1, 1, 704, 1024]⟩
abbrev S704x1024 : Shape := ⟨2, ![704, 1024]⟩
abbrev S640 : Shape := ⟨1, ![640]⟩
abbrev S640x1 : Shape := ⟨2, ![640, 1]⟩

abbrev nBuf : Space → Nat
  | .hbm => 16
  | .vmem => 13
  | .smem => 0
  | _ => 0

abbrev bufTy : (tb : Table) → Fin (tcTables nBuf tb) → BufTy
  | .hbm, ⟨0, _⟩ => ⟨S8320x2816, .f32⟩
  | .hbm, ⟨1, _⟩ => ⟨S2x2816x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S8320x4x704, .f32⟩
  | .hbm, ⟨6, _⟩ => ⟨S4x8320x704, .f32⟩
  | .hbm, ⟨7, _⟩ => ⟨S4x8320x704, .bf16⟩
  | .hbm, ⟨8, _⟩ => ⟨S2x4x704x1024, .f32⟩
  | .hbm, ⟨9, _⟩ => ⟨S4x2x704x1024, .f32⟩
  | .hbm, ⟨10, _⟩ => ⟨S4x2x704x1024, .bf16⟩
  | .hbm, ⟨11, _⟩ => ⟨S1x1024, .f32⟩
  | .hbm, ⟨12, _⟩ => ⟨S1x1024, .f32⟩
  | .hbm, ⟨13, _⟩ => ⟨S8320x1024, .f32⟩
  | .hbm, ⟨14, _⟩ => ⟨S8320x1024, .f32⟩
  | .hbm, ⟨15, _⟩ => ⟨S8320x1024, .bf16⟩
  | .local _ .vmem, ⟨0, _⟩ => ⟨S4x640x704, .bf16⟩
  | .local _ .vmem, ⟨1, _⟩ => ⟨S4x640x704, .bf16⟩
  | .local _ .vmem, ⟨2, _⟩ => ⟨S4x1x704x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HalfRefIdeal.lean ====
abbrev S8320x2816 : Shape := ⟨2, ![8320, 2816]⟩
abbrev S2x2816x1024 : Shape := ⟨3, ![2, 2816, 1024]⟩
abbrev S8320x1024 : Shape := ⟨2, ![8320, 1024]⟩
abbrev S1024 : Shape := ⟨1, ![1024]⟩
abbrev S_ : Shape := ⟨0, ![]⟩
abbrev S1x2816x1024 : Shape := ⟨3, ![1, 2816, 1024]⟩
abbrev S2816x1024 : Shape := ⟨2, ![2816, 1024]⟩
abbrev S8320 : Shape := ⟨1, ![8320]⟩
abbrev S8320x1 : Shape := ⟨2, ![8320, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S2x2816x1024, .f32⟩
  | .hbm, ⟨2, _⟩ => ⟨S8320x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8320x1024, .f32⟩
  | .hbm, ⟨7, _⟩ => ⟨S8320x1024, .f32⟩
  | .hbm, ⟨8, _⟩ => ⟨S1x2816x1024, .f32⟩
  | .hbm, ⟨9, _⟩ => ⟨S2816x1024, .f32⟩
  | .hbm, ⟨10, _⟩ => ⟨S8320x1024, .f32⟩
  | .hbm, ⟨11, _⟩ => ⟨S_, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S8320, .f32⟩
  | .hbm, ⟨26, _⟩ => ⟨S8320x1, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1024, .f32⟩
  | .hbm, ⟨31, _⟩ => ⟨S8320x1024, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S1x1024, .f32⟩
  | .hbm, ⟨39, _⟩ => ⟨S8320x1024, .f32⟩
  | .hbm, ⟨40, _⟩ => ⟨S8320x1024, .f32⟩
  | .hbm, ⟨41, _⟩ => ⟨S1x1024, .f32⟩
  | .hbm, ⟨42, _⟩ => ⟨S8320x1024, .f32⟩
  | .hbm, ⟨43, _⟩ => ⟨S8320x1024, .f32⟩
  | .hbm, ⟨44, _⟩ => ⟨S8320x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Gate.lean ====
abbrev S8320x1024 : Shape := ⟨2, ![8320, 1024]⟩
abbrev S2x1024x2816 : Shape := ⟨3, ![2, 1024, 2816]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S4x8320x704 : Shape := ⟨3, ![4, 8320, 704]⟩
abbrev S1664x1024 : Shape := ⟨2, ![1664, 1024]⟩
abbrev S1x1x704x1024 : Shape := ⟨4, ![1, 1, 704, 1024]⟩
abbrev S1x1664x704 : Shape := ⟨3, ![1, 1664, 704]⟩
abbrev S704x1024 : Shape := ⟨2, ![704, 1024]⟩
abbrev S1664x704 : Shape := ⟨2, ![1664, 704]⟩

abbrev nBuf : Space → Nat
  | .hbm => 15
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S2x1024x2816, .f32⟩
  | .hbm, ⟨2, _⟩ => ⟨S2x1024x2816, .f32⟩
  | .hbm, ⟨3, _⟩ => ⟨S8320x1024, .bf16⟩
  | .hbm, ⟨4, _⟩ => ⟨S2x2816x1024, .f32⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S2x2816x1024, .f32⟩
  | .hbm, ⟨9, _⟩ => ⟨S2x4x704x1024, .f32⟩
  | .hbm, ⟨10, _⟩ => ⟨S4x2x704x1024, .f32⟩
  | .hbm, ⟨11, _⟩ => ⟨S4x2x704x1024, .bf16⟩
  | .hbm, ⟨12, _⟩ => ⟨S4x8320x704, .bf16⟩
  | .hbm, ⟨13, _⟩ => ⟨S4x8320x704, .bf16⟩
  | .hbm, ⟨14, _⟩ => ⟨S4x8320x704, .bf16⟩
  | .local _ .vmem, ⟨0, _⟩ => ⟨S1664x1024, .bf16⟩
  | .local _ .vmem, ⟨1, _⟩ => ⟨S1664x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1664x704, .bf16⟩
  | .local _ .vmem, ⟨7, _⟩ => ⟨S1x1664x704, .bf16⟩
  | .local _ .vmem, ⟨8, _⟩ => ⟨S1x1664x704, .bf16⟩
  | .local _ .vmem, ⟨9, _⟩ => ⟨S1x1664x704, .bf16⟩
  | .local _ .vmem, ⟨10, _⟩ => ⟨S1x1664x704, .bf16⟩
  | .local _ .vmem, ⟨11, _⟩ => ⟨S1x1664x704, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1664x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1664x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1664x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8320x1024 : Shape := ⟨2, ![8320, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S8320x2816 : Shape := ⟨2, ![8320, 2816]⟩
abbrev S_ : Shape := ⟨0, ![]⟩
abbrev S8320x4x704 : Shape := ⟨3, ![8320, 4, 704]⟩
abbrev S4x8320x704 : Shape := ⟨3, ![4, 8320, 704]⟩

abbrev nBuf : Space → Nat
  | .hbm => 28
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2x1024x2816, .f32⟩
  | .hbm, ⟨2, _⟩ => ⟨S2x1024x2816, .f32⟩
  | .hbm, ⟨3, _⟩ => ⟨S1x1024x2816, .f32⟩
  | .hbm, ⟨4, _⟩ => ⟨S1024x2816, .f32⟩
  | .hbm, ⟨5, _⟩ => ⟨S8320x2816, .f32⟩
  | .hbm, ⟨6, _⟩ => ⟨S1x1024x2816, .f32⟩
  | .hbm, ⟨7, _⟩ => ⟨S1024x2816, .f32⟩
  | .hbm, ⟨8, _⟩ => ⟨S8320x2816, .f32⟩
  | .hbm, ⟨9, _⟩ => ⟨S8320x2816, .f32⟩
  | .hbm, ⟨10, _⟩ => ⟨S8320x2816, .f32⟩
  | .hbm, ⟨11, _⟩ => ⟨S_, .f32⟩
  | .hbm, ⟨12, _⟩ => ⟨S8320x2816, .f32⟩
  | .hbm, ⟨13, _⟩ => ⟨S8320x2816, .f32⟩
  | .hbm, ⟨14, _⟩ => ⟨S_, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x4x704, .f32⟩
  | .hbm, ⟨20, _⟩ => ⟨S4x8320x704, .f32⟩
  | .hbm, ⟨21, _⟩ => ⟨S4x8320x704, .bf16⟩
  | .hbm, ⟨22, _⟩ => ⟨S8320x4x704, .f32⟩
  | .hbm, ⟨23, _⟩ => ⟨S4x8320x704, .f32⟩
  | .hbm, ⟨24, _⟩ => ⟨S4x8320x704, .bf16⟩
  | .hbm, ⟨25, _⟩ => ⟨S8320x4x704, .f32⟩
  | .hbm, ⟨26, _⟩ => ⟨S4x8320x704, .f32⟩
  | .hbm, ⟨27, _⟩ => ⟨S4x8320x704, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Dx0.lean ====
abbrev S8320x2816 : Shape := ⟨2, ![8320, 2816]⟩
abbrev S2x1024x2816 : Shape := ⟨3, ![2, 1024, 2816]⟩
abbrev S8320x1024 : Shape := ⟨2, ![8320, 1024]⟩
abbrev S8320x4x704 : Shape := ⟨3, ![8320, 4, 704]⟩
abbrev S4x8320x704 : Shape := ⟨3, ![4, 8320, 704]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S4x640x704 : Shape := ⟨3, ![4, 640, 704]⟩
abbrev S4x1x704x1024 : Shape := ⟨4, ![4, 1, 704, 1024]⟩
abbrev S640x1024 : Shape := ⟨2, ![640, 1024]⟩
abbrev S1x640x704 : Shape := ⟨3, ![1, 640, 704]⟩
abbrev S640x704 : Shape := ⟨2, ![640, 704]⟩
abbrev S1x1x704x1024 : Shape := ⟨4, ![1, 1, 704, 1024]⟩
abbrev S704x1024 : Shape := ⟨2, ![704, 1024]⟩

abbrev nBuf : Space → Nat
  | .hbm => 20
  | .vmem => 10
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2x1024x2816, .f32⟩
  | .hbm, ⟨3, _⟩ => ⟨S2x1024x2816, .f32⟩
  | .hbm, ⟨4, _⟩ => ⟨S8320x1024, .f32⟩
  | .hbm, ⟨5, _⟩ => ⟨S8320x4x704, .f32⟩
  | .hbm, ⟨6, _⟩ => ⟨S4x8320x704, .f32⟩
  | .hbm, ⟨7, _⟩ => ⟨S4x8320x704, .bf16⟩
  | .hbm, ⟨8, _⟩ => ⟨S2x2816x1024, .f32⟩
  | .hbm, ⟨9, _⟩ => ⟨S2x4x704x1024, .f32⟩
  | .hbm, ⟨10, _⟩ => ⟨S4x2x704x1024, .f32⟩
  | .hbm, ⟨11, _⟩ => ⟨S4x2x704x1024, .bf16⟩
  | .hbm, ⟨12, _⟩ => ⟨S8320x4x704, .f32⟩
  | .hbm, ⟨13, _⟩ => ⟨S4x8320x704, .f32⟩
  | .hbm, ⟨14, _⟩ => ⟨S4x8320x704, .bf16⟩
  | .hbm, ⟨15, _⟩ => ⟨S2x2816x1024, .f32⟩
  | .hbm, ⟨16, _⟩ => ⟨S2x4x704x1024, .f32⟩
  | .hbm, ⟨17, _⟩ => ⟨S4x2x704x1024, .f32⟩
  | .hbm, ⟨18, _⟩ => ⟨S4x2x704x1024, .bf16⟩
  | .hbm, ⟨19, _⟩ => ⟨S8320x1024, .f32⟩
  | .local _ .vmem, ⟨0, _⟩ => ⟨S4x640x704, .bf16⟩
  | .local _ .vmem, ⟨1, _⟩ => ⟨S4x640x704, .bf16⟩
  | .local _ .vmem, ⟨2, _⟩ => ⟨S4x1x704x1024, .bf16⟩
  | .local _ .vmem, ⟨3, _⟩ => ⟨S4x640x704, .bf16⟩
  | .local _ .vmem, ⟨4, _⟩ => ⟨S4x640x704, .bf16⟩
  | .local _ .vmem, ⟨5, _⟩ => ⟨S4x1x704x1024, .bf16⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x640x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x640x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Dx0RefIdeal.lean ====
abbrev S8320x2816 : Shape := ⟨2, ![8320, 2816]⟩
abbrev S2x1024x2816 : Shape := ⟨3, ![2, 1024, 2816]⟩
abbrev S8320x1024 : Shape := ⟨2, ![8320, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 23
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S2x1024x2816, .f32⟩
  | .hbm, ⟨3, _⟩ => ⟨S2x1024x2816, .f32⟩
  | .hbm, ⟨4, _⟩ => ⟨S8320x1024, .f32⟩
  | .hbm, ⟨5, _⟩ => ⟨S_, .f32⟩
  | .hbm, ⟨6, _⟩ => ⟨S8320x1024, .f32⟩
  | .hbm, ⟨7, _⟩ => ⟨S1x1024x2816, .f32⟩
  | .hbm, ⟨8, _⟩ => ⟨S1024x2816, .f32⟩
  | .hbm, ⟨9, _⟩ => ⟨S8320x2816, .f32⟩
  | .hbm, ⟨10, _⟩ => ⟨S1x1024x2816, .f32⟩
  | .hbm, ⟨11, _⟩ => ⟨S1024x2816, .f32⟩
  | .hbm, ⟨12, _⟩ => ⟨S8320x2816, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== CFwd.lean ====
abbrev S8320x3072 : Shape := ⟨2, ![8320, 3072]⟩
abbrev S3x1024 : Shape := ⟨2, ![3, 1024]⟩
abbrev S8320x1024 : Shape := ⟨2, ![8320, 1024]⟩
abbrev S320x3072 : Shape := ⟨2, ![320, 3072]⟩
abbrev S8x3072 : Shape := ⟨2, ![8, 3072]⟩
abbrev S320x1024 : Shape := ⟨2, ![320, 1024]⟩
abbrev S328x1 : Shape := ⟨2, ![328, 1]⟩
abbrev S8x1024 : Shape := ⟨2, ![8, 1024]⟩
abbrev S328x1024 : Shape := ⟨2, ![328, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x3072, .f32⟩
  | .hbm, ⟨1, _⟩ => ⟨S3x1024, .f32⟩
  | .hbm, ⟨2, _⟩ => ⟨S8320x1024, .bf16⟩
  | .local _ .vmem, ⟨0, _⟩ => ⟨S320x3072, .f32⟩
  | .local _ .vmem, ⟨1, _⟩ => ⟨S320x3072, .f32⟩
  | .local _ .vmem, ⟨2, _⟩ => ⟨S8x3072, .f32⟩
  | .local _ .vmem, ⟨3, _⟩ => ⟨S8x3072, .f32⟩
  | .local _ .vmem, ⟨4, _⟩ => ⟨S3x1024, .f32⟩
  | .local _ .vmem, ⟨5, _⟩ => ⟨S320x1024, .bf16⟩
  | .local _ .vmem, ⟨6, _⟩ => ⟨S320x1024, .bf16⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CFwdRefIdeal.lean ====
abbrev S8320x3072 : Shape := ⟨2, ![8320, 3072]⟩
abbrev S3x1024 : Shape := ⟨2, ![3, 1024]⟩
abbrev S_ : Shape := ⟨0, ![]⟩
abbrev S112x1024 : Shape := ⟨2, ![112, 1024]⟩
abbrev S8208x3072 : Shape := ⟨2, ![8208, 3072]⟩
abbrev S8208x1024 : Shape := ⟨2, ![8208, 1024]⟩
abbrev S1x1024 : Shape := ⟨2, ![1, 1024]⟩
abbrev S8207x1024 : Shape := ⟨2, ![8207, 1024]⟩
abbrev S2x1024 : Shape := ⟨2, ![2, 1024]⟩
abbrev S8206x1024 : Shape := ⟨2, ![8206, 1024]⟩
abbrev S1024 : Shape := ⟨1, ![1024]⟩
abbrev S8320x1024 : Shape := ⟨2, ![8320, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S3x1024, .f32⟩
  | .hbm, ⟨2, _⟩ => ⟨S_, .f32⟩
  | .hbm, ⟨3, _⟩ => ⟨S112x1024, .f32⟩
  | .hbm, ⟨4, _⟩ => ⟨S8208x3072, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S1x1024, .f32⟩
  | .hbm, ⟨11, _⟩ => ⟨S8207x1024, .f32⟩
  | .hbm, ⟨12, _⟩ => ⟨S8208x1024, .f32⟩
  | .hbm, ⟨13, _⟩ => ⟨S_, .f32⟩
  | .hbm, ⟨14, _⟩ => ⟨S2x1024, .f32⟩
  | .hbm, ⟨15, _⟩ => ⟨S8206x1024, .f32⟩
  | .hbm, ⟨16, _⟩ => ⟨S8208x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8208x1024, .f32⟩
  | .hbm, ⟨26, _⟩ => ⟨S8208x1024, .f32⟩
  | .hbm, ⟨27, _⟩ => ⟨S8208x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S8320x1024, .f32⟩
  | .hbm, ⟨36, _⟩ => ⟨S8320x1024, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== PIn.lean ====
abbrev S8320x1024 : Shape := ⟨2, ![8320, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S8320x3072 : Shape := ⟨2, ![8320, 3072]⟩
abbrev S1664x1024 : Shape := ⟨2, ![1664, 1024]⟩
abbrev S1x1024x768 : Shape := ⟨3, ![1, 1024, 768]⟩
abbrev S1664x768 : Shape := ⟨2, ![1664, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x3072, .f32⟩
  | .hbm, ⟨2, _⟩ => ⟨S1024x4x768, .f32⟩
  | .hbm, ⟨3, _⟩ => ⟨S4x1024x768, .f32⟩
  | .hbm, ⟨4, _⟩ => ⟨S4x1024x768, .bf16⟩
  | .hbm, ⟨5, _⟩ => ⟨S8320x1024, .bf16⟩
  | .hbm, ⟨6, _⟩ => ⟨S8320x3072, .f32⟩
  | .local _ .vmem, ⟨0, _⟩ => ⟨S1664x1024, .bf16⟩
  | .local _ .vmem, ⟨1, _⟩ => ⟨S1664x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1664x768, .f32⟩
  | .local _ .vmem, ⟨5, _⟩ => ⟨S1664x768, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PInRefIdeal.lean ====
abbrev S8320x1024 : Shape := ⟨2, ![8320, 1024]⟩
abbrev S1024x3072 : Shape := ⟨2, ![1024, 3072]⟩
abbrev S8320x3072 : Shape := ⟨2, ![8320, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x3072, .f32⟩
  | .hbm, ⟨2, _⟩ => ⟨S8320x3072, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PK.lean ====
abbrev S8320x1024 : Shape := ⟨2, ![8320, 1024]⟩
abbrev S1024x1024 : Shape := ⟨2, ![1024, 1024]⟩
abbrev S1x1024x1024 : Shape := ⟨3, ![1, 1024, 1024]⟩
abbrev S1664x1024 : Shape := ⟨2, ![1664, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .bf16⟩
  | .hbm, ⟨3, _⟩ => ⟨S1024x1024, .bf16⟩
  | .hbm, ⟨4, _⟩ => ⟨S1x1024x1024, .bf16⟩
  | .hbm, ⟨5, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1664x1024, .bf16⟩
  | .local _ .vmem, ⟨4, _⟩ => ⟨S1664x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PKRefIdeal.lean ====
abbrev S8320x1024 : Shape := ⟨2, ![8320, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PQ.lean ====
abbrev S8320x1024 : Shape := ⟨2, ![8320, 1024]⟩
abbrev S1024x1024 : Shape := ⟨2, ![1024, 1024]⟩
abbrev S1x1024x1024 : Shape := ⟨3, ![1, 1024, 1024]⟩
abbrev S1664x1024 : Shape := ⟨2, ![1664, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .bf16⟩
  | .hbm, ⟨3, _⟩ => ⟨S1024x1024, .bf16⟩
  | .hbm, ⟨4, _⟩ => ⟨S1x1024x1024, .bf16⟩
  | .hbm, ⟨5, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1664x1024, .bf16⟩
  | .local _ .vmem, ⟨4, _⟩ => ⟨S1664x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PQRefIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S8320x1024, .f32⟩
  | .hbm, ⟨6, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PF.lean ====
abbrev S8320x1024 : Shape := ⟨2, ![8320, 1024]⟩
abbrev S1024x8 : Shape := ⟨2, ![1024, 8]⟩
abbrev S_ : Shape := ⟨0, ![]⟩
abbrev S1024x128 : Shape := ⟨2, ![1024, 128]⟩
abbrev S1x1024x128 : Shape := ⟨3, ![1, 1024, 128]⟩
abbrev S8320x128 : Shape := ⟨2, ![8320, 128]⟩
abbrev S1664x1024 : Shape := ⟨2, ![1664, 1024]⟩
abbrev S1664x128 : Shape := ⟨2, ![1664, 128]⟩

abbrev nBuf : Space → Nat
  | .hbm => 9
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x8, .f32⟩
  | .hbm, ⟨2, _⟩ => ⟨S8320x1024, .bf16⟩
  | .hbm, ⟨3, _⟩ => ⟨S1024x8, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S1x1024x128, .bf16⟩
  | .hbm, ⟨8, _⟩ => ⟨S8320x128, .f32⟩
  | .local _ .vmem, ⟨0, _⟩ => ⟨S1664x1024, .bf16⟩
  | .local _ .vmem, ⟨1, _⟩ => ⟨S1664x1024, .bf16⟩
  | .local _ .vmem, ⟨2, _⟩ => ⟨S1x1024x128, .bf16⟩
  | .local _ .vmem, ⟨3, _⟩ => ⟨S1664x128, .f32⟩
  | .local _ .vmem, ⟨4, _⟩ => ⟨S1664x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1664x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PFRefIdeal.lean ====
abbrev S8320x1024 : Shape := ⟨2, ![8320, 1024]⟩
abbrev S1024x8 : Shape := ⟨2, ![1024, 8]⟩
abbrev S8320x8 : Shape := ⟨2, ![8320, 8]⟩
abbrev S_ : Shape := ⟨0, ![]⟩
abbrev S8320x128 : Shape := ⟨2, ![8320, 128]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x8, .f32⟩
  | .hbm, ⟨2, _⟩ => ⟨S8320x8, .f32⟩
  | .hbm, ⟨3, _⟩ => ⟨S_, .i32⟩
  | .hbm, ⟨4, _⟩ => ⟨S_, .f32⟩
  | .hbm, ⟨5, _⟩ => ⟨S8320x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== AdSq.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSqIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSqRefIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdIn.lean ====
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S1x1024x768 : Shape := ⟨3, ![1, 1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInRefIdeal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdKv.lean ====
abbrev S1x1024x514 : Shape := ⟨3, ![1, 1024, 514]⟩
abbrev S1x256x514 : Shape := ⟨3, ![1, 256, 514]⟩
abbrev S256x514 : Shape := ⟨2, ![256, 514]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x514, .f32⟩
  | .hbm, ⟨1, _⟩ => ⟨S1x1024x514, .f32⟩
  | .hbm, ⟨2, _⟩ => ⟨S1x1024x514, .f32⟩
  | .hbm, ⟨3, _⟩ => ⟨S1x1024x514, .f32⟩
  | .hbm, ⟨4, _⟩ => ⟨S1x1024x514, .f32⟩
  | .hbm, ⟨5, _⟩ => ⟨S1x1024x514, .f32⟩
  | .hbm, ⟨6, _⟩ => ⟨S1x1024x514, .f32⟩
  | .hbm, ⟨7, _⟩ => ⟨S1x1024x514, .f32⟩
  | .local _ .vmem, ⟨0, _⟩ => ⟨S1x256x514, .f32⟩
  | .local _ .vmem, ⟨1, _⟩ => ⟨S1x256x514, .f32⟩
  | .local _ .vmem, ⟨2, _⟩ => ⟨S1x256x514, .f32⟩
  | .local _ .vmem, ⟨3, _⟩ => ⟨S1x256x514, .f32⟩
  | .local _ .vmem, ⟨4, _⟩ => ⟨S1x256x514, .f32⟩
  | .local _ .vmem, ⟨5, _⟩ => ⟨S1x256x514, .f32⟩
  | .local _ .vmem, ⟨6, _⟩ => ⟨S1x256x514, .f32⟩
  | .local _ .vmem, ⟨7, _⟩ => ⟨S1x256x514, .f32⟩
  | .local _ .vmem, ⟨8, _⟩ => ⟨S1x256x514, .f32⟩
  | .local _ .vmem, ⟨9, _⟩ => ⟨S1x256x514, .f32⟩
  | .local _ .vmem, ⟨10, _⟩ => ⟨S1x256x514, .f32⟩
  | .local _ .vmem, ⟨11, _⟩ => ⟨S1x256x514, .f32⟩
  | .local _ .vmem, ⟨12, _⟩ => ⟨S1x256x514, .f32⟩
  | .local _ .vmem, ⟨13, _⟩ => ⟨S1x256x514, .f32⟩
  | .local _ .vmem, ⟨14, _⟩ => ⟨S1x256x514, .f32⟩
  | .local _ .vmem, ⟨15, _⟩ => ⟨S1x256x514, .f32⟩
  | _, _ => ⟨S1x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvIdeal.lean ====
abbrev S1x1024x514 : Shape := ⟨3, ![1, 1024, 514]⟩
abbrev S1x256x514 : Shape := ⟨3, ![1, 256, 514]⟩
abbrev S256x514 : Shape := ⟨2, ![256, 514]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x514, .f32⟩
  | .hbm, ⟨1, _⟩ => ⟨S1x1024x514, .f32⟩
  | .hbm, ⟨2, _⟩ => ⟨S1x1024x514, .f32⟩
  | .hbm, ⟨3, _⟩ => ⟨S1x1024x514, .f32⟩
  | .hbm, ⟨4, _⟩ => ⟨S1x1024x514, .f32⟩
  | .hbm, ⟨5, _⟩ => ⟨S1x1024x514, .f32⟩
  | .hbm, ⟨6, _⟩ => ⟨S1x1024x514, .f32⟩
  | .hbm, ⟨7, _⟩ => ⟨S1x1024x514, .f32⟩
  | .local _ .vmem, ⟨0, _⟩ => ⟨S1x256x514, .f32⟩
  | .local _ .vmem, ⟨1, _⟩ => ⟨S1x256x514, .f32⟩
  | .local _ .vmem, ⟨2, _⟩ => ⟨S1x256x514, .f32⟩
  | .local _ .vmem, ⟨3, _⟩ => ⟨S1x256x514, .f32⟩
  | .local _ .vmem, ⟨4, _⟩ => ⟨S1x256x514, .f32⟩
  | .local _ .vmem, ⟨5, _⟩ => ⟨S1x256x514, .f32⟩
  | .local _ .vmem, ⟨6, _⟩ => ⟨S1x256x514, .f32⟩
  | .local _ .vmem, ⟨7, _⟩ => ⟨S1x256x514, .f32⟩
  | .local _ .vmem, ⟨8, _⟩ => ⟨S1x256x514, .f32⟩
  | .local _ .vmem, ⟨9, _⟩ => ⟨S1x256x514, .f32⟩
  | .local _ .vmem, ⟨10, _⟩ => ⟨S1x256x514, .f32⟩
  | .local _ .vmem, ⟨11, _⟩ => ⟨S1x256x514, .f32⟩
  | .local _ .vmem, ⟨12, _⟩ => ⟨S1x256x514, .f32⟩
  | .local _ .vmem, ⟨13, _⟩ => ⟨S1x256x514, .f32⟩
  | .local _ .vmem, ⟨14, _⟩ => ⟨S1x256x514, .f32⟩
  | .local _ .vmem, ⟨15, _⟩ => ⟨S1x256x514, .f32⟩
  | _, _ => ⟨S1x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvRefIdeal.lean ====
abbrev S1x1024x514 : Shape := ⟨3, ![1, 1024, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x514, .f32⟩
  | .hbm, ⟨1, _⟩ => ⟨S1x1024x514, .f32⟩
  | .hbm, ⟨2, _⟩ => ⟨S1x1024x514, .f32⟩
  | .hbm, ⟨3, _⟩ => ⟨S1x1024x514, .f32⟩
  | .hbm, ⟨4, _⟩ => ⟨S_, .f32⟩
  | .hbm, ⟨5, _⟩ => ⟨S1x1024x514, .f32⟩
  | .hbm, ⟨6, _⟩ => ⟨S1x1024x514, .f32⟩
  | .hbm, ⟨7, _⟩ => ⟨S_, .f32⟩
  | .hbm, ⟨8, _⟩ => ⟨S1x1024x514, .f32⟩
  | .hbm, ⟨9, _⟩ => ⟨S1x1024x514, .f32⟩
  | .hbm, ⟨10, _⟩ => ⟨S1x1024x514, .f32⟩
  | .hbm, ⟨11, _⟩ => ⟨S_, .f32⟩
  | .hbm, ⟨12, _⟩ => ⟨S1x1024x514, .f32⟩
  | .hbm, ⟨13, _⟩ => ⟨S1x1024x514, .f32⟩
  | .hbm, ⟨14, _⟩ => ⟨S1x1024x514, .f32⟩
  | .hbm, ⟨15, _⟩ => ⟨S_, .f32⟩
  | .hbm, ⟨16, _⟩ => ⟨S1x1024x514, .f32⟩
  | .hbm, ⟨17, _⟩ => ⟨S1x1024x514, .f32⟩
  | .hbm, ⟨18, _⟩ => ⟨S1x1024x514, .f32⟩
  | .hbm, ⟨19, _⟩ => ⟨S_, .f32⟩
  | .hbm, ⟨20, _⟩ => ⟨S1x1024x514, .f32⟩
  | .hbm, ⟨21, _⟩ => ⟨S1x1024x514, .f32⟩
  | .hbm, ⟨22, _⟩ => ⟨S_, .f32⟩
  | .hbm, ⟨23, _⟩ => ⟨S1x1024x514, .f32⟩
  | .hbm, ⟨24, _⟩ => ⟨S1x1024x514, .f32⟩
  | .hbm, ⟨25, _⟩ => ⟨S1x1024x514, .f32⟩
  | .hbm, ⟨26, _⟩ => ⟨S_, .f32⟩
  | .hbm, ⟨27, _⟩ => ⟨S1x1024x514, .f32⟩
  | .hbm, ⟨28, _⟩ => ⟨S1x1024x514, .f32⟩
  | .hbm, ⟨29, _⟩ => ⟨S1x1024x514, .f32⟩
  | .hbm, ⟨30, _⟩ => ⟨S_, .f32⟩
  | .hbm, ⟨31, _⟩ => ⟨S1x1024x514, .f32⟩
  | .hbm, ⟨32, _⟩ => ⟨S1x1024x514, .f32⟩
  | .hbm, ⟨33, _⟩ => ⟨S1x1024x514, .f32⟩
  | .hbm, ⟨34, _⟩ => ⟨S_, .f32⟩
  | .hbm, ⟨35, _⟩ => ⟨S1x1024x514, .f32⟩
  | .hbm, ⟨36, _⟩ => ⟨S1x1024x514, .f32⟩
  | _, _ => ⟨S1x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdSm.lean ====
abbrev S1x48x256 : Shape := ⟨3, ![1, 48, 256]⟩
abbrev S48x256 : Shape := ⟨2, ![48, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x48x256, .f32⟩
  | .hbm, ⟨1, _⟩ => ⟨S1x48x256, .f32⟩
  | .hbm, ⟨2, _⟩ => ⟨S1x48x256, .f32⟩
  | .hbm, ⟨3, _⟩ => ⟨S1x48x256, .f32⟩
  | .hbm, ⟨4, _⟩ => ⟨S1x48x256, .f32⟩
  | .hbm, ⟨5, _⟩ => ⟨S1x48x256, .f32⟩
  | .hbm, ⟨6, _⟩ => ⟨S1x48x256, .f32⟩
  | .hbm, ⟨7, _⟩ => ⟨S1x48x256, .f32⟩
  | .local _ .vmem, ⟨0, _⟩ => ⟨S1x48x256, .f32⟩
  | .local _ .vmem, ⟨1, _⟩ => ⟨S1x48x256, .f32⟩
  | .local _ .vmem, ⟨2, _⟩ => ⟨S1x48x256, .f32⟩
  | .local _ .vmem, ⟨3, _⟩ => ⟨S1x48x256, .f32⟩
  | .local _ .vmem, ⟨4, _⟩ => ⟨S1x48x256, .f32⟩
  | .local _ .vmem, ⟨5, _⟩ => ⟨S1x48x256, .f32⟩
  | .local _ .vmem, ⟨6, _⟩ => ⟨S1x48x256, .f32⟩
  | .local _ .vmem, ⟨7, _⟩ => ⟨S1x48x256, .f32⟩
  | _, _ => ⟨S1x48x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x48x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x48x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x48x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x48x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x48x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x48x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x48x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSmRefIdeal.lean ====
abbrev S1x48x256 : Shape := ⟨3, ![1, 48, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x48x256, .f32⟩
  | .hbm, ⟨1, _⟩ => ⟨S1x48x256, .f32⟩
  | .hbm, ⟨2, _⟩ => ⟨S1x48x256, .f32⟩
  | .hbm, ⟨3, _⟩ => ⟨S1x48x256, .f32⟩
  | .hbm, ⟨4, _⟩ => ⟨S_, .f32⟩
  | .hbm, ⟨5, _⟩ => ⟨S1x48x256, .f32⟩
  | .hbm, ⟨6, _⟩ => ⟨S1x48x256, .f32⟩
  | .hbm, ⟨7, _⟩ => ⟨S_, .f32⟩
  | .hbm, ⟨8, _⟩ => ⟨S1x48x256, .f32⟩
  | .hbm, ⟨9, _⟩ => ⟨S1x48x256, .f32⟩
  | .hbm, ⟨10, _⟩ => ⟨S1x48x256, .f32⟩
  | .hbm, ⟨11, _⟩ => ⟨S_, .f32⟩
  | .hbm, ⟨12, _⟩ => ⟨S1x48x256, .f32⟩
  | .hbm, ⟨13, _⟩ => ⟨S1x48x256, .f32⟩
  | .hbm, ⟨14, _⟩ => ⟨S1x48x256, .f32⟩
  | .hbm, ⟨15, _⟩ => ⟨S_, .f32⟩
  | .hbm, ⟨16, _⟩ => ⟨S1x48x256, .f32⟩
  | .hbm, ⟨17, _⟩ => ⟨S1x48x256, .f32⟩
  | .hbm, ⟨18, _⟩ => ⟨S1x48x256, .f32⟩
  | .hbm, ⟨19, _⟩ => ⟨S_, .f32⟩
  | .hbm, ⟨20, _⟩ => ⟨S1x48x256, .f32⟩
  | .hbm, ⟨21, _⟩ => ⟨S1x48x256, .f32⟩
  | .hbm, ⟨22, _⟩ => ⟨S_, .f32⟩
  | .hbm, ⟨23, _⟩ => ⟨S1x48x256, .f32⟩
  | .hbm, ⟨24, _⟩ => ⟨S1x48x256, .f32⟩
  | .hbm, ⟨25, _⟩ => ⟨S1x48x256, .f32⟩
  | .hbm, ⟨26, _⟩ => ⟨S_, .f32⟩
  | .hbm, ⟨27, _⟩ => ⟨S1x48x256, .f32⟩
  | .hbm, ⟨28, _⟩ => ⟨S1x48x256, .f32⟩
  | .hbm, ⟨29, _⟩ => ⟨S1x48x256, .f32⟩
  | .hbm, ⟨30, _⟩ => ⟨S_, .f32⟩
  | .hbm, ⟨31, _⟩ => ⟨S1x48x256, .f32⟩
  | .hbm, ⟨32, _⟩ => ⟨S1x48x256, .f32⟩
  | .hbm, ⟨33, _⟩ => ⟨S1x48x256, .f32⟩
  | .hbm, ⟨34, _⟩ => ⟨S_, .f32⟩
  | .hbm, ⟨35, _⟩ => ⟨S1x48x256, .f32⟩
  | .hbm, ⟨36, _⟩ => ⟨S1x48x256, .f32⟩
  | _, _ => ⟨S1x48x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Sums.lean ====
/- Facts about finite sums of extended reals: a nonnegative finite factor goes through a sum, and two stretches of
   a range make the whole. -/
module

public import Idealize.ShloMosaic.Lib.Pipeline.ValueKit
public import Idealize.ShloMosaic.Lib.IdealHost

@[expose] public section

noncomputable section

namespace Cert.Sums

open Idealize.ShloMosaic

/-- The f32 pattern `0x3F000000` is the real one half. -/
theorem ofBits_half : Ideal.ofBits .f32 0x3F000000#32 = ((1 / 2 : ℝ) : EReal) := by
  simp [Ideal.ofBits, Ideal.ieee, -EReal.coe_mul]; norm_num

/-- A nonnegative real goes through a sum of extended reals, whatever the summands. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, mul_comm,
      EReal.left_distrib_of_nonneg_of_ne_top (EReal.coe_nonneg.mpr hr) (EReal.coe_ne_top r), mul_comm, ← ih,
      mul_comm (r : EReal) (∑ i ∈ s, f i)]

/-- The first and the second stretch of `n` places together are the range of `2 * n`. -/
theorem sum_two_stretches {n L : ℕ} (hL : L = 2 * n) (f : Fin L → EReal) (g h : Fin n → EReal)
    (hg : ∀ (k : Fin n) (hk : k.val < L), g k = f ⟨k.val, hk⟩)
    (hh : ∀ (k : Fin n) (hk : n + k.val < L), h k = f ⟨n + k.val, hk⟩) :
    ∑ k, g k + ∑ k, h k = ∑ l, f l := by
  subst hL
  rw [← Fin.sum_mul_add_fin 2 n f, Fin.sum_univ_two]
  refine congrArg₂ (· + ·) (Finset.sum_congr rfl fun k _ => ?_) (Finset.sum_congr rfl fun k _ => ?_)
  · rw [hg k (by have := k.isLt; omega)]; congr 2; simp
  · rw [hh k (by have := k.isLt; omega)]; congr 2; simp

/-- Four stretches of `n` places together are the range of `4 * n`. -/
theorem sum_four_stretches {n L : ℕ} (hL : L = 4 * n) (f : Fin L → EReal) (g0 g1 g2 g3 : Fin n → EReal)
    (h0 : ∀ (k : Fin n) (hk : k.val < L), g0 k = f ⟨k.val, hk⟩)
    (h1 : ∀ (k : Fin n) (hk : n + k.val < L), g1 k = f ⟨n + k.val, hk⟩)
    (h2 : ∀ (k : Fin n) (hk : 2 * n + k.val < L), g2 k = f ⟨2 * n + k.val, hk⟩)
    (h3 : ∀ (k : Fin n) (hk : 3 * n + k.val < L), g3 k = f ⟨3 * n + k.val, hk⟩) :
    ∑ k, g0 k + ∑ k, g1 k + ∑ k, g2 k + ∑ k, g3 k = ∑ l, f l := by
  subst hL
  rw [← Fin.sum_mul_add_fin 4 n f, Fin.sum_univ_four]
  refine congrArg₂ (· + ·) (congrArg₂ (· + ·) (congrArg₂ (· + ·) (Finset.sum_congr rfl fun k _ => ?_)
    (Finset.sum_congr rfl fun k _ => ?_)) (Finset.sum_congr rfl fun k _ => ?_)) (Finset.sum_congr rfl fun k _ => ?_)
  · rw [h0 k (by have := k.isLt; omega)]; congr 2; simp
  · rw [h1 k (by have := k.isLt; omega)]; congr 2; simp
  · rw [h2 k (by have := k.isLt; omega)]; congr 2
  · rw [h3 k (by have := k.isLt; omega)]; congr 2

end Cert.Sums
-- ==== Proof.ConvKernel.lean ====
module

public import proofs.«01_k».proof.Proof.Gen.ConvIdeal.Value
public import proofs.«01_k».proof.Proof.Sums
public import Idealize.ShloMosaic.Lib.Pipeline.ReadBack

@[expose] public section

set_option maxRecDepth 16384

noncomputable section

namespace Cert.ConvValue

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ)

/-- The element of a matrix at a row and a column given as natural numbers, zero outside the matrix. -/
def at2 {N C : ℕ} (X : (⟨2, ![N, C]⟩ : Shape).Idx → EReal) (n k : ℕ) : EReal :=
  if h : n < N ∧ k < C then X (ix2 ⟨n, h.1⟩ ⟨k, h.2⟩) else 0

theorem at2_of {N C : ℕ} (X : (⟨2, ![N, C]⟩ : Shape).Idx → EReal) (n : Fin N) (k : Fin C) (a b : ℕ) (ha : a = n.val)
    (hb : b = k.val) : at2 X a b = X (ix2 n k) := by
  subst ha hb; exact dif_pos ⟨n.isLt, k.isLt⟩

theorem at2_out {N C : ℕ} (X : (⟨2, ![N, C]⟩ : Shape).Idx → EReal) (n k : ℕ) (h : N ≤ n) : at2 X n k = 0 :=
  dif_neg fun h' => absurd h'.1 (by omega)

/-- The incoming gradient. -/
abbrev DZ (c : Dev nD) : S8320x1024.Idx → EReal := m ((c : Thread nD τ).loc main_arg0)
/-- The saved projections: the output gate, the value and the input gate, side by side. -/
abbrev PJ (c : Dev nD) : S8320x3072.Idx → EReal := m ((c : Thread nD τ).loc main_arg1)
/-- The three taps. -/
abbrev WT (c : Dev nD) : S3x1024.Idx → EReal := m ((c : Thread nD τ).loc main_arg2)

/-- The blocks of the windows at each point. -/
theorem idx : ∀ t : Fin cfg0.N, win0_0.index t = ![t.val, 0] ∧ win0_1.index t = ![min (t.val * 40 + 40) 1039, 0]
    ∧ win0_2.index t = ![t.val, 0] ∧ win0_3.index t = ![t.val * 40 - 1, 0]
    ∧ win0_4.index t = ![min (t.val * 40 + 40) 1039, 0] ∧ win0_5.index t = ![0, 0] ∧ win0_6.index t = ![t.val, 0]
    ∧ win0_7.index t = ![0, 0] := (by decide +kernel : ∀ t : Fin grid0.N, _)

theorem rd0 (c : Dev nD) (t : Fin cfg0.N) (r : Fin 320) (k : Fin 1024) :
    iblk m c 0 t (ix2 r k) = at2 (DZ m c) (t.val * 320 + r.val) k.val := by
  have hN : t.val < 26 := lt_of_lt_of_eq t.isLt N_0
  rw [at2_of (DZ m c) ⟨t.val * 320 + r.val, by omega⟩ k _ _ rfl rfl]
  blk_ext [iblk, V, idx t]

theorem rd1 (c : Dev nD) (t : Fin cfg0.N) (r : Fin 8) (k : Fin 1024) (h : t.val < 25) :
    iblk m c 1 t (ix2 r k) = at2 (DZ m c) (t.val * 320 + 320 + r.val) k.val := by
  have hN : t.val < 26 := lt_of_lt_of_eq t.isLt N_0
  rw [at2_of (DZ m c) ⟨t.val * 320 + 320 + r.val, by omega⟩ k _ _ rfl rfl]
  blk_ext [iblk, V, idx t]

theorem rd2 (c : Dev nD) (t : Fin cfg0.N) (r : Fin 320) (k : Fin 3072) (b : ℕ) (hb : b = k.val) :
    iblk m c 2 t (ix2 r k) = at2 (PJ m c) (t.val * 320 + r.val) b := by
  have hN : t.val < 26 := lt_of_lt_of_eq t.isLt N_0
  rw [at2_of (PJ m c) ⟨t.val * 320 + r.val, by omega⟩ k _ _ rfl hb]
  blk_ext [iblk, V, idx t]

theorem rd3 (c : Dev nD) (t : Fin cfg0.N) (r : Fin 8) (k : Fin 3072) (b : ℕ) (hb : b = k.val) (h : 0 < t.val) :
    iblk m c 3 t (ix2 r k) = at2 (PJ m c) (t.val * 320 + r.val - 8) b := by
  have hN : t.val < 26 := lt_of_lt_of_eq t.isLt N_0
  rw [at2_of (PJ m c) ⟨t.val * 320 + r.val - 8, by omega⟩ k _ _ rfl hb]
  blk_ext [iblk, V, idx t]

theorem rd4 (c : Dev nD) (t : Fin cfg0.N) (r : Fin 8) (k : Fin 3072) (b : ℕ) (hb : b = k.val) (h : t.val < 25) :
    iblk m c 4 t (ix2 r k) = at2 (PJ m c) (t.val * 320 + 320 + r.val) b := by
  have hN : t.val < 26 := lt_of_lt_of_eq t.isLt N_0
  rw [at2_of (PJ m c) ⟨t.val * 320 + 320 + r.val, by omega⟩ k _ _ rfl hb]
  blk_ext [iblk, V, idx t]

theorem rd5 (c : Dev nD) (t : Fin cfg0.N) (r : Fin 3) (k : Fin 1024) (a : ℕ) (ha : a = r.val) :
    iblk m c 5 t (ix2 r k) = at2 (WT m c) a k.val := by
  rw [at2_of (WT m c) r k _ _ ha rfl]
  blk_ext [iblk, V, idx t]

/-- The gated input of the convolution at row `n`: value times input gate, zero in the padding. -/
def U (P : S8320x3072.Idx → EReal) (n j : ℕ) : EReal :=
  if 112 ≤ n then at2 P n (1024 + j) * at2 P n (2048 + j) else 0

/-- The gradient of the convolution's output at row `n`. -/
def DY (D : S8320x1024.Idx → EReal) (P : S8320x3072.Idx → EReal) (n j : ℕ) : EReal := at2 D n j * at2 P n j

/-- The convolution's output at row `n`. -/
def Y (P : S8320x3072.Idx → EReal) (w : S3x1024.Idx → EReal) (n j : ℕ) : EReal :=
  at2 w 2 j * U P n j + at2 w 1 j * U P (n - 1) j + at2 w 0 j * U P (n - 2) j

/-- The gradient of the gated input at row `n`. -/
def DU (D : S8320x1024.Idx → EReal) (P : S8320x3072.Idx → EReal) (w : S3x1024.Idx → EReal) (n j : ℕ) : EReal :=
  if 112 ≤ n then at2 w 2 j * DY D P n j + at2 w 1 j * DY D P (n + 1) j + at2 w 0 j * DY D P (n + 2) j else 0

theorem select_ite {α : Type} (p : Prop) [Decidable p] (a b : α) :
    Scalar.select (if p then 1#1 else 0#1) a b = if p then a else b := by
  split <;> rfl

theorem coord : ∀ t : Fin cfg0.N, (grid0.coords t 0).val = t.val := (by decide +kernel : ∀ t : Fin grid0.N, _)

/-- The row mask, decided at every point and row. -/
theorem mask : ∀ (t : Fin 26) (e : Fin 328), IntOp.cmpi CmpIPredicate.sge
    (IntOp.addi (Scalar.subi (Scalar.muli (BitVec.ofNat 32 t.val) 320#32) 8#32) (BitVec.ofNat 32 e.val)) 112#32
      = if 112 ≤ t.val * 320 + e.val - 8 then 1#1 else 0#1 := by decide +kernel

/-- The mask of the following block's rows. -/
theorem mask_next : ∀ (t : Fin 26) (e : Fin 8), IntOp.cmpi CmpIPredicate.slt
    (IntOp.addi (Scalar.muli (Scalar.addi (BitVec.ofNat 32 t.val) 1#32) 320#32) (BitVec.ofNat 32 e.val)) 8320#32
      = if t.val < 25 then 1#1 else 0#1 := by decide +kernel

/-- The gradient's rows of the block, and eight rows of the next block. -/
def ldD0 (c : Dev nD) (t : Fin cfg0.N) : Vec Ideal S320x1024 .f32 := iblk m c 0 t
def ldD1 (c : Dev nD) (t : Fin cfg0.N) : Vec Ideal S8x1024 .f32 := iblk m c 1 t
/-- The input gate's rows: eight of the preceding block, then the block's own. -/
def ldI3 (c : Dev nD) (t : Fin cfg0.N) : Vec Ideal S8x1024 .f32 :=
  View.ld (iblk m c 3 t) (Rect.unit ![0, 1024] ![8, 1024] inb_S8x3072_S8x1024_0_1024)
def ldI2 (c : Dev nD) (t : Fin cfg0.N) : Vec Ideal S320x1024 .f32 :=
  View.ld (iblk m c 2 t) (Rect.unit ![0, 1024] ![320, 1024] inb_S320x3072_S320x1024_0_1024)
/-- The value's rows: eight of the preceding block, then the block's own. -/
def ldV3 (c : Dev nD) (t : Fin cfg0.N) : Vec Ideal S8x1024 .f32 :=
  View.ld (iblk m c 3 t) (Rect.unit ![0, 2048] ![8, 1024] inb_S8x3072_S8x1024_0_2048)
def ldV2 (c : Dev nD) (t : Fin cfg0.N) : Vec Ideal S320x1024 .f32 :=
  View.ld (iblk m c 2 t) (Rect.unit ![0, 2048] ![320, 1024] inb_S320x3072_S320x1024_0_2048)
/-- The output gate's rows: the block's own, and eight of the next block. -/
def ldG2 (c : Dev nD) (t : Fin cfg0.N) : Vec Ideal S320x1024 .f32 :=
  View.ld (iblk m c 2 t) (Rect.unit ![0, 0] ![320, 1024] inb_S320x3072_S320x1024_0_0)
def ldG4 (c : Dev nD) (t : Fin cfg0.N) : Vec Ideal S8x1024 .f32 :=
  View.ld (iblk m c 4 t) (Rect.unit ![0, 0] ![8, 1024] inb_S8x3072_S8x1024_0_0)
/-- The three taps. -/
def ldW0 (c : Dev nD) (t : Fin cfg0.N) : Vec Ideal S1x1024 .f32 :=
  View.ld (iblk m c 5 t) (Rect.unit ![0, 0] ![1, 1024] inb_S3x1024_S1x1024_0_0)
def ldW1 (c : Dev nD) (t : Fin cfg0.N) : Vec Ideal S1x1024 .f32 :=
  View.ld (iblk m c 5 t) (Rect.unit ![1, 0] ![1, 1024] inb_S3x1024_S1x1024_1_0)
def ldW2 (c : Dev nD) (t : Fin cfg0.N) : Vec Ideal S1x1024 .f32 :=
  View.ld (iblk m c 5 t) (Rect.unit ![2, 0] ![1, 1024] inb_S3x1024_S1x1024_2_0)

theorem rdD0 (c : Dev nD) (t : Fin cfg0.N) (r : Fin 320) (k : Fin 1024) :
    ldD0 m c t (ix2 r k) = at2 (DZ m c) (t.val * 320 + r.val) k.val := rd0 m c t r k

theorem rdD1 (c : Dev nD) (t : Fin cfg0.N) (r : Fin 8) (k : Fin 1024) (h : t.val < 25) :
    ldD1 m c t (ix2 r k) = at2 (DZ m c) (t.val * 320 + 320 + r.val) k.val := rd1 m c t r k h

theorem rdI3 (c : Dev nD) (t : Fin cfg0.N) (r : Fin 8) (k : Fin 1024) (h : 0 < t.val) :
    ldI3 m c t (ix2 r k) = at2 (PJ m c) (t.val * 320 + r.val - 8) (1024 + k.val) := by
  pointwise [ldI3]
  rw [rd3 m c t _ _ _ rfl h]

theorem rdI2 (c : Dev nD) (t : Fin cfg0.N) (r : Fin 320) (k : Fin 1024) :
    ldI2 m c t (ix2 r k) = at2 (PJ m c) (t.val * 320 + r.val) (1024 + k.val) := by
  pointwise [ldI2]
  rw [rd2 m c t _ _ _ rfl]

theorem rdV3 (c : Dev nD) (t : Fin cfg0.N) (r : Fin 8) (k : Fin 1024) (h : 0 < t.val) :
    ldV3 m c t (ix2 r k) = at2 (PJ m c) (t.val * 320 + r.val - 8) (2048 + k.val) := by
  pointwise [ldV3]
  rw [rd3 m c t _ _ _ rfl h]

theorem rdV2 (c : Dev nD) (t : Fin cfg0.N) (r : Fin 320) (k : Fin 1024) :
    ldV2 m c t (ix2 r k) = at2 (PJ m c) (t.val * 320 + r.val) (2048 + k.val) := by
  pointwise [ldV2]
  rw [rd2 m c t _ _ _ rfl]

theorem rdG2 (c : Dev nD) (t : Fin cfg0.N) (r : Fin 320) (k : Fin 1024) :
    ldG2 m c t (ix2 r k) = at2 (PJ m c) (t.val * 320 + r.val) (k.val) := by
  pointwise [ldG2]
  rw [rd2 m c t _ _ _ rfl]

theorem rdG4 (c : Dev nD) (t : Fin cfg0.N) (r : Fin 8) (k : Fin 1024) (h : t.val < 25) :
    ldG4 m c t (ix2 r k) = at2 (PJ m c) (t.val * 320 + 320 + r.val) (k.val) := by
  pointwise [ldG4]
  rw [rd4 m c t _ _ _ rfl h]

theorem rdW0 (c : Dev nD) (t : Fin cfg0.N) (r : Fin 1) (k : Fin 1024) :
    ldW0 m c t (ix2 r k) = at2 (WT m c) 0 (k.val) := by
  pointwise [ldW0]
  exact rd5 m c t _ _ 0 rfl

theorem rdW1 (c : Dev nD) (t : Fin cfg0.N) (r : Fin 1) (k : Fin 1024) :
    ldW1 m c t (ix2 r k) = at2 (WT m c) 1 (k.val) := by
  pointwise [ldW1]
  exact rd5 m c t _ _ 1 rfl

theorem rdW2 (c : Dev nD) (t : Fin cfg0.N) (r : Fin 1) (k : Fin 1024) :
    ldW2 m c t (ix2 r k) = at2 (WT m c) 2 (k.val) := by
  pointwise [ldW2]
  exact rd5 m c t _ _ 2 rfl

/-- The gated input at row `e` of the extended block, eight rows before the block's first. -/
theorem at9 (c : Dev nD) (t : Fin cfg0.N) (e : Fin 328) (j : Fin 1024) :
    k0_pay9 (grid0.coords t) (ldI3 m c t) (ldI2 m c t) (ldV3 m c t) (ldV2 m c t) (ix2 e j)
      = U (PJ m c) (t.val * 320 + e.val - 8) j.val := by
  have hN : t.val < 26 := lt_of_lt_of_eq t.isLt N_0
  have hm := mask ⟨t.val, hN⟩ e
  pointwise [k0_pay9, k0_pay6, k0_pay7, k0_pay8]
  rw [coord t]
  dsimp only at hm
  rw [hm, select_ite]
  unfold U
  by_cases h : 112 ≤ t.val * 320 + e.val - 8
  · rw [if_pos h, if_pos h]
    by_cases he : e.val < 8
    · rw [dif_pos he, dif_pos he, rdI3 m c t _ _ (by omega), rdV3 m c t _ _ (by omega)]
    · rw [dif_neg he, dif_neg he, rdI2, rdV2]
      dsimp only
      rw [show t.val * 320 + (e.val - 8) = t.val * 320 + e.val - 8 by omega]
  · rw [if_neg h, if_neg h]

theorem at10 (c : Dev nD) (t : Fin cfg0.N) (e : Fin 328) (j : Fin 1024) (he : 1 ≤ e.val) :
    k0_pay10 (grid0.coords t) (ldI3 m c t) (ldI2 m c t) (ldV3 m c t) (ldV2 m c t) (ix2 e j)
      = U (PJ m c) (t.val * 320 + e.val - 8 - 1) j.val := by
  pointwise [k0_pay10]
  refine (at9 m c t _ j).trans (congrArg (fun n => U (PJ m c) n j.val) ?_)
  have := e.isLt
  dsimp only
  omega

theorem at11 (c : Dev nD) (t : Fin cfg0.N) (e : Fin 328) (j : Fin 1024) (he : 2 ≤ e.val) :
    k0_pay11 (grid0.coords t) (ldI3 m c t) (ldI2 m c t) (ldV3 m c t) (ldV2 m c t) (ix2 e j)
      = U (PJ m c) (t.val * 320 + e.val - 8 - 2) j.val := by
  pointwise [k0_pay11]
  refine (at9 m c t _ j).trans (congrArg (fun n => U (PJ m c) n j.val) ?_)
  have := e.isLt
  dsimp only
  omega

/-- The convolution's output at row `e` of the block. -/
theorem at12 (c : Dev nD) (t : Fin cfg0.N) (e : Fin 320) (j : Fin 1024) :
    k0_pay12 (grid0.coords t) (ldW0 m c t) (ldW1 m c t) (ldW2 m c t) (ldI3 m c t) (ldI2 m c t) (ldV3 m c t) (ldV2 m c t)
        (ix2 e j) = Y (PJ m c) (WT m c) (t.val * 320 + e.val) j.val := by
  pointwise [k0_pay12]
  rw [at9, at10 _ _ _ _ _ (by show 1 ≤ 8 + e.val; omega), at11 _ _ _ _ _ (by show 2 ≤ 8 + e.val; omega),
    rdW0, rdW1, rdW2]
  unfold Y
  dsimp only
  rw [show t.val * 320 + (8 + e.val) - 8 = t.val * 320 + e.val by omega]

/-- The output's gradient at row `e` of the block. -/
theorem at13 (c : Dev nD) (t : Fin cfg0.N) (e : Fin 320) (j : Fin 1024) :
    k0_pay13 (ldD0 m c t) (ldG2 m c t) (ix2 e j) = DY (DZ m c) (PJ m c) (t.val * 320 + e.val) j.val := by
  pointwise [k0_pay13]
  rw [rdD0, rdG2]
  rfl

/-- The gated input's gradient at row `e` of the block. -/
theorem at14 (c : Dev nD) (t : Fin cfg0.N) (e : Fin 320) (j : Fin 1024) :
    k0_pay14 (BitVec.ofNat 32 (grid0.coords t 0).val) (ldW0 m c t) (ldW1 m c t) (ldW2 m c t) (k0_pay6 (grid0.coords t))
        (ldD0 m c t) (ldG2 m c t) (ldD1 m c t) (ldG4 m c t) (ix2 e j)
      = DU (DZ m c) (PJ m c) (WT m c) (t.val * 320 + e.val) j.val := by
  have hN : t.val < 26 := lt_of_lt_of_eq t.isLt N_0
  have hm := mask ⟨t.val, hN⟩ ⟨8 + e.val, by omega⟩
  dsimp only at hm
  rw [show t.val * 320 + (8 + e.val) - 8 = t.val * 320 + e.val by omega] at hm
  have hD : ∀ (k : ℕ) (hk : k < 328),
      (if h : k < 320 then k0_pay13 (ldD0 m c t) (ldG2 m c t) (ix2 ⟨k, h⟩ j)
      else Scalar.select (IntOp.cmpi CmpIPredicate.slt (IntOp.addi (Scalar.muli (Scalar.addi (BitVec.ofNat 32 t.val) 1#32)
        320#32) (BitVec.ofNat 32 (k - 320))) 8320#32)
        (ldD1 m c t (ix2 ⟨k - 320, by omega⟩ j) * ldG4 m c t (ix2 ⟨k - 320, by omega⟩ j)) 0)
      = DY (DZ m c) (PJ m c) (t.val * 320 + k) j.val := by
    intro k hk
    by_cases h : k < 320
    · rw [dif_pos h, at13]
    · have hn := mask_next ⟨t.val, hN⟩ ⟨k - 320, by omega⟩
      dsimp only at hn
      rw [dif_neg h, hn, select_ite]
      by_cases ht : t.val < 25
      · rw [if_pos ht, rdD1 m c t _ _ ht, rdG4 m c t _ _ ht]
        dsimp only
        rw [show t.val * 320 + 320 + (k - 320) = t.val * 320 + k by omega]; rfl
      · rw [if_neg ht]
        unfold DY
        rw [at2_out _ _ _ (by omega), zero_mul]
  pointwise [k0_pay14, k0_pay6]
  rw [coord t, hm, select_ite, hD _ (by omega), hD _ (by omega), at13, rdW0, rdW1, rdW2]
  unfold DU
  rw [show (e.val + 328 - 327) % 328 = e.val + 1 by omega, show (e.val + 328 - 326) % 328 = e.val + 2 by omega]
  rfl

/-- What the kernel leaves in the gradient of the saved projections at a row and a column. -/
def DP (D : S8320x1024.Idx → EReal) (P : S8320x3072.Idx → EReal) (w : S3x1024.Idx → EReal) (n k : ℕ) : EReal :=
  if k < 1024 then at2 D n k * Y P w n k
  else if k < 2048 then DU D P w n (k - 1024) * at2 P n (k + 1024)
  else DU D P w n (k - 2048) * at2 P n (k - 1024)

theorem at1 (c : Dev nD) (t : Fin cfg0.N) (e : Fin 320) (j : Fin 1024) :
    k0_pay1 (k0_pay7 (ldI3 m c t) (ldI2 m c t)) (k0_pay14 (BitVec.ofNat 32 (grid0.coords t 0).val) (ldW0 m c t)
        (ldW1 m c t) (ldW2 m c t) (k0_pay6 (grid0.coords t)) (ldD0 m c t) (ldG2 m c t) (ldD1 m c t) (ldG4 m c t)) (ix2 e j)
      = DU (DZ m c) (PJ m c) (WT m c) (t.val * 320 + e.val) j.val * at2 (PJ m c) (t.val * 320 + e.val) (1024 + j.val) := by
  pointwise [k0_pay1, k0_pay7]
  rw [at14, rdI2]

theorem at16 (c : Dev nD) (t : Fin cfg0.N) (e : Fin 320) (j : Fin 1024) :
    k0_pay16 (BitVec.ofNat 32 (grid0.coords t 0).val) (ldW0 m c t)
        (ldW1 m c t) (ldW2 m c t) (k0_pay6 (grid0.coords t)) (k0_pay8 (ldV3 m c t) (ldV2 m c t)) (ldD0 m c t)
        (ldG2 m c t) (ldD1 m c t) (ldG4 m c t) (ix2 e j)
      = DU (DZ m c) (PJ m c) (WT m c) (t.val * 320 + e.val) j.val * at2 (PJ m c) (t.val * 320 + e.val) (2048 + j.val) := by
  pointwise [k0_pay16, k0_pay8]
  rw [at14, rdV2]

theorem at15 (c : Dev nD) (t : Fin cfg0.N) (e : Fin 320) (j : Fin 1024) :
    k0_pay15 (k0_pay12 (grid0.coords t) (ldW0 m c t) (ldW1 m c t) (ldW2 m c t) (ldI3 m c t) (ldI2 m c t)
        (ldV3 m c t) (ldV2 m c t)) (ldD0 m c t) (ix2 e j)
      = at2 (DZ m c) (t.val * 320 + e.val) j.val * Y (PJ m c) (WT m c) (t.val * 320 + e.val) j.val := by
  pointwise [k0_pay15]
  rw [at12, rdD0]

theorem outs6 (c : Dev nD) (t : Fin cfg0.N) (y : S320x3072.Idx) :
    (outsAt0 m c t.val t.isLt).1 y = View.canon
      [⟨Rect.unit ![0, 2048] ![320, 1024] inb_S320x3072_S320x1024_0_2048,
          k0_pay1 (k0_pay7 (ldI3 m c t) (ldI2 m c t)) (k0_pay14 (BitVec.ofNat 32 (grid0.coords t 0).val) (ldW0 m c t)
            (ldW1 m c t) (ldW2 m c t) (k0_pay6 (grid0.coords t)) (ldD0 m c t) (ldG2 m c t) (ldD1 m c t) (ldG4 m c t))⟩,
        ⟨Rect.unit ![0, 1024] ![320, 1024] inb_S320x3072_S320x1024_0_1024,
          k0_pay16 (BitVec.ofNat 32 (grid0.coords t 0).val) (ldW0 m c t)
            (ldW1 m c t) (ldW2 m c t) (k0_pay6 (grid0.coords t)) (k0_pay8 (ldV3 m c t) (ldV2 m c t)) (ldD0 m c t)
            (ldG2 m c t) (ldD1 m c t) (ldG4 m c t)⟩,
        ⟨Rect.unit ![0, 0] ![320, 1024] inb_S320x3072_S320x1024_0_0,
          k0_pay15 (k0_pay12 (grid0.coords t) (ldW0 m c t) (ldW1 m c t) (ldW2 m c t) (ldI3 m c t) (ldI2 m c t)
            (ldV3 m c t) (ldV2 m c t)) (ldD0 m c t)⟩] y := by
  by_cases h : t.val % 26 = 0
  · rw [outsAt0_A m c t h]; frame_out; rfl
  · rw [outsAt0_B m c t h]; frame_out; rfl

/-- The block of the first result at a point. -/
theorem block6 (c : Dev nD) (t : Fin cfg0.N) (y : S320x3072.Idx) :
    (outsAt0 m c t.val t.isLt).1 y = DP (DZ m c) (PJ m c) (WT m c) (t.val * 320 + (y 0).val) (y 1).val := by
  rw [outs6]
  canon_tiles x h
  · refine (congrArg _ (ix2_eta x).symm).trans ((at1 m c t (x 0) (x 1)).trans ?_)
    rw [h0, h1, DP, if_neg (by omega), if_neg (by omega), show 2048 + (x 1).val - 2048 = (x 1).val by omega,
      show 2048 + (x 1).val - 1024 = 1024 + (x 1).val by omega]
  · refine (congrArg _ (ix2_eta x).symm).trans ((at16 m c t (x 0) (x 1)).trans ?_)
    rw [h0, h1, DP, if_neg (by omega), if_pos (by omega), show 1024 + (x 1).val - 1024 = (x 1).val by omega,
      show 1024 + (x 1).val + 1024 = 2048 + (x 1).val by omega]
  · refine (congrArg _ (ix2_eta x).symm).trans ((at15 m c t (x 0) (x 1)).trans ?_)
    rw [h0, h1, DP, if_pos (by omega)]

/-- The first result array of the kernel. -/
theorem final6 (c : Dev nD) (n : Fin 8320) (k : Fin 3072) : (dats m 0 c).arrAt 6 (cfgs 0).N (ix2 n k)
    = DP (DZ m c) (PJ m c) (WT m c) n.val k.val := by
  have : (dats m 0 c).arrAt 6 (cfgs 0).N = fun i => DP (DZ m c) (PJ m c) (WT m c) (i 0).val (i 1).val := by
    refine (dats m 0 c).arrAt_eq_of_covers 6 _ (by decide +kernel) fun t hf y => ?_
    blk_simp
    rw [after0_6, block6]
    blk_simp [idx t]
  rw [this]; rfl

/-- What one point adds to a tap's gradient: the block's rows of the output's gradient times the shifted input. -/
def DWP (D : S8320x1024.Idx → EReal) (P : S8320x3072.Idx → EReal) (t k j : ℕ) : EReal :=
  ∑ e : Fin 320, DY D P (t * 320 + e.val) j * U P (t * 320 + e.val - (2 - k)) j

theorem at4 (c : Dev nD) (t : Fin cfg0.N) (v : Vec Ideal S1x1024 .f32) (r : Fin 1) (j : Fin 1024) :
    k0_pay4 (k0_pay9 (grid0.coords t) (ldI3 m c t) (ldI2 m c t) (ldV3 m c t) (ldV2 m c t))
      (k0_pay13 (ldD0 m c t) (ldG2 m c t)) v (ix2 r j) = v (ix2 r j) + DWP (DZ m c) (PJ m c) t.val 2 j.val := by
  pointwise [k0_pay4]
  refine congrArg _ (Finset.sum_congr rfl fun e _ => ?_)
  rw [at13, at9]
  dsimp only
  rw [show t.val * 320 + (8 + e.val) - 8 = t.val * 320 + e.val - (2 - 2) by omega]

theorem at3 (c : Dev nD) (t : Fin cfg0.N) (v : Vec Ideal S1x1024 .f32) (r : Fin 1) (j : Fin 1024) :
    k0_pay3 (k0_pay10 (grid0.coords t) (ldI3 m c t) (ldI2 m c t) (ldV3 m c t) (ldV2 m c t))
      (k0_pay13 (ldD0 m c t) (ldG2 m c t)) v (ix2 r j) = v (ix2 r j) + DWP (DZ m c) (PJ m c) t.val 1 j.val := by
  pointwise [k0_pay3]
  refine congrArg _ (Finset.sum_congr rfl fun e _ => ?_)
  rw [at13, at10 _ _ _ _ _ (by show 1 ≤ 8 + e.val; omega)]
  dsimp only
  rw [show t.val * 320 + (8 + e.val) - 8 - 1 = t.val * 320 + e.val - (2 - 1) by omega]

theorem at2' (c : Dev nD) (t : Fin cfg0.N) (v : Vec Ideal S1x1024 .f32) (r : Fin 1) (j : Fin 1024) :
    k0_pay2 (k0_pay11 (grid0.coords t) (ldI3 m c t) (ldI2 m c t) (ldV3 m c t) (ldV2 m c t))
      (k0_pay13 (ldD0 m c t) (ldG2 m c t)) v (ix2 r j) = v (ix2 r j) + DWP (DZ m c) (PJ m c) t.val 0 j.val := by
  pointwise [k0_pay2]
  refine congrArg _ (Finset.sum_congr rfl fun e _ => ?_)
  rw [at13, at11 _ _ _ _ _ (by show 2 ≤ 8 + e.val; omega)]
  dsimp only
  rw [show t.val * 320 + (8 + e.val) - 8 - 2 = t.val * 320 + e.val - (2 - 0) by omega]

/-- Three stored rows agree with one function of the whole block, whatever was stored before them. -/
theorem three_rows (G : S3x1024.Idx → EReal) (X2 X1 X0 : Vec Ideal S1x1024 .f32)
    (L : List (View.Piece (Elt Ideal) S3x1024 .f32))
    (h2 : ∀ j : Fin 1024, X2 (ix2 0 j) = G (ix2 2 j)) (h1 : ∀ j : Fin 1024, X1 (ix2 0 j) = G (ix2 1 j))
    (h0 : ∀ j : Fin 1024, X0 (ix2 0 j) = G (ix2 0 j)) (y : S3x1024.Idx) :
    View.canon (⟨Rect.unit ![2, 0] ![1, 1024] inb_S3x1024_S1x1024_2_0, X2⟩
      :: ⟨Rect.unit ![1, 0] ![1, 1024] inb_S3x1024_S1x1024_1_0, X1⟩
      :: ⟨Rect.unit ![0, 0] ![1, 1024] inb_S3x1024_S1x1024_0_0, X0⟩ :: L) y = G y := by
  have e : ∀ (k : Fin 3) (h : (y 0).val = k.val), y = ix2 k (y 1) := by
    intro k h
    blk_ext
  have b0 : (y 0).val < 3 := (y 0).isLt
  have row : ∀ (X : Vec Ideal S1x1024 .f32) (k : Fin 3) (inb) (L' : List (View.Piece (Elt Ideal) S3x1024 .f32))
      (hX : ∀ j : Fin 1024, X (ix2 0 j) = G (ix2 k j)) (h : (y 0).val = k.val),
      View.canon (⟨Rect.unit ![k.val, 0] ![1, 1024] inb, X⟩ :: L') y = G y := by
    intro X k inb L' hX h
    have hy : y = (Rect.unit ![k.val, 0] ![1, 1024] inb : Rect S3x1024).emb (ix2 0 (y 1) : S1x1024.Idx) := by
      blk_ext
    exact (congrArg (View.canon _) hy).trans ((View.canon_cons_emb _ _ _ _).trans
      ((hX (y 1)).trans (congrArg G (e k h).symm)))
  have off : ∀ (X : Vec Ideal S1x1024 .f32) (k : ℕ) (inb) (L' : List (View.Piece (Elt Ideal) S3x1024 .f32))
      (h : (y 0).val ≠ k),
      View.canon (⟨Rect.unit ![k, 0] ![1, 1024] inb, X⟩ :: L') y = View.canon L' y := by
    intro X k inb L' h
    refine View.canon_cons_of_not_mem _ _ ?_
    rw [Rect.mem_set_unit]
    intro hm
    have : k ≤ (y 0).val ∧ (y 0).val < k + 1 := hm 0
    omega
  by_cases c2 : (y 0).val = 2
  · exact row X2 2 _ _ h2 c2
  rw [off X2 2 _ _ c2]
  by_cases c1 : (y 0).val = 1
  · exact row X1 1 _ _ h1 c1
  rw [off X1 1 _ _ c1]
  exact row X0 0 _ _ h0 (by show (y 0).val = 0; omega)

/-- The first point stores its contributions. -/
theorem outs7_A (c : Dev nD) (t : Fin cfg0.N) (h : t.val % 26 = 0) (y : S3x1024.Idx) :
    (outsAt0 m c t.val t.isLt).2 y = 0 + DWP (DZ m c) (PJ m c) t.val (y 0).val (y 1).val := by
  rw [outsAt0_A m c t h]; frame_out
  frame_open
  simp (disch := decide) only [↓ View.readCov_skip, ↓ View.readCov_cons_toLoadRect, ↓ View.readCov_fill]
  refine three_rows (fun y => 0 + DWP (DZ m c) (PJ m c) t.val (y 0).val (y 1).val) _ _ _ _ (fun j => ?_) (fun j => ?_)
    (fun j => ?_) y
  · refine (at4 m c t _ 0 j).trans ?_
    pointwise [k0_pay5]
  · refine (at3 m c t _ 0 j).trans ?_
    pointwise [k0_pay5]
  · refine (at2' m c t _ 0 j).trans ?_
    pointwise [k0_pay5]

/-- A later point adds its contributions. -/
theorem outs7_B (c : Dev nD) (t : Fin cfg0.N) (h : ¬ t.val % 26 = 0) (y : S3x1024.Idx) :
    (outsAt0 m c t.val t.isLt).2 y = (outsAt0 m c (t.val - 1) (lt_of_le_of_lt (Nat.sub_le _ _) t.isLt)).2 y
      + DWP (DZ m c) (PJ m c) t.val (y 0).val (y 1).val := by
  rw [outsAt0_B m c t h]; frame_out
  refine three_rows (fun y => (outsAt0 m c (t.val - 1) (lt_of_le_of_lt (Nat.sub_le _ _) t.isLt)).2 y
    + DWP (DZ m c) (PJ m c) t.val (y 0).val (y 1).val) _ _ _ _ (fun j => ?_) (fun j => ?_) (fun j => ?_) y
  · refine (at4 m c t _ 0 j).trans ?_
    pointwise []
  · refine (at3 m c t _ 0 j).trans ?_
    pointwise []
  · refine (at2' m c t _ 0 j).trans ?_
    pointwise []

/-- The taps' gradient the kernel leaves: the sum over all points. -/
def DW (D : S8320x1024.Idx → EReal) (P : S8320x3072.Idx → EReal) (k j : ℕ) : EReal :=
  ∑ n : Fin 8320, DY D P n.val j * U P (n.val - (2 - k)) j

/-- The second result array of the kernel. -/
theorem final7 (c : Dev nD) : (dats m 0 c).arrAt 7 (cfgs 0).N
    = fun i => DW (DZ m c) (PJ m c) (i 0).val (i 1).val := by
  refine (dats m 0 c).arrAt_eq_of_covers 7 _ (by decide +kernel) fun t hf y => ?_
  blk_simp
  have hf' : t.val % 26 = 25 := (flush0_7 t).1 hf
  rw [after0_7, Pipeline.eq_sum_fin_of_reset_step_apply_of_flush (fun n h => (outsAt0 m c n h).2) 26 (fun _ => 0)
    (fun t y => DWP (DZ m c) (PJ m c) t.val (y 0).val (y 1).val)
    (fun t h j => outs7_A m c t h j)
    (fun t h j => outs7_B m c t h j) t hf' y, zero_add]
  unfold DW DWP
  refine Fin.sum_mul_add_congr (fun s k hl => ?_)
  have h0 : t.val / 26 = 0 := by have := lt_of_lt_of_eq t.isLt N_0; omega
  blk_simp [idx t]
  simp only [h0, Nat.mul_zero, Nat.zero_add, Nat.zero_mul]

end Cert.ConvValue
-- ==== Proof.ConvReference.lean ====
/- The gradient of the gated short convolution: the reference's stages in the closed forms of the kernel's results. -/
module

public import proofs.«01_k».proof.Proof.ConvKernel
public import proofs.«01_k».proof.Proof.Gen.ConvRefIdeal.Read

@[expose] public section

set_option maxRecDepth 16384

noncomputable section

namespace Cert.ConvValue

open Idealize.ShloMosaic Idealize.ShloMosaic.TcCoe Idealize.SL.Sem
open Cert.ConvRefIdeal Cert.ConvRefIdeal.Read

variable (x0 : (⟨S8320x1024, .f32⟩ : BufTy).Contents (Elt Ideal)) (x1 : (⟨S8320x3072, .f32⟩ : BufTy).Contents (Elt Ideal))
  (x2 : (⟨S3x1024, .f32⟩ : BufTy).Contents (Elt Ideal))

/-- The output gate at a row after the padding. -/
theorem ref1 (q : Fin 8208) (j : Fin 1024) : val_main_v1 (F := Ideal) x1 (ix2 q j) = at2 x1 (q.val + 112) j.val := by
  rw [at2_of x1 ⟨q.val + 112, by omega⟩ ⟨j.val, by omega⟩ _ _ rfl rfl]
  pointwise [val_main_v1, val_main_v0]
  blk_ext

/-- The input gate. -/
theorem ref2 (q : Fin 8208) (j : Fin 1024) : val_main_v2 (F := Ideal) x1 (ix2 q j) = at2 x1 (q.val + 112) (1024 + j.val) := by
  rw [at2_of x1 ⟨q.val + 112, by omega⟩ ⟨1024 + j.val, by omega⟩ _ _ rfl rfl]
  pointwise [val_main_v2, val_main_v0]
  blk_ext

/-- The value. -/
theorem ref3 (q : Fin 8208) (j : Fin 1024) : val_main_v3 (F := Ideal) x1 (ix2 q j) = at2 x1 (q.val + 112) (2048 + j.val) := by
  rw [at2_of x1 ⟨q.val + 112, by omega⟩ ⟨2048 + j.val, by omega⟩ _ _ rfl rfl]
  pointwise [val_main_v3, val_main_v0]
  blk_ext

/-- The gated input. -/
theorem ref4 (q : Fin 8208) (j : Fin 1024) : val_main_v4 (F := Ideal) x1 (ix2 q j) = U x1 (q.val + 112) j.val := by
  rw [val_main_v4_apply, ref2, ref3, U, if_pos (by omega)]
  rfl

/-- The gated input one row earlier. -/
theorem ref7 (q : Fin 8208) (j : Fin 1024) : val_main_v7 (F := Ideal) x1 (ix2 q j) = U x1 (q.val + 112 - 1) j.val := by
  pointwise [val_main_v7, val_main_v5, val_main_cst, val_main_v6]
  by_cases h : q.val < 1
  · rw [dif_pos h, U, if_neg (by omega)]
  · rw [dif_neg h, ref4]
    dsimp only
    rw [show q.val - 1 + 112 = q.val + 112 - 1 by omega]

/-- The gated input two rows earlier. -/
theorem ref11 (q : Fin 8208) (j : Fin 1024) : val_main_v11 (F := Ideal) x1 (ix2 q j) = U x1 (q.val + 112 - 2) j.val := by
  pointwise [val_main_v11, val_main_v9, val_main_cst_1, val_main_v10]
  by_cases h : q.val < 2
  · rw [dif_pos h, U, if_neg (by omega)]
  · rw [dif_neg h, ref4]
    dsimp only
    rw [show q.val - 2 + 112 = q.val + 112 - 2 by omega]

/-- The taps, repeated over the rows. -/
theorem ref16 (q : Fin 8208) (j : Fin 1024) : val_main_v16 (F := Ideal) x2 (ix2 q j) = at2 x2 0 j.val := by
  rw [at2_of x2 0 j 0 j.val rfl rfl]
  pointwise [val_main_v16, val_main_v15, val_main_v14, val_main_v13]
  blk_ext

theorem ref21 (q : Fin 8208) (j : Fin 1024) : val_main_v21 (F := Ideal) x2 (ix2 q j) = at2 x2 1 j.val := by
  rw [at2_of x2 1 j 1 j.val rfl rfl]
  pointwise [val_main_v21, val_main_v20, val_main_v19, val_main_v18]
  blk_ext

theorem ref27 (q : Fin 8208) (j : Fin 1024) : val_main_v27 (F := Ideal) x2 (ix2 q j) = at2 x2 2 j.val := by
  rw [at2_of x2 2 j 2 j.val rfl rfl]
  pointwise [val_main_v27, val_main_v26, val_main_v25, val_main_v24]
  blk_ext

/-- The convolution's output. -/
theorem ref29 (q : Fin 8208) (j : Fin 1024) : val_main_v29 (F := Ideal) x1 x2 (ix2 q j) = Y x1 x2 (q.val + 112) j.val := by
  rw [val_main_v29_apply, val_main_v23_apply, val_main_v17_apply, val_main_v22_apply, val_main_v28_apply, ref16, ref21,
    ref27, ref4, ref7, ref11, Y]
  simp only [Ideal.addf_def, Ideal.mulf_def]
  abel

/-- The output's gradient before the gate. -/
theorem ref31 (q : Fin 8208) (j : Fin 1024) : val_main_v31 (F := Ideal) x0 (ix2 q j) = at2 x0 (q.val + 112) j.val := by
  rw [at2_of x0 ⟨q.val + 112, by omega⟩ ⟨j.val, by omega⟩ _ _ rfl rfl]
  pointwise [val_main_v31]
  blk_ext

/-- The output's gradient after the gate. -/
theorem ref32 (q : Fin 8208) (j : Fin 1024) : val_main_v32 (F := Ideal) x0 x1 (ix2 q j) = DY x0 x1 (q.val + 112) j.val := by
  rw [val_main_v32_apply, ref1, ref31, DY, mul_comm]
  rfl

theorem ref33 (q : Fin 8208) (j : Fin 1024) : val_main_v33 (F := Ideal) x0 x1 x2 (ix2 q j)
    = at2 x0 (q.val + 112) j.val * Y x1 x2 (q.val + 112) j.val := by
  rw [val_main_v33_apply, ref31, ref29]
  rfl

/-- The three terms of the gated input's gradient. -/
theorem ref35 (q : Fin 8208) (j : Fin 1024) : val_main_v35 (F := Ideal) x0 x1 x2 (ix2 q j)
    = at2 x2 2 j.val * DY x0 x1 (q.val + 112) j.val := by
  rw [at2_of x2 2 j 2 j.val rfl rfl]
  pointwise [val_main_v35, val_main_v34, val_main_v26, val_main_v25, val_main_v24]
  rw [ref32]

theorem ref62 (q : Fin 8208) (j : Fin 1024) : val_main_v62 (F := Ideal) x0 x1 x2 (ix2 q j)
    = at2 x2 0 j.val * DY x0 x1 (q.val + 112 + 2) j.val := by
  rw [at2_of x2 0 j 0 j.val rfl rfl]
  pointwise [val_main_v62, val_main_v61, val_main_v52, val_main_v51, val_main_v15, val_main_v14, val_main_v13, val_main_cst_12]
  by_cases h : q.val < 8206
  · rw [dif_pos h, ref32]
    dsimp only
    rw [show 2 + q.val + 112 = q.val + 112 + 2 by omega]
  · rw [dif_neg h, DY, at2_out _ _ _ (by omega), zero_mul, mul_zero]

theorem ref66 (q : Fin 8208) (j : Fin 1024) : val_main_v66 (F := Ideal) x0 x1 x2 (ix2 q j)
    = at2 x2 1 j.val * DY x0 x1 (q.val + 112 + 1) j.val := by
  rw [at2_of x2 1 j 1 j.val rfl rfl]
  pointwise [val_main_v66, val_main_v65, val_main_v43, val_main_v42, val_main_v20, val_main_v19, val_main_v18, val_main_cst_13]
  by_cases h : q.val < 8207
  · rw [dif_pos h, ref32]
    dsimp only
    rw [show 1 + q.val + 112 = q.val + 112 + 1 by omega]
  · rw [dif_neg h, DY, at2_out _ _ _ (by omega), zero_mul, mul_zero]

/-- The gated input's gradient. -/
theorem ref67 (q : Fin 8208) (j : Fin 1024) : val_main_v67 (F := Ideal) x0 x1 x2 (ix2 q j)
    = DU x0 x1 x2 (q.val + 112) j.val := by
  rw [val_main_v67_apply, val_main_v63_apply, ref35, ref62, ref66, DU, if_pos (by omega)]
  simp only [Ideal.addf_def]
  abel

/-- The first result of the reference, in the kernel's closed form. -/
theorem reference6 (n : Fin 8320) (k : Fin 3072) : val_main_v72 (F := Ideal) x0 x1 x2 (ix2 n k)
    = DP x0 x1 x2 n.val k.val := by
  pointwise [val_main_v72, val_main_v71, val_main_v70, val_main_v69, val_main_v68, val_main_cst_14]
  unfold DP
  have hn := n.isLt
  have hk := k.isLt
  by_cases h : 112 ≤ n.val
  · have e : n.val - 112 + 112 = n.val := by omega
    rw [dif_pos ⟨h, by omega⟩]
    by_cases h1 : k.val < 1024
    · rw [dif_pos h1, if_pos h1, ref33]
      dsimp only
      rw [e]
    by_cases h2 : k.val < 2048
    · rw [dif_neg h1, if_neg h1, dif_pos (by omega), if_pos h2, ref67, ref3]
      dsimp only
      rw [e, show 2048 + (k.val - 1024) = k.val + 1024 by omega]
    · rw [dif_neg h1, if_neg h1, dif_neg (by omega), if_neg h2, ref67, ref2]
      dsimp only
      rw [e, show k.val - 1024 - 1024 = k.val - 2048 by omega, show 1024 + (k.val - 2048) = k.val - 1024 by omega, mul_comm]
  · have u : ∀ n' ≤ n.val, ∀ j, U x1 n' j = 0 := fun n' hn' j => by rw [U, if_neg (by omega)]
    have d : ∀ j, DU x0 x1 x2 n.val j = 0 := fun j => by rw [DU, if_neg h]
    rw [dif_neg (by omega), Y, u _ le_rfl, u _ (by omega), u _ (by omega), d, d]
    simp only [mul_zero, zero_mul, add_zero, ite_self]

/-- The taps' gradient: the rows before the sequence add nothing. -/
theorem dw_rows (k j : ℕ) : DW x0 x1 k j = ∑ q : Fin 8208, DY x0 x1 (q.val + 112) j * U x1 (q.val + 112 - (2 - k)) j := by
  unfold DW
  refine (Fin.sum_univ_add (a := 112) (b := 8208) _).trans ?_
  rw [Finset.sum_eq_zero (fun i _ => ?_), zero_add]
  · refine Finset.sum_congr rfl fun i _ => ?_
    rw [Fin.val_natAdd, add_comm]
  · have := i.isLt
    rw [Fin.val_castAdd, U, if_neg (by omega), mul_zero]

/-- The second result of the reference, in the kernel's closed form. -/
theorem reference7 (k : Fin 3) (j : Fin 1024) : val_main_v59 (F := Ideal) x0 x1 (ix2 k j) = DW x0 x1 k.val j.val := by
  rw [dw_rows]
  pointwise [val_main_v59, val_main_v50, val_main_v41, val_main_v40, val_main_v39, val_main_v38, val_main_v37, val_main_v36, val_main_cst_5,
    val_main_cst_4, val_main_cst_3, val_main_v49, val_main_v48, val_main_v47, val_main_v46, val_main_v45, val_main_v44,
    val_main_cst_6, val_main_cst_7, val_main_cst_8, val_main_v58, val_main_v57, val_main_v56, val_main_v55, val_main_v54,
    val_main_v53, val_main_cst_9, val_main_cst_10, val_main_cst_11]
  simp only [Fintype.sum_unique, ref32, ref4, ref7, ref11]
  obtain h | h | h : k = 0 ∨ k = 1 ∨ k = 2 := by omega
  · subst h
    rw [dif_neg (by decide), dif_neg (by decide), dif_pos (by decide), zero_add, zero_add]
    rfl
  · subst h
    rw [dif_neg (by decide), dif_pos (by decide), dif_neg (by decide), zero_add, add_zero]
    rfl
  · subst h
    rw [dif_pos (by decide), dif_neg (by decide), dif_neg (by decide), add_zero, add_zero]
    rfl

/-- The first result array of the kernel is the reference's. -/
theorem value6 (m : (ℓ : Loc ConvIdeal.nD ConvIdeal.τ ConvIdeal.sig) → Buf (Elt Ideal) ℓ) (c : Dev ConvIdeal.nD) :
    (ConvIdeal.Gen.dats m 0 c).arrAt 6 (ConvIdeal.cfgs 0).N
      = val_main_v72 (F := Ideal) (DZ m c) (PJ m c) (WT m c) := by
  funext i
  refine (congrArg _ (ix2_eta i).symm).trans ((final6 m c (i 0) (i 1)).trans ?_)
  exact (reference6 (DZ m c) (PJ m c) (WT m c) (i 0) (i 1)).symm.trans (congrArg _ (ix2_eta i))

/-- The second result array of the kernel is the reference's. -/
theorem value7 (m : (ℓ : Loc ConvIdeal.nD ConvIdeal.τ ConvIdeal.sig) → Buf (Elt Ideal) ℓ) (c : Dev ConvIdeal.nD) :
    (ConvIdeal.Gen.dats m 0 c).arrAt 7 (ConvIdeal.cfgs 0).N
      = val_main_v59 (F := Ideal) (DZ m c) (PJ m c) := by
  rw [final7]
  funext i
  exact (reference7 (DZ m c) (PJ m c) (i 0) (i 1)).symm.trans (congrArg _ (ix2_eta i))

end Cert.ConvValue
-- ==== Proof.DownValue.lean ====
/- The gradient of the down projection's weight: the result array that the kernel leaves is the reference's. -/
module

public import proofs.«01_k».proof.Proof.Gen.DownIdeal.Value
public import proofs.«01_k».proof.Proof.Gen.DownRefIdeal.Read
public import proofs.«01_k».proof.Proof.Sums

@[expose] public section

set_option maxRecDepth 16384

noncomputable section

namespace Cert.DownValue

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- The first point of a chip's run stores the product of the two blocks. -/
theorem hpay2 (v0 : Vec Ideal S1x4160x704 .bf16) (v2 : Vec Ideal S4160x1024 .bf16) (j : S1x704x1024.Idx) :
    k0_pay2 v0 v2 j = ∑ k : Fin 4160, v0 (ix3 0 k (j 1)) * v2 (ix2 k (j 2)) := by
  pointwise [k0_pay2, k0_pay1]

/-- The second point adds its product and halves the sum. -/
theorem hpay43 (v0 : Vec Ideal S1x4160x704 .bf16) (v2 : Vec Ideal S4160x1024 .bf16) (v : Vec Ideal S1x704x1024 .f32)
    (j : S1x704x1024.Idx) : k0_pay4 (k0_pay3 v0 v2 v) j
      = (v j + ∑ k : Fin 4160, v0 (ix3 0 k (j 1)) * v2 (ix2 k (j 2))) * ((1 / 2 : ℝ) : EReal) := by
  pointwise [k0_pay4, k0_pay3, k0_pay1]
  rw [Sums.ofBits_half]

/-- The reference's result at an index: the sum over the rows of half the product. -/
theorem href (x0 : (⟨DownRefIdeal.S8320x1024, .f32⟩ : BufTy).Contents (Elt Ideal))
    (x1 : (⟨DownRefIdeal.S8320x2816, .f32⟩ : BufTy).Contents (Elt Ideal)) (j : DownRefIdeal.S4x704x1024.Idx)
    (q : Fin 2816) (hq : q.val = (j 0).val * 704 + (j 1).val) :
    DownRefIdeal.Read.val_main_v8 (F := Ideal) x0 x1 j
      = ∑ k : Fin 8320, (x1 (ix2 k q) * x0 (ix2 k (j 2))) * ((1 / 2 : ℝ) : EReal) := by
  rw [DownRefIdeal.Read.val_main_v8_apply, DownRefIdeal.Read.val_main_v7_apply, DownRefIdeal.Read.val_main_v6_apply]
  refine Finset.sum_congr rfl fun k _ => ?_
  simp only [DownRefIdeal.Read.val_main_v5_apply, DownRefIdeal.Read.val_main_v4_apply,
    DownRefIdeal.Read.val_main_cst_1_apply, Ideal.ofBits_def, Ideal.mulf_def, Sums.ofBits_half]
  have e0 : DownRefIdeal.Read.lidx_main_v6 (DownRefIdeal.Read.idx_main_v7 (DownRefIdeal.Read.idx_main_v8 j)) k
      = ix2 k (j 2) := by
    idx_bounds
    blk_ext
  have e1 : DownRefIdeal.Read.ridx_main_v6 (DownRefIdeal.Read.idx_main_v7 (DownRefIdeal.Read.idx_main_v8 j)) k
      = ix2 k q := by
    idx_bounds
    blk_ext
  rw [e0, e1, mul_comm, mul_comm ((1 / 2 : ℝ) : EReal), mul_assoc]
  rfl

/-- The blocks of the three windows at each point. -/
theorem idx : ∀ t : Fin cfg0.N, win0_0.index t = ![t.val / 2, t.val % 2, 0] ∧ win0_1.index t = ![t.val % 2, 0]
    ∧ win0_2.index t = ![t.val / 2, 0, 0] := (by decide +kernel : ∀ t : Fin grid0.N, _)

/-- The first point of a run leaves the product of the first blocks. -/
theorem first (c : Dev nD) (t : Fin cfg0.N) (h : t.val % 2 = 0) (y : S1x704x1024.Idx) :
    outsAt0 m c t.val t.isLt y = ∑ k : Fin 4160, (show Vec Ideal S1x4160x704 .bf16 from iblk m c 0 t) (ix3 0 k (y 1))
      * (show Vec Ideal S4160x1024 .bf16 from iblk m c 1 t) (ix2 k (y 2)) := by
  rw [outsAt0_A m c t h (by omega) (by omega)]; frame_out
  exact hpay2 _ _ y

/-- The result array of the kernel is the reference's result. -/
theorem final (c : Dev nD) : (dats m 0 c).arrAt 2 (cfgs 0).N = DownRefIdeal.Read.val_main_v8 (F := Ideal)
    (m ((c : Thread nD τ).loc main_arg0)) (m ((c : Thread nD τ).loc main_arg1)) := by
  refine (dats m 0 c).arrAt_eq_of_covers 2 _ (by decide +kernel) fun t hf y => ?_
  blk_simp
  have hb := (flush0_2 t).mp hf
  have hN : t.val < 8 := lt_of_lt_of_eq t.isLt N_0
  have hp := first m c ⟨t.val - 1, (Nat.lt_of_le_of_lt (Nat.sub_le _ _) t.isLt)⟩ (by show (t.val - 1) % 2 = 0; omega) y
  rw [after0_2, outsAt0_B m c t (by omega) hb hb]; frame_out
  refine (hpay43 _ _ _ y).trans ?_
  rw [hp]
  obtain_idx q : (⟨1, ![2816]⟩ : Shape) := [t.val / 2 * 704 + (y 1).val] with hq
  refine Eq.trans ?_ (href _ _ _ (q 0) ?_).symm
  · rw [← Sums.sum_mul_real _ _ (by norm_num)]
    congr 1
    refine Sums.sum_two_stretches (by decide) _ _ _ (fun k hk => ?_) (fun k hk => ?_)
    · have e := idx ⟨t.val - 1, (Nat.lt_of_le_of_lt (Nat.sub_le _ _) t.isLt)⟩
      blk_point [iblk, V, idx t, e]
    · blk_point [iblk, V, idx t]
  · blk_simp [idx t]
    exact hq0

end Cert.DownValue
-- ==== Proof.UpValue.lean ====
/- The gradients of the gate and up projections' weights: each result array that the kernel leaves is the
   reference's. -/
module

public import proofs.«01_k».proof.Proof.Gen.UpIdeal.Value
public import proofs.«01_k».proof.Proof.Gen.UpRefIdeal.Read
public import proofs.«01_k».proof.Proof.Sums

@[expose] public section

set_option maxRecDepth 16384

noncomputable section

namespace Cert.UpValue

open Idealize.ShloMosaic Idealize.ShloMosaic.TcCoe Idealize.SL.Sem
open Idealize.ShloMosaic.Pipeline (Dat)
open Cert.UpIdeal Cert.UpIdeal.Gen

variable (m : (ℓ : Loc nD τ sig) → Buf (Elt Ideal) ℓ)

/-- The first point of a chip's run stores the product of the two blocks. -/
theorem hpay2 (v0 : Vec Ideal S1x2080x704 .bf16) (v2 : Vec Ideal S2080x1024 .bf16) (j : S1x704x1024.Idx) :
    k0_pay2 v0 v2 j = 0 + ∑ k : Fin 2080, v0 (ix3 0 k (j 1)) * v2 (ix2 k (j 2)) := by
  rw [zero_add]; pointwise [k0_pay2, k0_pay1]

/-- A later point adds its product. -/
theorem hpay3 (v0 : Vec Ideal S1x2080x704 .bf16) (v2 : Vec Ideal S2080x1024 .bf16) (v : Vec Ideal S1x704x1024 .f32)
    (j : S1x704x1024.Idx) : k0_pay3 v0 v2 v j = v j + ∑ k : Fin 2080, v0 (ix3 0 k (j 1)) * v2 (ix2 k (j 2)) := by
  pointwise [k0_pay3, k0_pay1]

/-- The same of the second pair. -/
theorem hpay5 (v0 : Vec Ideal S1x2080x704 .bf16) (v2 : Vec Ideal S2080x1024 .bf16) (j : S1x704x1024.Idx) :
    k0_pay5 v0 v2 j = 0 + ∑ k : Fin 2080, v0 (ix3 0 k (j 1)) * v2 (ix2 k (j 2)) := hpay2 v0 v2 j

/-- The same of the second pair. -/
theorem hpay6 (v0 : Vec Ideal S1x2080x704 .bf16) (v2 : Vec Ideal S2080x1024 .bf16) (v : Vec Ideal S1x704x1024 .f32)
    (j : S1x704x1024.Idx) : k0_pay6 v0 v2 v j = v j + ∑ k : Fin 2080, v0 (ix3 0 k (j 1)) * v2 (ix2 k (j 2)) :=
  hpay3 v0 v2 v j

/-- The reference's first result at an index: the sum over the rows. -/
theorem href8 (x0 : (⟨UpRefIdeal.S8320x1024, .f32⟩ : BufTy).Contents (Elt Ideal))
    (x1 : (⟨UpRefIdeal.S8320x2816, .f32⟩ : BufTy).Contents (Elt Ideal)) (j : UpRefIdeal.S4x704x1024.Idx)
    (q : Fin 2816) (hq : q.val = (j 0).val * 704 + (j 1).val) :
    UpRefIdeal.Read.val_main_v8 (F := Ideal) x0 x1 j = ∑ k : Fin 8320, x1 (ix2 k q) * x0 (ix2 k (j 2)) := by
  rw [UpRefIdeal.Read.val_main_v8_apply, UpRefIdeal.Read.val_main_v7_apply, UpRefIdeal.Read.val_main_v6_apply,
    UpRefIdeal.Read.val_main_v5_apply]
  refine Finset.sum_congr rfl fun k _ => congrArg₂ (· * ·) (congrArg x1 ?_) (congrArg x0 ?_)
  · idx_bounds; blk_ext
  · idx_bounds; blk_ext

/-- The reference's second result is the same function of its operands. -/
theorem href10 (x0 : (⟨UpRefIdeal.S8320x1024, .f32⟩ : BufTy).Contents (Elt Ideal))
    (x2 : (⟨UpRefIdeal.S8320x2816, .f32⟩ : BufTy).Contents (Elt Ideal)) :
    UpRefIdeal.Read.val_main_v10 (F := Ideal) x0 x2 = UpRefIdeal.Read.val_main_v8 (F := Ideal) x0 x2 := rfl

/-- The blocks of the windows at each point. -/
theorem idx : ∀ t : Fin cfg0.N, win0_0.index t = ![t.val / 4, t.val % 4, 0] ∧ win0_1.index t = ![t.val % 4, 0]
    ∧ win0_2.index t = ![t.val / 4, t.val % 4, 0] ∧ win0_3.index t = ![t.val / 4, 0, 0]
    ∧ win0_4.index t = ![t.val / 4, 0, 0] := (by decide +kernel : ∀ t : Fin grid0.N, _)

/-- The first result array of the kernel is the reference's. -/
theorem final3 (c : Dev nD) : (dats m 0 c).arrAt 3 (cfgs 0).N = UpRefIdeal.Read.val_main_v8 (F := Ideal)
    (m ((c : Thread nD τ).loc main_arg0)) (m ((c : Thread nD τ).loc main_arg1)) := by
  refine (dats m 0 c).arrAt_eq_of_covers 3 _ (by decide +kernel) fun t hf y => ?_
  blk_simp
  have hN : t.val < 16 := lt_of_lt_of_eq t.isLt N_0
  have hf' := (flush0_3 t).mp hf
  rw [after0_3, Pipeline.eq_sum_fin_of_reset_step_apply_of_flush (fun n h => (outsAt0 m c n h).1) 4 (fun _ => 0) _
    (fun t h j => by rw [outsAt0_A m c t h (by omega) h (by omega)]; frame_out; rw [hpay2])
    (fun t h j => by rw [outsAt0_B m c t h (by omega) h (by omega)]; frame_out; rw [hpay3])
    t hf' y, zero_add]
  obtain_idx q : (⟨1, ![2816]⟩ : Shape) := [t.val / 4 * 704 + (y 1).val] with hq
  refine Eq.trans ?_ (href8 _ _ _ (q 0) ?_).symm
  · refine Fin.sum_mul_add_congr fun s k hl => ?_
    have e := idx ⟨_, Pipeline.run_point_lt_of_flush t hf' s⟩
    blk_point [iblk, V, idx t, e]
  · blk_simp [idx t]
    exact hq0

/-- The second result array of the kernel is the reference's. -/
theorem final4 (c : Dev nD) : (dats m 0 c).arrAt 4 (cfgs 0).N = UpRefIdeal.Read.val_main_v10 (F := Ideal)
    (m ((c : Thread nD τ).loc main_arg0)) (m ((c : Thread nD τ).loc main_arg2)) := by
  rw [href10]
  refine (dats m 0 c).arrAt_eq_of_covers 4 _ (by decide +kernel) fun t hf y => ?_
  blk_simp
  have hN : t.val < 16 := lt_of_lt_of_eq t.isLt N_0
  have hf' := (flush0_4 t).mp hf
  rw [after0_4, Pipeline.eq_sum_fin_of_reset_step_apply_of_flush (fun n h => (outsAt0 m c n h).2) 4 (fun _ => 0) _
    (fun t h j => by rw [outsAt0_A m c t h (by omega) h (by omega)]; frame_out; rw [hpay5])
    (fun t h j => by rw [outsAt0_B m c t h (by omega) h (by omega)]; frame_out; rw [hpay6])
    t hf' y, zero_add]
  obtain_idx q : (⟨1, ![2816]⟩ : Shape) := [t.val / 4 * 704 + (y 1).val] with hq
  refine Eq.trans ?_ (href8 _ _ _ (q 0) ?_).symm
  · refine Fin.sum_mul_add_congr fun s k hl => ?_
    have e := idx ⟨_, Pipeline.run_point_lt_of_flush t hf' s⟩
    blk_point [iblk, V, idx t, e]
  · blk_simp [idx t]
    exact hq0

end Cert.UpValue
-- ==== Proof.Finite.lean ====
/- Finite extended reals: those that are real numbers, and how they go through products and sums. -/
module

public import Idealize.ShloMosaic.Lib.Pipeline.ValueKit
public import Idealize.ShloMosaic.Lib.IdealHost
public import Idealize.ShloMosaic.Lib.StableHlo.Predicate

@[expose] public section

noncomputable section

namespace Cert.Finite

open Idealize.ShloMosaic

/-- An extended real that is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y)
  | ⟨r, hr⟩, ⟨s, hs⟩ => ⟨r * s, by rw [hr, hs, EReal.coe_mul]⟩

theorem IsReal.add {x y : EReal} : IsReal x → IsReal y → IsReal (x + y)
  | ⟨r, hr⟩, ⟨s, hs⟩ => ⟨r + s, by rw [hr, hs, EReal.coe_add]⟩

theorem IsReal.sub {x y : EReal} : IsReal x → IsReal y → IsReal (x - y)
  | ⟨r, hr⟩, ⟨s, hs⟩ => ⟨r - s, by rw [hr, hs, EReal.coe_sub]⟩

/-- A finite sum of real numbers is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- What is less in size than the greatest extended real is a real number. -/
theorem isReal_of_abs_lt_top {x : EReal} (h : max x (-x) < ⊤) : IsReal x := by
  induction x with
  | bot => simp at h
  | top => simp at h
  | coe r => exact ⟨r, rfl⟩

/-- The f32 pattern of infinity is the greatest extended real. -/
theorem ofBits_inf : Ideal.ofBits .f32 0x7F800000#32 = ⊤ := by
  simp [Ideal.ofBits, Ideal.ieee]

/-- An array whose sizes all lie below infinity holds real numbers. -/
theorem isReal_of_cmp {s : Shape} (X : FVec Ideal s .f32) (hb : (⟨0, ![]⟩ : Shape).BroadcastsInDim s ![])
    (h : cmpf .olt (Host.absf X) (broadcastInDim s ![] hb (constant ⟨0, ![]⟩ .f32 0x7F800000#32)) = fun _ => 1#1) (i : s.Idx) :
    IsReal (X i) := by
  have e := congrFun h i
  refine isReal_of_abs_lt_top ?_
  rw [← ofBits_inf]
  exact of_decide_eq_true ((StableHlo.Predicate.ofBool_eq_one_iff _).mp e)

end Cert.Finite

end
-- ==== Proof.ActValue.lean ====
/- The backward pass of the activation of a half step: each result array that the kernel leaves is the reference's. -/
module

public import proofs.«01_k».proof.Proof.Gen.ActIdeal.Value
public import proofs.«01_k».proof.Proof.Gen.ActRefIdeal.Read
public import proofs.«01_k».proof.Proof.Sums
public import proofs.«01_k».proof.Proof.Finite

@[expose] public section

set_option maxRecDepth 16384

noncomputable section

namespace Cert.ActValue

open Idealize.ShloMosaic Idealize.ShloMosaic.TcCoe Idealize.SL.Sem
open Idealize.ShloMosaic.Pipeline (Dat)
open Cert.ActIdeal Cert.ActIdeal.Gen Cert.Finite

variable (m : (ℓ : Loc nD τ sig) → Buf (Elt Ideal) ℓ)

/-- The cotangent of the product of gate and up half at one entry: half of the row times the weight's row. -/
def half (v0 : Fin 1024 → EReal) (v2 : Fin 1024 → EReal) : EReal := (∑ k : Fin 1024, v0 k * v2 k) * ((1 / 2 : ℝ) : EReal)

/-- The kernel's first result at an entry. -/
theorem hpay4 (v0 : Vec Ideal S1664x1024 .bf16) (v2 : Vec Ideal S1x1x704x1024 .bf16) (v7 v11 : Vec Ideal S1x1664x704 .bf16)
    (j : S1x1664x704.Idx) : k0_pay4 v0 v2 v7 v11 j
      = half (fun k => v0 (ix2 (j 1) k)) (fun k => v2 (ix4 0 0 (j 2) k)) * v11 j
        * (Ideal.logistic (v7 j)
          * (1 + v7 j * (1 - Ideal.logistic (v7 j)))) := by
  pointwise [k0_pay4, k0_pay3, k0_pay2, k0_pay1, half]
  rw [Sums.ofBits_half, mul_comm ((1 / 2 : ℝ) : EReal)]

/-- The kernel's second result at an entry. -/
theorem hpay5 (v0 : Vec Ideal S1664x1024 .bf16) (v2 : Vec Ideal S1x1x704x1024 .bf16) (v7 : Vec Ideal S1x1664x704 .bf16)
    (j : S1x1664x704.Idx) : k0_pay5 v0 v2 v7 j
      = half (fun k => v0 (ix2 (j 1) k)) (fun k => v2 (ix4 0 0 (j 2) k))
        * (v7 j * Ideal.logistic (v7 j)) := by
  pointwise [k0_pay5, k0_pay3, k0_pay2, k0_pay1, half]
  rw [Sums.ofBits_half, mul_comm ((1 / 2 : ℝ) : EReal)]

open ActRefIdeal.Read in
/-- The reference's cotangent of the product of the two halves. -/
theorem href9 (x0 : (⟨ActRefIdeal.S8320x1024, .f32⟩ : BufTy).Contents (Elt Ideal))
    (x1 : (⟨ActRefIdeal.S2x2816x1024, .f32⟩ : BufTy).Contents (Elt Ideal)) (i : Fin 8320) (q : Fin 2816) :
    val_main_v9 (F := Ideal) x0 x1 (ix2 i q) = half (fun k => x0 (ix2 i k)) (fun k => x1 (ix3 1 q k)) := by
  rw [half, Sums.sum_mul_real _ _ (by norm_num)]
  pointwise [val_main_v9, val_main_v8, val_main_v7, val_main_cst_0, val_main_v3, val_main_v2]
  refine Finset.sum_congr rfl fun k _ => ?_
  rw [Sums.ofBits_half, mul_assoc, mul_comm]

open ActRefIdeal.Read in
/-- The reference's gradient of the up half. -/
theorem href10 (x0 : (⟨ActRefIdeal.S8320x1024, .f32⟩ : BufTy).Contents (Elt Ideal))
    (x1 : (⟨ActRefIdeal.S2x2816x1024, .f32⟩ : BufTy).Contents (Elt Ideal))
    (x2 : (⟨ActRefIdeal.S8320x2816, .f32⟩ : BufTy).Contents (Elt Ideal)) (i : Fin 8320) (q : Fin 2816) :
    val_main_v10 (F := Ideal) x0 x1 x2 (ix2 i q)
      = half (fun k => x0 (ix2 i k)) (fun k => x1 (ix3 1 q k)) * (x2 (ix2 i q) * Ideal.logistic (x2 (ix2 i q))) := by
  rw [val_main_v10_apply, href9]
  pointwise [val_main_v0_0, val_main_v0_2, val_main_call0_v4, val_main_call0_cst_0, val_main_call0_v3, val_main_call0_v2,
    val_main_call0_cst, val_main_call0_v1, val_main_call0_v0]
  rw [mul_comm]
  rfl

open ActRefIdeal.Read in
/-- The reference's gradient of the gate half. -/
theorem href12 (x0 : (⟨ActRefIdeal.S8320x1024, .f32⟩ : BufTy).Contents (Elt Ideal))
    (x1 : (⟨ActRefIdeal.S2x2816x1024, .f32⟩ : BufTy).Contents (Elt Ideal))
    (x2 x3 : (⟨ActRefIdeal.S8320x2816, .f32⟩ : BufTy).Contents (Elt Ideal)) (i : Fin 8320) (q : Fin 2816) :
    val_main_v12 (F := Ideal) x0 x1 x2 x3 (ix2 i q)
      = half (fun k => x0 (ix2 i k)) (fun k => x1 (ix3 1 q k)) * x3 (ix2 i q) * Ideal.logistic (x2 (ix2 i q))
        + x2 (ix2 i q) * (half (fun k => x0 (ix2 i k)) (fun k => x1 (ix3 1 q k)) * x3 (ix2 i q))
          * (Ideal.logistic (x2 (ix2 i q)) * (1 - Ideal.logistic (x2 (ix2 i q)))) := by
  simp only [val_main_v12_apply, val_main_call1_v1_apply, val_main_call1_v2_apply, val_main_call1_v0_apply,
    val_main_v11_apply, href9]
  pointwise [val_main_v0_1, val_main_v0_2, val_main_call0_v4, val_main_call0_cst_0, val_main_call0_v3, val_main_call0_v2,
    val_main_call0_cst, val_main_call0_v1, val_main_call0_v0, val_main_call0_v7, val_main_call0_v6, val_main_call0_cst_1]
  rfl

open ActRefIdeal.Read in
/-- Where the reference's second result takes its entry. -/
theorem href18 (x0 : (⟨ActRefIdeal.S8320x1024, .f32⟩ : BufTy).Contents (Elt Ideal))
    (x1 : (⟨ActRefIdeal.S2x2816x1024, .f32⟩ : BufTy).Contents (Elt Ideal))
    (x2 : (⟨ActRefIdeal.S8320x2816, .f32⟩ : BufTy).Contents (Elt Ideal)) (j : ActRefIdeal.S4x8320x704.Idx)
    (i : Fin 8320) (hi : i.val = (j 1).val) (q : Fin 2816) (hq : q.val = (j 0).val * 704 + (j 2).val) :
    val_main_v18 (F := Ideal) x0 x1 x2 j = val_main_v10 (F := Ideal) x0 x1 x2 (ix2 i q) := by
  rw [val_main_v18_apply, val_main_v17_apply, val_main_v16_apply]
  refine congrArg (val_main_v10 (F := Ideal) x0 x1 x2) ?_
  idx_bounds
  blk_ext

open ActRefIdeal.Read in
/-- Where the reference's first result takes its entry. -/
theorem href15 (x0 : (⟨ActRefIdeal.S8320x1024, .f32⟩ : BufTy).Contents (Elt Ideal))
    (x1 : (⟨ActRefIdeal.S2x2816x1024, .f32⟩ : BufTy).Contents (Elt Ideal))
    (x2 x3 : (⟨ActRefIdeal.S8320x2816, .f32⟩ : BufTy).Contents (Elt Ideal)) (j : ActRefIdeal.S4x8320x704.Idx)
    (i : Fin 8320) (hi : i.val = (j 1).val) (q : Fin 2816) (hq : q.val = (j 0).val * 704 + (j 2).val) :
    val_main_v15 (F := Ideal) x0 x1 x2 x3 j = val_main_v12 (F := Ideal) x0 x1 x2 x3 (ix2 i q) := by
  rw [val_main_v15_apply, val_main_v14_apply, val_main_v13_apply]
  refine congrArg (val_main_v12 (F := Ideal) x0 x1 x2 x3) ?_
  idx_bounds
  blk_ext

/-- The blocks of the windows at each point. -/
theorem idx : ∀ t : Fin cfg0.N, win0_0.index t = ![t.val % 5, 0] ∧ win0_1.index t = ![t.val / 5, 1, 0, 0]
    ∧ win0_2.index t = ![t.val / 5, t.val % 5, 0] ∧ win0_3.index t = ![t.val / 5, t.val % 5, 0]
    ∧ win0_4.index t = ![t.val / 5, t.val % 5, 0] ∧ win0_5.index t = ![t.val / 5, t.val % 5, 0] :=
  (by decide +kernel : ∀ t : Fin grid0.N, _)

/-- The silu's derivative times a finite cotangent, in its two forms. -/
theorem silu_deriv (x a : EReal) (hx : IsReal x) :
    x * (Ideal.logistic a * (1 + a * (1 - Ideal.logistic a)))
      = x * Ideal.logistic a + a * x * (Ideal.logistic a * (1 - Ideal.logistic a)) := by
  obtain ⟨r, rfl⟩ := hx
  induction a with
  | bot => simp [Ideal.logistic_bot]
  | top =>
    rw [Ideal.logistic_top, show (1 : EReal) - 1 = 0 from EReal.sub_self (by decide) (by decide)]
    simp
  | coe s =>
    rw [Ideal.logistic_coe]
    norm_cast
    push_cast
    ring

/-- The second result array of the kernel is the reference's. -/
theorem final5 (c : Dev nD) : (dats m 0 c).arrAt 5 (cfgs 0).N = ActRefIdeal.Read.val_main_v18 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have hN : t.val < 20 := lt_of_lt_of_eq t.isLt N_0
  rw [after0_5]; frame_out
  obtain_idx q : (⟨2, ![8320, 2816]⟩ : Shape) := [t.val % 5 * 1664 + (y 1).val, t.val / 5 * 704 + (y 2).val] with hq
  refine (hpay5 _ _ _ y).trans ?_
  refine Eq.trans ?_ ((href18 _ _ _ _ (q 0) ?_ (q 1) ?_).trans (href10 _ _ _ (q 0) (q 1))).symm
  · refine congrArg₂ (· * ·) (congrArg₂ half (funext fun k => ?_) (funext fun k => ?_)) ?_
    · blk_point [iblk, V, idx t]
    · blk_point [iblk, V, idx t]
    · have e : (show Vec Ideal S1x1664x704 .bf16 from iblk m c 2 t) y = m ((c : Thread nD τ).loc main_arg2) (ix2 (q 0) (q 1)) := by
        blk_point [iblk, V, idx t]
      exact congrArg₂ (· * ·) e (congrArg Ideal.logistic e)
  · blk_simp [idx t]
    exact hq0
  · blk_simp [idx t]
    exact hq1

/-- The first result array of the kernel is the reference's where the cotangent, the weight and the up half are finite. -/
theorem final4 (c : Dev nD) (h0 : ∀ i, IsReal (m ((c : Thread nD τ).loc main_arg0) i))
    (h1 : ∀ a b, IsReal (m ((c : Thread nD τ).loc main_arg1) (ix3 1 a b))) (h3 : ∀ i, IsReal (m ((c : Thread nD τ).loc main_arg3) i)) :
    (dats m 0 c).arrAt 4 (cfgs 0).N = ActRefIdeal.Read.val_main_v15 (F := Ideal)
      (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  have hN : t.val < 20 := lt_of_lt_of_eq t.isLt N_0
  rw [after0_4]; frame_out
  obtain_idx q : (⟨2, ![8320, 2816]⟩ : Shape) := [t.val % 5 * 1664 + (y 1).val, t.val / 5 * 704 + (y 2).val] with hq
  refine (hpay4 _ _ _ _ y).trans ?_
  refine Eq.trans ?_ ((href15 _ _ _ _ _ (q 0) ?_ (q 1) ?_).trans ((href12 _ _ _ _ (q 0) (q 1)).trans
    (silu_deriv _ _ (((IsReal.sum _ fun k => (h0 _).mul (h1 _ _)).mul (IsReal.coe _)).mul (h3 _))).symm)).symm
  · have e : (show Vec Ideal S1x1664x704 .bf16 from iblk m c 2 t) y = m ((c : Thread nD τ).loc main_arg2) (ix2 (q 0) (q 1)) := by
      blk_point [iblk, V, idx t]
    refine congrArg₂ (· * ·) (congrArg₂ (· * ·) (congrArg₂ half (funext fun k => ?_) (funext fun k => ?_)) ?_)
      (congrArg (fun a => Ideal.logistic a * (1 + a * (1 - Ideal.logistic a))) e)
    · blk_point [iblk, V, idx t]
    · blk_point [iblk, V, idx t]
    · blk_point [iblk, V, idx t]
  · blk_simp [idx t]
    exact hq0
  · blk_simp [idx t]
    exact hq1

end Cert.ActValue

end
-- ==== Proof.LayerNorm.lean ====
/- The backward pass of a layer normalisation over 1024 entries: the short form that keeps the normalised row, and the form
   that differentiates mean and variance one by one, are the same where the row and the cotangent are real. -/
module

public import proofs.«01_k».proof.Proof.Finite

@[expose] public section

noncomputable section

namespace Cert.LayerNorm

open Idealize.ShloMosaic Cert.Finite

/-- The mean of a row: its sum over the constant 1024. -/
def mean (x : Fin 1024 → EReal) : EReal := Ideal.div (∑ k, x k) (Ideal.ofBits .f32 0x44800000#32)

/-- An entry's distance from the mean. -/
def cen (x : Fin 1024 → EReal) (q : Fin 1024) : EReal := x q - mean x

/-- The variance with the constant 1e-5 added. -/
def var (x : Fin 1024 → EReal) : EReal := mean (fun k => cen x k * cen x k) + Ideal.ofBits .f32 0x3727C5AC#32

/-- The reciprocal of the standard deviation. -/
def rstd (x : Fin 1024 → EReal) : EReal := Ideal.rsqrt (var x)

/-- The normalised row. -/
def hat (x : Fin 1024 → EReal) (q : Fin 1024) : EReal := cen x q * rstd x

/-- The short form of the gradient by the row; `d` is the cotangent of the normalised row. -/
def short (d x : Fin 1024 → EReal) (q : Fin 1024) : EReal :=
  rstd x * (d q - mean d - hat x q * mean fun k => d k * hat x k)

/-- The gradient by the variance's sum of squares. -/
def slope (d x : Fin 1024 → EReal) : EReal :=
  Ideal.div ((∑ k, cen x k * d k) * (Ideal.ofBits .f32 0xBF000000#32 * Ideal.div (rstd x) (var x)))
    (Ideal.ofBits .f32 0x44800000#32)

/-- The gradient by the row, through the centred row, the variance and the mean. -/
def long (d x : Fin 1024 → EReal) (q : Fin 1024) : EReal :=
  d q * rstd x + slope d x * (Ideal.ofBits .f32 0x40000000#32 * cen x q)
    + Ideal.div ((∑ k, -(d k * rstd x)) + ∑ k, -(slope d x * (Ideal.ofBits .f32 0x40000000#32 * cen x k)))
      (Ideal.ofBits .f32 0x44800000#32)

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The residual's factor is a real number. -/
theorem ofBits_alpha : ∃ a : ℝ, Ideal.ofBits .f32 0x3FB504F3#32 = (a : EReal) :=
  ⟨_, by simp [Ideal.ofBits, Ideal.ieee, -EReal.coe_mul]; rfl⟩

theorem mean_coe (x : Fin 1024 → ℝ) : mean (fun k => (x k : EReal)) = (((∑ k, x k) / 1024 : ℝ) : EReal) := by
  rw [mean, ofBits_1024, ← coe_sum, Ideal.div_coe (by norm_num), ← EReal.coe_mul]
  congr 1
  ring

/-- The two forms over the reals. -/
theorem short_eq_long_real (d x : Fin 1024 → ℝ) (e : ℝ) (he : 0 < e) (q : Fin 1024) :
    let c := fun k => x k - (∑ k, x k) / 1024
    let v := (∑ k, c k * c k) / 1024 + e
    let r := (√v)⁻¹
    let s := (∑ k, c k * d k) * (-(1 / 2) * (r * (1 / v))) * (1 / 1024)
    0 < v ∧ r * (d q - (∑ k, d k) / 1024 - c q * r * ((∑ k, d k * (c k * r)) / 1024))
      = d q * r + s * (2 * c q) + ((∑ k, -(d k * r)) + ∑ k, -(s * (2 * c k))) * (1 / 1024) := by
  intro c v r s
  have hv : 0 < v := add_pos_of_nonneg_of_pos (div_nonneg (Finset.sum_nonneg fun k _ => mul_self_nonneg _) (by norm_num)) he
  have hc : ∑ k, c k = 0 := by
    simp only [c, Finset.sum_sub_distrib, Finset.sum_const, Finset.card_univ, Fintype.card_fin, nsmul_eq_mul]
    push_cast
    ring
  have hr : r * (1 / v) = r * r * r := by
    have h2 : r * r = 1 / v := by
      simp only [r]
      rw [← mul_inv, Real.mul_self_sqrt hv.le, one_div]
    rw [← h2]; ring
  have h1 : ∑ k, d k * (c k * r) = (∑ k, c k * d k) * r := by
    rw [Finset.sum_mul]; exact Finset.sum_congr rfl fun k _ => by ring
  have h2 : ∑ k, -(d k * r) = -((∑ k, d k) * r) := by
    rw [Finset.sum_neg_distrib, Finset.sum_mul]
  have h3 : ∑ k, -(s * (2 * c k)) = 0 := by
    rw [Finset.sum_neg_distrib, ← Finset.mul_sum, ← Finset.mul_sum, hc]; ring
  refine ⟨hv, ?_⟩
  rw [h1, h2, h3]
  simp only [s]
  rw [hr]
  ring

/-- The two forms agree where every entry of the row and of the cotangent is real. -/
theorem short_eq_long (d x : Fin 1024 → EReal) (hd : ∀ k, IsReal (d k)) (hx : ∀ k, IsReal (x k)) (q : Fin 1024) :
    short d x q = long d x q := by
  choose d' hd' using hd
  choose x' hx' using hx
  obtain rfl : d = fun k => (d' k : EReal) := funext hd'
  obtain rfl : x = fun k => (x' k : EReal) := funext hx'
  obtain ⟨e, he, hE⟩ := ofBits_eps
  obtain ⟨hv, h⟩ := short_eq_long_real d' x' e he q
  have hc : ∀ k, cen (fun k => (x' k : EReal)) k = ((x' k - (∑ k, x' k) / 1024 : ℝ) : EReal) := fun k => by
    rw [cen, mean_coe, EReal.coe_sub]
  have hV : var (fun k => (x' k : EReal))
      = (((∑ k, (x' k - (∑ k, x' k) / 1024) * (x' k - (∑ k, x' k) / 1024)) / 1024 + e : ℝ) : EReal) := by
    simp only [var, hc, hE, ← EReal.coe_mul, mean_coe, EReal.coe_add]
  have hR : rstd (fun k => (x' k : EReal))
      = (((√((∑ k, (x' k - (∑ k, x' k) / 1024) * (x' k - (∑ k, x' k) / 1024)) / 1024 + e))⁻¹ : ℝ) : EReal) := by
    rw [rstd, hV, Ideal.rsqrt_coe, if_neg (not_lt.mpr hv.le), if_neg hv.ne']
  simp only [short, long, slope, hat, hR, hc, hV, ofBits_1024, ofBits_two, ofBits_neg_half,
    Ideal.div_coe hv.ne', Ideal.div_coe (show (1024 : ℝ) ≠ 0 by norm_num), ← EReal.coe_mul, ← EReal.coe_neg, ← coe_sum, mean_coe,
    ← EReal.coe_sub, ← EReal.coe_add]
  exact congrArg _ h

end Cert.LayerNorm

end
-- ==== Proof.DxReference.lean ====
/- The reference's backward pass through both first products of a half step and its layer normalisation, entry by entry. -/
module

public import Idealize.ShloMosaic.Lib.Pipeline.ValueKit
public import proofs.«01_k».proof.Proof.Gen.DxRefIdeal.Read
public import proofs.«01_k».proof.Proof.LayerNorm

@[expose] public section

set_option maxRecDepth 16384

noncomputable section

namespace Cert.DxValue

open Idealize.ShloMosaic Idealize.ShloMosaic.TcCoe Idealize.SL.Sem

/-- The row's cotangent at an entry, the residual's part first. -/
def dy (x0 x1 : (⟨DxRefIdeal.S8320x2816, .f32⟩ : BufTy).Contents (Elt Ideal)) (x2 x3 : (⟨DxRefIdeal.S2x1024x2816, .f32⟩ : BufTy).Contents (Elt Ideal))
    (x4 : (⟨DxRefIdeal.S8320x1024, .f32⟩ : BufTy).Contents (Elt Ideal)) (i : Fin 8320) (q : Fin 1024) : EReal :=
  Ideal.ofBits .f32 0x3FB504F3#32 * x4 (ix2 i q)
    + (∑ k : Fin 2816, x0 (ix2 i k) * x2 (ix3 1 q k) + ∑ k : Fin 2816, x1 (ix2 i k) * x3 (ix3 1 q k))

open DxRefIdeal.Read in
/-- The reference's cotangent of the layer normalisation. -/
theorem href43 (x0 x1 : (⟨DxRefIdeal.S8320x2816, .f32⟩ : BufTy).Contents (Elt Ideal)) (x2 x3 : (⟨DxRefIdeal.S2x1024x2816, .f32⟩ : BufTy).Contents (Elt Ideal))
    (x4 : (⟨DxRefIdeal.S8320x1024, .f32⟩ : BufTy).Contents (Elt Ideal)) (i : Fin 8320) (q : Fin 1024) :
    val_main_v43 (F := Ideal) x0 x1 x2 x3 x4 (ix2 i q) = dy x0 x1 x2 x3 x4 i q := by
  rw [dy, add_comm (∑ k : Fin 2816, x0 (ix2 i k) * x2 (ix3 1 q k)), ← add_assoc]
  pointwise [val_main_v43, val_main_v41, val_main_v39, val_main_v38, val_main_cst_8, val_main_v40, val_main_v42, val_main_v34,
    val_main_v33, val_main_v31, val_main_v30]

open DxRefIdeal.Read in
/-- The reference's centred row. -/
theorem href15 (x5 : (⟨DxRefIdeal.S8320x1024, .f32⟩ : BufTy).Contents (Elt Ideal)) (i : Fin 8320) (q : Fin 1024) :
    val_main_v15 (F := Ideal) x5 (ix2 i q) = LayerNorm.cen (fun k => x5 (ix2 i k)) q := by
  pointwise [val_main_v15, val_main_v14, val_main_v4, val_main_v3, val_main_cst_1, val_main_v2, val_main_v1, val_main_cst_0,
    LayerNorm.cen, LayerNorm.mean]

open DxRefIdeal.Read in
/-- The reference's centred row, as the variance takes it. -/
theorem href6 (x5 : (⟨DxRefIdeal.S8320x1024, .f32⟩ : BufTy).Contents (Elt Ideal)) (i : Fin 8320) (q : Fin 1024) :
    val_main_v6 (F := Ideal) x5 (ix2 i q) = LayerNorm.cen (fun k => x5 (ix2 i k)) q := by
  pointwise [val_main_v6, val_main_v5, val_main_v4, val_main_v3, val_main_cst_1, val_main_v2, val_main_v1, val_main_cst_0,
    LayerNorm.cen, LayerNorm.mean]

open DxRefIdeal.Read in
/-- The reference's variance. -/
theorem href17 (x5 : (⟨DxRefIdeal.S8320x1024, .f32⟩ : BufTy).Contents (Elt Ideal)) (i : Fin 8320) (z : Fin 1) :
    val_main_v17 (F := Ideal) x5 (ix2 i z) = LayerNorm.var (fun k => x5 (ix2 i k)) := by
  pointwise [val_main_v17, val_main_v16, val_main_cst_5, val_main_v13, val_main_v12, val_main_cst_4, val_main_v11, val_main_v10,
    val_main_cst_3, val_main_v7, href6, LayerNorm.var, LayerNorm.mean]

open DxRefIdeal.Read in
/-- The reference's reciprocal standard deviation. -/
theorem href18 (x5 : (⟨DxRefIdeal.S8320x1024, .f32⟩ : BufTy).Contents (Elt Ideal)) (i : Fin 8320) (z : Fin 1) :
    val_main_v18 (F := Ideal) x5 (ix2 i z) = LayerNorm.rstd (fun k => x5 (ix2 i k)) := by
  pointwise [val_main_v18, href17, LayerNorm.rstd]

open DxRefIdeal.Read in
/-- The reference's normalised row. -/
theorem href23 (x5 : (⟨DxRefIdeal.S8320x1024, .f32⟩ : BufTy).Contents (Elt Ideal)) (i : Fin 8320) (q : Fin 1024) :
    val_main_v23 (F := Ideal) x5 (ix2 i q) = LayerNorm.hat (fun k => x5 (ix2 i k)) q := by
  pointwise [val_main_v23, val_main_v22, href15, href18, LayerNorm.hat]

open DxRefIdeal.Read in
/-- The reference's cotangent of the normalised row. -/
theorem href51 (x0 x1 : (⟨DxRefIdeal.S8320x2816, .f32⟩ : BufTy).Contents (Elt Ideal)) (x2 x3 : (⟨DxRefIdeal.S2x1024x2816, .f32⟩ : BufTy).Contents (Elt Ideal))
    (x4 : (⟨DxRefIdeal.S8320x1024, .f32⟩ : BufTy).Contents (Elt Ideal))
    (x6 : (⟨DxRefIdeal.S1024, .f32⟩ : BufTy).Contents (Elt Ideal)) (i : Fin 8320) (q : Fin 1024) :
    val_main_v51 (F := Ideal) x0 x1 x2 x3 x4 x6 (ix2 i q) = dy x0 x1 x2 x3 x4 i q * x6 (ix1 q) := by
  pointwise [val_main_v51, val_main_v50, val_main_v24, href43]

open DxRefIdeal.Read in
/-- The reference's gradient by the centred row. -/
theorem href57 (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal))
    (x6 : (⟨DxRefIdeal.S1024, .f32⟩ : BufTy).Contents (Elt Ideal)) (i : Fin 8320) (q : Fin 1024) :
    val_main_v57 (F := Ideal) x0 x1 x2 x3 x4 x5 x6 (ix2 i q)
      = dy x0 x1 x2 x3 x4 i q * x6 (ix1 q) * LayerNorm.rstd (fun k => x5 (ix2 i k)) := by
  pointwise [val_main_v57, val_main_v56, href51, href18]

open DxRefIdeal.Read in
/-- The reference's gradient by the sum of squares. -/
theorem href63 (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal))
    (x6 : (⟨DxRefIdeal.S1024, .f32⟩ : BufTy).Contents (Elt Ideal)) (i : Fin 8320) (z : Fin 1) :
    val_main_v63 (F := Ideal) x0 x1 x2 x3 x4 x5 x6 (ix2 i z)
      = LayerNorm.slope (fun k => dy x0 x1 x2 x3 x4 i k * x6 (ix1 k)) (fun k => x5 (ix2 i k)) := by
  pointwise [val_main_v63, val_main_v62, val_main_cst_15, val_main_v58, val_main_v55, val_main_v54, val_main_cst_13,
    val_main_v53, val_main_v21, val_main_v20, val_main_cst_6, val_main_v19, href15, href51, href17, href18, LayerNorm.slope]

open DxRefIdeal.Read in
/-- The reference's gradient through the squares. -/
theorem href66 (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal))
    (x6 : (⟨DxRefIdeal.S1024, .f32⟩ : BufTy).Contents (Elt Ideal)) (i : Fin 8320) (q : Fin 1024) :
    val_main_v66 (F := Ideal) x0 x1 x2 x3 x4 x5 x6 (ix2 i q)
      = LayerNorm.slope (fun k => dy x0 x1 x2 x3 x4 i k * x6 (ix1 k)) (fun k => x5 (ix2 i k))
        * (Ideal.ofBits .f32 0x40000000#32 * LayerNorm.cen (fun k => x5 (ix2 i k)) q) := by
  pointwise [val_main_v66, val_main_v65, val_main_v64, val_main_cst_16, val_main_v9, val_main_v8, val_main_cst_2, href6, href63]
  rw [Fin.sum_univ_one]

open DxRefIdeal.Read in
/-- The reference's gradient by the row. -/
theorem href76 (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal))
    (x6 : (⟨DxRefIdeal.S1024, .f32⟩ : BufTy).Contents (Elt Ideal)) (i : Fin 8320) (q : Fin 1024) :
    val_main_v76 (F := Ideal) x0 x1 x2 x3 x4 x5 x6 (ix2 i q)
      = LayerNorm.long (fun k => dy x0 x1 x2 x3 x4 i k * x6 (ix1 k)) (fun k => x5 (ix2 i k)) q := by
  pointwise [val_main_v76, val_main_v75, val_main_v74, val_main_cst_19, val_main_v73, val_main_v72, val_main_cst_18,
    val_main_v71, val_main_v69, val_main_v68, val_main_cst_17, val_main_v67, val_main_v61, val_main_v60, val_main_cst_14,
    val_main_v59, val_main_v70, href57, href66, LayerNorm.long]
  rw [Fin.sum_univ_one]

open DxRefIdeal.Read in
/-- The reference's gradient of the shift. -/
theorem href79 (x0 x1 : (⟨DxRefIdeal.S8320x2816, .f32⟩ : BufTy).Contents (Elt Ideal)) (x2 x3 : (⟨DxRefIdeal.S2x1024x2816, .f32⟩ : BufTy).Contents (Elt Ideal))
    (x4 : (⟨DxRefIdeal.S8320x1024, .f32⟩ : BufTy).Contents (Elt Ideal)) (z : Fin 1) (q : Fin 1024) :
    val_main_v79 (F := Ideal) x0 x1 x2 x3 x4 (ix2 z q) = ∑ i : Fin 8320, dy x0 x1 x2 x3 x4 i q := by
  pointwise [val_main_v79, val_main_v46, val_main_cst_10, val_main_v45, val_main_v44, val_main_cst_9, href43]
  rw [Fin.sum_univ_one]

open DxRefIdeal.Read in
/-- The reference's gradient of the gain. -/
theorem href78 (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal)) (z : Fin 1) (q : Fin 1024) :
    val_main_v78 (F := Ideal) x0 x1 x2 x3 x4 x5 (ix2 z q)
      = ∑ i : Fin 8320, dy x0 x1 x2 x3 x4 i q * LayerNorm.hat (fun k => x5 (ix2 i k)) q := by
  pointwise [val_main_v78, val_main_v52, val_main_cst_12, val_main_v49, val_main_v48, val_main_cst_11, val_main_v47, href43, href23]
  rw [Fin.sum_univ_one]
  exact Finset.sum_congr rfl fun k _ => mul_comm _ _

open DxRefIdeal.Read in
/-- The gradient of the shift at an index given by its coordinate. -/
theorem href79_at (x0 x1 : (⟨DxRefIdeal.S8320x2816, .f32⟩ : BufTy).Contents (Elt Ideal)) (x2 x3 : (⟨DxRefIdeal.S2x1024x2816, .f32⟩ : BufTy).Contents (Elt Ideal))
    (x4 : (⟨DxRefIdeal.S8320x1024, .f32⟩ : BufTy).Contents (Elt Ideal)) (j : DxRefIdeal.S1x1024.Idx)
    (q : Fin 1024) (hq : q.val = (j 1).val) :
    val_main_v79 (F := Ideal) x0 x1 x2 x3 x4 j = ∑ i : Fin 8320, dy x0 x1 x2 x3 x4 i q := by
  refine (congrArg (val_main_v79 (F := Ideal) x0 x1 x2 x3 x4) ?_).trans (href79 x0 x1 x2 x3 x4 0 q)
  idx_bounds
  blk_ext

open DxRefIdeal.Read in
/-- The gradient of the gain at an index given by its coordinate. -/
theorem href78_at (x0 x1 : (⟨DxRefIdeal.S8320x2816, .f32⟩ : BufTy).Contents (Elt Ideal)) (x2 x3 : (⟨DxRefIdeal.S2x1024x2816, .f32⟩ : BufTy).Contents (Elt Ideal))
    (x4 x5 : (⟨DxRefIdeal.S8320x1024, .f32⟩ : BufTy).Contents (Elt Ideal)) (j : DxRefIdeal.S1x1024.Idx)
    (q : Fin 1024) (hq : q.val = (j 1).val) :
    val_main_v78 (F := Ideal) x0 x1 x2 x3 x4 x5 j
      = ∑ i : Fin 8320, dy x0 x1 x2 x3 x4 i q * LayerNorm.hat (fun k => x5 (ix2 i k)) q := by
  refine (congrArg (val_main_v78 (F := Ideal) x0 x1 x2 x3 x4 x5) ?_).trans (href78 x0 x1 x2 x3 x4 x5 0 q)
  idx_bounds
  blk_ext

end Cert.DxValue

end
-- ==== Proof.DxValue.lean ====
/- The backward pass through both first products of a half step and its layer normalisation: each result array that the
   kernel leaves is the reference's. -/
module

public import proofs.«01_k».proof.Proof.Gen.DxIdeal.Value
public import proofs.«01_k».proof.Proof.DxReference
public import proofs.«01_k».proof.Proof.Sums

@[expose] public section

set_option maxRecDepth 16384

noncomputable section

namespace Cert.DxValue

open Idealize.ShloMosaic Idealize.ShloMosaic.TcCoe Idealize.SL.Sem
open Idealize.ShloMosaic.Pipeline (Dat)
open Cert.DxIdeal Cert.DxIdeal.Gen Cert.Finite

variable (m : (ℓ : Loc nD τ sig) → Buf (Elt Ideal) ℓ)

/-- One entry of one chip's product. -/
def dotb (a : Vec Ideal S1x640x704 .bf16) (w : Vec Ideal S1x1x704x1024 .bf16) (p : Fin 640) (q : Fin 1024) : EReal :=
  ∑ k : Fin 704, a (ix3 0 p k) * w (ix4 0 0 k q)

/-- The eight products of a point, at an entry. -/
theorem hpay9 (v0 v1 v2 v3 u0 u1 u2 u3 : Vec Ideal S1x640x704 .bf16) (w0 w1 w2 w3 z0 z1 z2 z3 : Vec Ideal S1x1x704x1024 .bf16)
    (p : Fin 640) (q : Fin 1024) :
    k0_pay9 (k0_pay6 v0 w0 v1 w1 v2 w2) (k0_pay7 v3) (k0_pay8 w3) (constant S640x1024 .f32 0x00000000#32) u0 z0 u1 z1 u2 z2 u3 z3
        (ix2 p q)
      = dotb v0 w0 p q + dotb v1 w1 p q + dotb v2 w2 p q + dotb v3 w3 p q
        + dotb u0 z0 p q + dotb u1 z1 p q + dotb u2 z2 p q + dotb u3 z3 p q := by
  pointwise [k0_pay9, k0_pay6, k0_pay7, k0_pay8, dotb]

/-- The kernel's normalised row. -/
theorem hpay13 (r : Vec Ideal S640x1024 .f32) (p : Fin 640) (q : Fin 1024) :
    k0_pay13 r (ix2 p q) = LayerNorm.hat (fun k => r (ix2 p k)) q := by
  pointwise [k0_pay13, k0_pay12, k0_pay11, LayerNorm.hat, LayerNorm.rstd, LayerNorm.var, LayerNorm.mean, LayerNorm.cen]

/-- The kernel's gradient by the row. -/
theorem hpay14 (v : FVec Ideal S640x1024 .f32) (dr r : Vec Ideal S640x1024 .f32) (g : Vec Ideal S1x1024 .f32) (p : Fin 640) (q : Fin 1024) :
    k0_pay14 v dr r g (ix2 p q) = LayerNorm.short (fun k => k0_pay10 v dr (ix2 p k) * g (ix2 0 k)) (fun k => r (ix2 p k)) q := by
  pointwise [k0_pay14, hpay13, k0_pay12, k0_pay11, LayerNorm.short, LayerNorm.rstd, LayerNorm.var, LayerNorm.mean, LayerNorm.cen]

/-- The kernel's contribution of a point to the gradient of the gain. -/
theorem hpay2 (v : FVec Ideal S640x1024 .f32) (dr r : Vec Ideal S640x1024 .f32) (a : Vec Ideal S1x1024 .f32) (j : S1x1024.Idx) :
    k0_pay2 (k0_pay15 v dr r) a j = a j + ∑ p : Fin 640, k0_pay10 v dr (ix2 p (j 1)) * LayerNorm.hat (fun k => r (ix2 p k)) (j 1) := by
  pointwise [k0_pay2, k0_pay15, hpay13]

/-- The kernel's contribution of a point to the gradient of the shift. -/
theorem hpay3 (v : FVec Ideal S640x1024 .f32) (a : Vec Ideal S1x1024 .f32) (j : S1x1024.Idx) :
    k0_pay3 v a j = a j + ∑ p : Fin 640, v (ix2 p (j 1)) := by
  pointwise [k0_pay3]

theorem hpay4 (j : S1x1024.Idx) : k0_pay4 (F := Ideal) j = 0 := by
  pointwise [k0_pay4]

theorem hpay5 (j : S1x1024.Idx) : k0_pay5 (F := Ideal) j = 0 := by
  pointwise [k0_pay5]

/-- The residual's factor is a real number. -/
theorem ofBits_alpha : ∃ a : ℝ, Ideal.ofBits .f32 0x3FB504F3#32 = (a : EReal) :=
  ⟨_, by simp [Ideal.ofBits, Ideal.ieee, -EReal.coe_mul]; rfl⟩

/-- The blocks of the windows at each point. -/
theorem idx : ∀ t : Fin cfg0.N, win0_0.index t = ![0, t.val, 0] ∧ win0_1.index t = ![0, 1, 0, 0]
    ∧ win0_2.index t = ![0, t.val, 0] ∧ win0_3.index t = ![0, 1, 0, 0]
    ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The eight products of point `t`. -/
def part (c : Dev nD) (t : Fin cfg0.N) : FVec Ideal S640x1024 .f32 :=
  k0_pay9
    (k0_pay6 (View.ld (iblk m c 0 t) (Rect.unit ![0, 0, 0] ![1, 640, 704] inb_S4x640x704_S1x640x704_0_0_0))
      (View.ld (iblk m c 1 t) (Rect.unit ![0, 0, 0, 0] ![1, 1, 704, 1024] inb_S4x1x704x1024_S1x1x704x1024_0_0_0_0))
      (View.ld (iblk m c 0 t) (Rect.unit ![1, 0, 0] ![1, 640, 704] inb_S4x640x704_S1x640x704_1_0_0))
      (View.ld (iblk m c 1 t) (Rect.unit ![1, 0, 0, 0] ![1, 1, 704, 1024] inb_S4x1x704x1024_S1x1x704x1024_1_0_0_0))
      (View.ld (iblk m c 0 t) (Rect.unit ![2, 0, 0] ![1, 640, 704] inb_S4x640x704_S1x640x704_2_0_0))
      (View.ld (iblk m c 1 t) (Rect.unit ![2, 0, 0, 0] ![1, 1, 704, 1024] inb_S4x1x704x1024_S1x1x704x1024_2_0_0_0)))
    (k0_pay7 (View.ld (iblk m c 0 t) (Rect.unit ![3, 0, 0] ![1, 640, 704] inb_S4x640x704_S1x640x704_3_0_0)))
    (k0_pay8 (View.ld (iblk m c 1 t) (Rect.unit ![3, 0, 0, 0] ![1, 1, 704, 1024] inb_S4x1x704x1024_S1x1x704x1024_3_0_0_0)))
    (constant S640x1024 FTy.f32 0#32)
    (View.ld (iblk m c 2 t) (Rect.unit ![0, 0, 0] ![1, 640, 704] inb_S4x640x704_S1x640x704_0_0_0))
    (View.ld (iblk m c 3 t) (Rect.unit ![0, 0, 0, 0] ![1, 1, 704, 1024] inb_S4x1x704x1024_S1x1x704x1024_0_0_0_0))
    (View.ld (iblk m c 2 t) (Rect.unit ![1, 0, 0] ![1, 640, 704] inb_S4x640x704_S1x640x704_1_0_0))
    (View.ld (iblk m c 3 t) (Rect.unit ![1, 0, 0, 0] ![1, 1, 704, 1024] inb_S4x1x704x1024_S1x1x704x1024_1_0_0_0))
    (View.ld (iblk m c 2 t) (Rect.unit ![2, 0, 0] ![1, 640, 704] inb_S4x640x704_S1x640x704_2_0_0))
    (View.ld (iblk m c 3 t) (Rect.unit ![2, 0, 0, 0] ![1, 1, 704, 1024] inb_S4x1x704x1024_S1x1x704x1024_2_0_0_0))
    (View.ld (iblk m c 2 t) (Rect.unit ![3, 0, 0] ![1, 640, 704] inb_S4x640x704_S1x640x704_3_0_0))
    (View.ld (iblk m c 3 t) (Rect.unit ![3, 0, 0, 0] ![1, 1, 704, 1024] inb_S4x1x704x1024_S1x1x704x1024_3_0_0_0))

/-- Input block 0 of a point, entry by entry. -/
theorem blk0 (c : Dev nD) (t : Fin cfg0.N) (z : Fin 4) (p : Fin 640) (k : Fin 704) (i : Fin 8320) (hi : i.val = t.val * 640 + p.val)
    (l : Fin 2816) (hl : l.val = z.val * 704 + k.val) :
    (show Vec Ideal S4x640x704 .bf16 from iblk m c 0 t) (ix3 z p k) = m ((c : Thread nD τ).loc main_arg0) (ix2 i l) := by
  have hN : t.val < 13 := lt_of_lt_of_eq t.isLt N_0
  blk_point [iblk, V, idx t]

/-- Input block 1 of a point, entry by entry. -/
theorem blk1 (c : Dev nD) (t : Fin cfg0.N) (z : Fin 4) (q : Fin 1024) (k : Fin 704) (l : Fin 2816) (hl : l.val = z.val * 704 + k.val) :
    (show Vec Ideal S4x1x704x1024 .bf16 from iblk m c 1 t) (ix4 z 0 k q) = m ((c : Thread nD τ).loc main_arg2) (ix3 1 q l) := by
  have hN : t.val < 13 := lt_of_lt_of_eq t.isLt N_0
  blk_point [iblk, V, idx t]

/-- Input block 2 of a point, entry by entry. -/
theorem blk2 (c : Dev nD) (t : Fin cfg0.N) (z : Fin 4) (p : Fin 640) (k : Fin 704) (i : Fin 8320) (hi : i.val = t.val * 640 + p.val)
    (l : Fin 2816) (hl : l.val = z.val * 704 + k.val) :
    (show Vec Ideal S4x640x704 .bf16 from iblk m c 2 t) (ix3 z p k) = m ((c : Thread nD τ).loc main_arg1) (ix2 i l) := by
  have hN : t.val < 13 := lt_of_lt_of_eq t.isLt N_0
  blk_point [iblk, V, idx t]

/-- Input block 3 of a point, entry by entry. -/
theorem blk3 (c : Dev nD) (t : Fin cfg0.N) (z : Fin 4) (q : Fin 1024) (k : Fin 704) (l : Fin 2816) (hl : l.val = z.val * 704 + k.val) :
    (show Vec Ideal S4x1x704x1024 .bf16 from iblk m c 3 t) (ix4 z 0 k q) = m ((c : Thread nD τ).loc main_arg3) (ix3 1 q l) := by
  have hN : t.val < 13 := lt_of_lt_of_eq t.isLt N_0
  blk_point [iblk, V, idx t]

/-- A load of one chip's rows. -/
theorem ldA (X : Vec Ideal S4x640x704 .bf16) (z : Fin 4) (inb) (p : Fin 640) (k : Fin 704) :
    View.ld X (Rect.unit (s := S4x640x704) ![z.val, 0, 0] ![1, 640, 704] inb) (ix3 0 p k) = X (ix3 z p k) :=
  View.ld_unit_apply_of X _ _ inb _ (ix3 z p k) fun a => by fin_cases a <;> simp

/-- A load of one chip's weights. -/
theorem ldW (X : Vec Ideal S4x1x704x1024 .bf16) (z : Fin 4) (inb) (k : Fin 704) (q : Fin 1024) :
    View.ld X (Rect.unit (s := S4x1x704x1024) ![z.val, 0, 0, 0] ![1, 1, 704, 1024] inb) (ix4 0 0 k q) = X (ix4 z 0 k q) :=
  View.ld_unit_apply_of X _ _ inb _ (ix4 z 0 k q) fun a => by fin_cases a <;> simp

/-- The reference's cotangent of the normalisation, of the kernel's arguments. -/
def DY (c : Dev nD) (i : Fin 8320) (q : Fin 1024) : EReal :=
  dy (m ((c : Thread nD τ).loc main_arg0)) (m ((c : Thread nD τ).loc main_arg1)) (m ((c : Thread nD τ).loc main_arg2))
    (m ((c : Thread nD τ).loc main_arg3)) (m ((c : Thread nD τ).loc main_arg4)) i q

/-- The kernel's cotangent of the normalisation at a point is the reference's at the point's rows. -/
theorem part_eq (c : Dev nD) (t : Fin cfg0.N) (p : Fin 640) (q : Fin 1024) (i : Fin 8320) (hi : i.val = t.val * 640 + p.val) :
    k0_pay10 (part m c t) (iblk m c 4 t) (ix2 p q) = DY m c i q := by
  have hN : t.val < 13 := lt_of_lt_of_eq t.isLt N_0
  have e : k0_pay10 (part m c t) (iblk m c 4 t) (ix2 p q)
      = Ideal.ofBits .f32 0x3FB504F3#32 * (show Vec Ideal S640x1024 .f32 from iblk m c 4 t) (ix2 p q) + part m c t (ix2 p q) := by
    pointwise [k0_pay10]
  rw [e, part, hpay9, DY, dy]
  refine congrArg₂ (· + ·) (congrArg (_ * ·) ?_) ?_
  · blk_point [iblk, V, idx t]
  · rw [← Sums.sum_four_stretches (n := 704) (by decide) (fun k : Fin 2816 => _ * _) _ _ _ _ (fun k hk => ?_) (fun k hk => ?_)
      (fun k hk => ?_) (fun k hk => ?_), ← Sums.sum_four_stretches (n := 704) (by decide) (fun k : Fin 2816 => _ * _) _ _ _ _
      (fun k hk => ?_) (fun k hk => ?_) (fun k hk => ?_) (fun k hk => ?_)]
    · simp only [dotb, add_assoc]
      rfl
    · exact congrArg₂ (· * ·) ((ldA _ 0 _ p k).trans (blk2 m c t 0 p k i hi _ (by simp)))
        ((ldW _ 0 _ k q).trans (blk3 m c t 0 q k _ (by simp)))
    · exact congrArg₂ (· * ·) ((ldA _ 1 _ p k).trans (blk2 m c t 1 p k i hi _ (by simp)))
        ((ldW _ 1 _ k q).trans (blk3 m c t 1 q k _ (by simp)))
    · exact congrArg₂ (· * ·) ((ldA _ 2 _ p k).trans (blk2 m c t 2 p k i hi _ (by simp)))
        ((ldW _ 2 _ k q).trans (blk3 m c t 2 q k _ (by simp)))
    · exact congrArg₂ (· * ·) ((ldA _ 3 _ p k).trans (blk2 m c t 3 p k i hi _ (by simp)))
        ((ldW _ 3 _ k q).trans (blk3 m c t 3 q k _ (by simp)))
    · exact congrArg₂ (· * ·) ((ldA _ 0 _ p k).trans (blk0 m c t 0 p k i hi _ (by simp)))
        ((ldW _ 0 _ k q).trans (blk1 m c t 0 q k _ (by simp)))
    · exact congrArg₂ (· * ·) ((ldA _ 1 _ p k).trans (blk0 m c t 1 p k i hi _ (by simp)))
        ((ldW _ 1 _ k q).trans (blk1 m c t 1 q k _ (by simp)))
    · exact congrArg₂ (· * ·) ((ldA _ 2 _ p k).trans (blk0 m c t 2 p k i hi _ (by simp)))
        ((ldW _ 2 _ k q).trans (blk1 m c t 2 q k _ (by simp)))
    · exact congrArg₂ (· * ·) ((ldA _ 3 _ p k).trans (blk0 m c t 3 p k i hi _ (by simp)))
        ((ldW _ 3 _ k q).trans (blk1 m c t 3 q k _ (by simp)))

/-- A point's contribution to the gradient of the shift. -/
def shift (c : Dev nD) (t : Fin cfg0.N) (y : S1x1024.Idx) : EReal :=
  ∑ p : Fin 640, k0_pay10 (part m c t) (iblk m c 4 t) (ix2 p (y 1))

/-- A point's contribution to the gradient of the gain. -/
def gain (c : Dev nD) (t : Fin cfg0.N) (y : S1x1024.Idx) : EReal :=
  ∑ p : Fin 640, k0_pay10 (part m c t) (iblk m c 4 t) (ix2 p (y 1))
    * LayerNorm.hat (fun k => (show Vec Ideal S640x1024 .f32 from iblk m c 5 t) (ix2 p k)) (y 1)

theorem shift_A (c : Dev nD) (t : Fin cfg0.N) (h : t.val % 13 = 0) (y : S1x1024.Idx) :
    (outsAt0 m c t.val t.isLt).2.2.2 y = 0 + shift m c t y := by
  rw [outsAt0_A m c t h]; frame_out
  exact (hpay3 _ _ y).trans (congrArg (· + _) (hpay5 y))

theorem shift_B (c : Dev nD) (t : Fin cfg0.N) (h : ¬ t.val % 13 = 0) (y : S1x1024.Idx) :
    (outsAt0 m c t.val t.isLt).2.2.2 y
      = (outsAt0 m c (t.val - 1) (Nat.lt_of_le_of_lt (Nat.sub_le _ _) t.isLt)).2.2.2 y + shift m c t y := by
  rw [outsAt0_B m c t h]; frame_out
  exact hpay3 _ _ y

theorem gain_A (c : Dev nD) (t : Fin cfg0.N) (h : t.val % 13 = 0) (y : S1x1024.Idx) :
    (outsAt0 m c t.val t.isLt).2.2.1 y = 0 + gain m c t y := by
  rw [outsAt0_A m c t h]; frame_out
  exact (hpay2 _ _ _ _ y).trans (congrArg (· + _) (hpay4 y))

theorem gain_B (c : Dev nD) (t : Fin cfg0.N) (h : ¬ t.val % 13 = 0) (y : S1x1024.Idx) :
    (outsAt0 m c t.val t.isLt).2.2.1 y
      = (outsAt0 m c (t.val - 1) (Nat.lt_of_le_of_lt (Nat.sub_le _ _) t.isLt)).2.2.1 y + gain m c t y := by
  rw [outsAt0_B m c t h]; frame_out
  exact hpay2 _ _ _ _ y

/-- The fourth result array of the kernel is the reference's gradient of the shift. -/
theorem final10 (c : Dev nD) : (dats m 0 c).arrAt 10 (cfgs 0).N = DxRefIdeal.Read.val_main_v79 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 10 _ (by decide +kernel) fun t hf y => ?_
  blk_simp
  have hN : t.val < 13 := lt_of_lt_of_eq t.isLt N_0
  have hf' := (flush0_10 t).mp hf
  rw [after0_10, Pipeline.eq_sum_fin_of_reset_step_apply_of_flush (fun n h => (outsAt0 m c n h).2.2.2) 13 (fun _ => 0) (shift m c)
    (shift_A m c) (shift_B m c) t hf' y, zero_add]
  obtain_idx q : (⟨1, ![1024]⟩ : Shape) := [(y 1).val] with hq
  refine Eq.trans ?_ (href79_at _ _ _ _ _ _ (q 0) ?_).symm
  · refine Fin.sum_mul_add_congr fun s k hl => ?_
    refine (congrArg (k0_pay10 _ _) ?_).trans (part_eq m c _ k (q 0) _ ?_)
    · exact congrArg (ix2 k) (Fin.ext hq0.symm)
    · show s.val * 640 + k.val = (13 * (t.val / 13) + s.val) * 640 + k.val
      omega
  · blk_simp [idx t]
    exact hq0

/-- The third result array of the kernel is the reference's gradient of the gain. -/
theorem final9 (c : Dev nD) : (dats m 0 c).arrAt 9 (cfgs 0).N = DxRefIdeal.Read.val_main_v78 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  have hN : t.val < 13 := lt_of_lt_of_eq t.isLt N_0
  have hf' := (flush0_9 t).mp hf
  rw [after0_9, Pipeline.eq_sum_fin_of_reset_step_apply_of_flush (fun n h => (outsAt0 m c n h).2.2.1) 13 (fun _ => 0) (gain m c)
    (gain_A m c) (gain_B m c) t hf' y, zero_add]
  obtain_idx q : (⟨1, ![1024]⟩ : Shape) := [(y 1).val] with hq
  refine Eq.trans ?_ (href78_at _ _ _ _ _ _ _ (q 0) ?_).symm
  · refine Fin.sum_mul_add_congr fun s k hl => ?_
    have h0 : t.val / 13 = 0 := by omega
    have e : (y 1 : Fin 1024) = q 0 := Fin.ext hq0.symm
    refine congrArg₂ (· * ·) ((congrArg (k0_pay10 _ _) (congrArg (ix2 k) e)).trans (part_eq m c _ k (q 0) _ ?_))
      (congrArg₂ LayerNorm.hat (funext fun l => ?_) e)
    · show s.val * 640 + k.val = (13 * (t.val / 13) + s.val) * 640 + k.val
      omega
    · have e' := idx ⟨_, Pipeline.run_point_lt_of_flush t hf' s⟩
      blk_point [iblk, V, idx t, e']
  · blk_simp [idx t]
    exact hq0

/-- What the first two result arrays of the kernel hold at an entry. -/
theorem row_eq (c : Dev nD) (t : Fin cfg0.N) (p : Fin 640) (q : Fin 1024) (i : Fin 8320) (hi : i.val = t.val * 640 + p.val)
    (h0 : ∀ i, IsReal (m ((c : Thread nD τ).loc main_arg0) i)) (h1 : ∀ i, IsReal (m ((c : Thread nD τ).loc main_arg1) i))
    (h2 : ∀ a b, IsReal (m ((c : Thread nD τ).loc main_arg2) (ix3 1 a b)))
    (h3 : ∀ a b, IsReal (m ((c : Thread nD τ).loc main_arg3) (ix3 1 a b)))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    k0_pay14 (part m c t) (iblk m c 4 t) (iblk m c 5 t) (iblk m c 6 t) (ix2 p q)
      = DxRefIdeal.Read.val_main_v76 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 i q) := by
  have hN : t.val < 13 := lt_of_lt_of_eq t.isLt N_0
  refine (hpay14 _ _ _ _ p q).trans (Eq.trans ?_ (href76 _ _ _ _ _ _ _ i q).symm)
  refine Eq.trans (congrArg₂ (fun d x => LayerNorm.short d x q) (funext fun k => congrArg₂ (· * ·) (part_eq m c t p k i hi) ?_)
    (funext fun k => ?_)) (LayerNorm.short_eq_long _ _ (fun k => ?_) (fun k => h5 _) q)
  · blk_point [iblk, V, idx t]
  · blk_point [iblk, V, idx t]
  · obtain ⟨a, ha⟩ := ofBits_alpha
    exact ((ha ▸ (IsReal.coe a).mul (h4 _)).add ((IsReal.sum _ fun l => (h0 _).mul (h2 _ _)).add
      (IsReal.sum _ fun l => (h1 _).mul (h3 _ _)))).mul (h6 _)

/-- The first result array of the kernel is the reference's where every argument the gradient reads is finite. -/
theorem final7 (c : Dev nD)
    (h0 : ∀ i, IsReal (m ((c : Thread nD τ).loc main_arg0) i)) (h1 : ∀ i, IsReal (m ((c : Thread nD τ).loc main_arg1) i))
    (h2 : ∀ a b, IsReal (m ((c : Thread nD τ).loc main_arg2) (ix3 1 a b)))
    (h3 : ∀ a b, IsReal (m ((c : Thread nD τ).loc main_arg3) (ix3 1 a b)))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    (dats m 0 c).arrAt 7 (cfgs 0).N = DxRefIdeal.Read.val_main_v76 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  blk_simp
  have hN : t.val < 13 := lt_of_lt_of_eq t.isLt N_0
  obtain_idx q : (⟨2, ![8320, 1024]⟩ : Shape) := [t.val * 640 + (y 0).val, (y 1).val] with hq
  rw [after0_7]
  refine Eq.trans ?_ ((row_eq m c t (y 0) (q 1) (q 0) hq0 h0 h1 h2 h3 h4 h5 h6).trans ?_)
  · have e : (y : S640x1024.Idx) = ix2 (y 0) (q 1) := by
      idx_bounds
      blk_ext
    by_cases h : t.val % 13 = 0
    · rw [outsAt0_A m c t h]; frame_out
      exact congrArg (k0_pay14 (part m c t) (iblk m c 4 t) (iblk m c 5 t) (iblk m c 6 t)) e
    · rw [outsAt0_B m c t h]; frame_out
      exact congrArg (k0_pay14 (part m c t) (iblk m c 4 t) (iblk m c 5 t) (iblk m c 6 t)) e
  · refine congrArg (DxRefIdeal.Read.val_main_v76 (F := Ideal) _ _ _ _ _ _ _) ?_
    blk_point [idx t]

/-- The second result array of the kernel is the reference's where every argument the gradient reads is finite. -/
theorem final8 (c : Dev nD)
    (h0 : ∀ i, IsReal (m ((c : Thread nD τ).loc main_arg0) i)) (h1 : ∀ i, IsReal (m ((c : Thread nD τ).loc main_arg1) i))
    (h2 : ∀ a b, IsReal (m ((c : Thread nD τ).loc main_arg2) (ix3 1 a b)))
    (h3 : ∀ a b, IsReal (m ((c : Thread nD τ).loc main_arg3) (ix3 1 a b)))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    (dats m 0 c).arrAt 8 (cfgs 0).N = DxRefIdeal.Read.val_main_v77 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t hf y => ?_
  blk_simp
  have hN : t.val < 13 := lt_of_lt_of_eq t.isLt N_0
  obtain_idx q : (⟨2, ![8320, 1024]⟩ : Shape) := [t.val * 640 + (y 0).val, (y 1).val] with hq
  rw [after0_8]
  refine Eq.trans ?_ ((row_eq m c t (y 0) (q 1) (q 0) hq0 h0 h1 h2 h3 h4 h5 h6).trans ?_)
  · have e : (y : S640x1024.Idx) = ix2 (y 0) (q 1) := by
      idx_bounds
      blk_ext
    by_cases h : t.val % 13 = 0
    · rw [outsAt0_A m c t h]; frame_out
      exact congrArg (k0_pay14 (part m c t) (iblk m c 4 t) (iblk m c 5 t) (iblk m c 6 t)) e
    · rw [outsAt0_B m c t h]; frame_out
      exact congrArg (k0_pay14 (part m c t) (iblk m c 4 t) (iblk m c 5 t) (iblk m c 6 t)) e
  · refine congrArg (DxRefIdeal.Read.val_main_v76 (F := Ideal) _ _ _ _ _ _ _) ?_
    blk_point [idx t]

end Cert.DxValue

end
-- ==== Proof.Preconditions.lean ====
/- What the preconditions say: the arrays they read hold real numbers. -/
module

public import proofs.«01_k».proof.Pre_act_finite
public import proofs.«01_k».proof.Pre_dx_finite
public import proofs.«01_k».proof.Pre_cdx_finite
public import proofs.«01_k».proof.Pre_qdx_finite
public import proofs.«01_k».proof.Pre_kvdx_finite
public import proofs.«01_k».proof.Proof.Finite

@[expose] public section

set_option maxRecDepth 16384

noncomputable section

namespace Cert.Preconditions

open Idealize.ShloMosaic Cert.Finite

/-- The conditions on shapes that the activation's precondition takes. -/
instance act_facts : Cert.Pre_act_finite.Facts := by constructor <;> decide

/-- The conditions on shapes that the other gradient's precondition takes. -/
instance dx_facts : Cert.Pre_dx_finite.Facts := by constructor <;> decide

/-- The conditions on shapes that the precondition of the gradient through the convolution's first product takes. -/
instance cdx_facts : Cert.Pre_cdx_finite.Facts := by constructor <;> decide

/-- The conditions on shapes that the precondition of the gradient through the queries' projection takes. -/
instance qdx_facts : Cert.Pre_qdx_finite.Facts := by constructor <;> decide

/-- The conditions on shapes that the precondition of the gradient through the keys' and values' projection takes. -/
instance kvdx_facts : Cert.Pre_kvdx_finite.Facts := by constructor <;> decide

/-- The second layer of a stack of two, entry by entry. -/
theorem layerD (X : FVec Ideal ⟨3, ![2, 2816, 1024]⟩ .f32) (hs) (hc) (a : Fin 2816) (b : Fin 1024) :
    shapeCast ⟨2, ![2816, 1024]⟩ (extractStridedSlice (⟨3, ![1, 2816, 1024]⟩ : Shape) ![1, 0, 0] X hs) hc (ix2 a b) = X (ix3 1 a b) := by
  pointwise []

/-- The second layer of a stack of two, entry by entry. -/
theorem layerU (X : FVec Ideal ⟨3, ![2, 1024, 2816]⟩ .f32) (hs) (hc) (a : Fin 1024) (b : Fin 2816) :
    shapeCast ⟨2, ![1024, 2816]⟩ (extractStridedSlice (⟨3, ![1, 1024, 2816]⟩ : Shape) ![1, 0, 0] X hs) hc (ix2 a b) = X (ix3 1 a b) := by
  pointwise []

/-- What the activation's precondition says. -/
theorem act (x0 : FVec Ideal Pre_act_finite.S8320x1024 .f32) (x1 : FVec Ideal Pre_act_finite.S2x2816x1024 .f32)
    (x2 x3 : FVec Ideal Pre_act_finite.S8320x2816 .f32)
    (h : (Pre_act_finite.fn (F := Ideal) x0 x1 x2 x3).1 = (fun _ => 1#1)
      ∧ (Pre_act_finite.fn (F := Ideal) x0 x1 x2 x3).2.1 = (fun _ => 1#1)
      ∧ (Pre_act_finite.fn (F := Ideal) x0 x1 x2 x3).2.2 = (fun _ => 1#1)) :
    (∀ i, IsReal (x0 i)) ∧ (∀ a b, IsReal (x1 (ix3 1 a b))) ∧ ∀ i, IsReal (x3 i) :=
  ⟨isReal_of_cmp _ _ h.1, fun a b => layerD x1 _ _ a b ▸ isReal_of_cmp _ _ h.2.1 (ix2 a b), isReal_of_cmp _ _ h.2.2⟩

/-- What the precondition of the gradient through both first products says. -/
theorem dx (x0 x1 : FVec Ideal Pre_dx_finite.S8320x2816 .f32) (x2 x3 : FVec Ideal Pre_dx_finite.S2x1024x2816 .f32)
    (x4 x5 : FVec Ideal Pre_dx_finite.S8320x1024 .f32) (x6 : FVec Ideal Pre_dx_finite.S1024 .f32)
    (h : (Pre_dx_finite.fn (F := Ideal) x0 x1 x2 x3 x4 x5 x6).1 = (fun _ => 1#1)
      ∧ (Pre_dx_finite.fn (F := Ideal) x0 x1 x2 x3 x4 x5 x6).2.1 = (fun _ => 1#1)
      ∧ (Pre_dx_finite.fn (F := Ideal) x0 x1 x2 x3 x4 x5 x6).2.2.1 = (fun _ => 1#1)
      ∧ (Pre_dx_finite.fn (F := Ideal) x0 x1 x2 x3 x4 x5 x6).2.2.2.1 = (fun _ => 1#1)
      ∧ (Pre_dx_finite.fn (F := Ideal) x0 x1 x2 x3 x4 x5 x6).2.2.2.2.1 = (fun _ => 1#1)
      ∧ (Pre_dx_finite.fn (F := Ideal) x0 x1 x2 x3 x4 x5 x6).2.2.2.2.2.1 = (fun _ => 1#1)
      ∧ (Pre_dx_finite.fn (F := Ideal) x0 x1 x2 x3 x4 x5 x6).2.2.2.2.2.2 = (fun _ => 1#1)) :
    (∀ i, IsReal (x0 i)) ∧ (∀ i, IsReal (x1 i)) ∧ (∀ a b, IsReal (x2 (ix3 1 a b))) ∧ (∀ a b, IsReal (x3 (ix3 1 a b)))
      ∧ (∀ i, IsReal (x4 i)) ∧ (∀ i, IsReal (x5 i)) ∧ ∀ i, IsReal (x6 i) := by
  obtain ⟨h0, h1, h2, h3, h4, h5, h6⟩ := h
  exact ⟨isReal_of_cmp _ _ h0, isReal_of_cmp _ _ h1, fun a b => layerU x2 _ _ a b ▸ isReal_of_cmp _ _ h2 (ix2 a b),
    fun a b => layerU x3 _ _ a b ▸ isReal_of_cmp _ _ h3 (ix2 a b), isReal_of_cmp _ _ h4, isReal_of_cmp _ _ h5, isReal_of_cmp _ _ h6⟩

/-- What the precondition of the gradient through the convolution's first product says. -/
theorem cdx (x0 : FVec Ideal Pre_cdx_finite.S8320x3072 .f32) (x1 : FVec Ideal Pre_cdx_finite.S1024x3072 .f32) (x2 x3 : FVec Ideal Pre_cdx_finite.S8320x1024 .f32)
    (x4 : FVec Ideal Pre_cdx_finite.S1024 .f32)
    (h : (Pre_cdx_finite.fn (F := Ideal) x0 x1 x2 x3 x4).1 = (fun _ => 1#1)
      ∧ (Pre_cdx_finite.fn (F := Ideal) x0 x1 x2 x3 x4).2.1 = (fun _ => 1#1)
      ∧ (Pre_cdx_finite.fn (F := Ideal) x0 x1 x2 x3 x4).2.2.1 = (fun _ => 1#1)
      ∧ (Pre_cdx_finite.fn (F := Ideal) x0 x1 x2 x3 x4).2.2.2.1 = (fun _ => 1#1)
      ∧ (Pre_cdx_finite.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) := by
  obtain ⟨h0, h1, h2, h3, h4⟩ := h
  exact ⟨isReal_of_cmp _ _ h0, isReal_of_cmp _ _ h1, isReal_of_cmp _ _ h2, isReal_of_cmp _ _ h3, isReal_of_cmp _ _ h4⟩

/-- What the precondition of the gradient through the queries' projection says. -/
theorem qdx (x0 : FVec Ideal Pre_qdx_finite.S8320x1024 .f32) (x1 : FVec Ideal Pre_qdx_finite.S1024x1024 .f32) (x2 x3 : FVec Ideal Pre_qdx_finite.S8320x1024 .f32)
    (x4 : FVec Ideal Pre_qdx_finite.S1024 .f32)
    (h : (Pre_qdx_finite.fn (F := Ideal) x0 x1 x2 x3 x4).1 = (fun _ => 1#1)
      ∧ (Pre_qdx_finite.fn (F := Ideal) x0 x1 x2 x3 x4).2.1 = (fun _ => 1#1)
      ∧ (Pre_qdx_finite.fn (F := Ideal) x0 x1 x2 x3 x4).2.2.1 = (fun _ => 1#1)
      ∧ (Pre_qdx_finite.fn (F := Ideal) x0 x1 x2 x3 x4).2.2.2.1 = (fun _ => 1#1)
      ∧ (Pre_qdx_finite.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) := by
  obtain ⟨h0, h1, h2, h3, h4⟩ := h
  exact ⟨isReal_of_cmp _ _ h0, isReal_of_cmp _ _ h1, isReal_of_cmp _ _ h2, isReal_of_cmp _ _ h3, isReal_of_cmp _ _ h4⟩

/-- What the precondition of the gradient through the keys' and values' projection says. -/
theorem kvdx (x0 x1 : FVec Ideal Pre_kvdx_finite.S8320x1024 .f32) (x2 : FVec Ideal Pre_kvdx_finite.S8320x8 .f32) (x3 : FVec Ideal Pre_kvdx_finite.S1024x2056 .f32)
    (x4 x5 : FVec Ideal Pre_kvdx_finite.S8320x1024 .f32) (x6 : FVec Ideal Pre_kvdx_finite.S1024 .f32)
    (h : (Pre_kvdx_finite.fn (F := Ideal) x0 x1 x2 x3 x4 x5 x6).1 = (fun _ => 1#1)
      ∧ (Pre_kvdx_finite.fn (F := Ideal) x0 x1 x2 x3 x4 x5 x6).2.1 = (fun _ => 1#1)
      ∧ (Pre_kvdx_finite.fn (F := Ideal) x0 x1 x2 x3 x4 x5 x6).2.2.1 = (fun _ => 1#1)
      ∧ (Pre_kvdx_finite.fn (F := Ideal) x0 x1 x2 x3 x4 x5 x6).2.2.2.1 = (fun _ => 1#1)
      ∧ (Pre_kvdx_finite.fn (F := Ideal) x0 x1 x2 x3 x4 x5 x6).2.2.2.2.1 = (fun _ => 1#1)
      ∧ (Pre_kvdx_finite.fn (F := Ideal) x0 x1 x2 x3 x4 x5 x6).2.2.2.2.2.1 = (fun _ => 1#1)
      ∧ (Pre_kvdx_finite.fn (F := Ideal) x0 x1 x2 x3 x4 x5 x6).2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) := by
  obtain ⟨h0, h1, h2, h3, h4, h5, h6⟩ := h
  exact ⟨isReal_of_cmp _ _ h0, isReal_of_cmp _ _ h1, isReal_of_cmp _ _ h2, isReal_of_cmp _ _ h3, isReal_of_cmp _ _ h4, isReal_of_cmp _ _ h5, isReal_of_cmp _ _ h6⟩

end Cert.Preconditions

end
-- ==== Proof.SqDwValue.lean ====
/- The gradient of a square projection's weight: the result array that the kernel leaves is the reference's. -/
module

public import proofs.«01_k».proof.Proof.Gen.SqDwIdeal.Value
public import proofs.«01_k».proof.Proof.Gen.SqDwRefIdeal.Read
public import proofs.«01_k».proof.Proof.Sums

@[expose] public section

set_option maxRecDepth 16384

noncomputable section

namespace Cert.SqDwValue

open Idealize.ShloMosaic Idealize.ShloMosaic.TcCoe Idealize.SL.Sem
open Idealize.ShloMosaic.Pipeline (Dat)
open Cert.SqDwIdeal Cert.SqDwIdeal.Gen

variable (m : (ℓ : Loc nD τ sig) → Buf (Elt Ideal) ℓ)

/-- The first point stores the product of the two blocks. -/
theorem hpay2 (v0 v2 : Vec Ideal S4160x1024 .bf16) (j : S1x1024x1024.Idx) :
    k0_pay2 v0 v2 j = 0 + ∑ k : Fin 4160, v0 (ix2 k (j 1)) * v2 (ix2 k (j 2)) := by
  rw [zero_add]; pointwise [k0_pay2, k0_pay1]

/-- The second point adds its product. -/
theorem hpay3 (v0 v2 : Vec Ideal S4160x1024 .bf16) (v : Vec Ideal S1x1024x1024 .f32) (j : S1x1024x1024.Idx) :
    k0_pay3 v0 v2 v j = v j + ∑ k : Fin 4160, v0 (ix2 k (j 1)) * v2 (ix2 k (j 2)) := by
  pointwise [k0_pay3, k0_pay1]

/-- The reference's result at an index: the sum over the rows. -/
theorem href (x0 x1 : (⟨SqDwRefIdeal.S8320x1024, .f32⟩ : BufTy).Contents (Elt Ideal))
    (j : SqDwRefIdeal.S1x1024x1024.Idx) :
    SqDwRefIdeal.Read.val_main_v4 (F := Ideal) x0 x1 j = ∑ k : Fin 8320, x0 (ix2 k (j 1)) * x1 (ix2 k (j 2)) := by
  rw [SqDwRefIdeal.Read.val_main_v4_apply, SqDwRefIdeal.Read.val_main_v3_apply, SqDwRefIdeal.Read.val_main_v2_apply]
  refine Finset.sum_congr rfl fun k _ => (mul_comm _ _).trans (congrArg₂ (· * ·) (congrArg x0 ?_) (congrArg x1 ?_))
  · idx_bounds; blk_ext
  · idx_bounds; blk_ext

/-- The blocks of the windows at each point. -/
theorem idx : ∀ t : Fin cfg0.N, win0_0.index t = ![t.val % 2, 0] ∧ win0_1.index t = ![t.val % 2, 0]
    ∧ win0_2.index t = ![t.val / 2, 0, 0] := (by decide +kernel : ∀ t : Fin grid0.N, _)

/-- The result array of the kernel is the reference's. -/
theorem final (c : Dev nD) : (dats m 0 c).arrAt 2 (cfgs 0).N = SqDwRefIdeal.Read.val_main_v4 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 2 := lt_of_lt_of_eq t.isLt N_0
  have hf' := (flush0_2 t).mp hf
  rw [after0_2, Pipeline.eq_sum_fin_of_reset_step_apply_of_flush (fun n h => outsAt0 m c n h) 2 (fun _ => 0) _
    (fun t h j => by rw [outsAt0_A m c t h (by omega)]; frame_out; rw [hpay2])
    (fun t h j => by rw [outsAt0_B m c t (by omega) (by omega)]; frame_out; rw [hpay3])
    t hf' y, zero_add]
  refine Eq.trans ?_ (href _ _ _).symm
  refine Fin.sum_mul_add_congr fun s k hl => ?_
  have e := idx ⟨_, Pipeline.run_point_lt_of_flush t hf' s⟩
  blk_point [iblk, V, idx t, e]

end Cert.SqDwValue
-- ==== Proof.WinValue.lean ====
/- The gradient of the convolution's first projection's weight: the result array that the kernel leaves is the
   reference's. -/
module

public import proofs.«01_k».proof.Proof.Gen.WinIdeal.Value
public import proofs.«01_k».proof.Proof.Gen.WinRefIdeal.Read
public import proofs.«01_k».proof.Proof.Sums

@[expose] public section

set_option maxRecDepth 16384

noncomputable section

namespace Cert.WinValue

open Idealize.ShloMosaic Idealize.ShloMosaic.TcCoe Idealize.SL.Sem
open Idealize.ShloMosaic.Pipeline (Dat)
open Cert.WinIdeal Cert.WinIdeal.Gen

variable (m : (ℓ : Loc nD τ sig) → Buf (Elt Ideal) ℓ)

/-- The first point of a chip's run stores the product of the two blocks. -/
theorem hpay2 (v0 : Vec Ideal S4160x1024 .bf16) (v2 : Vec Ideal S4160x768 .bf16) (j : S1x1024x768.Idx) :
    k0_pay2 v0 v2 j = 0 + ∑ k : Fin 4160, v0 (ix2 k (j 1)) * v2 (ix2 k (j 2)) := by
  rw [zero_add]; pointwise [k0_pay2, k0_pay1]

/-- The second point adds its product. -/
theorem hpay3 (v0 : Vec Ideal S4160x1024 .bf16) (v2 : Vec Ideal S4160x768 .bf16) (v : Vec Ideal S1x1024x768 .f32)
    (j : S1x1024x768.Idx) : k0_pay3 v0 v2 v j = v j + ∑ k : Fin 4160, v0 (ix2 k (j 1)) * v2 (ix2 k (j 2)) := by
  pointwise [k0_pay3, k0_pay1]

/-- The reference's result at an index: the sum over the rows, of the chip's column. -/
theorem href (x0 : (⟨WinRefIdeal.S8320x1024, .f32⟩ : BufTy).Contents (Elt Ideal))
    (x1 : (⟨WinRefIdeal.S8320x3072, .f32⟩ : BufTy).Contents (Elt Ideal)) (j : WinRefIdeal.S4x1024x768.Idx)
    (q : Fin 3072) (hq : q.val = (j 0).val * 768 + (j 2).val) :
    WinRefIdeal.Read.val_main_v5 (F := Ideal) x0 x1 j = ∑ k : Fin 8320, x0 (ix2 k (j 1)) * x1 (ix2 k q) := by
  rw [WinRefIdeal.Read.val_main_v5_apply, WinRefIdeal.Read.val_main_v4_apply, WinRefIdeal.Read.val_main_v3_apply,
    WinRefIdeal.Read.val_main_v2_apply]
  refine Finset.sum_congr rfl fun k _ => (mul_comm _ _).trans (congrArg₂ (· * ·) (congrArg x0 ?_) (congrArg x1 ?_))
  · idx_bounds; blk_ext
  · idx_bounds; blk_ext

/-- The blocks of the windows at each point. -/
theorem idx : ∀ t : Fin cfg0.N, win0_0.index t = ![t.val % 2, 0] ∧ win0_1.index t = ![t.val % 2, t.val / 2]
    ∧ win0_2.index t = ![t.val / 2, 0, 0] := (by decide +kernel : ∀ t : Fin grid0.N, _)

/-- The result array of the kernel is the reference's. -/
theorem final (c : Dev nD) : (dats m 0 c).arrAt 2 (cfgs 0).N = WinRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 8 := lt_of_lt_of_eq t.isLt N_0
  have hf' := (flush0_2 t).mp hf
  rw [after0_2, Pipeline.eq_sum_fin_of_reset_step_apply_of_flush (fun n h => outsAt0 m c n h) 2 (fun _ => 0) _
    (fun t h j => by rw [outsAt0_A m c t h (by omega)]; frame_out; rw [hpay2])
    (fun t h j => by rw [outsAt0_B m c t (by omega) (by omega)]; frame_out; rw [hpay3])
    t hf' y, zero_add]
  obtain_idx q : (⟨1, ![3072]⟩ : Shape) := [t.val / 2 * 768 + (y 2).val] with hq
  refine Eq.trans ?_ (href _ _ _ (q 0) ?_).symm
  · refine Fin.sum_mul_add_congr fun s k hl => ?_
    have e := idx ⟨_, Pipeline.run_point_lt_of_flush t hf' s⟩
    blk_point [iblk, V, idx t, e]
  · blk_simp [idx t]
    exact hq0

end Cert.WinValue
-- ==== Proof.SqDxValue.lean ====
/- The gradient through a square projection: the result array that the kernel leaves is the reference's. -/
module

public import proofs.«01_k».proof.Proof.Gen.SqDxIdeal.Value
public import proofs.«01_k».proof.Proof.Gen.SqDxRefIdeal.Read
public import proofs.«01_k».proof.Proof.Sums

@[expose] public section

set_option maxRecDepth 16384

noncomputable section

namespace Cert.SqDxValue

open Idealize.ShloMosaic Idealize.ShloMosaic.TcCoe Idealize.SL.Sem
open Idealize.ShloMosaic.Pipeline (Dat)
open Cert.SqDxIdeal Cert.SqDxIdeal.Gen

variable (m : (ℓ : Loc nD τ sig) → Buf (Elt Ideal) ℓ)

/-- One block of rows times the transposed weight. -/
theorem hpay (v0 : Vec Ideal S1040x1024 .bf16) (v2 : Vec Ideal S1x1024x1024 .bf16) (j : S1040x1024.Idx) :
    k0_pay1 v0 v2 j = ∑ k : Fin 1024, v0 (ix2 (j 0) k) * v2 (ix3 0 (j 1) k) := by
  pointwise [k0_pay1]

/-- The reference's result at an index. -/
theorem href (x0 : (⟨SqDxRefIdeal.S8320x1024, .f32⟩ : BufTy).Contents (Elt Ideal))
    (x1 : (⟨SqDxRefIdeal.S1024x1024, .f32⟩ : BufTy).Contents (Elt Ideal)) (j : SqDxRefIdeal.S8320x1024.Idx) :
    SqDxRefIdeal.Read.val_main_v2 (F := Ideal) x0 x1 j = ∑ k : Fin 1024, x0 (ix2 (j 0) k) * x1 (ix2 (j 1) k) := by
  rw [SqDxRefIdeal.Read.val_main_v2_apply]
  refine Finset.sum_congr rfl fun k _ => congrArg₂ (· * ·) (congrArg x0 ?_) (congrArg x1 ?_)
  · idx_bounds; blk_ext
  · idx_bounds; blk_ext

/-- The blocks of the windows at each point. -/
theorem idx : ∀ t : Fin cfg0.N, win0_0.index t = ![t.val, 0] ∧ win0_1.index t = ![0, 0, 0]
    ∧ win0_2.index t = ![t.val, 0] := (by decide +kernel : ∀ t : Fin grid0.N, _)

/-- The result array of the kernel is the reference's. -/
theorem final (c : Dev nD) : (dats m 0 c).arrAt 2 (cfgs 0).N = SqDxRefIdeal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 8 := lt_of_lt_of_eq t.isLt N_0
  rw [after0_2]; frame_out
  refine (hpay _ _ y).trans ?_
  refine Eq.trans ?_ (href _ _ _).symm
  blk_point [iblk, V, idx t]

end Cert.SqDxValue
-- ==== Proof.PInValue.lean ====
/- The convolution's first projection: the result array that the kernel leaves is the reference's. -/
module

public import proofs.«01_k».proof.Proof.Gen.PInIdeal.Value
public import proofs.«01_k».proof.Proof.Gen.PInRefIdeal.Read
public import proofs.«01_k».proof.Proof.Sums

@[expose] public section

set_option maxRecDepth 16384

noncomputable section

namespace Cert.PInValue

open Idealize.ShloMosaic Idealize.ShloMosaic.TcCoe Idealize.SL.Sem
open Idealize.ShloMosaic.Pipeline (Dat)
open Cert.PInIdeal Cert.PInIdeal.Gen

variable (m : (ℓ : Loc nD τ sig) → Buf (Elt Ideal) ℓ)

/-- One block of rows times a chip's columns of the weight. -/
theorem hpay (v0 : Vec Ideal S1664x1024 .bf16) (v2 : Vec Ideal S1x1024x768 .bf16) (j : S1664x768.Idx) :
    k0_pay1 v0 v2 j = ∑ k : Fin 1024, v0 (ix2 (j 0) k) * v2 (ix3 0 k (j 1)) := by
  pointwise [k0_pay1]

/-- The reference's result at an index. -/
theorem href (x0 : (⟨PInRefIdeal.S8320x1024, .f32⟩ : BufTy).Contents (Elt Ideal))
    (x1 : (⟨PInRefIdeal.S1024x3072, .f32⟩ : BufTy).Contents (Elt Ideal)) (j : PInRefIdeal.S8320x3072.Idx) :
    PInRefIdeal.Read.val_main_v0 (F := Ideal) x0 x1 j = ∑ k : Fin 1024, x0 (ix2 (j 0) k) * x1 (ix2 k (j 1)) := by
  rw [PInRefIdeal.Read.val_main_v0_apply]
  refine Finset.sum_congr rfl fun k _ => congrArg₂ (· * ·) (congrArg x0 ?_) (congrArg x1 ?_)
  · idx_bounds; blk_ext
  · idx_bounds; blk_ext

/-- The blocks of the windows at each point. -/
theorem idx : ∀ t : Fin cfg0.N, win0_0.index t = ![t.val % 5, 0] ∧ win0_1.index t = ![t.val / 5, 0, 0]
    ∧ win0_2.index t = ![t.val % 5, t.val / 5] := (by decide +kernel : ∀ t : Fin grid0.N, _)

/-- The result array of the kernel is the reference's. -/
theorem final (c : Dev nD) : (dats m 0 c).arrAt 2 (cfgs 0).N = PInRefIdeal.Read.val_main_v0 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 20 := lt_of_lt_of_eq t.isLt N_0
  rw [after0_2]; frame_out
  refine (hpay _ _ y).trans ?_
  refine Eq.trans ?_ (href _ _ _).symm
  blk_point [iblk, V, idx t]

end Cert.PInValue
-- ==== Proof.GateValue.lean ====
/- The first products of a half step's forward pass and their activation: each result array that the kernel leaves is the
   reference's. -/
module

public import proofs.«01_k».proof.Proof.Gen.GateIdeal.Value
public import proofs.«01_k».proof.Proof.Gen.GateRefIdeal.Read
public import proofs.«01_k».proof.Proof.Sums

@[expose] public section

set_option maxRecDepth 16384

noncomputable section

namespace Cert.GateValue

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- One entry of a block of rows times a chip's columns of a weight. -/
def dotw (v : Vec Ideal S1664x1024 .bf16) (w : Vec Ideal S1x1x704x1024 .bf16) (p : Fin 1664) (q : Fin 704) : EReal :=
  ∑ k : Fin 1024, v (ix2 p k) * w (ix4 0 0 q k)

/-- One entry of a product of whole arrays, in the second layer of the weight. -/
def dotr (x : (⟨GateRefIdeal.S8320x1024, .f32⟩ : BufTy).Contents (Elt Ideal))
    (w : (⟨GateRefIdeal.S2x1024x2816, .f32⟩ : BufTy).Contents (Elt Ideal)) (i : Fin 8320) (q : Fin 2816) : EReal :=
  ∑ k : Fin 1024, x (ix2 i k) * w (ix3 1 k q)

theorem hpay4 (v : Vec Ideal S1664x1024 .bf16) (w : Vec Ideal S1x1x704x1024 .bf16) (j : S1x1664x704.Idx) :
    k0_pay4 v w j = dotw v w (j 1) (j 2) := by
  pointwise [k0_pay4, k0_pay2, k0_pay1, dotw]

theorem hpay5 (v : Vec Ideal S1664x1024 .bf16) (w : Vec Ideal S1x1x704x1024 .bf16) (j : S1x1664x704.Idx) :
    k0_pay5 v w j = dotw v w (j 1) (j 2) := by
  pointwise [k0_pay5, k0_pay3, k0_pay1, dotw]

theorem hpay6 (v : Vec Ideal S1664x1024 .bf16) (w u : Vec Ideal S1x1x704x1024 .bf16) (j : S1x1664x704.Idx) :
    k0_pay6 v w u j = dotw v w (j 1) (j 2) * Ideal.logistic (dotw v w (j 1) (j 2)) * dotw v u (j 1) (j 2) := by
  pointwise [k0_pay6, k0_pay3, k0_pay2, k0_pay1, dotw]

open GateRefIdeal.Read in
theorem href2 (x0 : (⟨GateRefIdeal.S8320x1024, .f32⟩ : BufTy).Contents (Elt Ideal))
    (x1 : (⟨GateRefIdeal.S2x1024x2816, .f32⟩ : BufTy).Contents (Elt Ideal)) (i : Fin 8320) (q : Fin 2816) :
    val_main_v2 (F := Ideal) x0 x1 (ix2 i q) = dotr x0 x1 i q := by
  pointwise [val_main_v2, val_main_v1, val_main_v0, dotr]

open GateRefIdeal.Read in
theorem href5 (x0 : (⟨GateRefIdeal.S8320x1024, .f32⟩ : BufTy).Contents (Elt Ideal))
    (x2 : (⟨GateRefIdeal.S2x1024x2816, .f32⟩ : BufTy).Contents (Elt Ideal)) (i : Fin 8320) (q : Fin 2816) :
    val_main_v5 (F := Ideal) x0 x2 (ix2 i q) = dotr x0 x2 i q := by
  pointwise [val_main_v5, val_main_v4, val_main_v3, dotr]

open GateRefIdeal.Read in
theorem href7 (x0 : (⟨GateRefIdeal.S8320x1024, .f32⟩ : BufTy).Contents (Elt Ideal))
    (x1 x2 : (⟨GateRefIdeal.S2x1024x2816, .f32⟩ : BufTy).Contents (Elt Ideal)) (i : Fin 8320) (q : Fin 2816) :
    val_main_v7 (F := Ideal) x0 x1 x2 (ix2 i q)
      = dotr x0 x1 i q * Ideal.logistic (dotr x0 x1 i q) * dotr x0 x2 i q := by
  pointwise [val_main_v7, val_main_v6, val_main_call0_v5, val_main_call0_v4, val_main_call0_cst_0, val_main_call0_v3, val_main_call0_v2,
    val_main_call0_cst, val_main_call0_v1, val_main_call0_v0, href2, href5]
  rfl

open GateRefIdeal.Read in
/-- Where the reference's first result takes its entry. -/
theorem href10 (x0 : (⟨GateRefIdeal.S8320x1024, .f32⟩ : BufTy).Contents (Elt Ideal))
    (x1 : (⟨GateRefIdeal.S2x1024x2816, .f32⟩ : BufTy).Contents (Elt Ideal)) (j : GateRefIdeal.S4x8320x704.Idx)
    (i : Fin 8320) (hi : i.val = (j 1).val) (q : Fin 2816) (hq : q.val = (j 0).val * 704 + (j 2).val) :
    val_main_v10 (F := Ideal) x0 x1 j = dotr x0 x1 i q := by
  rw [val_main_v10_apply, val_main_v9_apply, val_main_v8_apply, ← href2]
  refine congrArg (val_main_v2 (F := Ideal) x0 x1) ?_
  idx_bounds
  blk_ext

open GateRefIdeal.Read in
/-- Where the reference's second result takes its entry. -/
theorem href13 (x0 : (⟨GateRefIdeal.S8320x1024, .f32⟩ : BufTy).Contents (Elt Ideal))
    (x2 : (⟨GateRefIdeal.S2x1024x2816, .f32⟩ : BufTy).Contents (Elt Ideal)) (j : GateRefIdeal.S4x8320x704.Idx)
    (i : Fin 8320) (hi : i.val = (j 1).val) (q : Fin 2816) (hq : q.val = (j 0).val * 704 + (j 2).val) :
    val_main_v13 (F := Ideal) x0 x2 j = dotr x0 x2 i q := by
  rw [val_main_v13_apply, val_main_v12_apply, val_main_v11_apply, ← href5]
  refine congrArg (val_main_v5 (F := Ideal) x0 x2) ?_
  idx_bounds
  blk_ext

open GateRefIdeal.Read in
/-- Where the reference's third result takes its entry. -/
theorem href16 (x0 : (⟨GateRefIdeal.S8320x1024, .f32⟩ : BufTy).Contents (Elt Ideal))
    (x1 x2 : (⟨GateRefIdeal.S2x1024x2816, .f32⟩ : BufTy).Contents (Elt Ideal)) (j : GateRefIdeal.S4x8320x704.Idx)
    (i : Fin 8320) (hi : i.val = (j 1).val) (q : Fin 2816) (hq : q.val = (j 0).val * 704 + (j 2).val) :
    val_main_v16 (F := Ideal) x0 x1 x2 j
      = dotr x0 x1 i q * Ideal.logistic (dotr x0 x1 i q) * dotr x0 x2 i q := by
  rw [val_main_v16_apply, val_main_v15_apply, val_main_v14_apply, ← href7]
  refine congrArg (val_main_v7 (F := Ideal) x0 x1 x2) ?_
  idx_bounds
  blk_ext

/-- The blocks of the windows at each point. -/
theorem idx : ∀ t : Fin cfg0.N, win0_0.index t = ![t.val % 5, 0] ∧ win0_1.index t = ![t.val / 5, 1, 0, 0]
    ∧ win0_2.index t = ![t.val / 5, 1, 0, 0] ∧ win0_3.index t = ![t.val / 5, t.val % 5, 0]
    ∧ win0_4.index t = ![t.val / 5, t.val % 5, 0] ∧ win0_5.index t = ![t.val / 5, t.val % 5, 0] :=
  (by decide +kernel : ∀ t : Fin grid0.N, _)

/-- A point's product with its block of the gate's weight is the whole product's entry. -/
theorem gate_eq (c : Dev nD) (t : Fin cfg0.N) (p : Fin 1664) (q : Fin 704) (i : Fin 8320) (hi : i.val = t.val % 5 * 1664 + p.val)
    (l : Fin 2816) (hl : l.val = t.val / 5 * 704 + q.val) :
    dotw (iblk m c 0 t) (iblk m c 1 t) p q
      = dotr (m ((c : Thread nD τ).loc main_arg0)) (m ((c : Thread nD τ).loc main_arg1)) i l := by
  have hN : t.val < 20 := lt_of_lt_of_eq t.isLt N_0
  refine Finset.sum_congr rfl fun k _ => congrArg₂ (· * ·) ?_ ?_
  · blk_point [iblk, V, idx t]
  · blk_point [iblk, V, idx t]

/-- A point's product with its block of the up half's weight is the whole product's entry. -/
theorem up_eq (c : Dev nD) (t : Fin cfg0.N) (p : Fin 1664) (q : Fin 704) (i : Fin 8320) (hi : i.val = t.val % 5 * 1664 + p.val)
    (l : Fin 2816) (hl : l.val = t.val / 5 * 704 + q.val) :
    dotw (iblk m c 0 t) (iblk m c 2 t) p q
      = dotr (m ((c : Thread nD τ).loc main_arg0)) (m ((c : Thread nD τ).loc main_arg2)) i l := by
  have hN : t.val < 20 := lt_of_lt_of_eq t.isLt N_0
  refine Finset.sum_congr rfl fun k _ => congrArg₂ (· * ·) ?_ ?_
  · blk_point [iblk, V, idx t]
  · blk_point [iblk, V, idx t]

/-- The first result array of the kernel is the reference's. -/
theorem final3 (c : Dev nD) : (dats m 0 c).arrAt 3 (cfgs 0).N = GateRefIdeal.Read.val_main_v10 (F := Ideal)
    (m ((c : Thread nD τ).loc main_arg0)) (m ((c : Thread nD τ).loc main_arg1)) := by
  refine (dats m 0 c).arrAt_eq_of_covers 3 _ (by decide +kernel) fun t hf y => ?_
  blk_simp
  have hN : t.val < 20 := lt_of_lt_of_eq t.isLt N_0
  rw [after0_3]; frame_out
  obtain_idx q : (⟨2, ![8320, 2816]⟩ : Shape) := [t.val % 5 * 1664 + (y 1).val, t.val / 5 * 704 + (y 2).val] with hq
  refine (hpay4 _ _ y).trans ((gate_eq m c t _ _ (q 0) hq0 (q 1) hq1).trans (href10 _ _ _ (q 0) ?_ (q 1) ?_).symm)
  · blk_simp [idx t]
    exact hq0
  · blk_simp [idx t]
    exact hq1

/-- The second result array of the kernel is the reference's. -/
theorem final4 (c : Dev nD) : (dats m 0 c).arrAt 4 (cfgs 0).N = GateRefIdeal.Read.val_main_v13 (F := Ideal)
    (m ((c : Thread nD τ).loc main_arg0)) (m ((c : Thread nD τ).loc main_arg2)) := by
  refine (dats m 0 c).arrAt_eq_of_covers 4 _ (by decide +kernel) fun t hf y => ?_
  blk_simp
  have hN : t.val < 20 := lt_of_lt_of_eq t.isLt N_0
  rw [after0_4]; frame_out
  obtain_idx q : (⟨2, ![8320, 2816]⟩ : Shape) := [t.val % 5 * 1664 + (y 1).val, t.val / 5 * 704 + (y 2).val] with hq
  refine (hpay5 _ _ y).trans ((up_eq m c t _ _ (q 0) hq0 (q 1) hq1).trans (href13 _ _ _ (q 0) ?_ (q 1) ?_).symm)
  · blk_simp [idx t]
    exact hq0
  · blk_simp [idx t]
    exact hq1

/-- The third result array of the kernel is the reference's. -/
theorem final5 (c : Dev nD) : (dats m 0 c).arrAt 5 (cfgs 0).N = GateRefIdeal.Read.val_main_v16 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have hN : t.val < 20 := lt_of_lt_of_eq t.isLt N_0
  rw [after0_5]; frame_out
  obtain_idx q : (⟨2, ![8320, 2816]⟩ : Shape) := [t.val % 5 * 1664 + (y 1).val, t.val / 5 * 704 + (y 2).val] with hq
  have eg := gate_eq m c t (y 1) (y 2) (q 0) hq0 (q 1) hq1
  have eu := up_eq m c t (y 1) (y 2) (q 0) hq0 (q 1) hq1
  refine (hpay6 _ _ _ y).trans ((congrArg₂ (· * ·) (congrArg₂ (· * ·) eg (congrArg Ideal.logistic eg)) eu).trans
    (href16 _ _ _ _ (q 0) ?_ (q 1) ?_).symm)
  · blk_simp [idx t]
    exact hq0
  · blk_simp [idx t]
    exact hq1

end Cert.GateValue
-- ==== Proof.HalfValue.lean ====
/- The second product of a half step's forward pass with its residual and layer normalisation: each result array that the
   kernel leaves is the reference's. -/
module

public import proofs.«01_k».proof.Proof.Gen.HalfIdeal.Value
public import proofs.«01_k».proof.Proof.Gen.HalfRefIdeal.Read
public import proofs.«01_k».proof.Proof.Sums
public import proofs.«01_k».proof.Proof.LayerNorm

@[expose] public section

set_option maxRecDepth 16384

noncomputable section

namespace Cert.HalfValue

open Idealize.ShloMosaic Idealize.ShloMosaic.TcCoe Idealize.SL.Sem
open Idealize.ShloMosaic.Pipeline (Dat)
open Cert.HalfIdeal Cert.HalfIdeal.Gen

variable (m : (ℓ : Loc nD τ sig) → Buf (Elt Ideal) ℓ)

/-- One entry of one chip's product. -/
def dotb (a : Vec Ideal S1x640x704 .bf16) (w : Vec Ideal S1x1x704x1024 .bf16) (p : Fin 640) (q : Fin 1024) : EReal :=
  ∑ k : Fin 704, a (ix3 0 p k) * w (ix4 0 0 k q)

/-- The four products of a point, at an entry. -/
theorem hpay4 (v0 v1 v2 v3 : Vec Ideal S1x640x704 .bf16) (w0 w1 w2 w3 : Vec Ideal S1x1x704x1024 .bf16) (p : Fin 640) (q : Fin 1024) :
    k0_pay4 v0 w0 v1 w1 v2 w2 v3 w3 (ix2 p q) = dotb v0 w0 p q + dotb v1 w1 p q + dotb v2 w2 p q + dotb v3 w3 p q := by
  pointwise [k0_pay4, dotb]

/-- The kernel's row before the normalisation. -/
theorem hpayR (v : FVec Ideal S640x1024 .f32) (h : Vec Ideal S640x1024 .f32) (p : Fin 640) (q : Fin 1024) :
    k0_pay1 v h (Scalar.ofBits .f32 0x3FB504F3#32) (ix2 p q)
      = Ideal.ofBits .f32 0x3FB504F3#32 * h (ix2 p q) + Ideal.ofBits .f32 0x3F000000#32 * v (ix2 p q) := by
  pointwise [k0_pay1]

/-- The kernel's normalised row with gain and shift. -/
theorem hpayY (v : FVec Ideal S640x1024 .f32) (h : Vec Ideal S640x1024 .f32) (g b : Vec Ideal S1x1024 .f32) (p : Fin 640) (q : Fin 1024) :
    k0_pay2 v h (Scalar.ofBits .f32 0x3FB504F3#32) g b (ix2 p q)
      = LayerNorm.hat (fun k => k0_pay1 v h (Scalar.ofBits .f32 0x3FB504F3#32) (ix2 p k)) q * g (ix2 0 q) + b (ix2 0 q) := by
  pointwise [k0_pay2, LayerNorm.hat, LayerNorm.rstd, LayerNorm.var, LayerNorm.mean, LayerNorm.cen]

/-- The row before the normalisation: the residual and half of the product. -/
def row (x0 : (⟨HalfRefIdeal.S8320x2816, .f32⟩ : BufTy).Contents (Elt Ideal))
    (x1 : (⟨HalfRefIdeal.S2x2816x1024, .f32⟩ : BufTy).Contents (Elt Ideal))
    (x2 : (⟨HalfRefIdeal.S8320x1024, .f32⟩ : BufTy).Contents (Elt Ideal)) (i : Fin 8320) (q : Fin 1024) : EReal :=
  Ideal.ofBits .f32 0x3FB504F3#32 * x2 (ix2 i q)
    + Ideal.ofBits .f32 0x3F000000#32 * ∑ k : Fin 2816, x0 (ix2 i k) * x1 (ix3 1 k q)

open HalfRefIdeal.Read in
/-- The reference's row before the normalisation. -/
theorem hrefR (x0 : (⟨HalfRefIdeal.S8320x2816, .f32⟩ : BufTy).Contents (Elt Ideal))
    (x1 : (⟨HalfRefIdeal.S2x2816x1024, .f32⟩ : BufTy).Contents (Elt Ideal))
    (x2 : (⟨HalfRefIdeal.S8320x1024, .f32⟩ : BufTy).Contents (Elt Ideal)) (i : Fin 8320) (q : Fin 1024) :
    val_main_v7 (F := Ideal) x0 x1 x2 (ix2 i q) = row x0 x1 x2 i q := by
  pointwise [val_main_v7, val_main_v6, val_main_v5, val_main_cst_0, val_main_v4, val_main_v3, val_main_v2, val_main_v1, val_main_v0, val_main_cst, row]

open HalfRefIdeal.Read in
/-- The reference's centred row, as the variance takes it. -/
theorem hrefC (x0 : (⟨HalfRefIdeal.S8320x2816, .f32⟩ : BufTy).Contents (Elt Ideal))
    (x1 : (⟨HalfRefIdeal.S2x2816x1024, .f32⟩ : BufTy).Contents (Elt Ideal))
    (x2 : (⟨HalfRefIdeal.S8320x1024, .f32⟩ : BufTy).Contents (Elt Ideal)) (i : Fin 8320) (q : Fin 1024) :
    val_main_v13 (F := Ideal) x0 x1 x2 (ix2 i q) = LayerNorm.cen (row x0 x1 x2 i) q := by
  pointwise [val_main_v13, val_main_v12, val_main_v11, val_main_v10, val_main_cst_2, val_main_v9, val_main_v8, val_main_cst_1, hrefR, LayerNorm.cen, LayerNorm.mean]

open HalfRefIdeal.Read in
/-- The reference's centred row. -/
theorem hrefD (x0 : (⟨HalfRefIdeal.S8320x2816, .f32⟩ : BufTy).Contents (Elt Ideal))
    (x1 : (⟨HalfRefIdeal.S2x2816x1024, .f32⟩ : BufTy).Contents (Elt Ideal))
    (x2 : (⟨HalfRefIdeal.S8320x1024, .f32⟩ : BufTy).Contents (Elt Ideal)) (i : Fin 8320) (q : Fin 1024) :
    val_main_v20 (F := Ideal) x0 x1 x2 (ix2 i q) = LayerNorm.cen (row x0 x1 x2 i) q := by
  pointwise [val_main_v20, val_main_v19, val_main_v11, val_main_v10, val_main_cst_2, val_main_v9, val_main_v8, val_main_cst_1, hrefR, LayerNorm.cen, LayerNorm.mean]

open HalfRefIdeal.Read in
/-- The reference's normalised row with gain and shift. -/
theorem hrefY (x0 : (⟨HalfRefIdeal.S8320x2816, .f32⟩ : BufTy).Contents (Elt Ideal))
    (x1 : (⟨HalfRefIdeal.S2x2816x1024, .f32⟩ : BufTy).Contents (Elt Ideal))
    (x2 : (⟨HalfRefIdeal.S8320x1024, .f32⟩ : BufTy).Contents (Elt Ideal))
    (x3 x4 : (⟨HalfRefIdeal.S1024, .f32⟩ : BufTy).Contents (Elt Ideal)) (i : Fin 8320) (q : Fin 1024) :
    val_main_v31 (F := Ideal) x0 x1 x2 x3 x4 (ix2 i q)
      = LayerNorm.hat (row x0 x1 x2 i) q * x3 (ix1 q) + x4 (ix1 q) := by
  pointwise [val_main_v31, val_main_v30, val_main_v29, val_main_v28, val_main_v27, val_main_v26, val_main_v25, val_main_v24, val_main_v23, val_main_v22, val_main_v21, val_main_cst_5, val_main_v18, val_main_v17, val_main_cst_4, val_main_v16, val_main_v15, val_main_cst_3, val_main_v14, hrefC, hrefD, LayerNorm.hat, LayerNorm.rstd, LayerNorm.var, LayerNorm.mean]

/-- The reference's row, of the kernel's arguments. -/
def ROW (c : Dev nD) (i : Fin 8320) (q : Fin 1024) : EReal :=
  row (m ((c : Thread nD τ).loc main_arg0)) (m ((c : Thread nD τ).loc main_arg1)) (m ((c : Thread nD τ).loc main_arg2)) i q

/-- The blocks of the windows at each point. -/
theorem idx : ∀ t : Fin cfg0.N, win0_0.index t = ![0, t.val, 0] ∧ win0_1.index t = ![0, 1, 0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- Input block 0 of a point, entry by entry. -/
theorem blk0 (c : Dev nD) (t : Fin cfg0.N) (z : Fin 4) (p : Fin 640) (k : Fin 704) (i : Fin 8320) (hi : i.val = t.val * 640 + p.val)
    (l : Fin 2816) (hl : l.val = z.val * 704 + k.val) :
    (show Vec Ideal S4x640x704 .bf16 from iblk m c 0 t) (ix3 z p k) = m ((c : Thread nD τ).loc main_arg0) (ix2 i l) := by
  have hN : t.val < 13 := lt_of_lt_of_eq t.isLt N_0
  blk_point [iblk, V, idx t]

/-- Input block 1 of a point, entry by entry. -/
theorem blk1 (c : Dev nD) (t : Fin cfg0.N) (z : Fin 4) (q : Fin 1024) (k : Fin 704) (l : Fin 2816) (hl : l.val = z.val * 704 + k.val) :
    (show Vec Ideal S4x1x704x1024 .bf16 from iblk m c 1 t) (ix4 z 0 k q) = m ((c : Thread nD τ).loc main_arg1) (ix3 1 l q) := by
  have hN : t.val < 13 := lt_of_lt_of_eq t.isLt N_0
  blk_point [iblk, V, idx t]

/-- A load of one chip's rows. -/
theorem ldA (X : Vec Ideal S4x640x704 .bf16) (z : Fin 4) (inb) (p : Fin 640) (k : Fin 704) :
    View.ld X (Rect.unit (s := S4x640x704) ![z.val, 0, 0] ![1, 640, 704] inb) (ix3 0 p k) = X (ix3 z p k) :=
  View.ld_unit_apply_of X _ _ inb _ (ix3 z p k) fun a => by fin_cases a <;> simp

/-- A load of one chip's weights. -/
theorem ldW (X : Vec Ideal S4x1x704x1024 .bf16) (z : Fin 4) (inb) (k : Fin 704) (q : Fin 1024) :
    View.ld X (Rect.unit (s := S4x1x704x1024) ![z.val, 0, 0, 0] ![1, 1, 704, 1024] inb) (ix4 0 0 k q) = X (ix4 z 0 k q) :=
  View.ld_unit_apply_of X _ _ inb _ (ix4 z 0 k q) fun a => by fin_cases a <;> simp

/-- The kernel's row at a point is the reference's. -/
theorem row_eq (c : Dev nD) (t : Fin cfg0.N) (p : Fin 640) (q : Fin 1024) (i : Fin 8320) (hi : i.val = t.val * 640 + p.val) :
    k0_pay1 (k0_pay5 (iblk m c 0 t) (iblk m c 1 t) (iblk m c 2 t) (iblk m c 3 t) (iblk m c 4 t)) (iblk m c 2 t)
    (Scalar.ofBits .f32 0x3FB504F3#32) (ix2 p q) = ROW m c i q := by
  have hN : t.val < 13 := lt_of_lt_of_eq t.isLt N_0
  refine (hpayR _ _ p q).trans ?_
  rw [ROW, row]
  refine congrArg₂ (· + ·) (congrArg (_ * ·) ?_) (congrArg (_ * ·) ?_)
  · blk_point [iblk, V, idx t]
  · refine (hpay4 _ _ _ _ _ _ _ _ p q).trans ?_
    refine Sums.sum_four_stretches (n := 704) (by decide) (fun k : Fin 2816 => _ * _) _ _ _ _ (fun k hk => ?_) (fun k hk => ?_)
      (fun k hk => ?_) (fun k hk => ?_)
    · exact congrArg₂ (· * ·) ((ldA _ 0 _ p k).trans (blk0 m c t 0 p k i hi _ (by simp)))
        ((ldW _ 0 _ k q).trans (blk1 m c t 0 q k _ (by simp)))
    · exact congrArg₂ (· * ·) ((ldA _ 1 _ p k).trans (blk0 m c t 1 p k i hi _ (by simp)))
        ((ldW _ 1 _ k q).trans (blk1 m c t 1 q k _ (by simp)))
    · exact congrArg₂ (· * ·) ((ldA _ 2 _ p k).trans (blk0 m c t 2 p k i hi _ (by simp)))
        ((ldW _ 2 _ k q).trans (blk1 m c t 2 q k _ (by simp)))
    · exact congrArg₂ (· * ·) ((ldA _ 3 _ p k).trans (blk0 m c t 3 p k i hi _ (by simp)))
        ((ldW _ 3 _ k q).trans (blk1 m c t 3 q k _ (by simp)))

/-- What the kernel's second and third result arrays hold at an entry. -/
theorem out_eq (c : Dev nD) (t : Fin cfg0.N) (y : S640x1024.Idx) (i : Fin 8320) (hi : i.val = t.val * 640 + (y 0).val)
    (q : Fin 1024) (hq : q.val = (y 1).val) :
    k0_pay2 (k0_pay5 (iblk m c 0 t) (iblk m c 1 t) (iblk m c 2 t) (iblk m c 3 t) (iblk m c 4 t)) (iblk m c 2 t)
        (Scalar.ofBits .f32 0x3FB504F3#32) (iblk m c 3 t) (iblk m c 4 t) (ix2 (y 0) (y 1))
      = HalfRefIdeal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 i q) := by
  have hN : t.val < 13 := lt_of_lt_of_eq t.isLt N_0
  have e : (y 1 : Fin 1024) = q := Fin.ext hq.symm
  refine (hpayY _ _ _ _ (y 0) (y 1)).trans (Eq.trans ?_ (hrefY _ _ _ _ _ i q).symm)
  refine congrArg₂ (· + ·) (congrArg₂ (· * ·) (congrArg₂ LayerNorm.hat (funext fun k => row_eq m c t (y 0) k i hi) e) ?_) ?_
  · blk_point [iblk, V, idx t]
  · blk_point [iblk, V, idx t]

/-- The first result array of the kernel is the reference's row. -/
theorem final5 (c : Dev nD) : (dats m 0 c).arrAt 5 (cfgs 0).N = HalfRefIdeal.Read.val_main_v7 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have hN : t.val < 13 := lt_of_lt_of_eq t.isLt N_0
  rw [after0_5]; frame_out
  obtain_idx q : (⟨2, ![8320, 1024]⟩ : Shape) := [t.val * 640 + (y 0).val, (y 1).val] with hq
  have ey : (y : S640x1024.Idx) = ix2 (y 0) (q 1) := by
    idx_bounds
    blk_ext
  refine (congrArg (k0_pay1 (k0_pay5 (iblk m c 0 t) (iblk m c 1 t) (iblk m c 2 t) (iblk m c 3 t) (iblk m c 4 t)) (iblk m c 2 t)
    (Scalar.ofBits .f32 0x3FB504F3#32)) ey).trans ((row_eq m c t (y 0) (q 1) (q 0) hq0).trans ?_)
  refine (hrefR _ _ _ (q 0) (q 1)).symm.trans (congrArg (HalfRefIdeal.Read.val_main_v7 (F := Ideal) _ _ _) ?_)
  blk_point [idx t]

/-- The second result array of the kernel is the reference's normalised row. -/
theorem final6 (c : Dev nD) : (dats m 0 c).arrAt 6 (cfgs 0).N = HalfRefIdeal.Read.val_main_v31 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  blk_simp
  have hN : t.val < 13 := lt_of_lt_of_eq t.isLt N_0
  rw [after0_6]; frame_out
  obtain_idx q : (⟨2, ![8320, 1024]⟩ : Shape) := [t.val * 640 + (y 0).val, (y 1).val] with hq
  have ey : (y : S640x1024.Idx) = ix2 (y 0) (y 1) := by
    idx_bounds
    blk_ext
  refine (congrArg (k0_pay2 (k0_pay5 (iblk m c 0 t) (iblk m c 1 t) (iblk m c 2 t) (iblk m c 3 t) (iblk m c 4 t)) (iblk m c 2 t)
        (Scalar.ofBits .f32 0x3FB504F3#32) (iblk m c 3 t) (iblk m c 4 t)) ey).trans ((out_eq m c t y (q 0) hq0 (q 1) hq1).trans ?_)
  refine congrArg (HalfRefIdeal.Read.val_main_v31 (F := Ideal) _ _ _ _ _) ?_
  blk_point [idx t]

/-- The third result array of the kernel is the reference's normalised row in half precision. -/
theorem final7 (c : Dev nD) : (dats m 0 c).arrAt 7 (cfgs 0).N = HalfRefIdeal.Read.val_main_v32 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  blk_simp
  have hN : t.val < 13 := lt_of_lt_of_eq t.isLt N_0
  rw [after0_7]; frame_out
  obtain_idx q : (⟨2, ![8320, 1024]⟩ : Shape) := [t.val * 640 + (y 0).val, (y 1).val] with hq
  have ey : (y : S640x1024.Idx) = ix2 (y 0) (y 1) := by
    idx_bounds
    blk_ext
  refine (congrArg (k0_pay2 (k0_pay5 (iblk m c 0 t) (iblk m c 1 t) (iblk m c 2 t) (iblk m c 3 t) (iblk m c 4 t)) (iblk m c 2 t)
        (Scalar.ofBits .f32 0x3FB504F3#32) (iblk m c 3 t) (iblk m c 4 t)) ey).trans ((out_eq m c t y (q 0) hq0 (q 1) hq1).trans ?_)
  refine congrArg (HalfRefIdeal.Read.val_main_v31 (F := Ideal) _ _ _ _ _) ?_
  blk_point [idx t]

end Cert.HalfValue
-- ==== Proof.MixValue.lean ====
/- The token mixers' last product with its residual and layer normalisation: each result array that the kernel leaves is
   the reference's. -/
module

public import proofs.«01_k».proof.Proof.Gen.MixIdeal.Value
public import proofs.«01_k».proof.Proof.Gen.MixRefIdeal.Read
public import proofs.«01_k».proof.Proof.Sums
public import proofs.«01_k».proof.Proof.LayerNorm

@[expose] public section

set_option maxRecDepth 16384

noncomputable section

namespace Cert.MixValue

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The kernel's row before the normalisation. -/
theorem hpayR (v : Vec Ideal S1x640x1024 .bf16) (w : Vec Ideal S1x1x1024x1024 .bf16) (h : Vec Ideal S640x1024 .f32) (p : Fin 640)
    (q : Fin 1024) : k0_pay2 v w h (ix2 p q)
      = Ideal.ofBits .f32 0x3FB504F3#32 * h (ix2 p q) + ∑ k : Fin 1024, v (ix3 0 p k) * w (ix4 0 0 k q) := by
  pointwise [k0_pay2]

/-- The normalised row is of the whole blocks. -/
theorem pay4_eq (v : Vec Ideal S1x640x1024 .bf16) (w : Vec Ideal S1x1x1024x1024 .bf16) (h : Vec Ideal S640x1024 .f32)
    (g b : Vec Ideal S1x1024 .f32) : k0_pay4 v w h g b = k0_pay3 v w h g b := by
  unfold k0_pay4
  frame_out

/-- The kernel's normalised row with gain and shift. -/
theorem hpayY (v : Vec Ideal S1x640x1024 .bf16) (w : Vec Ideal S1x1x1024x1024 .bf16) (h : Vec Ideal S640x1024 .f32)
    (g b : Vec Ideal S1x1024 .f32) (p : Fin 640) (q : Fin 1024) :
    k0_pay4 v w h g b (ix2 p q) = LayerNorm.hat (fun k => k0_pay2 v w h (ix2 p k)) q * g (ix2 0 q) + b (ix2 0 q) := by
  rw [pay4_eq]
  pointwise [k0_pay3, LayerNorm.hat, LayerNorm.rstd, LayerNorm.var, LayerNorm.mean, LayerNorm.cen]

/-- The row before the normalisation: the residual and the product. -/
def row (x0 : (⟨MixRefIdeal.S8320x1024, .f32⟩ : BufTy).Contents (Elt Ideal))
    (x1 : (⟨MixRefIdeal.S1024x1024, .f32⟩ : BufTy).Contents (Elt Ideal))
    (x2 : (⟨MixRefIdeal.S8320x1024, .f32⟩ : BufTy).Contents (Elt Ideal)) (i : Fin 8320) (q : Fin 1024) : EReal :=
  Ideal.ofBits .f32 0x3FB504F3#32 * x2 (ix2 i q) + ∑ k : Fin 1024, x0 (ix2 i k) * x1 (ix2 k q)

open MixRefIdeal.Read in
/-- The reference's row before the normalisation. -/
theorem hrefR (x0 : (⟨MixRefIdeal.S8320x1024, .f32⟩ : BufTy).Contents (Elt Ideal))
    (x1 : (⟨MixRefIdeal.S1024x1024, .f32⟩ : BufTy).Contents (Elt Ideal))
    (x2 : (⟨MixRefIdeal.S8320x1024, .f32⟩ : BufTy).Contents (Elt Ideal)) (i : Fin 8320) (q : Fin 1024) :
    val_main_v3 (F := Ideal) x0 x1 x2 (ix2 i q) = row x0 x1 x2 i q := by
  pointwise [val_main_v3, val_main_v2, val_main_v1, val_main_v0, val_main_cst, row]

open MixRefIdeal.Read in
/-- The reference's centred row, as the variance takes it. -/
theorem hrefC (x0 : (⟨MixRefIdeal.S8320x1024, .f32⟩ : BufTy).Contents (Elt Ideal))
    (x1 : (⟨MixRefIdeal.S1024x1024, .f32⟩ : BufTy).Contents (Elt Ideal))
    (x2 : (⟨MixRefIdeal.S8320x1024, .f32⟩ : BufTy).Contents (Elt Ideal)) (i : Fin 8320) (q : Fin 1024) :
    val_main_v9 (F := Ideal) x0 x1 x2 (ix2 i q) = LayerNorm.cen (row x0 x1 x2 i) q := by
  pointwise [val_main_v9, val_main_v8, val_main_v7, val_main_v6, val_main_cst_1, val_main_v5, val_main_v4, val_main_cst_0, hrefR, LayerNorm.cen, LayerNorm.mean]

open MixRefIdeal.Read in
/-- The reference's centred row. -/
theorem hrefD (x0 : (⟨MixRefIdeal.S8320x1024, .f32⟩ : BufTy).Contents (Elt Ideal))
    (x1 : (⟨MixRefIdeal.S1024x1024, .f32⟩ : BufTy).Contents (Elt Ideal))
    (x2 : (⟨MixRefIdeal.S8320x1024, .f32⟩ : BufTy).Contents (Elt Ideal)) (i : Fin 8320) (q : Fin 1024) :
    val_main_v16 (F := Ideal) x0 x1 x2 (ix2 i q) = LayerNorm.cen (row x0 x1 x2 i) q := by
  pointwise [val_main_v16, val_main_v15, val_main_v7, val_main_v6, val_main_cst_1, val_main_v5, val_main_v4, val_main_cst_0, hrefR, LayerNorm.cen, LayerNorm.mean]

open MixRefIdeal.Read in
/-- The reference's normalised row with gain and shift. -/
theorem hrefY (x0 : (⟨MixRefIdeal.S8320x1024, .f32⟩ : BufTy).Contents (Elt Ideal))
    (x1 : (⟨MixRefIdeal.S1024x1024, .f32⟩ : BufTy).Contents (Elt Ideal))
    (x2 : (⟨MixRefIdeal.S8320x1024, .f32⟩ : BufTy).Contents (Elt Ideal))
    (x3 x4 : (⟨MixRefIdeal.S1024, .f32⟩ : BufTy).Contents (Elt Ideal)) (i : Fin 8320) (q : Fin 1024) :
    val_main_v27 (F := Ideal) x0 x1 x2 x3 x4 (ix2 i q)
      = LayerNorm.hat (row x0 x1 x2 i) q * x3 (ix1 q) + x4 (ix1 q) := by
  pointwise [val_main_v27, val_main_v26, val_main_v25, val_main_v24, val_main_v23, val_main_v22, val_main_v21, val_main_v20, val_main_v19, val_main_v18, val_main_v17, val_main_cst_4, val_main_v14, val_main_v13, val_main_cst_3, val_main_v12, val_main_v11, val_main_cst_2, val_main_v10, hrefC, hrefD, LayerNorm.hat, LayerNorm.rstd, LayerNorm.var, LayerNorm.mean]

/-- The reference's row, of the kernel's arguments. -/
def ROW (c : Dev nD) (i : Fin 8320) (q : Fin 1024) : EReal :=
  row (m ((c : Thread nD τ).loc main_arg0)) (m ((c : Thread nD τ).loc main_arg1)) (m ((c : Thread nD τ).loc main_arg2)) i q

/-- The blocks of the windows at each point. -/
theorem idx : ∀ t : Fin cfg0.N, win0_0.index t = ![0, t.val, 0] ∧ win0_1.index t = ![0, 0, 0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The kernel's row at a point is the reference's. -/
theorem row_eq (c : Dev nD) (t : Fin cfg0.N) (p : Fin 640) (q : Fin 1024) (i : Fin 8320) (hi : i.val = t.val * 640 + p.val) :
    k0_pay2 (iblk m c 0 t) (iblk m c 1 t) (iblk m c 2 t) (ix2 p q) = ROW m c i q := by
  have hN : t.val < 13 := lt_of_lt_of_eq t.isLt N_0
  refine (hpayR _ _ _ p q).trans ?_
  rw [ROW, row]
  refine congrArg₂ (· + ·) (congrArg (_ * ·) ?_) (Finset.sum_congr rfl fun k _ => congrArg₂ (· * ·) ?_ ?_)
  · blk_point [iblk, V, idx t]
  · blk_point [iblk, V, idx t]
  · blk_point [iblk, V, idx t]

/-- What the kernel's second and third result arrays hold at an entry. -/
theorem out_eq (c : Dev nD) (t : Fin cfg0.N) (y : S640x1024.Idx) (i : Fin 8320) (hi : i.val = t.val * 640 + (y 0).val)
    (q : Fin 1024) (hq : q.val = (y 1).val) :
    k0_pay4 (iblk m c 0 t) (iblk m c 1 t) (iblk m c 2 t) (iblk m c 3 t) (iblk m c 4 t) (ix2 (y 0) (y 1))
      = MixRefIdeal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 i q) := by
  have hN : t.val < 13 := lt_of_lt_of_eq t.isLt N_0
  have e : (y 1 : Fin 1024) = q := Fin.ext hq.symm
  refine (hpayY _ _ _ _ _ (y 0) (y 1)).trans (Eq.trans ?_ (hrefY _ _ _ _ _ i q).symm)
  refine congrArg₂ (· + ·) (congrArg₂ (· * ·) (congrArg₂ LayerNorm.hat (funext fun k => row_eq m c t (y 0) k i hi) e) ?_) ?_
  · blk_point [iblk, V, idx t]
  · blk_point [iblk, V, idx t]

/-- The first result array of the kernel is the reference's row. -/
theorem final5 (c : Dev nD) : (dats m 0 c).arrAt 5 (cfgs 0).N = MixRefIdeal.Read.val_main_v3 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have hN : t.val < 13 := lt_of_lt_of_eq t.isLt N_0
  rw [after0_5]; frame_out
  obtain_idx q : (⟨2, ![8320, 1024]⟩ : Shape) := [t.val * 640 + (y 0).val, (y 1).val] with hq
  have ey : (y : S640x1024.Idx) = ix2 (y 0) (q 1) := by
    idx_bounds
    blk_ext
  refine (congrArg (k0_pay2 (iblk m c 0 t) (iblk m c 1 t) (iblk m c 2 t)) ey).trans ((row_eq m c t (y 0) (q 1) (q 0) hq0).trans ?_)
  refine (hrefR _ _ _ (q 0) (q 1)).symm.trans (congrArg (MixRefIdeal.Read.val_main_v3 (F := Ideal) _ _ _) ?_)
  blk_point [idx t]

/-- The second result array of the kernel is the reference's normalised row. -/
theorem final6 (c : Dev nD) : (dats m 0 c).arrAt 6 (cfgs 0).N = MixRefIdeal.Read.val_main_v27 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  blk_simp
  have hN : t.val < 13 := lt_of_lt_of_eq t.isLt N_0
  rw [after0_6]; frame_out
  obtain_idx q : (⟨2, ![8320, 1024]⟩ : Shape) := [t.val * 640 + (y 0).val, (y 1).val] with hq
  have ey : (y : S640x1024.Idx) = ix2 (y 0) (y 1) := by
    idx_bounds
    blk_ext
  refine (congrArg (k0_pay4 (iblk m c 0 t) (iblk m c 1 t) (iblk m c 2 t) (iblk m c 3 t) (iblk m c 4 t)) ey).trans ((out_eq m c t y (q 0) hq0 (q 1) hq1).trans ?_)
  refine congrArg (MixRefIdeal.Read.val_main_v27 (F := Ideal) _ _ _ _ _) ?_
  blk_point [idx t]

/-- The third result array of the kernel is the reference's normalised row in half precision. -/
theorem final7 (c : Dev nD) : (dats m 0 c).arrAt 7 (cfgs 0).N = MixRefIdeal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  blk_simp
  have hN : t.val < 13 := lt_of_lt_of_eq t.isLt N_0
  rw [after0_7]; frame_out
  obtain_idx q : (⟨2, ![8320, 1024]⟩ : Shape) := [t.val * 640 + (y 0).val, (y 1).val] with hq
  have ey : (y : S640x1024.Idx) = ix2 (y 0) (y 1) := by
    idx_bounds
    blk_ext
  refine (congrArg (k0_pay4 (iblk m c 0 t) (iblk m c 1 t) (iblk m c 2 t) (iblk m c 3 t) (iblk m c 4 t)) ey).trans ((out_eq m c t y (q 0) hq0 (q 1) hq1).trans ?_)
  refine congrArg (MixRefIdeal.Read.val_main_v27 (F := Ideal) _ _ _ _ _) ?_
  blk_point [idx t]

end Cert.MixValue
-- ==== Proof.Dx0Value.lean ====
/- The backward pass through the first products of a half step that has no layer normalisation before it: the result array
   that the kernel leaves is the reference's. -/
module

public import proofs.«01_k».proof.Proof.Gen.Dx0Ideal.Value
public import proofs.«01_k».proof.Proof.Gen.Dx0RefIdeal.Read
public import proofs.«01_k».proof.Proof.Sums

@[expose] public section

set_option maxRecDepth 16384

noncomputable section

namespace Cert.Dx0Value

open Idealize.ShloMosaic Idealize.ShloMosaic.TcCoe Idealize.SL.Sem
open Idealize.ShloMosaic.Pipeline (Dat)
open Cert.Dx0Ideal Cert.Dx0Ideal.Gen

variable (m : (ℓ : Loc nD τ sig) → Buf (Elt Ideal) ℓ)

/-- One entry of one chip's product. -/
def dotb (a : Vec Ideal S1x640x704 .bf16) (w : Vec Ideal S1x1x704x1024 .bf16) (p : Fin 640) (q : Fin 1024) : EReal :=
  ∑ k : Fin 704, a (ix3 0 p k) * w (ix4 0 0 k q)

/-- The residual and the eight products of a point, at an entry. -/
theorem hpay2 (v0 v1 v2 v3 u0 u1 u2 u3 : Vec Ideal S1x640x704 .bf16) (w0 w1 w2 w3 z0 z1 z2 z3 : Vec Ideal S1x1x704x1024 .bf16)
    (r : Vec Ideal S640x1024 .f32) (p : Fin 640) (q : Fin 1024) :
    k0_pay2 (k0_pay1 v0 w0 v1 w1 v2 w2 v3 w3) u0 z0 u1 z1 u2 z2 u3 z3 r (ix2 p q)
      = Ideal.ofBits .f32 0x3FB504F3#32 * r (ix2 p q)
        + (dotb v0 w0 p q + dotb v1 w1 p q + dotb v2 w2 p q + dotb v3 w3 p q
          + (dotb u0 z0 p q + dotb u1 z1 p q + dotb u2 z2 p q + dotb u3 z3 p q)) := by
  simp only [← add_assoc]
  pointwise [k0_pay2, k0_pay1, dotb]
  simp only [← add_assoc]

open Dx0RefIdeal.Read in
/-- The reference's gradient at an entry. -/
theorem href (x0 x1 : (⟨Dx0RefIdeal.S8320x2816, .f32⟩ : BufTy).Contents (Elt Ideal))
    (x2 x3 : (⟨Dx0RefIdeal.S2x1024x2816, .f32⟩ : BufTy).Contents (Elt Ideal))
    (x4 : (⟨Dx0RefIdeal.S8320x1024, .f32⟩ : BufTy).Contents (Elt Ideal)) (i : Fin 8320) (q : Fin 1024) :
    val_main_v14 (F := Ideal) x0 x1 x2 x3 x4 (ix2 i q)
      = Ideal.ofBits .f32 0x3FB504F3#32 * x4 (ix2 i q)
        + (∑ k : Fin 2816, x0 (ix2 i k) * x2 (ix3 0 q k) + ∑ k : Fin 2816, x1 (ix2 i k) * x3 (ix3 0 q k)) := by
  rw [add_comm (∑ k : Fin 2816, x0 (ix2 i k) * x2 (ix3 0 q k)), ← add_assoc]
  pointwise [val_main_v14, val_main_v12, val_main_v10, val_main_v9, val_main_cst_1, val_main_v11, val_main_v5, val_main_v4, val_main_v13,
    val_main_v2, val_main_v1]

/-- The blocks of the windows at each point. -/
theorem idx : ∀ t : Fin cfg0.N, win0_0.index t = ![0, t.val, 0] ∧ win0_1.index t = ![0, 0, 0, 0]
    ∧ win0_2.index t = ![0, t.val, 0] ∧ win0_3.index t = ![0, 0, 0, 0]
    ∧ win0_4.index t = ![t.val, 0] ∧ win0_5.index t = ![t.val, 0] :=
  (by decide +kernel : ∀ t : Fin grid0.N, _)

/-- Input block 0 of a point, entry by entry. -/
theorem blk0 (c : Dev nD) (t : Fin cfg0.N) (z : Fin 4) (p : Fin 640) (k : Fin 704) (i : Fin 8320) (hi : i.val = t.val * 640 + p.val)
    (l : Fin 2816) (hl : l.val = z.val * 704 + k.val) :
    (show Vec Ideal S4x640x704 .bf16 from iblk m c 0 t) (ix3 z p k) = m ((c : Thread nD τ).loc main_arg0) (ix2 i l) := by
  have hN : t.val < 13 := lt_of_lt_of_eq t.isLt N_0
  blk_point [iblk, V, idx t]

/-- Input block 1 of a point, entry by entry. -/
theorem blk1 (c : Dev nD) (t : Fin cfg0.N) (z : Fin 4) (q : Fin 1024) (k : Fin 704) (l : Fin 2816) (hl : l.val = z.val * 704 + k.val) :
    (show Vec Ideal S4x1x704x1024 .bf16 from iblk m c 1 t) (ix4 z 0 k q) = m ((c : Thread nD τ).loc main_arg2) (ix3 0 q l) := by
  have hN : t.val < 13 := lt_of_lt_of_eq t.isLt N_0
  blk_point [iblk, V, idx t]

/-- Input block 2 of a point, entry by entry. -/
theorem blk2 (c : Dev nD) (t : Fin cfg0.N) (z : Fin 4) (p : Fin 640) (k : Fin 704) (i : Fin 8320) (hi : i.val = t.val * 640 + p.val)
    (l : Fin 2816) (hl : l.val = z.val * 704 + k.val) :
    (show Vec Ideal S4x640x704 .bf16 from iblk m c 2 t) (ix3 z p k) = m ((c : Thread nD τ).loc main_arg1) (ix2 i l) := by
  have hN : t.val < 13 := lt_of_lt_of_eq t.isLt N_0
  blk_point [iblk, V, idx t]

/-- Input block 3 of a point, entry by entry. -/
theorem blk3 (c : Dev nD) (t : Fin cfg0.N) (z : Fin 4) (q : Fin 1024) (k : Fin 704) (l : Fin 2816) (hl : l.val = z.val * 704 + k.val) :
    (show Vec Ideal S4x1x704x1024 .bf16 from iblk m c 3 t) (ix4 z 0 k q) = m ((c : Thread nD τ).loc main_arg3) (ix3 0 q l) := by
  have hN : t.val < 13 := lt_of_lt_of_eq t.isLt N_0
  blk_point [iblk, V, idx t]

/-- A load of one chip's rows. -/
theorem ldA (X : Vec Ideal S4x640x704 .bf16) (z : Fin 4) (inb) (p : Fin 640) (k : Fin 704) :
    View.ld X (Rect.unit (s := S4x640x704) ![z.val, 0, 0] ![1, 640, 704] inb) (ix3 0 p k) = X (ix3 z p k) :=
  View.ld_unit_apply_of X _ _ inb _ (ix3 z p k) fun a => by fin_cases a <;> simp

/-- A load of one chip's weights. -/
theorem ldW (X : Vec Ideal S4x1x704x1024 .bf16) (z : Fin 4) (inb) (k : Fin 704) (q : Fin 1024) :
    View.ld X (Rect.unit (s := S4x1x704x1024) ![z.val, 0, 0, 0] ![1, 1, 704, 1024] inb) (ix4 0 0 k q) = X (ix4 z 0 k q) :=
  View.ld_unit_apply_of X _ _ inb _ (ix4 z 0 k q) fun a => by fin_cases a <;> simp

/-- The result array of the kernel is the reference's. -/
theorem final (c : Dev nD) : (dats m 0 c).arrAt 5 (cfgs 0).N = Dx0RefIdeal.Read.val_main_v14 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  have hN : t.val < 13 := lt_of_lt_of_eq t.isLt N_0
  rw [after0_5]; frame_out
  obtain_idx j : (⟨2, ![8320, 1024]⟩ : Shape) := [t.val * 640 + (y 0).val, (y 1).val] with hj
  obtain ⟨p, q, rfl⟩ : ∃ (p : Fin 640) (q : Fin 1024), (y : S640x1024.Idx) = ix2 p q :=
    ⟨y 0, y 1, by idx_bounds; blk_ext⟩
  have hi : (j 0).val = t.val * 640 + p.val := hj0
  have hq : j 1 = q := Fin.ext hj1
  generalize j 0 = i at hi
  clear hj0
  refine (hpay2 _ _ _ _ _ _ _ _ _ _ _ _ _ _ _ _ _ p q).trans ?_
  refine Eq.trans ?_ ((href _ _ _ _ _ i q).symm.trans (congrArg (Dx0RefIdeal.Read.val_main_v14 (F := Ideal) _ _ _ _ _) ?_))
  · refine congrArg₂ (· + ·) (congrArg (_ * ·) ?_) (congrArg₂ (· + ·) ?_ ?_)
    · blk_point [iblk, V, idx t]
    · refine Sums.sum_four_stretches (n := 704) (by decide) (fun k : Fin 2816 => _ * _) _ _ _ _ (fun k hk => ?_) (fun k hk => ?_)
        (fun k hk => ?_) (fun k hk => ?_)
      · exact congrArg₂ (· * ·) ((ldA _ 0 _ p k).trans (blk0 m c t 0 p k i hi _ (by simp)))
          ((ldW _ 0 _ k q).trans (blk1 m c t 0 q k _ (by simp)))
      · exact congrArg₂ (· * ·) ((ldA _ 1 _ p k).trans (blk0 m c t 1 p k i hi _ (by simp)))
          ((ldW _ 1 _ k q).trans (blk1 m c t 1 q k _ (by simp)))
      · exact congrArg₂ (· * ·) ((ldA _ 2 _ p k).trans (blk0 m c t 2 p k i hi _ (by simp)))
          ((ldW _ 2 _ k q).trans (blk1 m c t 2 q k _ (by simp)))
      · exact congrArg₂ (· * ·) ((ldA _ 3 _ p k).trans (blk0 m c t 3 p k i hi _ (by simp)))
          ((ldW _ 3 _ k q).trans (blk1 m c t 3 q k _ (by simp)))
    · refine Sums.sum_four_stretches (n := 704) (by decide) (fun k : Fin 2816 => _ * _) _ _ _ _ (fun k hk => ?_) (fun k hk => ?_)
        (fun k hk => ?_) (fun k hk => ?_)
      · exact congrArg₂ (· * ·) ((ldA _ 0 _ p k).trans (blk2 m c t 0 p k i hi _ (by simp)))
          ((ldW _ 0 _ k q).trans (blk3 m c t 0 q k _ (by simp)))
      · exact congrArg₂ (· * ·) ((ldA _ 1 _ p k).trans (blk2 m c t 1 p k i hi _ (by simp)))
          ((ldW _ 1 _ k q).trans (blk3 m c t 1 q k _ (by simp)))
      · exact congrArg₂ (· * ·) ((ldA _ 2 _ p k).trans (blk2 m c t 2 p k i hi _ (by simp)))
          ((ldW _ 2 _ k q).trans (blk3 m c t 2 q k _ (by simp)))
      · exact congrArg₂ (· * ·) ((ldA _ 3 _ p k).trans (blk2 m c t 3 p k i hi _ (by simp)))
          ((ldW _ 3 _ k q).trans (blk3 m c t 3 q k _ (by simp)))
  · blk_point [idx t]

end Cert.Dx0Value
-- ==== Proof.Lanes.lean ====
/- Facts about eight columns padded to 128, and about three arrays side by side. -/
module

public import Idealize.ShloMosaic.Lib.Pipeline.ValueKit
public import Idealize.ShloMosaic.Lib.KernelVsHost

@[expose] public section

noncomputable section

namespace Cert.Lanes

open Idealize.ShloMosaic

variable {n : ℕ} {u : Shape}

/-- A padded array at one of the first eight columns is the array. -/
theorem pad_inside (x : (⟨2, ![n, 8]⟩ : Shape).Idx → EReal) (v : u.Idx → EReal)
    (h : (⟨2, ![n, 8]⟩ : Shape).Pads ![0, 0] ![0, 120] ![0, 0] ⟨2, ![n, 128]⟩) (hu : 0 < u.numel) (p : Fin n) (l : Fin 8)
    (q : Fin 128) (hq : q.val = l.val) :
    pad ⟨2, ![n, 128]⟩ ![0, 0] ![0, 120] ![0, 0] x v h hu (ix2 p q) = x (ix2 p l) := by
  refine pad_apply_of_inside _ _ _ x v h hu _ (ix2 p l) fun a => ?_
  match a with
  | ⟨0, _⟩ => show p.val = 0 + p.val * (0 + 1); omega
  | ⟨1, _⟩ => show q.val = 0 + l.val * (0 + 1); omega

/-- A padded array at a later column is the padding value. -/
theorem pad_outside (x : (⟨2, ![n, 8]⟩ : Shape).Idx → EReal) (v : u.Idx → EReal)
    (h : (⟨2, ![n, 8]⟩ : Shape).Pads ![0, 0] ![0, 120] ![0, 0] ⟨2, ![n, 128]⟩) (hu : 0 < u.numel) (p : Fin n)
    (q : Fin 128) (hq : 8 ≤ q.val) :
    pad ⟨2, ![n, 128]⟩ ![0, 0] ![0, 120] ![0, 0] x v h hu (ix2 p q) = v (Shape.Idx.first hu) := by
  refine pad_apply_of_not_inside _ _ _ x v h hu _ 1 fun ha => ?_
  have : (q.val - 0) / (0 + 1) < 8 := ha.2.2
  omega

/-- The integer zero as a number is zero. -/
theorem sitofp_zero : (FloatOps.sitofp .f32 (0#32 : BitVec 32) : Ideal .f32) = (0 : EReal) := by
  show (((0#32 : BitVec 32).toInt : ℝ) : EReal) = 0
  simp

end Cert.Lanes
-- ==== Proof.KvDwValue.lean ====
/- The gradients of the key, value and forget projections: each result array that the kernel leaves is the reference's. -/
module

public import proofs.«01_k».proof.Proof.Gen.KvDwIdeal.Value
public import proofs.«01_k».proof.Proof.Gen.KvDwRefIdeal.Read
public import proofs.«01_k».proof.Proof.Sums
public import proofs.«01_k».proof.Proof.Lanes

@[expose] public section

set_option maxRecDepth 16384

noncomputable section

namespace Cert.KvDwValue

open Idealize.ShloMosaic Idealize.ShloMosaic.TcCoe Idealize.SL.Sem
open Idealize.ShloMosaic.Pipeline (Dat)
open Cert.KvDwIdeal Cert.KvDwIdeal.Gen

variable (m : (ℓ : Loc nD τ sig) → Buf (Elt Ideal) ℓ)

/-- The first point stores the product of the two blocks. -/
theorem hpay4 (v0 : Vec Ideal S2080x1024 .bf16) (v2 : Vec Ideal S2080x1024 .f32) (j : S1x1024x1024.Idx) :
    k0_pay4 v0 v2 j = 0 + ∑ k : Fin 2080, v0 (ix2 k (j 1)) * v2 (ix2 k (j 2)) := by
  rw [zero_add]; pointwise [k0_pay4, k0_pay3]

/-- A later point adds its product. -/
theorem hpay5 (v0 : Vec Ideal S2080x1024 .bf16) (v2 : Vec Ideal S2080x1024 .f32) (v : Vec Ideal S1x1024x1024 .f32) (j : S1x1024x1024.Idx) :
    k0_pay5 v0 v2 v j = v j + ∑ k : Fin 2080, v0 (ix2 k (j 1)) * v2 (ix2 k (j 2)) := by
  pointwise [k0_pay5, k0_pay3]

theorem hpay7 (v0 : Vec Ideal S2080x1024 .bf16) (v2 : Vec Ideal S2080x1024 .f32) (j : S1x1024x1024.Idx) :
    k0_pay7 v0 v2 j = 0 + ∑ k : Fin 2080, v0 (ix2 k (j 1)) * v2 (ix2 k (j 2)) := by
  rw [zero_add]; pointwise [k0_pay7, k0_pay6]

theorem hpay8 (v0 : Vec Ideal S2080x1024 .bf16) (v2 : Vec Ideal S2080x1024 .f32) (v : Vec Ideal S1x1024x1024 .f32) (j : S1x1024x1024.Idx) :
    k0_pay8 v0 v2 v j = v j + ∑ k : Fin 2080, v0 (ix2 k (j 1)) * v2 (ix2 k (j 2)) := by
  pointwise [k0_pay8, k0_pay6]

theorem hpay1 (v0 : Vec Ideal S2080x1024 .bf16) (v2 : Vec Ideal S2080x128 .f32) (j : S1x1024x128.Idx) :
    k0_pay1 (k0_pay9 v0 v2) j = 0 + ∑ k : Fin 2080, v0 (ix2 k (j 1)) * v2 (ix2 k (j 2)) := by
  rw [zero_add]; pointwise [k0_pay1, k0_pay9]

theorem hpay2 (v0 : Vec Ideal S2080x1024 .bf16) (v2 : Vec Ideal S2080x128 .f32) (v : Vec Ideal S1x1024x128 .f32) (j : S1x1024x128.Idx) :
    k0_pay2 (k0_pay9 v0 v2) v j = v j + ∑ k : Fin 2080, v0 (ix2 k (j 1)) * v2 (ix2 k (j 2)) := by
  pointwise [k0_pay2, k0_pay9]

section
open KvDwRefIdeal.Read
variable (x0 x1 x2 : (⟨KvDwRefIdeal.S8320x1024, .f32⟩ : BufTy).Contents (Elt Ideal))
  (x3 : (⟨KvDwRefIdeal.S8320x8, .f32⟩ : BufTy).Contents (Elt Ideal))

/-- The three cotangents side by side: the first. -/
theorem href2a (k : Fin 8320) (l : Fin 2056) (q : Fin 1024) (hq : l.val = q.val) :
    val_main_v2 (F := Ideal) x1 x2 x3 (ix2 k l) = x1 (ix2 k q) := by
  unfold val_main_v2
  refine concatenate_apply_piece (t := KvDwRefIdeal.S8320x2056) 1 [⟨KvDwRefIdeal.S8320x1024, x1⟩, ⟨KvDwRefIdeal.S8320x1024, x2⟩, ⟨KvDwRefIdeal.S8320x8, x3⟩] _ _ 0 (by simp) _ x1 rfl rfl 0 rfl (ix2 k q) (fun b hb => ?_) ?_
  · match b, hb with
    | ⟨0, _⟩, _ => rfl
    | ⟨1, _⟩, hb => exact absurd rfl hb
  · show 0 + q.val = l.val
    omega

/-- The three cotangents side by side: the second. -/
theorem href2b (k : Fin 8320) (l : Fin 2056) (q : Fin 1024) (hq : l.val = 1024 + q.val) :
    val_main_v2 (F := Ideal) x1 x2 x3 (ix2 k l) = x2 (ix2 k q) := by
  unfold val_main_v2
  refine concatenate_apply_piece (t := KvDwRefIdeal.S8320x2056) 1 [⟨KvDwRefIdeal.S8320x1024, x1⟩, ⟨KvDwRefIdeal.S8320x1024, x2⟩, ⟨KvDwRefIdeal.S8320x8, x3⟩] _ _ 1 (by simp) _ x2 rfl rfl 1024 rfl (ix2 k q) (fun b hb => ?_) ?_
  · match b, hb with
    | ⟨0, _⟩, _ => rfl
    | ⟨1, _⟩, hb => exact absurd rfl hb
  · show 1024 + q.val = l.val
    omega

/-- The three cotangents side by side: the third. -/
theorem href2c (k : Fin 8320) (l : Fin 2056) (q : Fin 8) (hq : l.val = 2048 + q.val) :
    val_main_v2 (F := Ideal) x1 x2 x3 (ix2 k l) = x3 (ix2 k q) := by
  unfold val_main_v2
  refine concatenate_apply_piece (t := KvDwRefIdeal.S8320x2056) 1 [⟨KvDwRefIdeal.S8320x1024, x1⟩, ⟨KvDwRefIdeal.S8320x1024, x2⟩, ⟨KvDwRefIdeal.S8320x8, x3⟩] _ _ 2 (by simp) _ x3 rfl rfl 2048 rfl (ix2 k q) (fun b hb => ?_) ?_
  · match b, hb with
    | ⟨0, _⟩, _ => rfl
    | ⟨1, _⟩, hb => exact absurd rfl hb
  · show 2048 + q.val = l.val
    omega

/-- The gradient of the whole projection. -/
theorem href4 (i : Fin 1024) (l : Fin 2056) :
    val_main_v4 (F := Ideal) x0 x1 x2 x3 (ix2 i l) = ∑ k : Fin 8320, x0 (ix2 k i) * val_main_v2 (F := Ideal) x1 x2 x3 (ix2 k l) := by
  rw [val_main_v4_apply, val_main_v3_apply]
  refine Finset.sum_congr rfl fun k _ => (mul_comm _ _).trans
    (congrArg₂ (· * ·) (congrArg x0 ?_) (congrArg (val_main_v2 (F := Ideal) x1 x2 x3) ?_))
  · idx_bounds; blk_ext
  · idx_bounds; blk_ext

theorem href6 (j : KvDwRefIdeal.S1x1024x1024.Idx) :
    val_main_v6 (F := Ideal) x0 x1 x2 x3 j = ∑ k : Fin 8320, x0 (ix2 k (j 1)) * x1 (ix2 k (j 2)) := by
  have e : val_main_v6 (F := Ideal) x0 x1 x2 x3 j = val_main_v4 (F := Ideal) x0 x1 x2 x3
      (ix2 (j 1) ⟨(j 2).val, lt_trans (j 2).isLt (by decide)⟩) := by
    rw [val_main_v6_apply, val_main_v5_apply]
    refine congrArg (val_main_v4 (F := Ideal) x0 x1 x2 x3) ?_
    idx_bounds; blk_ext
  refine e.trans ((href4 _ _ _ _ _ _).trans ?_)
  exact Finset.sum_congr rfl fun k _ => congrArg (_ * ·) (href2a x1 x2 x3 k _ (j 2) rfl)

theorem href8 (j : KvDwRefIdeal.S1x1024x1024.Idx) :
    val_main_v8 (F := Ideal) x0 x1 x2 x3 j = ∑ k : Fin 8320, x0 (ix2 k (j 1)) * x2 (ix2 k (j 2)) := by
  have e : val_main_v8 (F := Ideal) x0 x1 x2 x3 j = val_main_v4 (F := Ideal) x0 x1 x2 x3
      (ix2 (j 1) ⟨1024 + (j 2).val, by have : (j 2).val < 1024 := (j 2).isLt; omega⟩) := by
    rw [val_main_v8_apply, val_main_v7_apply]
    refine congrArg (val_main_v4 (F := Ideal) x0 x1 x2 x3) ?_
    idx_bounds; blk_ext
  refine e.trans ((href4 _ _ _ _ _ _).trans ?_)
  exact Finset.sum_congr rfl fun k _ => congrArg (_ * ·) (href2b x1 x2 x3 k _ (j 2) rfl)

theorem href11_in (j : KvDwRefIdeal.S1x1024x128.Idx) (q : Fin 8) (hq : (j 2).val = q.val) :
    val_main_v11 (F := Ideal) x0 x1 x2 x3 j = ∑ k : Fin 8320, x0 (ix2 k (j 1)) * x3 (ix2 k q) := by
  have e : val_main_v11 (F := Ideal) x0 x1 x2 x3 j = val_main_v10 (F := Ideal) x0 x1 x2 x3 (ix2 (j 1) (j 2)) := by
    rw [val_main_v11_apply]
    refine congrArg (val_main_v10 (F := Ideal) x0 x1 x2 x3) ?_
    idx_bounds; blk_ext
  have e' : val_main_v9 (F := Ideal) x0 x1 x2 x3 (ix2 (j 1) q) = val_main_v4 (F := Ideal) x0 x1 x2 x3
      (ix2 (j 1) ⟨2048 + q.val, by have := q.isLt; omega⟩) := by
    rw [val_main_v9_apply]
    refine congrArg (val_main_v4 (F := Ideal) x0 x1 x2 x3) ?_
    idx_bounds; blk_ext
  refine e.trans ((Lanes.pad_inside _ _ _ _ (j 1) q (j 2) hq).trans (e'.trans ((href4 _ _ _ _ _ _).trans ?_)))
  exact Finset.sum_congr rfl fun k _ => congrArg (_ * ·) (href2c x1 x2 x3 k _ q rfl)

theorem href11_out (j : KvDwRefIdeal.S1x1024x128.Idx) (hq : 8 ≤ (j 2).val) :
    val_main_v11 (F := Ideal) x0 x1 x2 x3 j = 0 := by
  have e : val_main_v11 (F := Ideal) x0 x1 x2 x3 j = val_main_v10 (F := Ideal) x0 x1 x2 x3 (ix2 (j 1) (j 2)) := by
    rw [val_main_v11_apply]
    refine congrArg (val_main_v10 (F := Ideal) x0 x1 x2 x3) ?_
    idx_bounds; blk_ext
  exact e.trans ((Lanes.pad_outside _ _ _ _ (j 1) (j 2) hq).trans Lanes.sitofp_zero)

end

/-- The blocks of the windows at each point. -/
theorem idx : ∀ t : Fin cfg0.N, win0_0.index t = ![t.val % 4, 0] ∧ win0_1.index t = ![t.val % 4, 0]
    ∧ win0_2.index t = ![t.val % 4, 0] ∧ win0_3.index t = ![t.val % 4, 0] ∧ win0_4.index t = ![t.val / 4, 0, 0]
    ∧ win0_5.index t = ![t.val / 4, 0, 0] ∧ win0_6.index t = ![t.val / 4, 0, 0] := (by decide +kernel : ∀ t : Fin grid0.N, _)

/-- The first result array of the kernel is the reference's gradient of the key projection. -/
theorem final4 (c : Dev nD) : (dats m 0 c).arrAt 4 (cfgs 0).N = KvDwRefIdeal.Read.val_main_v6 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t hf y => ?_
  blk_simp
  have hN : t.val < 4 := lt_of_lt_of_eq t.isLt N_0
  have hf' := (flush0_4 t).mp hf
  rw [after0_4, Pipeline.eq_sum_fin_of_reset_step_apply_of_flush (fun n h => (outsAt0 m c n h).1) 4 (fun _ => 0) _
    (fun t h j => by
      have hN' : t.val < 4 := lt_of_lt_of_eq t.isLt N_0
      rw [outsAt0_A m c t h (by omega) h (by omega) h (by omega)]; frame_out; rw [hpay4])
    (fun t h j => by
      have hN' : t.val < 4 := lt_of_lt_of_eq t.isLt N_0
      rw [outsAt0_B m c t h (by omega) h (by omega) h (by omega)]; frame_out; rw [hpay5])
    t hf' y, zero_add]
  refine Eq.trans ?_ (href6 _ _ _ _ _).symm
  refine Fin.sum_mul_add_congr fun s k hl => ?_
  have e := idx ⟨_, Pipeline.run_point_lt_of_flush t hf' s⟩
  blk_point [iblk, V, idx t, e]

/-- The second result array of the kernel is the reference's gradient of the value projection. -/
theorem final5 (c : Dev nD) : (dats m 0 c).arrAt 5 (cfgs 0).N = KvDwRefIdeal.Read.val_main_v8 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t hf y => ?_
  blk_simp
  have hN : t.val < 4 := lt_of_lt_of_eq t.isLt N_0
  have hf' := (flush0_5 t).mp hf
  rw [after0_5, Pipeline.eq_sum_fin_of_reset_step_apply_of_flush (fun n h => (outsAt0 m c n h).2.1) 4 (fun _ => 0) _
    (fun t h j => by
      have hN' : t.val < 4 := lt_of_lt_of_eq t.isLt N_0
      rw [outsAt0_A m c t h (by omega) h (by omega) h (by omega)]; frame_out; rw [hpay7])
    (fun t h j => by
      have hN' : t.val < 4 := lt_of_lt_of_eq t.isLt N_0
      rw [outsAt0_B m c t h (by omega) h (by omega) h (by omega)]; frame_out; rw [hpay8])
    t hf' y, zero_add]
  refine Eq.trans ?_ (href8 _ _ _ _ _).symm
  refine Fin.sum_mul_add_congr fun s k hl => ?_
  have e := idx ⟨_, Pipeline.run_point_lt_of_flush t hf' s⟩
  blk_point [iblk, V, idx t, e]

/-- The padded cotangent's block of a point, at one of the first eight columns. -/
theorem blk3_in (c : Dev nD) (t : Fin cfg0.N) (p : Fin 2080) (l : Fin 128) (q : Fin 8) (hq : l.val = q.val) (i : Fin 8320)
    (hi : i.val = t.val % 4 * 2080 + p.val) :
    (show Vec Ideal S2080x128 .f32 from iblk m c 3 t) (ix2 p l) = m ((c : Thread nD τ).loc main_arg3) (ix2 i q) := by
  have hN : t.val < 4 := lt_of_lt_of_eq t.isLt N_0
  refine Eq.trans ?_ (Lanes.pad_inside _ (sitofp .f32 (constantI S_ 32 0#32) : FVec Ideal S_ .f32) pads_S8320x8_S8320x128_000_01200 h_S_ i q l hq)
  blk_point [iblk, V, idx t]

/-- The padded cotangent's block of a point, at a later column. -/
theorem blk3_out (c : Dev nD) (t : Fin cfg0.N) (p : Fin 2080) (l : Fin 128) (hq : 8 ≤ l.val) :
    (show Vec Ideal S2080x128 .f32 from iblk m c 3 t) (ix2 p l) = (0 : EReal) := by
  have hN : t.val < 4 := lt_of_lt_of_eq t.isLt N_0
  obtain_idx i : (⟨1, ![8320]⟩ : Shape) := [t.val % 4 * 2080 + p.val] with hi
  refine Eq.trans ?_ ((Lanes.pad_outside (m ((c : Thread nD τ).loc main_arg3)) (sitofp .f32 (constantI S_ 32 0#32) : FVec Ideal S_ .f32)
    pads_S8320x8_S8320x128_000_01200 h_S_ (i 0) l hq).trans Lanes.sitofp_zero)
  blk_point [iblk, V, idx t]

/-- The third result array of the kernel is the reference's gradient of the forget projection, padded with zeros. -/
theorem final6 (c : Dev nD) : (dats m 0 c).arrAt 6 (cfgs 0).N = KvDwRefIdeal.Read.val_main_v11 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 6 _ (by decide +kernel) fun t hf y => ?_
  blk_simp
  have hN : t.val < 4 := lt_of_lt_of_eq t.isLt N_0
  have hf' := (flush0_6 t).mp hf
  rw [after0_6, Pipeline.eq_sum_fin_of_reset_step_apply_of_flush (fun n h => (outsAt0 m c n h).2.2) 4 (fun _ => 0) _
    (fun t h j => by
      have hN' : t.val < 4 := lt_of_lt_of_eq t.isLt N_0
      rw [outsAt0_A m c t h (by omega) h (by omega) h (by omega)]; frame_out; rw [hpay1])
    (fun t h j => by
      have hN' : t.val < 4 := lt_of_lt_of_eq t.isLt N_0
      rw [outsAt0_B m c t h (by omega) h (by omega) h (by omega)]; frame_out; rw [hpay2])
    t hf' y, zero_add]
  by_cases hy : (y 2).val < 8
  · refine Eq.trans ?_ (href11_in _ _ _ _ _ ⟨(y 2).val, hy⟩ ?_).symm
    · refine Fin.sum_mul_add_congr fun s k hl => ?_
      have e := idx ⟨_, Pipeline.run_point_lt_of_flush t hf' s⟩
      refine congrArg₂ (· * ·) ?_ (blk3_in m c _ k (y 2) ⟨(y 2).val, hy⟩ rfl _ ?_)
      · blk_point [iblk, V, idx t, e]
      · show s.val * 2080 + k.val = (4 * (t.val / 4) + s.val) % 4 * 2080 + k.val
        have := s.isLt
        omega
    · blk_simp [idx t]
  · refine Eq.trans ?_ (href11_out _ _ _ _ _ ?_).symm
    · have z : ∀ a b : EReal, b = 0 → a * b = 0 := fun a b h => h ▸ mul_zero a
      exact Finset.sum_eq_zero (M := EReal) fun s _ => Finset.sum_eq_zero (M := EReal) fun k _ =>
        z _ _ (blk3_out m c _ k (y 2) (not_lt.mp hy))
    · blk_simp [idx t]
      exact not_lt.mp hy

end Cert.KvDwValue
-- ==== Proof.LayerNormGrad.lean ====
/- The gradients of a layer normalisation over 8320 rows as the references print them, for any cotangent of its result:
   by the row, by the gain and by the shift, each at an entry. Three references end in these operations. -/
module

public import Idealize.ShloMosaic.Lib.Pipeline.ValueKit
public import proofs.«01_k».proof.Proof.Gen.CDxRefIdeal.Read
public import proofs.«01_k».proof.Proof.LayerNorm

@[expose] public section

set_option maxRecDepth 16384

noncomputable section

namespace Cert.LayerNormGrad

open Idealize.ShloMosaic Idealize.ShloMosaic.TcCoe Idealize.SL.Sem
open Cert.CDxRefIdeal Cert.CDxRefIdeal.Gen Cert.CDxRefIdeal.Read

/-- Rows of 1024 entries. -/
abbrev Rows := FVec Ideal S8320x1024 .f32

/-- A row's gain. -/
abbrev Gain := FVec Ideal S1024 .f32

/-- One row of 1024 entries. -/
abbrev Row := FVec Ideal S1x1024 .f32

/-- The cotangent of the normalised row. -/
def byHat (dy : Rows) (g : Gain) : Rows := mulf dy (val_main_v43 (F := Ideal) g)

/-- The gradient by the centred row. -/
def byCentred (dy r : Rows) (g : Gain) : Rows := mulf (byHat dy g) (val_main_v49 (F := Ideal) r)

/-- The gradient by the sum of squares. -/
def bySquares (dy r : Rows) (g : Gain) : FVec Ideal S8320x1 .f32 :=
  Host.divf (mulf (shapeCast _ (Host.reduceAdd (mulf (val_main_v15 (F := Ideal) r) (byHat dy g)) (val_main_cst_13 (F := Ideal))
    reducesTo_S8320x1024_S8320_d1 h_S_) shapeCasts_S8320_S8320x1) (val_main_v21 (F := Ideal) r)) (val_main_v55 (F := Ideal))

/-- The gradient through the squares. -/
def throughSquares (dy r : Rows) (g : Gain) : Rows :=
  mulf (broadcastInDim S8320x1024 ![0] bcast_S8320_S8320x1024_0
    (Host.reduceAdd (bySquares dy r g) (val_main_cst_16 (F := Ideal)) reducesTo_S8320x1_S8320_d1 h_S_)) (val_main_v9 (F := Ideal) r)

/-- The gradient by the row. -/
def byRow (dy r : Rows) (g : Gain) : Rows :=
  addf (addf (byCentred dy r g) (throughSquares dy r g)) (broadcastInDim S8320x1024 ![0] bcast_S8320_S8320x1024_0
    (Host.reduceAdd (Host.divf
      (addf (shapeCast _ (Host.reduceAdd (Host.negf (byCentred dy r g)) (val_main_cst_14 (F := Ideal))
          reducesTo_S8320x1024_S8320_d1 h_S_) shapeCasts_S8320_S8320x1)
        (shapeCast _ (Host.reduceAdd (Host.negf (throughSquares dy r g)) (val_main_cst_17 (F := Ideal))
          reducesTo_S8320x1024_S8320_d1 h_S_) shapeCasts_S8320_S8320x1))
      (val_main_v65 (F := Ideal))) (val_main_cst_19 (F := Ideal)) reducesTo_S8320x1_S8320_d1 h_S_))

/-- The gradient by the gain. -/
def byGain (dy r : Rows) : Row :=
  shapeCast _ (Host.reduceAdd (shapeCast S1x1024 (Host.reduceAdd (mulf (val_main_v23 (F := Ideal) r) dy) (val_main_cst_11 (F := Ideal))
    reducesTo_S8320x1024_S1024_d0 h_S_) shapeCasts_S1024_S1x1024) (val_main_cst_12 (F := Ideal)) reducesTo_S1x1024_S1024_d0 h_S_)
    shapeCasts_S1024_S1x1024

/-- The gradient by the shift. -/
def byShift (dy : Rows) : Row :=
  shapeCast _ (Host.reduceAdd (shapeCast S1x1024 (Host.reduceAdd dy (val_main_cst_9 (F := Ideal))
    reducesTo_S8320x1024_S1024_d0 h_S_) shapeCasts_S1024_S1x1024) (val_main_cst_10 (F := Ideal)) reducesTo_S1x1024_S1024_d0 h_S_)
    shapeCasts_S1024_S1x1024

/-- The centred row. -/
theorem centred (r : Rows) (i : Fin 8320) (q : Fin 1024) :
    val_main_v15 (F := Ideal) r (ix2 i q) = LayerNorm.cen (fun k => r (ix2 i k)) q := by
  pointwise [val_main_v15, val_main_v14, val_main_v4, val_main_v3, val_main_cst_1, val_main_v2, val_main_v1, val_main_cst_0,
    LayerNorm.cen, LayerNorm.mean]

/-- The centred row, as the variance takes it. -/
theorem centred' (r : Rows) (i : Fin 8320) (q : Fin 1024) :
    val_main_v6 (F := Ideal) r (ix2 i q) = LayerNorm.cen (fun k => r (ix2 i k)) q := by
  pointwise [val_main_v6, val_main_v5, val_main_v4, val_main_v3, val_main_cst_1, val_main_v2, val_main_v1, val_main_cst_0,
    LayerNorm.cen, LayerNorm.mean]

/-- The variance. -/
theorem variance (r : Rows) (i : Fin 8320) (z : Fin 1) :
    val_main_v17 (F := Ideal) r (ix2 i z) = LayerNorm.var (fun k => r (ix2 i k)) := by
  pointwise [val_main_v17, val_main_v16, val_main_cst_5, val_main_v13, val_main_v12, val_main_cst_4, val_main_v11, val_main_v10,
    val_main_cst_3, val_main_v7, centred', LayerNorm.var, LayerNorm.mean]

/-- The reciprocal standard deviation. -/
theorem deviation (r : Rows) (i : Fin 8320) (z : Fin 1) :
    val_main_v18 (F := Ideal) r (ix2 i z) = LayerNorm.rstd (fun k => r (ix2 i k)) := by
  pointwise [val_main_v18, variance, LayerNorm.rstd]

/-- The normalised row. -/
theorem normalised (r : Rows) (i : Fin 8320) (q : Fin 1024) :
    val_main_v23 (F := Ideal) r (ix2 i q) = LayerNorm.hat (fun k => r (ix2 i k)) q := by
  pointwise [val_main_v23, val_main_v22, centred, deviation, LayerNorm.hat]

theorem byHat_at (dy : Rows) (g : Gain) (i : Fin 8320) (q : Fin 1024) : byHat dy g (ix2 i q) = dy (ix2 i q) * g (ix1 q) := by
  pointwise [byHat, val_main_v43, val_main_v24]

theorem byCentred_at (dy r : Rows) (g : Gain) (i : Fin 8320) (q : Fin 1024) :
    byCentred dy r g (ix2 i q) = dy (ix2 i q) * g (ix1 q) * LayerNorm.rstd (fun k => r (ix2 i k)) := by
  pointwise [byCentred, val_main_v49, byHat_at, deviation]

theorem bySquares_at (dy r : Rows) (g : Gain) (i : Fin 8320) (z : Fin 1) :
    bySquares dy r g (ix2 i z) = LayerNorm.slope (fun k => dy (ix2 i k) * g (ix1 k)) (fun k => r (ix2 i k)) := by
  pointwise [bySquares, val_main_v55, val_main_cst_15, val_main_cst_13, val_main_v21, val_main_v20, val_main_cst_6, val_main_v19,
    centred, byHat_at, variance, deviation, LayerNorm.slope]

theorem throughSquares_at (dy r : Rows) (g : Gain) (i : Fin 8320) (q : Fin 1024) :
    throughSquares dy r g (ix2 i q)
      = LayerNorm.slope (fun k => dy (ix2 i k) * g (ix1 k)) (fun k => r (ix2 i k))
        * (Ideal.ofBits .f32 0x40000000#32 * LayerNorm.cen (fun k => r (ix2 i k)) q) := by
  pointwise [throughSquares, val_main_cst_16, val_main_v9, val_main_v8, val_main_cst_2, centred', bySquares_at]
  rw [Fin.sum_univ_one]

/-- The gradient by the row, at an entry. -/
theorem byRow_at (dy r : Rows) (g : Gain) (i : Fin 8320) (q : Fin 1024) :
    byRow dy r g (ix2 i q) = LayerNorm.long (fun k => dy (ix2 i k) * g (ix1 k)) (fun k => r (ix2 i k)) q := by
  pointwise [byRow, val_main_cst_19, val_main_v65, val_main_cst_18, val_main_cst_17, val_main_cst_14, byCentred_at, throughSquares_at,
    LayerNorm.long]
  rw [Fin.sum_univ_one]

/-- The gradient by the shift, at an entry. -/
theorem byShift_at (dy : Rows) (z : Fin 1) (q : Fin 1024) : byShift dy (ix2 z q) = ∑ i : Fin 8320, dy (ix2 i q) := by
  pointwise [byShift, val_main_cst_10, val_main_cst_9]
  rw [Fin.sum_univ_one]

/-- The gradient by the gain, at an entry. -/
theorem byGain_at (dy r : Rows) (z : Fin 1) (q : Fin 1024) :
    byGain dy r (ix2 z q) = ∑ i : Fin 8320, dy (ix2 i q) * LayerNorm.hat (fun k => r (ix2 i k)) q := by
  pointwise [byGain, val_main_cst_12, val_main_cst_11, normalised]
  rw [Fin.sum_univ_one]
  exact Finset.sum_congr rfl fun k _ => mul_comm _ _

/-- The gradient by the shift at an index given by its coordinate. -/
theorem byShift_of (dy : Rows) (j : S1x1024.Idx) (q : Fin 1024) (hq : q.val = (j 1).val) :
    byShift dy j = ∑ i : Fin 8320, dy (ix2 i q) := by
  refine (congrArg (byShift dy) ?_).trans (byShift_at dy 0 q)
  idx_bounds
  blk_ext

/-- The gradient by the gain at an index given by its coordinate. -/
theorem byGain_of (dy r : Rows) (j : S1x1024.Idx) (q : Fin 1024) (hq : q.val = (j 1).val) :
    byGain dy r j = ∑ i : Fin 8320, dy (ix2 i q) * LayerNorm.hat (fun k => r (ix2 i k)) q := by
  refine (congrArg (byGain dy r) ?_).trans (byGain_at dy r 0 q)
  idx_bounds
  blk_ext

end Cert.LayerNormGrad
-- ==== Proof.CDxValue.lean ====
/- The backward pass through the first product of the convolution and the layer normalisation before it: each result array
   that the kernel leaves is the reference's. -/
module

public import proofs.«01_k».proof.Proof.Gen.CDxIdeal.Value
public import proofs.«01_k».proof.Proof.Gen.CDxRefIdeal.Read
public import proofs.«01_k».proof.Proof.Sums
public import proofs.«01_k».proof.Proof.LayerNormGrad

@[expose] public section

set_option maxRecDepth 16384

noncomputable section

namespace Cert.CDxValue

open Idealize.ShloMosaic Idealize.ShloMosaic.TcCoe Idealize.SL.Sem
open Idealize.ShloMosaic.Pipeline (Dat)
open Cert.CDxIdeal Cert.CDxIdeal.Gen Cert.Finite

variable (m : (ℓ : Loc nD τ sig) → Buf (Elt Ideal) ℓ)

/-- One entry of one chip's product. -/
def dotb (a : Vec Ideal S640x768 .bf16) (w : Vec Ideal S1x1024x768 .bf16) (p : Fin 640) (q : Fin 1024) : EReal :=
  ∑ k : Fin 768, a (ix2 p k) * w (ix3 0 q k)

/-- The four products of a point, at an entry. -/
theorem hpay6 (v0 v1 v2 v3 : Vec Ideal S640x768 .bf16) (w0 w1 w2 w3 : Vec Ideal S1x1024x768 .bf16) (p : Fin 640) (q : Fin 1024) :
    k0_pay6 v0 w0 v1 w1 v2 w2 v3 w3 (ix2 p q) = dotb v0 w0 p q + dotb v1 w1 p q + dotb v2 w2 p q + dotb v3 w3 p q := by
  pointwise [k0_pay6, dotb]

/-- The cotangent of the normalisation at an entry, the residual's part first. -/
theorem hpay8 (v : FVec Ideal S640x1024 .f32) (dr : Vec Ideal S640x1024 .f32) (p : Fin 640) (q : Fin 1024) :
    k0_pay8 v (k0_pay7 dr) (ix2 p q) = Ideal.ofBits .f32 0x3FB504F3#32 * dr (ix2 p q) + v (ix2 p q) := by
  pointwise [k0_pay8, k0_pay7]

/-- The kernel's normalised row. -/
theorem hpay11 (r : Vec Ideal S640x1024 .f32) (p : Fin 640) (q : Fin 1024) :
    k0_pay11 r (ix2 p q) = LayerNorm.hat (fun k => r (ix2 p k)) q := by
  pointwise [k0_pay11, k0_pay10, k0_pay9, LayerNorm.hat, LayerNorm.rstd, LayerNorm.var, LayerNorm.mean, LayerNorm.cen]

/-- The kernel's gradient by the row. -/
theorem hpay12 (u v : FVec Ideal S640x1024 .f32) (r : Vec Ideal S640x1024 .f32) (g : Vec Ideal S1x1024 .f32) (p : Fin 640) (q : Fin 1024) :
    k0_pay12 u v r g (ix2 p q) = LayerNorm.short (fun k => k0_pay8 u v (ix2 p k) * g (ix2 0 k)) (fun k => r (ix2 p k)) q := by
  pointwise [k0_pay12, hpay11, k0_pay10, k0_pay9, LayerNorm.short, LayerNorm.rstd, LayerNorm.var, LayerNorm.mean, LayerNorm.cen]

/-- The kernel's contribution of a point to the gradient of the gain. -/
theorem hpay2 (u v : FVec Ideal S640x1024 .f32) (r : Vec Ideal S640x1024 .f32) (a : Vec Ideal S1x1024 .f32) (j : S1x1024.Idx) :
    k0_pay2 (k0_pay13 u v r) a j = a j + ∑ p : Fin 640, k0_pay8 u v (ix2 p (j 1)) * LayerNorm.hat (fun k => r (ix2 p k)) (j 1) := by
  pointwise [k0_pay2, k0_pay13, hpay11]

/-- The kernel's contribution of a point to the gradient of the shift. -/
theorem hpay3 (u v : FVec Ideal S640x1024 .f32) (a : Vec Ideal S1x1024 .f32) (j : S1x1024.Idx) :
    k0_pay3 (k0_pay14 u v) a j = a j + ∑ p : Fin 640, k0_pay8 u v (ix2 p (j 1)) := by
  pointwise [k0_pay3, k0_pay14]

theorem hpay4 (j : S1x1024.Idx) : k0_pay4 (F := Ideal) j = 0 := by
  pointwise [k0_pay4]

theorem hpay5 (j : S1x1024.Idx) : k0_pay5 (F := Ideal) j = 0 := by
  pointwise [k0_pay5]

open CDxRefIdeal.Read in
/-- The reference's cotangent of the normalisation. -/
theorem href36 (x0 : FVec Ideal CDxRefIdeal.S8320x3072 .f32) (x1 : FVec Ideal CDxRefIdeal.S1024x3072 .f32)
    (x2 : FVec Ideal CDxRefIdeal.S8320x1024 .f32) (i : Fin 8320) (q : Fin 1024) :
    val_main_v36 (F := Ideal) x0 x1 x2 (ix2 i q)
      = Ideal.ofBits .f32 0x3FB504F3#32 * x2 (ix2 i q) + ∑ k : Fin 3072, x0 (ix2 i k) * x1 (ix2 q k) := by
  pointwise [val_main_v36, val_main_v34, val_main_v33, val_main_cst_8, val_main_v35]

/-- The blocks of the windows at each point. -/
theorem idx : ∀ t : Fin cfg0.N, win0_0.index t = ![t.val, 0] ∧ win0_1.index t = ![0, 0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- The four products of point `t`. -/
def part (c : Dev nD) (t : Fin cfg0.N) : FVec Ideal S640x1024 .f32 :=
  k0_pay6 (View.ld (iblk m c 0 t) (Rect.unit ![0, 0] ![640, 768] inb_S640x3072_S640x768_0_0))
    (View.ld (iblk m c 1 t) (Rect.unit ![0, 0, 0] ![1, 1024, 768] inb_S4x1024x768_S1x1024x768_0_0_0))
    (View.ld (iblk m c 0 t) (Rect.unit ![0, 768] ![640, 768] inb_S640x3072_S640x768_0_768))
    (View.ld (iblk m c 1 t) (Rect.unit ![1, 0, 0] ![1, 1024, 768] inb_S4x1024x768_S1x1024x768_1_0_0))
    (View.ld (iblk m c 0 t) (Rect.unit ![0, 1536] ![640, 768] inb_S640x3072_S640x768_0_1536))
    (View.ld (iblk m c 1 t) (Rect.unit ![2, 0, 0] ![1, 1024, 768] inb_S4x1024x768_S1x1024x768_2_0_0))
    (View.ld (iblk m c 0 t) (Rect.unit ![0, 2304] ![640, 768] inb_S640x3072_S640x768_0_2304))
    (View.ld (iblk m c 1 t) (Rect.unit ![3, 0, 0] ![1, 1024, 768] inb_S4x1024x768_S1x1024x768_3_0_0))

/-- The kernel's cotangent of the normalisation at point `t`. -/
def cot (c : Dev nD) (t : Fin cfg0.N) : FVec Ideal S640x1024 .f32 := k0_pay8 (part m c t) (k0_pay7 (iblk m c 2 t))

/-- Input block 0 of a point, entry by entry. -/
theorem blk0 (c : Dev nD) (t : Fin cfg0.N) (p : Fin 640) (l : Fin 3072) (i : Fin 8320) (hi : i.val = t.val * 640 + p.val) :
    (show Vec Ideal S640x3072 .bf16 from iblk m c 0 t) (ix2 p l) = m ((c : Thread nD τ).loc main_arg0) (ix2 i l) := by
  have hN : t.val < 13 := lt_of_lt_of_eq t.isLt N_0
  blk_point [iblk, V, idx t]

/-- Input block 1 of a point, entry by entry. -/
theorem blk1 (c : Dev nD) (t : Fin cfg0.N) (z : Fin 4) (q : Fin 1024) (k : Fin 768) (l : Fin 3072) (hl : l.val = z.val * 768 + k.val) :
    (show Vec Ideal S4x1024x768 .bf16 from iblk m c 1 t) (ix3 z q k) = m ((c : Thread nD τ).loc main_arg1) (ix2 q l) := by
  have hN : t.val < 13 := lt_of_lt_of_eq t.isLt N_0
  blk_point [iblk, V, idx t]

/-- A load of one chip's columns. -/
theorem ldA (c : Dev nD) (t : Fin cfg0.N) (z : Fin 4) (o : ℕ) (inb) (p : Fin 640) (k : Fin 768) (i : Fin 8320)
    (hi : i.val = t.val * 640 + p.val) (l : Fin 3072) (hl : l.val = z.val * 768 + k.val) (ho : o = z.val * 768) :
    View.ld (iblk m c 0 t) (Rect.unit (s := S640x3072) ![0, o] ![640, 768] inb) (ix2 p k)
      = m ((c : Thread nD τ).loc main_arg0) (ix2 i l) := by
  refine (View.ld_unit_apply_of _ _ _ inb _ (ix2 p l) fun a => ?_).trans (blk0 m c t p l i hi)
  subst ho
  fin_cases a <;> simp [hl]

/-- A load of one chip's weights. -/
theorem ldW (X : Vec Ideal S4x1024x768 .bf16) (z : Fin 4) (inb) (q : Fin 1024) (k : Fin 768) :
    View.ld X (Rect.unit (s := S4x1024x768) ![z.val, 0, 0] ![1, 1024, 768] inb) (ix3 0 q k) = X (ix3 z q k) :=
  View.ld_unit_apply_of X _ _ inb _ (ix3 z q k) fun a => by fin_cases a <;> simp

/-- The reference's cotangent of the normalisation, of the kernel's arguments. -/
def DY (c : Dev nD) : LayerNormGrad.Rows := CDxRefIdeal.Read.val_main_v36 (F := Ideal)
  (m ((c : Thread nD τ).loc main_arg0)) (m ((c : Thread nD τ).loc main_arg1)) (m ((c : Thread nD τ).loc main_arg2))

/-- The kernel's cotangent at a point is the reference's at the point's rows. -/
theorem cot_eq (c : Dev nD) (t : Fin cfg0.N) (p : Fin 640) (q : Fin 1024) (i : Fin 8320) (hi : i.val = t.val * 640 + p.val) :
    cot m c t (ix2 p q) = DY m c (ix2 i q) := by
  have hN : t.val < 13 := lt_of_lt_of_eq t.isLt N_0
  refine (hpay8 _ _ p q).trans (Eq.trans ?_ (href36 _ _ _ i q).symm)
  refine congrArg₂ (· + ·) (congrArg (_ * ·) ?_) ?_
  · blk_point [iblk, V, idx t]
  · rw [part, hpay6, ← Sums.sum_four_stretches (n := 768) (by decide) (fun k : Fin 3072 => _ * _) _ _ _ _ (fun k hk => ?_)
      (fun k hk => ?_) (fun k hk => ?_) (fun k hk => ?_)]
    · simp only [dotb]
      rfl
    · exact congrArg₂ (· * ·) (ldA m c t 0 0 _ p k i hi _ (by simp) (by simp)) ((ldW _ 0 _ q k).trans (blk1 m c t 0 q k _ (by simp)))
    · exact congrArg₂ (· * ·) (ldA m c t 1 768 _ p k i hi _ (by simp) (by simp)) ((ldW _ 1 _ q k).trans (blk1 m c t 1 q k _ (by simp)))
    · exact congrArg₂ (· * ·) (ldA m c t 2 1536 _ p k i hi _ (by simp) (by simp)) ((ldW _ 2 _ q k).trans (blk1 m c t 2 q k _ (by simp)))
    · exact congrArg₂ (· * ·) (ldA m c t 3 2304 _ p k i hi _ (by simp) (by simp)) ((ldW _ 3 _ q k).trans (blk1 m c t 3 q k _ (by simp)))

/-- A point's contribution to the gradient of the shift. -/
def shift (c : Dev nD) (t : Fin cfg0.N) (y : S1x1024.Idx) : EReal := ∑ p : Fin 640, cot m c t (ix2 p (y 1))

/-- A point's contribution to the gradient of the gain. -/
def gain (c : Dev nD) (t : Fin cfg0.N) (y : S1x1024.Idx) : EReal :=
  ∑ p : Fin 640, cot m c t (ix2 p (y 1)) * LayerNorm.hat (fun k => (show Vec Ideal S640x1024 .f32 from iblk m c 3 t) (ix2 p k)) (y 1)

theorem shift_A (c : Dev nD) (t : Fin cfg0.N) (h : t.val % 13 = 0) (y : S1x1024.Idx) :
    (outsAt0 m c t.val t.isLt).2.2.2 y = 0 + shift m c t y := by
  rw [outsAt0_A m c t h]; frame_out
  exact (hpay3 _ _ _ y).trans (congrArg (· + _) (hpay5 y))

theorem shift_B (c : Dev nD) (t : Fin cfg0.N) (h : ¬ t.val % 13 = 0) (y : S1x1024.Idx) :
    (outsAt0 m c t.val t.isLt).2.2.2 y
      = (outsAt0 m c (t.val - 1) (Nat.lt_of_le_of_lt (Nat.sub_le _ _) t.isLt)).2.2.2 y + shift m c t y := by
  rw [outsAt0_B m c t h]; frame_out
  exact hpay3 _ _ _ y

theorem gain_A (c : Dev nD) (t : Fin cfg0.N) (h : t.val % 13 = 0) (y : S1x1024.Idx) :
    (outsAt0 m c t.val t.isLt).2.2.1 y = 0 + gain m c t y := by
  rw [outsAt0_A m c t h]; frame_out
  exact (hpay2 _ _ _ _ y).trans (congrArg (· + _) (hpay4 y))

theorem gain_B (c : Dev nD) (t : Fin cfg0.N) (h : ¬ t.val % 13 = 0) (y : S1x1024.Idx) :
    (outsAt0 m c t.val t.isLt).2.2.1 y
      = (outsAt0 m c (t.val - 1) (Nat.lt_of_le_of_lt (Nat.sub_le _ _) t.isLt)).2.2.1 y + gain m c t y := by
  rw [outsAt0_B m c t h]; frame_out
  exact hpay2 _ _ _ _ y

/-- The fourth result array of the kernel is the reference's gradient of the shift. -/
theorem final8 (c : Dev nD) : (dats m 0 c).arrAt 8 (cfgs 0).N = LayerNormGrad.byShift (DY m c) := by
  refine (dats m 0 c).arrAt_eq_of_covers 8 _ (by decide +kernel) fun t hf y => ?_
  blk_simp
  have hN : t.val < 13 := lt_of_lt_of_eq t.isLt N_0
  have hf' := (flush0_8 t).mp hf
  rw [after0_8, Pipeline.eq_sum_fin_of_reset_step_apply_of_flush (fun n h => (outsAt0 m c n h).2.2.2) 13 (fun _ => 0) (shift m c)
    (shift_A m c) (shift_B m c) t hf' y, zero_add]
  obtain_idx q : (⟨1, ![1024]⟩ : Shape) := [(y 1).val] with hq
  refine Eq.trans ?_ (LayerNormGrad.byShift_of _ _ (q 0) ?_).symm
  · refine Fin.sum_mul_add_congr fun s k hl => ?_
    refine (congrArg (cot m c _) (congrArg (ix2 k) (Fin.ext hq0.symm))).trans (cot_eq m c _ k (q 0) _ ?_)
    show s.val * 640 + k.val = (13 * (t.val / 13) + s.val) * 640 + k.val
    omega
  · blk_simp [idx t]
    exact hq0

/-- The third result array of the kernel is the reference's gradient of the gain. -/
theorem final7 (c : Dev nD) :
    (dats m 0 c).arrAt 7 (cfgs 0).N = LayerNormGrad.byGain (DY m c) (m ((c : Thread nD τ).loc main_arg3)) := by
  refine (dats m 0 c).arrAt_eq_of_covers 7 _ (by decide +kernel) fun t hf y => ?_
  blk_simp
  have hN : t.val < 13 := lt_of_lt_of_eq t.isLt N_0
  have hf' := (flush0_7 t).mp hf
  rw [after0_7, Pipeline.eq_sum_fin_of_reset_step_apply_of_flush (fun n h => (outsAt0 m c n h).2.2.1) 13 (fun _ => 0) (gain m c)
    (gain_A m c) (gain_B m c) t hf' y, zero_add]
  obtain_idx q : (⟨1, ![1024]⟩ : Shape) := [(y 1).val] with hq
  refine Eq.trans ?_ (LayerNormGrad.byGain_of _ _ _ (q 0) ?_).symm
  · refine Fin.sum_mul_add_congr fun s k hl => ?_
    have h0 : t.val / 13 = 0 := by omega
    have e : (y 1 : Fin 1024) = q 0 := Fin.ext hq0.symm
    refine congrArg₂ (· * ·) ((congrArg (cot m c _) (congrArg (ix2 k) e)).trans (cot_eq m c _ k (q 0) _ ?_))
      (congrArg₂ LayerNorm.hat (funext fun l => ?_) e)
    · show s.val * 640 + k.val = (13 * (t.val / 13) + s.val) * 640 + k.val
      omega
    · have e' := idx ⟨_, Pipeline.run_point_lt_of_flush t hf' s⟩
      blk_point [iblk, V, idx t, e']
  · blk_simp [idx t]
    exact hq0

/-- What the first two result arrays of the kernel hold at an entry. -/
theorem row_eq (c : Dev nD) (t : Fin cfg0.N) (p : Fin 640) (q : Fin 1024) (i : Fin 8320) (hi : i.val = t.val * 640 + p.val)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    k0_pay12 (part m c t) (k0_pay7 (iblk m c 2 t)) (iblk m c 3 t) (iblk m c 4 t) (ix2 p q)
      = LayerNormGrad.byRow (DY m c) (m ((c : Thread nD τ).loc main_arg3)) (m ((c : Thread nD τ).loc main_arg4)) (ix2 i q) := by
  have hN : t.val < 13 := lt_of_lt_of_eq t.isLt N_0
  refine (hpay12 _ _ _ _ p q).trans (Eq.trans ?_ (LayerNormGrad.byRow_at _ _ _ i q).symm)
  refine Eq.trans (congrArg₂ (fun d x => LayerNorm.short d x q) (funext fun k => congrArg₂ (· * ·) (cot_eq m c t p k i hi) ?_)
    (funext fun k => ?_)) (LayerNorm.short_eq_long _ _ (fun k => ?_) (fun k => h3 _) q)
  · blk_point [iblk, V, idx t]
  · blk_point [iblk, V, idx t]
  · obtain ⟨a, ha⟩ := LayerNorm.ofBits_alpha
    refine IsReal.mul ?_ (h4 _)
    rw [DY, href36]
    exact (ha ▸ (IsReal.coe a).mul (h2 _)).add (IsReal.sum _ fun l => (h0 _).mul (h1 _))

/-- The first result array of the kernel is the reference's where every argument is finite. -/
theorem final5 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    (dats m 0 c).arrAt 5 (cfgs 0).N
      = LayerNormGrad.byRow (DY m c) (m ((c : Thread nD τ).loc main_arg3)) (m ((c : Thread nD τ).loc main_arg4)) := by
  refine (dats m 0 c).arrAt_eq_of_covers 5 _ (by decide +kernel) fun t hf y => ?_
  blk_simp
  have hN : t.val < 13 := lt_of_lt_of_eq t.isLt N_0
  obtain_idx q : (⟨2, ![8320, 1024]⟩ : Shape) := [t.val * 640 + (y 0).val, (y 1).val] with hq
  rw [after0_5]
  refine Eq.trans ?_ ((row_eq m c t (y 0) (q 1) (q 0) hq0 h0 h1 h2 h3 h4).trans ?_)
  · have e : (y : S640x1024.Idx) = ix2 (y 0) (q 1) := by
      idx_bounds
      blk_ext
    by_cases h : t.val % 13 = 0
    · rw [outsAt0_A m c t h]; frame_out
      exact congrArg (k0_pay12 (part m c t) (k0_pay7 (iblk m c 2 t)) (iblk m c 3 t) (iblk m c 4 t)) e
    · rw [outsAt0_B m c t h]; frame_out
      exact congrArg (k0_pay12 (part m c t) (k0_pay7 (iblk m c 2 t)) (iblk m c 3 t) (iblk m c 4 t)) e
  · refine congrArg (LayerNormGrad.byRow (DY m c) _ _) ?_
    blk_point [idx t]

/-- The second result array of the kernel is the reference's where every argument is finite. -/
theorem final6 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    (dats m 0 c).arrAt 6 (cfgs 0).N
      = LayerNormGrad.byRow (DY m c) (m ((c : Thread nD τ).loc main_arg3)) (m ((c : Thread nD τ).loc main_arg4)) := by
  refine (dats m 0 c).arrAt_eq_of_covers 6 _ (by decide +kernel) fun t hf y => ?_
  blk_simp
  have hN : t.val < 13 := lt_of_lt_of_eq t.isLt N_0
  obtain_idx q : (⟨2, ![8320, 1024]⟩ : Shape) := [t.val * 640 + (y 0).val, (y 1).val] with hq
  rw [after0_6]
  refine Eq.trans ?_ ((row_eq m c t (y 0) (q 1) (q 0) hq0 h0 h1 h2 h3 h4).trans ?_)
  · have e : (y : S640x1024.Idx) = ix2 (y 0) (q 1) := by
      idx_bounds
      blk_ext
    by_cases h : t.val % 13 = 0
    · rw [outsAt0_A m c t h]; frame_out
      exact congrArg (k0_pay12 (part m c t) (k0_pay7 (iblk m c 2 t)) (iblk m c 3 t) (iblk m c 4 t)) e
    · rw [outsAt0_B m c t h]; frame_out
      exact congrArg (k0_pay12 (part m c t) (k0_pay7 (iblk m c 2 t)) (iblk m c 3 t) (iblk m c 4 t)) e
  · refine congrArg (LayerNormGrad.byRow (DY m c) _ _) ?_
    blk_point [idx t]

end Cert.CDxValue
-- ==== Proof.QDxValue.lean ====
/- The backward pass through the queries' projection and the layer normalisation before it: each result array that the
   kernel leaves is the reference's. -/
module

public import proofs.«01_k».proof.Proof.Gen.QDxIdeal.Value
public import proofs.«01_k».proof.Proof.Gen.QDxRefIdeal.Read
public import proofs.«01_k».proof.Proof.Sums
public import proofs.«01_k».proof.Proof.LayerNormGrad

@[expose] public section

set_option maxRecDepth 16384

noncomputable section

namespace Cert.QDxValue

open Idealize.ShloMosaic Idealize.ShloMosaic.TcCoe Idealize.SL.Sem
open Idealize.ShloMosaic.Pipeline (Dat)
open Cert.QDxIdeal Cert.QDxIdeal.Gen Cert.Finite

variable (m : (ℓ : Loc nD τ sig) → Buf (Elt Ideal) ℓ)

/-- The kernel's cotangent of the normalisation at an entry, the residual's part first. -/
theorem hpay7 (a : Vec Ideal S832x1024 .bf16) (w : Vec Ideal S1x1024x1024 .bf16) (dr : Vec Ideal S832x1024 .f32) (p : Fin 832) (q : Fin 1024) :
    k0_pay7 a w dr (ix2 p q) = Ideal.ofBits .f32 0x3FB504F3#32 * dr (ix2 p q) + ∑ k : Fin 1024, a (ix2 p k) * w (ix3 0 q k) := by
  pointwise [k0_pay7]

/-- The kernel's normalised row. -/
theorem hpay10 (r : Vec Ideal S832x1024 .f32) (p : Fin 832) (q : Fin 1024) :
    k0_pay10 r (ix2 p q) = LayerNorm.hat (fun k => r (ix2 p k)) q := by
  pointwise [k0_pay10, k0_pay9, k0_pay8, LayerNorm.hat, LayerNorm.rstd, LayerNorm.var, LayerNorm.mean, LayerNorm.cen]

/-- The gradient by the row that the kernel stores. -/
def rows (a : Vec Ideal S832x1024 .bf16) (w : Vec Ideal S1x1024x1024 .bf16) (dr r : Vec Ideal S832x1024 .f32)
    (g : Vec Ideal S1x1024 .f32) : FVec Ideal S832x1024 .f32 :=
  k0_pay1 (k0_pay9 r) (k0_pay10 r) (k0_pay11 a w dr g) (k0_pay12 a w dr g) k0_pay13

/-- The kernel's gradient by the row, at an entry. -/
theorem hrows (a : Vec Ideal S832x1024 .bf16) (w : Vec Ideal S1x1024x1024 .bf16) (dr r : Vec Ideal S832x1024 .f32)
    (g : Vec Ideal S1x1024 .f32) (p : Fin 832) (q : Fin 1024) :
    rows a w dr r g (ix2 p q) = LayerNorm.short (fun k => k0_pay7 a w dr (ix2 p k) * g (ix2 0 k)) (fun k => r (ix2 p k)) q := by
  pointwise [rows, k0_pay1, k0_pay11, k0_pay12, k0_pay13, hpay10, k0_pay9, k0_pay8, LayerNorm.short, LayerNorm.rstd, LayerNorm.var,
    LayerNorm.mean, LayerNorm.cen]

/-- The kernel's contribution of a point to the gradient of the gain. -/
theorem hpay3 (v : FVec Ideal S832x1024 .f32) (r : Vec Ideal S832x1024 .f32) (a : Vec Ideal S1x1024 .f32) (j : S1x1024.Idx) :
    k0_pay3 v (k0_pay10 r) a j = a j + ∑ p : Fin 832, v (ix2 p (j 1)) * LayerNorm.hat (fun k => r (ix2 p k)) (j 1) := by
  pointwise [k0_pay3, hpay10]

/-- The kernel's contribution of a point to the gradient of the shift. -/
theorem hpay4 (v : FVec Ideal S832x1024 .f32) (a : Vec Ideal S1x1024 .f32) (j : S1x1024.Idx) :
    k0_pay4 v a j = a j + ∑ p : Fin 832, v (ix2 p (j 1)) := by
  pointwise [k0_pay4]

theorem hpay5 (j : S1x1024.Idx) : k0_pay5 (F := Ideal) j = 0 := by
  pointwise [k0_pay5]

theorem hpay6 (j : S1x1024.Idx) : k0_pay6 (F := Ideal) j = 0 := by
  pointwise [k0_pay6]

open QDxRefIdeal.Read in
/-- The reference's cotangent of the normalisation. -/
theorem href36 (x0 : FVec Ideal QDxRefIdeal.S8320x1024 .f32) (x1 : FVec Ideal QDxRefIdeal.S1024x1024 .f32)
    (x2 : FVec Ideal QDxRefIdeal.S8320x1024 .f32) (i : Fin 8320) (q : Fin 1024) :
    val_main_v36 (F := Ideal) x0 x1 x2 (ix2 i q)
      = Ideal.ofBits .f32 0x3FB504F3#32 * x2 (ix2 i q) + ∑ k : Fin 1024, x0 (ix2 i k) * x1 (ix2 q k) := by
  pointwise [val_main_v36, val_main_v34, val_main_v33, val_main_cst_8, val_main_v35]

/-- The blocks of the windows at each point. -/
theorem idx : ∀ t : Fin cfg0.N, win0_0.index t = ![t.val, 0] ∧ win0_1.index t = ![0, 0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- The kernel's cotangent of the normalisation at point `t`. -/
def cot (c : Dev nD) (t : Fin cfg0.N) : FVec Ideal S832x1024 .f32 := k0_pay7 (iblk m c 0 t) (iblk m c 1 t) (iblk m c 2 t)

/-- The reference's cotangent of the normalisation, of the kernel's arguments. -/
def DY (c : Dev nD) : LayerNormGrad.Rows := QDxRefIdeal.Read.val_main_v36 (F := Ideal)
  (m ((c : Thread nD τ).loc main_arg0)) (m ((c : Thread nD τ).loc main_arg1)) (m ((c : Thread nD τ).loc main_arg2))

/-- The kernel's cotangent at a point is the reference's at the point's rows. -/
theorem cot_eq (c : Dev nD) (t : Fin cfg0.N) (p : Fin 832) (q : Fin 1024) (i : Fin 8320) (hi : i.val = t.val * 832 + p.val) :
    cot m c t (ix2 p q) = DY m c (ix2 i q) := by
  have hN : t.val < 10 := lt_of_lt_of_eq t.isLt N_0
  refine (hpay7 _ _ _ p q).trans (Eq.trans ?_ (href36 _ _ _ i q).symm)
  blk_point [iblk, V, idx t]

/-- A point's contribution to the gradient of the shift. -/
def shift (c : Dev nD) (t : Fin cfg0.N) (y : S1x1024.Idx) : EReal := ∑ p : Fin 832, cot m c t (ix2 p (y 1))

/-- A point's contribution to the gradient of the gain. -/
def gain (c : Dev nD) (t : Fin cfg0.N) (y : S1x1024.Idx) : EReal :=
  ∑ p : Fin 832, cot m c t (ix2 p (y 1)) * LayerNorm.hat (fun k => (show Vec Ideal S832x1024 .f32 from iblk m c 3 t) (ix2 p k)) (y 1)

theorem shift_A (c : Dev nD) (t : Fin cfg0.N) (h : t.val % 10 = 0) (y : S1x1024.Idx) :
    (outsAt0 m c t.val t.isLt).2.2.2 y = 0 + shift m c t y := by
  rw [outsAt0_A m c t h]; frame_out
  exact (hpay4 _ _ y).trans (congrArg (· + _) (hpay6 y))

theorem shift_B (c : Dev nD) (t : Fin cfg0.N) (h : ¬ t.val % 10 = 0) (y : S1x1024.Idx) :
    (outsAt0 m c t.val t.isLt).2.2.2 y
      = (outsAt0 m c (t.val - 1) (Nat.lt_of_le_of_lt (Nat.sub_le _ _) t.isLt)).2.2.2 y + shift m c t y := by
  rw [outsAt0_B m c t h]; frame_out
  exact hpay4 _ _ y

theorem gain_A (c : Dev nD) (t : Fin cfg0.N) (h : t.val % 10 = 0) (y : S1x1024.Idx) :
    (outsAt0 m c t.val t.isLt).2.2.1 y = 0 + gain m c t y := by
  rw [outsAt0_A m c t h]; frame_out
  exact (hpay3 _ _ _ y).trans (congrArg (· + _) (hpay5 y))

theorem gain_B (c : Dev nD) (t : Fin cfg0.N) (h : ¬ t.val % 10 = 0) (y : S1x1024.Idx) :
    (outsAt0 m c t.val t.isLt).2.2.1 y
      = (outsAt0 m c (t.val - 1) (Nat.lt_of_le_of_lt (Nat.sub_le _ _) t.isLt)).2.2.1 y + gain m c t y := by
  rw [outsAt0_B m c t h]; frame_out
  exact hpay3 _ _ _ y

/-- The fourth result array of the kernel is the reference's gradient of the shift. -/
theorem final8 (c : Dev nD) : (dats m 0 c).arrAt 8 (cfgs 0).N = LayerNormGrad.byShift (DY m c) := by
  refine (dats m 0 c).arrAt_eq_of_covers 8 _ (by decide +kernel) fun t hf y => ?_
  blk_simp
  have hN : t.val < 10 := lt_of_lt_of_eq t.isLt N_0
  have hf' := (flush0_8 t).mp hf
  rw [after0_8, Pipeline.eq_sum_fin_of_reset_step_apply_of_flush (fun n h => (outsAt0 m c n h).2.2.2) 10 (fun _ => 0) (shift m c)
    (shift_A m c) (shift_B m c) t hf' y, zero_add]
  obtain_idx q : (⟨1, ![1024]⟩ : Shape) := [(y 1).val] with hq
  refine Eq.trans ?_ (LayerNormGrad.byShift_of _ _ (q 0) ?_).symm
  · refine Fin.sum_mul_add_congr fun s k hl => ?_
    refine (congrArg (cot m c _) (congrArg (ix2 k) (Fin.ext hq0.symm))).trans (cot_eq m c _ k (q 0) _ ?_)
    show s.val * 832 + k.val = (10 * (t.val / 10) + s.val) * 832 + k.val
    omega
  · blk_simp [idx t]
    exact hq0

/-- The third result array of the kernel is the reference's gradient of the gain. -/
theorem final7 (c : Dev nD) :
    (dats m 0 c).arrAt 7 (cfgs 0).N = LayerNormGrad.byGain (DY m c) (m ((c : Thread nD τ).loc main_arg3)) := by
  refine (dats m 0 c).arrAt_eq_of_covers 7 _ (by decide +kernel) fun t hf y => ?_
  blk_simp
  have hN : t.val < 10 := lt_of_lt_of_eq t.isLt N_0
  have hf' := (flush0_7 t).mp hf
  rw [after0_7, Pipeline.eq_sum_fin_of_reset_step_apply_of_flush (fun n h => (outsAt0 m c n h).2.2.1) 10 (fun _ => 0) (gain m c)
    (gain_A m c) (gain_B m c) t hf' y, zero_add]
  obtain_idx q : (⟨1, ![1024]⟩ : Shape) := [(y 1).val] with hq
  refine Eq.trans ?_ (LayerNormGrad.byGain_of _ _ _ (q 0) ?_).symm
  · refine Fin.sum_mul_add_congr fun s k hl => ?_
    have h0 : t.val / 10 = 0 := by omega
    have e : (y 1 : Fin 1024) = q 0 := Fin.ext hq0.symm
    refine congrArg₂ (· * ·) ((congrArg (cot m c _) (congrArg (ix2 k) e)).trans (cot_eq m c _ k (q 0) _ ?_))
      (congrArg₂ LayerNorm.hat (funext fun l => ?_) e)
    · show s.val * 832 + k.val = (10 * (t.val / 10) + s.val) * 832 + k.val
      omega
    · have e' := idx ⟨_, Pipeline.run_point_lt_of_flush t hf' s⟩
      blk_point [iblk, V, idx t, e']
  · blk_simp [idx t]
    exact hq0

/-- What the first two result arrays of the kernel hold at an entry. -/
theorem row_eq (c : Dev nD) (t : Fin cfg0.N) (p : Fin 832) (q : Fin 1024) (i : Fin 8320) (hi : i.val = t.val * 832 + p.val)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    rows (iblk m c 0 t) (iblk m c 1 t) (iblk m c 2 t) (iblk m c 3 t) (iblk m c 4 t) (ix2 p q)
      = LayerNormGrad.byRow (DY m c) (m ((c : Thread nD τ).loc main_arg3)) (m ((c : Thread nD τ).loc main_arg4)) (ix2 i q) := by
  have hN : t.val < 10 := lt_of_lt_of_eq t.isLt N_0
  refine (hrows _ _ _ _ _ p q).trans (Eq.trans ?_ (LayerNormGrad.byRow_at _ _ _ i q).symm)
  refine Eq.trans (congrArg₂ (fun d x => LayerNorm.short d x q) (funext fun k => congrArg₂ (· * ·) (cot_eq m c t p k i hi) ?_)
    (funext fun k => ?_)) (LayerNorm.short_eq_long _ _ (fun k => ?_) (fun k => h3 _) q)
  · blk_point [iblk, V, idx t]
  · blk_point [iblk, V, idx t]
  · obtain ⟨a, ha⟩ := LayerNorm.ofBits_alpha
    refine IsReal.mul ?_ (h4 _)
    rw [DY, href36]
    exact (ha ▸ (IsReal.coe a).mul (h2 _)).add (IsReal.sum _ fun l => (h0 _).mul (h1 _))

/-- The first result array of the kernel is the reference's where every argument is finite. -/
theorem final5 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    (dats m 0 c).arrAt 5 (cfgs 0).N
      = LayerNormGrad.byRow (DY m c) (m ((c : Thread nD τ).loc main_arg3)) (m ((c : Thread nD τ).loc main_arg4)) := by
  refine (dats m 0 c).arrAt_eq_of_covers 5 _ (by decide +kernel) fun t hf y => ?_
  blk_simp
  have hN : t.val < 10 := lt_of_lt_of_eq t.isLt N_0
  obtain_idx q : (⟨2, ![8320, 1024]⟩ : Shape) := [t.val * 832 + (y 0).val, (y 1).val] with hq
  rw [after0_5]
  refine Eq.trans ?_ ((row_eq m c t (y 0) (q 1) (q 0) hq0 h0 h1 h2 h3 h4).trans ?_)
  · have e : (y : S832x1024.Idx) = ix2 (y 0) (q 1) := by
      idx_bounds
      blk_ext
    by_cases h : t.val % 10 = 0
    · rw [outsAt0_A m c t h]; frame_out
      exact congrArg (rows (iblk m c 0 t) (iblk m c 1 t) (iblk m c 2 t) (iblk m c 3 t) (iblk m c 4 t)) e
    · rw [outsAt0_B m c t h]; frame_out
      exact congrArg (rows (iblk m c 0 t) (iblk m c 1 t) (iblk m c 2 t) (iblk m c 3 t) (iblk m c 4 t)) e
  · refine congrArg (LayerNormGrad.byRow (DY m c) _ _) ?_
    blk_point [idx t]

/-- The second result array of the kernel is the reference's where every argument is finite. -/
theorem final6 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    (dats m 0 c).arrAt 6 (cfgs 0).N
      = LayerNormGrad.byRow (DY m c) (m ((c : Thread nD τ).loc main_arg3)) (m ((c : Thread nD τ).loc main_arg4)) := by
  refine (dats m 0 c).arrAt_eq_of_covers 6 _ (by decide +kernel) fun t hf y => ?_
  blk_simp
  have hN : t.val < 10 := lt_of_lt_of_eq t.isLt N_0
  obtain_idx q : (⟨2, ![8320, 1024]⟩ : Shape) := [t.val * 832 + (y 0).val, (y 1).val] with hq
  rw [after0_6]
  refine Eq.trans ?_ ((row_eq m c t (y 0) (q 1) (q 0) hq0 h0 h1 h2 h3 h4).trans ?_)
  · have e : (y : S832x1024.Idx) = ix2 (y 0) (q 1) := by
      idx_bounds
      blk_ext
    by_cases h : t.val % 10 = 0
    · rw [outsAt0_A m c t h]; frame_out
      exact congrArg (rows (iblk m c 0 t) (iblk m c 1 t) (iblk m c 2 t) (iblk m c 3 t) (iblk m c 4 t)) e
    · rw [outsAt0_B m c t h]; frame_out
      exact congrArg (rows (iblk m c 0 t) (iblk m c 1 t) (iblk m c 2 t) (iblk m c 3 t) (iblk m c 4 t)) e
  · refine congrArg (LayerNormGrad.byRow (DY m c) _ _) ?_
    blk_point [idx t]

end Cert.QDxValue
-- ==== Proof.KvDxValue.lean ====
/- The backward pass through the keys', values' and forget gates' projection and the layer normalisation before it: each
   result array that the kernel leaves is the reference's. -/
module

public import proofs.«01_k».proof.Proof.Gen.KvDxIdeal.Value
public import proofs.«01_k».proof.Proof.Gen.KvDxRefIdeal.Read
public import proofs.«01_k».proof.Proof.Sums
public import proofs.«01_k».proof.Proof.LayerNormGrad
public import proofs.«01_k».proof.Proof.Lanes

@[expose] public section

set_option maxRecDepth 16384

noncomputable section

namespace Cert.KvDxValue

open Idealize.ShloMosaic Idealize.ShloMosaic.TcCoe Idealize.SL.Sem
open Idealize.ShloMosaic.Pipeline (Dat)
open Cert.KvDxIdeal Cert.KvDxIdeal.Gen Cert.Finite

variable (m : (ℓ : Loc nD τ sig) → Buf (Elt Ideal) ℓ)

/-- The bit pattern of one. -/
theorem ofBits_one : Ideal.ofBits .f32 0x3F800000#32 = 1 := by
  simp [Ideal.ofBits, Ideal.ieee, -EReal.coe_mul]; norm_num

/-- The kernel's cotangent of the normalisation at an entry, the residual's part first. -/
theorem hpay5 (a : Vec Ideal S832x1024 .f32) (u : Vec Ideal S1x1024x1024 .bf16) (b : Vec Ideal S832x1024 .f32)
    (v : Vec Ideal S1x1024x1024 .bf16) (d : Vec Ideal S832x128 .f32) (w : Vec Ideal S1x1024x128 .bf16)
    (dr : Vec Ideal S832x1024 .f32) (p : Fin 832) (q : Fin 1024) :
    k0_pay5 a u b v d w dr (ix2 p q) = Ideal.ofBits .f32 0x3F800000#32 * dr (ix2 p q)
      + ((∑ k : Fin 1024, a (ix2 p k) * u (ix3 0 q k)) + (∑ k : Fin 1024, b (ix2 p k) * v (ix3 0 q k))
        + ∑ k : Fin 128, d (ix2 p k) * w (ix3 0 q k)) := by
  pointwise [k0_pay5]

/-- The kernel's normalised row. -/
theorem hpay10 (r : Vec Ideal S832x1024 .f32) (p : Fin 832) (q : Fin 1024) :
    k0_pay10 r (k0_pay7 r) (ix2 p q) = LayerNorm.hat (fun k => r (ix2 p k)) q := by
  pointwise [k0_pay10, k0_pay9, k0_pay8, k0_pay7, LayerNorm.hat, LayerNorm.rstd, LayerNorm.var, LayerNorm.mean, LayerNorm.cen]

/-- The gradient by the row that the kernel stores. -/
def rows (v : FVec Ideal S832x1024 .f32) (r : Vec Ideal S832x1024 .f32) (g : Vec Ideal S1x1024 .f32) : FVec Ideal S832x1024 .f32 :=
  k0_pay11 v r (k0_pay6 g) (k0_pay7 r)

/-- The kernel's gradient by the row, at an entry. -/
theorem hrows (v : FVec Ideal S832x1024 .f32) (r : Vec Ideal S832x1024 .f32) (g : Vec Ideal S1x1024 .f32) (p : Fin 832) (q : Fin 1024) :
    rows v r g (ix2 p q) = LayerNorm.short (fun k => v (ix2 p k) * g (ix2 0 k)) (fun k => r (ix2 p k)) q := by
  pointwise [rows, k0_pay11, k0_pay6, k0_pay10, LayerNorm.hat, LayerNorm.cen, k0_pay9, k0_pay8, k0_pay7, LayerNorm.short, LayerNorm.rstd, LayerNorm.var,
    LayerNorm.mean, LayerNorm.cen]

/-- The kernel's contribution of a point to the gradient of the gain. -/
theorem hpay1 (v : FVec Ideal S832x1024 .f32) (r : Vec Ideal S832x1024 .f32) (a : Vec Ideal S1x1024 .f32) (j : S1x1024.Idx) :
    k0_pay1 (k0_pay12 v r (k0_pay7 r)) (k0_pay15 a) j
      = a j + ∑ p : Fin 832, v (ix2 p (j 1)) * LayerNorm.hat (fun k => r (ix2 p k)) (j 1) := by
  pointwise [k0_pay1, k0_pay12, k0_pay15, hpay10]

/-- The kernel's contribution of a point to the gradient of the shift. -/
theorem hpay2 (v : FVec Ideal S832x1024 .f32) (a : Vec Ideal S1x1024 .f32) (j : S1x1024.Idx) :
    k0_pay2 (k0_pay13 v) a j = a j + ∑ p : Fin 832, v (ix2 p (j 1)) := by
  pointwise [k0_pay2, k0_pay13]

theorem hpay3 (j : S1x1024.Idx) : k0_pay3 (F := Ideal) j = 0 := by
  pointwise [k0_pay3]

theorem hpay4 (j : S1x1024.Idx) : k0_pay4 (F := Ideal) j = 0 := by
  pointwise [k0_pay4]

open KvDxRefIdeal.Read in
/-- The three cotangents side by side: the first. -/
theorem href0a (x0 x1 : FVec Ideal KvDxRefIdeal.S8320x1024 .f32) (x2 : FVec Ideal KvDxRefIdeal.S8320x8 .f32)
    (k : Fin 8320) (l : Fin 2056) (q : Fin 1024) (hq : l.val = q.val) :
    val_main_v0 (F := Ideal) x0 x1 x2 (ix2 k l) = x0 (ix2 k q) := by
  unfold val_main_v0
  refine concatenate_apply_piece (t := KvDxRefIdeal.S8320x2056) 1 [⟨KvDxRefIdeal.S8320x1024, x0⟩, ⟨KvDxRefIdeal.S8320x1024, x1⟩, ⟨KvDxRefIdeal.S8320x8, x2⟩] _ _ 0 (by simp) _ x0 rfl rfl 0 rfl
    (ix2 k q) (fun b hb => ?_) ?_
  · match b, hb with
    | ⟨0, _⟩, _ => rfl
    | ⟨1, _⟩, hb => exact absurd rfl hb
  · show 0 + q.val = l.val
    omega

open KvDxRefIdeal.Read in
/-- The three cotangents side by side: the second. -/
theorem href0b (x0 x1 : FVec Ideal KvDxRefIdeal.S8320x1024 .f32) (x2 : FVec Ideal KvDxRefIdeal.S8320x8 .f32)
    (k : Fin 8320) (l : Fin 2056) (q : Fin 1024) (hq : l.val = 1024 + q.val) :
    val_main_v0 (F := Ideal) x0 x1 x2 (ix2 k l) = x1 (ix2 k q) := by
  unfold val_main_v0
  refine concatenate_apply_piece (t := KvDxRefIdeal.S8320x2056) 1 [⟨KvDxRefIdeal.S8320x1024, x0⟩, ⟨KvDxRefIdeal.S8320x1024, x1⟩, ⟨KvDxRefIdeal.S8320x8, x2⟩] _ _ 1 (by simp) _ x1 rfl rfl 1024 rfl
    (ix2 k q) (fun b hb => ?_) ?_
  · match b, hb with
    | ⟨0, _⟩, _ => rfl
    | ⟨1, _⟩, hb => exact absurd rfl hb
  · show 1024 + q.val = l.val
    omega

open KvDxRefIdeal.Read in
/-- The three cotangents side by side: the third. -/
theorem href0c (x0 x1 : FVec Ideal KvDxRefIdeal.S8320x1024 .f32) (x2 : FVec Ideal KvDxRefIdeal.S8320x8 .f32)
    (k : Fin 8320) (l : Fin 2056) (q : Fin 8) (hq : l.val = 2048 + q.val) :
    val_main_v0 (F := Ideal) x0 x1 x2 (ix2 k l) = x2 (ix2 k q) := by
  unfold val_main_v0
  refine concatenate_apply_piece (t := KvDxRefIdeal.S8320x2056) 1 [⟨KvDxRefIdeal.S8320x1024, x0⟩, ⟨KvDxRefIdeal.S8320x1024, x1⟩, ⟨KvDxRefIdeal.S8320x8, x2⟩] _ _ 2 (by simp) _ x2 rfl rfl 2048 rfl
    (ix2 k q) (fun b hb => ?_) ?_
  · match b, hb with
    | ⟨0, _⟩, _ => rfl
    | ⟨1, _⟩, hb => exact absurd rfl hb
  · show 2048 + q.val = l.val
    omega

/-- The first, second and third columns of the projection. -/
abbrev ka (k : Fin 1024) : Fin 2056 := ⟨k.val, by omega⟩
abbrev kb (k : Fin 1024) : Fin 2056 := ⟨1024 + k.val, by omega⟩
abbrev kc (k : Fin 8) : Fin 2056 := ⟨2048 + k.val, by omega⟩

/-- A sum over all the columns of the projection, stretch by stretch. -/
theorem sum_columns (f : Fin 2056 → EReal) : ∑ k, f k = (∑ k, f (ka k)) + (∑ k, f (kb k)) + ∑ k, f (kc k) := by
  have e := Fin.sum_univ_add (a := 2048) (b := 8) f
  have e' := Fin.sum_univ_add (a := 1024) (b := 1024) fun k => f (Fin.castAdd 8 k)
  rw [e, e']
  rfl

open KvDxRefIdeal.Read in
/-- The reference's cotangent of the normalisation. -/
theorem href33 (x0 x1 : FVec Ideal KvDxRefIdeal.S8320x1024 .f32) (x2 : FVec Ideal KvDxRefIdeal.S8320x8 .f32)
    (x3 : FVec Ideal KvDxRefIdeal.S1024x2056 .f32) (x4 : FVec Ideal KvDxRefIdeal.S8320x1024 .f32)
    (i : Fin 8320) (q : Fin 1024) :
    val_main_v33 (F := Ideal) x0 x1 x2 x3 x4 (ix2 i q) = x4 (ix2 i q)
      + ((∑ k : Fin 1024, x0 (ix2 i k) * x3 (ix2 q (ka k))) + (∑ k : Fin 1024, x1 (ix2 i k) * x3 (ix2 q (kb k)))
        + ∑ k : Fin 8, x2 (ix2 i k) * x3 (ix2 q (kc k))) := by
  refine (val_main_v33_apply _ _ _ _ _ _).trans (congrArg (_ + ·) ((val_main_v32_apply _ _ _ _ _).trans ?_))
  refine Eq.trans (Finset.sum_congr rfl fun k _ => ?_) ((sum_columns fun k =>
    val_main_v0 (F := Ideal) x0 x1 x2 (ix2 i k) * x3 (ix2 q k)).trans ?_)
  · refine congrArg₂ (· * ·) (congrArg (val_main_v0 (F := Ideal) x0 x1 x2) ?_) (congrArg x3 ?_)
    · idx_bounds; blk_ext
    · idx_bounds; blk_ext
  · exact congrArg₂ (· + ·) (congrArg₂ (· + ·)
      (Finset.sum_congr rfl fun k _ => congrArg (· * _) (href0a x0 x1 x2 i _ k rfl))
      (Finset.sum_congr rfl fun k _ => congrArg (· * _) (href0b x0 x1 x2 i _ k rfl)))
      (Finset.sum_congr rfl fun k _ => congrArg (· * _) (href0c x0 x1 x2 i _ k rfl))

open KvDxRefIdeal.Read in
theorem href34 (x0 x1 : FVec Ideal KvDxRefIdeal.S8320x1024 .f32) (x2 : FVec Ideal KvDxRefIdeal.S8320x8 .f32)
    (x3 : FVec Ideal KvDxRefIdeal.S1024x2056 .f32) (x4 : FVec Ideal KvDxRefIdeal.S8320x1024 .f32) :
    val_main_v34 (F := Ideal) x0 x1 x2 x3 x4 = val_main_v33 (F := Ideal) x0 x1 x2 x3 x4 := by
  funext i
  rw [val_main_v34_apply]
  refine congrArg (val_main_v33 (F := Ideal) x0 x1 x2 x3 x4) ?_
  idx_bounds; blk_ext

/-- The blocks of the windows at each point. -/
theorem idx : ∀ t : Fin cfg0.N, win0_0.index t = ![t.val, 0] ∧ win0_1.index t = ![0, 0, 0]
    ∧ win0_2.index t = ![t.val, 0] ∧ win0_3.index t = ![0, 0, 0] ∧ win0_4.index t = ![t.val, 0] ∧ win0_5.index t = ![0, 0, 0]
    ∧ win0_6.index t = ![t.val, 0] ∧ win0_7.index t = ![t.val, 0] ∧ win0_8.index t = ![0, 0]
    ∧ win0_9.index t = ![t.val, 0] ∧ win0_10.index t = ![t.val, 0] ∧ win0_11.index t = ![0, 0] ∧ win0_12.index t = ![0, 0] :=
  (by decide +kernel : ∀ t : Fin grid0.N, _)

/-- The padded cotangent's block of a point, at one of the first eight columns. -/
theorem blk4_in (c : Dev nD) (t : Fin cfg0.N) (p : Fin 832) (l : Fin 128) (q : Fin 8) (hq : l.val = q.val) (i : Fin 8320)
    (hi : i.val = t.val * 832 + p.val) :
    (show Vec Ideal S832x128 .f32 from iblk m c 4 t) (ix2 p l) = m ((c : Thread nD τ).loc main_arg2) (ix2 i q) := by
  have hN : t.val < 10 := lt_of_lt_of_eq t.isLt N_0
  refine Eq.trans ?_ (Lanes.pad_inside _ (sitofp .f32 (constantI S_ 32 0#32) : FVec Ideal S_ .f32) pads_S8320x8_S8320x128_000_01200 h_S_ i q l hq)
  blk_point [iblk, V, idx t]

/-- The padded cotangent's block of a point, at a later column. -/
theorem blk4_out (c : Dev nD) (t : Fin cfg0.N) (p : Fin 832) (l : Fin 128) (hq : 8 ≤ l.val) :
    (show Vec Ideal S832x128 .f32 from iblk m c 4 t) (ix2 p l) = (0 : EReal) := by
  have hN : t.val < 10 := lt_of_lt_of_eq t.isLt N_0
  obtain_idx i : (⟨1, ![8320]⟩ : Shape) := [t.val * 832 + p.val] with hi
  refine Eq.trans ?_ ((Lanes.pad_outside (m ((c : Thread nD τ).loc main_arg2)) (sitofp .f32 (constantI S_ 32 0#32) : FVec Ideal S_ .f32)
    pads_S8320x8_S8320x128_000_01200 h_S_ (i 0) l hq).trans Lanes.sitofp_zero)
  blk_point [iblk, V, idx t]

/-- The keys' columns of the projection, as the kernel takes them. -/
theorem first (X : FVec Ideal S1024x2056 .f32) (hs) (hb) (q k : Fin 1024) :
    broadcastInDim S1x1024x1024 ![1, 2] hb (extractStridedSlice S1024x1024 ![0, 0] (truncf .bf16 X bitsLt_bf16_f32) hs) (ix3 0 q k)
      = X (ix2 q (ka k)) := by
  pointwise []

/-- The values' columns of the projection, as the kernel takes them. -/
theorem second (X : FVec Ideal S1024x2056 .f32) (hs) (hb) (q k : Fin 1024) :
    broadcastInDim S1x1024x1024 ![1, 2] hb (extractStridedSlice S1024x1024 ![0, 1024] (truncf .bf16 X bitsLt_bf16_f32) hs) (ix3 0 q k)
      = X (ix2 q (kb k)) := by
  pointwise []

/-- The forget gates' columns of the projection before the padding. -/
def third (X : FVec Ideal S1024x2056 .f32) : FVec Ideal S1024x8 .bf16 :=
  extractStridedSlice S1024x8 ![0, 2048] (truncf .bf16 X bitsLt_bf16_f32) slices_S1024x2056_S1024x8_0_2048

theorem third_at (X : FVec Ideal S1024x2056 .f32) (p : Fin 1024) (q : Fin 8) : third X (ix2 p q) = X (ix2 p (kc q)) := by
  pointwise [third]

/-- The padded columns as the kernel takes them. -/
theorem padded (X : FVec Ideal S1024x128 .bf16) (hb) (p : Fin 1024) (l : Fin 128) :
    broadcastInDim S1x1024x128 ![1, 2] hb X (ix3 0 p l) = X (ix2 p l) := by
  pointwise []

/-- The gain as the kernel takes it. -/
theorem fourth (X : FVec Ideal S1024 .f32) (h) (k : Fin 1024) : shapeCast S1x1024 X h (ix2 0 k) = X (ix1 k) := by
  pointwise []

/-- The weights' blocks of a point, entry by entry. -/
theorem blk1 (c : Dev nD) (t : Fin cfg0.N) (q k : Fin 1024) :
    (show Vec Ideal S1x1024x1024 .bf16 from iblk m c 1 t) (ix3 0 q k) = m ((c : Thread nD τ).loc main_arg3) (ix2 q (ka k)) := by
  refine Eq.trans ?_ (first (m ((c : Thread nD τ).loc main_arg3)) slices_S1024x2056_S1024x1024_0_0 bcast_S1024x1024_S1x1024x1024_1_2 q k)
  blk_point [iblk, V, idx t]

theorem blk3 (c : Dev nD) (t : Fin cfg0.N) (q k : Fin 1024) :
    (show Vec Ideal S1x1024x1024 .bf16 from iblk m c 3 t) (ix3 0 q k) = m ((c : Thread nD τ).loc main_arg3) (ix2 q (kb k)) := by
  refine Eq.trans ?_ (second (m ((c : Thread nD τ).loc main_arg3)) slices_S1024x2056_S1024x1024_0_1024 bcast_S1024x1024_S1x1024x1024_1_2 q k)
  blk_point [iblk, V, idx t]

/-- The gain's block of a point, entry by entry. -/
theorem blk8 (c : Dev nD) (t : Fin cfg0.N) (k : Fin 1024) :
    (show Vec Ideal S1x1024 .f32 from iblk m c 8 t) (ix2 0 k) = m ((c : Thread nD τ).loc main_arg6) (ix1 k) := by
  refine Eq.trans ?_ (fourth (m ((c : Thread nD τ).loc main_arg6)) shapeCasts_S1024_S1x1024 k)
  blk_point [iblk, V, idx t]

/-- The padded weights' block, at one of the first eight columns. -/
theorem blk5 (c : Dev nD) (t : Fin cfg0.N) (p : Fin 1024) (l : Fin 128) (q : Fin 8) (hq : l.val = q.val) :
    (show Vec Ideal S1x1024x128 .bf16 from iblk m c 5 t) (ix3 0 p l) = m ((c : Thread nD τ).loc main_arg3) (ix2 p (kc q)) := by
  have hN : t.val < 10 := lt_of_lt_of_eq t.isLt N_0
  refine Eq.trans ?_ ((Lanes.pad_inside (third (m ((c : Thread nD τ).loc main_arg3)))
    (sitofp .bf16 (constantI S_ 32 0#32) : FVec Ideal S_ .bf16) pads_S1024x8_S1024x128_000_01200 h_S_ p q l hq).trans (third_at _ p q))
  refine Eq.trans ?_ (padded _ bcast_S1024x128_S1x1024x128_1_2 p l)
  blk_point [iblk, V, idx t]

/-- A sum over the 128 columns of the padded cotangent is over the first eight. -/
theorem sum_lanes (f : Fin 128 → EReal) (g : Fin 8 → EReal) (h : ∀ l q, l.val = q.val → f l = g q) (h0 : ∀ l, 8 ≤ l.val → f l = 0) :
    ∑ l, f l = ∑ q, g q := by
  rw [show ∑ l, f l = (∑ q, f (Fin.castAdd 120 q)) + ∑ l : Fin 120, f (Fin.natAdd 8 l) from Fin.sum_univ_add (a := 8) (b := 120) f,
    Finset.sum_eq_zero (M := EReal) (f := fun l : Fin 120 => f (Fin.natAdd 8 l)) fun l _ => h0 _ (Nat.le_add_right 8 l.val), add_zero]
  exact Finset.sum_congr rfl fun q _ => h _ _ rfl

/-- The kernel's cotangent of the normalisation at point `t`. -/
def cot (c : Dev nD) (t : Fin cfg0.N) : FVec Ideal S832x1024 .f32 :=
  k0_pay5 (iblk m c 0 t) (iblk m c 1 t) (iblk m c 2 t) (iblk m c 3 t) (iblk m c 4 t) (iblk m c 5 t) (iblk m c 6 t)

/-- The reference's cotangent of the normalisation, of the kernel's arguments. -/
def DY (c : Dev nD) : LayerNormGrad.Rows := KvDxRefIdeal.Read.val_main_v34 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

/-- The kernel's cotangent at a point is the reference's at the point's rows. -/
theorem cot_eq (c : Dev nD) (t : Fin cfg0.N) (p : Fin 832) (q : Fin 1024) (i : Fin 8320) (hi : i.val = t.val * 832 + p.val) :
    cot m c t (ix2 p q) = DY m c (ix2 i q) := by
  have hN : t.val < 10 := lt_of_lt_of_eq t.isLt N_0
  rw [DY, href34]
  refine (hpay5 _ _ _ _ _ _ _ p q).trans (Eq.trans ?_ (href33 _ _ _ _ _ i q).symm)
  rw [ofBits_one, one_mul]
  refine congrArg₂ (· + ·) ?_ (congrArg₂ (· + ·) (congrArg₂ (· + ·)
    (Finset.sum_congr rfl fun k _ => congrArg₂ (· * ·) ?_ (blk1 m c t q k))
    (Finset.sum_congr rfl fun k _ => congrArg₂ (· * ·) ?_ (blk3 m c t q k))) (sum_lanes _ _ (fun l k h => ?_) fun l h => ?_))
  · blk_point [iblk, V, idx t]
  · blk_point [iblk, V, idx t]
  · blk_point [iblk, V, idx t]
  · exact congrArg₂ (· * ·) (blk4_in m c t p l k h i hi) (blk5 m c t q l k h)
  · exact (congrArg (· * _) (blk4_out m c t p l h)).trans (zero_mul _)

/-- A point's contribution to the gradient of the shift. -/
def shift (c : Dev nD) (t : Fin cfg0.N) (y : S1x1024.Idx) : EReal := ∑ p : Fin 832, cot m c t (ix2 p (y 1))

/-- A point's contribution to the gradient of the gain. -/
def gain (c : Dev nD) (t : Fin cfg0.N) (y : S1x1024.Idx) : EReal :=
  ∑ p : Fin 832, cot m c t (ix2 p (y 1)) * LayerNorm.hat (fun k => (show Vec Ideal S832x1024 .f32 from iblk m c 7 t) (ix2 p k)) (y 1)

theorem shift_A (c : Dev nD) (t : Fin cfg0.N) (h : t.val % 10 = 0) (y : S1x1024.Idx) :
    (outsAt0 m c t.val t.isLt).2.2.2 y = 0 + shift m c t y := by
  rw [outsAt0_A m c t h]; frame_out
  exact (hpay2 _ _ y).trans (congrArg (· + _) (hpay4 y))

theorem shift_B (c : Dev nD) (t : Fin cfg0.N) (h : ¬ t.val % 10 = 0) (y : S1x1024.Idx) :
    (outsAt0 m c t.val t.isLt).2.2.2 y
      = (outsAt0 m c (t.val - 1) (Nat.lt_of_le_of_lt (Nat.sub_le _ _) t.isLt)).2.2.2 y + shift m c t y := by
  rw [outsAt0_B m c t h]; frame_out
  exact hpay2 _ _ y

theorem gain_A (c : Dev nD) (t : Fin cfg0.N) (h : t.val % 10 = 0) (y : S1x1024.Idx) :
    (outsAt0 m c t.val t.isLt).2.2.1 y = 0 + gain m c t y := by
  rw [outsAt0_A m c t h]; frame_out
  exact (hpay1 _ _ _ y).trans (congrArg (· + _) (hpay3 y))

theorem gain_B (c : Dev nD) (t : Fin cfg0.N) (h : ¬ t.val % 10 = 0) (y : S1x1024.Idx) :
    (outsAt0 m c t.val t.isLt).2.2.1 y
      = (outsAt0 m c (t.val - 1) (Nat.lt_of_le_of_lt (Nat.sub_le _ _) t.isLt)).2.2.1 y + gain m c t y := by
  rw [outsAt0_B m c t h]; frame_out
  exact hpay1 _ _ _ y

/-- The fourth result array of the kernel is the reference's gradient of the shift. -/
theorem final12 (c : Dev nD) : (dats m 0 c).arrAt 12 (cfgs 0).N = LayerNormGrad.byShift (DY m c) := by
  refine (dats m 0 c).arrAt_eq_of_covers 12 _ (by decide +kernel) fun t hf y => ?_
  blk_simp
  have hN : t.val < 10 := lt_of_lt_of_eq t.isLt N_0
  have hf' := (flush0_12 t).mp hf
  rw [after0_12, Pipeline.eq_sum_fin_of_reset_step_apply_of_flush (fun n h => (outsAt0 m c n h).2.2.2) 10 (fun _ => 0) (shift m c)
    (shift_A m c) (shift_B m c) t hf' y, zero_add]
  obtain_idx q : (⟨1, ![1024]⟩ : Shape) := [(y 1).val] with hq
  refine Eq.trans ?_ (LayerNormGrad.byShift_of _ _ (q 0) ?_).symm
  · refine Fin.sum_mul_add_congr fun s k hl => ?_
    refine (congrArg (cot m c _) (congrArg (ix2 k) (Fin.ext hq0.symm))).trans (cot_eq m c _ k (q 0) _ ?_)
    show s.val * 832 + k.val = (10 * (t.val / 10) + s.val) * 832 + k.val
    omega
  · blk_simp [idx t]
    exact hq0

/-- The third result array of the kernel is the reference's gradient of the gain. -/
theorem final11 (c : Dev nD) :
    (dats m 0 c).arrAt 11 (cfgs 0).N = LayerNormGrad.byGain (DY m c) (m ((c : Thread nD τ).loc main_arg5)) := by
  refine (dats m 0 c).arrAt_eq_of_covers 11 _ (by decide +kernel) fun t hf y => ?_
  blk_simp
  have hN : t.val < 10 := lt_of_lt_of_eq t.isLt N_0
  have hf' := (flush0_11 t).mp hf
  rw [after0_11, Pipeline.eq_sum_fin_of_reset_step_apply_of_flush (fun n h => (outsAt0 m c n h).2.2.1) 10 (fun _ => 0) (gain m c)
    (gain_A m c) (gain_B m c) t hf' y, zero_add]
  obtain_idx q : (⟨1, ![1024]⟩ : Shape) := [(y 1).val] with hq
  refine Eq.trans ?_ (LayerNormGrad.byGain_of _ _ _ (q 0) ?_).symm
  · refine Fin.sum_mul_add_congr fun s k hl => ?_
    have h0 : t.val / 10 = 0 := by omega
    have e : (y 1 : Fin 1024) = q 0 := Fin.ext hq0.symm
    refine congrArg₂ (· * ·) ((congrArg (cot m c _) (congrArg (ix2 k) e)).trans (cot_eq m c _ k (q 0) _ ?_))
      (congrArg₂ LayerNorm.hat (funext fun l => ?_) e)
    · show s.val * 832 + k.val = (10 * (t.val / 10) + s.val) * 832 + k.val
      omega
    · have e' := idx ⟨_, Pipeline.run_point_lt_of_flush t hf' s⟩
      blk_point [iblk, V, idx t, e']
  · blk_simp [idx t]
    exact hq0

/-- What the first two result arrays of the kernel hold at an entry. -/
theorem row_eq (c : Dev nD) (t : Fin cfg0.N) (p : Fin 832) (q : Fin 1024) (i : Fin 8320) (hi : i.val = t.val * 832 + p.val)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    rows (cot m c t) (iblk m c 7 t) (iblk m c 8 t) (ix2 p q)
      = LayerNormGrad.byRow (DY m c) (m ((c : Thread nD τ).loc main_arg5)) (m ((c : Thread nD τ).loc main_arg6)) (ix2 i q) := by
  have hN : t.val < 10 := lt_of_lt_of_eq t.isLt N_0
  refine (hrows _ _ _ p q).trans (Eq.trans ?_ (LayerNormGrad.byRow_at _ _ _ i q).symm)
  refine Eq.trans (congrArg₂ (fun d x => LayerNorm.short d x q) (funext fun k => congrArg₂ (· * ·) (cot_eq m c t p k i hi) ?_)
    (funext fun k => ?_)) (LayerNorm.short_eq_long _ _ (fun k => ?_) (fun k => h5 _) q)
  · exact blk8 m c t k
  · blk_point [iblk, V, idx t]
  · refine IsReal.mul ?_ (h6 _)
    rw [DY, href34, href33]
    exact (h4 _).add (((IsReal.sum _ fun l => (h0 _).mul (h3 _)).add (IsReal.sum _ fun l => (h1 _).mul (h3 _))).add
      (IsReal.sum _ fun l => (h2 _).mul (h3 _)))

/-- The gradient of the shift as the reference forms it. -/
theorem final12_ref (c : Dev nD) : (dats m 0 c).arrAt 12 (cfgs 0).N = KvDxRefIdeal.Read.val_main_v70 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) :=
  (final12 m c).trans ((congrArg LayerNormGrad.byShift (href34 _ _ _ _ _)).trans rfl)

/-- The first result array of the kernel is the reference's where every argument is finite. -/
theorem final9 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    (dats m 0 c).arrAt 9 (cfgs 0).N
      = LayerNormGrad.byRow (DY m c) (m ((c : Thread nD τ).loc main_arg5)) (m ((c : Thread nD τ).loc main_arg6)) := by
  refine (dats m 0 c).arrAt_eq_of_covers 9 _ (by decide +kernel) fun t hf y => ?_
  blk_simp
  have hN : t.val < 10 := lt_of_lt_of_eq t.isLt N_0
  obtain_idx q : (⟨2, ![8320, 1024]⟩ : Shape) := [t.val * 832 + (y 0).val, (y 1).val] with hq
  rw [after0_9]
  refine Eq.trans ?_ ((row_eq m c t (y 0) (q 1) (q 0) hq0 h0 h1 h2 h3 h4 h5 h6).trans ?_)
  · have e : (y : S832x1024.Idx) = ix2 (y 0) (q 1) := by
      idx_bounds
      blk_ext
    by_cases h : t.val % 10 = 0
    · rw [outsAt0_A m c t h]; frame_out
      exact congrArg (rows (cot m c t) (iblk m c 7 t) (iblk m c 8 t)) e
    · rw [outsAt0_B m c t h]; frame_out
      exact congrArg (rows (cot m c t) (iblk m c 7 t) (iblk m c 8 t)) e
  · refine congrArg (LayerNormGrad.byRow (DY m c) _ _) ?_
    blk_point [idx t]

/-- The second result array of the kernel is the reference's where every argument is finite. -/
theorem final10 (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) (h5 : ∀ i, IsReal (m ((c : Thread nD τ).loc main_arg5) i))
    (h6 : ∀ i, IsReal (m ((c : Thread nD τ).loc main_arg6) i)) :
    (dats m 0 c).arrAt 10 (cfgs 0).N
      = LayerNormGrad.byRow (DY m c) (m ((c : Thread nD τ).loc main_arg5)) (m ((c : Thread nD τ).loc main_arg6)) := by
  refine (dats m 0 c).arrAt_eq_of_covers 10 _ (by decide +kernel) fun t hf y => ?_
  blk_simp
  have hN : t.val < 10 := lt_of_lt_of_eq t.isLt N_0
  obtain_idx q : (⟨2, ![8320, 1024]⟩ : Shape) := [t.val * 832 + (y 0).val, (y 1).val] with hq
  rw [after0_10]
  refine Eq.trans ?_ ((row_eq m c t (y 0) (q 1) (q 0) hq0 h0 h1 h2 h3 h4 h5 h6).trans ?_)
  · have e : (y : S832x1024.Idx) = ix2 (y 0) (q 1) := by
      idx_bounds
      blk_ext
    by_cases h : t.val % 10 = 0
    · rw [outsAt0_A m c t h]; frame_out
      exact congrArg (rows (cot m c t) (iblk m c 7 t) (iblk m c 8 t)) e
    · rw [outsAt0_B m c t h]; frame_out
      exact congrArg (rows (cot m c t) (iblk m c 7 t) (iblk m c 8 t)) e
  · refine congrArg (LayerNormGrad.byRow (DY m c) _ _) ?_
    blk_point [idx t]

end Cert.KvDxValue
-- ==== Proof.CFwdValue.lean ====
/- The gated short convolution: the result array that the kernel leaves is the reference's. -/
module

public import proofs.«01_k».proof.Proof.Gen.CFwdIdeal.Value
public import proofs.«01_k».proof.Proof.Gen.CFwdRefIdeal.Read
public import proofs.«01_k».proof.Proof.Sums
public import proofs.«01_k».proof.Proof.ConvKernel

@[expose] public section

set_option maxRecDepth 16384

noncomputable section

namespace Cert.CFwdValue

open Idealize.ShloMosaic Idealize.ShloMosaic.TcCoe Idealize.SL.Sem
open Idealize.ShloMosaic.Pipeline (Dat)
open Cert.CFwdIdeal Cert.CFwdIdeal.Gen
open Cert.ConvValue (at2 at2_of at2_out U Y select_ite mask)

variable (m : (ℓ : Loc nD τ sig) → Buf (Elt Ideal) ℓ)

/-- The blocks of the windows at each point. -/
theorem idx : ∀ t : Fin cfg0.N, win0_0.index t = ![t.val, 0] ∧ win0_1.index t = ![t.val * 40 - 1, 0]
    ∧ win0_2.index t = ![0, 0] ∧ win0_3.index t = ![t.val, 0] := (by decide +kernel : ∀ t : Fin grid0.N, _)

theorem coord : ∀ t : Fin cfg0.N, (grid0.coords t 0).val = t.val := (by decide +kernel : ∀ t : Fin grid0.N, _)

/-- The projections: the output gate, the value and the input gate, side by side. -/
abbrev PJ (c : Dev nD) : S8320x3072.Idx → EReal := m ((c : Thread nD τ).loc main_arg0)
/-- The three taps. -/
abbrev WT (c : Dev nD) : S3x1024.Idx → EReal := m ((c : Thread nD τ).loc main_arg1)

/-- A point's block of the projections. -/
abbrev b0 (c : Dev nD) (t : Fin cfg0.N) : S320x3072.Idx → EReal := iblk m c 0 t
/-- The eight rows before it. -/
abbrev b1 (c : Dev nD) (t : Fin cfg0.N) : S8x3072.Idx → EReal := iblk m c 1 t
/-- The taps of a point. -/
abbrev b2 (c : Dev nD) (t : Fin cfg0.N) : S3x1024.Idx → EReal := iblk m c 2 t

theorem rd0 (c : Dev nD) (t : Fin cfg0.N) (r : Fin 320) (k : Fin 3072) (a b : ℕ) (ha : a = t.val * 320 + r.val) (hb : b = k.val) :
    b0 m c t (ix2 r k) = at2 (PJ m c) a b := by
  have hN : t.val < 26 := lt_of_lt_of_eq t.isLt N_0
  rw [at2_of (PJ m c) ⟨t.val * 320 + r.val, by omega⟩ k _ _ ha hb]
  blk_ext [iblk, V, idx t]

theorem rd1 (c : Dev nD) (t : Fin cfg0.N) (r : Fin 8) (k : Fin 3072) (a b : ℕ) (ha : a + 8 = t.val * 320 + r.val) (hb : b = k.val) :
    b1 m c t (ix2 r k) = at2 (PJ m c) a b := by
  have hN : t.val < 26 := lt_of_lt_of_eq t.isLt N_0
  rw [at2_of (PJ m c) ⟨t.val * 320 + r.val - 8, by omega⟩ k _ _ (by dsimp only; omega) hb]
  blk_ext [iblk, V, idx t]

theorem rd2 (c : Dev nD) (t : Fin cfg0.N) (r : Fin 3) (k : Fin 1024) (a : ℕ) (ha : a = r.val) :
    b2 m c t (ix2 r k) = at2 (WT m c) a k.val := by
  rw [at2_of (WT m c) r k _ _ ha rfl]
  blk_ext [iblk, V, idx t]

/-- The gated input at a row of the block extended by eight rows, times a tap. -/
theorem gated (c : Dev nD) (t : Fin cfg0.N) (e : ℕ) (he : e < 328) (j : Fin 1024) (w : EReal) (p q : EReal)
    (hp : p = if h : e < 8 then b1 m c t (ix2 ⟨e, h⟩ ⟨1024 + j.val, by omega⟩) else b0 m c t (ix2 ⟨e - 8, by omega⟩ ⟨1024 + j.val, by omega⟩))
    (hq : q = if h : e < 8 then b1 m c t (ix2 ⟨e, h⟩ ⟨2048 + j.val, by omega⟩) else b0 m c t (ix2 ⟨e - 8, by omega⟩ ⟨2048 + j.val, by omega⟩)) :
    Scalar.select (IntOp.cmpi CmpIPredicate.sge (IntOp.addi (Scalar.subi (Scalar.muli (BitVec.ofNat 32 (grid0.coords t 0).val) 320#32) 8#32)
        (BitVec.ofNat 32 e)) 112#32) (w * (p * q)) (0 : EReal)
      = w * U (PJ m c) (t.val * 320 + e - 8) j.val := by
  have hN : t.val < 26 := lt_of_lt_of_eq t.isLt N_0
  have hm := mask ⟨t.val, hN⟩ ⟨e, he⟩
  dsimp only at hm
  rw [coord t, hm, select_ite]
  unfold U
  by_cases h : 112 ≤ t.val * 320 + e - 8
  · rw [if_pos h, if_pos h, hp, hq]
    by_cases h8 : e < 8
    · rw [dif_pos h8, dif_pos h8, rd1 m c t _ _ (t.val * 320 + e - 8) (1024 + j.val) (by dsimp only; omega) rfl,
        rd1 m c t _ _ (t.val * 320 + e - 8) (2048 + j.val) (by dsimp only; omega) rfl]
    · rw [dif_neg h8, dif_neg h8, rd0 m c t _ _ (t.val * 320 + e - 8) (1024 + j.val) (by dsimp only; omega) rfl,
        rd0 m c t _ _ (t.val * 320 + e - 8) (2048 + j.val) (by dsimp only; omega) rfl]
  · rw [if_neg h, if_neg h, mul_zero]

/-- The block that the kernel leaves at a point. -/
theorem block (c : Dev nD) (t : Fin cfg0.N) (e : Fin 320) (j : Fin 1024) :
    k0_pay1 (grid0.coords t) (View.ld (iblk m c 1 t) r0_0) (View.ld (iblk m c 0 t) r0_1) (View.ld (iblk m c 1 t) r0_2)
        (View.ld (iblk m c 0 t) r0_3) (View.ld (iblk m c 2 t) r0_4) (View.ld (iblk m c 2 t) r0_5) (View.ld (iblk m c 2 t) r0_6)
        (View.ld (iblk m c 0 t) r0_7) (ix2 e j)
      = at2 (PJ m c) (t.val * 320 + e.val) j.val * Y (PJ m c) (WT m c) (t.val * 320 + e.val) j.val := by
  have he := e.isLt
  pointwise [k0_pay1]
  unfold Y
  refine congrArg₂ (· * ·) (rd0 m c t e _ _ _ rfl rfl) (congrArg₂ (· + ·) (congrArg₂ (· + ·) ?_ ?_) ?_)
  · refine (gated m c t (8 + e.val) (by omega) j _ _ _ ?_ ?_).trans (congrArg₂ (· * ·) (rd2 m c t 2 j 2 rfl) (congrArg (U (PJ m c) · j.val) ?_))
    · rw [dif_neg (by omega)]
      blk_ext
    · rw [dif_neg (by omega)]
      blk_ext
    · omega
  · exact (gated m c t _ (by omega) j _ _ _ rfl rfl).trans
      (congrArg₂ (· * ·) (rd2 m c t 1 j 1 rfl) (congrArg (U (PJ m c) · j.val) (by omega)))
  · exact (gated m c t _ (by omega) j _ _ _ rfl rfl).trans
      (congrArg₂ (· * ·) (rd2 m c t 0 j 0 rfl) (congrArg (U (PJ m c) · j.val) (by omega)))

section
variable (x0 : (⟨CFwdRefIdeal.S8320x3072, .f32⟩ : BufTy).Contents (Elt Ideal)) (x1 : (⟨CFwdRefIdeal.S3x1024, .f32⟩ : BufTy).Contents (Elt Ideal))

open CFwdRefIdeal.Read

/-- The output gate at a row after the padding. -/
theorem ref2 (q : Fin 8208) (j : Fin 1024) : val_main_v2 (F := Ideal) x0 (ix2 q j) = at2 x0 (q.val + 112) (j.val) := by
  rw [at2_of x0 ⟨q.val + 112, by omega⟩ ⟨j.val, by omega⟩ _ _ rfl rfl]
  pointwise [val_main_v2, val_main_v1]
  blk_ext

/-- The input gate. -/
theorem ref3 (q : Fin 8208) (j : Fin 1024) : val_main_v3 (F := Ideal) x0 (ix2 q j) = at2 x0 (q.val + 112) (1024 + j.val) := by
  rw [at2_of x0 ⟨q.val + 112, by omega⟩ ⟨1024 + j.val, by omega⟩ _ _ rfl rfl]
  pointwise [val_main_v3, val_main_v1]
  blk_ext

/-- The value. -/
theorem ref4 (q : Fin 8208) (j : Fin 1024) : val_main_v4 (F := Ideal) x0 (ix2 q j) = at2 x0 (q.val + 112) (2048 + j.val) := by
  rw [at2_of x0 ⟨q.val + 112, by omega⟩ ⟨2048 + j.val, by omega⟩ _ _ rfl rfl]
  pointwise [val_main_v4, val_main_v1]
  blk_ext

/-- The gated input. -/
theorem ref5 (q : Fin 8208) (j : Fin 1024) : val_main_v5 (F := Ideal) x0 (ix2 q j) = U x0 (q.val + 112) j.val := by
  rw [val_main_v5_apply, ref3, ref4, U, if_pos (by omega)]
  rfl

/-- The gated input one row earlier. -/
theorem ref8 (q : Fin 8208) (j : Fin 1024) : val_main_v8 (F := Ideal) x0 (ix2 q j) = U x0 (q.val + 112 - 1) j.val := by
  pointwise [val_main_v8, val_main_v6, val_main_cst_0, val_main_v7]
  by_cases h : q.val < 1
  · rw [dif_pos h, U, if_neg (by omega)]
  · rw [dif_neg h, ref5]
    dsimp only
    rw [show q.val - 1 + 112 = q.val + 112 - 1 by omega]

/-- The gated input two rows earlier. -/
theorem ref11 (q : Fin 8208) (j : Fin 1024) : val_main_v11 (F := Ideal) x0 (ix2 q j) = U x0 (q.val + 112 - 2) j.val := by
  pointwise [val_main_v11, val_main_v9, val_main_cst_1, val_main_v10]
  by_cases h : q.val < 2
  · rw [dif_pos h, U, if_neg (by omega)]
  · rw [dif_neg h, ref5]
    dsimp only
    rw [show q.val - 2 + 112 = q.val + 112 - 2 by omega]

/-- The taps, repeated over the rows. -/
theorem ref15 (q : Fin 8208) (j : Fin 1024) : val_main_v15 (F := Ideal) x1 (ix2 q j) = at2 x1 0 j.val := by
  rw [at2_of x1 0 j 0 j.val rfl rfl]
  pointwise [val_main_v15, val_main_v14, val_main_v13, val_main_v12]
  blk_ext

theorem ref20 (q : Fin 8208) (j : Fin 1024) : val_main_v20 (F := Ideal) x1 (ix2 q j) = at2 x1 1 j.val := by
  rw [at2_of x1 1 j 1 j.val rfl rfl]
  pointwise [val_main_v20, val_main_v19, val_main_v18, val_main_v17]
  blk_ext

theorem ref26 (q : Fin 8208) (j : Fin 1024) : val_main_v26 (F := Ideal) x1 (ix2 q j) = at2 x1 2 j.val := by
  rw [at2_of x1 2 j 2 j.val rfl rfl]
  pointwise [val_main_v26, val_main_v25, val_main_v24, val_main_v23]
  blk_ext

/-- The gated output of the convolution. -/
theorem ref29 (q : Fin 8208) (j : Fin 1024) : val_main_v29 (F := Ideal) x0 x1 (ix2 q j)
    = at2 x0 (q.val + 112) j.val * Y x0 x1 (q.val + 112) j.val := by
  rw [val_main_v29_apply, val_main_v28_apply, val_main_v22_apply, val_main_v16_apply, val_main_v21_apply, val_main_v27_apply, ref2,
    ref15, ref20, ref26, ref5, ref8, ref11, Y]
  simp only [Ideal.addf_def, Ideal.mulf_def]
  refine congrArg (_ * ·) ?_
  abel

/-- The result of the reference, in the kernel's closed form. -/
theorem reference (n : Fin 8320) (j : Fin 1024) : val_main_v31 (F := Ideal) x0 x1 (ix2 n j)
    = at2 x0 n.val j.val * Y x0 x1 n.val j.val := by
  pointwise [val_main_v31, val_main_v30, val_main_v0, val_main_cst]
  by_cases h : n.val < 112
  · have u : ∀ n' ≤ n.val, ∀ j, U x0 n' j = 0 := fun n' hn' j => by rw [U, if_neg (by omega)]
    rw [dif_pos h, Y, u _ le_rfl, u _ (by omega), u _ (by omega)]
    simp only [mul_zero, add_zero]
  · have e : n.val - 112 + 112 = n.val := by omega
    rw [dif_neg h, ref29]
    dsimp only
    rw [e]

end

/-- The result array of the kernel is the reference's. -/
theorem final (c : Dev nD) : (dats m 0 c).arrAt 3 (cfgs 0).N = CFwdRefIdeal.Read.val_main_v31 (F := Ideal)
    (m ((c : Thread nD τ).loc main_arg0)) (m ((c : Thread nD τ).loc main_arg1)) := by
  refine (dats m 0 c).arrAt_eq_of_covers 3 _ (by decide +kernel) fun t hf y => ?_
  blk_simp
  have hN : t.val < 26 := lt_of_lt_of_eq t.isLt N_0
  obtain_idx q : (⟨2, ![8320, 1024]⟩ : Shape) := [t.val * 320 + (y 0).val, (y 1).val] with hq
  rw [after0_3]
  frame_out
  have e : (y : S320x1024.Idx) = ix2 (y 0) (q 1) := by
    idx_bounds
    blk_ext
  refine (congrArg _ e).trans ((block m c t (y 0) (q 1)).trans ?_)
  refine Eq.trans ?_ (congrArg (CFwdRefIdeal.Read.val_main_v31 (F := Ideal) _ _) (?_ : ix2 (q 0) (q 1) = _))
  · refine Eq.trans ?_ (reference _ _ (q 0) (q 1)).symm
    rw [hq0]
  · blk_point [idx t]

end Cert.CFwdValue
-- ==== Proof.PKValue.lean ====
/- The projection of the keys and that of the values: the result array that the kernel leaves is the reference's. -/
module

public import proofs.«01_k».proof.Proof.Gen.PKIdeal.Value
public import proofs.«01_k».proof.Proof.Gen.PKRefIdeal.Read
public import proofs.«01_k».proof.Proof.Sums

@[expose] public section

set_option maxRecDepth 16384

noncomputable section

namespace Cert.PKValue

open Idealize.ShloMosaic Idealize.ShloMosaic.TcCoe Idealize.SL.Sem
open Idealize.ShloMosaic.Pipeline (Dat)
open Cert.PKIdeal Cert.PKIdeal.Gen

variable (m : (ℓ : Loc nD τ sig) → Buf (Elt Ideal) ℓ)

/-- One block of rows times the weight. -/
theorem hpay (v0 : Vec Ideal S1664x1024 .bf16) (v2 : Vec Ideal S1x1024x1024 .bf16) (j : S1664x1024.Idx) :
    k0_pay1 v0 v2 j = (∑ k : Fin 1024, v0 (ix2 (j 0) k) * v2 (ix3 0 k (j 1))) := by
  pointwise [k0_pay1]

/-- The reference's result at an index. -/
theorem href (x0 : (⟨PKRefIdeal.S8320x1024, .f32⟩ : BufTy).Contents (Elt Ideal))
    (x1 : (⟨PKRefIdeal.S1024x1024, .f32⟩ : BufTy).Contents (Elt Ideal)) (j : PKRefIdeal.S8320x1024.Idx) :
    PKRefIdeal.Read.val_main_v1 (F := Ideal) x0 x1 j = (∑ k : Fin 1024, x0 (ix2 (j 0) k) * x1 (ix2 k (j 1))) := by
  pointwise [PKRefIdeal.Read.val_main_v1, PKRefIdeal.Read.val_main_v0]

/-- The blocks of the windows at each point. -/
theorem idx : ∀ t : Fin cfg0.N, win0_0.index t = ![t.val, 0] ∧ win0_1.index t = ![0, 0, 0]
    ∧ win0_2.index t = ![t.val, 0] := (by decide +kernel : ∀ t : Fin grid0.N, _)

/-- The result array of the kernel is the reference's. -/
theorem final (c : Dev nD) : (dats m 0 c).arrAt 2 (cfgs 0).N = PKRefIdeal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 5 := lt_of_lt_of_eq t.isLt N_0
  rw [after0_2]; frame_out
  refine (hpay _ _ y).trans ?_
  refine Eq.trans ?_ (href _ _ _).symm
  blk_point [iblk, V, idx t]

end Cert.PKValue
-- ==== Proof.PQValue.lean ====
/- The projection of the queries: the result array that the kernel leaves is the reference's. -/
module

public import proofs.«01_k».proof.Proof.Gen.PQIdeal.Value
public import proofs.«01_k».proof.Proof.Gen.PQRefIdeal.Read
public import proofs.«01_k».proof.Proof.Sums

@[expose] public section

set_option maxRecDepth 16384

noncomputable section

namespace Cert.PQValue

open Idealize.ShloMosaic Idealize.ShloMosaic.TcCoe Idealize.SL.Sem
open Idealize.ShloMosaic.Pipeline (Dat)
open Cert.PQIdeal Cert.PQIdeal.Gen

variable (m : (ℓ : Loc nD τ sig) → Buf (Elt Ideal) ℓ)

/-- One block of rows times the weight, scaled. -/
theorem hpay (v0 : Vec Ideal S1664x1024 .bf16) (v2 : Vec Ideal S1x1024x1024 .bf16) (j : S1664x1024.Idx) :
    k0_pay1 v0 v2 j = (∑ k : Fin 1024, v0 (ix2 (j 0) k) * v2 (ix3 0 k (j 1))) * Ideal.ofBits .f32 0x3DB504F3#32 := by
  pointwise [k0_pay1]

/-- The reference's result at an index. -/
theorem href (x0 : (⟨PQRefIdeal.S8320x1024, .f32⟩ : BufTy).Contents (Elt Ideal))
    (x1 : (⟨PQRefIdeal.S1024x1024, .f32⟩ : BufTy).Contents (Elt Ideal)) (j : PQRefIdeal.S8320x1024.Idx) :
    PQRefIdeal.Read.val_main_v3 (F := Ideal) x0 x1 j = (∑ k : Fin 1024, x0 (ix2 (j 0) k) * x1 (ix2 k (j 1))) * Ideal.ofBits .f32 0x3DB504F3#32 := by
  pointwise [PQRefIdeal.Read.val_main_v3, PQRefIdeal.Read.val_main_v2, PQRefIdeal.Read.val_main_v1, PQRefIdeal.Read.val_main_cst, PQRefIdeal.Read.val_main_v0]

/-- The blocks of the windows at each point. -/
theorem idx : ∀ t : Fin cfg0.N, win0_0.index t = ![t.val, 0] ∧ win0_1.index t = ![0, 0, 0]
    ∧ win0_2.index t = ![t.val, 0] := (by decide +kernel : ∀ t : Fin grid0.N, _)

/-- The result array of the kernel is the reference's. -/
theorem final (c : Dev nD) : (dats m 0 c).arrAt 2 (cfgs 0).N = PQRefIdeal.Read.val_main_v3 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 5 := lt_of_lt_of_eq t.isLt N_0
  rw [after0_2]; frame_out
  refine (hpay _ _ y).trans ?_
  refine Eq.trans ?_ (href _ _ _).symm
  blk_point [iblk, V, idx t]

end Cert.PQValue
-- ==== Proof.PFValue.lean ====
/- The projection of the forget gates, eight columns padded with zeros to 128: the array that the kernel leaves is the reference's. -/
module

public import proofs.«01_k».proof.Proof.Gen.PFIdeal.Value
public import proofs.«01_k».proof.Proof.Gen.PFRefIdeal.Read
public import proofs.«01_k».proof.Proof.Sums
public import proofs.«01_k».proof.Proof.Lanes

@[expose] public section

set_option maxRecDepth 16384

noncomputable section

namespace Cert.PFValue

open Idealize.ShloMosaic Idealize.ShloMosaic.TcCoe Idealize.SL.Sem
open Idealize.ShloMosaic.Pipeline (Dat)
open Cert.PFIdeal Cert.PFIdeal.Gen

variable (m : (ℓ : Loc nD τ sig) → Buf (Elt Ideal) ℓ)

/-- One block of rows times the padded weight. -/
theorem hpay (v0 : Vec Ideal S1664x1024 .bf16) (v2 : Vec Ideal S1x1024x128 .bf16) (j : S1664x128.Idx) :
    k0_pay1 v0 v2 j = ∑ k : Fin 1024, v0 (ix2 (j 0) k) * v2 (ix3 0 k (j 1)) := by
  pointwise [k0_pay1]

section
open PFRefIdeal.Read
variable (x0 : (⟨PFRefIdeal.S8320x1024, .f32⟩ : BufTy).Contents (Elt Ideal))
  (x1 : (⟨PFRefIdeal.S1024x8, .f32⟩ : BufTy).Contents (Elt Ideal))

theorem href0 (j : PFRefIdeal.S8320x8.Idx) :
    val_main_v0 (F := Ideal) x0 x1 j = ∑ k : Fin 1024, x0 (ix2 (j 0) k) * x1 (ix2 k (j 1)) := by
  pointwise [val_main_v0]

/-- The reference's result at one of the first eight columns. -/
theorem href_in (j : PFRefIdeal.S8320x128.Idx) (q : Fin 8) (hq : (j 1).val = q.val) :
    val_main_v1 (F := Ideal) x0 x1 j = ∑ k : Fin 1024, x0 (ix2 (j 0) k) * x1 (ix2 k q) := by
  have e : val_main_v1 (F := Ideal) x0 x1 j = val_main_v1 (F := Ideal) x0 x1 (ix2 (j 0) (j 1)) := by
    refine congrArg (val_main_v1 (F := Ideal) x0 x1) ?_
    idx_bounds; blk_ext
  exact e.trans ((Lanes.pad_inside _ _ _ _ (j 0) q (j 1) hq).trans (href0 _ _ _))

/-- The reference's result at a later column. -/
theorem href_out (j : PFRefIdeal.S8320x128.Idx) (hq : 8 ≤ (j 1).val) : val_main_v1 (F := Ideal) x0 x1 j = 0 := by
  have e : val_main_v1 (F := Ideal) x0 x1 j = val_main_v1 (F := Ideal) x0 x1 (ix2 (j 0) (j 1)) := by
    refine congrArg (val_main_v1 (F := Ideal) x0 x1) ?_
    idx_bounds; blk_ext
  exact e.trans ((Lanes.pad_outside _ _ _ _ (j 0) (j 1) hq).trans Lanes.sitofp_zero)
end

/-- The blocks of the windows at each point. -/
theorem idx : ∀ t : Fin cfg0.N, win0_0.index t = ![t.val, 0] ∧ win0_1.index t = ![0, 0, 0]
    ∧ win0_2.index t = ![t.val, 0] := (by decide +kernel : ∀ t : Fin grid0.N, _)

/-- The padded weight. -/
def padded (c : Dev nD) : FVec Ideal S1024x128 .bf16 :=
  pad S1024x128 ![0, 0] ![0, 120] ![0, 0] (truncf (F := Ideal) .bf16 (m ((c : Thread nD τ).loc main_arg1)) bitsLt_bf16_f32)
    (sitofp .bf16 (constantI S_ 32 0#32) : FVec Ideal S_ .bf16) pads_S1024x8_S1024x128_000_01200 h_S_

theorem entry (c : Dev nD) : V m c main_v3 = broadcastInDim S1x1024x128 ![1, 2] bcast_S1024x128_S1x1024x128_1_2 (padded m c) := rfl

/-- The weight's block of a point is the padded weight. -/
theorem blk1 (c : Dev nD) (t : Fin cfg0.N) (k : Fin 1024) (l : Fin 128) :
    (show Vec Ideal S1x1024x128 .bf16 from iblk m c 1 t) (ix3 0 k l) = padded m c (ix2 k l) := by
  have hN : t.val < 5 := lt_of_lt_of_eq t.isLt N_0
  show V m c main_v3 ((win0_1.blk t).view.emb (ix3 0 k l)) = _
  rw [entry]
  generalize padded m c = w
  refine congrArg w (?_ : _ = ix2 k l)
  blk_ext [idx t] <;> rfl

/-- The weight's block at one of the first eight columns. -/
theorem blk1_in (c : Dev nD) (t : Fin cfg0.N) (k : Fin 1024) (l : Fin 128) (q : Fin 8) (hq : l.val = q.val) :
    (show Vec Ideal S1x1024x128 .bf16 from iblk m c 1 t) (ix3 0 k l) = m ((c : Thread nD τ).loc main_arg1) (ix2 k q) :=
  (blk1 m c t k l).trans (Lanes.pad_inside _ _ _ _ k q l hq)

/-- The weight's block at a later column. -/
theorem blk1_out (c : Dev nD) (t : Fin cfg0.N) (k : Fin 1024) (l : Fin 128) (hq : 8 ≤ l.val) :
    (show Vec Ideal S1x1024x128 .bf16 from iblk m c 1 t) (ix3 0 k l) = (0 : EReal) :=
  (blk1 m c t k l).trans ((Lanes.pad_outside _ _ _ _ k l hq).trans Lanes.sitofp_zero)

/-- The result array of the kernel is the reference's. -/
theorem final (c : Dev nD) : (dats m 0 c).arrAt 2 (cfgs 0).N = PFRefIdeal.Read.val_main_v1 (F := Ideal)
    (m ((c : Thread nD τ).loc main_arg0)) (m ((c : Thread nD τ).loc main_arg1)) := by
  refine (dats m 0 c).arrAt_eq_of_covers 2 _ (by decide +kernel) fun t hf y => ?_
  blk_simp
  have hN : t.val < 5 := lt_of_lt_of_eq t.isLt N_0
  rw [after0_2]; frame_out
  refine (hpay _ _ y).trans ?_
  by_cases hy : (y 1).val < 8
  · refine Eq.trans ?_ (href_in _ _ _ ⟨(y 1).val, hy⟩ ?_).symm
    · refine Finset.sum_congr rfl fun k _ => ?_
      refine congrArg₂ (· * ·) ?_ (blk1_in m c t k (y 1) ⟨(y 1).val, hy⟩ rfl)
      blk_point [iblk, V, idx t]
    · blk_simp [idx t]
  · refine Eq.trans ?_ (href_out _ _ _ ?_).symm
    · have z : ∀ a b : EReal, b = 0 → a * b = 0 := fun a b h => h ▸ mul_zero a
      exact Finset.sum_eq_zero (M := EReal) fun k _ => z _ _ (blk1_out m c t k (y 1) (not_lt.mp hy))
    · blk_simp [idx t]
      exact not_lt.mp hy

end Cert.PFValue
-- ==== Proof.Adam.lean ====
/- The optimiser's step of one number: the new moments and the change of the weight, from weight, gradient and old moments. -/
module

public import Idealize.ShloMosaic.PureOps.Ideal

@[expose] public section

noncomputable section

namespace Cert.Adam

open Idealize.ShloMosaic

/-- The new first moment. -/
def moment1 (g m : EReal) : EReal := Ideal.ofBits .f32 0x3F666666#32 * m + Ideal.ofBits .f32 0x3DCCCCCD#32 * g

/-- The new second moment. -/
def moment2 (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 *
    (Ideal.div (Ideal.div (moment1 g m) (Ideal.ofBits .f32 0x3F26BD02#32))
        (Ideal.sqrt (Ideal.div (moment2 g v) (Ideal.ofBits .f32 0x3C231ACC#32)) + Ideal.ofBits .f32 0x322BCC77#32)
      + Ideal.ofBits .f32 0x3C23D70A#32 * w)

end Cert.Adam
-- ==== Proof.AdSqValue.lean ====
/- The optimiser's step of a square projection: the arrays that the kernel leaves are the reference's. -/
module

public import proofs.«01_k».proof.Proof.Gen.AdSqIdeal.Value
public import proofs.«01_k».proof.Proof.Gen.AdSqRefIdeal.Read
public import proofs.«01_k».proof.Proof.Sums
public import proofs.«01_k».proof.Proof.Adam

@[expose] public section

set_option maxRecDepth 16384

noncomputable section

namespace Cert.AdSqValue

open Idealize.ShloMosaic Idealize.ShloMosaic.TcCoe Idealize.SL.Sem
open Idealize.ShloMosaic.Pipeline (Dat)
open Cert.AdSqIdeal Cert.AdSqIdeal.Gen Cert.Adam

variable (m : (ℓ : Loc nD τ sig) → Buf (Elt Ideal) ℓ)

theorem hpay4 (w g p q : Vec Ideal S1x256x1024 .f32) (j : S1x256x1024.Idx) :
    k0_pay1 (k0_pay8 g p q w) (k0_pay9 (F := Ideal)) j = delta (w j) (g j) (p j) (q j) := by
  unfold delta moment1 moment2
  pointwise [k0_pay1, k0_pay8, k0_pay9, k0_pay7, k0_pay6, k0_pay4]

theorem hpay5 (g p : Vec Ideal S1x256x1024 .f32) (j : S1x256x1024.Idx) : k0_pay2 (k0_pay6 g p) j = moment1 (g j) (p j) := by
  unfold moment1
  pointwise [k0_pay2, k0_pay6, k0_pay4]

theorem hpay6 (g q : Vec Ideal S1x256x1024 .f32) (j : S1x256x1024.Idx) : k0_pay3 (k0_pay7 g q) j = moment2 (g j) (q j) := by
  unfold moment2
  pointwise [k0_pay3, k0_pay7, k0_pay4]

theorem hpay7 (g : Vec Ideal S1x256x1024 .f32) (j : S1x256x1024.Idx) : k0_pay5 g j = g j := by
  pointwise [k0_pay5, k0_pay4]

section
open AdSqRefIdeal.Read
variable (w g p q : (⟨AdSqRefIdeal.S1x256x1024, .f32⟩ : BufTy).Contents (Elt Ideal)) (j : AdSqRefIdeal.S1x256x1024.Idx)

theorem href4 : val_main_v4 (F := Ideal) g p j = moment1 (g j) (p j) := by
  unfold moment1
  pointwise [val_main_v4, val_main_v3, val_main_v2, val_main_v1, val_main_v0, val_main_cst, val_main_cst_0]

theorem href10 : val_main_v10 (F := Ideal) g q j = moment2 (g j) (q j) := by
  unfold moment2
  pointwise [val_main_v10, val_main_v9, val_main_v8, val_main_v7, val_main_v6, val_main_v5, val_main_cst_1, val_main_cst_2]

theorem href23 : val_main_v23 (F := Ideal) w g p q j = delta (w j) (g j) (p j) (q j) := by
  unfold delta
  rw [← href4 g p j, ← href10 g q j]
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
end

/-- The blocks of the windows at each point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The changes of the weights that the kernel leaves. -/
theorem final4 (c : Dev nD) : (dats m 0 c).arrAt 4 (cfgs 0).N =
    AdSqRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 1 := lt_of_lt_of_eq t.isLt N_0
  rw [after0_4]; frame_out
  refine (hpay4 _ _ _ _ y).trans ?_
  refine Eq.trans ?_ (href23 _ _ _ _ _).symm
  blk_point [iblk, V, idx t]

/-- The new first moments that the kernel leaves. -/
theorem final5 (c : Dev nD) : (dats m 0 c).arrAt 5 (cfgs 0).N =
    AdSqRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  have hN : t.val < 1 := lt_of_lt_of_eq t.isLt N_0
  rw [after0_5]; frame_out
  refine (hpay5 _ _ y).trans ?_
  refine Eq.trans ?_ (href4 _ _ _).symm
  blk_point [iblk, V, idx t]

/-- The new second moments that the kernel leaves. -/
theorem final6 (c : Dev nD) : (dats m 0 c).arrAt 6 (cfgs 0).N =
    AdSqRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  have hN : t.val < 1 := lt_of_lt_of_eq t.isLt N_0
  rw [after0_6]; frame_out
  refine (hpay6 _ _ y).trans ?_
  refine Eq.trans ?_ (href10 _ _ _).symm
  blk_point [iblk, V, idx t]

/-- The gradients that the kernel leaves. -/
theorem final7 (c : Dev nD) : (dats m 0 c).arrAt 7 (cfgs 0).N = m ((c : Thread nD τ).loc main_arg1) := by
  refine (dats m 0 c).arrAt_eq_of_covers 7 _ (by decide +kernel) fun t hf y => ?_
  blk_simp
  have hN : t.val < 1 := lt_of_lt_of_eq t.isLt N_0
  rw [after0_7]; frame_out
  refine (hpay7 _ y).trans ?_
  blk_point [iblk, V, idx t]

end Cert.AdSqValue
-- ==== Proof.AdInValue.lean ====
/- The optimiser's step of the convolution's first product: the arrays that the kernel leaves are the reference's. -/
module

public import proofs.«01_k».proof.Proof.Gen.AdInIdeal.Value
public import proofs.«01_k».proof.Proof.Gen.AdInRefIdeal.Read
public import proofs.«01_k».proof.Proof.Sums
public import proofs.«01_k».proof.Proof.Adam

@[expose] public section

set_option maxRecDepth 16384

noncomputable section

namespace Cert.AdInValue

open Idealize.ShloMosaic Idealize.ShloMosaic.TcCoe Idealize.SL.Sem
open Idealize.ShloMosaic.Pipeline (Dat)
open Cert.AdInIdeal Cert.AdInIdeal.Gen Cert.Adam

variable (m : (ℓ : Loc nD τ sig) → Buf (Elt Ideal) ℓ)

theorem hpay4 (w g p q : Vec Ideal S1x256x768 .f32) (j : S1x256x768.Idx) :
    k0_pay1 (k0_pay8 g p q w) (k0_pay9 (F := Ideal)) j = delta (w j) (g j) (p j) (q j) := by
  unfold delta moment1 moment2
  pointwise [k0_pay1, k0_pay8, k0_pay9, k0_pay7, k0_pay6, k0_pay4]

theorem hpay5 (g p : Vec Ideal S1x256x768 .f32) (j : S1x256x768.Idx) : k0_pay2 (k0_pay6 g p) j = moment1 (g j) (p j) := by
  unfold moment1
  pointwise [k0_pay2, k0_pay6, k0_pay4]

theorem hpay6 (g q : Vec Ideal S1x256x768 .f32) (j : S1x256x768.Idx) : k0_pay3 (k0_pay7 g q) j = moment2 (g j) (q j) := by
  unfold moment2
  pointwise [k0_pay3, k0_pay7, k0_pay4]

theorem hpay7 (g : Vec Ideal S1x256x768 .f32) (j : S1x256x768.Idx) : k0_pay5 g j = g j := by
  pointwise [k0_pay5, k0_pay4]

section
open AdInRefIdeal.Read
variable (w g p q : (⟨AdInRefIdeal.S1x1024x768, .f32⟩ : BufTy).Contents (Elt Ideal)) (j : AdInRefIdeal.S1x1024x768.Idx)

theorem href4 : val_main_v4 (F := Ideal) g p j = moment1 (g j) (p j) := by
  unfold moment1
  pointwise [val_main_v4, val_main_v3, val_main_v2, val_main_v1, val_main_v0, val_main_cst, val_main_cst_0]

theorem href10 : val_main_v10 (F := Ideal) g q j = moment2 (g j) (q j) := by
  unfold moment2
  pointwise [val_main_v10, val_main_v9, val_main_v8, val_main_v7, val_main_v6, val_main_v5, val_main_cst_1, val_main_cst_2]

theorem href23 : val_main_v23 (F := Ideal) w g p q j = delta (w j) (g j) (p j) (q j) := by
  unfold delta
  rw [← href4 g p j, ← href10 g q j]
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
end

/-- The blocks of the windows at each point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] := (by decide +kernel : ∀ t : Fin grid0.N, _)

/-- The changes of the weights that the kernel leaves. -/
theorem final4 (c : Dev nD) : (dats m 0 c).arrAt 4 (cfgs 0).N =
    AdInRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 4 := lt_of_lt_of_eq t.isLt N_0
  rw [after0_4]; frame_out
  refine (hpay4 _ _ _ _ y).trans ?_
  refine Eq.trans ?_ (href23 _ _ _ _ _).symm
  blk_point [iblk, V, idx t]

/-- The new first moments that the kernel leaves. -/
theorem final5 (c : Dev nD) : (dats m 0 c).arrAt 5 (cfgs 0).N =
    AdInRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  have hN : t.val < 4 := lt_of_lt_of_eq t.isLt N_0
  rw [after0_5]; frame_out
  refine (hpay5 _ _ y).trans ?_
  refine Eq.trans ?_ (href4 _ _ _).symm
  blk_point [iblk, V, idx t]

/-- The new second moments that the kernel leaves. -/
theorem final6 (c : Dev nD) : (dats m 0 c).arrAt 6 (cfgs 0).N =
    AdInRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  have hN : t.val < 4 := lt_of_lt_of_eq t.isLt N_0
  rw [after0_6]; frame_out
  refine (hpay6 _ _ y).trans ?_
  refine Eq.trans ?_ (href10 _ _ _).symm
  blk_point [iblk, V, idx t]

/-- The gradients that the kernel leaves. -/
theorem final7 (c : Dev nD) : (dats m 0 c).arrAt 7 (cfgs 0).N = m ((c : Thread nD τ).loc main_arg1) := by
  refine (dats m 0 c).arrAt_eq_of_covers 7 _ (by decide +kernel) fun t hf y => ?_
  blk_simp
  have hN : t.val < 4 := lt_of_lt_of_eq t.isLt N_0
  rw [after0_7]; frame_out
  refine (hpay7 _ y).trans ?_
  blk_point [iblk, V, idx t]

end Cert.AdInValue
-- ==== Proof.AdKvValue.lean ====
/- The optimiser's step of the keys', values' and forget gates' projection: the arrays that the kernel leaves are the reference's. -/
module

public import proofs.«01_k».proof.Proof.Gen.AdKvIdeal.Value
public import proofs.«01_k».proof.Proof.Gen.AdKvRefIdeal.Read
public import proofs.«01_k».proof.Proof.Sums
public import proofs.«01_k».proof.Proof.Adam

@[expose] public section

set_option maxRecDepth 16384

noncomputable section

namespace Cert.AdKvValue

open Idealize.ShloMosaic Idealize.ShloMosaic.TcCoe Idealize.SL.Sem
open Idealize.ShloMosaic.Pipeline (Dat)
open Cert.AdKvIdeal Cert.AdKvIdeal.Gen Cert.Adam

variable (m : (ℓ : Loc nD τ sig) → Buf (Elt Ideal) ℓ)

theorem hpay4 (w g p q : Vec Ideal S1x256x514 .f32) (j : S1x256x514.Idx) :
    k0_pay1 (k0_pay8 g p q w) (k0_pay9 (F := Ideal)) j = delta (w j) (g j) (p j) (q j) := by
  unfold delta moment1 moment2
  pointwise [k0_pay1, k0_pay8, k0_pay9, k0_pay7, k0_pay6, k0_pay4]

theorem hpay5 (g p : Vec Ideal S1x256x514 .f32) (j : S1x256x514.Idx) : k0_pay2 (k0_pay6 g p) j = moment1 (g j) (p j) := by
  unfold moment1
  pointwise [k0_pay2, k0_pay6, k0_pay4]

theorem hpay6 (g q : Vec Ideal S1x256x514 .f32) (j : S1x256x514.Idx) : k0_pay3 (k0_pay7 g q) j = moment2 (g j) (q j) := by
  unfold moment2
  pointwise [k0_pay3, k0_pay7, k0_pay4]

theorem hpay7 (g : Vec Ideal S1x256x514 .f32) (j : S1x256x514.Idx) : k0_pay5 g j = g j := by
  pointwise [k0_pay5, k0_pay4]

section
open AdKvRefIdeal.Read
variable (w g p q : (⟨AdKvRefIdeal.S1x1024x514, .f32⟩ : BufTy).Contents (Elt Ideal)) (j : AdKvRefIdeal.S1x1024x514.Idx)

theorem href4 : val_main_v4 (F := Ideal) g p j = moment1 (g j) (p j) := by
  unfold moment1
  pointwise [val_main_v4, val_main_v3, val_main_v2, val_main_v1, val_main_v0, val_main_cst, val_main_cst_0]

theorem href10 : val_main_v10 (F := Ideal) g q j = moment2 (g j) (q j) := by
  unfold moment2
  pointwise [val_main_v10, val_main_v9, val_main_v8, val_main_v7, val_main_v6, val_main_v5, val_main_cst_1, val_main_cst_2]

theorem href23 : val_main_v23 (F := Ideal) w g p q j = delta (w j) (g j) (p j) (q j) := by
  unfold delta
  rw [← href4 g p j, ← href10 g q j]
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
end

/-- The blocks of the windows at each point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] := (by decide +kernel : ∀ t : Fin grid0.N, _)

/-- The changes of the weights that the kernel leaves. -/
theorem final4 (c : Dev nD) : (dats m 0 c).arrAt 4 (cfgs 0).N =
    AdKvRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 4 := lt_of_lt_of_eq t.isLt N_0
  rw [after0_4]; frame_out
  refine (hpay4 _ _ _ _ y).trans ?_
  refine Eq.trans ?_ (href23 _ _ _ _ _).symm
  blk_point [iblk, V, idx t]

/-- The new first moments that the kernel leaves. -/
theorem final5 (c : Dev nD) : (dats m 0 c).arrAt 5 (cfgs 0).N =
    AdKvRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  have hN : t.val < 4 := lt_of_lt_of_eq t.isLt N_0
  rw [after0_5]; frame_out
  refine (hpay5 _ _ y).trans ?_
  refine Eq.trans ?_ (href4 _ _ _).symm
  blk_point [iblk, V, idx t]

/-- The new second moments that the kernel leaves. -/
theorem final6 (c : Dev nD) : (dats m 0 c).arrAt 6 (cfgs 0).N =
    AdKvRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  have hN : t.val < 4 := lt_of_lt_of_eq t.isLt N_0
  rw [after0_6]; frame_out
  refine (hpay6 _ _ y).trans ?_
  refine Eq.trans ?_ (href10 _ _ _).symm
  blk_point [iblk, V, idx t]

/-- The gradients that the kernel leaves. -/
theorem final7 (c : Dev nD) : (dats m 0 c).arrAt 7 (cfgs 0).N = m ((c : Thread nD τ).loc main_arg1) := by
  refine (dats m 0 c).arrAt_eq_of_covers 7 _ (by decide +kernel) fun t hf y => ?_
  blk_simp
  have hN : t.val < 4 := lt_of_lt_of_eq t.isLt N_0
  rw [after0_7]; frame_out
  refine (hpay7 _ y).trans ?_
  blk_point [iblk, V, idx t]

end Cert.AdKvValue
-- ==== Proof.AdSmValue.lean ====
/- The optimiser's step of the packed small tensors: the arrays that the kernel leaves are the reference's. -/
module

public import proofs.«01_k».proof.Proof.Gen.AdSmIdeal.Value
public import proofs.«01_k».proof.Proof.Gen.AdSmRefIdeal.Read
public import proofs.«01_k».proof.Proof.Sums
public import proofs.«01_k».proof.Proof.Adam

@[expose] public section

set_option maxRecDepth 16384

noncomputable section

namespace Cert.AdSmValue

open Idealize.ShloMosaic Idealize.ShloMosaic.TcCoe Idealize.SL.Sem
open Idealize.ShloMosaic.Pipeline (Dat)
open Cert.AdSmIdeal Cert.AdSmIdeal.Gen Cert.Adam

variable (m : (ℓ : Loc nD τ sig) → Buf (Elt Ideal) ℓ)

theorem hpay4 (w g p q : Vec Ideal S1x48x256 .f32) (j : S1x48x256.Idx) :
    k0_pay1 (k0_pay8 g p q w) (k0_pay9 (F := Ideal)) j = delta (w j) (g j) (p j) (q j) := by
  unfold delta moment1 moment2
  pointwise [k0_pay1, k0_pay8, k0_pay9, k0_pay7, k0_pay6, k0_pay4]

theorem hpay5 (g p : Vec Ideal S1x48x256 .f32) (j : S1x48x256.Idx) : k0_pay2 (k0_pay6 g p) j = moment1 (g j) (p j) := by
  unfold moment1
  pointwise [k0_pay2, k0_pay6, k0_pay4]

theorem hpay6 (g q : Vec Ideal S1x48x256 .f32) (j : S1x48x256.Idx) : k0_pay3 (k0_pay7 g q) j = moment2 (g j) (q j) := by
  unfold moment2
  pointwise [k0_pay3, k0_pay7, k0_pay4]

theorem hpay7 (g : Vec Ideal S1x48x256 .f32) (j : S1x48x256.Idx) : k0_pay5 g j = g j := by
  pointwise [k0_pay5, k0_pay4]

section
open AdSmRefIdeal.Read
variable (w g p q : (⟨AdSmRefIdeal.S1x48x256, .f32⟩ : BufTy).Contents (Elt Ideal)) (j : AdSmRefIdeal.S1x48x256.Idx)

theorem href4 : val_main_v4 (F := Ideal) g p j = moment1 (g j) (p j) := by
  unfold moment1
  pointwise [val_main_v4, val_main_v3, val_main_v2, val_main_v1, val_main_v0, val_main_cst, val_main_cst_0]

theorem href10 : val_main_v10 (F := Ideal) g q j = moment2 (g j) (q j) := by
  unfold moment2
  pointwise [val_main_v10, val_main_v9, val_main_v8, val_main_v7, val_main_v6, val_main_v5, val_main_cst_1, val_main_cst_2]

theorem href23 : val_main_v23 (F := Ideal) w g p q j = delta (w j) (g j) (p j) (q j) := by
  unfold delta
  rw [← href4 g p j, ← href10 g q j]
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
end

/-- The blocks of the windows at each point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] := (by decide +kernel : ∀ t : Fin grid0.N, _)

/-- The changes of the weights that the kernel leaves. -/
theorem final4 (c : Dev nD) : (dats m 0 c).arrAt 4 (cfgs 0).N =
    AdSmRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 1 := lt_of_lt_of_eq t.isLt N_0
  rw [after0_4]; frame_out
  refine (hpay4 _ _ _ _ y).trans ?_
  refine Eq.trans ?_ (href23 _ _ _ _ _).symm
  blk_point [iblk, V, idx t]

/-- The new first moments that the kernel leaves. -/
theorem final5 (c : Dev nD) : (dats m 0 c).arrAt 5 (cfgs 0).N =
    AdSmRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  have hN : t.val < 1 := lt_of_lt_of_eq t.isLt N_0
  rw [after0_5]; frame_out
  refine (hpay5 _ _ y).trans ?_
  refine Eq.trans ?_ (href4 _ _ _).symm
  blk_point [iblk, V, idx t]

/-- The new second moments that the kernel leaves. -/
theorem final6 (c : Dev nD) : (dats m 0 c).arrAt 6 (cfgs 0).N =
    AdSmRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  have hN : t.val < 1 := lt_of_lt_of_eq t.isLt N_0
  rw [after0_6]; frame_out
  refine (hpay6 _ _ y).trans ?_
  refine Eq.trans ?_ (href10 _ _ _).symm
  blk_point [iblk, V, idx t]

/-- The gradients that the kernel leaves. -/
theorem final7 (c : Dev nD) : (dats m 0 c).arrAt 7 (cfgs 0).N = m ((c : Thread nD τ).loc main_arg1) := by
  refine (dats m 0 c).arrAt_eq_of_covers 7 _ (by decide +kernel) fun t hf y => ?_
  blk_simp
  have hN : t.val < 1 := lt_of_lt_of_eq t.isLt N_0
  rw [after0_7]; frame_out
  refine (hpay7 _ y).trans ?_
  blk_point [iblk, V, idx t]

end Cert.AdSmValue
-- ==== Proof.FGateValue.lean ====
/- The gradient of the forget gates: the arrays that the kernel leaves are the reference's. -/
module

public import proofs.«01_k».proof.Proof.Gen.FGateIdeal.Value
public import proofs.«01_k».proof.Proof.Gen.FGateRefIdeal.Read
public import proofs.«01_k».proof.Proof.Sums
public import Idealize.ShloMosaic.Lib.KernelVsHost

@[expose] public section

set_option maxRecDepth 16384

noncomputable section

namespace Cert.FGateValue

open Idealize.ShloMosaic Idealize.ShloMosaic.TcCoe Idealize.SL.Sem
open Idealize.ShloMosaic.Pipeline (Dat)
open Cert.FGateIdeal Cert.FGateIdeal.Gen

variable (m : (ℓ : Loc nD τ sig) → Buf (Elt Ideal) ℓ)

/-! ## The slope of log(sigmoid), on the extended reals -/

/-- log(1 + e^x), as the reference spells it. -/
def softplus (x : EReal) : EReal := max x 0 + Ideal.log1p (Ideal.exp (-(max x (-x))))

theorem softplus_coe (r : ℝ) : softplus (r : EReal) = ((Real.log (1 + Real.exp r) : ℝ) : EReal) := by
  have hp : 0 < 1 + Real.exp (-|r|) := by positivity
  have e : max r 0 + Real.log (1 + Real.exp (-|r|)) = Real.log (1 + Real.exp r) := by
    rcases le_total 0 r with h | h
    · rw [max_eq_left h, abs_of_nonneg h]
      have hr : 1 + Real.exp r = Real.exp r * (1 + Real.exp (-r)) := by
        rw [mul_add, ← Real.exp_add]; simp [add_comm]
      rw [hr, Real.log_mul (Real.exp_pos r).ne' (by positivity), Real.log_exp]
    · rw [max_eq_right h, abs_of_nonpos h, neg_neg, zero_add]
  have e1 : max (r : EReal) 0 = ((max r 0 : ℝ) : EReal) := by rw [← EReal.coe_zero, ← EReal.coe_strictMono.monotone.map_max]
  have e2 : max (r : EReal) (-(r : EReal)) = ((|r| : ℝ) : EReal) := by
    rw [← EReal.coe_neg, ← EReal.coe_strictMono.monotone.map_max]; rfl
  unfold softplus Ideal.log1p
  rw [e1, e2, ← EReal.coe_neg, Ideal.exp_coe, ← EReal.coe_one, ← EReal.coe_add]
  show _ + (if 1 + Real.exp (-|r|) ≤ 0 then ⊥ else ((Real.log (1 + Real.exp (-|r|)) : ℝ) : EReal)) = _
  rw [if_neg (not_le.mpr hp), ← EReal.coe_add, e]

theorem softplus_bot : softplus ⊥ = 0 := by
  have h : Ideal.log (1 : EReal) = 0 := by
    show Ideal.log ((1 : ℝ) : EReal) = 0
    show (if (1 : ℝ) ≤ 0 then ⊥ else ((Real.log 1 : ℝ) : EReal)) = 0
    rw [if_neg (by norm_num), Real.log_one, EReal.coe_zero]
  unfold softplus Ideal.log1p
  simp [h]

theorem softplus_top : softplus ⊤ = ⊤ := by
  have h : Ideal.log (1 : EReal) = 0 := by
    show Ideal.log ((1 : ℝ) : EReal) = 0
    show (if (1 : ℝ) ≤ 0 then ⊥ else ((Real.log 1 : ℝ) : EReal)) = 0
    rw [if_neg (by norm_num), Real.log_one, EReal.coe_zero]
  unfold softplus Ideal.log1p
  simp [h]

/-- The derivative of the softplus by the reference's formula is the logistic function, at the infinities too. -/
theorem slope (x : EReal) :
    Ideal.exp ((if x = ⊤ then 0 else x) - (if softplus x = ⊤ then 0 else softplus x)) = Ideal.logistic x := by
  induction x with
  | bot => rw [softplus_bot]; simp
  | top =>
    rw [softplus_top, if_pos rfl, sub_zero, Ideal.logistic_top, ← EReal.coe_zero, Ideal.exp_coe, Real.exp_zero, EReal.coe_one]
  | coe r =>
    rw [softplus_coe, if_neg (EReal.coe_ne_top _), if_neg (EReal.coe_ne_top _), ← EReal.coe_sub, Ideal.exp_coe, Ideal.logistic_coe,
      Real.exp_sub, Real.exp_log (by positivity)]
    congr 1
    have := Real.exp_pos r
    rw [Real.exp_neg]
    field_simp
    ring

theorem select_ite {α : Type} (p : Prop) [Decidable p] (a b : α) :
    Scalar.select (if p then 1#1 else 0#1) a b = if p then a else b := by
  split <;> rfl

theorem cmp_eq (x y : EReal) : Ideal.cmp .oeq x y = if x = y then 1#1 else 0#1 := by
  unfold Ideal.cmp
  by_cases h : x = y <;> simp [h]

theorem cmp_ne (x : EReal) : Ideal.cmp .une x x = if False then 1#1 else 0#1 := by
  unfold Ideal.cmp
  simp

/-- One entry of the gradient of the gates' inputs, from arrays of 128 columns: zero in the first 112 rows. -/
def grad (X0 X1 : Vec Ideal S8320x128 .f32) (X2 : Vec Ideal S1x128 .f32) (r : ℕ) (q : Fin 128) : EReal :=
  if h : 112 ≤ r ∧ r < 8320 then X0 (ix2 ⟨r, h.2⟩ q) * Ideal.logistic (-(X1 (ix2 ⟨r, h.2⟩ q) + X2 (ix2 0 q))) else 0

/-! ## The reference -/

section
open FGateRefIdeal.Read
variable (x0 x1 : (⟨FGateRefIdeal.S8320x8, .f32⟩ : BufTy).Contents (Elt Ideal))
  (x2 : (⟨FGateRefIdeal.S8, .f32⟩ : BufTy).Contents (Elt Ideal))

theorem href13 (j : FGateRefIdeal.S8208x128.Idx) : val_main_v13 (F := Ideal) x0 x1 x2 j
    = val_main_v12 (F := Ideal) x0 j * Ideal.logistic (-(val_main_v6 (F := Ideal) x1 x2 j)) := by
  have top : Ideal.ofBits .f32 0x7F800000#32 = ⊤ := by simp [Ideal.ofBits, Ideal.ieee]
  generalize hx : val_main_v6 (F := Ideal) x1 x2 = z
  generalize hy : val_main_v12 (F := Ideal) x0 = y
  simp only [val_main_call2_v0_apply, val_main_call2_call0_cst_apply, val_main_call2_call0_v0_apply,
    val_main_call2_call0_v1_apply, val_main_call2_call0_v2_apply, val_main_call2_call0_v3_apply,
    val_main_call2_call0_v4_apply, val_main_call2_call0_v5_apply, val_main_call2_call0_v6_apply,
    val_main_call2_call0_v7_apply, val_main_call2_call0_v8_apply, val_main_call2_call0_v9_apply,
    val_main_call2_call0_v10_apply, val_main_call2_call0_v11_apply, val_main_call2_v1_0_apply,
    val_main_call2_call0_cst_0_apply, val_main_call2_call0_v13_apply, val_main_call2_call0_v14_apply,
    val_main_call2_call0_cst_1_apply, val_main_call2_call0_v15_apply, val_main_call2_call0_v16_apply,
    val_main_call2_call0_cst_2_apply, val_main_call2_call0_v17_apply, val_main_call2_call0_v18_apply,
    val_main_call2_call0_cst_3_apply, val_main_call2_call0_v19_apply, val_main_call2_call0_v20_apply,
    val_main_call2_call0_v21_apply, val_main_v7_1_apply, val_main_call4_v0_apply, val_main_call4_v1_apply,
    val_main_v13_apply, hx, hy]
  show -(-(y j) * Ideal.exp (Scalar.select (Ideal.cmp .oeq (-(z j)) (Ideal.ofBits .f32 0x7F800000#32)) (Ideal.ofBits .f32 0x00000000#32) (-(z j))
      - Scalar.select (Ideal.cmp .oeq
          (Scalar.select (Ideal.cmp .une (-(z j) - Ideal.ofBits .f32 0x00000000#32) (-(z j) - Ideal.ofBits .f32 0x00000000#32))
            (-(z j) + Ideal.ofBits .f32 0x00000000#32)
            (max (-(z j)) (Ideal.ofBits .f32 0x00000000#32) + Ideal.log1p (Ideal.exp
              (-(max (-(z j) - Ideal.ofBits .f32 0x00000000#32) (-(-(z j) - Ideal.ofBits .f32 0x00000000#32)))))))
          (Ideal.ofBits .f32 0x7F800000#32)) (Ideal.ofBits .f32 0x00000000#32)
          (Scalar.select (Ideal.cmp .une (-(z j) - Ideal.ofBits .f32 0x00000000#32) (-(z j) - Ideal.ofBits .f32 0x00000000#32))
            (-(z j) + Ideal.ofBits .f32 0x00000000#32)
            (max (-(z j)) (Ideal.ofBits .f32 0x00000000#32) + Ideal.log1p (Ideal.exp
              (-(max (-(z j) - Ideal.ofBits .f32 0x00000000#32) (-(-(z j) - Ideal.ofBits .f32 0x00000000#32)))))))))
    = y j * Ideal.logistic (-(z j))
  rw [top, Ideal.ofBits_zero_f32, sub_zero, cmp_ne, select_ite, if_neg not_false, cmp_eq, cmp_eq, select_ite, select_ite, EReal.neg_mul,
    neg_neg]
  exact congrArg (y j * ·) (slope (-(z j)))

/-- The reference's gradient at a row. -/
theorem href13_grad (k : Fin 8208) (q : Fin 128) : val_main_v13 (F := Ideal) x0 x1 x2 (ix2 k q)
    = grad (val_main_v10 (F := Ideal) x0) (val_main_v0 (F := Ideal) x1) (val_main_v2 (F := Ideal) x2) (112 + k.val) q := by
  have hk := k.isLt
  rw [href13, val_main_v12_apply, val_main_v6_apply, val_main_v4_apply, val_main_v5_apply]
  unfold grad
  rw [dif_pos ⟨by omega, by omega⟩]
  refine congrArg₂ (· * ·) (congrArg (val_main_v10 (F := Ideal) x0) ?_) (congrArg (fun e : EReal => Ideal.logistic (-e))
    (congrArg₂ (· + ·) (congrArg (val_main_v0 (F := Ideal) x1) ?_) (congrArg (val_main_v2 (F := Ideal) x2) ?_)))
  · blk_ext
  · blk_ext
  · blk_ext

theorem href16 (r : Fin 8320) (q : Fin 128) : val_main_v16 (F := Ideal) x0 x1 x2 (ix2 r q)
    = grad (val_main_v10 (F := Ideal) x0) (val_main_v0 (F := Ideal) x1) (val_main_v2 (F := Ideal) x2) r.val q := by
  have hr := r.isLt
  unfold val_main_v16
  by_cases h : 112 ≤ r.val
  · refine (pad_apply_of_inside _ _ _ _ _ _ _ _ (ix2 ⟨r.val - 112, by omega⟩ q) fun a => ?_).trans ?_
    · match a with
      | ⟨0, _⟩ => show r.val = 112 + (r.val - 112) * (0 + 1); omega
      | ⟨1, _⟩ => show q.val = 0 + q.val * (0 + 1); omega
    · rw [href13_grad]
      exact congrArg (fun n => grad _ _ _ n q) (show 112 + (r.val - 112) = r.val by omega)
  · refine (pad_apply_of_not_inside _ _ _ _ _ _ _ _ 0 fun ha => h ha.1).trans ?_
    unfold grad
    rw [dif_neg (fun e => h e.1)]
    exact Ideal.ofBits_zero_f32

theorem href15 (j : FGateRefIdeal.S1x128.Idx) : val_main_v15 (F := Ideal) x0 x1 x2 j
    = ∑ r : Fin 8320, grad (val_main_v10 (F := Ideal) x0) (val_main_v0 (F := Ideal) x1) (val_main_v2 (F := Ideal) x2) r.val (j 1) := by
  rw [val_main_v15_apply, val_main_v14_apply]
  refine Eq.trans ?_ (Fin.sum_univ_add (a := 112) (b := 8208) (fun r : Fin 8320 => grad (val_main_v10 (F := Ideal) x0)
    (val_main_v0 (F := Ideal) x1) (val_main_v2 (F := Ideal) x2) r.val (j 1))).symm
  refine congrArg₂ (· + ·) ?_ (Finset.sum_congr rfl fun k _ => ?_)
  · refine Eq.trans Ideal.ofBits_zero_f32 (Finset.sum_eq_zero fun k _ => ?_).symm
    unfold grad
    rw [dif_neg]
    have := k.isLt
    simp only [Fin.val_castAdd]
    omega
  · refine Eq.trans ?_ (href13_grad x0 x1 x2 k (j 1))
    refine congrArg (val_main_v13 (F := Ideal) x0 x1 x2) ?_
    idx_bounds; blk_ext
end

/-! ## The kernel -/

theorem coord : ∀ t : Fin cfg0.N, (grid0.coords t 0).val = t.val := (by decide +kernel : ∀ t : Fin grid0.N, _)

/-- The row mask, decided at every point and row. -/
theorem mask : ∀ (t : Fin 13) (e : Fin 640), IntOp.cmpi CmpIPredicate.sge
    (IntOp.addi (Scalar.muli (BitVec.ofNat 32 t.val) 640#32) (BitVec.ofNat 32 e.val)) 112#32
      = if 112 ≤ t.val * 640 + e.val then 1#1 else 0#1 := by decide +kernel

/-- The padded arrays that the call reads. -/
abbrev A0 (c : Dev nD) : Vec Ideal S8320x128 .f32 := FGateRefIdeal.Read.val_main_v10 (F := Ideal) (m ((c : Thread nD τ).loc main_arg0))
abbrev A1 (c : Dev nD) : Vec Ideal S8320x128 .f32 := FGateRefIdeal.Read.val_main_v0 (F := Ideal) (m ((c : Thread nD τ).loc main_arg1))
abbrev A2 (c : Dev nD) : Vec Ideal S1x128 .f32 := FGateRefIdeal.Read.val_main_v2 (F := Ideal) (m ((c : Thread nD τ).loc main_arg2))

theorem entry0 (c : Dev nD) : V m c main_v0 = A0 m c := rfl
theorem entry1 (c : Dev nD) : V m c main_v1 = A1 m c := rfl
theorem entry2 (c : Dev nD) : V m c main_v3 = A2 m c := rfl

/-- The blocks of the windows at each point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] := (by decide +kernel : ∀ t : Fin grid0.N, _)

/-- A block's gradient. -/
theorem blk (c : Dev nD) (t : Fin cfg0.N) (j : S640x128.Idx) :
    k0_pay2 (grid0.coords t) (iblk m c 0 t) (iblk m c 1 t) (iblk m c 2 t) j
      = grad (A0 m c) (A1 m c) (A2 m c) (t.val * 640 + (j 0).val) (j 1) := by
  have hN : t.val < 13 := lt_of_lt_of_eq t.isLt N_0
  have hj : (j 0).val < 640 := (j 0).isLt
  have hm := mask ⟨t.val, hN⟩ (j 0)
  have e0 : (show Vec Ideal S640x128 .f32 from iblk m c 0 t) j = A0 m c (ix2 ⟨t.val * 640 + (j 0).val, by omega⟩ (j 1)) := by
    show V m c main_v0 ((win0_0.blk t).view.emb j) = _
    rw [entry0]
    generalize A0 m c = w
    refine congrArg w (?_ : _ = ix2 _ _)
    idx_bounds; blk_ext [idx t]
  have e1 : (show Vec Ideal S640x128 .f32 from iblk m c 1 t) j = A1 m c (ix2 ⟨t.val * 640 + (j 0).val, by omega⟩ (j 1)) := by
    show V m c main_v1 ((win0_1.blk t).view.emb j) = _
    rw [entry1]
    generalize A1 m c = w
    refine congrArg w (?_ : _ = ix2 _ _)
    idx_bounds; blk_ext [idx t]
  have e2 : (show Vec Ideal S1x128 .f32 from iblk m c 2 t) (ix2 0 (j 1)) = A2 m c (ix2 0 (j 1)) := by
    show V m c main_v3 ((win0_2.blk t).view.emb (ix2 0 (j 1))) = _
    rw [entry2]
    generalize A2 m c = w
    refine congrArg w (?_ : _ = ix2 _ _)
    idx_bounds; blk_ext [idx t]
  have e : k0_pay2 (grid0.coords t) (iblk m c 0 t) (iblk m c 1 t) (iblk m c 2 t) j
      = Scalar.select (IntOp.cmpi CmpIPredicate.sge (IntOp.addi (Scalar.muli (BitVec.ofNat 32 (grid0.coords t 0).val) 640#32)
          (BitVec.ofNat 32 (j 0).val)) 112#32)
        ((show Vec Ideal S640x128 .f32 from iblk m c 0 t) j * Ideal.logistic (-((show Vec Ideal S640x128 .f32 from iblk m c 1 t) j
          + (show Vec Ideal S1x128 .f32 from iblk m c 2 t) (ix2 0 (j 1))))) (0 : EReal) := by
    pointwise [k0_pay2, zero_sub]
  rw [e, coord t]
  dsimp only at hm
  rw [hm, select_ite, e0, e1, e2]
  unfold grad
  by_cases h : 112 ≤ t.val * 640 + (j 0).val
  · rw [if_pos h, dif_pos ⟨h, by omega⟩]
  · rw [if_neg h, dif_neg (fun e => h e.1)]

/-- What a point adds to the sum over the rows. -/
def part (c : Dev nD) (t : ℕ) (q : Fin 128) : EReal :=
  ∑ p : Fin 640, grad (A0 m c) (A1 m c) (A2 m c) (t * 640 + p.val) q

theorem hpay3 (c : Dev nD) (t : Fin cfg0.N) (v : Vec Ideal S1x128 .f32) (y : S1x128.Idx) :
    k0_pay3 (grid0.coords t) (iblk m c 0 t) (iblk m c 1 t) (iblk m c 2 t) v y = v y + part m c t.val (y 1) := by
  have h := blk m c t
  unfold part k0_pay3
  generalize k0_pay2 (grid0.coords t) (iblk m c 0 t) (iblk m c 1 t) (iblk m c 2 t) = w at h ⊢
  have hs : ∀ p : Fin 640, w (ix2 p (y 1)) = grad (A0 m c) (A1 m c) (A2 m c) (t.val * 640 + p.val) (y 1) := fun p => h (ix2 p (y 1))
  rw [← Finset.sum_congr rfl fun p _ => hs p]
  pointwise []

/-- The gradient of the gates' inputs. -/
theorem final3 (c : Dev nD) : (dats m 0 c).arrAt 3 (cfgs 0).N = FGateRefIdeal.Read.val_main_v16 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hN : t.val < 13 := lt_of_lt_of_eq t.isLt N_0
  have hy : (y 0).val < 640 := (y 0).isLt
  have e : (outsAt0 m c t.val t.isLt).1 y = grad (A0 m c) (A1 m c) (A2 m c) (t.val * 640 + (y 0).val) (y 1) := by
    by_cases h : t.val % 13 = 0
    · rw [outsAt0_A m c t h]; frame_out; exact blk m c t y
    · rw [outsAt0_B m c t h]; frame_out; exact blk m c t y
  rw [after0_3]
  refine e.trans ((href16 _ _ _ ⟨t.val * 640 + (y 0).val, by omega⟩ (y 1)).symm.trans ?_)
  refine congrArg (FGateRefIdeal.Read.val_main_v16 (F := Ideal) (m ((c : Thread nD τ).loc main_arg0)) (m ((c : Thread nD τ).loc main_arg1)) (m ((c : Thread nD τ).loc main_arg2))) ?_
  idx_bounds; blk_ext [idx t]

/-- The gradient of the gates' bias. -/
theorem final4 (c : Dev nD) : (dats m 0 c).arrAt 4 (cfgs 0).N = FGateRefIdeal.Read.val_main_v15 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have hN : t.val < 13 := lt_of_lt_of_eq t.isLt N_0
  have hf' : t.val % 13 = 12 := (flush0_4 t).1 hf
  rw [after0_4, Pipeline.eq_sum_fin_of_reset_step_apply_of_flush (fun n h => (outsAt0 m c n h).2) 13 (fun _ => 0)
    (fun t y => part m c t.val (y 1))
    (fun t h j => by rw [outsAt0_A m c t h]; frame_out; rw [hpay3]; exact congrArg (· + part m c t.val (j 1)) (by pointwise [k0_pay1]))
    (fun t h j => by rw [outsAt0_B m c t h]; frame_out; rw [hpay3])
    t hf' y, zero_add]
  refine Eq.trans ?_ (href15 _ _ _ _).symm
  unfold part
  refine Fin.sum_mul_add_congr fun s k hl => ?_
  have h0 : t.val / 13 = 0 := by omega
  refine congrArg₂ (grad (A0 m c) (A1 m c) (A2 m c)) ?_ ?_
  · show (13 * (t.val / 13) + s.val) * 640 + k.val = s.val * 640 + k.val
    omega
  · apply Fin.ext
    blk_simp [idx t]

end Cert.FGateValue
-- ==== Proof.Scan.lean ====
/- Running sums over the rows: the sum of a window over a padded column, and the doubling steps of a scan in a block of
   640 rows. -/
module

public import proofs.«01_k».proof.Proof.Sums
public import Idealize.ShloMosaic.Lib.KernelVsHost
public import Idealize.ShloMosaic.Lib.Routing.OpsOne

@[expose] public section

set_option maxRecDepth 16384

noncomputable section

namespace Cert.Scan

open Idealize.ShloMosaic Idealize.ShloMosaic.TcCoe

/-- A left fold of additions is the start and the sum. -/
theorem foldl_add {ι : Type} (l : List ι) (g : ι → EReal) (v : EReal) :
    l.foldl (fun r a => r + g a) v = v + (l.map g).sum := by
  induction l generalizing v with
  | nil => simp
  | cons a l ih => rw [List.foldl_cons, ih, List.map_cons, List.sum_cons, add_assoc]

/-- The sum over a window as tall as the array, padded by `lo` rows in front, of an array that holds `f`. -/
theorem window_sum {R C lo hi : ℕ} (x : (⟨2, ![R, C]⟩ : Shape).Idx → EReal) (f : Fin C → ℕ → EReal)
    (hx : ∀ (i : Fin R) (c : Fin C), x (ix2 i c) = f c i.val)
    (h : (⟨2, ![R, C]⟩ : Shape).ReduceWindows (![R, 1] : Fin 2 → ℕ) ![1, 1] ![lo, 0] ![hi, 0] ⟨2, ![R, C]⟩) (j : Fin R) (c : Fin C) :
    Ideal.hostReduceWindowAdd ![R, 1] ![1, 1] ![lo, 0] ![hi, 0] h x 0 (ix2 j c)
      = ∑ n ∈ Finset.range R, if lo ≤ j.val + n ∧ j.val + n - lo < R then f c (j.val + n - lo) else 0 := by
  unfold Ideal.hostReduceWindowAdd Host.reduceWindow
  refine (foldl_add _ _ _).trans ?_
  have hc := c.isLt
  rw [zero_add, ← Fin.sum_univ_eq_sum_range (fun n => if lo ≤ j.val + n ∧ j.val + n - lo < R then f c (j.val + n - lo) else 0) R,
    ← Fin.sum_univ_def]
  refine Fintype.sum_equiv (finCongr (Routing.numel_col R)) _ _ fun n => ?_
  have hw0 : ((Routing.shape2 R 1).rowMajor.symm n 0).val = n.val := by rw [Routing.symm_col]; rfl
  have hw1 : ((Routing.shape2 R 1).rowMajor.symm n 1).val = 0 := by rw [Routing.symm_col]; rfl
  show _ = if lo ≤ j.val + n.val ∧ j.val + n.val - lo < R then f c (j.val + n.val - lo) else 0
  split
  · next hin =>
    have h0 := hin 0
    change lo ≤ j.val * 1 + ((Routing.shape2 R 1).rowMajor.symm n 0).val
      ∧ j.val * 1 + ((Routing.shape2 R 1).rowMajor.symm n 0).val - lo < R at h0
    rw [hw0, Nat.mul_one] at h0
    rw [if_pos h0]
    refine (congrArg x (funext fun a => Fin.ext ?_)).trans (hx ⟨j.val + n.val - lo, h0.2⟩ c)
    match a with
    | ⟨0, _⟩ =>
      show j.val * 1 + ((Routing.shape2 R 1).rowMajor.symm n 0).val - lo = j.val + n.val - lo
      rw [hw0, Nat.mul_one]
    | ⟨1, _⟩ =>
      show c.val * 1 + ((Routing.shape2 R 1).rowMajor.symm n 1).val - 0 = c.val
      rw [hw1]
      omega
  · next hin =>
    rw [if_neg fun hle => hin fun a => by
      match a with
      | ⟨0, _⟩ =>
        show lo ≤ j.val * 1 + ((Routing.shape2 R 1).rowMajor.symm n 0).val
          ∧ j.val * 1 + ((Routing.shape2 R 1).rowMajor.symm n 0).val - lo < R
        rw [hw0, Nat.mul_one]
        exact hle
      | ⟨1, _⟩ =>
        show 0 ≤ c.val * 1 + ((Routing.shape2 R 1).rowMajor.symm n 1).val
          ∧ c.val * 1 + ((Routing.shape2 R 1).rowMajor.symm n 1).val - 0 < C
        rw [hw1]
        omega]

/-- Padded in front, the windows sum the rows up to each. -/
theorem window_prefix (R j : ℕ) (hj : j < R) (f : ℕ → EReal) :
    (∑ n ∈ Finset.range R, if R - 1 ≤ j + n ∧ j + n - (R - 1) < R then f (j + n - (R - 1)) else 0) = ∑ k ∈ Finset.range (j + 1), f k := by
  obtain ⟨d, rfl⟩ : ∃ d, R = d + (j + 1) := ⟨R - (j + 1), by omega⟩
  rw [Finset.sum_range_add, Finset.sum_eq_zero (fun n hn => if_neg (by have := Finset.mem_range.1 hn; omega)), zero_add]
  refine Finset.sum_congr rfl fun k hk => ?_
  have := Finset.mem_range.1 hk
  rw [if_pos (by omega)]
  congr 1
  omega

/-- Padded behind, the windows sum the rows from each on. -/
theorem window_suffix (R j : ℕ) (hj : j < R) (f : ℕ → EReal) :
    (∑ n ∈ Finset.range R, if 0 ≤ j + n ∧ j + n - 0 < R then f (j + n - 0) else 0) = ∑ k ∈ Finset.range (R - j), f (j + k) := by
  obtain ⟨d, rfl⟩ : ∃ d, R = (d + j) := ⟨R - j, by omega⟩
  rw [Finset.sum_range_add, Finset.sum_eq_zero (s := Finset.range j) (fun n hn => if_neg (by omega)), add_zero, Nat.add_sub_cancel]
  refine Finset.sum_congr rfl fun k hk => ?_
  have := Finset.mem_range.1 hk
  rw [if_pos (by omega)]
  rfl

/-! ## The steps of a scan -/

abbrev Rows : Shape := ⟨2, ![640, 128]⟩

/-- The sum of up to `s` rows from row `p` on. -/
def after (s : ℕ) (g : ℕ → EReal) (p : ℕ) : EReal := ∑ k ∈ Finset.range s, if p + k < 640 then g (p + k) else 0

/-- The sum of up to `s` rows up to row `p`. -/
def before (s : ℕ) (g : ℕ → EReal) (p : ℕ) : EReal := ∑ k ∈ Finset.range s, if k ≤ p then g (p - k) else 0

theorem after_double (s : ℕ) (g : ℕ → EReal) (p : ℕ) :
    after (s + s) g p = after s g p + if p < 640 - s then after s g (p + s) else 0 := by
  unfold after
  rw [Finset.sum_range_add]
  congr 1
  split
  · exact Finset.sum_congr rfl fun k _ => by rw [show p + (s + k) = p + s + k by omega]
  · exact Finset.sum_eq_zero fun k _ => if_neg (by omega)

theorem before_double (s : ℕ) (g : ℕ → EReal) (p : ℕ) :
    before (s + s) g p = before s g p + if s ≤ p then before s g (p - s) else 0 := by
  unfold before
  rw [Finset.sum_range_add]
  congr 1
  split
  · next h =>
    refine Finset.sum_congr rfl fun k _ => ?_
    by_cases hk : s + k ≤ p
    · rw [if_pos hk, if_pos (by omega), show p - (s + k) = p - s - k by omega]
    · rw [if_neg hk, if_neg (by omega)]
  · exact Finset.sum_eq_zero fun k _ => if_neg (by omega)

theorem after_all (g : ℕ → EReal) (p : ℕ) (hp : p < 640) : after 1024 g p = ∑ k ∈ Finset.range (640 - p), g (p + k) := by
  unfold after
  rw [show 1024 = (640 - p) + (384 + p) by omega, Finset.sum_range_add,
    Finset.sum_eq_zero (s := Finset.range (384 + p)) (fun k _ => if_neg (by omega)), add_zero]
  exact Finset.sum_congr rfl fun k hk => if_pos (by have := Finset.mem_range.1 hk; omega)

theorem before_all (g : ℕ → EReal) (p : ℕ) (hp : p < 640) : before 1024 g p = ∑ k ∈ Finset.range (p + 1), g k := by
  unfold before
  rw [show 1024 = (p + 1) + (1023 - p) by omega, Finset.sum_range_add,
    Finset.sum_eq_zero (s := Finset.range (1023 - p)) (fun k _ => if_neg (by omega)), add_zero, ← Finset.sum_range_reflect]
  refine Finset.sum_congr rfl fun k hk => ?_
  have := Finset.mem_range.1 hk
  rw [if_pos (by omega), show p - (p + 1 - 1 - k) = k by omega]

theorem select_ite {α : Type} (p : Prop) [Decidable p] (a b : α) :
    Scalar.select (if p then 1#1 else 0#1) a b = if p then a else b := by
  split <;> rfl

/-- A step of the scan from the last row, with the word of its mask and of its rotation. -/
def stepUp (r : Rows.Rotates 0 none) (hi : Rows.Iotas .tc 32 [0]) (b : BitVec 32) (v : FVec Ideal Rows .f32) : FVec Ideal Rows .f32 :=
  addf v (select (cmpi .slt (iota .tc Rows 32 [0] hi) (broadcast Rows b)) (dynamicRotate 0 b none v r)
    (broadcast Rows (Scalar.ofBits .f32 0x00000000#32)))

theorem stepUp_apply (r hi) (b : BitVec 32) (s : ℕ) (hs : 0 < s ∧ s < 640) (hb : b.toNat = 640 - s)
    (hm : ∀ e : Fin 640, IntOp.cmpi .slt (BitVec.ofNat 32 e.val) b = if e.val < 640 - s then 1#1 else 0#1)
    (v : FVec Ideal Rows .f32) (g : Fin 128 → ℕ → EReal) (h : ∀ (p : Fin 640) (q : Fin 128), v (ix2 p q) = after s (g q) p.val)
    (p : Fin 640) (q : Fin 128) : stepUp r hi b v (ix2 p q) = after (s + s) (g q) p.val := by
  have hp := p.isLt
  have e : stepUp r hi b v (ix2 p q) = v (ix2 p q) + Scalar.select (IntOp.cmpi .slt (BitVec.ofNat 32 p.val) b)
      (dynamicRotate 0 b none v r (ix2 p q)) (0 : EReal) := by
    unfold stepUp
    generalize dynamicRotate 0 b none v r = w
    pointwise []
  rw [e, hm p, select_ite, h, after_double]
  congr 1
  by_cases c : p.val < 640 - s
  · rw [if_pos c, if_pos c]
    refine (dynamicRotate_apply 0 b v r (ix2 p q) (ix2 ⟨p.val + s, by omega⟩ q) fun a => ?_).trans (h _ q)
    match a with
    | ⟨0, _⟩ =>
      show p.val + s = (p.val + 640 - b.toNat % 640) % 640
      rw [hb]
      omega
    | ⟨1, _⟩ => rfl
  · rw [if_neg c, if_neg c]

/-- A step of the scan from the first row. -/
def stepDown (r : Rows.Rotates 0 none) (hi : Rows.Iotas .tc 32 [0]) (b : BitVec 32) (v : FVec Ideal Rows .f32) : FVec Ideal Rows .f32 :=
  addf v (select (cmpi .sge (iota .tc Rows 32 [0] hi) (broadcast Rows b)) (dynamicRotate 0 b none v r)
    (broadcast Rows (Scalar.ofBits .f32 0x00000000#32)))

theorem stepDown_apply (r hi) (b : BitVec 32) (s : ℕ) (hs : 0 < s ∧ s < 640) (hb : b.toNat = s)
    (hm : ∀ e : Fin 640, IntOp.cmpi .sge (BitVec.ofNat 32 e.val) b = if s ≤ e.val then 1#1 else 0#1)
    (v : FVec Ideal Rows .f32) (g : Fin 128 → ℕ → EReal) (h : ∀ (p : Fin 640) (q : Fin 128), v (ix2 p q) = before s (g q) p.val)
    (p : Fin 640) (q : Fin 128) : stepDown r hi b v (ix2 p q) = before (s + s) (g q) p.val := by
  have hp := p.isLt
  have e : stepDown r hi b v (ix2 p q) = v (ix2 p q) + Scalar.select (IntOp.cmpi .sge (BitVec.ofNat 32 p.val) b)
      (dynamicRotate 0 b none v r (ix2 p q)) (0 : EReal) := by
    unfold stepDown
    generalize dynamicRotate 0 b none v r = w
    pointwise []
  rw [e, hm p, select_ite, h, before_double]
  congr 1
  by_cases c : s ≤ p.val
  · rw [if_pos c, if_pos c]
    refine (dynamicRotate_apply 0 b v r (ix2 p q) (ix2 ⟨p.val - s, by omega⟩ q) fun a => ?_).trans (h _ q)
    match a with
    | ⟨0, _⟩ =>
      show p.val - s = (p.val + 640 - b.toNat % 640) % 640
      rw [hb]
      omega
    | ⟨1, _⟩ => rfl
  · rw [if_neg c, if_neg c]

/-- The ten steps from the last row. -/
def up (r : Rows.Rotates 0 none) (hi : Rows.Iotas .tc 32 [0]) (v : FVec Ideal Rows .f32) : FVec Ideal Rows .f32 :=
  stepUp r hi 128#32 (stepUp r hi 384#32 (stepUp r hi 512#32 (stepUp r hi 576#32 (stepUp r hi 608#32 (stepUp r hi 624#32
    (stepUp r hi 632#32 (stepUp r hi 636#32 (stepUp r hi 638#32 (stepUp r hi 639#32 v)))))))))

/-- The ten steps from the first row. -/
def down (r : Rows.Rotates 0 none) (hi : Rows.Iotas .tc 32 [0]) (v : FVec Ideal Rows .f32) : FVec Ideal Rows .f32 :=
  stepDown r hi 512#32 (stepDown r hi 256#32 (stepDown r hi 128#32 (stepDown r hi 64#32 (stepDown r hi 32#32 (stepDown r hi 16#32
    (stepDown r hi 8#32 (stepDown r hi 4#32 (stepDown r hi 2#32 (stepDown r hi 1#32 v)))))))))

theorem up_apply (r hi) (v : FVec Ideal Rows .f32) (g : Fin 128 → ℕ → EReal) (h : ∀ (p : Fin 640) (q : Fin 128), v (ix2 p q) = g q p.val)
    (p : Fin 640) (q : Fin 128) : up r hi v (ix2 p q) = ∑ k ∈ Finset.range (640 - p.val), g q (p.val + k) := by
  refine Eq.trans ?_ (after_all (g q) p.val p.isLt)
  have h0 : ∀ (p : Fin 640) (q : Fin 128), v (ix2 p q) = after 1 (g q) p.val := fun p q => by
    have hp := p.isLt
    rw [h]
    unfold after
    rw [Finset.sum_range_one, if_pos (by omega)]
    rfl
  have h1 := stepUp_apply r hi 639#32 1 (by omega) rfl (by decide +kernel) v g h0
  have h2 := stepUp_apply r hi 638#32 2 (by omega) rfl (by decide +kernel) _ g h1
  have h3 := stepUp_apply r hi 636#32 4 (by omega) rfl (by decide +kernel) _ g h2
  have h4 := stepUp_apply r hi 632#32 8 (by omega) rfl (by decide +kernel) _ g h3
  have h5 := stepUp_apply r hi 624#32 16 (by omega) rfl (by decide +kernel) _ g h4
  have h6 := stepUp_apply r hi 608#32 32 (by omega) rfl (by decide +kernel) _ g h5
  have h7 := stepUp_apply r hi 576#32 64 (by omega) rfl (by decide +kernel) _ g h6
  have h8 := stepUp_apply r hi 512#32 128 (by omega) rfl (by decide +kernel) _ g h7
  have h9 := stepUp_apply r hi 384#32 256 (by omega) rfl (by decide +kernel) _ g h8
  exact stepUp_apply r hi 128#32 512 (by omega) rfl (by decide +kernel) _ g h9 p q

theorem down_apply (r hi) (v : FVec Ideal Rows .f32) (g : Fin 128 → ℕ → EReal) (h : ∀ (p : Fin 640) (q : Fin 128), v (ix2 p q) = g q p.val)
    (p : Fin 640) (q : Fin 128) : down r hi v (ix2 p q) = ∑ k ∈ Finset.range (p.val + 1), g q k := by
  refine Eq.trans ?_ (before_all (g q) p.val p.isLt)
  have h0 : ∀ (p : Fin 640) (q : Fin 128), v (ix2 p q) = before 1 (g q) p.val := fun p q => by
    rw [h]
    unfold before
    rw [Finset.sum_range_one, if_pos (by omega)]
    rfl
  have h1 := stepDown_apply r hi 1#32 1 (by omega) rfl (by decide +kernel) v g h0
  have h2 := stepDown_apply r hi 2#32 2 (by omega) rfl (by decide +kernel) _ g h1
  have h3 := stepDown_apply r hi 4#32 4 (by omega) rfl (by decide +kernel) _ g h2
  have h4 := stepDown_apply r hi 8#32 8 (by omega) rfl (by decide +kernel) _ g h3
  have h5 := stepDown_apply r hi 16#32 16 (by omega) rfl (by decide +kernel) _ g h4
  have h6 := stepDown_apply r hi 32#32 32 (by omega) rfl (by decide +kernel) _ g h5
  have h7 := stepDown_apply r hi 64#32 64 (by omega) rfl (by decide +kernel) _ g h6
  have h8 := stepDown_apply r hi 128#32 128 (by omega) rfl (by decide +kernel) _ g h7
  have h9 := stepDown_apply r hi 256#32 256 (by omega) rfl (by decide +kernel) _ g h8
  exact stepDown_apply r hi 512#32 512 (by omega) rfl (by decide +kernel) _ g h9 p q

end Cert.Scan
-- ==== Proof.RSumValue.lean ====
/- The backward pass of the forget gates' running sums: the array that the kernel leaves is the reference's. -/
module

public import proofs.«01_k».proof.Proof.Gen.RSumIdeal.Value
public import proofs.«01_k».proof.Proof.Gen.RSumRefIdeal.Read
public import proofs.«01_k».proof.Proof.Scan
public import Idealize.ShloMosaic.Lib.Pipeline.ReadBack

@[expose] public section

set_option maxRecDepth 16384

noncomputable section

namespace Cert.RSumValue

open Idealize.ShloMosaic Idealize.ShloMosaic.TcCoe Idealize.SL.Sem
open Idealize.ShloMosaic.Pipeline (Dat)
open Cert.RSumIdeal Cert.RSumIdeal.Gen

variable (m : (ℓ : Loc nD τ sig) → Buf (Elt Ideal) ℓ)

/-- A column of the padded cotangents, as a function of the row. -/
def col (X : Vec Ideal S8320x128 .f32) (q : Fin 128) (i : ℕ) : EReal := if h : i < 8320 then X (ix2 ⟨i, h⟩ q) else 0

/-- The reference sums each column from a row on. -/
theorem href (x : (⟨RSumRefIdeal.S8320x8, .f32⟩ : BufTy).Contents (Elt Ideal)) (r : Fin 8320) (q : Fin 128) :
    RSumRefIdeal.Read.val_main_v3 (F := Ideal) x (ix2 r q)
      = ∑ k ∈ Finset.range (8320 - r.val), col (RSumRefIdeal.Read.val_main_v2 (F := Ideal) x) q (r.val + k) := by
  have z : ∀ i, RSumRefIdeal.Read.val_main_call2_call0_v0 (F := Ideal) i = (0 : EReal) := fun i => by
    rw [RSumRefIdeal.Read.val_main_call2_call0_v0_apply]; exact Ideal.ofBits_zero_f32
  refine Eq.trans ?_ (Scan.window_suffix 8320 r.val r.isLt (col (RSumRefIdeal.Read.val_main_v2 (F := Ideal) x) q))
  unfold RSumRefIdeal.Read.val_main_v3 Host.reduceWindowAdd
  rw [Ideal.hostReduceWindowAdd_def, z]
  exact Scan.window_sum _ (col (RSumRefIdeal.Read.val_main_v2 (F := Ideal) x)) (fun i c => by unfold col; rw [dif_pos i.isLt]) _ r q

/-- The padded cotangents. -/
abbrev A0 (c : Dev nD) : Vec Ideal S8320x128 .f32 := RSumRefIdeal.Read.val_main_v2 (F := Ideal) (m ((c : Thread nD τ).loc main_arg0))

theorem entry0 (c : Dev nD) : V m c main_v0 = A0 m c := rfl

/-- The blocks of the windows at each point. -/
theorem idx : ∀ t : Fin cfg0.N, win0_0.index t = ![12 - t.val, 0] ∧ win0_1.index t = ![12 - t.val, 0] :=
  (by decide +kernel : ∀ t : Fin grid0.N, _)

/-- A block of the cotangents. -/
theorem blk (c : Dev nD) (t : Fin cfg0.N) (p : Fin 640) (q : Fin 128) :
    (show Vec Ideal S640x128 .f32 from iblk m c 0 t) (ix2 p q) = col (A0 m c) q ((12 - t.val) * 640 + p.val) := by
  have hN : t.val < 13 := lt_of_lt_of_eq t.isLt N_0
  have hp := p.isLt
  unfold col
  rw [dif_pos (by omega)]
  show V m c main_v0 ((win0_0.blk t).view.emb (ix2 p q)) = _
  rw [entry0]
  generalize A0 m c = w
  refine congrArg w (?_ : _ = ix2 _ _)
  idx_bounds; blk_ext [idx t]

/-- A block's scan with what is carried into it. -/
theorem hpay (x : Vec Ideal S640x128 .f32) (v : Vec Ideal S1x128 .f32) (g : Fin 128 → ℕ → EReal)
    (h : ∀ (p : Fin 640) (q : Fin 128), x (ix2 p q) = g q p.val) (p : Fin 640) (q : Fin 128) :
    k0_pay4 (iota .tc S640x128 32 [0] iota_S640x128_d0_w32) (k0_pay2 x) k0_pay3 v (ix2 p q)
      = (∑ k ∈ Finset.range (640 - p.val), g q (p.val + k)) + v (ix2 0 q) := by
  have hx : ∀ (p : Fin 640) (q : Fin 128), shapeCast S640x128 x shapeCasts_S640x128_S640x128 (ix2 p q) = g q p.val := fun p q => by
    rw [← h]; pointwise []
  have hu := Scan.up_apply rotates_S640x128_d0 iota_S640x128_d0_w32 (shapeCast S640x128 x shapeCasts_S640x128_S640x128) g hx p q
  rw [← hu]
  have e : k0_pay4 (iota .tc S640x128 32 [0] iota_S640x128_d0_w32) (k0_pay2 x) k0_pay3 v
      = addf (Scan.up rotates_S640x128_d0 iota_S640x128_d0_w32 (shapeCast S640x128 x shapeCasts_S640x128_S640x128))
          (broadcastTo S640x128 v broadcasts_S1x128_S640x128) := rfl
  rw [e]
  generalize Scan.up rotates_S640x128_d0 iota_S640x128_d0_w32 (shapeCast S640x128 x shapeCasts_S640x128_S640x128) = w
  pointwise []

/-- What a point leaves, from the sum carried into it. -/
theorem point (c : Dev nD) (t : Fin cfg0.N) (v : Vec Ideal S1x128 .f32)
    (hv : ∀ q, v (ix2 0 q) = ∑ k ∈ Finset.range (t.val * 640), col (A0 m c) q ((13 - t.val) * 640 + k)) (p : Fin 640) (q : Fin 128) :
    k0_pay4 (iota .tc S640x128 32 [0] iota_S640x128_d0_w32) (k0_pay2 (show Vec Ideal S640x128 .f32 from iblk m c 0 t)) k0_pay3 v (ix2 p q)
      = ∑ k ∈ Finset.range (8320 - ((12 - t.val) * 640 + p.val)), col (A0 m c) q ((12 - t.val) * 640 + p.val + k) := by
  have hN : t.val < 13 := lt_of_lt_of_eq t.isLt N_0
  have hp := p.isLt
  rw [hpay _ v (fun q i => col (A0 m c) q ((12 - t.val) * 640 + i)) (blk m c t) p q, hv q,
    show 8320 - ((12 - t.val) * 640 + p.val) = (640 - p.val) + t.val * 640 by omega, Finset.sum_range_add]
  refine congrArg₂ (· + ·) (Finset.sum_congr rfl fun k _ => ?_) (Finset.sum_congr rfl fun k _ => ?_)
  · rw [Nat.add_assoc]
  · rw [show (12 - t.val) * 640 + p.val + (640 - p.val + k) = (13 - t.val) * 640 + k by omega]

/-- The row that is carried on is the block's first. -/
theorem carried (M : View sig .tc .vmem S640x128 .f32) (w : Vec Ideal S640x128 .f32) (q : Fin 128) :
    k0_pay5 (M.readCov (Val := Elt Ideal) [⟨Rect.unit ![0, 0] ![640, 128] inb_S640x128_S640x128_0_0, w⟩]
      (Rect.unit ![0, 0] ![1, 128] inb_S640x128_S1x128_0_0).toLoadRect) (ix2 0 q) = w (ix2 0 q) := by
  have e : M.readCov (Val := Elt Ideal) [⟨Rect.unit ![0, 0] ![640, 128] inb_S640x128_S640x128_0_0, w⟩]
      (Rect.unit ![0, 0] ![1, 128] inb_S640x128_S1x128_0_0).toLoadRect = fun j => w (ix2 0 (j 1)) := by
    refine (View.readCov_fill M inb_S640x128_S640x128_0_0 w [] _ (by decide)).trans (funext fun j => ?_)
    refine congrArg w ?_
    blk_ext
    · show 0 + 1 * (j 0).val = 0
      omega
    · show 0 + 1 * (j 1).val = (j 1).val
      omega
  rw [e]
  pointwise [k0_pay5]

theorem outs (c : Dev nD) : ∀ (n : ℕ) (hn : n < cfg0.N), (∀ (p : Fin 640) (q : Fin 128), (outsAt0 m c n hn).1 (ix2 p q)
      = ∑ k ∈ Finset.range (8320 - ((12 - n) * 640 + p.val)), col (A0 m c) q ((12 - n) * 640 + p.val + k))
    ∧ ∀ q : Fin 128, (outsAt0 m c n hn).2 (ix2 0 q) = ∑ k ∈ Finset.range ((n + 1) * 640), col (A0 m c) q ((12 - n) * 640 + k) := by
  intro n
  induction n with
  | zero =>
    intro hn
    rw [outsAt0_A m c ⟨0, hn⟩ (Nat.zero_mod _)]
    frame_out
    have hp := point m c ⟨0, hn⟩ (k0_pay1 (F := Ideal)) (fun q => by
      rw [show (⟨0, hn⟩ : Fin cfg0.N).val * 640 = 0 from rfl, Finset.sum_range_zero]
      pointwise [k0_pay1])
    refine ⟨hp, fun q => (carried _ _ q).trans ((hp 0 q).trans ?_)⟩
    show (∑ k ∈ Finset.range (8320 - ((12 - 0) * 640 + 0)), _) = _
    rw [show 8320 - ((12 - 0) * 640 + 0) = (0 + 1) * 640 by omega]
    rfl
  | succ n ih =>
    intro hn
    have h := ih (by omega)
    have hN : n + 1 < 13 := lt_of_lt_of_eq hn N_0
    rw [outsAt0_B m c ⟨n + 1, hn⟩ (by show ¬(n + 1) % 13 = 0; omega)]
    frame_out
    rw [read_unread_whole]
    have hp := point m c ⟨n + 1, hn⟩ (outsAt0 m c n (by omega)).2 (fun q => by
      rw [h.2 q, show 13 - (⟨n + 1, hn⟩ : Fin cfg0.N).val = 12 - n from by show 13 - (n + 1) = 12 - n; omega])
    refine ⟨hp, fun q => (carried _ _ q).trans ((hp 0 q).trans ?_)⟩
    show (∑ k ∈ Finset.range (8320 - ((12 - (n + 1)) * 640 + 0)), _) = _
    rw [show 8320 - ((12 - (n + 1)) * 640 + 0) = (n + 1 + 1) * 640 by omega]
    rfl

/-- The gradient of the forget gates' logarithms. -/
theorem final (c : Dev nD) : (dats m 0 c).arrAt 1 (cfgs 0).N = RSumRefIdeal.Read.val_main_v3 (F := Ideal) (m ((c : Thread nD τ).loc main_arg0)) := by
  refine (dats m 0 c).arrAt_eq_of_covers 1 _ (by decide +kernel) fun t hf y => ?_
  blk_simp
  have hN : t.val < 13 := lt_of_lt_of_eq t.isLt N_0
  have hy : (y 0).val < 640 := (y 0).isLt
  rw [after0_1]
  have e : (outsAt0 m c t.val t.isLt).1 y = _ := (congrArg (outsAt0 m c t.val t.isLt).1 (by blk_ext : y = ix2 (y 0) (y 1))).trans
    ((outs m c t.val t.isLt).1 (y 0) (y 1))
  refine e.trans ((href _ ⟨(12 - t.val) * 640 + (y 0).val, by omega⟩ (y 1)).symm.trans ?_)
  refine congrArg (RSumRefIdeal.Read.val_main_v3 (F := Ideal) (m ((c : Thread nD τ).loc main_arg0))) ?_
  idx_bounds; blk_ext [idx t]

end Cert.RSumValue
-- ==== Proof.CSumValue.lean ====
/- The running sums of the forget gates' logarithms: the array that the kernel leaves is the reference's. -/
module

public import proofs.«01_k».proof.Proof.Gen.CSumIdeal.Value
public import proofs.«01_k».proof.Proof.Gen.CSumRefIdeal.Read
public import proofs.«01_k».proof.Proof.Scan
public import Idealize.ShloMosaic.Lib.Pipeline.ReadBack

@[expose] public section

set_option maxRecDepth 16384

noncomputable section

namespace Cert.CSumValue

open Idealize.ShloMosaic Idealize.ShloMosaic.TcCoe Idealize.SL.Sem
open Idealize.ShloMosaic.Pipeline (Dat)
open Cert.CSumIdeal Cert.CSumIdeal.Gen

variable (m : (ℓ : Loc nD τ sig) → Buf (Elt Ideal) ℓ)

/-! ## log(sigmoid), on the extended reals -/

/-- log(1 + e^(-|z|)). -/
def tail (z : EReal) : EReal := Ideal.log1p (Ideal.exp (-(max z (-z))))

theorem tail_ne_bot (z : EReal) : tail z ≠ ⊥ := by
  have h : Ideal.log (1 : EReal) = 0 := by
    show (if (1 : ℝ) ≤ 0 then ⊥ else ((Real.log 1 : ℝ) : EReal)) = 0
    rw [if_neg (by norm_num), Real.log_one, EReal.coe_zero]
  unfold tail Ideal.log1p
  induction z with
  | bot => simp [h]
  | top => simp [h]
  | coe r =>
    have e2 : max (r : EReal) (-(r : EReal)) = ((|r| : ℝ) : EReal) := by
      rw [← EReal.coe_neg, ← EReal.coe_strictMono.monotone.map_max]; rfl
    rw [e2, ← EReal.coe_neg, Ideal.exp_coe, ← EReal.coe_one, ← EReal.coe_add]
    show (if 1 + Real.exp (-|r|) ≤ 0 then ⊥ else ((Real.log (1 + Real.exp (-|r|)) : ℝ) : EReal)) ≠ ⊥
    rw [if_neg (not_le.mpr (by positivity))]
    exact EReal.coe_ne_bot _

theorem neg_max (z : EReal) : -(max (-z) 0) = min z 0 := by
  rcases le_total z 0 with h | h
  · rw [min_eq_left h, max_eq_left (EReal.le_neg_of_le_neg (by simpa using h)), neg_neg]
  · rw [min_eq_right h, max_eq_right (EReal.neg_le_of_neg_le (by simpa using h)), neg_zero]

/-- The kernel's spelling of log(sigmoid z). -/
def logGate (z : EReal) : EReal := min z 0 - tail z

/-- The reference's spelling is the kernel's, at the infinities too. -/
theorem logGate_eq (z : EReal) : -(max (-z) 0 + tail (-z)) = logGate z := by
  have e : tail (-z) = tail z := by unfold tail; rw [neg_neg, max_comm]
  have h0 : (0 : EReal) ≤ max (-z) 0 := le_max_right _ _
  rw [e, EReal.neg_add (Or.inl (ne_bot_of_le_ne_bot EReal.zero_ne_bot h0)) (Or.inr (tail_ne_bot z)), neg_max]
  rfl

theorem cmp_ne (x : EReal) : Ideal.cmp .une x x = if False then 1#1 else 0#1 := by
  unfold Ideal.cmp
  simp

/-- The logarithm of a gate at a row and a column, from arrays of 128 columns: zero in the first 112 rows. -/
def gate (X0 : Vec Ideal S8320x128 .f32) (X1 : Vec Ideal S1x128 .f32) (q : Fin 128) (r : ℕ) : EReal :=
  if h : 112 ≤ r ∧ r < 8320 then logGate (X0 (ix2 ⟨r, h.2⟩ q) + X1 (ix2 0 q)) else 0

/-! ## The reference -/

section
open CSumRefIdeal.Read
variable (x0 : (⟨CSumRefIdeal.S8320x8, .f32⟩ : BufTy).Contents (Elt Ideal)) (x1 : (⟨CSumRefIdeal.S8, .f32⟩ : BufTy).Contents (Elt Ideal))

theorem href7 (j : CSumRefIdeal.S8208x128.Idx) : val_main_v7 (F := Ideal) x0 x1 j = logGate (val_main_v6 (F := Ideal) x0 x1 j) := by
  generalize hx : val_main_v6 (F := Ideal) x0 x1 = z
  simp only [val_main_call2_v0_apply, val_main_call2_call0_cst_apply, val_main_call2_call0_v0_apply,
    val_main_call2_call0_v1_apply, val_main_call2_call0_v2_apply, val_main_call2_call0_v3_apply,
    val_main_call2_call0_v4_apply, val_main_call2_call0_v5_apply, val_main_call2_call0_v6_apply,
    val_main_call2_call0_v7_apply, val_main_call2_call0_v8_apply, val_main_call2_call0_v9_apply,
    val_main_call2_call0_v10_apply, val_main_call2_call0_v11_apply, val_main_call2_v1_apply, val_main_v7_apply, hx]
  show -(Scalar.select (Ideal.cmp .une (-(z j) - Ideal.ofBits .f32 0x00000000#32) (-(z j) - Ideal.ofBits .f32 0x00000000#32))
      (-(z j) + Ideal.ofBits .f32 0x00000000#32)
      (max (-(z j)) (Ideal.ofBits .f32 0x00000000#32) + Ideal.log1p (Ideal.exp
        (-(max (-(z j) - Ideal.ofBits .f32 0x00000000#32) (-(-(z j) - Ideal.ofBits .f32 0x00000000#32))))))) = _
  rw [Ideal.ofBits_zero_f32, sub_zero, cmp_ne, Scan.select_ite, if_neg not_false]
  exact logGate_eq (z j)

theorem href8 (r : Fin 8320) (q : Fin 128) : val_main_v8 (F := Ideal) x0 x1 (ix2 r q)
    = gate (val_main_v0 (F := Ideal) x0) (val_main_v2 (F := Ideal) x1) q r.val := by
  have hr := r.isLt
  have h7 := href7 x0 x1
  have h3 : ∀ j, val_main_v3 (F := Ideal) j = (0 : EReal) := fun j => by
    rw [val_main_v3_apply]; exact Ideal.ofBits_zero_f32
  unfold val_main_v8 gate
  by_cases h : 112 ≤ r.val
  · rw [dif_pos ⟨h, hr⟩]
    refine (concatenate_apply_piece (t := CSumRefIdeal.S8320x128) 0 [⟨CSumRefIdeal.S112x128, val_main_v3 (F := Ideal)⟩,
      ⟨CSumRefIdeal.S8208x128, val_main_v7 (F := Ideal) x0 x1⟩] _ _ 1 (Nat.lt_succ_self 1) CSumRefIdeal.S8208x128
      (val_main_v7 (F := Ideal) x0 x1) rfl rfl 112 rfl (ix2 ⟨r.val - 112, by omega⟩ q) (fun b hb => ?_) ?_).trans ?_
    · match b with
      | ⟨0, _⟩ => exact absurd rfl hb
      | ⟨1, _⟩ => rfl
    · show 112 + (r.val - 112) = r.val
      omega
    · rw [h7, val_main_v6_apply, val_main_v4_apply, val_main_v5_apply]
      refine congrArg logGate (congrArg₂ (· + ·) (congrArg (val_main_v0 (F := Ideal) x0) ?_) (congrArg (val_main_v2 (F := Ideal) x1) ?_))
      · blk_ext
      · blk_ext
  · rw [dif_neg (fun e => h e.1)]
    refine (concatenate_apply_piece (t := CSumRefIdeal.S8320x128) 0 [⟨CSumRefIdeal.S112x128, val_main_v3 (F := Ideal)⟩,
      ⟨CSumRefIdeal.S8208x128, val_main_v7 (F := Ideal) x0 x1⟩] _ _ 0 (Nat.succ_pos 1) CSumRefIdeal.S112x128
      (val_main_v3 (F := Ideal)) rfl rfl 0 rfl (ix2 ⟨r.val, by omega⟩ q) (fun b hb => ?_) ?_).trans (h3 _)
    · match b with
      | ⟨0, _⟩ => exact absurd rfl hb
      | ⟨1, _⟩ => rfl
    · exact Nat.zero_add _

/-- The reference sums each column up to a row. -/
theorem href (r : Fin 8320) (q : Fin 128) : val_main_v9 (F := Ideal) x0 x1 (ix2 r q)
    = ∑ k ∈ Finset.range (r.val + 1), gate (val_main_v0 (F := Ideal) x0) (val_main_v2 (F := Ideal) x1) q k := by
  have z : ∀ i, val_main_call3_call0_v0 (F := Ideal) i = (0 : EReal) := fun i => by
    rw [val_main_call3_call0_v0_apply]; exact Ideal.ofBits_zero_f32
  have h8 := href8 x0 x1
  refine Eq.trans ?_ (Scan.window_prefix 8320 r.val r.isLt _)
  unfold val_main_v9 Host.reduceWindowAdd
  rw [Ideal.hostReduceWindowAdd_def, z]
  exact Scan.window_sum _ (gate (val_main_v0 (F := Ideal) x0) (val_main_v2 (F := Ideal) x1)) (fun i c => h8 i c) _ r q
end

/-! ## The kernel -/

theorem coord : ∀ t : Fin cfg0.N, (grid0.coords t 0).val = t.val := (by decide +kernel : ∀ t : Fin grid0.N, _)

/-- The row mask, decided at every point and row. -/
theorem mask : ∀ (t : Fin 13) (e : Fin 640), IntOp.cmpi CmpIPredicate.sge
    (IntOp.addi (Scalar.muli (BitVec.ofNat 32 t.val) 640#32) (BitVec.ofNat 32 e.val)) 112#32
      = if 112 ≤ t.val * 640 + e.val then 1#1 else 0#1 := by decide +kernel

/-- The padded arrays that the call reads. -/
abbrev A0 (c : Dev nD) : Vec Ideal S8320x128 .f32 := CSumRefIdeal.Read.val_main_v0 (F := Ideal) (m ((c : Thread nD τ).loc main_arg0))
abbrev A1 (c : Dev nD) : Vec Ideal S1x128 .f32 := CSumRefIdeal.Read.val_main_v2 (F := Ideal) (m ((c : Thread nD τ).loc main_arg1))

theorem entry0 (c : Dev nD) : V m c main_v0 = A0 m c := rfl
theorem entry1 (c : Dev nD) : V m c main_v2 = A1 m c := rfl

/-- The blocks of the windows at each point. -/
theorem idx : ∀ t : Fin cfg0.N, win0_0.index t = ![t.val, 0] ∧ win0_1.index t = ![0, 0] ∧ win0_2.index t = ![t.val, 0] :=
  (by decide +kernel : ∀ t : Fin grid0.N, _)

/-- A block of gates before it is summed. -/
def gates (i : grid0.Coords) (x : Vec Ideal S640x128 .f32) (b : Vec Ideal S1x128 .f32) : FVec Ideal S640x128 .f32 :=
  select (cmpi .sge (addi (broadcast S640x128 (Scalar.muli (BitVec.ofNat 32 (i 0).val) 640#32))
      (iota .tc S640x128 32 [0] iota_S640x128_d0_w32)) (broadcast S640x128 112#32))
    (subf (minimumf (addf (shapeCast S640x128 x shapeCasts_S640x128_S640x128)
        (broadcastTo S640x128 (shapeCast S1x128 b shapeCasts_S1x128_S1x128) broadcasts_S1x128_S640x128))
        (broadcast S640x128 (Scalar.ofBits .f32 0x00000000#32)))
      (log1p (exp (subf (broadcast S640x128 (Scalar.ofBits .f32 0x00000000#32))
        (absf (addf (shapeCast S640x128 x shapeCasts_S640x128_S640x128)
          (broadcastTo S640x128 (shapeCast S1x128 b shapeCasts_S1x128_S1x128) broadcasts_S1x128_S640x128)))))))
    (broadcast S640x128 (Scalar.ofBits .f32 0x00000000#32))

theorem blk (c : Dev nD) (t : Fin cfg0.N) (p : Fin 640) (q : Fin 128) :
    gates (grid0.coords t) (iblk m c 0 t) (iblk m c 1 t) (ix2 p q) = gate (A0 m c) (A1 m c) q (t.val * 640 + p.val) := by
  have hN : t.val < 13 := lt_of_lt_of_eq t.isLt N_0
  have hp := p.isLt
  have hm := mask ⟨t.val, hN⟩ p
  have e0 : (iblk m c 0 t : Vec Ideal S640x128 .f32) (ix2 p q) = A0 m c (ix2 ⟨t.val * 640 + p.val, by omega⟩ q) := by
    show V m c main_v0 ((win0_0.blk t).view.emb (ix2 p q)) = _
    rw [entry0]
    generalize A0 m c = w
    refine congrArg w (?_ : _ = ix2 _ _)
    idx_bounds; blk_ext [idx t]
  have e1 : (iblk m c 1 t : Vec Ideal S1x128 .f32) (ix2 0 q) = A1 m c (ix2 0 q) := by
    show V m c main_v2 ((win0_1.blk t).view.emb (ix2 0 q)) = _
    rw [entry1]
    generalize A1 m c = w
    refine congrArg w (?_ : _ = ix2 _ _)
    idx_bounds; blk_ext [idx t]
  have e : ∀ (x : Vec Ideal S640x128 .f32) (b : Vec Ideal S1x128 .f32), gates (grid0.coords t) x b (ix2 p q)
      = Scalar.select (IntOp.cmpi CmpIPredicate.sge (IntOp.addi (Scalar.muli (BitVec.ofNat 32 (grid0.coords t 0).val) 640#32)
          (BitVec.ofNat 32 p.val)) 112#32) (logGate (x (ix2 p q) + b (ix2 0 q))) (0 : EReal) := fun x b => by
    pointwise [gates, logGate, tail, zero_sub]
    rfl
  rw [e, coord t]
  dsimp only at hm
  rw [hm, Scan.select_ite, e0, e1]
  unfold gate
  by_cases h : 112 ≤ t.val * 640 + p.val
  · rw [if_pos h, dif_pos ⟨h, by omega⟩]
  · rw [if_neg h, dif_neg (fun e => h e.1)]

/-- A block's scan with what is carried into it. -/
theorem hpay (i : grid0.Coords) (x : Vec Ideal S640x128 .f32) (b v : Vec Ideal S1x128 .f32) (g : Fin 128 → ℕ → EReal)
    (h : ∀ (p : Fin 640) (q : Fin 128), gates i x b (ix2 p q) = g q p.val) (p : Fin 640) (q : Fin 128) :
    k0_pay1 (iota .tc S640x128 32 [0] iota_S640x128_d0_w32)
        (k0_pay6 (iota .tc S640x128 32 [0] iota_S640x128_d0_w32) (k0_pay4 i x b) k0_pay5 4#32) 512#32 v (ix2 p q)
      = (∑ k ∈ Finset.range (p.val + 1), g q k) + v (ix2 0 q) := by
  have hu := Scan.down_apply rotates_S640x128_d0 iota_S640x128_d0_w32 (gates i x b) g h p q
  rw [← hu]
  have e : k0_pay1 (iota .tc S640x128 32 [0] iota_S640x128_d0_w32)
        (k0_pay6 (iota .tc S640x128 32 [0] iota_S640x128_d0_w32) (k0_pay4 i x b) k0_pay5 4#32) 512#32 v
      = addf (Scan.down rotates_S640x128_d0 iota_S640x128_d0_w32 (gates i x b))
          (broadcastTo S640x128 v broadcasts_S1x128_S640x128) := rfl
  rw [e]
  generalize Scan.down rotates_S640x128_d0 iota_S640x128_d0_w32 (gates i x b) = w
  pointwise []

/-- What a point leaves, from the sum carried into it. -/
theorem point (c : Dev nD) (t : Fin cfg0.N) (v : Vec Ideal S1x128 .f32)
    (hv : ∀ q, v (ix2 0 q) = ∑ k ∈ Finset.range (t.val * 640), gate (A0 m c) (A1 m c) q k) (p : Fin 640) (q : Fin 128) :
    k0_pay1 (iota .tc S640x128 32 [0] iota_S640x128_d0_w32)
        (k0_pay6 (iota .tc S640x128 32 [0] iota_S640x128_d0_w32)
          (k0_pay4 (grid0.coords t) (show Vec Ideal S640x128 .f32 from iblk m c 0 t) (show Vec Ideal S1x128 .f32 from iblk m c 1 t))
          k0_pay5 4#32) 512#32 v (ix2 p q)
      = ∑ k ∈ Finset.range (t.val * 640 + p.val + 1), gate (A0 m c) (A1 m c) q k := by
  rw [hpay _ _ _ v (fun q i => gate (A0 m c) (A1 m c) q (t.val * 640 + i)) (blk m c t) p q, hv q, Nat.add_assoc,
    Finset.sum_range_add _ (t.val * 640) (p.val + 1), add_comm]

/-- The row that is carried on is the block's last. -/
theorem carried (M : View sig .tc .vmem S640x128 .f32) (w : Vec Ideal S640x128 .f32) (q : Fin 128) :
    k0_pay2 (M.readCov (Val := Elt Ideal) [⟨Rect.unit ![0, 0] ![640, 128] inb_S640x128_S640x128_0_0, w⟩]
      (Rect.unit ![639, 0] ![1, 128] inb_S640x128_S1x128_639_0).toLoadRect) (ix2 0 q) = w (ix2 639 q) := by
  have e : M.readCov (Val := Elt Ideal) [⟨Rect.unit ![0, 0] ![640, 128] inb_S640x128_S640x128_0_0, w⟩]
      (Rect.unit ![639, 0] ![1, 128] inb_S640x128_S1x128_639_0).toLoadRect = fun j => w (ix2 639 (j 1)) := by
    refine (View.readCov_fill M inb_S640x128_S640x128_0_0 w [] _ (by decide)).trans (funext fun j => ?_)
    refine congrArg w ?_
    blk_ext
    · show 639 + 1 * (j 0).val = 639
      omega
    · show 0 + 1 * (j 1).val = (j 1).val
      omega
  rw [e]
  pointwise [k0_pay2]

theorem outs (c : Dev nD) : ∀ (n : ℕ) (hn : n < cfg0.N), (∀ (p : Fin 640) (q : Fin 128), (outsAt0 m c n hn).1 (ix2 p q)
      = ∑ k ∈ Finset.range (n * 640 + p.val + 1), gate (A0 m c) (A1 m c) q k)
    ∧ ∀ q : Fin 128, (outsAt0 m c n hn).2 (ix2 0 q) = ∑ k ∈ Finset.range ((n + 1) * 640), gate (A0 m c) (A1 m c) q k := by
  intro n
  induction n with
  | zero =>
    intro hn
    rw [outsAt0_A m c ⟨0, hn⟩ (Nat.zero_mod _)]
    frame_out
    have hp := point m c ⟨0, hn⟩ (k0_pay3 (F := Ideal)) (fun q => by
      rw [show (⟨0, hn⟩ : Fin cfg0.N).val * 640 = 0 from rfl, Finset.sum_range_zero]
      pointwise [k0_pay3])
    refine ⟨hp, fun q => (carried _ _ q).trans ((hp 639 q).trans ?_)⟩
    show (∑ k ∈ Finset.range (0 * 640 + 639 + 1), _) = _
    rw [show 0 * 640 + 639 + 1 = (0 + 1) * 640 by omega]
  | succ n ih =>
    intro hn
    have h := ih (by omega)
    have hN : n + 1 < 13 := lt_of_lt_of_eq hn N_0
    rw [outsAt0_B m c ⟨n + 1, hn⟩ (by show ¬(n + 1) % 13 = 0; omega)]
    frame_out
    rw [read_unread_whole]
    have hp := point m c ⟨n + 1, hn⟩ (outsAt0 m c n (by omega)).2 h.2
    refine ⟨hp, fun q => (carried _ _ q).trans ((hp 639 q).trans ?_)⟩
    show (∑ k ∈ Finset.range ((n + 1) * 640 + 639 + 1), _) = _
    rw [show (n + 1) * 640 + 639 + 1 = (n + 1 + 1) * 640 by omega]

/-- The running sums of the gates' logarithms. -/
theorem final (c : Dev nD) : (dats m 0 c).arrAt 2 (cfgs 0).N = CSumRefIdeal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  have hN : t.val < 13 := lt_of_lt_of_eq t.isLt N_0
  have hy : (y 0).val < 640 := (y 0).isLt
  rw [after0_2]
  have e : (outsAt0 m c t.val t.isLt).1 y = _ := (congrArg (outsAt0 m c t.val t.isLt).1 (by blk_ext : y = ix2 (y 0) (y 1))).trans
    ((outs m c t.val t.isLt).1 (y 0) (y 1))
  refine e.trans ((href _ _ ⟨t.val * 640 + (y 0).val, by omega⟩ (y 1)).symm.trans ?_)
  refine congrArg (CSumRefIdeal.Read.val_main_v9 (F := Ideal) (m ((c : Thread nD τ).loc main_arg0)) (m ((c : Thread nD τ).loc main_arg1))) ?_
  idx_bounds; blk_ext [idx t]

end Cert.CSumValue
-- ==== Proof.lean ====
/- The claims of the certificate put together: the frames of the kernels, of their idealized texts and of the
   references, and the equality of results, from the runs of each program and the value modules beside this one. -/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.FGate
public import proofs.«01_k».proof.Proof.Gen.FGate.Skeleton
public import proofs.«01_k».proof.Proof.Gen.FGate.Launch
public import proofs.«01_k».proof.Proof.Gen.FGate.Points
public import proofs.«01_k».proof.Proof.Gen.FGate.Frame
public import proofs.«01_k».proof.Proof.Gen.FGateIdeal
public import proofs.«01_k».proof.Proof.Gen.FGateIdeal.Skeleton
public import proofs.«01_k».proof.Proof.Gen.FGateIdeal.Launch
public import proofs.«01_k».proof.Proof.Gen.FGateIdeal.Points
public import proofs.«01_k».proof.Proof.Gen.FGateIdeal.Frame
public import proofs.«01_k».proof.Proof.Gen.FGateRefIdeal
public import proofs.«01_k».proof.Proof.Gen.RSum
public import proofs.«01_k».proof.Proof.Gen.RSum.Skeleton
public import proofs.«01_k».proof.Proof.Gen.RSum.Launch
public import proofs.«01_k».proof.Proof.Gen.RSum.Points
public import proofs.«01_k».proof.Proof.Gen.RSum.Frame
public import proofs.«01_k».proof.Proof.Gen.RSumIdeal
public import proofs.«01_k».proof.Proof.Gen.RSumIdeal.Skeleton
public import proofs.«01_k».proof.Proof.Gen.RSumIdeal.Launch
public import proofs.«01_k».proof.Proof.Gen.RSumIdeal.Points
public import proofs.«01_k».proof.Proof.Gen.RSumIdeal.Frame
public import proofs.«01_k».proof.Proof.Gen.RSumRefIdeal
public import proofs.«01_k».proof.Proof.Gen.CSum
public import proofs.«01_k».proof.Proof.Gen.CSum.Skeleton
public import proofs.«01_k».proof.Proof.Gen.CSum.Launch
public import proofs.«01_k».proof.Proof.Gen.CSum.Points
public import proofs.«01_k».proof.Proof.Gen.CSum.Frame
public import proofs.«01_k».proof.Proof.Gen.CSumIdeal
public import proofs.«01_k».proof.Proof.Gen.CSumIdeal.Skeleton
public import proofs.«01_k».proof.Proof.Gen.CSumIdeal.Launch
public import proofs.«01_k».proof.Proof.Gen.CSumIdeal.Points
public import proofs.«01_k».proof.Proof.Gen.CSumIdeal.Frame
public import proofs.«01_k».proof.Proof.Gen.CSumRefIdeal
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwRefIdeal
public import proofs.«01_k».proof.Proof.Gen.KvDx
public import proofs.«01_k».proof.Proof.Gen.KvDx.Skeleton
public import proofs.«01_k».proof.Proof.Gen.KvDx.Launch
public import proofs.«01_k».proof.Proof.Gen.KvDx.Points
public import proofs.«01_k».proof.Proof.Gen.KvDx.Frame
public import proofs.«01_k».proof.Proof.Gen.KvDxIdeal
public import proofs.«01_k».proof.Proof.Gen.KvDxIdeal.Skeleton
public import proofs.«01_k».proof.Proof.Gen.KvDxIdeal.Launch
public import proofs.«01_k».proof.Proof.Gen.KvDxIdeal.Points
public import proofs.«01_k».proof.Proof.Gen.KvDxIdeal.Frame
public import proofs.«01_k».proof.Proof.Gen.KvDxRefIdeal
public import proofs.«01_k».proof.Proof.Gen.QDx
public import proofs.«01_k».proof.Proof.Gen.QDx.Skeleton
public import proofs.«01_k».proof.Proof.Gen.QDx.Launch
public import proofs.«01_k».proof.Proof.Gen.QDx.Points
public import proofs.«01_k».proof.Proof.Gen.QDx.Frame
public import proofs.«01_k».proof.Proof.Gen.QDxIdeal
public import proofs.«01_k».proof.Proof.Gen.QDxIdeal.Skeleton
public import proofs.«01_k».proof.Proof.Gen.QDxIdeal.Launch
public import proofs.«01_k».proof.Proof.Gen.QDxIdeal.Points
public import proofs.«01_k».proof.Proof.Gen.QDxIdeal.Frame
public import proofs.«01_k».proof.Proof.Gen.QDxRefIdeal
public import proofs.«01_k».proof.Proof.Gen.CDx
public import proofs.«01_k».proof.Proof.Gen.CDx.Skeleton
public import proofs.«01_k».proof.Proof.Gen.CDx.Launch
public import proofs.«01_k».proof.Proof.Gen.CDx.Points
public import proofs.«01_k».proof.Proof.Gen.CDx.Frame
public import proofs.«01_k».proof.Proof.Gen.CDxIdeal
public import proofs.«01_k».proof.Proof.Gen.CDxIdeal.Skeleton
public import proofs.«01_k».proof.Proof.Gen.CDxIdeal.Launch
public import proofs.«01_k».proof.Proof.Gen.CDxIdeal.Points
public import proofs.«01_k».proof.Proof.Gen.CDxIdeal.Frame
public import proofs.«01_k».proof.Proof.Gen.CDxRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.SqDx
public import proofs.«01_k».proof.Proof.Gen.SqDx.Skeleton
public import proofs.«01_k».proof.Proof.Gen.SqDx.Launch
public import proofs.«01_k».proof.Proof.Gen.SqDx.Points
public import proofs.«01_k».proof.Proof.Gen.SqDx.Frame
public import proofs.«01_k».proof.Proof.Gen.SqDxIdeal
public import proofs.«01_k».proof.Proof.Gen.SqDxIdeal.Skeleton
public import proofs.«01_k».proof.Proof.Gen.SqDxIdeal.Launch
public import proofs.«01_k».proof.Proof.Gen.SqDxIdeal.Points
public import proofs.«01_k».proof.Proof.Gen.SqDxIdeal.Frame
public import proofs.«01_k».proof.Proof.Gen.SqDxRefIdeal
public import proofs.«01_k».proof.Proof.Gen.SqDw
public import proofs.«01_k».proof.Proof.Gen.SqDw.Skeleton
public import proofs.«01_k».proof.Proof.Gen.SqDw.Launch
public import proofs.«01_k».proof.Proof.Gen.SqDw.Points
public import proofs.«01_k».proof.Proof.Gen.SqDw.Frame
public import proofs.«01_k».proof.Proof.Gen.SqDwIdeal
public import proofs.«01_k».proof.Proof.Gen.SqDwIdeal.Skeleton
public import proofs.«01_k».proof.Proof.Gen.SqDwIdeal.Launch
public import proofs.«01_k».proof.Proof.Gen.SqDwIdeal.Points
public import proofs.«01_k».proof.Proof.Gen.SqDwIdeal.Frame
public import proofs.«01_k».proof.Proof.Gen.SqDwRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Half
public import proofs.«01_k».proof.Proof.Gen.Half.Skeleton
public import proofs.«01_k».proof.Proof.Gen.Half.Launch
public import proofs.«01_k».proof.Proof.Gen.Half.Points
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Launch
public import proofs.«01_k».proof.Proof.Gen.HalfIdeal.Points
public import proofs.«01_k».proof.Proof.Gen.HalfIdeal.Frame
public import proofs.«01_k».proof.Proof.Gen.HalfRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Dx0
public import proofs.«01_k».proof.Proof.Gen.Dx0.Skeleton
public import proofs.«01_k».proof.Proof.Gen.Dx0.Launch
public import proofs.«01_k».proof.Proof.Gen.Dx0.Points
public import proofs.«01_k».proof.Proof.Gen.Dx0.Frame
public import proofs.«01_k».proof.Proof.Gen.Dx0Ideal
public import proofs.«01_k».proof.Proof.Gen.Dx0Ideal.Skeleton
public import proofs.«01_k».proof.Proof.Gen.Dx0Ideal.Launch
public import proofs.«01_k».proof.Proof.Gen.Dx0Ideal.Points
public import proofs.«01_k».proof.Proof.Gen.Dx0Ideal.Frame
public import proofs.«01_k».proof.Proof.Gen.Dx0RefIdeal
public import proofs.«01_k».proof.Proof.Gen.CFwd
public import proofs.«01_k».proof.Proof.Gen.CFwd.Skeleton
public import proofs.«01_k».proof.Proof.Gen.CFwd.Launch
public import proofs.«01_k».proof.Proof.Gen.CFwd.Points
public import proofs.«01_k».proof.Proof.Gen.CFwd.Frame
public import proofs.«01_k».proof.Proof.Gen.CFwdIdeal
public import proofs.«01_k».proof.Proof.Gen.CFwdIdeal.Skeleton
public import proofs.«01_k».proof.Proof.Gen.CFwdIdeal.Launch
public import proofs.«01_k».proof.Proof.Gen.CFwdIdeal.Points
public import proofs.«01_k».proof.Proof.Gen.CFwdIdeal.Frame
public import proofs.«01_k».proof.Proof.Gen.CFwdRefIdeal
public import proofs.«01_k».proof.Proof.Gen.PIn
public import proofs.«01_k».proof.Proof.Gen.PIn.Skeleton
public import proofs.«01_k».proof.Proof.Gen.PIn.Launch
public import proofs.«01_k».proof.Proof.Gen.PIn.Points
public import proofs.«01_k».proof.Proof.Gen.PIn.Frame
public import proofs.«01_k».proof.Proof.Gen.PInIdeal
public import proofs.«01_k».proof.Proof.Gen.PInIdeal.Skeleton
public import proofs.«01_k».proof.Proof.Gen.PInIdeal.Launch
public import proofs.«01_k».proof.Proof.Gen.PInIdeal.Points
public import proofs.«01_k».proof.Proof.Gen.PInIdeal.Frame
public import proofs.«01_k».proof.Proof.Gen.PInRefIdeal
public import proofs.«01_k».proof.Proof.Gen.PK
public import proofs.«01_k».proof.Proof.Gen.PK.Skeleton
public import proofs.«01_k».proof.Proof.Gen.PK.Launch
public import proofs.«01_k».proof.Proof.Gen.PK.Points
public import proofs.«01_k».proof.Proof.Gen.PK.Frame
public import proofs.«01_k».proof.Proof.Gen.PKIdeal
public import proofs.«01_k».proof.Proof.Gen.PKIdeal.Skeleton
public import proofs.«01_k».proof.Proof.Gen.PKIdeal.Launch
public import proofs.«01_k».proof.Proof.Gen.PKIdeal.Points
public import proofs.«01_k».proof.Proof.Gen.PKIdeal.Frame
public import proofs.«01_k».proof.Proof.Gen.PKRefIdeal
public import proofs.«01_k».proof.Proof.Gen.PQ
public import proofs.«01_k».proof.Proof.Gen.PQ.Skeleton
public import proofs.«01_k».proof.Proof.Gen.PQ.Launch
public import proofs.«01_k».proof.Proof.Gen.PQ.Points
public import proofs.«01_k».proof.Proof.Gen.PQ.Frame
public import proofs.«01_k».proof.Proof.Gen.PQIdeal
public import proofs.«01_k».proof.Proof.Gen.PQIdeal.Skeleton
public import proofs.«01_k».proof.Proof.Gen.PQIdeal.Launch
public import proofs.«01_k».proof.Proof.Gen.PQIdeal.Points
public import proofs.«01_k».proof.Proof.Gen.PQIdeal.Frame
public import proofs.«01_k».proof.Proof.Gen.PQRefIdeal
public import proofs.«01_k».proof.Proof.Gen.PF
public import proofs.«01_k».proof.Proof.Gen.PF.Skeleton
public import proofs.«01_k».proof.Proof.Gen.PF.Launch
public import proofs.«01_k».proof.Proof.Gen.PF.Points
public import proofs.«01_k».proof.Proof.Gen.PF.Frame
public import proofs.«01_k».proof.Proof.Gen.PFIdeal
public import proofs.«01_k».proof.Proof.Gen.PFIdeal.Skeleton
public import proofs.«01_k».proof.Proof.Gen.PFIdeal.Launch
public import proofs.«01_k».proof.Proof.Gen.PFIdeal.Points
public import proofs.«01_k».proof.Proof.Gen.PFIdeal.Frame
public import proofs.«01_k».proof.Proof.Gen.PFRefIdeal
public import proofs.«01_k».proof.Proof.Gen.AdSq
public import proofs.«01_k».proof.Proof.Gen.AdSq.Skeleton
public import proofs.«01_k».proof.Proof.Gen.AdSq.Launch
public import proofs.«01_k».proof.Proof.Gen.AdSq.Points
public import proofs.«01_k».proof.Proof.Gen.AdSq.Frame
public import proofs.«01_k».proof.Proof.Gen.AdSqIdeal
public import proofs.«01_k».proof.Proof.Gen.AdSqIdeal.Skeleton
public import proofs.«01_k».proof.Proof.Gen.AdSqIdeal.Launch
public import proofs.«01_k».proof.Proof.Gen.AdSqIdeal.Points
public import proofs.«01_k».proof.Proof.Gen.AdSqIdeal.Frame
public import proofs.«01_k».proof.Proof.Gen.AdSqRefIdeal
public import proofs.«01_k».proof.Proof.Gen.AdIn
public import proofs.«01_k».proof.Proof.Gen.AdIn.Skeleton
public import proofs.«01_k».proof.Proof.Gen.AdIn.Launch
public import proofs.«01_k».proof.Proof.Gen.AdIn.Points
public import proofs.«01_k».proof.Proof.Gen.AdIn.Frame
public import proofs.«01_k».proof.Proof.Gen.AdInIdeal
public import proofs.«01_k».proof.Proof.Gen.AdInIdeal.Skeleton
public import proofs.«01_k».proof.Proof.Gen.AdInIdeal.Launch
public import proofs.«01_k».proof.Proof.Gen.AdInIdeal.Points
public import proofs.«01_k».proof.Proof.Gen.AdInIdeal.Frame
public import proofs.«01_k».proof.Proof.Gen.AdInRefIdeal
public import proofs.«01_k».proof.Proof.Gen.AdKv
public import proofs.«01_k».proof.Proof.Gen.AdKv.Skeleton
public import proofs.«01_k».proof.Proof.Gen.AdKv.Launch
public import proofs.«01_k».proof.Proof.Gen.AdKv.Points
public import proofs.«01_k».proof.Proof.Gen.AdKv.Frame
public import proofs.«01_k».proof.Proof.Gen.AdKvIdeal
public import proofs.«01_k».proof.Proof.Gen.AdKvIdeal.Skeleton
public import proofs.«01_k».proof.Proof.Gen.AdKvIdeal.Launch
public import proofs.«01_k».proof.Proof.Gen.AdKvIdeal.Points
public import proofs.«01_k».proof.Proof.Gen.AdKvIdeal.Frame
public import proofs.«01_k».proof.Proof.Gen.AdKvRefIdeal
public import proofs.«01_k».proof.Proof.Gen.AdSm
public import proofs.«01_k».proof.Proof.Gen.AdSm.Skeleton
public import proofs.«01_k».proof.Proof.Gen.AdSm.Launch
public import proofs.«01_k».proof.Proof.Gen.AdSm.Points
public import proofs.«01_k».proof.Proof.Gen.AdSm.Frame
public import proofs.«01_k».proof.Proof.Gen.AdSmIdeal
public import proofs.«01_k».proof.Proof.Gen.AdSmIdeal.Skeleton
public import proofs.«01_k».proof.Proof.Gen.AdSmIdeal.Launch
public import proofs.«01_k».proof.Proof.Gen.AdSmIdeal.Points
public import proofs.«01_k».proof.Proof.Gen.AdSmIdeal.Frame
public import proofs.«01_k».proof.Proof.Gen.AdSmRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ActIdeal.Value
public import proofs.«01_k».proof.Proof.Gen.ActRefIdeal.Run
public import proofs.«01_k».proof.Proof.Gen.ActRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DxIdeal.Value
public import proofs.«01_k».proof.Proof.Gen.DxRefIdeal.Run
public import proofs.«01_k».proof.Proof.Gen.DxRefIdeal.Read
public import proofs.«01_k».proof.Proof.Gen.FGateIdeal.Value
public import proofs.«01_k».proof.Proof.Gen.FGateRefIdeal.Run
public import proofs.«01_k».proof.Proof.Gen.FGateRefIdeal.Read
public import proofs.«01_k».proof.Proof.Gen.RSumIdeal.Value
public import proofs.«01_k».proof.Proof.Gen.RSumRefIdeal.Run
public import proofs.«01_k».proof.Proof.Gen.RSumRefIdeal.Read
public import proofs.«01_k».proof.Proof.Gen.CSumIdeal.Value
public import proofs.«01_k».proof.Proof.Gen.CSumRefIdeal.Run
public import proofs.«01_k».proof.Proof.Gen.CSumRefIdeal.Read
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.Gen.QDxIdeal.Value
public import proofs.«01_k».proof.Proof.Gen.QDxRefIdeal.Run
public import proofs.«01_k».proof.Proof.Gen.QDxRefIdeal.Read
public import proofs.«01_k».proof.Proof.Gen.CDxIdeal.Value
public import proofs.«01_k».proof.Proof.Gen.CDxRefIdeal.Run
public import proofs.«01_k».proof.Proof.Gen.CDxRefIdeal.Read
public import proofs.«01_k».proof.Proof.Gen.WinIdeal.Value
public import proofs.«01_k».proof.Proof.Gen.WinRefIdeal.Run
public import proofs.«01_k».proof.Proof.Gen.WinRefIdeal.Read
public import proofs.«01_k».proof.Proof.Gen.SqDxIdeal.Value
public import proofs.«01_k».proof.Proof.Gen.SqDxRefIdeal.Run
public import proofs.«01_k».proof.Proof.Gen.SqDxRefIdeal.Read
public import proofs.«01_k».proof.Proof.Gen.SqDwIdeal.Value
public import proofs.«01_k».proof.Proof.Gen.SqDwRefIdeal.Run
public import proofs.«01_k».proof.Proof.Gen.SqDwRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.HalfIdeal.Value
public import proofs.«01_k».proof.Proof.Gen.HalfRefIdeal.Run
public import proofs.«01_k».proof.Proof.Gen.HalfRefIdeal.Read
public import proofs.«01_k».proof.Proof.Gen.GateIdeal.Value
public import proofs.«01_k».proof.Proof.Gen.GateRefIdeal.Run
public import proofs.«01_k».proof.Proof.Gen.GateRefIdeal.Read
public import proofs.«01_k».proof.Proof.Gen.Dx0Ideal.Value
public import proofs.«01_k».proof.Proof.Gen.Dx0RefIdeal.Run
public import proofs.«01_k».proof.Proof.Gen.Dx0RefIdeal.Read
public import proofs.«01_k».proof.Proof.Gen.CFwdIdeal.Value
public import proofs.«01_k».proof.Proof.Gen.CFwdRefIdeal.Run
public import proofs.«01_k».proof.Proof.Gen.CFwdRefIdeal.Read
public import proofs.«01_k».proof.Proof.Gen.PInIdeal.Value
public import proofs.«01_k».proof.Proof.Gen.PInRefIdeal.Run
public import proofs.«01_k».proof.Proof.Gen.PInRefIdeal.Read
public import proofs.«01_k».proof.Proof.Gen.PKIdeal.Value
public import proofs.«01_k».proof.Proof.Gen.PKRefIdeal.Run
public import proofs.«01_k».proof.Proof.Gen.PKRefIdeal.Read
public import proofs.«01_k».proof.Proof.Gen.PQIdeal.Value
public import proofs.«01_k».proof.Proof.Gen.PQRefIdeal.Run
public import proofs.«01_k».proof.Proof.Gen.PQRefIdeal.Read
public import proofs.«01_k».proof.Proof.Gen.PFIdeal.Value
public import proofs.«01_k».proof.Proof.Gen.PFRefIdeal.Run
public import proofs.«01_k».proof.Proof.Gen.PFRefIdeal.Read
public import proofs.«01_k».proof.Proof.Gen.AdSqIdeal.Value
public import proofs.«01_k».proof.Proof.Gen.AdSqRefIdeal.Run
public import proofs.«01_k».proof.Proof.Gen.AdSqRefIdeal.Read
public import proofs.«01_k».proof.Proof.Gen.AdInIdeal.Value
public import proofs.«01_k».proof.Proof.Gen.AdInRefIdeal.Run
public import proofs.«01_k».proof.Proof.Gen.AdInRefIdeal.Read
public import proofs.«01_k».proof.Proof.Gen.AdKvIdeal.Value
public import proofs.«01_k».proof.Proof.Gen.AdKvRefIdeal.Run
public import proofs.«01_k».proof.Proof.Gen.AdKvRefIdeal.Read
public import proofs.«01_k».proof.Proof.Gen.AdSmIdeal.Value
public import proofs.«01_k».proof.Proof.Gen.AdSmRefIdeal.Run
public import proofs.«01_k».proof.Proof.Gen.AdSmRefIdeal.Read
public import proofs.«01_k».proof.Proof.ConvReference
public import proofs.«01_k».proof.Proof.DownValue
public import proofs.«01_k».proof.Proof.UpValue
public import proofs.«01_k».proof.Proof.ActValue
public import proofs.«01_k».proof.Proof.DxValue
public import proofs.«01_k».proof.Proof.Preconditions
public import proofs.«01_k».proof.Proof.SqDwValue
public import proofs.«01_k».proof.Proof.WinValue
public import proofs.«01_k».proof.Proof.SqDxValue
public import proofs.«01_k».proof.Proof.PInValue
public import proofs.«01_k».proof.Proof.GateValue
public import proofs.«01_k».proof.Proof.HalfValue
public import proofs.«01_k».proof.Proof.MixValue
public import proofs.«01_k».proof.Proof.Dx0Value
public import proofs.«01_k».proof.Proof.KvDwValue
public import proofs.«01_k».proof.Proof.CDxValue
public import proofs.«01_k».proof.Proof.QDxValue
public import proofs.«01_k».proof.Proof.KvDxValue
public import proofs.«01_k».proof.Proof.CFwdValue
public import proofs.«01_k».proof.Proof.PKValue
public import proofs.«01_k».proof.Proof.PQValue
public import proofs.«01_k».proof.Proof.PFValue
public import proofs.«01_k».proof.Proof.AdSqValue
public import proofs.«01_k».proof.Proof.AdInValue
public import proofs.«01_k».proof.Proof.AdKvValue
public import proofs.«01_k».proof.Proof.AdSmValue
public import proofs.«01_k».proof.Proof.FGateValue
public import proofs.«01_k».proof.Proof.RSumValue
public import proofs.«01_k».proof.Proof.CSumValue
public import Idealize.ShloMosaic.Lib.Quiescent
public import Idealize.ShloMosaic.Adequacy
public import Idealize.ShloMosaic.Init

@[expose] public section

noncomputable section

namespace Cert.Proof

open Idealize.ShloMosaic Idealize.SL.Sem

/-! Each reference ends with its arguments unchanged; it declares no semaphore. -/

theorem ref_conv : Cert.quiescent_ConvRefIdeal := fun m ρ _ =>
  (θ_run Cert.ConvRefIdeal.defs _ _).mono (fun r h => ⟨fun c => (h c).2.2, sem_eq_zero_of_no_sems (by decide) _⟩)
    (Cert.ConvRefIdeal.Value.run (F := Ideal) m ρ)

theorem ref_act : Cert.quiescent_ActRefIdeal := fun m ρ _ =>
  (θ_run Cert.ActRefIdeal.defs _ _).mono (fun r h => ⟨fun c => (h c).2.2, sem_eq_zero_of_no_sems (by decide) _⟩)
    (Cert.ActRefIdeal.Value.run (F := Ideal) m ρ)

theorem ref_down : Cert.quiescent_DownRefIdeal := fun m ρ _ =>
  (θ_run Cert.DownRefIdeal.defs _ _).mono (fun r h => ⟨fun c => (h c).2, sem_eq_zero_of_no_sems (by decide) _⟩)
    (Cert.DownRefIdeal.Value.run (F := Ideal) m ρ)

theorem ref_up : Cert.quiescent_UpRefIdeal := fun m ρ _ =>
  (θ_run Cert.UpRefIdeal.defs _ _).mono (fun r h => ⟨fun c => (h c).2.2, sem_eq_zero_of_no_sems (by decide) _⟩)
    (Cert.UpRefIdeal.Value.run (F := Ideal) m ρ)

theorem ref_dx : Cert.quiescent_DxRefIdeal := fun m ρ _ =>
  (θ_run Cert.DxRefIdeal.defs _ _).mono (fun r h => ⟨fun c => (h c).2.2.2.2, sem_eq_zero_of_no_sems (by decide) _⟩)
    (Cert.DxRefIdeal.Value.run (F := Ideal) m ρ)

theorem ref_fgate : Cert.quiescent_FGateRefIdeal := fun m ρ _ =>
  (θ_run Cert.FGateRefIdeal.defs _ _).mono (fun r h => ⟨fun c => (h c).2.2, sem_eq_zero_of_no_sems (by decide) _⟩)
    (Cert.FGateRefIdeal.Value.run (F := Ideal) m ρ)

theorem ref_rsum : Cert.quiescent_RSumRefIdeal := fun m ρ _ =>
  (θ_run Cert.RSumRefIdeal.defs _ _).mono (fun r h => ⟨fun c => (h c).2, sem_eq_zero_of_no_sems (by decide) _⟩)
    (Cert.RSumRefIdeal.Value.run (F := Ideal) m ρ)

theorem ref_csum : Cert.quiescent_CSumRefIdeal := fun m ρ _ =>
  (θ_run Cert.CSumRefIdeal.defs _ _).mono (fun r h => ⟨fun c => (h c).2, sem_eq_zero_of_no_sems (by decide) _⟩)
    (Cert.CSumRefIdeal.Value.run (F := Ideal) m ρ)

theorem ref_kvdw : Cert.quiescent_KvDwRefIdeal := fun m ρ _ =>
  (θ_run Cert.KvDwRefIdeal.defs _ _).mono (fun r h => ⟨fun c => (h c).2.2.2, sem_eq_zero_of_no_sems (by decide) _⟩)
    (Cert.KvDwRefIdeal.Value.run (F := Ideal) m ρ)

theorem ref_kvdx : Cert.quiescent_KvDxRefIdeal := fun m ρ _ =>
  (θ_run Cert.KvDxRefIdeal.defs _ _).mono (fun r h => ⟨fun c => (h c).2.2.2.2, sem_eq_zero_of_no_sems (by decide) _⟩)
    (Cert.KvDxRefIdeal.Value.run (F := Ideal) m ρ)

theorem ref_qdx : Cert.quiescent_QDxRefIdeal := fun m ρ _ =>
  (θ_run Cert.QDxRefIdeal.defs _ _).mono (fun r h => ⟨fun c => (h c).2.2.2.2, sem_eq_zero_of_no_sems (by decide) _⟩)
    (Cert.QDxRefIdeal.Value.run (F := Ideal) m ρ)

theorem ref_cdx : Cert.quiescent_CDxRefIdeal := fun m ρ _ =>
  (θ_run Cert.CDxRefIdeal.defs _ _).mono (fun r h => ⟨fun c => (h c).2.2.2.2, sem_eq_zero_of_no_sems (by decide) _⟩)
    (Cert.CDxRefIdeal.Value.run (F := Ideal) m ρ)

theorem ref_win : Cert.quiescent_WinRefIdeal := fun m ρ _ =>
  (θ_run Cert.WinRefIdeal.defs _ _).mono (fun r h => ⟨fun c => (h c).2, sem_eq_zero_of_no_sems (by decide) _⟩)
    (Cert.WinRefIdeal.Value.run (F := Ideal) m ρ)

theorem ref_sqdx : Cert.quiescent_SqDxRefIdeal := fun m ρ _ =>
  (θ_run Cert.SqDxRefIdeal.defs _ _).mono (fun r h => ⟨fun c => (h c).2, sem_eq_zero_of_no_sems (by decide) _⟩)
    (Cert.SqDxRefIdeal.Value.run (F := Ideal) m ρ)

theorem ref_sqdw : Cert.quiescent_SqDwRefIdeal := fun m ρ _ =>
  (θ_run Cert.SqDwRefIdeal.defs _ _).mono (fun r h => ⟨fun c => (h c).2, sem_eq_zero_of_no_sems (by decide) _⟩)
    (Cert.SqDwRefIdeal.Value.run (F := Ideal) m ρ)

theorem ref_mix : Cert.quiescent_MixRefIdeal := fun m ρ _ =>
  (θ_run Cert.MixRefIdeal.defs _ _).mono (fun r h => ⟨fun c => (h c).2.2.2, sem_eq_zero_of_no_sems (by decide) _⟩)
    (Cert.MixRefIdeal.Value.run (F := Ideal) m ρ)

theorem ref_half : Cert.quiescent_HalfRefIdeal := fun m ρ _ =>
  (θ_run Cert.HalfRefIdeal.defs _ _).mono (fun r h => ⟨fun c => (h c).2.2.2, sem_eq_zero_of_no_sems (by decide) _⟩)
    (Cert.HalfRefIdeal.Value.run (F := Ideal) m ρ)

theorem ref_gate : Cert.quiescent_GateRefIdeal := fun m ρ _ =>
  (θ_run Cert.GateRefIdeal.defs _ _).mono (fun r h => ⟨fun c => (h c).2.2.2, sem_eq_zero_of_no_sems (by decide) _⟩)
    (Cert.GateRefIdeal.Value.run (F := Ideal) m ρ)

theorem ref_dx0 : Cert.quiescent_Dx0RefIdeal := fun m ρ _ =>
  (θ_run Cert.Dx0RefIdeal.defs _ _).mono (fun r h => ⟨fun c => (h c).2, sem_eq_zero_of_no_sems (by decide) _⟩)
    (Cert.Dx0RefIdeal.Value.run (F := Ideal) m ρ)

theorem ref_cfwd : Cert.quiescent_CFwdRefIdeal := fun m ρ _ =>
  (θ_run Cert.CFwdRefIdeal.defs _ _).mono (fun r h => ⟨fun c => (h c).2, sem_eq_zero_of_no_sems (by decide) _⟩)
    (Cert.CFwdRefIdeal.Value.run (F := Ideal) m ρ)

theorem ref_pin : Cert.quiescent_PInRefIdeal := fun m ρ _ =>
  (θ_run Cert.PInRefIdeal.defs _ _).mono (fun r h => ⟨fun c => (h c).2, sem_eq_zero_of_no_sems (by decide) _⟩)
    (Cert.PInRefIdeal.Value.run (F := Ideal) m ρ)

theorem ref_pk : Cert.quiescent_PKRefIdeal := fun m ρ _ =>
  (θ_run Cert.PKRefIdeal.defs _ _).mono (fun r h => ⟨fun c => (h c).2, sem_eq_zero_of_no_sems (by decide) _⟩)
    (Cert.PKRefIdeal.Value.run (F := Ideal) m ρ)

theorem ref_pq : Cert.quiescent_PQRefIdeal := fun m ρ _ =>
  (θ_run Cert.PQRefIdeal.defs _ _).mono (fun r h => ⟨fun c => (h c).2, sem_eq_zero_of_no_sems (by decide) _⟩)
    (Cert.PQRefIdeal.Value.run (F := Ideal) m ρ)

theorem ref_pf : Cert.quiescent_PFRefIdeal := fun m ρ _ =>
  (θ_run Cert.PFRefIdeal.defs _ _).mono (fun r h => ⟨fun c => (h c).2, sem_eq_zero_of_no_sems (by decide) _⟩)
    (Cert.PFRefIdeal.Value.run (F := Ideal) m ρ)

theorem ref_adsq : Cert.quiescent_AdSqRefIdeal := fun m ρ _ =>
  (θ_run Cert.AdSqRefIdeal.defs _ _).mono (fun r h => ⟨fun c => (h c).2.2.2.2, sem_eq_zero_of_no_sems (by decide) _⟩)
    (Cert.AdSqRefIdeal.Value.run (F := Ideal) m ρ)

theorem ref_adin : Cert.quiescent_AdInRefIdeal := fun m ρ _ =>
  (θ_run Cert.AdInRefIdeal.defs _ _).mono (fun r h => ⟨fun c => (h c).2.2.2.2, sem_eq_zero_of_no_sems (by decide) _⟩)
    (Cert.AdInRefIdeal.Value.run (F := Ideal) m ρ)

theorem ref_adkv : Cert.quiescent_AdKvRefIdeal := fun m ρ _ =>
  (θ_run Cert.AdKvRefIdeal.defs _ _).mono (fun r h => ⟨fun c => (h c).2.2.2.2, sem_eq_zero_of_no_sems (by decide) _⟩)
    (Cert.AdKvRefIdeal.Value.run (F := Ideal) m ρ)

theorem ref_adsm : Cert.quiescent_AdSmRefIdeal := fun m ρ _ =>
  (θ_run Cert.AdSmRefIdeal.defs _ _).mono (fun r h => ⟨fun c => (h c).2.2.2.2, sem_eq_zero_of_no_sems (by decide) _⟩)
    (Cert.AdSmRefIdeal.Value.run (F := Ideal) m ρ)

/-- The gradient of the gated convolution: both results of the kernel are the reference's. -/
theorem conv : Cert.algebraic_ConvIdeal_ConvRefIdeal := by
  intro m g m' g' _ hargs
  refine ⟨_, _, Cert.ConvIdeal.Value.run_blocks m g,
    (θ_run Cert.ConvRefIdeal.defs _ _).mono (fun r h c => ?_) (Cert.ConvRefIdeal.Value.run (F := Ideal) m' g')⟩
  obtain ⟨h0, h1, ha⟩ := h c
  obtain ⟨e0, e1, e2⟩ := hargs c
  refine ⟨h0.trans ((Cert.ConvRefIdeal.Read.val_main_v72_eq (F := Ideal) m' c).trans ?_),
    h1.trans ((Cert.ConvRefIdeal.Read.val_main_v59_eq (F := Ideal) _ _).trans ?_), ha⟩
  · rw [e0, e1, e2]
    exact (Cert.ConvValue.value6 m c).symm
  · rw [e0, e1]
    exact (Cert.ConvValue.value7 m c).symm

/-- The gradient of the down projection's weights. -/
theorem down : Cert.algebraic_DownIdeal_DownRefIdeal := by
  intro m g m' g' _ hargs
  refine ⟨_, Cert.DownIdeal.Value.run_blocks m g,
    (θ_run Cert.DownRefIdeal.defs _ _).mono (fun r h c => ?_) (Cert.DownRefIdeal.Value.run (F := Ideal) m' g')⟩
  obtain ⟨h0, ha⟩ := h c
  obtain ⟨e0, e1⟩ := hargs c
  refine ⟨h0.trans ((Cert.DownRefIdeal.Read.val_main_v8_eq (F := Ideal) _ _).trans ?_), ha⟩
  rw [e0, e1]
  exact (Cert.DownValue.final m c).symm

/-- The gradients of the gate's and the up projection's weights. -/
theorem up : Cert.algebraic_UpIdeal_UpRefIdeal := by
  intro m g m' g' _ hargs
  refine ⟨_, _, Cert.UpIdeal.Value.run_blocks m g,
    (θ_run Cert.UpRefIdeal.defs _ _).mono (fun r h c => ?_) (Cert.UpRefIdeal.Value.run (F := Ideal) m' g')⟩
  obtain ⟨h0, h1, ha⟩ := h c
  obtain ⟨e0, e1, e2⟩ := hargs c
  refine ⟨h0.trans ((Cert.UpRefIdeal.Read.val_main_v8_eq (F := Ideal) _ _).trans ?_),
    h1.trans ((Cert.UpRefIdeal.Read.val_main_v10_eq (F := Ideal) _ _).trans ?_), ha⟩
  · rw [e0, e1]
    exact (Cert.UpValue.final3 m c).symm
  · rw [e0, e2]
    exact (Cert.UpValue.final4 m c).symm

/-- The gradients of the gate and the up half, where the cotangent, the weight and the up half are finite. -/
theorem act : Cert.algebraic_ActIdeal_ActRefIdeal_pre_act_finite := by
  intro m g m' g' hpre hargs
  refine ⟨_, _, Cert.ActIdeal.Value.run_blocks m g,
    (θ_run Cert.ActRefIdeal.defs _ _).mono (fun r h c => ?_) (Cert.ActRefIdeal.Value.run (F := Ideal) m' g')⟩
  obtain ⟨h0, h1, ha⟩ := h c
  obtain ⟨e0, e1, e2, e3⟩ := hargs c
  obtain ⟨f0, f1, f3⟩ := Cert.Preconditions.act _ _ _ _ (hpre c)
  refine ⟨h0.trans ((Cert.ActRefIdeal.Read.val_main_v15_eq (F := Ideal) _ _ _ _).trans ?_),
    h1.trans ((Cert.ActRefIdeal.Read.val_main_v18_eq (F := Ideal) _ _ _).trans ?_), ha⟩
  · rw [e0, e1, e2, e3]
    exact (Cert.ActValue.final4 m c f0 f1 f3).symm
  · rw [e0, e1, e2]
    exact (Cert.ActValue.final5 m c).symm

/-- The gradients through both first products of a half step and its layer normalisation, where the arrays read are finite. -/
theorem dx : Cert.algebraic_DxIdeal_DxRefIdeal_pre_dx_finite := by
  intro m g m' g' hpre hargs
  refine ⟨_, _, _, _, Cert.DxIdeal.Value.run_blocks m g,
    (θ_run Cert.DxRefIdeal.defs _ _).mono (fun r h c => ?_) (Cert.DxRefIdeal.Value.run (F := Ideal) m' g')⟩
  obtain ⟨h0, h1, h2, h3, ha⟩ := h c
  obtain ⟨e0, e1, e2, e3, e4, e5, e6⟩ := hargs c
  obtain ⟨f0, f1, f2, f3, f4, f5, f6⟩ := Cert.Preconditions.dx _ _ _ _ _ _ _ (hpre c)
  refine ⟨h0.trans ((Cert.DxRefIdeal.Read.val_main_v76_eq (F := Ideal) m' c).trans ?_),
    h1.trans ((Cert.DxRefIdeal.Read.val_main_v77_eq (F := Ideal) m' c).trans ?_),
    h2.trans ((Cert.DxRefIdeal.Read.val_main_v78_eq (F := Ideal) _ _ _ _ _ _).trans ?_),
    h3.trans ((Cert.DxRefIdeal.Read.val_main_v79_eq (F := Ideal) _ _ _ _ _).trans ?_), ha⟩
  · rw [e0, e1, e2, e3, e4, e5, e6]
    exact (Cert.DxValue.final7 m c f0 f1 f2 f3 f4 f5 f6).symm
  · rw [e0, e1, e2, e3, e4, e5, e6]
    exact (Cert.DxValue.final8 m c f0 f1 f2 f3 f4 f5 f6).symm
  · rw [e0, e1, e2, e3, e4, e5]
    exact (Cert.DxValue.final9 m c).symm
  · rw [e0, e1, e2, e3, e4]
    exact (Cert.DxValue.final10 m c).symm

/-- The gradient of a square projection's weights. -/
theorem sqdw : Cert.algebraic_SqDwIdeal_SqDwRefIdeal := by
  intro m g m' g' _ hargs
  refine ⟨_, Cert.SqDwIdeal.Value.run_blocks m g,
    (θ_run Cert.SqDwRefIdeal.defs _ _).mono (fun r h c => ?_) (Cert.SqDwRefIdeal.Value.run (F := Ideal) m' g')⟩
  obtain ⟨h0, ha⟩ := h c
  obtain ⟨e0, e1⟩ := hargs c
  refine ⟨h0.trans ((Cert.SqDwRefIdeal.Read.val_main_v4_eq (F := Ideal) _ _).trans ?_), ha⟩
  rw [e0, e1]
  exact (Cert.SqDwValue.final m c).symm

/-- The gradient of the first product's weights in a convolution. -/
theorem win : Cert.algebraic_WinIdeal_WinRefIdeal := by
  intro m g m' g' _ hargs
  refine ⟨_, Cert.WinIdeal.Value.run_blocks m g,
    (θ_run Cert.WinRefIdeal.defs _ _).mono (fun r h c => ?_) (Cert.WinRefIdeal.Value.run (F := Ideal) m' g')⟩
  obtain ⟨h0, ha⟩ := h c
  obtain ⟨e0, e1⟩ := hargs c
  refine ⟨h0.trans ((Cert.WinRefIdeal.Read.val_main_v5_eq (F := Ideal) _ _).trans ?_), ha⟩
  rw [e0, e1]
  exact (Cert.WinValue.final m c).symm

/-- The gradient through a square projection. -/
theorem sqdx : Cert.algebraic_SqDxIdeal_SqDxRefIdeal := by
  intro m g m' g' _ hargs
  refine ⟨_, Cert.SqDxIdeal.Value.run_blocks m g,
    (θ_run Cert.SqDxRefIdeal.defs _ _).mono (fun r h c => ?_) (Cert.SqDxRefIdeal.Value.run (F := Ideal) m' g')⟩
  obtain ⟨h0, ha⟩ := h c
  obtain ⟨e0, e1⟩ := hargs c
  refine ⟨h0.trans ((Cert.SqDxRefIdeal.Read.val_main_v2_eq (F := Ideal) _ _).trans ?_), ha⟩
  rw [e0, e1]
  exact (Cert.SqDxValue.final m c).symm

/-- The first product of a convolution. -/
theorem pin : Cert.algebraic_PInIdeal_PInRefIdeal := by
  intro m g m' g' _ hargs
  refine ⟨_, Cert.PInIdeal.Value.run_blocks m g,
    (θ_run Cert.PInRefIdeal.defs _ _).mono (fun r h c => ?_) (Cert.PInRefIdeal.Value.run (F := Ideal) m' g')⟩
  obtain ⟨h0, ha⟩ := h c
  obtain ⟨e0, e1⟩ := hargs c
  refine ⟨h0.trans ((Cert.PInRefIdeal.Read.val_main_v0_eq (F := Ideal) _ _).trans ?_), ha⟩
  rw [e0, e1]
  exact (Cert.PInValue.final m c).symm

/-- The gate's half, the up half and their product in a half step. -/
theorem gate : Cert.algebraic_GateIdeal_GateRefIdeal := by
  intro m g m' g' _ hargs
  refine ⟨_, _, _, Cert.GateIdeal.Value.run_blocks m g,
    (θ_run Cert.GateRefIdeal.defs _ _).mono (fun r h c => ?_) (Cert.GateRefIdeal.Value.run (F := Ideal) m' g')⟩
  obtain ⟨h0, h1, h2, ha⟩ := h c
  obtain ⟨e0, e1, e2⟩ := hargs c
  refine ⟨h0.trans ((Cert.GateRefIdeal.Read.val_main_v10_eq (F := Ideal) _ _).trans ?_),
    h1.trans ((Cert.GateRefIdeal.Read.val_main_v13_eq (F := Ideal) _ _).trans ?_),
    h2.trans ((Cert.GateRefIdeal.Read.val_main_v16_eq (F := Ideal) _ _ _).trans ?_), ha⟩
  · rw [e0, e1]
    exact (Cert.GateValue.final3 m c).symm
  · rw [e0, e2]
    exact (Cert.GateValue.final4 m c).symm
  · rw [e0, e1, e2]
    exact (Cert.GateValue.final5 m c).symm

/-- The end of a half step: the row, its normalisation and the copy of it. -/
theorem half : Cert.algebraic_HalfIdeal_HalfRefIdeal := by
  intro m g m' g' _ hargs
  refine ⟨_, _, _, Cert.HalfIdeal.Value.run_blocks m g,
    (θ_run Cert.HalfRefIdeal.defs _ _).mono (fun r h c => ?_) (Cert.HalfRefIdeal.Value.run (F := Ideal) m' g')⟩
  obtain ⟨h0, h1, h2, ha⟩ := h c
  obtain ⟨e0, e1, e2, e3, e4⟩ := hargs c
  refine ⟨h0.trans ((Cert.HalfRefIdeal.Read.val_main_v7_eq (F := Ideal) _ _ _).trans ?_),
    h1.trans ((Cert.HalfRefIdeal.Read.val_main_v31_eq (F := Ideal) m' c).trans ?_),
    h2.trans ((Cert.HalfRefIdeal.Read.val_main_v32_eq (F := Ideal) m' c).trans ?_), ha⟩
  · rw [e0, e1, e2]
    exact (Cert.HalfValue.final5 m c).symm
  · rw [e0, e1, e2, e3, e4]
    exact (Cert.HalfValue.final6 m c).symm
  · rw [e0, e1, e2, e3, e4]
    exact (Cert.HalfValue.final7 m c).symm

/-- The end of a mixing block: the row, its normalisation and the copy of it. -/
theorem mix : Cert.algebraic_MixIdeal_MixRefIdeal := by
  intro m g m' g' _ hargs
  refine ⟨_, _, _, Cert.MixIdeal.Value.run_blocks m g,
    (θ_run Cert.MixRefIdeal.defs _ _).mono (fun r h c => ?_) (Cert.MixRefIdeal.Value.run (F := Ideal) m' g')⟩
  obtain ⟨h0, h1, h2, ha⟩ := h c
  obtain ⟨e0, e1, e2, e3, e4⟩ := hargs c
  refine ⟨h0.trans ((Cert.MixRefIdeal.Read.val_main_v3_eq (F := Ideal) _ _ _).trans ?_),
    h1.trans ((Cert.MixRefIdeal.Read.val_main_v27_eq (F := Ideal) _ _ _ _ _).trans ?_),
    h2.trans ((Cert.MixRefIdeal.Read.val_main_v28_eq (F := Ideal) _ _ _ _ _).trans ?_), ha⟩
  · rw [e0, e1, e2]
    exact (Cert.MixValue.final5 m c).symm
  · rw [e0, e1, e2, e3, e4]
    exact (Cert.MixValue.final6 m c).symm
  · rw [e0, e1, e2, e3, e4]
    exact (Cert.MixValue.final7 m c).symm

/-- The gradient through both first products of the first half step. -/
theorem dx0 : Cert.algebraic_Dx0Ideal_Dx0RefIdeal := by
  intro m g m' g' _ hargs
  refine ⟨_, Cert.Dx0Ideal.Value.run_blocks m g,
    (θ_run Cert.Dx0RefIdeal.defs _ _).mono (fun r h c => ?_) (Cert.Dx0RefIdeal.Value.run (F := Ideal) m' g')⟩
  obtain ⟨h0, ha⟩ := h c
  obtain ⟨e0, e1, e2, e3, e4⟩ := hargs c
  refine ⟨h0.trans ((Cert.Dx0RefIdeal.Read.val_main_v14_eq (F := Ideal) _ _ _ _ _).trans ?_), ha⟩
  rw [e0, e1, e2, e3, e4]
  exact (Cert.Dx0Value.final m c).symm

/-- The gradients of the keys', the values' and the forget gates' weights. -/
theorem kvdw : Cert.algebraic_KvDwIdeal_KvDwRefIdeal := by
  intro m g m' g' _ hargs
  refine ⟨_, _, _, Cert.KvDwIdeal.Value.run_blocks m g,
    (θ_run Cert.KvDwRefIdeal.defs _ _).mono (fun r h c => ?_) (Cert.KvDwRefIdeal.Value.run (F := Ideal) m' g')⟩
  obtain ⟨h0, h1, h2, ha⟩ := h c
  obtain ⟨e0, e1, e2, e3⟩ := hargs c
  refine ⟨h0.trans ((Cert.KvDwRefIdeal.Read.val_main_v6_eq (F := Ideal) _ _ _ _).trans ?_),
    h1.trans ((Cert.KvDwRefIdeal.Read.val_main_v8_eq (F := Ideal) _ _ _ _).trans ?_),
    h2.trans ((Cert.KvDwRefIdeal.Read.val_main_v11_eq (F := Ideal) _ _ _ _).trans ?_), ha⟩
  · rw [e0, e1, e2, e3]
    exact (Cert.KvDwValue.final4 m c).symm
  · rw [e0, e1, e2, e3]
    exact (Cert.KvDwValue.final5 m c).symm
  · rw [e0, e1, e2, e3]
    exact (Cert.KvDwValue.final6 m c).symm

/-- The gradients through the convolution's first product and its layer normalisation, where the arguments are finite. -/
theorem cdx : Cert.algebraic_CDxIdeal_CDxRefIdeal_pre_cdx_finite := by
  intro m g m' g' hpre hargs
  refine ⟨_, _, _, _, Cert.CDxIdeal.Value.run_blocks m g,
    (θ_run Cert.CDxRefIdeal.defs _ _).mono (fun r h c => ?_) (Cert.CDxRefIdeal.Value.run (F := Ideal) m' g')⟩
  obtain ⟨h0, h1, h2, h3, ha⟩ := h c
  obtain ⟨e0, e1, e2, e3, e4⟩ := hargs c
  obtain ⟨f0, f1, f2, f3, f4⟩ := Cert.Preconditions.cdx _ _ _ _ _ (hpre c)
  refine ⟨h0.trans ((Cert.CDxRefIdeal.Read.val_main_v69_eq (F := Ideal) m' c).trans ?_),
    h1.trans ((Cert.CDxRefIdeal.Read.val_main_v70_eq (F := Ideal) m' c).trans ?_),
    h2.trans ((Cert.CDxRefIdeal.Read.val_main_v71_eq (F := Ideal) _ _ _ _).trans ?_),
    h3.trans ((Cert.CDxRefIdeal.Read.val_main_v72_eq (F := Ideal) _ _ _).trans ?_), ha⟩
  · rw [e0, e1, e2, e3, e4]
    exact (Cert.CDxValue.final5 m c f0 f1 f2 f3 f4).symm
  · rw [e0, e1, e2, e3, e4]
    exact (Cert.CDxValue.final6 m c f0 f1 f2 f3 f4).symm
  · rw [e0, e1, e2, e3]
    exact (Cert.CDxValue.final7 m c).symm
  · rw [e0, e1, e2]
    exact (Cert.CDxValue.final8 m c).symm

/-- The gradients through the queries' projection and its layer normalisation, where the arguments are finite. -/
theorem qdx : Cert.algebraic_QDxIdeal_QDxRefIdeal_pre_qdx_finite := by
  intro m g m' g' hpre hargs
  refine ⟨_, _, _, _, Cert.QDxIdeal.Value.run_blocks m g,
    (θ_run Cert.QDxRefIdeal.defs _ _).mono (fun r h c => ?_) (Cert.QDxRefIdeal.Value.run (F := Ideal) m' g')⟩
  obtain ⟨h0, h1, h2, h3, ha⟩ := h c
  obtain ⟨e0, e1, e2, e3, e4⟩ := hargs c
  obtain ⟨f0, f1, f2, f3, f4⟩ := Cert.Preconditions.qdx _ _ _ _ _ (hpre c)
  refine ⟨h0.trans ((Cert.QDxRefIdeal.Read.val_main_v69_eq (F := Ideal) m' c).trans ?_),
    h1.trans ((Cert.QDxRefIdeal.Read.val_main_v70_eq (F := Ideal) m' c).trans ?_),
    h2.trans ((Cert.QDxRefIdeal.Read.val_main_v71_eq (F := Ideal) _ _ _ _).trans ?_),
    h3.trans ((Cert.QDxRefIdeal.Read.val_main_v72_eq (F := Ideal) _ _ _).trans ?_), ha⟩
  · rw [e0, e1, e2, e3, e4]
    exact (Cert.QDxValue.final5 m c f0 f1 f2 f3 f4).symm
  · rw [e0, e1, e2, e3, e4]
    exact (Cert.QDxValue.final6 m c f0 f1 f2 f3 f4).symm
  · rw [e0, e1, e2, e3]
    exact (Cert.QDxValue.final7 m c).symm
  · rw [e0, e1, e2]
    exact (Cert.QDxValue.final8 m c).symm

/-- The gradients through the keys', values' and forget gates' projection and its layer normalisation, where the arguments are finite. -/
theorem kvdx : Cert.algebraic_KvDxIdeal_KvDxRefIdeal_pre_kvdx_finite := by
  intro m g m' g' hpre hargs
  refine ⟨_, _, _, _, Cert.KvDxIdeal.Value.run_blocks m g,
    (θ_run Cert.KvDxRefIdeal.defs _ _).mono (fun r h c => ?_) (Cert.KvDxRefIdeal.Value.run (F := Ideal) m' g')⟩
  obtain ⟨h0, h1, h2, h3, ha⟩ := h c
  obtain ⟨e0, e1, e2, e3, e4, e5, e6⟩ := hargs c
  obtain ⟨f0, f1, f2, f3, f4, f5, f6⟩ := Cert.Preconditions.kvdx _ _ _ _ _ _ _ (hpre c)
  refine ⟨h0.trans ((Cert.KvDxRefIdeal.Read.val_main_v67_eq (F := Ideal) m' c).trans ?_),
    h1.trans ((Cert.KvDxRefIdeal.Read.val_main_v68_eq (F := Ideal) m' c).trans ?_),
    h2.trans ((Cert.KvDxRefIdeal.Read.val_main_v69_eq (F := Ideal) _ _ _ _ _ _).trans ?_),
    h3.trans ((Cert.KvDxRefIdeal.Read.val_main_v70_eq (F := Ideal) _ _ _ _ _).trans ?_), ha⟩
  · rw [e0, e1, e2, e3, e4, e5, e6]
    exact (Cert.KvDxValue.final9 m c f0 f1 f2 f3 f4 f5 f6).symm
  · rw [e0, e1, e2, e3, e4, e5, e6]
    exact (Cert.KvDxValue.final10 m c f0 f1 f2 f3 f4 f5 f6).symm
  · rw [e0, e1, e2, e3, e4, e5]
    exact (Cert.KvDxValue.final11 m c).symm
  · rw [e0, e1, e2, e3, e4]
    exact (Cert.KvDxValue.final12_ref m c).symm

/-- The gated short convolution. -/
theorem cfwd : Cert.algebraic_CFwdIdeal_CFwdRefIdeal := by
  intro m g m' g' _ hargs
  refine ⟨_, Cert.CFwdIdeal.Value.run_blocks m g,
    (θ_run Cert.CFwdRefIdeal.defs _ _).mono (fun r h c => ?_) (Cert.CFwdRefIdeal.Value.run (F := Ideal) m' g')⟩
  obtain ⟨h0, ha⟩ := h c
  obtain ⟨e0, e1⟩ := hargs c
  refine ⟨h0.trans ((Cert.CFwdRefIdeal.Read.val_main_v31_eq (F := Ideal) _ _).trans ?_), ha⟩
  rw [e0, e1]
  exact (Cert.CFwdValue.final m c).symm

/-- The projection of the keys or of the values. -/
theorem pk : Cert.algebraic_PKIdeal_PKRefIdeal := by
  intro m g m' g' _ hargs
  refine ⟨_, Cert.PKIdeal.Value.run_blocks m g,
    (θ_run Cert.PKRefIdeal.defs _ _).mono (fun r h c => ?_) (Cert.PKRefIdeal.Value.run (F := Ideal) m' g')⟩
  obtain ⟨h0, ha⟩ := h c
  obtain ⟨e0, e1⟩ := hargs c
  refine ⟨h0.trans ((Cert.PKRefIdeal.Read.val_main_v1_eq (F := Ideal) _ _).trans ?_), ha⟩
  rw [e0, e1]
  exact (Cert.PKValue.final m c).symm

/-- The scaled projection of the queries. -/
theorem pq : Cert.algebraic_PQIdeal_PQRefIdeal := by
  intro m g m' g' _ hargs
  refine ⟨_, Cert.PQIdeal.Value.run_blocks m g,
    (θ_run Cert.PQRefIdeal.defs _ _).mono (fun r h c => ?_) (Cert.PQRefIdeal.Value.run (F := Ideal) m' g')⟩
  obtain ⟨h0, ha⟩ := h c
  obtain ⟨e0, e1⟩ := hargs c
  refine ⟨h0.trans ((Cert.PQRefIdeal.Read.val_main_v3_eq (F := Ideal) _ _).trans ?_), ha⟩
  rw [e0, e1]
  exact (Cert.PQValue.final m c).symm

/-- The projection of the forget gates. -/
theorem pf : Cert.algebraic_PFIdeal_PFRefIdeal := by
  intro m g m' g' _ hargs
  refine ⟨_, Cert.PFIdeal.Value.run_blocks m g,
    (θ_run Cert.PFRefIdeal.defs _ _).mono (fun r h c => ?_) (Cert.PFRefIdeal.Value.run (F := Ideal) m' g')⟩
  obtain ⟨h0, ha⟩ := h c
  obtain ⟨e0, e1⟩ := hargs c
  refine ⟨h0.trans ((Cert.PFRefIdeal.Read.val_main_v1_eq (F := Ideal) _ _).trans ?_), ha⟩
  rw [e0, e1]
  exact (Cert.PFValue.final m c).symm

/-- The optimiser's step of a square projection. -/
theorem adsq : Cert.algebraic_AdSqIdeal_AdSqRefIdeal := by
  intro m g m' g' _ hargs
  refine ⟨_, _, _, _, Cert.AdSqIdeal.Value.run_blocks m g,
    (θ_run Cert.AdSqRefIdeal.defs _ _).mono (fun r h c => ?_) (Cert.AdSqRefIdeal.Value.run (F := Ideal) m' g')⟩
  obtain ⟨h0, h1, h2, h3, ha⟩ := h c
  obtain ⟨e0, e1, e2, e3⟩ := hargs c
  refine ⟨h0.trans ((Cert.AdSqRefIdeal.Read.val_main_v23_eq (F := Ideal) _ _ _ _).trans ?_),
    h1.trans ((Cert.AdSqRefIdeal.Read.val_main_v4_eq (F := Ideal) _ _).trans ?_),
    h2.trans ((Cert.AdSqRefIdeal.Read.val_main_v10_eq (F := Ideal) _ _).trans ?_),
    h3.trans ?_, ha⟩
  · rw [e0, e1, e2, e3]
    exact (Cert.AdSqValue.final4 m c).symm
  · rw [e1, e2]
    exact (Cert.AdSqValue.final5 m c).symm
  · rw [e1, e3]
    exact (Cert.AdSqValue.final6 m c).symm
  · rw [e1]
    exact (Cert.AdSqValue.final7 m c).symm

/-- The optimiser's step of a convolution's first product. -/
theorem adin : Cert.algebraic_AdInIdeal_AdInRefIdeal := by
  intro m g m' g' _ hargs
  refine ⟨_, _, _, _, Cert.AdInIdeal.Value.run_blocks m g,
    (θ_run Cert.AdInRefIdeal.defs _ _).mono (fun r h c => ?_) (Cert.AdInRefIdeal.Value.run (F := Ideal) m' g')⟩
  obtain ⟨h0, h1, h2, h3, ha⟩ := h c
  obtain ⟨e0, e1, e2, e3⟩ := hargs c
  refine ⟨h0.trans ((Cert.AdInRefIdeal.Read.val_main_v23_eq (F := Ideal) _ _ _ _).trans ?_),
    h1.trans ((Cert.AdInRefIdeal.Read.val_main_v4_eq (F := Ideal) _ _).trans ?_),
    h2.trans ((Cert.AdInRefIdeal.Read.val_main_v10_eq (F := Ideal) _ _).trans ?_),
    h3.trans ?_, ha⟩
  · rw [e0, e1, e2, e3]
    exact (Cert.AdInValue.final4 m c).symm
  · rw [e1, e2]
    exact (Cert.AdInValue.final5 m c).symm
  · rw [e1, e3]
    exact (Cert.AdInValue.final6 m c).symm
  · rw [e1]
    exact (Cert.AdInValue.final7 m c).symm

/-- The optimiser's step of the keys', values' and forget gates' projection. -/
theorem adkv : Cert.algebraic_AdKvIdeal_AdKvRefIdeal := by
  intro m g m' g' _ hargs
  refine ⟨_, _, _, _, Cert.AdKvIdeal.Value.run_blocks m g,
    (θ_run Cert.AdKvRefIdeal.defs _ _).mono (fun r h c => ?_) (Cert.AdKvRefIdeal.Value.run (F := Ideal) m' g')⟩
  obtain ⟨h0, h1, h2, h3, ha⟩ := h c
  obtain ⟨e0, e1, e2, e3⟩ := hargs c
  refine ⟨h0.trans ((Cert.AdKvRefIdeal.Read.val_main_v23_eq (F := Ideal) _ _ _ _).trans ?_),
    h1.trans ((Cert.AdKvRefIdeal.Read.val_main_v4_eq (F := Ideal) _ _).trans ?_),
    h2.trans ((Cert.AdKvRefIdeal.Read.val_main_v10_eq (F := Ideal) _ _).trans ?_),
    h3.trans ?_, ha⟩
  · rw [e0, e1, e2, e3]
    exact (Cert.AdKvValue.final4 m c).symm
  · rw [e1, e2]
    exact (Cert.AdKvValue.final5 m c).symm
  · rw [e1, e3]
    exact (Cert.AdKvValue.final6 m c).symm
  · rw [e1]
    exact (Cert.AdKvValue.final7 m c).symm

/-- The optimiser's step of the packed small tensors. -/
theorem adsm : Cert.algebraic_AdSmIdeal_AdSmRefIdeal := by
  intro m g m' g' _ hargs
  refine ⟨_, _, _, _, Cert.AdSmIdeal.Value.run_blocks m g,
    (θ_run Cert.AdSmRefIdeal.defs _ _).mono (fun r h c => ?_) (Cert.AdSmRefIdeal.Value.run (F := Ideal) m' g')⟩
  obtain ⟨h0, h1, h2, h3, ha⟩ := h c
  obtain ⟨e0, e1, e2, e3⟩ := hargs c
  refine ⟨h0.trans ((Cert.AdSmRefIdeal.Read.val_main_v23_eq (F := Ideal) _ _ _ _).trans ?_),
    h1.trans ((Cert.AdSmRefIdeal.Read.val_main_v4_eq (F := Ideal) _ _).trans ?_),
    h2.trans ((Cert.AdSmRefIdeal.Read.val_main_v10_eq (F := Ideal) _ _).trans ?_),
    h3.trans ?_, ha⟩
  · rw [e0, e1, e2, e3]
    exact (Cert.AdSmValue.final4 m c).symm
  · rw [e1, e2]
    exact (Cert.AdSmValue.final5 m c).symm
  · rw [e1, e3]
    exact (Cert.AdSmValue.final6 m c).symm
  · rw [e1]
    exact (Cert.AdSmValue.final7 m c).symm

/-- The gradient of the forget gates. -/
theorem fgate : Cert.algebraic_FGateIdeal_FGateRefIdeal := by
  intro m g m' g' _ hargs
  refine ⟨_, _, Cert.FGateIdeal.Value.run_blocks m g,
    (θ_run Cert.FGateRefIdeal.defs _ _).mono (fun r h c => ?_) (Cert.FGateRefIdeal.Value.run (F := Ideal) m' g')⟩
  obtain ⟨h0, h1, ha⟩ := h c
  obtain ⟨e0, e1, e2⟩ := hargs c
  refine ⟨h0.trans ((Cert.FGateRefIdeal.Read.val_main_v16_eq (F := Ideal) m' c).trans ?_),
    h1.trans ((Cert.FGateRefIdeal.Read.val_main_v15_eq (F := Ideal) m' c).trans ?_), ha⟩
  · rw [e0, e1, e2]
    exact (Cert.FGateValue.final3 m c).symm
  · rw [e0, e1, e2]
    exact (Cert.FGateValue.final4 m c).symm

/-- The backward pass of the forget gates' running sums. -/
theorem rsum : Cert.algebraic_RSumIdeal_RSumRefIdeal := by
  intro m g m' g' _ hargs
  refine ⟨_, Cert.RSumIdeal.Value.run_blocks m g,
    (θ_run Cert.RSumRefIdeal.defs _ _).mono (fun r h c => ?_) (Cert.RSumRefIdeal.Value.run (F := Ideal) m' g')⟩
  obtain ⟨h0, ha⟩ := h c
  have e0 := hargs c
  refine ⟨h0.trans ((Cert.RSumRefIdeal.Read.val_main_v3_eq (F := Ideal) _).trans ?_), ha⟩
  rw [e0]
  exact (Cert.RSumValue.final m c).symm

/-- The forget gates' running sums. -/
theorem csum : Cert.algebraic_CSumIdeal_CSumRefIdeal := by
  intro m g m' g' _ hargs
  refine ⟨_, Cert.CSumIdeal.Value.run_blocks m g,
    (θ_run Cert.CSumRefIdeal.defs _ _).mono (fun r h c => ?_) (Cert.CSumRefIdeal.Value.run (F := Ideal) m' g')⟩
  obtain ⟨h0, ha⟩ := h c
  obtain ⟨e0, e1⟩ := hargs c
  refine ⟨h0.trans ((Cert.CSumRefIdeal.Read.val_main_v9_eq (F := Ideal) _ _).trans ?_), ha⟩
  rw [e0, e1]
  exact (Cert.CSumValue.final m c).symm

/-- Every claim of the certificate. -/
theorem claim : Cert.Claim := ⟨Cert.Conv.Gen.facts,
  Cert.ConvIdeal.Gen.facts,
  Cert.ConvRefIdeal.Gen.facts,
  Cert.Act.Gen.facts,
  Cert.ActIdeal.Gen.facts,
  Cert.ActRefIdeal.Gen.facts,
  Cert.Down.Gen.facts,
  Cert.DownIdeal.Gen.facts,
  Cert.DownRefIdeal.Gen.facts,
  Cert.Up.Gen.facts,
  Cert.UpIdeal.Gen.facts,
  Cert.UpRefIdeal.Gen.facts,
  Cert.Dx.Gen.facts,
  Cert.DxIdeal.Gen.facts,
  Cert.DxRefIdeal.Gen.facts,
  Cert.FGate.Gen.facts,
  Cert.FGateIdeal.Gen.facts,
  Cert.FGateRefIdeal.Gen.facts,
  Cert.RSum.Gen.facts,
  Cert.RSumIdeal.Gen.facts,
  Cert.RSumRefIdeal.Gen.facts,
  Cert.CSum.Gen.facts,
  Cert.CSumIdeal.Gen.facts,
  Cert.CSumRefIdeal.Gen.facts,
  Cert.KvDw.Gen.facts,
  Cert.KvDwIdeal.Gen.facts,
  Cert.KvDwRefIdeal.Gen.facts,
  Cert.KvDx.Gen.facts,
  Cert.KvDxIdeal.Gen.facts,
  Cert.KvDxRefIdeal.Gen.facts,
  Cert.QDx.Gen.facts,
  Cert.QDxIdeal.Gen.facts,
  Cert.QDxRefIdeal.Gen.facts,
  Cert.CDx.Gen.facts,
  Cert.CDxIdeal.Gen.facts,
  Cert.CDxRefIdeal.Gen.facts,
  Cert.Win.Gen.facts,
  Cert.WinIdeal.Gen.facts,
  Cert.WinRefIdeal.Gen.facts,
  Cert.SqDx.Gen.facts,
  Cert.SqDxIdeal.Gen.facts,
  Cert.SqDxRefIdeal.Gen.facts,
  Cert.SqDw.Gen.facts,
  Cert.SqDwIdeal.Gen.facts,
  Cert.SqDwRefIdeal.Gen.facts,
  Cert.Mix.Gen.facts,
  Cert.MixIdeal.Gen.facts,
  Cert.MixRefIdeal.Gen.facts,
  Cert.Half.Gen.facts,
  Cert.HalfIdeal.Gen.facts,
  Cert.HalfRefIdeal.Gen.facts,
  Cert.Gate.Gen.facts,
  Cert.GateIdeal.Gen.facts,
  Cert.GateRefIdeal.Gen.facts,
  Cert.Dx0.Gen.facts,
  Cert.Dx0Ideal.Gen.facts,
  Cert.Dx0RefIdeal.Gen.facts,
  Cert.CFwd.Gen.facts,
  Cert.CFwdIdeal.Gen.facts,
  Cert.CFwdRefIdeal.Gen.facts,
  Cert.PIn.Gen.facts,
  Cert.PInIdeal.Gen.facts,
  Cert.PInRefIdeal.Gen.facts,
  Cert.PK.Gen.facts,
  Cert.PKIdeal.Gen.facts,
  Cert.PKRefIdeal.Gen.facts,
  Cert.PQ.Gen.facts,
  Cert.PQIdeal.Gen.facts,
  Cert.PQRefIdeal.Gen.facts,
  Cert.PF.Gen.facts,
  Cert.PFIdeal.Gen.facts,
  Cert.PFRefIdeal.Gen.facts,
  Cert.AdSq.Gen.facts,
  Cert.AdSqIdeal.Gen.facts,
  Cert.AdSqRefIdeal.Gen.facts,
  Cert.AdIn.Gen.facts,
  Cert.AdInIdeal.Gen.facts,
  Cert.AdInRefIdeal.Gen.facts,
  Cert.AdKv.Gen.facts,
  Cert.AdKvIdeal.Gen.facts,
  Cert.AdKvRefIdeal.Gen.facts,
  Cert.AdSm.Gen.facts,
  Cert.AdSmIdeal.Gen.facts,
  Cert.AdSmRefIdeal.Gen.facts,
  Cert.Preconditions.act_facts,
  Cert.Preconditions.dx_facts,
  Cert.Preconditions.kvdx_facts,
  Cert.Preconditions.qdx_facts,
  Cert.Preconditions.cdx_facts,
  fun m ρ _ => Cert.Conv.Gen.frame m ρ,
  fun m ρ _ => Cert.ConvIdeal.Gen.frame m ρ,
  ref_conv,
  fun m ρ _ => Cert.Act.Gen.frame m ρ,
  fun m ρ _ => Cert.ActIdeal.Gen.frame m ρ,
  fun m ρ _ => Cert.ActIdeal.Gen.frame m ρ,
  ref_act,
  fun m ρ _ => ref_act m ρ trivial,
  fun m ρ _ => Cert.Down.Gen.frame m ρ,
  fun m ρ _ => Cert.DownIdeal.Gen.frame m ρ,
  ref_down,
  fun m ρ _ => Cert.Up.Gen.frame m ρ,
  fun m ρ _ => Cert.UpIdeal.Gen.frame m ρ,
  ref_up,
  fun m ρ _ => Cert.Dx.Gen.frame m ρ,
  fun m ρ _ => Cert.DxIdeal.Gen.frame m ρ,
  fun m ρ _ => Cert.DxIdeal.Gen.frame m ρ,
  ref_dx,
  fun m ρ _ => ref_dx m ρ trivial,
  fun m ρ _ => Cert.FGate.Gen.frame m ρ,
  fun m ρ _ => Cert.FGateIdeal.Gen.frame m ρ,
  ref_fgate,
  fun m ρ _ => Cert.RSum.Gen.frame m ρ,
  fun m ρ _ => Cert.RSumIdeal.Gen.frame m ρ,
  ref_rsum,
  fun m ρ _ => Cert.CSum.Gen.frame m ρ,
  fun m ρ _ => Cert.CSumIdeal.Gen.frame m ρ,
  ref_csum,
  fun m ρ _ => Cert.KvDw.Gen.frame m ρ,
  fun m ρ _ => Cert.KvDwIdeal.Gen.frame m ρ,
  ref_kvdw,
  fun m ρ _ => Cert.KvDx.Gen.frame m ρ,
  fun m ρ _ => Cert.KvDxIdeal.Gen.frame m ρ,
  fun m ρ _ => Cert.KvDxIdeal.Gen.frame m ρ,
  ref_kvdx,
  fun m ρ _ => ref_kvdx m ρ trivial,
  fun m ρ _ => Cert.QDx.Gen.frame m ρ,
  fun m ρ _ => Cert.QDxIdeal.Gen.frame m ρ,
  fun m ρ _ => Cert.QDxIdeal.Gen.frame m ρ,
  ref_qdx,
  fun m ρ _ => ref_qdx m ρ trivial,
  fun m ρ _ => Cert.CDx.Gen.frame m ρ,
  fun m ρ _ => Cert.CDxIdeal.Gen.frame m ρ,
  fun m ρ _ => Cert.CDxIdeal.Gen.frame m ρ,
  ref_cdx,
  fun m ρ _ => ref_cdx m ρ trivial,
  fun m ρ _ => Cert.Win.Gen.frame m ρ,
  fun m ρ _ => Cert.WinIdeal.Gen.frame m ρ,
  ref_win,
  fun m ρ _ => Cert.SqDx.Gen.frame m ρ,
  fun m ρ _ => Cert.SqDxIdeal.Gen.frame m ρ,
  ref_sqdx,
  fun m ρ _ => Cert.SqDw.Gen.frame m ρ,
  fun m ρ _ => Cert.SqDwIdeal.Gen.frame m ρ,
  ref_sqdw,
  fun m ρ _ => Cert.Mix.Gen.frame m ρ,
  fun m ρ _ => Cert.MixIdeal.Gen.frame m ρ,
  ref_mix,
  fun m ρ _ => Cert.Half.Gen.frame m ρ,
  fun m ρ _ => Cert.HalfIdeal.Gen.frame m ρ,
  ref_half,
  fun m ρ _ => Cert.Gate.Gen.frame m ρ,
  fun m ρ _ => Cert.GateIdeal.Gen.frame m ρ,
  ref_gate,
  fun m ρ _ => Cert.Dx0.Gen.frame m ρ,
  fun m ρ _ => Cert.Dx0Ideal.Gen.frame m ρ,
  ref_dx0,
  fun m ρ _ => Cert.CFwd.Gen.frame m ρ,
  fun m ρ _ => Cert.CFwdIdeal.Gen.frame m ρ,
  ref_cfwd,
  fun m ρ _ => Cert.PIn.Gen.frame m ρ,
  fun m ρ _ => Cert.PInIdeal.Gen.frame m ρ,
  ref_pin,
  fun m ρ _ => Cert.PK.Gen.frame m ρ,
  fun m ρ _ => Cert.PKIdeal.Gen.frame m ρ,
  ref_pk,
  fun m ρ _ => Cert.PQ.Gen.frame m ρ,
  fun m ρ _ => Cert.PQIdeal.Gen.frame m ρ,
  ref_pq,
  fun m ρ _ => Cert.PF.Gen.frame m ρ,
  fun m ρ _ => Cert.PFIdeal.Gen.frame m ρ,
  ref_pf,
  fun m ρ _ => Cert.AdSq.Gen.frame m ρ,
  fun m ρ _ => Cert.AdSqIdeal.Gen.frame m ρ,
  ref_adsq,
  fun m ρ _ => Cert.AdIn.Gen.frame m ρ,
  fun m ρ _ => Cert.AdInIdeal.Gen.frame m ρ,
  ref_adin,
  fun m ρ _ => Cert.AdKv.Gen.frame m ρ,
  fun m ρ _ => Cert.AdKvIdeal.Gen.frame m ρ,
  ref_adkv,
  fun m ρ _ => Cert.AdSm.Gen.frame m ρ,
  fun m ρ _ => Cert.AdSmIdeal.Gen.frame m ρ,
  ref_adsm,
  trivial, conv, trivial, act, trivial, down, trivial, up, trivial, dx, trivial, fgate, trivial, rsum, trivial, csum, trivial, kvdw, trivial, kvdx, trivial, qdx, trivial, cdx, trivial, win, trivial, sqdx, trivial, sqdw, trivial, mix, trivial, half, trivial, gate, trivial, dx0, trivial, cfwd, trivial, pin, trivial, pk, trivial, pq, trivial, pf, trivial, adsq, trivial, adin, trivial, adkv, trivial, adsm⟩

end Cert.Proof

end
